-- ==== Defs.lean ====
def Pre_KernelFf (m : (ℓ : Loc Cert.KernelFf.nD Cert.KernelFf.τ Cert.KernelFf.sig) → Buf (Elt Bits) ℓ) : Prop :=
  True

def Pre_KernelFfIdeal (m : (ℓ : Loc Cert.KernelFfIdeal.nD Cert.KernelFfIdeal.τ Cert.KernelFfIdeal.sig) → Buf (Elt Ideal) ℓ) : Prop :=
  True

def Pre_KernelFfIdeal_finite_ff [hPre_finite_ff : Cert.Pre_finite_ff.Facts] (m : (ℓ : Loc Cert.KernelFfIdeal.nD Cert.KernelFfIdeal.τ Cert.KernelFfIdeal.sig) → Buf (Elt Ideal) ℓ) : Prop :=
  ∀ c : Dev Cert.KernelFfIdeal.nD,
    (Cert.Pre_finite_ff.fn (F := Ideal) (m ((c.tc : Thread Cert.KernelFfIdeal.nD Cert.KernelFfIdeal.τ).loc Cert.KernelFfIdeal.main_arg0)) (m ((c.tc : Thread Cert.KernelFfIdeal.nD Cert.KernelFfIdeal.τ).loc Cert.KernelFfIdeal.main_arg1)) (m ((c.tc : Thread Cert.KernelFfIdeal.nD Cert.KernelFfIdeal.τ).loc Cert.KernelFfIdeal.main_arg2)) (m ((c.tc : Thread Cert.KernelFfIdeal.nD Cert.KernelFfIdeal.τ).loc Cert.KernelFfIdeal.main_arg3))) = (fun _ => 1#1)

def Pre_ReferenceFfIdeal (m : (ℓ : Loc Cert.ReferenceFfIdeal.nD Cert.ReferenceFfIdeal.τ Cert.ReferenceFfIdeal.sig) → Buf (Elt Ideal) ℓ) : Prop :=
  True

def Pre_ReferenceFfIdeal_finite_ff [hPre_finite_ff : Cert.Pre_finite_ff.Facts] (m : (ℓ : Loc Cert.ReferenceFfIdeal.nD Cert.ReferenceFfIdeal.τ Cert.ReferenceFfIdeal.sig) → Buf (Elt Ideal) ℓ) : Prop :=
  ∀ c : Dev Cert.ReferenceFfIdeal.nD,
    (Cert.Pre_finite_ff.fn (F := Ideal) (m ((c.tc : Thread Cert.ReferenceFfIdeal.nD Cert.ReferenceFfIdeal.τ).loc Cert.ReferenceFfIdeal.main_arg0)) (m ((c.tc : Thread Cert.ReferenceFfIdeal.nD Cert.ReferenceFfIdeal.τ).loc Cert.ReferenceFfIdeal.main_arg1)) (m ((c.tc : Thread Cert.ReferenceFfIdeal.nD Cert.ReferenceFfIdeal.τ).loc Cert.ReferenceFfIdeal.main_arg2)) (m ((c.tc : Thread Cert.ReferenceFfIdeal.nD Cert.ReferenceFfIdeal.τ).loc Cert.ReferenceFfIdeal.main_arg3))) = (fun _ => 1#1)

def Pre_KernelMx (m : (ℓ : Loc Cert.KernelMx.nD Cert.KernelMx.τ Cert.KernelMx.sig) → Buf (Elt Bits) ℓ) : Prop :=
  True

def Pre_KernelMxIdeal (m : (ℓ : Loc Cert.KernelMxIdeal.nD Cert.KernelMxIdeal.τ Cert.KernelMxIdeal.sig) → Buf (Elt Ideal) ℓ) : Prop :=
  True

def Pre_KernelMxIdeal_finite_mix [hPre_finite_mix : Cert.Pre_finite_mix.Facts] (m : (ℓ : Loc Cert.KernelMxIdeal.nD Cert.KernelMxIdeal.τ Cert.KernelMxIdeal.sig) → Buf (Elt Ideal) ℓ) : Prop :=
  ∀ c : Dev Cert.KernelMxIdeal.nD,
    (Cert.Pre_finite_mix.fn (F := Ideal) (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7))) = (fun _ => 1#1)

def Pre_ReferenceMxIdeal (m : (ℓ : Loc Cert.ReferenceMxIdeal.nD Cert.ReferenceMxIdeal.τ Cert.ReferenceMxIdeal.sig) → Buf (Elt Ideal) ℓ) : Prop :=
  True

def Pre_ReferenceMxIdeal_finite_mix [hPre_finite_mix : Cert.Pre_finite_mix.Facts] (m : (ℓ : Loc Cert.ReferenceMxIdeal.nD Cert.ReferenceMxIdeal.τ Cert.ReferenceMxIdeal.sig) → Buf (Elt Ideal) ℓ) : Prop :=
  ∀ c : Dev Cert.ReferenceMxIdeal.nD,
    (Cert.Pre_finite_mix.fn (F := Ideal) (m ((c.tc : Thread Cert.ReferenceMxIdeal.nD Cert.ReferenceMxIdeal.τ).loc Cert.ReferenceMxIdeal.main_arg0)) (m ((c.tc : Thread Cert.ReferenceMxIdeal.nD Cert.ReferenceMxIdeal.τ).loc Cert.ReferenceMxIdeal.main_arg1)) (m ((c.tc : Thread Cert.ReferenceMxIdeal.nD Cert.ReferenceMxIdeal.τ).loc Cert.ReferenceMxIdeal.main_arg2)) (m ((c.tc : Thread Cert.ReferenceMxIdeal.nD Cert.ReferenceMxIdeal.τ).loc Cert.ReferenceMxIdeal.main_arg3)) (m ((c.tc : Thread Cert.ReferenceMxIdeal.nD Cert.ReferenceMxIdeal.τ).loc Cert.ReferenceMxIdeal.main_arg4)) (m ((c.tc : Thread Cert.ReferenceMxIdeal.nD Cert.ReferenceMxIdeal.τ).loc Cert.ReferenceMxIdeal.main_arg5)) (m ((c.tc : Thread Cert.ReferenceMxIdeal.nD Cert.ReferenceMxIdeal.τ).loc Cert.ReferenceMxIdeal.main_arg6)) (m ((c.tc : Thread Cert.ReferenceMxIdeal.nD Cert.ReferenceMxIdeal.τ).loc Cert.ReferenceMxIdeal.main_arg7))) = (fun _ => 1#1)

def Pre_KernelLs (m : (ℓ : Loc Cert.KernelLs.nD Cert.KernelLs.τ Cert.KernelLs.sig) → Buf (Elt Bits) ℓ) : Prop :=
  True

def Pre_KernelLsIdeal (m : (ℓ : Loc Cert.KernelLsIdeal.nD Cert.KernelLsIdeal.τ Cert.KernelLsIdeal.sig) → Buf (Elt Ideal) ℓ) : Prop :=
  True

def Pre_KernelLsIdeal_finite_loss [hPre_finite_loss : Cert.Pre_finite_loss.Facts] (m : (ℓ : Loc Cert.KernelLsIdeal.nD Cert.KernelLsIdeal.τ Cert.KernelLsIdeal.sig) → Buf (Elt Ideal) ℓ) : Prop :=
  ∀ c : Dev Cert.KernelLsIdeal.nD,
    (Cert.Pre_finite_loss.fn (F := Ideal) (m ((c.tc : Thread Cert.KernelLsIdeal.nD Cert.KernelLsIdeal.τ).loc Cert.KernelLsIdeal.main_arg0)) (m ((c.tc : Thread Cert.KernelLsIdeal.nD Cert.KernelLsIdeal.τ).loc Cert.KernelLsIdeal.main_arg1)) (m ((c.tc : Thread Cert.KernelLsIdeal.nD Cert.KernelLsIdeal.τ).loc Cert.KernelLsIdeal.main_arg2)) (m ((c.tc : Thread Cert.KernelLsIdeal.nD Cert.KernelLsIdeal.τ).loc Cert.KernelLsIdeal.main_arg3)) (m ((c.tc : Thread Cert.KernelLsIdeal.nD Cert.KernelLsIdeal.τ).loc Cert.KernelLsIdeal.main_arg4)) (m ((c.tc : Thread Cert.KernelLsIdeal.nD Cert.KernelLsIdeal.τ).loc Cert.KernelLsIdeal.main_arg5))) = (fun _ => 1#1)

def Pre_ReferenceLsIdeal (m : (ℓ : Loc Cert.ReferenceLsIdeal.nD Cert.ReferenceLsIdeal.τ Cert.ReferenceLsIdeal.sig) → Buf (Elt Ideal) ℓ) : Prop :=
  True

def Pre_ReferenceLsIdeal_finite_loss [hPre_finite_loss : Cert.Pre_finite_loss.Facts] (m : (ℓ : Loc Cert.ReferenceLsIdeal.nD Cert.ReferenceLsIdeal.τ Cert.ReferenceLsIdeal.sig) → Buf (Elt Ideal) ℓ) : Prop :=
  ∀ c : Dev Cert.ReferenceLsIdeal.nD,
    (Cert.Pre_finite_loss.fn (F := Ideal) (m ((c.tc : Thread Cert.ReferenceLsIdeal.nD Cert.ReferenceLsIdeal.τ).loc Cert.ReferenceLsIdeal.main_arg0)) (m ((c.tc : Thread Cert.ReferenceLsIdeal.nD Cert.ReferenceLsIdeal.τ).loc Cert.ReferenceLsIdeal.main_arg1)) (m ((c.tc : Thread Cert.ReferenceLsIdeal.nD Cert.ReferenceLsIdeal.τ).loc Cert.ReferenceLsIdeal.main_arg2)) (m ((c.tc : Thread Cert.ReferenceLsIdeal.nD Cert.ReferenceLsIdeal.τ).loc Cert.ReferenceLsIdeal.main_arg3)) (m ((c.tc : Thread Cert.ReferenceLsIdeal.nD Cert.ReferenceLsIdeal.τ).loc Cert.ReferenceLsIdeal.main_arg4)) (m ((c.tc : Thread Cert.ReferenceLsIdeal.nD Cert.ReferenceLsIdeal.τ).loc Cert.ReferenceLsIdeal.main_arg5))) = (fun _ => 1#1)

def Pre_KernelWo (m : (ℓ : Loc Cert.KernelWo.nD Cert.KernelWo.τ Cert.KernelWo.sig) → Buf (Elt Bits) ℓ) : Prop :=
  True

def Pre_KernelWoIdeal (m : (ℓ : Loc Cert.KernelWoIdeal.nD Cert.KernelWoIdeal.τ Cert.KernelWoIdeal.sig) → Buf (Elt Ideal) ℓ) : Prop :=
  True

def Pre_KernelWoIdeal_finite_wo [hPre_finite_wo : Cert.Pre_finite_wo.Facts] (m : (ℓ : Loc Cert.KernelWoIdeal.nD Cert.KernelWoIdeal.τ Cert.KernelWoIdeal.sig) → Buf (Elt Ideal) ℓ) : Prop :=
  ∀ c : Dev Cert.KernelWoIdeal.nD,
    (Cert.Pre_finite_wo.fn (F := Ideal) (m ((c.tc : Thread Cert.KernelWoIdeal.nD Cert.KernelWoIdeal.τ).loc Cert.KernelWoIdeal.main_arg0)) (m ((c.tc : Thread Cert.KernelWoIdeal.nD Cert.KernelWoIdeal.τ).loc Cert.KernelWoIdeal.main_arg1)) (m ((c.tc : Thread Cert.KernelWoIdeal.nD Cert.KernelWoIdeal.τ).loc Cert.KernelWoIdeal.main_arg2)) (m ((c.tc : Thread Cert.KernelWoIdeal.nD Cert.KernelWoIdeal.τ).loc Cert.KernelWoIdeal.main_arg3)) (m ((c.tc : Thread Cert.KernelWoIdeal.nD Cert.KernelWoIdeal.τ).loc Cert.KernelWoIdeal.main_arg4)) (m ((c.tc : Thread Cert.KernelWoIdeal.nD Cert.KernelWoIdeal.τ).loc Cert.KernelWoIdeal.main_arg5)) (m ((c.tc : Thread Cert.KernelWoIdeal.nD Cert.KernelWoIdeal.τ).loc Cert.KernelWoIdeal.main_arg6)) (m ((c.tc : Thread Cert.KernelWoIdeal.nD Cert.KernelWoIdeal.τ).loc Cert.KernelWoIdeal.main_arg7)) (m ((c.tc : Thread Cert.KernelWoIdeal.nD Cert.KernelWoIdeal.τ).loc Cert.KernelWoIdeal.main_arg8))) = (fun _ => 1#1)

def Pre_ReferenceWoIdeal (m : (ℓ : Loc Cert.ReferenceWoIdeal.nD Cert.ReferenceWoIdeal.τ Cert.ReferenceWoIdeal.sig) → Buf (Elt Ideal) ℓ) : Prop :=
  True

def Pre_ReferenceWoIdeal_finite_wo [hPre_finite_wo : Cert.Pre_finite_wo.Facts] (m : (ℓ : Loc Cert.ReferenceWoIdeal.nD Cert.ReferenceWoIdeal.τ Cert.ReferenceWoIdeal.sig) → Buf (Elt Ideal) ℓ) : Prop :=
  ∀ c : Dev Cert.ReferenceWoIdeal.nD,
    (Cert.Pre_finite_wo.fn (F := Ideal) (m ((c.tc : Thread Cert.ReferenceWoIdeal.nD Cert.ReferenceWoIdeal.τ).loc Cert.ReferenceWoIdeal.main_arg0)) (m ((c.tc : Thread Cert.ReferenceWoIdeal.nD Cert.ReferenceWoIdeal.τ).loc Cert.ReferenceWoIdeal.main_arg1)) (m ((c.tc : Thread Cert.ReferenceWoIdeal.nD Cert.ReferenceWoIdeal.τ).loc Cert.ReferenceWoIdeal.main_arg2)) (m ((c.tc : Thread Cert.ReferenceWoIdeal.nD Cert.ReferenceWoIdeal.τ).loc Cert.ReferenceWoIdeal.main_arg3)) (m ((c.tc : Thread Cert.ReferenceWoIdeal.nD Cert.ReferenceWoIdeal.τ).loc Cert.ReferenceWoIdeal.main_arg4)) (m ((c.tc : Thread Cert.ReferenceWoIdeal.nD Cert.ReferenceWoIdeal.τ).loc Cert.ReferenceWoIdeal.main_arg5)) (m ((c.tc : Thread Cert.ReferenceWoIdeal.nD Cert.ReferenceWoIdeal.τ).loc Cert.ReferenceWoIdeal.main_arg6)) (m ((c.tc : Thread Cert.ReferenceWoIdeal.nD Cert.ReferenceWoIdeal.τ).loc Cert.ReferenceWoIdeal.main_arg7)) (m ((c.tc : Thread Cert.ReferenceWoIdeal.nD Cert.ReferenceWoIdeal.τ).loc Cert.ReferenceWoIdeal.main_arg8))) = (fun _ => 1#1)

def Pre_KernelDn (m : (ℓ : Loc Cert.KernelDn.nD Cert.KernelDn.τ Cert.KernelDn.sig) → Buf (Elt Bits) ℓ) : Prop :=
  True

def Pre_KernelDnIdeal (m : (ℓ : Loc Cert.KernelDnIdeal.nD Cert.KernelDnIdeal.τ Cert.KernelDnIdeal.sig) → Buf (Elt Ideal) ℓ) : Prop :=
  True

def Pre_KernelDnIdeal_finite_dn [hPre_finite_dn : Cert.Pre_finite_dn.Facts] (m : (ℓ : Loc Cert.KernelDnIdeal.nD Cert.KernelDnIdeal.τ Cert.KernelDnIdeal.sig) → Buf (Elt Ideal) ℓ) : Prop :=
  ∀ c : Dev Cert.KernelDnIdeal.nD,
    (Cert.Pre_finite_dn.fn (F := Ideal) (m ((c.tc : Thread Cert.KernelDnIdeal.nD Cert.KernelDnIdeal.τ).loc Cert.KernelDnIdeal.main_arg0)) (m ((c.tc : Thread Cert.KernelDnIdeal.nD Cert.KernelDnIdeal.τ).loc Cert.KernelDnIdeal.main_arg1)) (m ((c.tc : Thread Cert.KernelDnIdeal.nD Cert.KernelDnIdeal.τ).loc Cert.KernelDnIdeal.main_arg2)) (m ((c.tc : Thread Cert.KernelDnIdeal.nD Cert.KernelDnIdeal.τ).loc Cert.KernelDnIdeal.main_arg3)) (m ((c.tc : Thread Cert.KernelDnIdeal.nD Cert.KernelDnIdeal.τ).loc Cert.KernelDnIdeal.main_arg4)) (m ((c.tc : Thread Cert.KernelDnIdeal.nD Cert.KernelDnIdeal.τ).loc Cert.KernelDnIdeal.main_arg5)) (m ((c.tc : Thread Cert.KernelDnIdeal.nD Cert.KernelDnIdeal.τ).loc Cert.KernelDnIdeal.main_arg6)) (m ((c.tc : Thread Cert.KernelDnIdeal.nD Cert.KernelDnIdeal.τ).loc Cert.KernelDnIdeal.main_arg7))) = (fun _ => 1#1)

def Pre_ReferenceDnIdeal (m : (ℓ : Loc Cert.ReferenceDnIdeal.nD Cert.ReferenceDnIdeal.τ Cert.ReferenceDnIdeal.sig) → Buf (Elt Ideal) ℓ) : Prop :=
  True

def Pre_ReferenceDnIdeal_finite_dn [hPre_finite_dn : Cert.Pre_finite_dn.Facts] (m : (ℓ : Loc Cert.ReferenceDnIdeal.nD Cert.ReferenceDnIdeal.τ Cert.ReferenceDnIdeal.sig) → Buf (Elt Ideal) ℓ) : Prop :=
  ∀ c : Dev Cert.ReferenceDnIdeal.nD,
    (Cert.Pre_finite_dn.fn (F := Ideal) (m ((c.tc : Thread Cert.ReferenceDnIdeal.nD Cert.ReferenceDnIdeal.τ).loc Cert.ReferenceDnIdeal.main_arg0)) (m ((c.tc : Thread Cert.ReferenceDnIdeal.nD Cert.ReferenceDnIdeal.τ).loc Cert.ReferenceDnIdeal.main_arg1)) (m ((c.tc : Thread Cert.ReferenceDnIdeal.nD Cert.ReferenceDnIdeal.τ).loc Cert.ReferenceDnIdeal.main_arg2)) (m ((c.tc : Thread Cert.ReferenceDnIdeal.nD Cert.ReferenceDnIdeal.τ).loc Cert.ReferenceDnIdeal.main_arg3)) (m ((c.tc : Thread Cert.ReferenceDnIdeal.nD Cert.ReferenceDnIdeal.τ).loc Cert.ReferenceDnIdeal.main_arg4)) (m ((c.tc : Thread Cert.ReferenceDnIdeal.nD Cert.ReferenceDnIdeal.τ).loc Cert.ReferenceDnIdeal.main_arg5)) (m ((c.tc : Thread Cert.ReferenceDnIdeal.nD Cert.ReferenceDnIdeal.τ).loc Cert.ReferenceDnIdeal.main_arg6)) (m ((c.tc : Thread Cert.ReferenceDnIdeal.nD Cert.ReferenceDnIdeal.τ).loc Cert.ReferenceDnIdeal.main_arg7))) = (fun _ => 1#1)

def Pre_KernelMf (m : (ℓ : Loc Cert.KernelMf.nD Cert.KernelMf.τ Cert.KernelMf.sig) → Buf (Elt Bits) ℓ) : Prop :=
  True

def Pre_KernelMfIdeal (m : (ℓ : Loc Cert.KernelMfIdeal.nD Cert.KernelMfIdeal.τ Cert.KernelMfIdeal.sig) → Buf (Elt Ideal) ℓ) : Prop :=
  True

def Pre_KernelMfIdeal_finite_mf [hPre_finite_mf : Cert.Pre_finite_mf.Facts] (m : (ℓ : Loc Cert.KernelMfIdeal.nD Cert.KernelMfIdeal.τ Cert.KernelMfIdeal.sig) → Buf (Elt Ideal) ℓ) : Prop :=
  ∀ c : Dev Cert.KernelMfIdeal.nD,
    (Cert.Pre_finite_mf.fn (F := Ideal) (m ((c.tc : Thread Cert.KernelMfIdeal.nD Cert.KernelMfIdeal.τ).loc Cert.KernelMfIdeal.main_arg0)) (m ((c.tc : Thread Cert.KernelMfIdeal.nD Cert.KernelMfIdeal.τ).loc Cert.KernelMfIdeal.main_arg1)) (m ((c.tc : Thread Cert.KernelMfIdeal.nD Cert.KernelMfIdeal.τ).loc Cert.KernelMfIdeal.main_arg2)) (m ((c.tc : Thread Cert.KernelMfIdeal.nD Cert.KernelMfIdeal.τ).loc Cert.KernelMfIdeal.main_arg3)) (m ((c.tc : Thread Cert.KernelMfIdeal.nD Cert.KernelMfIdeal.τ).loc Cert.KernelMfIdeal.main_arg4)) (m ((c.tc : Thread Cert.KernelMfIdeal.nD Cert.KernelMfIdeal.τ).loc Cert.KernelMfIdeal.main_arg5)) (m ((c.tc : Thread Cert.KernelMfIdeal.nD Cert.KernelMfIdeal.τ).loc Cert.KernelMfIdeal.main_arg6))) = (fun _ => 1#1)

def Pre_ReferenceMfIdeal (m : (ℓ : Loc Cert.ReferenceMfIdeal.nD Cert.ReferenceMfIdeal.τ Cert.ReferenceMfIdeal.sig) → Buf (Elt Ideal) ℓ) : Prop :=
  True

def Pre_ReferenceMfIdeal_finite_mf [hPre_finite_mf : Cert.Pre_finite_mf.Facts] (m : (ℓ : Loc Cert.ReferenceMfIdeal.nD Cert.ReferenceMfIdeal.τ Cert.ReferenceMfIdeal.sig) → Buf (Elt Ideal) ℓ) : Prop :=
  ∀ c : Dev Cert.ReferenceMfIdeal.nD,
    (Cert.Pre_finite_mf.fn (F := Ideal) (m ((c.tc : Thread Cert.ReferenceMfIdeal.nD Cert.ReferenceMfIdeal.τ).loc Cert.ReferenceMfIdeal.main_arg0)) (m ((c.tc : Thread Cert.ReferenceMfIdeal.nD Cert.ReferenceMfIdeal.τ).loc Cert.ReferenceMfIdeal.main_arg1)) (m ((c.tc : Thread Cert.ReferenceMfIdeal.nD Cert.ReferenceMfIdeal.τ).loc Cert.ReferenceMfIdeal.main_arg2)) (m ((c.tc : Thread Cert.ReferenceMfIdeal.nD Cert.ReferenceMfIdeal.τ).loc Cert.ReferenceMfIdeal.main_arg3)) (m ((c.tc : Thread Cert.ReferenceMfIdeal.nD Cert.ReferenceMfIdeal.τ).loc Cert.ReferenceMfIdeal.main_arg4)) (m ((c.tc : Thread Cert.ReferenceMfIdeal.nD Cert.ReferenceMfIdeal.τ).loc Cert.ReferenceMfIdeal.main_arg5)) (m ((c.tc : Thread Cert.ReferenceMfIdeal.nD Cert.ReferenceMfIdeal.τ).loc Cert.ReferenceMfIdeal.main_arg6))) = (fun _ => 1#1)

def Pre_KernelDx (m : (ℓ : Loc Cert.KernelDx.nD Cert.KernelDx.τ Cert.KernelDx.sig) → Buf (Elt Bits) ℓ) : Prop :=
  True

def Pre_KernelDxIdeal (m : (ℓ : Loc Cert.KernelDxIdeal.nD Cert.KernelDxIdeal.τ Cert.KernelDxIdeal.sig) → Buf (Elt Ideal) ℓ) : Prop :=
  True

def Pre_ReferenceDxIdeal (m : (ℓ : Loc Cert.ReferenceDxIdeal.nD Cert.ReferenceDxIdeal.τ Cert.ReferenceDxIdeal.sig) → Buf (Elt Ideal) ℓ) : Prop :=
  True

def Pre_KernelDd (m : (ℓ : Loc Cert.KernelDd.nD Cert.KernelDd.τ Cert.KernelDd.sig) → Buf (Elt Bits) ℓ) : Prop :=
  True

def Pre_KernelDdIdeal (m : (ℓ : Loc Cert.KernelDdIdeal.nD Cert.KernelDdIdeal.τ Cert.KernelDdIdeal.sig) → Buf (Elt Ideal) ℓ) : Prop :=
  True

def Pre_ReferenceDdIdeal (m : (ℓ : Loc Cert.ReferenceDdIdeal.nD Cert.ReferenceDdIdeal.τ Cert.ReferenceDdIdeal.sig) → Buf (Elt Ideal) ℓ) : Prop :=
  True

def Pre_KernelDg (m : (ℓ : Loc Cert.KernelDg.nD Cert.KernelDg.τ Cert.KernelDg.sig) → Buf (Elt Bits) ℓ) : Prop :=
  True

def Pre_KernelDgIdeal (m : (ℓ : Loc Cert.KernelDgIdeal.nD Cert.KernelDgIdeal.τ Cert.KernelDgIdeal.sig) → Buf (Elt Ideal) ℓ) : Prop :=
  True

def Pre_ReferenceDgIdeal (m : (ℓ : Loc Cert.ReferenceDgIdeal.nD Cert.ReferenceDgIdeal.τ Cert.ReferenceDgIdeal.sig) → Buf (Elt Ideal) ℓ) : Prop :=
  True

def Pre_KernelAd (m : (ℓ : Loc Cert.KernelAd.nD Cert.KernelAd.τ Cert.KernelAd.sig) → Buf (Elt Bits) ℓ) : Prop :=
  True

def Pre_KernelAdIdeal (m : (ℓ : Loc Cert.KernelAdIdeal.nD Cert.KernelAdIdeal.τ Cert.KernelAdIdeal.sig) → Buf (Elt Ideal) ℓ) : Prop :=
  True

def Pre_ReferenceAdIdeal (m : (ℓ : Loc Cert.ReferenceAdIdeal.nD Cert.ReferenceAdIdeal.τ Cert.ReferenceAdIdeal.sig) → Buf (Elt Ideal) ℓ) : Prop :=
  True

def quiescent_KernelFf [hKernelFf : Cert.KernelFf.Facts] : Prop :=
  ∀ (m : (ℓ : Loc Cert.KernelFf.nD Cert.KernelFf.τ Cert.KernelFf.sig) → Buf (Elt Bits) ℓ) (g : Dev Cert.KernelFf.nD → PrngReg), Pre_KernelFf m →
    θ_run (Cert.KernelFf.defs (F := Bits)) (onTc (τ := Cert.KernelFf.τ) (Cert.KernelFf.main (F := Bits))) ⟨m, fun _ => 0, g⟩ (fun r => (∀ c : Dev Cert.KernelFf.nD,
      r.2.mem ((c.tc : Thread Cert.KernelFf.nD Cert.KernelFf.τ).loc Cert.KernelFf.main_arg0) = m ((c.tc : Thread Cert.KernelFf.nD Cert.KernelFf.τ).loc Cert.KernelFf.main_arg0)
      ∧ r.2.mem ((c.tc : Thread Cert.KernelFf.nD Cert.KernelFf.τ).loc Cert.KernelFf.main_arg1) = m ((c.tc : Thread Cert.KernelFf.nD Cert.KernelFf.τ).loc Cert.KernelFf.main_arg1)
      ∧ r.2.mem ((c.tc : Thread Cert.KernelFf.nD Cert.KernelFf.τ).loc Cert.KernelFf.main_arg2) = m ((c.tc : Thread Cert.KernelFf.nD Cert.KernelFf.τ).loc Cert.KernelFf.main_arg2)
      ∧ r.2.mem ((c.tc : Thread Cert.KernelFf.nD Cert.KernelFf.τ).loc Cert.KernelFf.main_arg3) = m ((c.tc : Thread Cert.KernelFf.nD Cert.KernelFf.τ).loc Cert.KernelFf.main_arg3))
      ∧ r.2.sem = fun _ => 0)

def quiescent_KernelFfIdeal [hKernelFfIdeal : Cert.KernelFfIdeal.Facts] : Prop :=
  ∀ (m : (ℓ : Loc Cert.KernelFfIdeal.nD Cert.KernelFfIdeal.τ Cert.KernelFfIdeal.sig) → Buf (Elt Ideal) ℓ) (g : Dev Cert.KernelFfIdeal.nD → PrngReg), Pre_KernelFfIdeal m →
    θ_run (Cert.KernelFfIdeal.defs (F := Ideal)) (onTc (τ := Cert.KernelFfIdeal.τ) (Cert.KernelFfIdeal.main (F := Ideal))) ⟨m, fun _ => 0, g⟩ (fun r => (∀ c : Dev Cert.KernelFfIdeal.nD,
      r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
      ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1)
      ∧ r.2.mem ((c.tc : Thread Cert.KernelFfIdeal.nD Cert.KernelFfIdeal.τ).loc Cert.KernelFfIdeal.main_arg2) = m ((c.tc : Thread Cert.KernelFfIdeal.nD Cert.KernelFfIdeal.τ).loc Cert.KernelFfIdeal.main_arg2)
      ∧ r.2.mem ((c.tc : Thread Cert.KernelFfIdeal.nD Cert.KernelFfIdeal.τ).loc Cert.KernelFfIdeal.main_arg3) = m ((c.tc : Thread Cert.KernelFfIdeal.nD Cert.KernelFfIdeal.τ).loc Cert.KernelFfIdeal.main_arg3))
      ∧ r.2.sem = fun _ => 0)

def quiescent_KernelFfIdeal_pre_finite_ff [hKernelFfIdeal : Cert.KernelFfIdeal.Facts] [hPre_finite_ff : Cert.Pre_finite_ff.Facts] : Prop :=
  ∀ (m : (ℓ : Loc Cert.KernelFfIdeal.nD Cert.KernelFfIdeal.τ Cert.KernelFfIdeal.sig) → Buf (Elt Ideal) ℓ) (g : Dev Cert.KernelFfIdeal.nD → PrngReg), Pre_KernelFfIdeal_finite_ff m →
    θ_run (Cert.KernelFfIdeal.defs (F := Ideal)) (onTc (τ := Cert.KernelFfIdeal.τ) (Cert.KernelFfIdeal.main (F := Ideal))) ⟨m, fun _ => 0, g⟩ (fun r => (∀ c : Dev Cert.KernelFfIdeal.nD,
      r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
      ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1)
      ∧ r.2.mem ((c.tc : Thread Cert.KernelFfIdeal.nD Cert.KernelFfIdeal.τ).loc Cert.KernelFfIdeal.main_arg2) = m ((c.tc : Thread Cert.KernelFfIdeal.nD Cert.KernelFfIdeal.τ).loc Cert.KernelFfIdeal.main_arg2)
      ∧ r.2.mem ((c.tc : Thread Cert.KernelFfIdeal.nD Cert.KernelFfIdeal.τ).loc Cert.KernelFfIdeal.main_arg3) = m ((c.tc : Thread Cert.KernelFfIdeal.nD Cert.KernelFfIdeal.τ).loc Cert.KernelFfIdeal.main_arg3))
      ∧ r.2.sem = fun _ => 0)

def quiescent_ReferenceFfIdeal [hReferenceFfIdeal : Cert.ReferenceFfIdeal.Facts] : Prop :=
  ∀ (m : (ℓ : Loc Cert.ReferenceFfIdeal.nD Cert.ReferenceFfIdeal.τ Cert.ReferenceFfIdeal.sig) → Buf (Elt Ideal) ℓ) (g : Dev Cert.ReferenceFfIdeal.nD → PrngReg), Pre_ReferenceFfIdeal m →
    θ_run (Cert.ReferenceFfIdeal.defs (F := Ideal)) (onTc (τ := Cert.ReferenceFfIdeal.τ) (Cert.ReferenceFfIdeal.main (F := Ideal))) ⟨m, fun _ => 0, g⟩ (fun r => (∀ c : Dev Cert.ReferenceFfIdeal.nD,
      r.2.mem ((c.tc : Thread Cert.ReferenceFfIdeal.nD Cert.ReferenceFfIdeal.τ).loc Cert.ReferenceFfIdeal.main_arg0) = m ((c.tc : Thread Cert.ReferenceFfIdeal.nD Cert.ReferenceFfIdeal.τ).loc Cert.ReferenceFfIdeal.main_arg0)
      ∧ r.2.mem ((c.tc : Thread Cert.ReferenceFfIdeal.nD Cert.ReferenceFfIdeal.τ).loc Cert.ReferenceFfIdeal.main_arg1) = m ((c.tc : Thread Cert.ReferenceFfIdeal.nD Cert.ReferenceFfIdeal.τ).loc Cert.ReferenceFfIdeal.main_arg1)
      ∧ r.2.mem ((c.tc : Thread Cert.ReferenceFfIdeal.nD Cert.ReferenceFfIdeal.τ).loc Cert.ReferenceFfIdeal.main_arg2) = m ((c.tc : Thread Cert.ReferenceFfIdeal.nD Cert.ReferenceFfIdeal.τ).loc Cert.ReferenceFfIdeal.main_arg2)
      ∧ r.2.mem ((c.tc : Thread Cert.ReferenceFfIdeal.nD Cert.ReferenceFfIdeal.τ).loc Cert.ReferenceFfIdeal.main_arg3) = m ((c.tc : Thread Cert.ReferenceFfIdeal.nD Cert.ReferenceFfIdeal.τ).loc Cert.ReferenceFfIdeal.main_arg3))
      ∧ r.2.sem = fun _ => 0)

def quiescent_ReferenceFfIdeal_pre_finite_ff [hReferenceFfIdeal : Cert.ReferenceFfIdeal.Facts] [hPre_finite_ff : Cert.Pre_finite_ff.Facts] : Prop :=
  ∀ (m : (ℓ : Loc Cert.ReferenceFfIdeal.nD Cert.ReferenceFfIdeal.τ Cert.ReferenceFfIdeal.sig) → Buf (Elt Ideal) ℓ) (g : Dev Cert.ReferenceFfIdeal.nD → PrngReg), Pre_ReferenceFfIdeal_finite_ff m →
    θ_run (Cert.ReferenceFfIdeal.defs (F := Ideal)) (onTc (τ := Cert.ReferenceFfIdeal.τ) (Cert.ReferenceFfIdeal.main (F := Ideal))) ⟨m, fun _ => 0, g⟩ (fun r => (∀ c : Dev Cert.ReferenceFfIdeal.nD,
      r.2.mem ((c.tc : Thread Cert.ReferenceFfIdeal.nD Cert.ReferenceFfIdeal.τ).loc Cert.ReferenceFfIdeal.main_arg0) = m ((c.tc : Thread Cert.ReferenceFfIdeal.nD Cert.ReferenceFfIdeal.τ).loc Cert.ReferenceFfIdeal.main_arg0)
      ∧ r.2.mem ((c.tc : Thread Cert.ReferenceFfIdeal.nD Cert.ReferenceFfIdeal.τ).loc Cert.ReferenceFfIdeal.main_arg1) = m ((c.tc : Thread Cert.ReferenceFfIdeal.nD Cert.ReferenceFfIdeal.τ).loc Cert.ReferenceFfIdeal.main_arg1)
      ∧ r.2.mem ((c.tc : Thread Cert.ReferenceFfIdeal.nD Cert.ReferenceFfIdeal.τ).loc Cert.ReferenceFfIdeal.main_arg2) = m ((c.tc : Thread Cert.ReferenceFfIdeal.nD Cert.ReferenceFfIdeal.τ).loc Cert.ReferenceFfIdeal.main_arg2)
      ∧ r.2.mem ((c.tc : Thread Cert.ReferenceFfIdeal.nD Cert.ReferenceFfIdeal.τ).loc Cert.ReferenceFfIdeal.main_arg3) = m ((c.tc : Thread Cert.ReferenceFfIdeal.nD Cert.ReferenceFfIdeal.τ).loc Cert.ReferenceFfIdeal.main_arg3))
      ∧ r.2.sem = fun _ => 0)

def quiescent_KernelMx [hKernelMx : Cert.KernelMx.Facts] : Prop :=
  ∀ (m : (ℓ : Loc Cert.KernelMx.nD Cert.KernelMx.τ Cert.KernelMx.sig) → Buf (Elt Bits) ℓ) (g : Dev Cert.KernelMx.nD → PrngReg), Pre_KernelMx m →
    θ_run (Cert.KernelMx.defs (F := Bits)) (onTc (τ := Cert.KernelMx.τ) (Cert.KernelMx.main (F := Bits))) ⟨m, fun _ => 0, g⟩ (fun r => (∀ c : Dev Cert.KernelMx.nD,
      r.2.mem ((c.tc : Thread Cert.KernelMx.nD Cert.KernelMx.τ).loc Cert.KernelMx.main_arg0) = m ((c.tc : Thread Cert.KernelMx.nD Cert.KernelMx.τ).loc Cert.KernelMx.main_arg0)
      ∧ r.2.mem ((c.tc : Thread Cert.KernelMx.nD Cert.KernelMx.τ).loc Cert.KernelMx.main_arg1) = m ((c.tc : Thread Cert.KernelMx.nD Cert.KernelMx.τ).loc Cert.KernelMx.main_arg1)
      ∧ r.2.mem ((c.tc : Thread Cert.KernelMx.nD Cert.KernelMx.τ).loc Cert.KernelMx.main_arg2) = m ((c.tc : Thread Cert.KernelMx.nD Cert.KernelMx.τ).loc Cert.KernelMx.main_arg2)
      ∧ r.2.mem ((c.tc : Thread Cert.KernelMx.nD Cert.KernelMx.τ).loc Cert.KernelMx.main_arg3) = m ((c.tc : Thread Cert.KernelMx.nD Cert.KernelMx.τ).loc Cert.KernelMx.main_arg3)
      ∧ r.2.mem ((c.tc : Thread Cert.KernelMx.nD Cert.KernelMx.τ).loc Cert.KernelMx.main_arg4) = m ((c.tc : Thread Cert.KernelMx.nD Cert.KernelMx.τ).loc Cert.KernelMx.main_arg4)
      ∧ r.2.mem ((c.tc : Thread Cert.KernelMx.nD Cert.KernelMx.τ).loc Cert.KernelMx.main_arg5) = m ((c.tc : Thread Cert.KernelMx.nD Cert.KernelMx.τ).loc Cert.KernelMx.main_arg5)
      ∧ r.2.mem ((c.tc : Thread Cert.KernelMx.nD Cert.KernelMx.τ).loc Cert.KernelMx.main_arg6) = m ((c.tc : Thread Cert.KernelMx.nD Cert.KernelMx.τ).loc Cert.KernelMx.main_arg6)
      ∧ r.2.mem ((c.tc : Thread Cert.KernelMx.nD Cert.KernelMx.τ).loc Cert.KernelMx.main_arg7) = m ((c.tc : Thread Cert.KernelMx.nD Cert.KernelMx.τ).loc Cert.KernelMx.main_arg7))
      ∧ r.2.sem = fun _ => 0)

def quiescent_KernelMxIdeal [hKernelMxIdeal : Cert.KernelMxIdeal.Facts] : Prop :=
  ∀ (m : (ℓ : Loc Cert.KernelMxIdeal.nD Cert.KernelMxIdeal.τ Cert.KernelMxIdeal.sig) → Buf (Elt Ideal) ℓ) (g : Dev Cert.KernelMxIdeal.nD → PrngReg), Pre_KernelMxIdeal m →
    θ_run (Cert.KernelMxIdeal.defs (F := Ideal)) (onTc (τ := Cert.KernelMxIdeal.τ) (Cert.KernelMxIdeal.main (F := Ideal))) ⟨m, fun _ => 0, g⟩ (fun r => (∀ c : Dev Cert.KernelMxIdeal.nD,
      r.2.mem ((c.tc : Thread Cert.KernelMxIdeal.nD Cert.KernelMxIdeal.τ).loc Cert.KernelMxIdeal.main_arg0) = m ((c.tc : Thread Cert.KernelMxIdeal.nD Cert.KernelMxIdeal.τ).loc Cert.KernelMxIdeal.main_arg0)
      ∧ r.2.mem ((c.tc : Thread Cert.KernelMxIdeal.nD Cert.KernelMxIdeal.τ).loc Cert.KernelMxIdeal.main_arg1) = m ((c.tc : Thread Cert.KernelMxIdeal.nD Cert.KernelMxIdeal.τ).loc Cert.KernelMxIdeal.main_arg1)
      ∧ r.2.mem ((c.tc : Thread Cert.KernelMxIdeal.nD Cert.KernelMxIdeal.τ).loc Cert.KernelMxIdeal.main_arg2) = m ((c.tc : Thread Cert.KernelMxIdeal.nD Cert.KernelMxIdeal.τ).loc Cert.KernelMxIdeal.main_arg2)
      ∧ r.2.mem ((c.tc : Thread Cert.KernelMxIdeal.nD Cert.KernelMxIdeal.τ).loc Cert.KernelMxIdeal.main_arg3) = m ((c.tc : Thread Cert.KernelMxIdeal.nD Cert.KernelMxIdeal.τ).loc Cert.KernelMxIdeal.main_arg3)
      ∧ r.2.mem ((c.tc : Thread Cert.KernelMxIdeal.nD Cert.KernelMxIdeal.τ).loc Cert.KernelMxIdeal.main_arg4) = m ((c.tc : Thread Cert.KernelMxIdeal.nD Cert.KernelMxIdeal.τ).loc Cert.KernelMxIdeal.main_arg4)
      ∧ r.2.mem ((c.tc : Thread Cert.KernelMxIdeal.nD Cert.KernelMxIdeal.τ).loc Cert.KernelMxIdeal.main_arg5) = m ((c.tc : Thread Cert.KernelMxIdeal.nD Cert.KernelMxIdeal.τ).loc Cert.KernelMxIdeal.main_arg5)
      ∧ r.2.mem ((c.tc : Thread Cert.KernelMxIdeal.nD Cert.KernelMxIdeal.τ).loc Cert.KernelMxIdeal.main_arg6) = m ((c.tc : Thread Cert.KernelMxIdeal.nD Cert.KernelMxIdeal.τ).loc Cert.KernelMxIdeal.main_arg6)
      ∧ r.2.mem ((c.tc : Thread Cert.KernelMxIdeal.nD Cert.KernelMxIdeal.τ).loc Cert.KernelMxIdeal.main_arg7) = m ((c.tc : Thread Cert.KernelMxIdeal.nD Cert.KernelMxIdeal.τ).loc Cert.KernelMxIdeal.main_arg7))
      ∧ r.2.sem = fun _ => 0)

def quiescent_KernelMxIdeal_pre_finite_mix [hKernelMxIdeal : Cert.KernelMxIdeal.Facts] [hPre_finite_mix : Cert.Pre_finite_mix.Facts] : Prop :=
  ∀ (m : (ℓ : Loc Cert.KernelMxIdeal.nD Cert.KernelMxIdeal.τ Cert.KernelMxIdeal.sig) → Buf (Elt Ideal) ℓ) (g : Dev Cert.KernelMxIdeal.nD → PrngReg), Pre_KernelMxIdeal_finite_mix m →
    θ_run (Cert.KernelMxIdeal.defs (F := Ideal)) (onTc (τ := Cert.KernelMxIdeal.τ) (Cert.KernelMxIdeal.main (F := Ideal))) ⟨m, fun _ => 0, g⟩ (fun r => (∀ c : Dev Cert.KernelMxIdeal.nD,
      r.2.mem ((c.tc : Thread Cert.KernelMxIdeal.nD Cert.KernelMxIdeal.τ).loc Cert.KernelMxIdeal.main_arg0) = m ((c.tc : Thread Cert.KernelMxIdeal.nD Cert.KernelMxIdeal.τ).loc Cert.KernelMxIdeal.main_arg0)
      ∧ r.2.mem ((c.tc : Thread Cert.KernelMxIdeal.nD Cert.KernelMxIdeal.τ).loc Cert.KernelMxIdeal.main_arg1) = m ((c.tc : Thread Cert.KernelMxIdeal.nD Cert.KernelMxIdeal.τ).loc Cert.KernelMxIdeal.main_arg1)
      ∧ r.2.mem ((c.tc : Thread Cert.KernelMxIdeal.nD Cert.KernelMxIdeal.τ).loc Cert.KernelMxIdeal.main_arg2) = m ((c.tc : Thread Cert.KernelMxIdeal.nD Cert.KernelMxIdeal.τ).loc Cert.KernelMxIdeal.main_arg2)
      ∧ r.2.mem ((c.tc : Thread Cert.KernelMxIdeal.nD Cert.KernelMxIdeal.τ).loc Cert.KernelMxIdeal.main_arg3) = m ((c.tc : Thread Cert.KernelMxIdeal.nD Cert.KernelMxIdeal.τ).loc Cert.KernelMxIdeal.main_arg3)
      ∧ r.2.mem ((c.tc : Thread Cert.KernelMxIdeal.nD Cert.KernelMxIdeal.τ).loc Cert.KernelMxIdeal.main_arg4) = m ((c.tc : Thread Cert.KernelMxIdeal.nD Cert.KernelMxIdeal.τ).loc Cert.KernelMxIdeal.main_arg4)
      ∧ r.2.mem ((c.tc : Thread Cert.KernelMxIdeal.nD Cert.KernelMxIdeal.τ).loc Cert.KernelMxIdeal.main_arg5) = m ((c.tc : Thread Cert.KernelMxIdeal.nD Cert.KernelMxIdeal.τ).loc Cert.KernelMxIdeal.main_arg5)
      ∧ r.2.mem ((c.tc : Thread Cert.KernelMxIdeal.nD Cert.KernelMxIdeal.τ).loc Cert.KernelMxIdeal.main_arg6) = m ((c.tc : Thread Cert.KernelMxIdeal.nD Cert.KernelMxIdeal.τ).loc Cert.KernelMxIdeal.main_arg6)
      ∧ r.2.mem ((c.tc : Thread Cert.KernelMxIdeal.nD Cert.KernelMxIdeal.τ).loc Cert.KernelMxIdeal.main_arg7) = m ((c.tc : Thread Cert.KernelMxIdeal.nD Cert.KernelMxIdeal.τ).loc Cert.KernelMxIdeal.main_arg7))
      ∧ r.2.sem = fun _ => 0)

def quiescent_ReferenceMxIdeal [hReferenceMxIdeal : Cert.ReferenceMxIdeal.Facts] : Prop :=
  ∀ (m : (ℓ : Loc Cert.ReferenceMxIdeal.nD Cert.ReferenceMxIdeal.τ Cert.ReferenceMxIdeal.sig) → Buf (Elt Ideal) ℓ) (g : Dev Cert.ReferenceMxIdeal.nD → PrngReg), Pre_ReferenceMxIdeal m →
    θ_run (Cert.ReferenceMxIdeal.defs (F := Ideal)) (onTc (τ := Cert.ReferenceMxIdeal.τ) (Cert.ReferenceMxIdeal.main (F := Ideal))) ⟨m, fun _ => 0, g⟩ (fun r => (∀ c : Dev Cert.ReferenceMxIdeal.nD,
      r.2.mem ((c.tc : Thread Cert.ReferenceMxIdeal.nD Cert.ReferenceMxIdeal.τ).loc Cert.ReferenceMxIdeal.main_arg0) = m ((c.tc : Thread Cert.ReferenceMxIdeal.nD Cert.ReferenceMxIdeal.τ).loc Cert.ReferenceMxIdeal.main_arg0)
      ∧ r.2.mem ((c.tc : Thread Cert.ReferenceMxIdeal.nD Cert.ReferenceMxIdeal.τ).loc Cert.ReferenceMxIdeal.main_arg1) = m ((c.tc : Thread Cert.ReferenceMxIdeal.nD Cert.ReferenceMxIdeal.τ).loc Cert.ReferenceMxIdeal.main_arg1)
      ∧ r.2.mem ((c.tc : Thread Cert.ReferenceMxIdeal.nD Cert.ReferenceMxIdeal.τ).loc Cert.ReferenceMxIdeal.main_arg2) = m ((c.tc : Thread Cert.ReferenceMxIdeal.nD Cert.ReferenceMxIdeal.τ).loc Cert.ReferenceMxIdeal.main_arg2)
      ∧ r.2.mem ((c.tc : Thread Cert.ReferenceMxIdeal.nD Cert.ReferenceMxIdeal.τ).loc Cert.ReferenceMxIdeal.main_arg3) = m ((c.tc : Thread Cert.ReferenceMxIdeal.nD Cert.ReferenceMxIdeal.τ).loc Cert.ReferenceMxIdeal.main_arg3)
      ∧ r.2.mem ((c.tc : Thread Cert.ReferenceMxIdeal.nD Cert.ReferenceMxIdeal.τ).loc Cert.ReferenceMxIdeal.main_arg4) = m ((c.tc : Thread Cert.ReferenceMxIdeal.nD Cert.ReferenceMxIdeal.τ).loc Cert.ReferenceMxIdeal.main_arg4)
      ∧ r.2.mem ((c.tc : Thread Cert.ReferenceMxIdeal.nD Cert.ReferenceMxIdeal.τ).loc Cert.ReferenceMxIdeal.main_arg5) = m ((c.tc : Thread Cert.ReferenceMxIdeal.nD Cert.ReferenceMxIdeal.τ).loc Cert.ReferenceMxIdeal.main_arg5)
      ∧ r.2.mem ((c.tc : Thread Cert.ReferenceMxIdeal.nD Cert.ReferenceMxIdeal.τ).loc Cert.ReferenceMxIdeal.main_arg6) = m ((c.tc : Thread Cert.ReferenceMxIdeal.nD Cert.ReferenceMxIdeal.τ).loc Cert.ReferenceMxIdeal.main_arg6)
      ∧ r.2.mem ((c.tc : Thread Cert.ReferenceMxIdeal.nD Cert.ReferenceMxIdeal.τ).loc Cert.ReferenceMxIdeal.main_arg7) = m ((c.tc : Thread Cert.ReferenceMxIdeal.nD Cert.ReferenceMxIdeal.τ).loc Cert.ReferenceMxIdeal.main_arg7))
      ∧ r.2.sem = fun _ => 0)

def quiescent_ReferenceMxIdeal_pre_finite_mix [hReferenceMxIdeal : Cert.ReferenceMxIdeal.Facts] [hPre_finite_mix : Cert.Pre_finite_mix.Facts] : Prop :=
  ∀ (m : (ℓ : Loc Cert.ReferenceMxIdeal.nD Cert.ReferenceMxIdeal.τ Cert.ReferenceMxIdeal.sig) → Buf (Elt Ideal) ℓ) (g : Dev Cert.ReferenceMxIdeal.nD → PrngReg), Pre_ReferenceMxIdeal_finite_mix m →
    θ_run (Cert.ReferenceMxIdeal.defs (F := Ideal)) (onTc (τ := Cert.ReferenceMxIdeal.τ) (Cert.ReferenceMxIdeal.main (F := Ideal))) ⟨m, fun _ => 0, g⟩ (fun r => (∀ c : Dev Cert.ReferenceMxIdeal.nD,
      r.2.mem ((c.tc : Thread Cert.ReferenceMxIdeal.nD Cert.ReferenceMxIdeal.τ).loc Cert.ReferenceMxIdeal.main_arg0) = m ((c.tc : Thread Cert.ReferenceMxIdeal.nD Cert.ReferenceMxIdeal.τ).loc Cert.ReferenceMxIdeal.main_arg0)
      ∧ r.2.mem ((c.tc : Thread Cert.ReferenceMxIdeal.nD Cert.ReferenceMxIdeal.τ).loc Cert.ReferenceMxIdeal.main_arg1) = m ((c.tc : Thread Cert.ReferenceMxIdeal.nD Cert.ReferenceMxIdeal.τ).loc Cert.ReferenceMxIdeal.main_arg1)
      ∧ r.2.mem ((c.tc : Thread Cert.ReferenceMxIdeal.nD Cert.ReferenceMxIdeal.τ).loc Cert.ReferenceMxIdeal.main_arg2) = m ((c.tc : Thread Cert.ReferenceMxIdeal.nD Cert.ReferenceMxIdeal.τ).loc Cert.ReferenceMxIdeal.main_arg2)
      ∧ r.2.mem ((c.tc : Thread Cert.ReferenceMxIdeal.nD Cert.ReferenceMxIdeal.τ).loc Cert.ReferenceMxIdeal.main_arg3) = m ((c.tc : Thread Cert.ReferenceMxIdeal.nD Cert.ReferenceMxIdeal.τ).loc Cert.ReferenceMxIdeal.main_arg3)
      ∧ r.2.mem ((c.tc : Thread Cert.ReferenceMxIdeal.nD Cert.ReferenceMxIdeal.τ).loc Cert.ReferenceMxIdeal.main_arg4) = m ((c.tc : Thread Cert.ReferenceMxIdeal.nD Cert.ReferenceMxIdeal.τ).loc Cert.ReferenceMxIdeal.main_arg4)
      ∧ r.2.mem ((c.tc : Thread Cert.ReferenceMxIdeal.nD Cert.ReferenceMxIdeal.τ).loc Cert.ReferenceMxIdeal.main_arg5) = m ((c.tc : Thread Cert.ReferenceMxIdeal.nD Cert.ReferenceMxIdeal.τ).loc Cert.ReferenceMxIdeal.main_arg5)
      ∧ r.2.mem ((c.tc : Thread Cert.ReferenceMxIdeal.nD Cert.ReferenceMxIdeal.τ).loc Cert.ReferenceMxIdeal.main_arg6) = m ((c.tc : Thread Cert.ReferenceMxIdeal.nD Cert.ReferenceMxIdeal.τ).loc Cert.ReferenceMxIdeal.main_arg6)
      ∧ r.2.mem ((c.tc : Thread Cert.ReferenceMxIdeal.nD Cert.ReferenceMxIdeal.τ).loc Cert.ReferenceMxIdeal.main_arg7) = m ((c.tc : Thread Cert.ReferenceMxIdeal.nD Cert.ReferenceMxIdeal.τ).loc Cert.ReferenceMxIdeal.main_arg7))
      ∧ r.2.sem = fun _ => 0)

def quiescent_KernelLs [hKernelLs : Cert.KernelLs.Facts] : Prop :=
  ∀ (m : (ℓ : Loc Cert.KernelLs.nD Cert.KernelLs.τ Cert.KernelLs.sig) → Buf (Elt Bits) ℓ) (g : Dev Cert.KernelLs.nD → PrngReg), Pre_KernelLs m →
    θ_run (Cert.KernelLs.defs (F := Bits)) (onTc (τ := Cert.KernelLs.τ) (Cert.KernelLs.main (F := Bits))) ⟨m, fun _ => 0, g⟩ (fun r => (∀ c : Dev Cert.KernelLs.nD,
      r.2.mem ((c.tc : Thread Cert.KernelLs.nD Cert.KernelLs.τ).loc Cert.KernelLs.main_arg0) = m ((c.tc : Thread Cert.KernelLs.nD Cert.KernelLs.τ).loc Cert.KernelLs.main_arg0)
      ∧ r.2.mem ((c.tc : Thread Cert.KernelLs.nD Cert.KernelLs.τ).loc Cert.KernelLs.main_arg1) = m ((c.tc : Thread Cert.KernelLs.nD Cert.KernelLs.τ).loc Cert.KernelLs.main_arg1)
      ∧ r.2.mem ((c.tc : Thread Cert.KernelLs.nD Cert.KernelLs.τ).loc Cert.KernelLs.main_arg2) = m ((c.tc : Thread Cert.KernelLs.nD Cert.KernelLs.τ).loc Cert.KernelLs.main_arg2)
      ∧ r.2.mem ((c.tc : Thread Cert.KernelLs.nD Cert.KernelLs.τ).loc Cert.KernelLs.main_arg3) = m ((c.tc : Thread Cert.KernelLs.nD Cert.KernelLs.τ).loc Cert.KernelLs.main_arg3)
      ∧ r.2.mem ((c.tc : Thread Cert.KernelLs.nD Cert.KernelLs.τ).loc Cert.KernelLs.main_arg4) = m ((c.tc : Thread Cert.KernelLs.nD Cert.KernelLs.τ).loc Cert.KernelLs.main_arg4)
      ∧ r.2.mem ((c.tc : Thread Cert.KernelLs.nD Cert.KernelLs.τ).loc Cert.KernelLs.main_arg5) = m ((c.tc : Thread Cert.KernelLs.nD Cert.KernelLs.τ).loc Cert.KernelLs.main_arg5))
      ∧ r.2.sem = fun _ => 0)

def quiescent_KernelLsIdeal [hKernelLsIdeal : Cert.KernelLsIdeal.Facts] : Prop :=
  ∀ (m : (ℓ : Loc Cert.KernelLsIdeal.nD Cert.KernelLsIdeal.τ Cert.KernelLsIdeal.sig) → Buf (Elt Ideal) ℓ) (g : Dev Cert.KernelLsIdeal.nD → PrngReg), Pre_KernelLsIdeal m →
    θ_run (Cert.KernelLsIdeal.defs (F := Ideal)) (onTc (τ := Cert.KernelLsIdeal.τ) (Cert.KernelLsIdeal.main (F := Ideal))) ⟨m, fun _ => 0, g⟩ (fun r => (∀ c : Dev Cert.KernelLsIdeal.nD,
      r.2.mem ((c.tc : Thread Cert.KernelLsIdeal.nD Cert.KernelLsIdeal.τ).loc Cert.KernelLsIdeal.main_arg0) = m ((c.tc : Thread Cert.KernelLsIdeal.nD Cert.KernelLsIdeal.τ).loc Cert.KernelLsIdeal.main_arg0)
      ∧ r.2.mem ((c.tc : Thread Cert.KernelLsIdeal.nD Cert.KernelLsIdeal.τ).loc Cert.KernelLsIdeal.main_arg1) = m ((c.tc : Thread Cert.KernelLsIdeal.nD Cert.KernelLsIdeal.τ).loc Cert.KernelLsIdeal.main_arg1)
      ∧ r.2.mem ((c.tc : Thread Cert.KernelLsIdeal.nD Cert.KernelLsIdeal.τ).loc Cert.KernelLsIdeal.main_arg2) = m ((c.tc : Thread Cert.KernelLsIdeal.nD Cert.KernelLsIdeal.τ).loc Cert.KernelLsIdeal.main_arg2)
      ∧ r.2.mem ((c.tc : Thread Cert.KernelLsIdeal.nD Cert.KernelLsIdeal.τ).loc Cert.KernelLsIdeal.main_arg3) = m ((c.tc : Thread Cert.KernelLsIdeal.nD Cert.KernelLsIdeal.τ).loc Cert.KernelLsIdeal.main_arg3)
      ∧ r.2.mem ((c.tc : Thread Cert.KernelLsIdeal.nD Cert.KernelLsIdeal.τ).loc Cert.KernelLsIdeal.main_arg4) = m ((c.tc : Thread Cert.KernelLsIdeal.nD Cert.KernelLsIdeal.τ).loc Cert.KernelLsIdeal.main_arg4)
      ∧ r.2.mem ((c.tc : Thread Cert.KernelLsIdeal.nD Cert.KernelLsIdeal.τ).loc Cert.KernelLsIdeal.main_arg5) = m ((c.tc : Thread Cert.KernelLsIdeal.nD Cert.KernelLsIdeal.τ).loc Cert.KernelLsIdeal.main_arg5))
      ∧ r.2.sem = fun _ => 0)

def quiescent_KernelLsIdeal_pre_finite_loss [hKernelLsIdeal : Cert.KernelLsIdeal.Facts] [hPre_finite_loss : Cert.Pre_finite_loss.Facts] : Prop :=
  ∀ (m : (ℓ : Loc Cert.KernelLsIdeal.nD Cert.KernelLsIdeal.τ Cert.KernelLsIdeal.sig) → Buf (Elt Ideal) ℓ) (g : Dev Cert.KernelLsIdeal.nD → PrngReg), Pre_KernelLsIdeal_finite_loss m →
    θ_run (Cert.KernelLsIdeal.defs (F := Ideal)) (onTc (τ := Cert.KernelLsIdeal.τ) (Cert.KernelLsIdeal.main (F := Ideal))) ⟨m, fun _ => 0, g⟩ (fun r => (∀ c : Dev Cert.KernelLsIdeal.nD,
      r.2.mem ((c.tc : Thread Cert.KernelLsIdeal.nD Cert.KernelLsIdeal.τ).loc Cert.KernelLsIdeal.main_arg0) = m ((c.tc : Thread Cert.KernelLsIdeal.nD Cert.KernelLsIdeal.τ).loc Cert.KernelLsIdeal.main_arg0)
      ∧ r.2.mem ((c.tc : Thread Cert.KernelLsIdeal.nD Cert.KernelLsIdeal.τ).loc Cert.KernelLsIdeal.main_arg1) = m ((c.tc : Thread Cert.KernelLsIdeal.nD Cert.KernelLsIdeal.τ).loc Cert.KernelLsIdeal.main_arg1)
      ∧ r.2.mem ((c.tc : Thread Cert.KernelLsIdeal.nD Cert.KernelLsIdeal.τ).loc Cert.KernelLsIdeal.main_arg2) = m ((c.tc : Thread Cert.KernelLsIdeal.nD Cert.KernelLsIdeal.τ).loc Cert.KernelLsIdeal.main_arg2)
      ∧ r.2.mem ((c.tc : Thread Cert.KernelLsIdeal.nD Cert.KernelLsIdeal.τ).loc Cert.KernelLsIdeal.main_arg3) = m ((c.tc : Thread Cert.KernelLsIdeal.nD Cert.KernelLsIdeal.τ).loc Cert.KernelLsIdeal.main_arg3)
      ∧ r.2.mem ((c.tc : Thread Cert.KernelLsIdeal.nD Cert.KernelLsIdeal.τ).loc Cert.KernelLsIdeal.main_arg4) = m ((c.tc : Thread Cert.KernelLsIdeal.nD Cert.KernelLsIdeal.τ).loc Cert.KernelLsIdeal.main_arg4)
      ∧ r.2.mem ((c.tc : Thread Cert.KernelLsIdeal.nD Cert.KernelLsIdeal.τ).loc Cert.KernelLsIdeal.main_arg5) = m ((c.tc : Thread Cert.KernelLsIdeal.nD Cert.KernelLsIdeal.τ).loc Cert.KernelLsIdeal.main_arg5))
      ∧ r.2.sem = fun _ => 0)

def quiescent_ReferenceLsIdeal [hReferenceLsIdeal : Cert.ReferenceLsIdeal.Facts] : Prop :=
  ∀ (m : (ℓ : Loc Cert.ReferenceLsIdeal.nD Cert.ReferenceLsIdeal.τ Cert.ReferenceLsIdeal.sig) → Buf (Elt Ideal) ℓ) (g : Dev Cert.ReferenceLsIdeal.nD → PrngReg), Pre_ReferenceLsIdeal m →
    θ_run (Cert.ReferenceLsIdeal.defs (F := Ideal)) (onTc (τ := Cert.ReferenceLsIdeal.τ) (Cert.ReferenceLsIdeal.main (F := Ideal))) ⟨m, fun _ => 0, g⟩ (fun r => (∀ c : Dev Cert.ReferenceLsIdeal.nD,
      r.2.mem ((c.tc : Thread Cert.ReferenceLsIdeal.nD Cert.ReferenceLsIdeal.τ).loc Cert.ReferenceLsIdeal.main_arg0) = m ((c.tc : Thread Cert.ReferenceLsIdeal.nD Cert.ReferenceLsIdeal.τ).loc Cert.ReferenceLsIdeal.main_arg0)
      ∧ r.2.mem ((c.tc : Thread Cert.ReferenceLsIdeal.nD Cert.ReferenceLsIdeal.τ).loc Cert.ReferenceLsIdeal.main_arg1) = m ((c.tc : Thread Cert.ReferenceLsIdeal.nD Cert.ReferenceLsIdeal.τ).loc Cert.ReferenceLsIdeal.main_arg1)
      ∧ r.2.mem ((c.tc : Thread Cert.ReferenceLsIdeal.nD Cert.ReferenceLsIdeal.τ).loc Cert.ReferenceLsIdeal.main_arg2) = m ((c.tc : Thread Cert.ReferenceLsIdeal.nD Cert.ReferenceLsIdeal.τ).loc Cert.ReferenceLsIdeal.main_arg2)
      ∧ r.2.mem ((c.tc : Thread Cert.ReferenceLsIdeal.nD Cert.ReferenceLsIdeal.τ).loc Cert.ReferenceLsIdeal.main_arg3) = m ((c.tc : Thread Cert.ReferenceLsIdeal.nD Cert.ReferenceLsIdeal.τ).loc Cert.ReferenceLsIdeal.main_arg3)
      ∧ r.2.mem ((c.tc : Thread Cert.ReferenceLsIdeal.nD Cert.ReferenceLsIdeal.τ).loc Cert.ReferenceLsIdeal.main_arg4) = m ((c.tc : Thread Cert.ReferenceLsIdeal.nD Cert.ReferenceLsIdeal.τ).loc Cert.ReferenceLsIdeal.main_arg4)
      ∧ r.2.mem ((c.tc : Thread Cert.ReferenceLsIdeal.nD Cert.ReferenceLsIdeal.τ).loc Cert.ReferenceLsIdeal.main_arg5) = m ((c.tc : Thread Cert.ReferenceLsIdeal.nD Cert.ReferenceLsIdeal.τ).loc Cert.ReferenceLsIdeal.main_arg5))
      ∧ r.2.sem = fun _ => 0)

def quiescent_ReferenceLsIdeal_pre_finite_loss [hReferenceLsIdeal : Cert.ReferenceLsIdeal.Facts] [hPre_finite_loss : Cert.Pre_finite_loss.Facts] : Prop :=
  ∀ (m : (ℓ : Loc Cert.ReferenceLsIdeal.nD Cert.ReferenceLsIdeal.τ Cert.ReferenceLsIdeal.sig) → Buf (Elt Ideal) ℓ) (g : Dev Cert.ReferenceLsIdeal.nD → PrngReg), Pre_ReferenceLsIdeal_finite_loss m →
    θ_run (Cert.ReferenceLsIdeal.defs (F := Ideal)) (onTc (τ := Cert.ReferenceLsIdeal.τ) (Cert.ReferenceLsIdeal.main (F := Ideal))) ⟨m, fun _ => 0, g⟩ (fun r => (∀ c : Dev Cert.ReferenceLsIdeal.nD,
      r.2.mem ((c.tc : Thread Cert.ReferenceLsIdeal.nD Cert.ReferenceLsIdeal.τ).loc Cert.ReferenceLsIdeal.main_arg0) = m ((c.tc : Thread Cert.ReferenceLsIdeal.nD Cert.ReferenceLsIdeal.τ).loc Cert.ReferenceLsIdeal.main_arg0)
      ∧ r.2.mem ((c.tc : Thread Cert.ReferenceLsIdeal.nD Cert.ReferenceLsIdeal.τ).loc Cert.ReferenceLsIdeal.main_arg1) = m ((c.tc : Thread Cert.ReferenceLsIdeal.nD Cert.ReferenceLsIdeal.τ).loc Cert.ReferenceLsIdeal.main_arg1)
      ∧ r.2.mem ((c.tc : Thread Cert.ReferenceLsIdeal.nD Cert.ReferenceLsIdeal.τ).loc Cert.ReferenceLsIdeal.main_arg2) = m ((c.tc : Thread Cert.ReferenceLsIdeal.nD Cert.ReferenceLsIdeal.τ).loc Cert.ReferenceLsIdeal.main_arg2)
      ∧ r.2.mem ((c.tc : Thread Cert.ReferenceLsIdeal.nD Cert.ReferenceLsIdeal.τ).loc Cert.ReferenceLsIdeal.main_arg3) = m ((c.tc : Thread Cert.ReferenceLsIdeal.nD Cert.ReferenceLsIdeal.τ).loc Cert.ReferenceLsIdeal.main_arg3)
      ∧ r.2.mem ((c.tc : Thread Cert.ReferenceLsIdeal.nD Cert.ReferenceLsIdeal.τ).loc Cert.ReferenceLsIdeal.main_arg4) = m ((c.tc : Thread Cert.ReferenceLsIdeal.nD Cert.ReferenceLsIdeal.τ).loc Cert.ReferenceLsIdeal.main_arg4)
      ∧ r.2.mem ((c.tc : Thread Cert.ReferenceLsIdeal.nD Cert.ReferenceLsIdeal.τ).loc Cert.ReferenceLsIdeal.main_arg5) = m ((c.tc : Thread Cert.ReferenceLsIdeal.nD Cert.ReferenceLsIdeal.τ).loc Cert.ReferenceLsIdeal.main_arg5))
      ∧ r.2.sem = fun _ => 0)

def quiescent_KernelWo [hKernelWo : Cert.KernelWo.Facts] : Prop :=
  ∀ (m : (ℓ : Loc Cert.KernelWo.nD Cert.KernelWo.τ Cert.KernelWo.sig) → Buf (Elt Bits) ℓ) (g : Dev Cert.KernelWo.nD → PrngReg), Pre_KernelWo m →
    θ_run (Cert.KernelWo.defs (F := Bits)) (onTc (τ := Cert.KernelWo.τ) (Cert.KernelWo.main (F := Bits))) ⟨m, fun _ => 0, g⟩ (fun r => (∀ c : Dev Cert.KernelWo.nD,
      r.2.mem ((c.tc : Thread Cert.KernelWo.nD Cert.KernelWo.τ).loc Cert.KernelWo.main_arg0) = m ((c.tc : Thread Cert.KernelWo.nD Cert.KernelWo.τ).loc Cert.KernelWo.main_arg0)
      ∧ r.2.mem ((c.tc : Thread Cert.KernelWo.nD Cert.KernelWo.τ).loc Cert.KernelWo.main_arg1) = m ((c.tc : Thread Cert.KernelWo.nD Cert.KernelWo.τ).loc Cert.KernelWo.main_arg1)
      ∧ r.2.mem ((c.tc : Thread Cert.KernelWo.nD Cert.KernelWo.τ).loc Cert.KernelWo.main_arg2) = m ((c.tc : Thread Cert.KernelWo.nD Cert.KernelWo.τ).loc Cert.KernelWo.main_arg2)
      ∧ r.2.mem ((c.tc : Thread Cert.KernelWo.nD Cert.KernelWo.τ).loc Cert.KernelWo.main_arg3) = m ((c.tc : Thread Cert.KernelWo.nD Cert.KernelWo.τ).loc Cert.KernelWo.main_arg3)
      ∧ r.2.mem ((c.tc : Thread Cert.KernelWo.nD Cert.KernelWo.τ).loc Cert.KernelWo.main_arg4) = m ((c.tc : Thread Cert.KernelWo.nD Cert.KernelWo.τ).loc Cert.KernelWo.main_arg4)
      ∧ r.2.mem ((c.tc : Thread Cert.KernelWo.nD Cert.KernelWo.τ).loc Cert.KernelWo.main_arg5) = m ((c.tc : Thread Cert.KernelWo.nD Cert.KernelWo.τ).loc Cert.KernelWo.main_arg5)
      ∧ r.2.mem ((c.tc : Thread Cert.KernelWo.nD Cert.KernelWo.τ).loc Cert.KernelWo.main_arg6) = m ((c.tc : Thread Cert.KernelWo.nD Cert.KernelWo.τ).loc Cert.KernelWo.main_arg6)
      ∧ r.2.mem ((c.tc : Thread Cert.KernelWo.nD Cert.KernelWo.τ).loc Cert.KernelWo.main_arg7) = m ((c.tc : Thread Cert.KernelWo.nD Cert.KernelWo.τ).loc Cert.KernelWo.main_arg7)
      ∧ r.2.mem ((c.tc : Thread Cert.KernelWo.nD Cert.KernelWo.τ).loc Cert.KernelWo.main_arg8) = m ((c.tc : Thread Cert.KernelWo.nD Cert.KernelWo.τ).loc Cert.KernelWo.main_arg8))
      ∧ r.2.sem = fun _ => 0)

def quiescent_KernelWoIdeal [hKernelWoIdeal : Cert.KernelWoIdeal.Facts] : Prop :=
  ∀ (m : (ℓ : Loc Cert.KernelWoIdeal.nD Cert.KernelWoIdeal.τ Cert.KernelWoIdeal.sig) → Buf (Elt Ideal) ℓ) (g : Dev Cert.KernelWoIdeal.nD → PrngReg), Pre_KernelWoIdeal m →
    θ_run (Cert.KernelWoIdeal.defs (F := Ideal)) (onTc (τ := Cert.KernelWoIdeal.τ) (Cert.KernelWoIdeal.main (F := Ideal))) ⟨m, fun _ => 0, g⟩ (fun r => (∀ c : Dev Cert.KernelWoIdeal.nD,
      r.2.mem ((c.tc : Thread Cert.KernelWoIdeal.nD Cert.KernelWoIdeal.τ).loc Cert.KernelWoIdeal.main_arg0) = m ((c.tc : Thread Cert.KernelWoIdeal.nD Cert.KernelWoIdeal.τ).loc Cert.KernelWoIdeal.main_arg0)
      ∧ r.2.mem ((c.tc : Thread Cert.KernelWoIdeal.nD Cert.KernelWoIdeal.τ).loc Cert.KernelWoIdeal.main_arg1) = m ((c.tc : Thread Cert.KernelWoIdeal.nD Cert.KernelWoIdeal.τ).loc Cert.KernelWoIdeal.main_arg1)
      ∧ r.2.mem ((c.tc : Thread Cert.KernelWoIdeal.nD Cert.KernelWoIdeal.τ).loc Cert.KernelWoIdeal.main_arg2) = m ((c.tc : Thread Cert.KernelWoIdeal.nD Cert.KernelWoIdeal.τ).loc Cert.KernelWoIdeal.main_arg2)
      ∧ r.2.mem ((c.tc : Thread Cert.KernelWoIdeal.nD Cert.KernelWoIdeal.τ).loc Cert.KernelWoIdeal.main_arg3) = m ((c.tc : Thread Cert.KernelWoIdeal.nD Cert.KernelWoIdeal.τ).loc Cert.KernelWoIdeal.main_arg3)
      ∧ r.2.mem ((c.tc : Thread Cert.KernelWoIdeal.nD Cert.KernelWoIdeal.τ).loc Cert.KernelWoIdeal.main_arg4) = m ((c.tc : Thread Cert.KernelWoIdeal.nD Cert.KernelWoIdeal.τ).loc Cert.KernelWoIdeal.main_arg4)
      ∧ r.2.mem ((c.tc : Thread Cert.KernelWoIdeal.nD Cert.KernelWoIdeal.τ).loc Cert.KernelWoIdeal.main_arg5) = m ((c.tc : Thread Cert.KernelWoIdeal.nD Cert.KernelWoIdeal.τ).loc Cert.KernelWoIdeal.main_arg5)
      ∧ r.2.mem ((c.tc : Thread Cert.KernelWoIdeal.nD Cert.KernelWoIdeal.τ).loc Cert.KernelWoIdeal.main_arg6) = m ((c.tc : Thread Cert.KernelWoIdeal.nD Cert.KernelWoIdeal.τ).loc Cert.KernelWoIdeal.main_arg6)
      ∧ r.2.mem ((c.tc : Thread Cert.KernelWoIdeal.nD Cert.KernelWoIdeal.τ).loc Cert.KernelWoIdeal.main_arg7) = m ((c.tc : Thread Cert.KernelWoIdeal.nD Cert.KernelWoIdeal.τ).loc Cert.KernelWoIdeal.main_arg7)
      ∧ r.2.mem ((c.tc : Thread Cert.KernelWoIdeal.nD Cert.KernelWoIdeal.τ).loc Cert.KernelWoIdeal.main_arg8) = m ((c.tc : Thread Cert.KernelWoIdeal.nD Cert.KernelWoIdeal.τ).loc Cert.KernelWoIdeal.main_arg8))
      ∧ r.2.sem = fun _ => 0)

def quiescent_KernelWoIdeal_pre_finite_wo [hKernelWoIdeal : Cert.KernelWoIdeal.Facts] [hPre_finite_wo : Cert.Pre_finite_wo.Facts] : Prop :=
  ∀ (m : (ℓ : Loc Cert.KernelWoIdeal.nD Cert.KernelWoIdeal.τ Cert.KernelWoIdeal.sig) → Buf (Elt Ideal) ℓ) (g : Dev Cert.KernelWoIdeal.nD → PrngReg), Pre_KernelWoIdeal_finite_wo m →
    θ_run (Cert.KernelWoIdeal.defs (F := Ideal)) (onTc (τ := Cert.KernelWoIdeal.τ) (Cert.KernelWoIdeal.main (F := Ideal))) ⟨m, fun _ => 0, g⟩ (fun r => (∀ c : Dev Cert.KernelWoIdeal.nD,
      r.2.mem ((c.tc : Thread Cert.KernelWoIdeal.nD Cert.KernelWoIdeal.τ).loc Cert.KernelWoIdeal.main_arg0) = m ((c.tc : Thread Cert.KernelWoIdeal.nD Cert.KernelWoIdeal.τ).loc Cert.KernelWoIdeal.main_arg0)
      ∧ r.2.mem ((c.tc : Thread Cert.KernelWoIdeal.nD Cert.KernelWoIdeal.τ).loc Cert.KernelWoIdeal.main_arg1) = m ((c.tc : Thread Cert.KernelWoIdeal.nD Cert.KernelWoIdeal.τ).loc Cert.KernelWoIdeal.main_arg1)
      ∧ r.2.mem ((c.tc : Thread Cert.KernelWoIdeal.nD Cert.KernelWoIdeal.τ).loc Cert.KernelWoIdeal.main_arg2) = m ((c.tc : Thread Cert.KernelWoIdeal.nD Cert.KernelWoIdeal.τ).loc Cert.KernelWoIdeal.main_arg2)
      ∧ r.2.mem ((c.tc : Thread Cert.KernelWoIdeal.nD Cert.KernelWoIdeal.τ).loc Cert.KernelWoIdeal.main_arg3) = m ((c.tc : Thread Cert.KernelWoIdeal.nD Cert.KernelWoIdeal.τ).loc Cert.KernelWoIdeal.main_arg3)
      ∧ r.2.mem ((c.tc : Thread Cert.KernelWoIdeal.nD Cert.KernelWoIdeal.τ).loc Cert.KernelWoIdeal.main_arg4) = m ((c.tc : Thread Cert.KernelWoIdeal.nD Cert.KernelWoIdeal.τ).loc Cert.KernelWoIdeal.main_arg4)
      ∧ r.2.mem ((c.tc : Thread Cert.KernelWoIdeal.nD Cert.KernelWoIdeal.τ).loc Cert.KernelWoIdeal.main_arg5) = m ((c.tc : Thread Cert.KernelWoIdeal.nD Cert.KernelWoIdeal.τ).loc Cert.KernelWoIdeal.main_arg5)
      ∧ r.2.mem ((c.tc : Thread Cert.KernelWoIdeal.nD Cert.KernelWoIdeal.τ).loc Cert.KernelWoIdeal.main_arg6) = m ((c.tc : Thread Cert.KernelWoIdeal.nD Cert.KernelWoIdeal.τ).loc Cert.KernelWoIdeal.main_arg6)
      ∧ r.2.mem ((c.tc : Thread Cert.KernelWoIdeal.nD Cert.KernelWoIdeal.τ).loc Cert.KernelWoIdeal.main_arg7) = m ((c.tc : Thread Cert.KernelWoIdeal.nD Cert.KernelWoIdeal.τ).loc Cert.KernelWoIdeal.main_arg7)
      ∧ r.2.mem ((c.tc : Thread Cert.KernelWoIdeal.nD Cert.KernelWoIdeal.τ).loc Cert.KernelWoIdeal.main_arg8) = m ((c.tc : Thread Cert.KernelWoIdeal.nD Cert.KernelWoIdeal.τ).loc Cert.KernelWoIdeal.main_arg8))
      ∧ r.2.sem = fun _ => 0)

def quiescent_ReferenceWoIdeal [hReferenceWoIdeal : Cert.ReferenceWoIdeal.Facts] : Prop :=
  ∀ (m : (ℓ : Loc Cert.ReferenceWoIdeal.nD Cert.ReferenceWoIdeal.τ Cert.ReferenceWoIdeal.sig) → Buf (Elt Ideal) ℓ) (g : Dev Cert.ReferenceWoIdeal.nD → PrngReg), Pre_ReferenceWoIdeal m →
    θ_run (Cert.ReferenceWoIdeal.defs (F := Ideal)) (onTc (τ := Cert.ReferenceWoIdeal.τ) (Cert.ReferenceWoIdeal.main (F := Ideal))) ⟨m, fun _ => 0, g⟩ (fun r => (∀ c : Dev Cert.ReferenceWoIdeal.nD,
      r.2.mem ((c.tc : Thread Cert.ReferenceWoIdeal.nD Cert.ReferenceWoIdeal.τ).loc Cert.ReferenceWoIdeal.main_arg0) = m ((c.tc : Thread Cert.ReferenceWoIdeal.nD Cert.ReferenceWoIdeal.τ).loc Cert.ReferenceWoIdeal.main_arg0)
      ∧ r.2.mem ((c.tc : Thread Cert.ReferenceWoIdeal.nD Cert.ReferenceWoIdeal.τ).loc Cert.ReferenceWoIdeal.main_arg1) = m ((c.tc : Thread Cert.ReferenceWoIdeal.nD Cert.ReferenceWoIdeal.τ).loc Cert.ReferenceWoIdeal.main_arg1)
      ∧ r.2.mem ((c.tc : Thread Cert.ReferenceWoIdeal.nD Cert.ReferenceWoIdeal.τ).loc Cert.ReferenceWoIdeal.main_arg2) = m ((c.tc : Thread Cert.ReferenceWoIdeal.nD Cert.ReferenceWoIdeal.τ).loc Cert.ReferenceWoIdeal.main_arg2)
      ∧ r.2.mem ((c.tc : Thread Cert.ReferenceWoIdeal.nD Cert.ReferenceWoIdeal.τ).loc Cert.ReferenceWoIdeal.main_arg3) = m ((c.tc : Thread Cert.ReferenceWoIdeal.nD Cert.ReferenceWoIdeal.τ).loc Cert.ReferenceWoIdeal.main_arg3)
      ∧ r.2.mem ((c.tc : Thread Cert.ReferenceWoIdeal.nD Cert.ReferenceWoIdeal.τ).loc Cert.ReferenceWoIdeal.main_arg4) = m ((c.tc : Thread Cert.ReferenceWoIdeal.nD Cert.ReferenceWoIdeal.τ).loc Cert.ReferenceWoIdeal.main_arg4)
      ∧ r.2.mem ((c.tc : Thread Cert.ReferenceWoIdeal.nD Cert.ReferenceWoIdeal.τ).loc Cert.ReferenceWoIdeal.main_arg5) = m ((c.tc : Thread Cert.ReferenceWoIdeal.nD Cert.ReferenceWoIdeal.τ).loc Cert.ReferenceWoIdeal.main_arg5)
      ∧ r.2.mem ((c.tc : Thread Cert.ReferenceWoIdeal.nD Cert.ReferenceWoIdeal.τ).loc Cert.ReferenceWoIdeal.main_arg6) = m ((c.tc : Thread Cert.ReferenceWoIdeal.nD Cert.ReferenceWoIdeal.τ).loc Cert.ReferenceWoIdeal.main_arg6)
      ∧ r.2.mem ((c.tc : Thread Cert.ReferenceWoIdeal.nD Cert.ReferenceWoIdeal.τ).loc Cert.ReferenceWoIdeal.main_arg7) = m ((c.tc : Thread Cert.ReferenceWoIdeal.nD Cert.ReferenceWoIdeal.τ).loc Cert.ReferenceWoIdeal.main_arg7)
      ∧ r.2.mem ((c.tc : Thread Cert.ReferenceWoIdeal.nD Cert.ReferenceWoIdeal.τ).loc Cert.ReferenceWoIdeal.main_arg8) = m ((c.tc : Thread Cert.ReferenceWoIdeal.nD Cert.ReferenceWoIdeal.τ).loc Cert.ReferenceWoIdeal.main_arg8))
      ∧ r.2.sem = fun _ => 0)

def quiescent_ReferenceWoIdeal_pre_finite_wo [hReferenceWoIdeal : Cert.ReferenceWoIdeal.Facts] [hPre_finite_wo : Cert.Pre_finite_wo.Facts] : Prop :=
  ∀ (m : (ℓ : Loc Cert.ReferenceWoIdeal.nD Cert.ReferenceWoIdeal.τ Cert.ReferenceWoIdeal.sig) → Buf (Elt Ideal) ℓ) (g : Dev Cert.ReferenceWoIdeal.nD → PrngReg), Pre_ReferenceWoIdeal_finite_wo m →
    θ_run (Cert.ReferenceWoIdeal.defs (F := Ideal)) (onTc (τ := Cert.ReferenceWoIdeal.τ) (Cert.ReferenceWoIdeal.main (F := Ideal))) ⟨m, fun _ => 0, g⟩ (fun r => (∀ c : Dev Cert.ReferenceWoIdeal.nD,
      r.2.mem ((c.tc : Thread Cert.ReferenceWoIdeal.nD Cert.ReferenceWoIdeal.τ).loc Cert.ReferenceWoIdeal.main_arg0) = m ((c.tc : Thread Cert.ReferenceWoIdeal.nD Cert.ReferenceWoIdeal.τ).loc Cert.ReferenceWoIdeal.main_arg0)
      ∧ r.2.mem ((c.tc : Thread Cert.ReferenceWoIdeal.nD Cert.ReferenceWoIdeal.τ).loc Cert.ReferenceWoIdeal.main_arg1) = m ((c.tc : Thread Cert.ReferenceWoIdeal.nD Cert.ReferenceWoIdeal.τ).loc Cert.ReferenceWoIdeal.main_arg1)
      ∧ r.2.mem ((c.tc : Thread Cert.ReferenceWoIdeal.nD Cert.ReferenceWoIdeal.τ).loc Cert.ReferenceWoIdeal.main_arg2) = m ((c.tc : Thread Cert.ReferenceWoIdeal.nD Cert.ReferenceWoIdeal.τ).loc Cert.ReferenceWoIdeal.main_arg2)
      ∧ r.2.mem ((c.tc : Thread Cert.ReferenceWoIdeal.nD Cert.ReferenceWoIdeal.τ).loc Cert.ReferenceWoIdeal.main_arg3) = m ((c.tc : Thread Cert.ReferenceWoIdeal.nD Cert.ReferenceWoIdeal.τ).loc Cert.ReferenceWoIdeal.main_arg3)
      ∧ r.2.mem ((c.tc : Thread Cert.ReferenceWoIdeal.nD Cert.ReferenceWoIdeal.τ).loc Cert.ReferenceWoIdeal.main_arg4) = m ((c.tc : Thread Cert.ReferenceWoIdeal.nD Cert.ReferenceWoIdeal.τ).loc Cert.ReferenceWoIdeal.main_arg4)
      ∧ r.2.mem ((c.tc : Thread Cert.ReferenceWoIdeal.nD Cert.ReferenceWoIdeal.τ).loc Cert.ReferenceWoIdeal.main_arg5) = m ((c.tc : Thread Cert.ReferenceWoIdeal.nD Cert.ReferenceWoIdeal.τ).loc Cert.ReferenceWoIdeal.main_arg5)
      ∧ r.2.mem ((c.tc : Thread Cert.ReferenceWoIdeal.nD Cert.ReferenceWoIdeal.τ).loc Cert.ReferenceWoIdeal.main_arg6) = m ((c.tc : Thread Cert.ReferenceWoIdeal.nD Cert.ReferenceWoIdeal.τ).loc Cert.ReferenceWoIdeal.main_arg6)
      ∧ r.2.mem ((c.tc : Thread Cert.ReferenceWoIdeal.nD Cert.ReferenceWoIdeal.τ).loc Cert.ReferenceWoIdeal.main_arg7) = m ((c.tc : Thread Cert.ReferenceWoIdeal.nD Cert.ReferenceWoIdeal.τ).loc Cert.ReferenceWoIdeal.main_arg7)
      ∧ r.2.mem ((c.tc : Thread Cert.ReferenceWoIdeal.nD Cert.ReferenceWoIdeal.τ).loc Cert.ReferenceWoIdeal.main_arg8) = m ((c.tc : Thread Cert.ReferenceWoIdeal.nD Cert.ReferenceWoIdeal.τ).loc Cert.ReferenceWoIdeal.main_arg8))
      ∧ r.2.sem = fun _ => 0)

def quiescent_KernelDn [hKernelDn : Cert.KernelDn.Facts] : Prop :=
  ∀ (m : (ℓ : Loc Cert.KernelDn.nD Cert.KernelDn.τ Cert.KernelDn.sig) → Buf (Elt Bits) ℓ) (g : Dev Cert.KernelDn.nD → PrngReg), Pre_KernelDn m →
    θ_run (Cert.KernelDn.defs (F := Bits)) (onTc (τ := Cert.KernelDn.τ) (Cert.KernelDn.main (F := Bits))) ⟨m, fun _ => 0, g⟩ (fun r => (∀ c : Dev Cert.KernelDn.nD,
      r.2.mem ((c.tc : Thread Cert.KernelDn.nD Cert.KernelDn.τ).loc Cert.KernelDn.main_arg0) = m ((c.tc : Thread Cert.KernelDn.nD Cert.KernelDn.τ).loc Cert.KernelDn.main_arg0)
      ∧ r.2.mem ((c.tc : Thread Cert.KernelDn.nD Cert.KernelDn.τ).loc Cert.KernelDn.main_arg1) = m ((c.tc : Thread Cert.KernelDn.nD Cert.KernelDn.τ).loc Cert.KernelDn.main_arg1)
      ∧ r.2.mem ((c.tc : Thread Cert.KernelDn.nD Cert.KernelDn.τ).loc Cert.KernelDn.main_arg2) = m ((c.tc : Thread Cert.KernelDn.nD Cert.KernelDn.τ).loc Cert.KernelDn.main_arg2)
      ∧ r.2.mem ((c.tc : Thread Cert.KernelDn.nD Cert.KernelDn.τ).loc Cert.KernelDn.main_arg3) = m ((c.tc : Thread Cert.KernelDn.nD Cert.KernelDn.τ).loc Cert.KernelDn.main_arg3)
      ∧ r.2.mem ((c.tc : Thread Cert.KernelDn.nD Cert.KernelDn.τ).loc Cert.KernelDn.main_arg4) = m ((c.tc : Thread Cert.KernelDn.nD Cert.KernelDn.τ).loc Cert.KernelDn.main_arg4)
      ∧ r.2.mem ((c.tc : Thread Cert.KernelDn.nD Cert.KernelDn.τ).loc Cert.KernelDn.main_arg5) = m ((c.tc : Thread Cert.KernelDn.nD Cert.KernelDn.τ).loc Cert.KernelDn.main_arg5)
      ∧ r.2.mem ((c.tc : Thread Cert.KernelDn.nD Cert.KernelDn.τ).loc Cert.KernelDn.main_arg6) = m ((c.tc : Thread Cert.KernelDn.nD Cert.KernelDn.τ).loc Cert.KernelDn.main_arg6)
      ∧ r.2.mem ((c.tc : Thread Cert.KernelDn.nD Cert.KernelDn.τ).loc Cert.KernelDn.main_arg7) = m ((c.tc : Thread Cert.KernelDn.nD Cert.KernelDn.τ).loc Cert.KernelDn.main_arg7))
      ∧ r.2.sem = fun _ => 0)

def quiescent_KernelDnIdeal [hKernelDnIdeal : Cert.KernelDnIdeal.Facts] : Prop :=
  ∀ (m : (ℓ : Loc Cert.KernelDnIdeal.nD Cert.KernelDnIdeal.τ Cert.KernelDnIdeal.sig) → Buf (Elt Ideal) ℓ) (g : Dev Cert.KernelDnIdeal.nD → PrngReg), Pre_KernelDnIdeal m →
    θ_run (Cert.KernelDnIdeal.defs (F := Ideal)) (onTc (τ := Cert.KernelDnIdeal.τ) (Cert.KernelDnIdeal.main (F := Ideal))) ⟨m, fun _ => 0, g⟩ (fun r => (∀ c : Dev Cert.KernelDnIdeal.nD,
      r.2.mem ((c.tc : Thread Cert.KernelDnIdeal.nD Cert.KernelDnIdeal.τ).loc Cert.KernelDnIdeal.main_arg0) = m ((c.tc : Thread Cert.KernelDnIdeal.nD Cert.KernelDnIdeal.τ).loc Cert.KernelDnIdeal.main_arg0)
      ∧ r.2.mem ((c.tc : Thread Cert.KernelDnIdeal.nD Cert.KernelDnIdeal.τ).loc Cert.KernelDnIdeal.main_arg1) = m ((c.tc : Thread Cert.KernelDnIdeal.nD Cert.KernelDnIdeal.τ).loc Cert.KernelDnIdeal.main_arg1)
      ∧ r.2.mem ((c.tc : Thread Cert.KernelDnIdeal.nD Cert.KernelDnIdeal.τ).loc Cert.KernelDnIdeal.main_arg2) = m ((c.tc : Thread Cert.KernelDnIdeal.nD Cert.KernelDnIdeal.τ).loc Cert.KernelDnIdeal.main_arg2)
      ∧ r.2.mem ((c.tc : Thread Cert.KernelDnIdeal.nD Cert.KernelDnIdeal.τ).loc Cert.KernelDnIdeal.main_arg3) = m ((c.tc : Thread Cert.KernelDnIdeal.nD Cert.KernelDnIdeal.τ).loc Cert.KernelDnIdeal.main_arg3)
      ∧ r.2.mem ((c.tc : Thread Cert.KernelDnIdeal.nD Cert.KernelDnIdeal.τ).loc Cert.KernelDnIdeal.main_arg4) = m ((c.tc : Thread Cert.KernelDnIdeal.nD Cert.KernelDnIdeal.τ).loc Cert.KernelDnIdeal.main_arg4)
      ∧ r.2.mem ((c.tc : Thread Cert.KernelDnIdeal.nD Cert.KernelDnIdeal.τ).loc Cert.KernelDnIdeal.main_arg5) = m ((c.tc : Thread Cert.KernelDnIdeal.nD Cert.KernelDnIdeal.τ).loc Cert.KernelDnIdeal.main_arg5)
      ∧ r.2.mem ((c.tc : Thread Cert.KernelDnIdeal.nD Cert.KernelDnIdeal.τ).loc Cert.KernelDnIdeal.main_arg6) = m ((c.tc : Thread Cert.KernelDnIdeal.nD Cert.KernelDnIdeal.τ).loc Cert.KernelDnIdeal.main_arg6)
      ∧ r.2.mem ((c.tc : Thread Cert.KernelDnIdeal.nD Cert.KernelDnIdeal.τ).loc Cert.KernelDnIdeal.main_arg7) = m ((c.tc : Thread Cert.KernelDnIdeal.nD Cert.KernelDnIdeal.τ).loc Cert.KernelDnIdeal.main_arg7))
      ∧ r.2.sem = fun _ => 0)

def quiescent_KernelDnIdeal_pre_finite_dn [hKernelDnIdeal : Cert.KernelDnIdeal.Facts] [hPre_finite_dn : Cert.Pre_finite_dn.Facts] : Prop :=
  ∀ (m : (ℓ : Loc Cert.KernelDnIdeal.nD Cert.KernelDnIdeal.τ Cert.KernelDnIdeal.sig) → Buf (Elt Ideal) ℓ) (g : Dev Cert.KernelDnIdeal.nD → PrngReg), Pre_KernelDnIdeal_finite_dn m →
    θ_run (Cert.KernelDnIdeal.defs (F := Ideal)) (onTc (τ := Cert.KernelDnIdeal.τ) (Cert.KernelDnIdeal.main (F := Ideal))) ⟨m, fun _ => 0, g⟩ (fun r => (∀ c : Dev Cert.KernelDnIdeal.nD,
      r.2.mem ((c.tc : Thread Cert.KernelDnIdeal.nD Cert.KernelDnIdeal.τ).loc Cert.KernelDnIdeal.main_arg0) = m ((c.tc : Thread Cert.KernelDnIdeal.nD Cert.KernelDnIdeal.τ).loc Cert.KernelDnIdeal.main_arg0)
      ∧ r.2.mem ((c.tc : Thread Cert.KernelDnIdeal.nD Cert.KernelDnIdeal.τ).loc Cert.KernelDnIdeal.main_arg1) = m ((c.tc : Thread Cert.KernelDnIdeal.nD Cert.KernelDnIdeal.τ).loc Cert.KernelDnIdeal.main_arg1)
      ∧ r.2.mem ((c.tc : Thread Cert.KernelDnIdeal.nD Cert.KernelDnIdeal.τ).loc Cert.KernelDnIdeal.main_arg2) = m ((c.tc : Thread Cert.KernelDnIdeal.nD Cert.KernelDnIdeal.τ).loc Cert.KernelDnIdeal.main_arg2)
      ∧ r.2.mem ((c.tc : Thread Cert.KernelDnIdeal.nD Cert.KernelDnIdeal.τ).loc Cert.KernelDnIdeal.main_arg3) = m ((c.tc : Thread Cert.KernelDnIdeal.nD Cert.KernelDnIdeal.τ).loc Cert.KernelDnIdeal.main_arg3)
      ∧ r.2.mem ((c.tc : Thread Cert.KernelDnIdeal.nD Cert.KernelDnIdeal.τ).loc Cert.KernelDnIdeal.main_arg4) = m ((c.tc : Thread Cert.KernelDnIdeal.nD Cert.KernelDnIdeal.τ).loc Cert.KernelDnIdeal.main_arg4)
      ∧ r.2.mem ((c.tc : Thread Cert.KernelDnIdeal.nD Cert.KernelDnIdeal.τ).loc Cert.KernelDnIdeal.main_arg5) = m ((c.tc : Thread Cert.KernelDnIdeal.nD Cert.KernelDnIdeal.τ).loc Cert.KernelDnIdeal.main_arg5)
      ∧ r.2.mem ((c.tc : Thread Cert.KernelDnIdeal.nD Cert.KernelDnIdeal.τ).loc Cert.KernelDnIdeal.main_arg6) = m ((c.tc : Thread Cert.KernelDnIdeal.nD Cert.KernelDnIdeal.τ).loc Cert.KernelDnIdeal.main_arg6)
      ∧ r.2.mem ((c.tc : Thread Cert.KernelDnIdeal.nD Cert.KernelDnIdeal.τ).loc Cert.KernelDnIdeal.main_arg7) = m ((c.tc : Thread Cert.KernelDnIdeal.nD Cert.KernelDnIdeal.τ).loc Cert.KernelDnIdeal.main_arg7))
      ∧ r.2.sem = fun _ => 0)

def quiescent_ReferenceDnIdeal [hReferenceDnIdeal : Cert.ReferenceDnIdeal.Facts] : Prop :=
  ∀ (m : (ℓ : Loc Cert.ReferenceDnIdeal.nD Cert.ReferenceDnIdeal.τ Cert.ReferenceDnIdeal.sig) → Buf (Elt Ideal) ℓ) (g : Dev Cert.ReferenceDnIdeal.nD → PrngReg), Pre_ReferenceDnIdeal m →
    θ_run (Cert.ReferenceDnIdeal.defs (F := Ideal)) (onTc (τ := Cert.ReferenceDnIdeal.τ) (Cert.ReferenceDnIdeal.main (F := Ideal))) ⟨m, fun _ => 0, g⟩ (fun r => (∀ c : Dev Cert.ReferenceDnIdeal.nD,
      r.2.mem ((c.tc : Thread Cert.ReferenceDnIdeal.nD Cert.ReferenceDnIdeal.τ).loc Cert.ReferenceDnIdeal.main_arg0) = m ((c.tc : Thread Cert.ReferenceDnIdeal.nD Cert.ReferenceDnIdeal.τ).loc Cert.ReferenceDnIdeal.main_arg0)
      ∧ r.2.mem ((c.tc : Thread Cert.ReferenceDnIdeal.nD Cert.ReferenceDnIdeal.τ).loc Cert.ReferenceDnIdeal.main_arg1) = m ((c.tc : Thread Cert.ReferenceDnIdeal.nD Cert.ReferenceDnIdeal.τ).loc Cert.ReferenceDnIdeal.main_arg1)
      ∧ r.2.mem ((c.tc : Thread Cert.ReferenceDnIdeal.nD Cert.ReferenceDnIdeal.τ).loc Cert.ReferenceDnIdeal.main_arg2) = m ((c.tc : Thread Cert.ReferenceDnIdeal.nD Cert.ReferenceDnIdeal.τ).loc Cert.ReferenceDnIdeal.main_arg2)
      ∧ r.2.mem ((c.tc : Thread Cert.ReferenceDnIdeal.nD Cert.ReferenceDnIdeal.τ).loc Cert.ReferenceDnIdeal.main_arg3) = m ((c.tc : Thread Cert.ReferenceDnIdeal.nD Cert.ReferenceDnIdeal.τ).loc Cert.ReferenceDnIdeal.main_arg3)
      ∧ r.2.mem ((c.tc : Thread Cert.ReferenceDnIdeal.nD Cert.ReferenceDnIdeal.τ).loc Cert.ReferenceDnIdeal.main_arg4) = m ((c.tc : Thread Cert.ReferenceDnIdeal.nD Cert.ReferenceDnIdeal.τ).loc Cert.ReferenceDnIdeal.main_arg4)
      ∧ r.2.mem ((c.tc : Thread Cert.ReferenceDnIdeal.nD Cert.ReferenceDnIdeal.τ).loc Cert.ReferenceDnIdeal.main_arg5) = m ((c.tc : Thread Cert.ReferenceDnIdeal.nD Cert.ReferenceDnIdeal.τ).loc Cert.ReferenceDnIdeal.main_arg5)
      ∧ r.2.mem ((c.tc : Thread Cert.ReferenceDnIdeal.nD Cert.ReferenceDnIdeal.τ).loc Cert.ReferenceDnIdeal.main_arg6) = m ((c.tc : Thread Cert.ReferenceDnIdeal.nD Cert.ReferenceDnIdeal.τ).loc Cert.ReferenceDnIdeal.main_arg6)
      ∧ r.2.mem ((c.tc : Thread Cert.ReferenceDnIdeal.nD Cert.ReferenceDnIdeal.τ).loc Cert.ReferenceDnIdeal.main_arg7) = m ((c.tc : Thread Cert.ReferenceDnIdeal.nD Cert.ReferenceDnIdeal.τ).loc Cert.ReferenceDnIdeal.main_arg7))
      ∧ r.2.sem = fun _ => 0)

def quiescent_ReferenceDnIdeal_pre_finite_dn [hReferenceDnIdeal : Cert.ReferenceDnIdeal.Facts] [hPre_finite_dn : Cert.Pre_finite_dn.Facts] : Prop :=
  ∀ (m : (ℓ : Loc Cert.ReferenceDnIdeal.nD Cert.ReferenceDnIdeal.τ Cert.ReferenceDnIdeal.sig) → Buf (Elt Ideal) ℓ) (g : Dev Cert.ReferenceDnIdeal.nD → PrngReg), Pre_ReferenceDnIdeal_finite_dn m →
    θ_run (Cert.ReferenceDnIdeal.defs (F := Ideal)) (onTc (τ := Cert.ReferenceDnIdeal.τ) (Cert.ReferenceDnIdeal.main (F := Ideal))) ⟨m, fun _ => 0, g⟩ (fun r => (∀ c : Dev Cert.ReferenceDnIdeal.nD,
      r.2.mem ((c.tc : Thread Cert.ReferenceDnIdeal.nD Cert.ReferenceDnIdeal.τ).loc Cert.ReferenceDnIdeal.main_arg0) = m ((c.tc : Thread Cert.ReferenceDnIdeal.nD Cert.ReferenceDnIdeal.τ).loc Cert.ReferenceDnIdeal.main_arg0)
      ∧ r.2.mem ((c.tc : Thread Cert.ReferenceDnIdeal.nD Cert.ReferenceDnIdeal.τ).loc Cert.ReferenceDnIdeal.main_arg1) = m ((c.tc : Thread Cert.ReferenceDnIdeal.nD Cert.ReferenceDnIdeal.τ).loc Cert.ReferenceDnIdeal.main_arg1)
      ∧ r.2.mem ((c.tc : Thread Cert.ReferenceDnIdeal.nD Cert.ReferenceDnIdeal.τ).loc Cert.ReferenceDnIdeal.main_arg2) = m ((c.tc : Thread Cert.ReferenceDnIdeal.nD Cert.ReferenceDnIdeal.τ).loc Cert.ReferenceDnIdeal.main_arg2)
      ∧ r.2.mem ((c.tc : Thread Cert.ReferenceDnIdeal.nD Cert.ReferenceDnIdeal.τ).loc Cert.ReferenceDnIdeal.main_arg3) = m ((c.tc : Thread Cert.ReferenceDnIdeal.nD Cert.ReferenceDnIdeal.τ).loc Cert.ReferenceDnIdeal.main_arg3)
      ∧ r.2.mem ((c.tc : Thread Cert.ReferenceDnIdeal.nD Cert.ReferenceDnIdeal.τ).loc Cert.ReferenceDnIdeal.main_arg4) = m ((c.tc : Thread Cert.ReferenceDnIdeal.nD Cert.ReferenceDnIdeal.τ).loc Cert.ReferenceDnIdeal.main_arg4)
      ∧ r.2.mem ((c.tc : Thread Cert.ReferenceDnIdeal.nD Cert.ReferenceDnIdeal.τ).loc Cert.ReferenceDnIdeal.main_arg5) = m ((c.tc : Thread Cert.ReferenceDnIdeal.nD Cert.ReferenceDnIdeal.τ).loc Cert.ReferenceDnIdeal.main_arg5)
      ∧ r.2.mem ((c.tc : Thread Cert.ReferenceDnIdeal.nD Cert.ReferenceDnIdeal.τ).loc Cert.ReferenceDnIdeal.main_arg6) = m ((c.tc : Thread Cert.ReferenceDnIdeal.nD Cert.ReferenceDnIdeal.τ).loc Cert.ReferenceDnIdeal.main_arg6)
      ∧ r.2.mem ((c.tc : Thread Cert.ReferenceDnIdeal.nD Cert.ReferenceDnIdeal.τ).loc Cert.ReferenceDnIdeal.main_arg7) = m ((c.tc : Thread Cert.ReferenceDnIdeal.nD Cert.ReferenceDnIdeal.τ).loc Cert.ReferenceDnIdeal.main_arg7))
      ∧ r.2.sem = fun _ => 0)

def quiescent_KernelMf [hKernelMf : Cert.KernelMf.Facts] : Prop :=
  ∀ (m : (ℓ : Loc Cert.KernelMf.nD Cert.KernelMf.τ Cert.KernelMf.sig) → Buf (Elt Bits) ℓ) (g : Dev Cert.KernelMf.nD → PrngReg), Pre_KernelMf m →
    θ_run (Cert.KernelMf.defs (F := Bits)) (onTc (τ := Cert.KernelMf.τ) (Cert.KernelMf.main (F := Bits))) ⟨m, fun _ => 0, g⟩ (fun r => (∀ c : Dev Cert.KernelMf.nD,
      r.2.mem ((c.tc : Thread Cert.KernelMf.nD Cert.KernelMf.τ).loc Cert.KernelMf.main_arg0) = m ((c.tc : Thread Cert.KernelMf.nD Cert.KernelMf.τ).loc Cert.KernelMf.main_arg0)
      ∧ r.2.mem ((c.tc : Thread Cert.KernelMf.nD Cert.KernelMf.τ).loc Cert.KernelMf.main_arg1) = m ((c.tc : Thread Cert.KernelMf.nD Cert.KernelMf.τ).loc Cert.KernelMf.main_arg1)
      ∧ r.2.mem ((c.tc : Thread Cert.KernelMf.nD Cert.KernelMf.τ).loc Cert.KernelMf.main_arg2) = m ((c.tc : Thread Cert.KernelMf.nD Cert.KernelMf.τ).loc Cert.KernelMf.main_arg2)
      ∧ r.2.mem ((c.tc : Thread Cert.KernelMf.nD Cert.KernelMf.τ).loc Cert.KernelMf.main_arg3) = m ((c.tc : Thread Cert.KernelMf.nD Cert.KernelMf.τ).loc Cert.KernelMf.main_arg3)
      ∧ r.2.mem ((c.tc : Thread Cert.KernelMf.nD Cert.KernelMf.τ).loc Cert.KernelMf.main_arg4) = m ((c.tc : Thread Cert.KernelMf.nD Cert.KernelMf.τ).loc Cert.KernelMf.main_arg4)
      ∧ r.2.mem ((c.tc : Thread Cert.KernelMf.nD Cert.KernelMf.τ).loc Cert.KernelMf.main_arg5) = m ((c.tc : Thread Cert.KernelMf.nD Cert.KernelMf.τ).loc Cert.KernelMf.main_arg5)
      ∧ r.2.mem ((c.tc : Thread Cert.KernelMf.nD Cert.KernelMf.τ).loc Cert.KernelMf.main_arg6) = m ((c.tc : Thread Cert.KernelMf.nD Cert.KernelMf.τ).loc Cert.KernelMf.main_arg6))
      ∧ r.2.sem = fun _ => 0)

def quiescent_KernelMfIdeal [hKernelMfIdeal : Cert.KernelMfIdeal.Facts] : Prop :=
  ∀ (m : (ℓ : Loc Cert.KernelMfIdeal.nD Cert.KernelMfIdeal.τ Cert.KernelMfIdeal.sig) → Buf (Elt Ideal) ℓ) (g : Dev Cert.KernelMfIdeal.nD → PrngReg), Pre_KernelMfIdeal m →
    θ_run (Cert.KernelMfIdeal.defs (F := Ideal)) (onTc (τ := Cert.KernelMfIdeal.τ) (Cert.KernelMfIdeal.main (F := Ideal))) ⟨m, fun _ => 0, g⟩ (fun r => (∀ c : Dev Cert.KernelMfIdeal.nD,
      r.2.mem ((c.tc : Thread Cert.KernelMfIdeal.nD Cert.KernelMfIdeal.τ).loc Cert.KernelMfIdeal.main_arg0) = m ((c.tc : Thread Cert.KernelMfIdeal.nD Cert.KernelMfIdeal.τ).loc Cert.KernelMfIdeal.main_arg0)
      ∧ r.2.mem ((c.tc : Thread Cert.KernelMfIdeal.nD Cert.KernelMfIdeal.τ).loc Cert.KernelMfIdeal.main_arg1) = m ((c.tc : Thread Cert.KernelMfIdeal.nD Cert.KernelMfIdeal.τ).loc Cert.KernelMfIdeal.main_arg1)
      ∧ r.2.mem ((c.tc : Thread Cert.KernelMfIdeal.nD Cert.KernelMfIdeal.τ).loc Cert.KernelMfIdeal.main_arg2) = m ((c.tc : Thread Cert.KernelMfIdeal.nD Cert.KernelMfIdeal.τ).loc Cert.KernelMfIdeal.main_arg2)
      ∧ r.2.mem ((c.tc : Thread Cert.KernelMfIdeal.nD Cert.KernelMfIdeal.τ).loc Cert.KernelMfIdeal.main_arg3) = m ((c.tc : Thread Cert.KernelMfIdeal.nD Cert.KernelMfIdeal.τ).loc Cert.KernelMfIdeal.main_arg3)
      ∧ r.2.mem ((c.tc : Thread Cert.KernelMfIdeal.nD Cert.KernelMfIdeal.τ).loc Cert.KernelMfIdeal.main_arg4) = m ((c.tc : Thread Cert.KernelMfIdeal.nD Cert.KernelMfIdeal.τ).loc Cert.KernelMfIdeal.main_arg4)
      ∧ r.2.mem ((c.tc : Thread Cert.KernelMfIdeal.nD Cert.KernelMfIdeal.τ).loc Cert.KernelMfIdeal.main_arg5) = m ((c.tc : Thread Cert.KernelMfIdeal.nD Cert.KernelMfIdeal.τ).loc Cert.KernelMfIdeal.main_arg5)
      ∧ r.2.mem ((c.tc : Thread Cert.KernelMfIdeal.nD Cert.KernelMfIdeal.τ).loc Cert.KernelMfIdeal.main_arg6) = m ((c.tc : Thread Cert.KernelMfIdeal.nD Cert.KernelMfIdeal.τ).loc Cert.KernelMfIdeal.main_arg6))
      ∧ r.2.sem = fun _ => 0)

def quiescent_KernelMfIdeal_pre_finite_mf [hKernelMfIdeal : Cert.KernelMfIdeal.Facts] [hPre_finite_mf : Cert.Pre_finite_mf.Facts] : Prop :=
  ∀ (m : (ℓ : Loc Cert.KernelMfIdeal.nD Cert.KernelMfIdeal.τ Cert.KernelMfIdeal.sig) → Buf (Elt Ideal) ℓ) (g : Dev Cert.KernelMfIdeal.nD → PrngReg), Pre_KernelMfIdeal_finite_mf m →
    θ_run (Cert.KernelMfIdeal.defs (F := Ideal)) (onTc (τ := Cert.KernelMfIdeal.τ) (Cert.KernelMfIdeal.main (F := Ideal))) ⟨m, fun _ => 0, g⟩ (fun r => (∀ c : Dev Cert.KernelMfIdeal.nD,
      r.2.mem ((c.tc : Thread Cert.KernelMfIdeal.nD Cert.KernelMfIdeal.τ).loc Cert.KernelMfIdeal.main_arg0) = m ((c.tc : Thread Cert.KernelMfIdeal.nD Cert.KernelMfIdeal.τ).loc Cert.KernelMfIdeal.main_arg0)
      ∧ r.2.mem ((c.tc : Thread Cert.KernelMfIdeal.nD Cert.KernelMfIdeal.τ).loc Cert.KernelMfIdeal.main_arg1) = m ((c.tc : Thread Cert.KernelMfIdeal.nD Cert.KernelMfIdeal.τ).loc Cert.KernelMfIdeal.main_arg1)
      ∧ r.2.mem ((c.tc : Thread Cert.KernelMfIdeal.nD Cert.KernelMfIdeal.τ).loc Cert.KernelMfIdeal.main_arg2) = m ((c.tc : Thread Cert.KernelMfIdeal.nD Cert.KernelMfIdeal.τ).loc Cert.KernelMfIdeal.main_arg2)
      ∧ r.2.mem ((c.tc : Thread Cert.KernelMfIdeal.nD Cert.KernelMfIdeal.τ).loc Cert.KernelMfIdeal.main_arg3) = m ((c.tc : Thread Cert.KernelMfIdeal.nD Cert.KernelMfIdeal.τ).loc Cert.KernelMfIdeal.main_arg3)
      ∧ r.2.mem ((c.tc : Thread Cert.KernelMfIdeal.nD Cert.KernelMfIdeal.τ).loc Cert.KernelMfIdeal.main_arg4) = m ((c.tc : Thread Cert.KernelMfIdeal.nD Cert.KernelMfIdeal.τ).loc Cert.KernelMfIdeal.main_arg4)
      ∧ r.2.mem ((c.tc : Thread Cert.KernelMfIdeal.nD Cert.KernelMfIdeal.τ).loc Cert.KernelMfIdeal.main_arg5) = m ((c.tc : Thread Cert.KernelMfIdeal.nD Cert.KernelMfIdeal.τ).loc Cert.KernelMfIdeal.main_arg5)
      ∧ r.2.mem ((c.tc : Thread Cert.KernelMfIdeal.nD Cert.KernelMfIdeal.τ).loc Cert.KernelMfIdeal.main_arg6) = m ((c.tc : Thread Cert.KernelMfIdeal.nD Cert.KernelMfIdeal.τ).loc Cert.KernelMfIdeal.main_arg6))
      ∧ r.2.sem = fun _ => 0)

def quiescent_ReferenceMfIdeal [hReferenceMfIdeal : Cert.ReferenceMfIdeal.Facts] : Prop :=
  ∀ (m : (ℓ : Loc Cert.ReferenceMfIdeal.nD Cert.ReferenceMfIdeal.τ Cert.ReferenceMfIdeal.sig) → Buf (Elt Ideal) ℓ) (g : Dev Cert.ReferenceMfIdeal.nD → PrngReg), Pre_ReferenceMfIdeal m →
    θ_run (Cert.ReferenceMfIdeal.defs (F := Ideal)) (onTc (τ := Cert.ReferenceMfIdeal.τ) (Cert.ReferenceMfIdeal.main (F := Ideal))) ⟨m, fun _ => 0, g⟩ (fun r => (∀ c : Dev Cert.ReferenceMfIdeal.nD,
      r.2.mem ((c.tc : Thread Cert.ReferenceMfIdeal.nD Cert.ReferenceMfIdeal.τ).loc Cert.ReferenceMfIdeal.main_arg0) = m ((c.tc : Thread Cert.ReferenceMfIdeal.nD Cert.ReferenceMfIdeal.τ).loc Cert.ReferenceMfIdeal.main_arg0)
      ∧ r.2.mem ((c.tc : Thread Cert.ReferenceMfIdeal.nD Cert.ReferenceMfIdeal.τ).loc Cert.ReferenceMfIdeal.main_arg1) = m ((c.tc : Thread Cert.ReferenceMfIdeal.nD Cert.ReferenceMfIdeal.τ).loc Cert.ReferenceMfIdeal.main_arg1)
      ∧ r.2.mem ((c.tc : Thread Cert.ReferenceMfIdeal.nD Cert.ReferenceMfIdeal.τ).loc Cert.ReferenceMfIdeal.main_arg2) = m ((c.tc : Thread Cert.ReferenceMfIdeal.nD Cert.ReferenceMfIdeal.τ).loc Cert.ReferenceMfIdeal.main_arg2)
      ∧ r.2.mem ((c.tc : Thread Cert.ReferenceMfIdeal.nD Cert.ReferenceMfIdeal.τ).loc Cert.ReferenceMfIdeal.main_arg3) = m ((c.tc : Thread Cert.ReferenceMfIdeal.nD Cert.ReferenceMfIdeal.τ).loc Cert.ReferenceMfIdeal.main_arg3)
      ∧ r.2.mem ((c.tc : Thread Cert.ReferenceMfIdeal.nD Cert.ReferenceMfIdeal.τ).loc Cert.ReferenceMfIdeal.main_arg4) = m ((c.tc : Thread Cert.ReferenceMfIdeal.nD Cert.ReferenceMfIdeal.τ).loc Cert.ReferenceMfIdeal.main_arg4)
      ∧ r.2.mem ((c.tc : Thread Cert.ReferenceMfIdeal.nD Cert.ReferenceMfIdeal.τ).loc Cert.ReferenceMfIdeal.main_arg5) = m ((c.tc : Thread Cert.ReferenceMfIdeal.nD Cert.ReferenceMfIdeal.τ).loc Cert.ReferenceMfIdeal.main_arg5)
      ∧ r.2.mem ((c.tc : Thread Cert.ReferenceMfIdeal.nD Cert.ReferenceMfIdeal.τ).loc Cert.ReferenceMfIdeal.main_arg6) = m ((c.tc : Thread Cert.ReferenceMfIdeal.nD Cert.ReferenceMfIdeal.τ).loc Cert.ReferenceMfIdeal.main_arg6))
      ∧ r.2.sem = fun _ => 0)

def quiescent_ReferenceMfIdeal_pre_finite_mf [hReferenceMfIdeal : Cert.ReferenceMfIdeal.Facts] [hPre_finite_mf : Cert.Pre_finite_mf.Facts] : Prop :=
  ∀ (m : (ℓ : Loc Cert.ReferenceMfIdeal.nD Cert.ReferenceMfIdeal.τ Cert.ReferenceMfIdeal.sig) → Buf (Elt Ideal) ℓ) (g : Dev Cert.ReferenceMfIdeal.nD → PrngReg), Pre_ReferenceMfIdeal_finite_mf m →
    θ_run (Cert.ReferenceMfIdeal.defs (F := Ideal)) (onTc (τ := Cert.ReferenceMfIdeal.τ) (Cert.ReferenceMfIdeal.main (F := Ideal))) ⟨m, fun _ => 0, g⟩ (fun r => (∀ c : Dev Cert.ReferenceMfIdeal.nD,
      r.2.mem ((c.tc : Thread Cert.ReferenceMfIdeal.nD Cert.ReferenceMfIdeal.τ).loc Cert.ReferenceMfIdeal.main_arg0) = m ((c.tc : Thread Cert.ReferenceMfIdeal.nD Cert.ReferenceMfIdeal.τ).loc Cert.ReferenceMfIdeal.main_arg0)
      ∧ r.2.mem ((c.tc : Thread Cert.ReferenceMfIdeal.nD Cert.ReferenceMfIdeal.τ).loc Cert.ReferenceMfIdeal.main_arg1) = m ((c.tc : Thread Cert.ReferenceMfIdeal.nD Cert.ReferenceMfIdeal.τ).loc Cert.ReferenceMfIdeal.main_arg1)
      ∧ r.2.mem ((c.tc : Thread Cert.ReferenceMfIdeal.nD Cert.ReferenceMfIdeal.τ).loc Cert.ReferenceMfIdeal.main_arg2) = m ((c.tc : Thread Cert.ReferenceMfIdeal.nD Cert.ReferenceMfIdeal.τ).loc Cert.ReferenceMfIdeal.main_arg2)
      ∧ r.2.mem ((c.tc : Thread Cert.ReferenceMfIdeal.nD Cert.ReferenceMfIdeal.τ).loc Cert.ReferenceMfIdeal.main_arg3) = m ((c.tc : Thread Cert.ReferenceMfIdeal.nD Cert.ReferenceMfIdeal.τ).loc Cert.ReferenceMfIdeal.main_arg3)
      ∧ r.2.mem ((c.tc : Thread Cert.ReferenceMfIdeal.nD Cert.ReferenceMfIdeal.τ).loc Cert.ReferenceMfIdeal.main_arg4) = m ((c.tc : Thread Cert.ReferenceMfIdeal.nD Cert.ReferenceMfIdeal.τ).loc Cert.ReferenceMfIdeal.main_arg4)
      ∧ r.2.mem ((c.tc : Thread Cert.ReferenceMfIdeal.nD Cert.ReferenceMfIdeal.τ).loc Cert.ReferenceMfIdeal.main_arg5) = m ((c.tc : Thread Cert.ReferenceMfIdeal.nD Cert.ReferenceMfIdeal.τ).loc Cert.ReferenceMfIdeal.main_arg5)
      ∧ r.2.mem ((c.tc : Thread Cert.ReferenceMfIdeal.nD Cert.ReferenceMfIdeal.τ).loc Cert.ReferenceMfIdeal.main_arg6) = m ((c.tc : Thread Cert.ReferenceMfIdeal.nD Cert.ReferenceMfIdeal.τ).loc Cert.ReferenceMfIdeal.main_arg6))
      ∧ r.2.sem = fun _ => 0)

def quiescent_KernelDx [hKernelDx : Cert.KernelDx.Facts] : Prop :=
  ∀ (m : (ℓ : Loc Cert.KernelDx.nD Cert.KernelDx.τ Cert.KernelDx.sig) → Buf (Elt Bits) ℓ) (g : Dev Cert.KernelDx.nD → PrngReg), Pre_KernelDx m →
    θ_run (Cert.KernelDx.defs (F := Bits)) (onTc (τ := Cert.KernelDx.τ) (Cert.KernelDx.main (F := Bits))) ⟨m, fun _ => 0, g⟩ (fun r => (∀ c : Dev Cert.KernelDx.nD,
      r.2.mem ((c.tc : Thread Cert.KernelDx.nD Cert.KernelDx.τ).loc Cert.KernelDx.main_arg0) = m ((c.tc : Thread Cert.KernelDx.nD Cert.KernelDx.τ).loc Cert.KernelDx.main_arg0)
      ∧ r.2.mem ((c.tc : Thread Cert.KernelDx.nD Cert.KernelDx.τ).loc Cert.KernelDx.main_arg1) = m ((c.tc : Thread Cert.KernelDx.nD Cert.KernelDx.τ).loc Cert.KernelDx.main_arg1)
      ∧ r.2.mem ((c.tc : Thread Cert.KernelDx.nD Cert.KernelDx.τ).loc Cert.KernelDx.main_arg2) = m ((c.tc : Thread Cert.KernelDx.nD Cert.KernelDx.τ).loc Cert.KernelDx.main_arg2)
      ∧ r.2.mem ((c.tc : Thread Cert.KernelDx.nD Cert.KernelDx.τ).loc Cert.KernelDx.main_arg3) = m ((c.tc : Thread Cert.KernelDx.nD Cert.KernelDx.τ).loc Cert.KernelDx.main_arg3))
      ∧ r.2.sem = fun _ => 0)

def quiescent_KernelDxIdeal [hKernelDxIdeal : Cert.KernelDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg), Pre_KernelDxIdeal m →
    θ_run (Cert.KernelDxIdeal.defs (F := Ideal)) (onTc (τ := Cert.KernelDxIdeal.τ) (Cert.KernelDxIdeal.main (F := Ideal))) ⟨m, fun _ => 0, g⟩ (fun r => (∀ c : Dev Cert.KernelDxIdeal.nD,
      r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
      ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
      ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
      ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3))
      ∧ r.2.sem = fun _ => 0)

def quiescent_ReferenceDxIdeal [hReferenceDxIdeal : Cert.ReferenceDxIdeal.Facts] : Prop :=
  ∀ (m : (ℓ : Loc Cert.ReferenceDxIdeal.nD Cert.ReferenceDxIdeal.τ Cert.ReferenceDxIdeal.sig) → Buf (Elt Ideal) ℓ) (g : Dev Cert.ReferenceDxIdeal.nD → PrngReg), Pre_ReferenceDxIdeal m →
    θ_run (Cert.ReferenceDxIdeal.defs (F := Ideal)) (onTc (τ := Cert.ReferenceDxIdeal.τ) (Cert.ReferenceDxIdeal.main (F := Ideal))) ⟨m, fun _ => 0, g⟩ (fun r => (∀ c : Dev Cert.ReferenceDxIdeal.nD,
      r.2.mem ((c.tc : Thread Cert.ReferenceDxIdeal.nD Cert.ReferenceDxIdeal.τ).loc Cert.ReferenceDxIdeal.main_arg0) = m ((c.tc : Thread Cert.ReferenceDxIdeal.nD Cert.ReferenceDxIdeal.τ).loc Cert.ReferenceDxIdeal.main_arg0)
      ∧ r.2.mem ((c.tc : Thread Cert.ReferenceDxIdeal.nD Cert.ReferenceDxIdeal.τ).loc Cert.ReferenceDxIdeal.main_arg1) = m ((c.tc : Thread Cert.ReferenceDxIdeal.nD Cert.ReferenceDxIdeal.τ).loc Cert.ReferenceDxIdeal.main_arg1)
      ∧ r.2.mem ((c.tc : Thread Cert.ReferenceDxIdeal.nD Cert.ReferenceDxIdeal.τ).loc Cert.ReferenceDxIdeal.main_arg2) = m ((c.tc : Thread Cert.ReferenceDxIdeal.nD Cert.ReferenceDxIdeal.τ).loc Cert.ReferenceDxIdeal.main_arg2)
      ∧ r.2.mem ((c.tc : Thread Cert.ReferenceDxIdeal.nD Cert.ReferenceDxIdeal.τ).loc Cert.ReferenceDxIdeal.main_arg3) = m ((c.tc : Thread Cert.ReferenceDxIdeal.nD Cert.ReferenceDxIdeal.τ).loc Cert.ReferenceDxIdeal.main_arg3))
      ∧ r.2.sem = fun _ => 0)

def quiescent_KernelDd [hKernelDd : Cert.KernelDd.Facts] : Prop :=
  ∀ (m : (ℓ : Loc Cert.KernelDd.nD Cert.KernelDd.τ Cert.KernelDd.sig) → Buf (Elt Bits) ℓ) (g : Dev Cert.KernelDd.nD → PrngReg), Pre_KernelDd m →
    θ_run (Cert.KernelDd.defs (F := Bits)) (onTc (τ := Cert.KernelDd.τ) (Cert.KernelDd.main (F := Bits))) ⟨m, fun _ => 0, g⟩ (fun r => (∀ c : Dev Cert.KernelDd.nD,
      r.2.mem ((c.tc : Thread Cert.KernelDd.nD Cert.KernelDd.τ).loc Cert.KernelDd.main_arg0) = m ((c.tc : Thread Cert.KernelDd.nD Cert.KernelDd.τ).loc Cert.KernelDd.main_arg0)
      ∧ r.2.mem ((c.tc : Thread Cert.KernelDd.nD Cert.KernelDd.τ).loc Cert.KernelDd.main_arg1) = m ((c.tc : Thread Cert.KernelDd.nD Cert.KernelDd.τ).loc Cert.KernelDd.main_arg1)
      ∧ r.2.mem ((c.tc : Thread Cert.KernelDd.nD Cert.KernelDd.τ).loc Cert.KernelDd.main_arg2) = m ((c.tc : Thread Cert.KernelDd.nD Cert.KernelDd.τ).loc Cert.KernelDd.main_arg2))
      ∧ r.2.sem = fun _ => 0)

def quiescent_KernelDdIdeal [hKernelDdIdeal : Cert.KernelDdIdeal.Facts] : Prop :=
  ∀ (m : (ℓ : Loc Cert.KernelDdIdeal.nD Cert.KernelDdIdeal.τ Cert.KernelDdIdeal.sig) → Buf (Elt Ideal) ℓ) (g : Dev Cert.KernelDdIdeal.nD → PrngReg), Pre_KernelDdIdeal m →
    θ_run (Cert.KernelDdIdeal.defs (F := Ideal)) (onTc (τ := Cert.KernelDdIdeal.τ) (Cert.KernelDdIdeal.main (F := Ideal))) ⟨m, fun _ => 0, g⟩ (fun r => (∀ c : Dev Cert.KernelDdIdeal.nD,
      r.2.mem ((c.tc : Thread Cert.KernelDdIdeal.nD Cert.KernelDdIdeal.τ).loc Cert.KernelDdIdeal.main_arg0) = m ((c.tc : Thread Cert.KernelDdIdeal.nD Cert.KernelDdIdeal.τ).loc Cert.KernelDdIdeal.main_arg0)
      ∧ r.2.mem ((c.tc : Thread Cert.KernelDdIdeal.nD Cert.KernelDdIdeal.τ).loc Cert.KernelDdIdeal.main_arg1) = m ((c.tc : Thread Cert.KernelDdIdeal.nD Cert.KernelDdIdeal.τ).loc Cert.KernelDdIdeal.main_arg1)
      ∧ r.2.mem ((c.tc : Thread Cert.KernelDdIdeal.nD Cert.KernelDdIdeal.τ).loc Cert.KernelDdIdeal.main_arg2) = m ((c.tc : Thread Cert.KernelDdIdeal.nD Cert.KernelDdIdeal.τ).loc Cert.KernelDdIdeal.main_arg2))
      ∧ r.2.sem = fun _ => 0)

def quiescent_ReferenceDdIdeal [hReferenceDdIdeal : Cert.ReferenceDdIdeal.Facts] : Prop :=
  ∀ (m : (ℓ : Loc Cert.ReferenceDdIdeal.nD Cert.ReferenceDdIdeal.τ Cert.ReferenceDdIdeal.sig) → Buf (Elt Ideal) ℓ) (g : Dev Cert.ReferenceDdIdeal.nD → PrngReg), Pre_ReferenceDdIdeal m →
    θ_run (Cert.ReferenceDdIdeal.defs (F := Ideal)) (onTc (τ := Cert.ReferenceDdIdeal.τ) (Cert.ReferenceDdIdeal.main (F := Ideal))) ⟨m, fun _ => 0, g⟩ (fun r => (∀ c : Dev Cert.ReferenceDdIdeal.nD,
      r.2.mem ((c.tc : Thread Cert.ReferenceDdIdeal.nD Cert.ReferenceDdIdeal.τ).loc Cert.ReferenceDdIdeal.main_arg0) = m ((c.tc : Thread Cert.ReferenceDdIdeal.nD Cert.ReferenceDdIdeal.τ).loc Cert.ReferenceDdIdeal.main_arg0)
      ∧ r.2.mem ((c.tc : Thread Cert.ReferenceDdIdeal.nD Cert.ReferenceDdIdeal.τ).loc Cert.ReferenceDdIdeal.main_arg1) = m ((c.tc : Thread Cert.ReferenceDdIdeal.nD Cert.ReferenceDdIdeal.τ).loc Cert.ReferenceDdIdeal.main_arg1)
      ∧ r.2.mem ((c.tc : Thread Cert.ReferenceDdIdeal.nD Cert.ReferenceDdIdeal.τ).loc Cert.ReferenceDdIdeal.main_arg2) = m ((c.tc : Thread Cert.ReferenceDdIdeal.nD Cert.ReferenceDdIdeal.τ).loc Cert.ReferenceDdIdeal.main_arg2))
      ∧ r.2.sem = fun _ => 0)

def quiescent_KernelDg [hKernelDg : Cert.KernelDg.Facts] : Prop :=
  ∀ (m : (ℓ : Loc Cert.KernelDg.nD Cert.KernelDg.τ Cert.KernelDg.sig) → Buf (Elt Bits) ℓ) (g : Dev Cert.KernelDg.nD → PrngReg), Pre_KernelDg m →
    θ_run (Cert.KernelDg.defs (F := Bits)) (onTc (τ := Cert.KernelDg.τ) (Cert.KernelDg.main (F := Bits))) ⟨m, fun _ => 0, g⟩ (fun r => (∀ c : Dev Cert.KernelDg.nD,
      r.2.mem ((c.tc : Thread Cert.KernelDg.nD Cert.KernelDg.τ).loc Cert.KernelDg.main_arg0) = m ((c.tc : Thread Cert.KernelDg.nD Cert.KernelDg.τ).loc Cert.KernelDg.main_arg0)
      ∧ r.2.mem ((c.tc : Thread Cert.KernelDg.nD Cert.KernelDg.τ).loc Cert.KernelDg.main_arg1) = m ((c.tc : Thread Cert.KernelDg.nD Cert.KernelDg.τ).loc Cert.KernelDg.main_arg1)
      ∧ r.2.mem ((c.tc : Thread Cert.KernelDg.nD Cert.KernelDg.τ).loc Cert.KernelDg.main_arg2) = m ((c.tc : Thread Cert.KernelDg.nD Cert.KernelDg.τ).loc Cert.KernelDg.main_arg2)
      ∧ r.2.mem ((c.tc : Thread Cert.KernelDg.nD Cert.KernelDg.τ).loc Cert.KernelDg.main_arg3) = m ((c.tc : Thread Cert.KernelDg.nD Cert.KernelDg.τ).loc Cert.KernelDg.main_arg3))
      ∧ r.2.sem = fun _ => 0)

def quiescent_KernelDgIdeal [hKernelDgIdeal : Cert.KernelDgIdeal.Facts] : Prop :=
  ∀ (m : (ℓ : Loc Cert.KernelDgIdeal.nD Cert.KernelDgIdeal.τ Cert.KernelDgIdeal.sig) → Buf (Elt Ideal) ℓ) (g : Dev Cert.KernelDgIdeal.nD → PrngReg), Pre_KernelDgIdeal m →
    θ_run (Cert.KernelDgIdeal.defs (F := Ideal)) (onTc (τ := Cert.KernelDgIdeal.τ) (Cert.KernelDgIdeal.main (F := Ideal))) ⟨m, fun _ => 0, g⟩ (fun r => (∀ c : Dev Cert.KernelDgIdeal.nD,
      r.2.mem ((c.tc : Thread Cert.KernelDgIdeal.nD Cert.KernelDgIdeal.τ).loc Cert.KernelDgIdeal.main_arg0) = m ((c.tc : Thread Cert.KernelDgIdeal.nD Cert.KernelDgIdeal.τ).loc Cert.KernelDgIdeal.main_arg0)
      ∧ r.2.mem ((c.tc : Thread Cert.KernelDgIdeal.nD Cert.KernelDgIdeal.τ).loc Cert.KernelDgIdeal.main_arg1) = m ((c.tc : Thread Cert.KernelDgIdeal.nD Cert.KernelDgIdeal.τ).loc Cert.KernelDgIdeal.main_arg1)
      ∧ r.2.mem ((c.tc : Thread Cert.KernelDgIdeal.nD Cert.KernelDgIdeal.τ).loc Cert.KernelDgIdeal.main_arg2) = m ((c.tc : Thread Cert.KernelDgIdeal.nD Cert.KernelDgIdeal.τ).loc Cert.KernelDgIdeal.main_arg2)
      ∧ r.2.mem ((c.tc : Thread Cert.KernelDgIdeal.nD Cert.KernelDgIdeal.τ).loc Cert.KernelDgIdeal.main_arg3) = m ((c.tc : Thread Cert.KernelDgIdeal.nD Cert.KernelDgIdeal.τ).loc Cert.KernelDgIdeal.main_arg3))
      ∧ r.2.sem = fun _ => 0)

def quiescent_ReferenceDgIdeal [hReferenceDgIdeal : Cert.ReferenceDgIdeal.Facts] : Prop :=
  ∀ (m : (ℓ : Loc Cert.ReferenceDgIdeal.nD Cert.ReferenceDgIdeal.τ Cert.ReferenceDgIdeal.sig) → Buf (Elt Ideal) ℓ) (g : Dev Cert.ReferenceDgIdeal.nD → PrngReg), Pre_ReferenceDgIdeal m →
    θ_run (Cert.ReferenceDgIdeal.defs (F := Ideal)) (onTc (τ := Cert.ReferenceDgIdeal.τ) (Cert.ReferenceDgIdeal.main (F := Ideal))) ⟨m, fun _ => 0, g⟩ (fun r => (∀ c : Dev Cert.ReferenceDgIdeal.nD,
      r.2.mem ((c.tc : Thread Cert.ReferenceDgIdeal.nD Cert.ReferenceDgIdeal.τ).loc Cert.ReferenceDgIdeal.main_arg0) = m ((c.tc : Thread Cert.ReferenceDgIdeal.nD Cert.ReferenceDgIdeal.τ).loc Cert.ReferenceDgIdeal.main_arg0)
      ∧ r.2.mem ((c.tc : Thread Cert.ReferenceDgIdeal.nD Cert.ReferenceDgIdeal.τ).loc Cert.ReferenceDgIdeal.main_arg1) = m ((c.tc : Thread Cert.ReferenceDgIdeal.nD Cert.ReferenceDgIdeal.τ).loc Cert.ReferenceDgIdeal.main_arg1)
      ∧ r.2.mem ((c.tc : Thread Cert.ReferenceDgIdeal.nD Cert.ReferenceDgIdeal.τ).loc Cert.ReferenceDgIdeal.main_arg2) = m ((c.tc : Thread Cert.ReferenceDgIdeal.nD Cert.ReferenceDgIdeal.τ).loc Cert.ReferenceDgIdeal.main_arg2)
      ∧ r.2.mem ((c.tc : Thread Cert.ReferenceDgIdeal.nD Cert.ReferenceDgIdeal.τ).loc Cert.ReferenceDgIdeal.main_arg3) = m ((c.tc : Thread Cert.ReferenceDgIdeal.nD Cert.ReferenceDgIdeal.τ).loc Cert.ReferenceDgIdeal.main_arg3))
      ∧ r.2.sem = fun _ => 0)

def quiescent_KernelAd [hKernelAd : Cert.KernelAd.Facts] : Prop :=
  ∀ (m : (ℓ : Loc Cert.KernelAd.nD Cert.KernelAd.τ Cert.KernelAd.sig) → Buf (Elt Bits) ℓ) (g : Dev Cert.KernelAd.nD → PrngReg), Pre_KernelAd m →
    θ_run (Cert.KernelAd.defs (F := Bits)) (onTc (τ := Cert.KernelAd.τ) (Cert.KernelAd.main (F := Bits))) ⟨m, fun _ => 0, g⟩ (fun r => (∀ c : Dev Cert.KernelAd.nD,
      r.2.mem ((c.tc : Thread Cert.KernelAd.nD Cert.KernelAd.τ).loc Cert.KernelAd.main_arg0) = m ((c.tc : Thread Cert.KernelAd.nD Cert.KernelAd.τ).loc Cert.KernelAd.main_arg0)
      ∧ r.2.mem ((c.tc : Thread Cert.KernelAd.nD Cert.KernelAd.τ).loc Cert.KernelAd.main_arg1) = m ((c.tc : Thread Cert.KernelAd.nD Cert.KernelAd.τ).loc Cert.KernelAd.main_arg1)
      ∧ r.2.mem ((c.tc : Thread Cert.KernelAd.nD Cert.KernelAd.τ).loc Cert.KernelAd.main_arg2) = m ((c.tc : Thread Cert.KernelAd.nD Cert.KernelAd.τ).loc Cert.KernelAd.main_arg2)
      ∧ r.2.mem ((c.tc : Thread Cert.KernelAd.nD Cert.KernelAd.τ).loc Cert.KernelAd.main_arg3) = m ((c.tc : Thread Cert.KernelAd.nD Cert.KernelAd.τ).loc Cert.KernelAd.main_arg3))
      ∧ r.2.sem = fun _ => 0)

def quiescent_KernelAdIdeal [hKernelAdIdeal : Cert.KernelAdIdeal.Facts] : Prop :=
  ∀ (m : (ℓ : Loc Cert.KernelAdIdeal.nD Cert.KernelAdIdeal.τ Cert.KernelAdIdeal.sig) → Buf (Elt Ideal) ℓ) (g : Dev Cert.KernelAdIdeal.nD → PrngReg), Pre_KernelAdIdeal m →
    θ_run (Cert.KernelAdIdeal.defs (F := Ideal)) (onTc (τ := Cert.KernelAdIdeal.τ) (Cert.KernelAdIdeal.main (F := Ideal))) ⟨m, fun _ => 0, g⟩ (fun r => (∀ c : Dev Cert.KernelAdIdeal.nD,
      r.2.mem ((c.tc : Thread Cert.KernelAdIdeal.nD Cert.KernelAdIdeal.τ).loc Cert.KernelAdIdeal.main_arg0) = m ((c.tc : Thread Cert.KernelAdIdeal.nD Cert.KernelAdIdeal.τ).loc Cert.KernelAdIdeal.main_arg0)
      ∧ r.2.mem ((c.tc : Thread Cert.KernelAdIdeal.nD Cert.KernelAdIdeal.τ).loc Cert.KernelAdIdeal.main_arg1) = m ((c.tc : Thread Cert.KernelAdIdeal.nD Cert.KernelAdIdeal.τ).loc Cert.KernelAdIdeal.main_arg1)
      ∧ r.2.mem ((c.tc : Thread Cert.KernelAdIdeal.nD Cert.KernelAdIdeal.τ).loc Cert.KernelAdIdeal.main_arg2) = m ((c.tc : Thread Cert.KernelAdIdeal.nD Cert.KernelAdIdeal.τ).loc Cert.KernelAdIdeal.main_arg2)
      ∧ r.2.mem ((c.tc : Thread Cert.KernelAdIdeal.nD Cert.KernelAdIdeal.τ).loc Cert.KernelAdIdeal.main_arg3) = m ((c.tc : Thread Cert.KernelAdIdeal.nD Cert.KernelAdIdeal.τ).loc Cert.KernelAdIdeal.main_arg3))
      ∧ r.2.sem = fun _ => 0)

def quiescent_ReferenceAdIdeal [hReferenceAdIdeal : Cert.ReferenceAdIdeal.Facts] : Prop :=
  ∀ (m : (ℓ : Loc Cert.ReferenceAdIdeal.nD Cert.ReferenceAdIdeal.τ Cert.ReferenceAdIdeal.sig) → Buf (Elt Ideal) ℓ) (g : Dev Cert.ReferenceAdIdeal.nD → PrngReg), Pre_ReferenceAdIdeal m →
    θ_run (Cert.ReferenceAdIdeal.defs (F := Ideal)) (onTc (τ := Cert.ReferenceAdIdeal.τ) (Cert.ReferenceAdIdeal.main (F := Ideal))) ⟨m, fun _ => 0, g⟩ (fun r => (∀ c : Dev Cert.ReferenceAdIdeal.nD,
      r.2.mem ((c.tc : Thread Cert.ReferenceAdIdeal.nD Cert.ReferenceAdIdeal.τ).loc Cert.ReferenceAdIdeal.main_arg0) = m ((c.tc : Thread Cert.ReferenceAdIdeal.nD Cert.ReferenceAdIdeal.τ).loc Cert.ReferenceAdIdeal.main_arg0)
      ∧ r.2.mem ((c.tc : Thread Cert.ReferenceAdIdeal.nD Cert.ReferenceAdIdeal.τ).loc Cert.ReferenceAdIdeal.main_arg1) = m ((c.tc : Thread Cert.ReferenceAdIdeal.nD Cert.ReferenceAdIdeal.τ).loc Cert.ReferenceAdIdeal.main_arg1)
      ∧ r.2.mem ((c.tc : Thread Cert.ReferenceAdIdeal.nD Cert.ReferenceAdIdeal.τ).loc Cert.ReferenceAdIdeal.main_arg2) = m ((c.tc : Thread Cert.ReferenceAdIdeal.nD Cert.ReferenceAdIdeal.τ).loc Cert.ReferenceAdIdeal.main_arg2)
      ∧ r.2.mem ((c.tc : Thread Cert.ReferenceAdIdeal.nD Cert.ReferenceAdIdeal.τ).loc Cert.ReferenceAdIdeal.main_arg3) = m ((c.tc : Thread Cert.ReferenceAdIdeal.nD Cert.ReferenceAdIdeal.τ).loc Cert.ReferenceAdIdeal.main_arg3))
      ∧ r.2.sem = fun _ => 0)

def preserves_KernelFf_KernelFfIdeal : Prop :=
  True

def algebraic_KernelFfIdeal_ReferenceFfIdeal_pre_finite_ff [hKernelFfIdeal : Cert.KernelFfIdeal.Facts] [hReferenceFfIdeal : Cert.ReferenceFfIdeal.Facts] [hPre_finite_ff : Cert.Pre_finite_ff.Facts] : Prop :=
  ∀ (m : (ℓ : Loc Cert.KernelFfIdeal.nD Cert.KernelFfIdeal.τ Cert.KernelFfIdeal.sig) → Buf (Elt Ideal) ℓ) (g : Dev Cert.KernelFfIdeal.nD → PrngReg)
    (m' : (ℓ : Loc Cert.ReferenceFfIdeal.nD Cert.ReferenceFfIdeal.τ Cert.ReferenceFfIdeal.sig) → Buf (Elt Ideal) ℓ) (g' : Dev Cert.ReferenceFfIdeal.nD → PrngReg), Pre_KernelFfIdeal_finite_ff m →
    (∀ c : Dev Cert.KernelFfIdeal.nD,
      m' ((c.tc : Thread Cert.ReferenceFfIdeal.nD Cert.ReferenceFfIdeal.τ).loc Cert.ReferenceFfIdeal.main_arg0) = m ((c.tc : Thread Cert.KernelFfIdeal.nD Cert.KernelFfIdeal.τ).loc Cert.KernelFfIdeal.main_arg0)
      ∧ m' ((c.tc : Thread Cert.ReferenceFfIdeal.nD Cert.ReferenceFfIdeal.τ).loc Cert.ReferenceFfIdeal.main_arg1) = m ((c.tc : Thread Cert.KernelFfIdeal.nD Cert.KernelFfIdeal.τ).loc Cert.KernelFfIdeal.main_arg1)
      ∧ m' ((c.tc : Thread Cert.ReferenceFfIdeal.nD Cert.ReferenceFfIdeal.τ).loc Cert.ReferenceFfIdeal.main_arg2) = m ((c.tc : Thread Cert.KernelFfIdeal.nD Cert.KernelFfIdeal.τ).loc Cert.KernelFfIdeal.main_arg2)
      ∧ m' ((c.tc : Thread Cert.ReferenceFfIdeal.nD Cert.ReferenceFfIdeal.τ).loc Cert.ReferenceFfIdeal.main_arg3) = m ((c.tc : Thread Cert.KernelFfIdeal.nD Cert.KernelFfIdeal.τ).loc Cert.KernelFfIdeal.main_arg3)) →
    ∃ (v0 : (c : Dev Cert.KernelFfIdeal.nD) → Buf (Elt Ideal) ((c.tc : Thread Cert.KernelFfIdeal.nD Cert.KernelFfIdeal.τ).loc Cert.KernelFfIdeal.main_v3_2)) (v1 : (c : Dev Cert.KernelFfIdeal.nD) → Buf (Elt Ideal) ((c.tc : Thread Cert.KernelFfIdeal.nD Cert.KernelFfIdeal.τ).loc Cert.KernelFfIdeal.main_v6_0)) (v2 : (c : Dev Cert.KernelFfIdeal.nD) → Buf (Elt Ideal) ((c.tc : Thread Cert.KernelFfIdeal.nD Cert.KernelFfIdeal.τ).loc Cert.KernelFfIdeal.main_v6_1)),
      θ_run (Cert.KernelFfIdeal.defs (F := Ideal)) (onTc (τ := Cert.KernelFfIdeal.τ) (Cert.KernelFfIdeal.main (F := Ideal))) ⟨m, fun _ => 0, g⟩ (fun r => ∀ c : Dev Cert.KernelFfIdeal.nD,
          r.2.mem ((c.tc : Thread Cert.KernelFfIdeal.nD Cert.KernelFfIdeal.τ).loc Cert.KernelFfIdeal.main_v3_2) = v0 c
          ∧ r.2.mem ((c.tc : Thread Cert.KernelFfIdeal.nD Cert.KernelFfIdeal.τ).loc Cert.KernelFfIdeal.main_v6_0) = v1 c
          ∧ r.2.mem ((c.tc : Thread Cert.KernelFfIdeal.nD Cert.KernelFfIdeal.τ).loc Cert.KernelFfIdeal.main_v6_1) = v2 c
          ∧ r.2.mem ((c.tc : Thread Cert.KernelFfIdeal.nD Cert.KernelFfIdeal.τ).loc Cert.KernelFfIdeal.main_arg0) = m ((c.tc : Thread Cert.KernelFfIdeal.nD Cert.KernelFfIdeal.τ).loc Cert.KernelFfIdeal.main_arg0)
          ∧ r.2.mem ((c.tc : Thread Cert.KernelFfIdeal.nD Cert.KernelFfIdeal.τ).loc Cert.KernelFfIdeal.main_arg1) = m ((c.tc : Thread Cert.KernelFfIdeal.nD Cert.KernelFfIdeal.τ).loc Cert.KernelFfIdeal.main_arg1)
          ∧ r.2.mem ((c.tc : Thread Cert.KernelFfIdeal.nD Cert.KernelFfIdeal.τ).loc Cert.KernelFfIdeal.main_arg2) = m ((c.tc : Thread Cert.KernelFfIdeal.nD Cert.KernelFfIdeal.τ).loc Cert.KernelFfIdeal.main_arg2)
          ∧ r.2.mem ((c.tc : Thread Cert.KernelFfIdeal.nD Cert.KernelFfIdeal.τ).loc Cert.KernelFfIdeal.main_arg3) = m ((c.tc : Thread Cert.KernelFfIdeal.nD Cert.KernelFfIdeal.τ).loc Cert.KernelFfIdeal.main_arg3))
      ∧ θ_run (Cert.ReferenceFfIdeal.defs (F := Ideal)) (onTc (τ := Cert.ReferenceFfIdeal.τ) (Cert.ReferenceFfIdeal.main (F := Ideal))) ⟨m', fun _ => 0, g'⟩ (fun r => ∀ c : Dev Cert.ReferenceFfIdeal.nD,
          r.2.mem ((c.tc : Thread Cert.ReferenceFfIdeal.nD Cert.ReferenceFfIdeal.τ).loc Cert.ReferenceFfIdeal.main_v10) = v0 c
          ∧ r.2.mem ((c.tc : Thread Cert.ReferenceFfIdeal.nD Cert.ReferenceFfIdeal.τ).loc Cert.ReferenceFfIdeal.main_v11) = v1 c
          ∧ r.2.mem ((c.tc : Thread Cert.ReferenceFfIdeal.nD Cert.ReferenceFfIdeal.τ).loc Cert.ReferenceFfIdeal.main_v12) = v2 c
          ∧ r.2.mem ((c.tc : Thread Cert.ReferenceFfIdeal.nD Cert.ReferenceFfIdeal.τ).loc Cert.ReferenceFfIdeal.main_arg0) = m' ((c.tc : Thread Cert.ReferenceFfIdeal.nD Cert.ReferenceFfIdeal.τ).loc Cert.ReferenceFfIdeal.main_arg0)
          ∧ r.2.mem ((c.tc : Thread Cert.ReferenceFfIdeal.nD Cert.ReferenceFfIdeal.τ).loc Cert.ReferenceFfIdeal.main_arg1) = m' ((c.tc : Thread Cert.ReferenceFfIdeal.nD Cert.ReferenceFfIdeal.τ).loc Cert.ReferenceFfIdeal.main_arg1)
          ∧ r.2.mem ((c.tc : Thread Cert.ReferenceFfIdeal.nD Cert.ReferenceFfIdeal.τ).loc Cert.ReferenceFfIdeal.main_arg2) = m' ((c.tc : Thread Cert.ReferenceFfIdeal.nD Cert.ReferenceFfIdeal.τ).loc Cert.ReferenceFfIdeal.main_arg2)
          ∧ r.2.mem ((c.tc : Thread Cert.ReferenceFfIdeal.nD Cert.ReferenceFfIdeal.τ).loc Cert.ReferenceFfIdeal.main_arg3) = m' ((c.tc : Thread Cert.ReferenceFfIdeal.nD Cert.ReferenceFfIdeal.τ).loc Cert.ReferenceFfIdeal.main_arg3))

def preserves_KernelMx_KernelMxIdeal : Prop :=
  IdealRules.named_const.Statement Cert.KernelMxIdeal.κ "inv_sqrt2" .f32 0x3F3504F3#32 (((Real.sqrt 2)⁻¹ : ℝ) : EReal)
  ∧ IdealRules.named_const.Statement Cert.KernelMxIdeal.κ "inv_sqrt_2pi" .f32 0x3ECC422A#32 (((Real.sqrt (2 * Real.pi))⁻¹ : ℝ) : EReal)

def algebraic_KernelMxIdeal_ReferenceMxIdeal_pre_finite_mix [hKernelMxIdeal : Cert.KernelMxIdeal.Facts] [hReferenceMxIdeal : Cert.ReferenceMxIdeal.Facts] [hPre_finite_mix : Cert.Pre_finite_mix.Facts] : Prop :=
  ∀ (m : (ℓ : Loc Cert.KernelMxIdeal.nD Cert.KernelMxIdeal.τ Cert.KernelMxIdeal.sig) → Buf (Elt Ideal) ℓ) (g : Dev Cert.KernelMxIdeal.nD → PrngReg)
    (m' : (ℓ : Loc Cert.ReferenceMxIdeal.nD Cert.ReferenceMxIdeal.τ Cert.ReferenceMxIdeal.sig) → Buf (Elt Ideal) ℓ) (g' : Dev Cert.ReferenceMxIdeal.nD → PrngReg), Pre_KernelMxIdeal_finite_mix m →
    (∀ c : Dev Cert.KernelMxIdeal.nD,
      m' ((c.tc : Thread Cert.ReferenceMxIdeal.nD Cert.ReferenceMxIdeal.τ).loc Cert.ReferenceMxIdeal.main_arg0) = m ((c.tc : Thread Cert.KernelMxIdeal.nD Cert.KernelMxIdeal.τ).loc Cert.KernelMxIdeal.main_arg0)
      ∧ m' ((c.tc : Thread Cert.ReferenceMxIdeal.nD Cert.ReferenceMxIdeal.τ).loc Cert.ReferenceMxIdeal.main_arg1) = m ((c.tc : Thread Cert.KernelMxIdeal.nD Cert.KernelMxIdeal.τ).loc Cert.KernelMxIdeal.main_arg1)
      ∧ m' ((c.tc : Thread Cert.ReferenceMxIdeal.nD Cert.ReferenceMxIdeal.τ).loc Cert.ReferenceMxIdeal.main_arg2) = m ((c.tc : Thread Cert.KernelMxIdeal.nD Cert.KernelMxIdeal.τ).loc Cert.KernelMxIdeal.main_arg2)
      ∧ m' ((c.tc : Thread Cert.ReferenceMxIdeal.nD Cert.ReferenceMxIdeal.τ).loc Cert.ReferenceMxIdeal.main_arg3) = m ((c.tc : Thread Cert.KernelMxIdeal.nD Cert.KernelMxIdeal.τ).loc Cert.KernelMxIdeal.main_arg3)
      ∧ m' ((c.tc : Thread Cert.ReferenceMxIdeal.nD Cert.ReferenceMxIdeal.τ).loc Cert.ReferenceMxIdeal.main_arg4) = m ((c.tc : Thread Cert.KernelMxIdeal.nD Cert.KernelMxIdeal.τ).loc Cert.KernelMxIdeal.main_arg4)
      ∧ m' ((c.tc : Thread Cert.ReferenceMxIdeal.nD Cert.ReferenceMxIdeal.τ).loc Cert.ReferenceMxIdeal.main_arg5) = m ((c.tc : Thread Cert.KernelMxIdeal.nD Cert.KernelMxIdeal.τ).loc Cert.KernelMxIdeal.main_arg5)
      ∧ m' ((c.tc : Thread Cert.ReferenceMxIdeal.nD Cert.ReferenceMxIdeal.τ).loc Cert.ReferenceMxIdeal.main_arg6) = m ((c.tc : Thread Cert.KernelMxIdeal.nD Cert.KernelMxIdeal.τ).loc Cert.KernelMxIdeal.main_arg6)
      ∧ m' ((c.tc : Thread Cert.ReferenceMxIdeal.nD Cert.ReferenceMxIdeal.τ).loc Cert.ReferenceMxIdeal.main_arg7) = m ((c.tc : Thread Cert.KernelMxIdeal.nD Cert.KernelMxIdeal.τ).loc Cert.KernelMxIdeal.main_arg7)) →
    ∃ (v0 : (c : Dev Cert.KernelMxIdeal.nD) → Buf (Elt Ideal) ((c.tc : Thread Cert.KernelMxIdeal.nD Cert.KernelMxIdeal.τ).loc Cert.KernelMxIdeal.main_v20_0)) (v1 : (c : Dev Cert.KernelMxIdeal.nD) → Buf (Elt Ideal) ((c.tc : Thread Cert.KernelMxIdeal.nD Cert.KernelMxIdeal.τ).loc Cert.KernelMxIdeal.main_v20_1)) (v2 : (c : Dev Cert.KernelMxIdeal.nD) → Buf (Elt Ideal) ((c.tc : Thread Cert.KernelMxIdeal.nD Cert.KernelMxIdeal.τ).loc Cert.KernelMxIdeal.main_v29)) (v3 : (c : Dev Cert.KernelMxIdeal.nD) → Buf (Elt Ideal) ((c.tc : Thread Cert.KernelMxIdeal.nD Cert.KernelMxIdeal.τ).loc Cert.KernelMxIdeal.main_v20_3)) (v4 : (c : Dev Cert.KernelMxIdeal.nD) → Buf (Elt Ideal) ((c.tc : Thread Cert.KernelMxIdeal.nD Cert.KernelMxIdeal.τ).loc Cert.KernelMxIdeal.main_v20_4)) (v5 : (c : Dev Cert.KernelMxIdeal.nD) → Buf (Elt Ideal) ((c.tc : Thread Cert.KernelMxIdeal.nD Cert.KernelMxIdeal.τ).loc Cert.KernelMxIdeal.main_v34)) (v6 : (c : Dev Cert.KernelMxIdeal.nD) → Buf (Elt Ideal) ((c.tc : Thread Cert.KernelMxIdeal.nD Cert.KernelMxIdeal.τ).loc Cert.KernelMxIdeal.main_v33)),
      θ_run (Cert.KernelMxIdeal.defs (F := Ideal)) (onTc (τ := Cert.KernelMxIdeal.τ) (Cert.KernelMxIdeal.main (F := Ideal))) ⟨m, fun _ => 0, g⟩ (fun r => ∀ c : Dev Cert.KernelMxIdeal.nD,
          r.2.mem ((c.tc : Thread Cert.KernelMxIdeal.nD Cert.KernelMxIdeal.τ).loc Cert.KernelMxIdeal.main_v20_0) = v0 c
          ∧ r.2.mem ((c.tc : Thread Cert.KernelMxIdeal.nD Cert.KernelMxIdeal.τ).loc Cert.KernelMxIdeal.main_v20_1) = v1 c
          ∧ r.2.mem ((c.tc : Thread Cert.KernelMxIdeal.nD Cert.KernelMxIdeal.τ).loc Cert.KernelMxIdeal.main_v29) = v2 c
          ∧ r.2.mem ((c.tc : Thread Cert.KernelMxIdeal.nD Cert.KernelMxIdeal.τ).loc Cert.KernelMxIdeal.main_v20_3) = v3 c
          ∧ r.2.mem ((c.tc : Thread Cert.KernelMxIdeal.nD Cert.KernelMxIdeal.τ).loc Cert.KernelMxIdeal.main_v20_4) = v4 c
          ∧ r.2.mem ((c.tc : Thread Cert.KernelMxIdeal.nD Cert.KernelMxIdeal.τ).loc Cert.KernelMxIdeal.main_v34) = v5 c
          ∧ r.2.mem ((c.tc : Thread Cert.KernelMxIdeal.nD Cert.KernelMxIdeal.τ).loc Cert.KernelMxIdeal.main_v33) = v6 c
          ∧ r.2.mem ((c.tc : Thread Cert.KernelMxIdeal.nD Cert.KernelMxIdeal.τ).loc Cert.KernelMxIdeal.main_arg0) = m ((c.tc : Thread Cert.KernelMxIdeal.nD Cert.KernelMxIdeal.τ).loc Cert.KernelMxIdeal.main_arg0)
          ∧ r.2.mem ((c.tc : Thread Cert.KernelMxIdeal.nD Cert.KernelMxIdeal.τ).loc Cert.KernelMxIdeal.main_arg1) = m ((c.tc : Thread Cert.KernelMxIdeal.nD Cert.KernelMxIdeal.τ).loc Cert.KernelMxIdeal.main_arg1)
          ∧ r.2.mem ((c.tc : Thread Cert.KernelMxIdeal.nD Cert.KernelMxIdeal.τ).loc Cert.KernelMxIdeal.main_arg2) = m ((c.tc : Thread Cert.KernelMxIdeal.nD Cert.KernelMxIdeal.τ).loc Cert.KernelMxIdeal.main_arg2)
          ∧ r.2.mem ((c.tc : Thread Cert.KernelMxIdeal.nD Cert.KernelMxIdeal.τ).loc Cert.KernelMxIdeal.main_arg3) = m ((c.tc : Thread Cert.KernelMxIdeal.nD Cert.KernelMxIdeal.τ).loc Cert.KernelMxIdeal.main_arg3)
          ∧ r.2.mem ((c.tc : Thread Cert.KernelMxIdeal.nD Cert.KernelMxIdeal.τ).loc Cert.KernelMxIdeal.main_arg4) = m ((c.tc : Thread Cert.KernelMxIdeal.nD Cert.KernelMxIdeal.τ).loc Cert.KernelMxIdeal.main_arg4)
          ∧ r.2.mem ((c.tc : Thread Cert.KernelMxIdeal.nD Cert.KernelMxIdeal.τ).loc Cert.KernelMxIdeal.main_arg5) = m ((c.tc : Thread Cert.KernelMxIdeal.nD Cert.KernelMxIdeal.τ).loc Cert.KernelMxIdeal.main_arg5)
          ∧ r.2.mem ((c.tc : Thread Cert.KernelMxIdeal.nD Cert.KernelMxIdeal.τ).loc Cert.KernelMxIdeal.main_arg6) = m ((c.tc : Thread Cert.KernelMxIdeal.nD Cert.KernelMxIdeal.τ).loc Cert.KernelMxIdeal.main_arg6)
          ∧ r.2.mem ((c.tc : Thread Cert.KernelMxIdeal.nD Cert.KernelMxIdeal.τ).loc Cert.KernelMxIdeal.main_arg7) = m ((c.tc : Thread Cert.KernelMxIdeal.nD Cert.KernelMxIdeal.τ).loc Cert.KernelMxIdeal.main_arg7))
      ∧ θ_run (Cert.ReferenceMxIdeal.defs (F := Ideal)) (onTc (τ := Cert.ReferenceMxIdeal.τ) (Cert.ReferenceMxIdeal.main (F := Ideal))) ⟨m', fun _ => 0, g'⟩ (fun r => ∀ c : Dev Cert.ReferenceMxIdeal.nD,
          r.2.mem ((c.tc : Thread Cert.ReferenceMxIdeal.nD Cert.ReferenceMxIdeal.τ).loc Cert.ReferenceMxIdeal.main_v341) = v0 c
          ∧ r.2.mem ((c.tc : Thread Cert.ReferenceMxIdeal.nD Cert.ReferenceMxIdeal.τ).loc Cert.ReferenceMxIdeal.main_v327) = v1 c
          ∧ r.2.mem ((c.tc : Thread Cert.ReferenceMxIdeal.nD Cert.ReferenceMxIdeal.τ).loc Cert.ReferenceMxIdeal.main_v342) = v2 c
          ∧ r.2.mem ((c.tc : Thread Cert.ReferenceMxIdeal.nD Cert.ReferenceMxIdeal.τ).loc Cert.ReferenceMxIdeal.main_v343) = v3 c
          ∧ r.2.mem ((c.tc : Thread Cert.ReferenceMxIdeal.nD Cert.ReferenceMxIdeal.τ).loc Cert.ReferenceMxIdeal.main_v344) = v4 c
          ∧ r.2.mem ((c.tc : Thread Cert.ReferenceMxIdeal.nD Cert.ReferenceMxIdeal.τ).loc Cert.ReferenceMxIdeal.main_v183) = v5 c
          ∧ r.2.mem ((c.tc : Thread Cert.ReferenceMxIdeal.nD Cert.ReferenceMxIdeal.τ).loc Cert.ReferenceMxIdeal.main_v345) = v6 c
          ∧ r.2.mem ((c.tc : Thread Cert.ReferenceMxIdeal.nD Cert.ReferenceMxIdeal.τ).loc Cert.ReferenceMxIdeal.main_arg0) = m' ((c.tc : Thread Cert.ReferenceMxIdeal.nD Cert.ReferenceMxIdeal.τ).loc Cert.ReferenceMxIdeal.main_arg0)
          ∧ r.2.mem ((c.tc : Thread Cert.ReferenceMxIdeal.nD Cert.ReferenceMxIdeal.τ).loc Cert.ReferenceMxIdeal.main_arg1) = m' ((c.tc : Thread Cert.ReferenceMxIdeal.nD Cert.ReferenceMxIdeal.τ).loc Cert.ReferenceMxIdeal.main_arg1)
          ∧ r.2.mem ((c.tc : Thread Cert.ReferenceMxIdeal.nD Cert.ReferenceMxIdeal.τ).loc Cert.ReferenceMxIdeal.main_arg2) = m' ((c.tc : Thread Cert.ReferenceMxIdeal.nD Cert.ReferenceMxIdeal.τ).loc Cert.ReferenceMxIdeal.main_arg2)
          ∧ r.2.mem ((c.tc : Thread Cert.ReferenceMxIdeal.nD Cert.ReferenceMxIdeal.τ).loc Cert.ReferenceMxIdeal.main_arg3) = m' ((c.tc : Thread Cert.ReferenceMxIdeal.nD Cert.ReferenceMxIdeal.τ).loc Cert.ReferenceMxIdeal.main_arg3)
          ∧ r.2.mem ((c.tc : Thread Cert.ReferenceMxIdeal.nD Cert.ReferenceMxIdeal.τ).loc Cert.ReferenceMxIdeal.main_arg4) = m' ((c.tc : Thread Cert.ReferenceMxIdeal.nD Cert.ReferenceMxIdeal.τ).loc Cert.ReferenceMxIdeal.main_arg4)
          ∧ r.2.mem ((c.tc : Thread Cert.ReferenceMxIdeal.nD Cert.ReferenceMxIdeal.τ).loc Cert.ReferenceMxIdeal.main_arg5) = m' ((c.tc : Thread Cert.ReferenceMxIdeal.nD Cert.ReferenceMxIdeal.τ).loc Cert.ReferenceMxIdeal.main_arg5)
          ∧ r.2.mem ((c.tc : Thread Cert.ReferenceMxIdeal.nD Cert.ReferenceMxIdeal.τ).loc Cert.ReferenceMxIdeal.main_arg6) = m' ((c.tc : Thread Cert.ReferenceMxIdeal.nD Cert.ReferenceMxIdeal.τ).loc Cert.ReferenceMxIdeal.main_arg6)
          ∧ r.2.mem ((c.tc : Thread Cert.ReferenceMxIdeal.nD Cert.ReferenceMxIdeal.τ).loc Cert.ReferenceMxIdeal.main_arg7) = m' ((c.tc : Thread Cert.ReferenceMxIdeal.nD Cert.ReferenceMxIdeal.τ).loc Cert.ReferenceMxIdeal.main_arg7))

def preserves_KernelLs_KernelLsIdeal : Prop :=
  True

def algebraic_KernelLsIdeal_ReferenceLsIdeal_pre_finite_loss [hKernelLsIdeal : Cert.KernelLsIdeal.Facts] [hReferenceLsIdeal : Cert.ReferenceLsIdeal.Facts] [hPre_finite_loss : Cert.Pre_finite_loss.Facts] : Prop :=
  ∀ (m : (ℓ : Loc Cert.KernelLsIdeal.nD Cert.KernelLsIdeal.τ Cert.KernelLsIdeal.sig) → Buf (Elt Ideal) ℓ) (g : Dev Cert.KernelLsIdeal.nD → PrngReg)
    (m' : (ℓ : Loc Cert.ReferenceLsIdeal.nD Cert.ReferenceLsIdeal.τ Cert.ReferenceLsIdeal.sig) → Buf (Elt Ideal) ℓ) (g' : Dev Cert.ReferenceLsIdeal.nD → PrngReg), Pre_KernelLsIdeal_finite_loss m →
    (∀ c : Dev Cert.KernelLsIdeal.nD,
      m' ((c.tc : Thread Cert.ReferenceLsIdeal.nD Cert.ReferenceLsIdeal.τ).loc Cert.ReferenceLsIdeal.main_arg0) = m ((c.tc : Thread Cert.KernelLsIdeal.nD Cert.KernelLsIdeal.τ).loc Cert.KernelLsIdeal.main_arg0)
      ∧ m' ((c.tc : Thread Cert.ReferenceLsIdeal.nD Cert.ReferenceLsIdeal.τ).loc Cert.ReferenceLsIdeal.main_arg1) = m ((c.tc : Thread Cert.KernelLsIdeal.nD Cert.KernelLsIdeal.τ).loc Cert.KernelLsIdeal.main_arg1)
      ∧ m' ((c.tc : Thread Cert.ReferenceLsIdeal.nD Cert.ReferenceLsIdeal.τ).loc Cert.ReferenceLsIdeal.main_arg2) = m ((c.tc : Thread Cert.KernelLsIdeal.nD Cert.KernelLsIdeal.τ).loc Cert.KernelLsIdeal.main_arg2)
      ∧ m' ((c.tc : Thread Cert.ReferenceLsIdeal.nD Cert.ReferenceLsIdeal.τ).loc Cert.ReferenceLsIdeal.main_arg3) = m ((c.tc : Thread Cert.KernelLsIdeal.nD Cert.KernelLsIdeal.τ).loc Cert.KernelLsIdeal.main_arg3)
      ∧ m' ((c.tc : Thread Cert.ReferenceLsIdeal.nD Cert.ReferenceLsIdeal.τ).loc Cert.ReferenceLsIdeal.main_arg4) = m ((c.tc : Thread Cert.KernelLsIdeal.nD Cert.KernelLsIdeal.τ).loc Cert.KernelLsIdeal.main_arg4)
      ∧ m' ((c.tc : Thread Cert.ReferenceLsIdeal.nD Cert.ReferenceLsIdeal.τ).loc Cert.ReferenceLsIdeal.main_arg5) = m ((c.tc : Thread Cert.KernelLsIdeal.nD Cert.KernelLsIdeal.τ).loc Cert.KernelLsIdeal.main_arg5)) →
    ∃ (v0 : (c : Dev Cert.KernelLsIdeal.nD) → Buf (Elt Ideal) ((c.tc : Thread Cert.KernelLsIdeal.nD Cert.KernelLsIdeal.τ).loc Cert.KernelLsIdeal.main_v6_2)) (v1 : (c : Dev Cert.KernelLsIdeal.nD) → Buf (Elt Ideal) ((c.tc : Thread Cert.KernelLsIdeal.nD Cert.KernelLsIdeal.τ).loc Cert.KernelLsIdeal.main_v7_0)) (v2 : (c : Dev Cert.KernelLsIdeal.nD) → Buf (Elt Ideal) ((c.tc : Thread Cert.KernelLsIdeal.nD Cert.KernelLsIdeal.τ).loc Cert.KernelLsIdeal.main_v7_1)) (v3 : (c : Dev Cert.KernelLsIdeal.nD) → Buf (Elt Ideal) ((c.tc : Thread Cert.KernelLsIdeal.nD Cert.KernelLsIdeal.τ).loc Cert.KernelLsIdeal.main_v7_2)) (v4 : (c : Dev Cert.KernelLsIdeal.nD) → Buf (Elt Ideal) ((c.tc : Thread Cert.KernelLsIdeal.nD Cert.KernelLsIdeal.τ).loc Cert.KernelLsIdeal.main_v7_3)) (v5 : (c : Dev Cert.KernelLsIdeal.nD) → Buf (Elt Ideal) ((c.tc : Thread Cert.KernelLsIdeal.nD Cert.KernelLsIdeal.τ).loc Cert.KernelLsIdeal.main_v7_4)),
      θ_run (Cert.KernelLsIdeal.defs (F := Ideal)) (onTc (τ := Cert.KernelLsIdeal.τ) (Cert.KernelLsIdeal.main (F := Ideal))) ⟨m, fun _ => 0, g⟩ (fun r => ∀ c : Dev Cert.KernelLsIdeal.nD,
          r.2.mem ((c.tc : Thread Cert.KernelLsIdeal.nD Cert.KernelLsIdeal.τ).loc Cert.KernelLsIdeal.main_v6_2) = v0 c
          ∧ r.2.mem ((c.tc : Thread Cert.KernelLsIdeal.nD Cert.KernelLsIdeal.τ).loc Cert.KernelLsIdeal.main_v7_0) = v1 c
          ∧ r.2.mem ((c.tc : Thread Cert.KernelLsIdeal.nD Cert.KernelLsIdeal.τ).loc Cert.KernelLsIdeal.main_v7_1) = v2 c
          ∧ r.2.mem ((c.tc : Thread Cert.KernelLsIdeal.nD Cert.KernelLsIdeal.τ).loc Cert.KernelLsIdeal.main_v7_2) = v3 c
          ∧ r.2.mem ((c.tc : Thread Cert.KernelLsIdeal.nD Cert.KernelLsIdeal.τ).loc Cert.KernelLsIdeal.main_v7_3) = v4 c
          ∧ r.2.mem ((c.tc : Thread Cert.KernelLsIdeal.nD Cert.KernelLsIdeal.τ).loc Cert.KernelLsIdeal.main_v7_4) = v5 c
          ∧ r.2.mem ((c.tc : Thread Cert.KernelLsIdeal.nD Cert.KernelLsIdeal.τ).loc Cert.KernelLsIdeal.main_arg0) = m ((c.tc : Thread Cert.KernelLsIdeal.nD Cert.KernelLsIdeal.τ).loc Cert.KernelLsIdeal.main_arg0)
          ∧ r.2.mem ((c.tc : Thread Cert.KernelLsIdeal.nD Cert.KernelLsIdeal.τ).loc Cert.KernelLsIdeal.main_arg1) = m ((c.tc : Thread Cert.KernelLsIdeal.nD Cert.KernelLsIdeal.τ).loc Cert.KernelLsIdeal.main_arg1)
          ∧ r.2.mem ((c.tc : Thread Cert.KernelLsIdeal.nD Cert.KernelLsIdeal.τ).loc Cert.KernelLsIdeal.main_arg2) = m ((c.tc : Thread Cert.KernelLsIdeal.nD Cert.KernelLsIdeal.τ).loc Cert.KernelLsIdeal.main_arg2)
          ∧ r.2.mem ((c.tc : Thread Cert.KernelLsIdeal.nD Cert.KernelLsIdeal.τ).loc Cert.KernelLsIdeal.main_arg3) = m ((c.tc : Thread Cert.KernelLsIdeal.nD Cert.KernelLsIdeal.τ).loc Cert.KernelLsIdeal.main_arg3)
          ∧ r.2.mem ((c.tc : Thread Cert.KernelLsIdeal.nD Cert.KernelLsIdeal.τ).loc Cert.KernelLsIdeal.main_arg4) = m ((c.tc : Thread Cert.KernelLsIdeal.nD Cert.KernelLsIdeal.τ).loc Cert.KernelLsIdeal.main_arg4)
          ∧ r.2.mem ((c.tc : Thread Cert.KernelLsIdeal.nD Cert.KernelLsIdeal.τ).loc Cert.KernelLsIdeal.main_arg5) = m ((c.tc : Thread Cert.KernelLsIdeal.nD Cert.KernelLsIdeal.τ).loc Cert.KernelLsIdeal.main_arg5))
      ∧ θ_run (Cert.ReferenceLsIdeal.defs (F := Ideal)) (onTc (τ := Cert.ReferenceLsIdeal.τ) (Cert.ReferenceLsIdeal.main (F := Ideal))) ⟨m', fun _ => 0, g'⟩ (fun r => ∀ c : Dev Cert.ReferenceLsIdeal.nD,
          r.2.mem ((c.tc : Thread Cert.ReferenceLsIdeal.nD Cert.ReferenceLsIdeal.τ).loc Cert.ReferenceLsIdeal.main_v77) = v0 c
          ∧ r.2.mem ((c.tc : Thread Cert.ReferenceLsIdeal.nD Cert.ReferenceLsIdeal.τ).loc Cert.ReferenceLsIdeal.main_v78) = v1 c
          ∧ r.2.mem ((c.tc : Thread Cert.ReferenceLsIdeal.nD Cert.ReferenceLsIdeal.τ).loc Cert.ReferenceLsIdeal.main_v76) = v2 c
          ∧ r.2.mem ((c.tc : Thread Cert.ReferenceLsIdeal.nD Cert.ReferenceLsIdeal.τ).loc Cert.ReferenceLsIdeal.main_v79) = v3 c
          ∧ r.2.mem ((c.tc : Thread Cert.ReferenceLsIdeal.nD Cert.ReferenceLsIdeal.τ).loc Cert.ReferenceLsIdeal.main_v50) = v4 c
          ∧ r.2.mem ((c.tc : Thread Cert.ReferenceLsIdeal.nD Cert.ReferenceLsIdeal.τ).loc Cert.ReferenceLsIdeal.main_v47) = v5 c
          ∧ r.2.mem ((c.tc : Thread Cert.ReferenceLsIdeal.nD Cert.ReferenceLsIdeal.τ).loc Cert.ReferenceLsIdeal.main_arg0) = m' ((c.tc : Thread Cert.ReferenceLsIdeal.nD Cert.ReferenceLsIdeal.τ).loc Cert.ReferenceLsIdeal.main_arg0)
          ∧ r.2.mem ((c.tc : Thread Cert.ReferenceLsIdeal.nD Cert.ReferenceLsIdeal.τ).loc Cert.ReferenceLsIdeal.main_arg1) = m' ((c.tc : Thread Cert.ReferenceLsIdeal.nD Cert.ReferenceLsIdeal.τ).loc Cert.ReferenceLsIdeal.main_arg1)
          ∧ r.2.mem ((c.tc : Thread Cert.ReferenceLsIdeal.nD Cert.ReferenceLsIdeal.τ).loc Cert.ReferenceLsIdeal.main_arg2) = m' ((c.tc : Thread Cert.ReferenceLsIdeal.nD Cert.ReferenceLsIdeal.τ).loc Cert.ReferenceLsIdeal.main_arg2)
          ∧ r.2.mem ((c.tc : Thread Cert.ReferenceLsIdeal.nD Cert.ReferenceLsIdeal.τ).loc Cert.ReferenceLsIdeal.main_arg3) = m' ((c.tc : Thread Cert.ReferenceLsIdeal.nD Cert.ReferenceLsIdeal.τ).loc Cert.ReferenceLsIdeal.main_arg3)
          ∧ r.2.mem ((c.tc : Thread Cert.ReferenceLsIdeal.nD Cert.ReferenceLsIdeal.τ).loc Cert.ReferenceLsIdeal.main_arg4) = m' ((c.tc : Thread Cert.ReferenceLsIdeal.nD Cert.ReferenceLsIdeal.τ).loc Cert.ReferenceLsIdeal.main_arg4)
          ∧ r.2.mem ((c.tc : Thread Cert.ReferenceLsIdeal.nD Cert.ReferenceLsIdeal.τ).loc Cert.ReferenceLsIdeal.main_arg5) = m' ((c.tc : Thread Cert.ReferenceLsIdeal.nD Cert.ReferenceLsIdeal.τ).loc Cert.ReferenceLsIdeal.main_arg5))

def preserves_KernelWo_KernelWoIdeal : Prop :=
  True

def algebraic_KernelWoIdeal_ReferenceWoIdeal_pre_finite_wo [hKernelWoIdeal : Cert.KernelWoIdeal.Facts] [hReferenceWoIdeal : Cert.ReferenceWoIdeal.Facts] [hPre_finite_wo : Cert.Pre_finite_wo.Facts] : Prop :=
  ∀ (m : (ℓ : Loc Cert.KernelWoIdeal.nD Cert.KernelWoIdeal.τ Cert.KernelWoIdeal.sig) → Buf (Elt Ideal) ℓ) (g : Dev Cert.KernelWoIdeal.nD → PrngReg)
    (m' : (ℓ : Loc Cert.ReferenceWoIdeal.nD Cert.ReferenceWoIdeal.τ Cert.ReferenceWoIdeal.sig) → Buf (Elt Ideal) ℓ) (g' : Dev Cert.ReferenceWoIdeal.nD → PrngReg), Pre_KernelWoIdeal_finite_wo m →
    (∀ c : Dev Cert.KernelWoIdeal.nD,
      m' ((c.tc : Thread Cert.ReferenceWoIdeal.nD Cert.ReferenceWoIdeal.τ).loc Cert.ReferenceWoIdeal.main_arg0) = m ((c.tc : Thread Cert.KernelWoIdeal.nD Cert.KernelWoIdeal.τ).loc Cert.KernelWoIdeal.main_arg0)
      ∧ m' ((c.tc : Thread Cert.ReferenceWoIdeal.nD Cert.ReferenceWoIdeal.τ).loc Cert.ReferenceWoIdeal.main_arg1) = m ((c.tc : Thread Cert.KernelWoIdeal.nD Cert.KernelWoIdeal.τ).loc Cert.KernelWoIdeal.main_arg1)
      ∧ m' ((c.tc : Thread Cert.ReferenceWoIdeal.nD Cert.ReferenceWoIdeal.τ).loc Cert.ReferenceWoIdeal.main_arg2) = m ((c.tc : Thread Cert.KernelWoIdeal.nD Cert.KernelWoIdeal.τ).loc Cert.KernelWoIdeal.main_arg2)
      ∧ m' ((c.tc : Thread Cert.ReferenceWoIdeal.nD Cert.ReferenceWoIdeal.τ).loc Cert.ReferenceWoIdeal.main_arg3) = m ((c.tc : Thread Cert.KernelWoIdeal.nD Cert.KernelWoIdeal.τ).loc Cert.KernelWoIdeal.main_arg3)
      ∧ m' ((c.tc : Thread Cert.ReferenceWoIdeal.nD Cert.ReferenceWoIdeal.τ).loc Cert.ReferenceWoIdeal.main_arg4) = m ((c.tc : Thread Cert.KernelWoIdeal.nD Cert.KernelWoIdeal.τ).loc Cert.KernelWoIdeal.main_arg4)
      ∧ m' ((c.tc : Thread Cert.ReferenceWoIdeal.nD Cert.ReferenceWoIdeal.τ).loc Cert.ReferenceWoIdeal.main_arg5) = m ((c.tc : Thread Cert.KernelWoIdeal.nD Cert.KernelWoIdeal.τ).loc Cert.KernelWoIdeal.main_arg5)
      ∧ m' ((c.tc : Thread Cert.ReferenceWoIdeal.nD Cert.ReferenceWoIdeal.τ).loc Cert.ReferenceWoIdeal.main_arg6) = m ((c.tc : Thread Cert.KernelWoIdeal.nD Cert.KernelWoIdeal.τ).loc Cert.KernelWoIdeal.main_arg6)
      ∧ m' ((c.tc : Thread Cert.ReferenceWoIdeal.nD Cert.ReferenceWoIdeal.τ).loc Cert.ReferenceWoIdeal.main_arg7) = m ((c.tc : Thread Cert.KernelWoIdeal.nD Cert.KernelWoIdeal.τ).loc Cert.KernelWoIdeal.main_arg7)
      ∧ m' ((c.tc : Thread Cert.ReferenceWoIdeal.nD Cert.ReferenceWoIdeal.τ).loc Cert.ReferenceWoIdeal.main_arg8) = m ((c.tc : Thread Cert.KernelWoIdeal.nD Cert.KernelWoIdeal.τ).loc Cert.KernelWoIdeal.main_arg8)) →
    ∃ (v0 : (c : Dev Cert.KernelWoIdeal.nD) → Buf (Elt Ideal) ((c.tc : Thread Cert.KernelWoIdeal.nD Cert.KernelWoIdeal.τ).loc Cert.KernelWoIdeal.main_v6_2)) (v1 : (c : Dev Cert.KernelWoIdeal.nD) → Buf (Elt Ideal) ((c.tc : Thread Cert.KernelWoIdeal.nD Cert.KernelWoIdeal.τ).loc Cert.KernelWoIdeal.main_v11_0)) (v2 : (c : Dev Cert.KernelWoIdeal.nD) → Buf (Elt Ideal) ((c.tc : Thread Cert.KernelWoIdeal.nD Cert.KernelWoIdeal.τ).loc Cert.KernelWoIdeal.main_v11_1)) (v3 : (c : Dev Cert.KernelWoIdeal.nD) → Buf (Elt Ideal) ((c.tc : Thread Cert.KernelWoIdeal.nD Cert.KernelWoIdeal.τ).loc Cert.KernelWoIdeal.main_v11_2)) (v4 : (c : Dev Cert.KernelWoIdeal.nD) → Buf (Elt Ideal) ((c.tc : Thread Cert.KernelWoIdeal.nD Cert.KernelWoIdeal.τ).loc Cert.KernelWoIdeal.main_v11_3)) (v5 : (c : Dev Cert.KernelWoIdeal.nD) → Buf (Elt Ideal) ((c.tc : Thread Cert.KernelWoIdeal.nD Cert.KernelWoIdeal.τ).loc Cert.KernelWoIdeal.main_v11_4)),
      θ_run (Cert.KernelWoIdeal.defs (F := Ideal)) (onTc (τ := Cert.KernelWoIdeal.τ) (Cert.KernelWoIdeal.main (F := Ideal))) ⟨m, fun _ => 0, g⟩ (fun r => ∀ c : Dev Cert.KernelWoIdeal.nD,
          r.2.mem ((c.tc : Thread Cert.KernelWoIdeal.nD Cert.KernelWoIdeal.τ).loc Cert.KernelWoIdeal.main_v6_2) = v0 c
          ∧ r.2.mem ((c.tc : Thread Cert.KernelWoIdeal.nD Cert.KernelWoIdeal.τ).loc Cert.KernelWoIdeal.main_v11_0) = v1 c
          ∧ r.2.mem ((c.tc : Thread Cert.KernelWoIdeal.nD Cert.KernelWoIdeal.τ).loc Cert.KernelWoIdeal.main_v11_1) = v2 c
          ∧ r.2.mem ((c.tc : Thread Cert.KernelWoIdeal.nD Cert.KernelWoIdeal.τ).loc Cert.KernelWoIdeal.main_v11_2) = v3 c
          ∧ r.2.mem ((c.tc : Thread Cert.KernelWoIdeal.nD Cert.KernelWoIdeal.τ).loc Cert.KernelWoIdeal.main_v11_3) = v4 c
          ∧ r.2.mem ((c.tc : Thread Cert.KernelWoIdeal.nD Cert.KernelWoIdeal.τ).loc Cert.KernelWoIdeal.main_v11_4) = v5 c
          ∧ r.2.mem ((c.tc : Thread Cert.KernelWoIdeal.nD Cert.KernelWoIdeal.τ).loc Cert.KernelWoIdeal.main_arg0) = m ((c.tc : Thread Cert.KernelWoIdeal.nD Cert.KernelWoIdeal.τ).loc Cert.KernelWoIdeal.main_arg0)
          ∧ r.2.mem ((c.tc : Thread Cert.KernelWoIdeal.nD Cert.KernelWoIdeal.τ).loc Cert.KernelWoIdeal.main_arg1) = m ((c.tc : Thread Cert.KernelWoIdeal.nD Cert.KernelWoIdeal.τ).loc Cert.KernelWoIdeal.main_arg1)
          ∧ r.2.mem ((c.tc : Thread Cert.KernelWoIdeal.nD Cert.KernelWoIdeal.τ).loc Cert.KernelWoIdeal.main_arg2) = m ((c.tc : Thread Cert.KernelWoIdeal.nD Cert.KernelWoIdeal.τ).loc Cert.KernelWoIdeal.main_arg2)
          ∧ r.2.mem ((c.tc : Thread Cert.KernelWoIdeal.nD Cert.KernelWoIdeal.τ).loc Cert.KernelWoIdeal.main_arg3) = m ((c.tc : Thread Cert.KernelWoIdeal.nD Cert.KernelWoIdeal.τ).loc Cert.KernelWoIdeal.main_arg3)
          ∧ r.2.mem ((c.tc : Thread Cert.KernelWoIdeal.nD Cert.KernelWoIdeal.τ).loc Cert.KernelWoIdeal.main_arg4) = m ((c.tc : Thread Cert.KernelWoIdeal.nD Cert.KernelWoIdeal.τ).loc Cert.KernelWoIdeal.main_arg4)
          ∧ r.2.mem ((c.tc : Thread Cert.KernelWoIdeal.nD Cert.KernelWoIdeal.τ).loc Cert.KernelWoIdeal.main_arg5) = m ((c.tc : Thread Cert.KernelWoIdeal.nD Cert.KernelWoIdeal.τ).loc Cert.KernelWoIdeal.main_arg5)
          ∧ r.2.mem ((c.tc : Thread Cert.KernelWoIdeal.nD Cert.KernelWoIdeal.τ).loc Cert.KernelWoIdeal.main_arg6) = m ((c.tc : Thread Cert.KernelWoIdeal.nD Cert.KernelWoIdeal.τ).loc Cert.KernelWoIdeal.main_arg6)
          ∧ r.2.mem ((c.tc : Thread Cert.KernelWoIdeal.nD Cert.KernelWoIdeal.τ).loc Cert.KernelWoIdeal.main_arg7) = m ((c.tc : Thread Cert.KernelWoIdeal.nD Cert.KernelWoIdeal.τ).loc Cert.KernelWoIdeal.main_arg7)
          ∧ r.2.mem ((c.tc : Thread Cert.KernelWoIdeal.nD Cert.KernelWoIdeal.τ).loc Cert.KernelWoIdeal.main_arg8) = m ((c.tc : Thread Cert.KernelWoIdeal.nD Cert.KernelWoIdeal.τ).loc Cert.KernelWoIdeal.main_arg8))
      ∧ θ_run (Cert.ReferenceWoIdeal.defs (F := Ideal)) (onTc (τ := Cert.ReferenceWoIdeal.τ) (Cert.ReferenceWoIdeal.main (F := Ideal))) ⟨m', fun _ => 0, g'⟩ (fun r => ∀ c : Dev Cert.ReferenceWoIdeal.nD,
          r.2.mem ((c.tc : Thread Cert.ReferenceWoIdeal.nD Cert.ReferenceWoIdeal.τ).loc Cert.ReferenceWoIdeal.main_v70) = v0 c
          ∧ r.2.mem ((c.tc : Thread Cert.ReferenceWoIdeal.nD Cert.ReferenceWoIdeal.τ).loc Cert.ReferenceWoIdeal.main_v69) = v1 c
          ∧ r.2.mem ((c.tc : Thread Cert.ReferenceWoIdeal.nD Cert.ReferenceWoIdeal.τ).loc Cert.ReferenceWoIdeal.main_v71) = v2 c
          ∧ r.2.mem ((c.tc : Thread Cert.ReferenceWoIdeal.nD Cert.ReferenceWoIdeal.τ).loc Cert.ReferenceWoIdeal.main_v43) = v3 c
          ∧ r.2.mem ((c.tc : Thread Cert.ReferenceWoIdeal.nD Cert.ReferenceWoIdeal.τ).loc Cert.ReferenceWoIdeal.main_v40) = v4 c
          ∧ r.2.mem ((c.tc : Thread Cert.ReferenceWoIdeal.nD Cert.ReferenceWoIdeal.τ).loc Cert.ReferenceWoIdeal.main_v72) = v5 c
          ∧ r.2.mem ((c.tc : Thread Cert.ReferenceWoIdeal.nD Cert.ReferenceWoIdeal.τ).loc Cert.ReferenceWoIdeal.main_arg0) = m' ((c.tc : Thread Cert.ReferenceWoIdeal.nD Cert.ReferenceWoIdeal.τ).loc Cert.ReferenceWoIdeal.main_arg0)
          ∧ r.2.mem ((c.tc : Thread Cert.ReferenceWoIdeal.nD Cert.ReferenceWoIdeal.τ).loc Cert.ReferenceWoIdeal.main_arg1) = m' ((c.tc : Thread Cert.ReferenceWoIdeal.nD Cert.ReferenceWoIdeal.τ).loc Cert.ReferenceWoIdeal.main_arg1)
          ∧ r.2.mem ((c.tc : Thread Cert.ReferenceWoIdeal.nD Cert.ReferenceWoIdeal.τ).loc Cert.ReferenceWoIdeal.main_arg2) = m' ((c.tc : Thread Cert.ReferenceWoIdeal.nD Cert.ReferenceWoIdeal.τ).loc Cert.ReferenceWoIdeal.main_arg2)
          ∧ r.2.mem ((c.tc : Thread Cert.ReferenceWoIdeal.nD Cert.ReferenceWoIdeal.τ).loc Cert.ReferenceWoIdeal.main_arg3) = m' ((c.tc : Thread Cert.ReferenceWoIdeal.nD Cert.ReferenceWoIdeal.τ).loc Cert.ReferenceWoIdeal.main_arg3)
          ∧ r.2.mem ((c.tc : Thread Cert.ReferenceWoIdeal.nD Cert.ReferenceWoIdeal.τ).loc Cert.ReferenceWoIdeal.main_arg4) = m' ((c.tc : Thread Cert.ReferenceWoIdeal.nD Cert.ReferenceWoIdeal.τ).loc Cert.ReferenceWoIdeal.main_arg4)
          ∧ r.2.mem ((c.tc : Thread Cert.ReferenceWoIdeal.nD Cert.ReferenceWoIdeal.τ).loc Cert.ReferenceWoIdeal.main_arg5) = m' ((c.tc : Thread Cert.ReferenceWoIdeal.nD Cert.ReferenceWoIdeal.τ).loc Cert.ReferenceWoIdeal.main_arg5)
          ∧ r.2.mem ((c.tc : Thread Cert.ReferenceWoIdeal.nD Cert.ReferenceWoIdeal.τ).loc Cert.ReferenceWoIdeal.main_arg6) = m' ((c.tc : Thread Cert.ReferenceWoIdeal.nD Cert.ReferenceWoIdeal.τ).loc Cert.ReferenceWoIdeal.main_arg6)
          ∧ r.2.mem ((c.tc : Thread Cert.ReferenceWoIdeal.nD Cert.ReferenceWoIdeal.τ).loc Cert.ReferenceWoIdeal.main_arg7) = m' ((c.tc : Thread Cert.ReferenceWoIdeal.nD Cert.ReferenceWoIdeal.τ).loc Cert.ReferenceWoIdeal.main_arg7)
          ∧ r.2.mem ((c.tc : Thread Cert.ReferenceWoIdeal.nD Cert.ReferenceWoIdeal.τ).loc Cert.ReferenceWoIdeal.main_arg8) = m' ((c.tc : Thread Cert.ReferenceWoIdeal.nD Cert.ReferenceWoIdeal.τ).loc Cert.ReferenceWoIdeal.main_arg8))

def preserves_KernelDn_KernelDnIdeal : Prop :=
  True

def algebraic_KernelDnIdeal_ReferenceDnIdeal_pre_finite_dn [hKernelDnIdeal : Cert.KernelDnIdeal.Facts] [hReferenceDnIdeal : Cert.ReferenceDnIdeal.Facts] [hPre_finite_dn : Cert.Pre_finite_dn.Facts] : Prop :=
  ∀ (m : (ℓ : Loc Cert.KernelDnIdeal.nD Cert.KernelDnIdeal.τ Cert.KernelDnIdeal.sig) → Buf (Elt Ideal) ℓ) (g : Dev Cert.KernelDnIdeal.nD → PrngReg)
    (m' : (ℓ : Loc Cert.ReferenceDnIdeal.nD Cert.ReferenceDnIdeal.τ Cert.ReferenceDnIdeal.sig) → Buf (Elt Ideal) ℓ) (g' : Dev Cert.ReferenceDnIdeal.nD → PrngReg), Pre_KernelDnIdeal_finite_dn m →
    (∀ c : Dev Cert.KernelDnIdeal.nD,
      m' ((c.tc : Thread Cert.ReferenceDnIdeal.nD Cert.ReferenceDnIdeal.τ).loc Cert.ReferenceDnIdeal.main_arg0) = m ((c.tc : Thread Cert.KernelDnIdeal.nD Cert.KernelDnIdeal.τ).loc Cert.KernelDnIdeal.main_arg0)
      ∧ m' ((c.tc : Thread Cert.ReferenceDnIdeal.nD Cert.ReferenceDnIdeal.τ).loc Cert.ReferenceDnIdeal.main_arg1) = m ((c.tc : Thread Cert.KernelDnIdeal.nD Cert.KernelDnIdeal.τ).loc Cert.KernelDnIdeal.main_arg1)
      ∧ m' ((c.tc : Thread Cert.ReferenceDnIdeal.nD Cert.ReferenceDnIdeal.τ).loc Cert.ReferenceDnIdeal.main_arg2) = m ((c.tc : Thread Cert.KernelDnIdeal.nD Cert.KernelDnIdeal.τ).loc Cert.KernelDnIdeal.main_arg2)
      ∧ m' ((c.tc : Thread Cert.ReferenceDnIdeal.nD Cert.ReferenceDnIdeal.τ).loc Cert.ReferenceDnIdeal.main_arg3) = m ((c.tc : Thread Cert.KernelDnIdeal.nD Cert.KernelDnIdeal.τ).loc Cert.KernelDnIdeal.main_arg3)
      ∧ m' ((c.tc : Thread Cert.ReferenceDnIdeal.nD Cert.ReferenceDnIdeal.τ).loc Cert.ReferenceDnIdeal.main_arg4) = m ((c.tc : Thread Cert.KernelDnIdeal.nD Cert.KernelDnIdeal.τ).loc Cert.KernelDnIdeal.main_arg4)
      ∧ m' ((c.tc : Thread Cert.ReferenceDnIdeal.nD Cert.ReferenceDnIdeal.τ).loc Cert.ReferenceDnIdeal.main_arg5) = m ((c.tc : Thread Cert.KernelDnIdeal.nD Cert.KernelDnIdeal.τ).loc Cert.KernelDnIdeal.main_arg5)
      ∧ m' ((c.tc : Thread Cert.ReferenceDnIdeal.nD Cert.ReferenceDnIdeal.τ).loc Cert.ReferenceDnIdeal.main_arg6) = m ((c.tc : Thread Cert.KernelDnIdeal.nD Cert.KernelDnIdeal.τ).loc Cert.KernelDnIdeal.main_arg6)
      ∧ m' ((c.tc : Thread Cert.ReferenceDnIdeal.nD Cert.ReferenceDnIdeal.τ).loc Cert.ReferenceDnIdeal.main_arg7) = m ((c.tc : Thread Cert.KernelDnIdeal.nD Cert.KernelDnIdeal.τ).loc Cert.KernelDnIdeal.main_arg7)) →
    ∃ (v0 : (c : Dev Cert.KernelDnIdeal.nD) → Buf (Elt Ideal) ((c.tc : Thread Cert.KernelDnIdeal.nD Cert.KernelDnIdeal.τ).loc Cert.KernelDnIdeal.main_v6_2)) (v1 : (c : Dev Cert.KernelDnIdeal.nD) → Buf (Elt Ideal) ((c.tc : Thread Cert.KernelDnIdeal.nD Cert.KernelDnIdeal.τ).loc Cert.KernelDnIdeal.main_v10_0)) (v2 : (c : Dev Cert.KernelDnIdeal.nD) → Buf (Elt Ideal) ((c.tc : Thread Cert.KernelDnIdeal.nD Cert.KernelDnIdeal.τ).loc Cert.KernelDnIdeal.main_v10_1)) (v3 : (c : Dev Cert.KernelDnIdeal.nD) → Buf (Elt Ideal) ((c.tc : Thread Cert.KernelDnIdeal.nD Cert.KernelDnIdeal.τ).loc Cert.KernelDnIdeal.main_v10_2)) (v4 : (c : Dev Cert.KernelDnIdeal.nD) → Buf (Elt Ideal) ((c.tc : Thread Cert.KernelDnIdeal.nD Cert.KernelDnIdeal.τ).loc Cert.KernelDnIdeal.main_v10_3)),
      θ_run (Cert.KernelDnIdeal.defs (F := Ideal)) (onTc (τ := Cert.KernelDnIdeal.τ) (Cert.KernelDnIdeal.main (F := Ideal))) ⟨m, fun _ => 0, g⟩ (fun r => ∀ c : Dev Cert.KernelDnIdeal.nD,
          r.2.mem ((c.tc : Thread Cert.KernelDnIdeal.nD Cert.KernelDnIdeal.τ).loc Cert.KernelDnIdeal.main_v6_2) = v0 c
          ∧ r.2.mem ((c.tc : Thread Cert.KernelDnIdeal.nD Cert.KernelDnIdeal.τ).loc Cert.KernelDnIdeal.main_v10_0) = v1 c
          ∧ r.2.mem ((c.tc : Thread Cert.KernelDnIdeal.nD Cert.KernelDnIdeal.τ).loc Cert.KernelDnIdeal.main_v10_1) = v2 c
          ∧ r.2.mem ((c.tc : Thread Cert.KernelDnIdeal.nD Cert.KernelDnIdeal.τ).loc Cert.KernelDnIdeal.main_v10_2) = v3 c
          ∧ r.2.mem ((c.tc : Thread Cert.KernelDnIdeal.nD Cert.KernelDnIdeal.τ).loc Cert.KernelDnIdeal.main_v10_3) = v4 c
          ∧ r.2.mem ((c.tc : Thread Cert.KernelDnIdeal.nD Cert.KernelDnIdeal.τ).loc Cert.KernelDnIdeal.main_arg0) = m ((c.tc : Thread Cert.KernelDnIdeal.nD Cert.KernelDnIdeal.τ).loc Cert.KernelDnIdeal.main_arg0)
          ∧ r.2.mem ((c.tc : Thread Cert.KernelDnIdeal.nD Cert.KernelDnIdeal.τ).loc Cert.KernelDnIdeal.main_arg1) = m ((c.tc : Thread Cert.KernelDnIdeal.nD Cert.KernelDnIdeal.τ).loc Cert.KernelDnIdeal.main_arg1)
          ∧ r.2.mem ((c.tc : Thread Cert.KernelDnIdeal.nD Cert.KernelDnIdeal.τ).loc Cert.KernelDnIdeal.main_arg2) = m ((c.tc : Thread Cert.KernelDnIdeal.nD Cert.KernelDnIdeal.τ).loc Cert.KernelDnIdeal.main_arg2)
          ∧ r.2.mem ((c.tc : Thread Cert.KernelDnIdeal.nD Cert.KernelDnIdeal.τ).loc Cert.KernelDnIdeal.main_arg3) = m ((c.tc : Thread Cert.KernelDnIdeal.nD Cert.KernelDnIdeal.τ).loc Cert.KernelDnIdeal.main_arg3)
          ∧ r.2.mem ((c.tc : Thread Cert.KernelDnIdeal.nD Cert.KernelDnIdeal.τ).loc Cert.KernelDnIdeal.main_arg4) = m ((c.tc : Thread Cert.KernelDnIdeal.nD Cert.KernelDnIdeal.τ).loc Cert.KernelDnIdeal.main_arg4)
          ∧ r.2.mem ((c.tc : Thread Cert.KernelDnIdeal.nD Cert.KernelDnIdeal.τ).loc Cert.KernelDnIdeal.main_arg5) = m ((c.tc : Thread Cert.KernelDnIdeal.nD Cert.KernelDnIdeal.τ).loc Cert.KernelDnIdeal.main_arg5)
          ∧ r.2.mem ((c.tc : Thread Cert.KernelDnIdeal.nD Cert.KernelDnIdeal.τ).loc Cert.KernelDnIdeal.main_arg6) = m ((c.tc : Thread Cert.KernelDnIdeal.nD Cert.KernelDnIdeal.τ).loc Cert.KernelDnIdeal.main_arg6)
          ∧ r.2.mem ((c.tc : Thread Cert.KernelDnIdeal.nD Cert.KernelDnIdeal.τ).loc Cert.KernelDnIdeal.main_arg7) = m ((c.tc : Thread Cert.KernelDnIdeal.nD Cert.KernelDnIdeal.τ).loc Cert.KernelDnIdeal.main_arg7))
      ∧ θ_run (Cert.ReferenceDnIdeal.defs (F := Ideal)) (onTc (τ := Cert.ReferenceDnIdeal.τ) (Cert.ReferenceDnIdeal.main (F := Ideal))) ⟨m', fun _ => 0, g'⟩ (fun r => ∀ c : Dev Cert.ReferenceDnIdeal.nD,
          r.2.mem ((c.tc : Thread Cert.ReferenceDnIdeal.nD Cert.ReferenceDnIdeal.τ).loc Cert.ReferenceDnIdeal.main_v69) = v0 c
          ∧ r.2.mem ((c.tc : Thread Cert.ReferenceDnIdeal.nD Cert.ReferenceDnIdeal.τ).loc Cert.ReferenceDnIdeal.main_v68) = v1 c
          ∧ r.2.mem ((c.tc : Thread Cert.ReferenceDnIdeal.nD Cert.ReferenceDnIdeal.τ).loc Cert.ReferenceDnIdeal.main_v70) = v2 c
          ∧ r.2.mem ((c.tc : Thread Cert.ReferenceDnIdeal.nD Cert.ReferenceDnIdeal.τ).loc Cert.ReferenceDnIdeal.main_v42) = v3 c
          ∧ r.2.mem ((c.tc : Thread Cert.ReferenceDnIdeal.nD Cert.ReferenceDnIdeal.τ).loc Cert.ReferenceDnIdeal.main_v39) = v4 c
          ∧ r.2.mem ((c.tc : Thread Cert.ReferenceDnIdeal.nD Cert.ReferenceDnIdeal.τ).loc Cert.ReferenceDnIdeal.main_arg0) = m' ((c.tc : Thread Cert.ReferenceDnIdeal.nD Cert.ReferenceDnIdeal.τ).loc Cert.ReferenceDnIdeal.main_arg0)
          ∧ r.2.mem ((c.tc : Thread Cert.ReferenceDnIdeal.nD Cert.ReferenceDnIdeal.τ).loc Cert.ReferenceDnIdeal.main_arg1) = m' ((c.tc : Thread Cert.ReferenceDnIdeal.nD Cert.ReferenceDnIdeal.τ).loc Cert.ReferenceDnIdeal.main_arg1)
          ∧ r.2.mem ((c.tc : Thread Cert.ReferenceDnIdeal.nD Cert.ReferenceDnIdeal.τ).loc Cert.ReferenceDnIdeal.main_arg2) = m' ((c.tc : Thread Cert.ReferenceDnIdeal.nD Cert.ReferenceDnIdeal.τ).loc Cert.ReferenceDnIdeal.main_arg2)
          ∧ r.2.mem ((c.tc : Thread Cert.ReferenceDnIdeal.nD Cert.ReferenceDnIdeal.τ).loc Cert.ReferenceDnIdeal.main_arg3) = m' ((c.tc : Thread Cert.ReferenceDnIdeal.nD Cert.ReferenceDnIdeal.τ).loc Cert.ReferenceDnIdeal.main_arg3)
          ∧ r.2.mem ((c.tc : Thread Cert.ReferenceDnIdeal.nD Cert.ReferenceDnIdeal.τ).loc Cert.ReferenceDnIdeal.main_arg4) = m' ((c.tc : Thread Cert.ReferenceDnIdeal.nD Cert.ReferenceDnIdeal.τ).loc Cert.ReferenceDnIdeal.main_arg4)
          ∧ r.2.mem ((c.tc : Thread Cert.ReferenceDnIdeal.nD Cert.ReferenceDnIdeal.τ).loc Cert.ReferenceDnIdeal.main_arg5) = m' ((c.tc : Thread Cert.ReferenceDnIdeal.nD Cert.ReferenceDnIdeal.τ).loc Cert.ReferenceDnIdeal.main_arg5)
          ∧ r.2.mem ((c.tc : Thread Cert.ReferenceDnIdeal.nD Cert.ReferenceDnIdeal.τ).loc Cert.ReferenceDnIdeal.main_arg6) = m' ((c.tc : Thread Cert.ReferenceDnIdeal.nD Cert.ReferenceDnIdeal.τ).loc Cert.ReferenceDnIdeal.main_arg6)
          ∧ r.2.mem ((c.tc : Thread Cert.ReferenceDnIdeal.nD Cert.ReferenceDnIdeal.τ).loc Cert.ReferenceDnIdeal.main_arg7) = m' ((c.tc : Thread Cert.ReferenceDnIdeal.nD Cert.ReferenceDnIdeal.τ).loc Cert.ReferenceDnIdeal.main_arg7))

def preserves_KernelMf_KernelMfIdeal : Prop :=
  IdealRules.named_const.Statement Cert.KernelMfIdeal.κ "inv_sqrt2" .f32 0x3F3504F3#32 (((Real.sqrt 2)⁻¹ : ℝ) : EReal)

def algebraic_KernelMfIdeal_ReferenceMfIdeal_pre_finite_mf [hKernelMfIdeal : Cert.KernelMfIdeal.Facts] [hReferenceMfIdeal : Cert.ReferenceMfIdeal.Facts] [hPre_finite_mf : Cert.Pre_finite_mf.Facts] : Prop :=
  ∀ (m : (ℓ : Loc Cert.KernelMfIdeal.nD Cert.KernelMfIdeal.τ Cert.KernelMfIdeal.sig) → Buf (Elt Ideal) ℓ) (g : Dev Cert.KernelMfIdeal.nD → PrngReg)
    (m' : (ℓ : Loc Cert.ReferenceMfIdeal.nD Cert.ReferenceMfIdeal.τ Cert.ReferenceMfIdeal.sig) → Buf (Elt Ideal) ℓ) (g' : Dev Cert.ReferenceMfIdeal.nD → PrngReg), Pre_KernelMfIdeal_finite_mf m →
    (∀ c : Dev Cert.KernelMfIdeal.nD,
      m' ((c.tc : Thread Cert.ReferenceMfIdeal.nD Cert.ReferenceMfIdeal.τ).loc Cert.ReferenceMfIdeal.main_arg0) = m ((c.tc : Thread Cert.KernelMfIdeal.nD Cert.KernelMfIdeal.τ).loc Cert.KernelMfIdeal.main_arg0)
      ∧ m' ((c.tc : Thread Cert.ReferenceMfIdeal.nD Cert.ReferenceMfIdeal.τ).loc Cert.ReferenceMfIdeal.main_arg1) = m ((c.tc : Thread Cert.KernelMfIdeal.nD Cert.KernelMfIdeal.τ).loc Cert.KernelMfIdeal.main_arg1)
      ∧ m' ((c.tc : Thread Cert.ReferenceMfIdeal.nD Cert.ReferenceMfIdeal.τ).loc Cert.ReferenceMfIdeal.main_arg2) = m ((c.tc : Thread Cert.KernelMfIdeal.nD Cert.KernelMfIdeal.τ).loc Cert.KernelMfIdeal.main_arg2)
      ∧ m' ((c.tc : Thread Cert.ReferenceMfIdeal.nD Cert.ReferenceMfIdeal.τ).loc Cert.ReferenceMfIdeal.main_arg3) = m ((c.tc : Thread Cert.KernelMfIdeal.nD Cert.KernelMfIdeal.τ).loc Cert.KernelMfIdeal.main_arg3)
      ∧ m' ((c.tc : Thread Cert.ReferenceMfIdeal.nD Cert.ReferenceMfIdeal.τ).loc Cert.ReferenceMfIdeal.main_arg4) = m ((c.tc : Thread Cert.KernelMfIdeal.nD Cert.KernelMfIdeal.τ).loc Cert.KernelMfIdeal.main_arg4)
      ∧ m' ((c.tc : Thread Cert.ReferenceMfIdeal.nD Cert.ReferenceMfIdeal.τ).loc Cert.ReferenceMfIdeal.main_arg5) = m ((c.tc : Thread Cert.KernelMfIdeal.nD Cert.KernelMfIdeal.τ).loc Cert.KernelMfIdeal.main_arg5)
      ∧ m' ((c.tc : Thread Cert.ReferenceMfIdeal.nD Cert.ReferenceMfIdeal.τ).loc Cert.ReferenceMfIdeal.main_arg6) = m ((c.tc : Thread Cert.KernelMfIdeal.nD Cert.KernelMfIdeal.τ).loc Cert.KernelMfIdeal.main_arg6)) →
    ∃ (v0 : (c : Dev Cert.KernelMfIdeal.nD) → Buf (Elt Ideal) ((c.tc : Thread Cert.KernelMfIdeal.nD Cert.KernelMfIdeal.τ).loc Cert.KernelMfIdeal.main_v20)),
      θ_run (Cert.KernelMfIdeal.defs (F := Ideal)) (onTc (τ := Cert.KernelMfIdeal.τ) (Cert.KernelMfIdeal.main (F := Ideal))) ⟨m, fun _ => 0, g⟩ (fun r => ∀ c : Dev Cert.KernelMfIdeal.nD,
          r.2.mem ((c.tc : Thread Cert.KernelMfIdeal.nD Cert.KernelMfIdeal.τ).loc Cert.KernelMfIdeal.main_v20) = v0 c
          ∧ r.2.mem ((c.tc : Thread Cert.KernelMfIdeal.nD Cert.KernelMfIdeal.τ).loc Cert.KernelMfIdeal.main_arg0) = m ((c.tc : Thread Cert.KernelMfIdeal.nD Cert.KernelMfIdeal.τ).loc Cert.KernelMfIdeal.main_arg0)
          ∧ r.2.mem ((c.tc : Thread Cert.KernelMfIdeal.nD Cert.KernelMfIdeal.τ).loc Cert.KernelMfIdeal.main_arg1) = m ((c.tc : Thread Cert.KernelMfIdeal.nD Cert.KernelMfIdeal.τ).loc Cert.KernelMfIdeal.main_arg1)
          ∧ r.2.mem ((c.tc : Thread Cert.KernelMfIdeal.nD Cert.KernelMfIdeal.τ).loc Cert.KernelMfIdeal.main_arg2) = m ((c.tc : Thread Cert.KernelMfIdeal.nD Cert.KernelMfIdeal.τ).loc Cert.KernelMfIdeal.main_arg2)
          ∧ r.2.mem ((c.tc : Thread Cert.KernelMfIdeal.nD Cert.KernelMfIdeal.τ).loc Cert.KernelMfIdeal.main_arg3) = m ((c.tc : Thread Cert.KernelMfIdeal.nD Cert.KernelMfIdeal.τ).loc Cert.KernelMfIdeal.main_arg3)
          ∧ r.2.mem ((c.tc : Thread Cert.KernelMfIdeal.nD Cert.KernelMfIdeal.τ).loc Cert.KernelMfIdeal.main_arg4) = m ((c.tc : Thread Cert.KernelMfIdeal.nD Cert.KernelMfIdeal.τ).loc Cert.KernelMfIdeal.main_arg4)
          ∧ r.2.mem ((c.tc : Thread Cert.KernelMfIdeal.nD Cert.KernelMfIdeal.τ).loc Cert.KernelMfIdeal.main_arg5) = m ((c.tc : Thread Cert.KernelMfIdeal.nD Cert.KernelMfIdeal.τ).loc Cert.KernelMfIdeal.main_arg5)
          ∧ r.2.mem ((c.tc : Thread Cert.KernelMfIdeal.nD Cert.KernelMfIdeal.τ).loc Cert.KernelMfIdeal.main_arg6) = m ((c.tc : Thread Cert.KernelMfIdeal.nD Cert.KernelMfIdeal.τ).loc Cert.KernelMfIdeal.main_arg6))
      ∧ θ_run (Cert.ReferenceMfIdeal.defs (F := Ideal)) (onTc (τ := Cert.ReferenceMfIdeal.τ) (Cert.ReferenceMfIdeal.main (F := Ideal))) ⟨m', fun _ => 0, g'⟩ (fun r => ∀ c : Dev Cert.ReferenceMfIdeal.nD,
          r.2.mem ((c.tc : Thread Cert.ReferenceMfIdeal.nD Cert.ReferenceMfIdeal.τ).loc Cert.ReferenceMfIdeal.main_v151) = v0 c
          ∧ r.2.mem ((c.tc : Thread Cert.ReferenceMfIdeal.nD Cert.ReferenceMfIdeal.τ).loc Cert.ReferenceMfIdeal.main_arg0) = m' ((c.tc : Thread Cert.ReferenceMfIdeal.nD Cert.ReferenceMfIdeal.τ).loc Cert.ReferenceMfIdeal.main_arg0)
          ∧ r.2.mem ((c.tc : Thread Cert.ReferenceMfIdeal.nD Cert.ReferenceMfIdeal.τ).loc Cert.ReferenceMfIdeal.main_arg1) = m' ((c.tc : Thread Cert.ReferenceMfIdeal.nD Cert.ReferenceMfIdeal.τ).loc Cert.ReferenceMfIdeal.main_arg1)
          ∧ r.2.mem ((c.tc : Thread Cert.ReferenceMfIdeal.nD Cert.ReferenceMfIdeal.τ).loc Cert.ReferenceMfIdeal.main_arg2) = m' ((c.tc : Thread Cert.ReferenceMfIdeal.nD Cert.ReferenceMfIdeal.τ).loc Cert.ReferenceMfIdeal.main_arg2)
          ∧ r.2.mem ((c.tc : Thread Cert.ReferenceMfIdeal.nD Cert.ReferenceMfIdeal.τ).loc Cert.ReferenceMfIdeal.main_arg3) = m' ((c.tc : Thread Cert.ReferenceMfIdeal.nD Cert.ReferenceMfIdeal.τ).loc Cert.ReferenceMfIdeal.main_arg3)
          ∧ r.2.mem ((c.tc : Thread Cert.ReferenceMfIdeal.nD Cert.ReferenceMfIdeal.τ).loc Cert.ReferenceMfIdeal.main_arg4) = m' ((c.tc : Thread Cert.ReferenceMfIdeal.nD Cert.ReferenceMfIdeal.τ).loc Cert.ReferenceMfIdeal.main_arg4)
          ∧ r.2.mem ((c.tc : Thread Cert.ReferenceMfIdeal.nD Cert.ReferenceMfIdeal.τ).loc Cert.ReferenceMfIdeal.main_arg5) = m' ((c.tc : Thread Cert.ReferenceMfIdeal.nD Cert.ReferenceMfIdeal.τ).loc Cert.ReferenceMfIdeal.main_arg5)
          ∧ r.2.mem ((c.tc : Thread Cert.ReferenceMfIdeal.nD Cert.ReferenceMfIdeal.τ).loc Cert.ReferenceMfIdeal.main_arg6) = m' ((c.tc : Thread Cert.ReferenceMfIdeal.nD Cert.ReferenceMfIdeal.τ).loc Cert.ReferenceMfIdeal.main_arg6))

def preserves_KernelDx_KernelDxIdeal : Prop :=
  True

def algebraic_KernelDxIdeal_ReferenceDxIdeal [hKernelDxIdeal : Cert.KernelDxIdeal.Facts] [hReferenceDxIdeal : Cert.ReferenceDxIdeal.Facts] : Prop :=
  ∀ (m : (ℓ : Loc Cert.KernelDxIdeal.nD Cert.KernelDxIdeal.τ Cert.KernelDxIdeal.sig) → Buf (Elt Ideal) ℓ) (g : Dev Cert.KernelDxIdeal.nD → PrngReg)
    (m' : (ℓ : Loc Cert.ReferenceDxIdeal.nD Cert.ReferenceDxIdeal.τ Cert.ReferenceDxIdeal.sig) → Buf (Elt Ideal) ℓ) (g' : Dev Cert.ReferenceDxIdeal.nD → PrngReg), Pre_KernelDxIdeal m →
    (∀ c : Dev Cert.KernelDxIdeal.nD,
      m' ((c.tc : Thread Cert.ReferenceDxIdeal.nD Cert.ReferenceDxIdeal.τ).loc Cert.ReferenceDxIdeal.main_arg0) = m ((c.tc : Thread Cert.KernelDxIdeal.nD Cert.KernelDxIdeal.τ).loc Cert.KernelDxIdeal.main_arg0)
      ∧ m' ((c.tc : Thread Cert.ReferenceDxIdeal.nD Cert.ReferenceDxIdeal.τ).loc Cert.ReferenceDxIdeal.main_arg1) = m ((c.tc : Thread Cert.KernelDxIdeal.nD Cert.KernelDxIdeal.τ).loc Cert.KernelDxIdeal.main_arg1)
      ∧ m' ((c.tc : Thread Cert.ReferenceDxIdeal.nD Cert.ReferenceDxIdeal.τ).loc Cert.ReferenceDxIdeal.main_arg2) = m ((c.tc : Thread Cert.KernelDxIdeal.nD Cert.KernelDxIdeal.τ).loc Cert.KernelDxIdeal.main_arg2)
      ∧ m' ((c.tc : Thread Cert.ReferenceDxIdeal.nD Cert.ReferenceDxIdeal.τ).loc Cert.ReferenceDxIdeal.main_arg3) = m ((c.tc : Thread Cert.KernelDxIdeal.nD Cert.KernelDxIdeal.τ).loc Cert.KernelDxIdeal.main_arg3)) →
    ∃ (v0 : (c : Dev Cert.KernelDxIdeal.nD) → Buf (Elt Ideal) ((c.tc : Thread Cert.KernelDxIdeal.nD Cert.KernelDxIdeal.τ).loc Cert.KernelDxIdeal.main_v3)),
      θ_run (Cert.KernelDxIdeal.defs (F := Ideal)) (onTc (τ := Cert.KernelDxIdeal.τ) (Cert.KernelDxIdeal.main (F := Ideal))) ⟨m, fun _ => 0, g⟩ (fun r => ∀ c : Dev Cert.KernelDxIdeal.nD,
          r.2.mem ((c.tc : Thread Cert.KernelDxIdeal.nD Cert.KernelDxIdeal.τ).loc Cert.KernelDxIdeal.main_v3) = v0 c
          ∧ r.2.mem ((c.tc : Thread Cert.KernelDxIdeal.nD Cert.KernelDxIdeal.τ).loc Cert.KernelDxIdeal.main_arg0) = m ((c.tc : Thread Cert.KernelDxIdeal.nD Cert.KernelDxIdeal.τ).loc Cert.KernelDxIdeal.main_arg0)
          ∧ r.2.mem ((c.tc : Thread Cert.KernelDxIdeal.nD Cert.KernelDxIdeal.τ).loc Cert.KernelDxIdeal.main_arg1) = m ((c.tc : Thread Cert.KernelDxIdeal.nD Cert.KernelDxIdeal.τ).loc Cert.KernelDxIdeal.main_arg1)
          ∧ r.2.mem ((c.tc : Thread Cert.KernelDxIdeal.nD Cert.KernelDxIdeal.τ).loc Cert.KernelDxIdeal.main_arg2) = m ((c.tc : Thread Cert.KernelDxIdeal.nD Cert.KernelDxIdeal.τ).loc Cert.KernelDxIdeal.main_arg2)
          ∧ r.2.mem ((c.tc : Thread Cert.KernelDxIdeal.nD Cert.KernelDxIdeal.τ).loc Cert.KernelDxIdeal.main_arg3) = m ((c.tc : Thread Cert.KernelDxIdeal.nD Cert.KernelDxIdeal.τ).loc Cert.KernelDxIdeal.main_arg3))
      ∧ θ_run (Cert.ReferenceDxIdeal.defs (F := Ideal)) (onTc (τ := Cert.ReferenceDxIdeal.τ) (Cert.ReferenceDxIdeal.main (F := Ideal))) ⟨m', fun _ => 0, g'⟩ (fun r => ∀ c : Dev Cert.ReferenceDxIdeal.nD,
          r.2.mem ((c.tc : Thread Cert.ReferenceDxIdeal.nD Cert.ReferenceDxIdeal.τ).loc Cert.ReferenceDxIdeal.main_v6) = v0 c
          ∧ r.2.mem ((c.tc : Thread Cert.ReferenceDxIdeal.nD Cert.ReferenceDxIdeal.τ).loc Cert.ReferenceDxIdeal.main_arg0) = m' ((c.tc : Thread Cert.ReferenceDxIdeal.nD Cert.ReferenceDxIdeal.τ).loc Cert.ReferenceDxIdeal.main_arg0)
          ∧ r.2.mem ((c.tc : Thread Cert.ReferenceDxIdeal.nD Cert.ReferenceDxIdeal.τ).loc Cert.ReferenceDxIdeal.main_arg1) = m' ((c.tc : Thread Cert.ReferenceDxIdeal.nD Cert.ReferenceDxIdeal.τ).loc Cert.ReferenceDxIdeal.main_arg1)
          ∧ r.2.mem ((c.tc : Thread Cert.ReferenceDxIdeal.nD Cert.ReferenceDxIdeal.τ).loc Cert.ReferenceDxIdeal.main_arg2) = m' ((c.tc : Thread Cert.ReferenceDxIdeal.nD Cert.ReferenceDxIdeal.τ).loc Cert.ReferenceDxIdeal.main_arg2)
          ∧ r.2.mem ((c.tc : Thread Cert.ReferenceDxIdeal.nD Cert.ReferenceDxIdeal.τ).loc Cert.ReferenceDxIdeal.main_arg3) = m' ((c.tc : Thread Cert.ReferenceDxIdeal.nD Cert.ReferenceDxIdeal.τ).loc Cert.ReferenceDxIdeal.main_arg3))

def preserves_KernelDd_KernelDdIdeal : Prop :=
  True

def algebraic_KernelDdIdeal_ReferenceDdIdeal [hKernelDdIdeal : Cert.KernelDdIdeal.Facts] [hReferenceDdIdeal : Cert.ReferenceDdIdeal.Facts] : Prop :=
  ∀ (m : (ℓ : Loc Cert.KernelDdIdeal.nD Cert.KernelDdIdeal.τ Cert.KernelDdIdeal.sig) → Buf (Elt Ideal) ℓ) (g : Dev Cert.KernelDdIdeal.nD → PrngReg)
    (m' : (ℓ : Loc Cert.ReferenceDdIdeal.nD Cert.ReferenceDdIdeal.τ Cert.ReferenceDdIdeal.sig) → Buf (Elt Ideal) ℓ) (g' : Dev Cert.ReferenceDdIdeal.nD → PrngReg), Pre_KernelDdIdeal m →
    (∀ c : Dev Cert.KernelDdIdeal.nD,
      m' ((c.tc : Thread Cert.ReferenceDdIdeal.nD Cert.ReferenceDdIdeal.τ).loc Cert.ReferenceDdIdeal.main_arg0) = m ((c.tc : Thread Cert.KernelDdIdeal.nD Cert.KernelDdIdeal.τ).loc Cert.KernelDdIdeal.main_arg0)
      ∧ m' ((c.tc : Thread Cert.ReferenceDdIdeal.nD Cert.ReferenceDdIdeal.τ).loc Cert.ReferenceDdIdeal.main_arg1) = m ((c.tc : Thread Cert.KernelDdIdeal.nD Cert.KernelDdIdeal.τ).loc Cert.KernelDdIdeal.main_arg1)
      ∧ m' ((c.tc : Thread Cert.ReferenceDdIdeal.nD Cert.ReferenceDdIdeal.τ).loc Cert.ReferenceDdIdeal.main_arg2) = m ((c.tc : Thread Cert.KernelDdIdeal.nD Cert.KernelDdIdeal.τ).loc Cert.KernelDdIdeal.main_arg2)) →
    ∃ (v0 : (c : Dev Cert.KernelDdIdeal.nD) → Buf (Elt Ideal) ((c.tc : Thread Cert.KernelDdIdeal.nD Cert.KernelDdIdeal.τ).loc Cert.KernelDdIdeal.main_v2)),
      θ_run (Cert.KernelDdIdeal.defs (F := Ideal)) (onTc (τ := Cert.KernelDdIdeal.τ) (Cert.KernelDdIdeal.main (F := Ideal))) ⟨m, fun _ => 0, g⟩ (fun r => ∀ c : Dev Cert.KernelDdIdeal.nD,
          r.2.mem ((c.tc : Thread Cert.KernelDdIdeal.nD Cert.KernelDdIdeal.τ).loc Cert.KernelDdIdeal.main_v2) = v0 c
          ∧ r.2.mem ((c.tc : Thread Cert.KernelDdIdeal.nD Cert.KernelDdIdeal.τ).loc Cert.KernelDdIdeal.main_arg0) = m ((c.tc : Thread Cert.KernelDdIdeal.nD Cert.KernelDdIdeal.τ).loc Cert.KernelDdIdeal.main_arg0)
          ∧ r.2.mem ((c.tc : Thread Cert.KernelDdIdeal.nD Cert.KernelDdIdeal.τ).loc Cert.KernelDdIdeal.main_arg1) = m ((c.tc : Thread Cert.KernelDdIdeal.nD Cert.KernelDdIdeal.τ).loc Cert.KernelDdIdeal.main_arg1)
          ∧ r.2.mem ((c.tc : Thread Cert.KernelDdIdeal.nD Cert.KernelDdIdeal.τ).loc Cert.KernelDdIdeal.main_arg2) = m ((c.tc : Thread Cert.KernelDdIdeal.nD Cert.KernelDdIdeal.τ).loc Cert.KernelDdIdeal.main_arg2))
      ∧ θ_run (Cert.ReferenceDdIdeal.defs (F := Ideal)) (onTc (τ := Cert.ReferenceDdIdeal.τ) (Cert.ReferenceDdIdeal.main (F := Ideal))) ⟨m', fun _ => 0, g'⟩ (fun r => ∀ c : Dev Cert.ReferenceDdIdeal.nD,
          r.2.mem ((c.tc : Thread Cert.ReferenceDdIdeal.nD Cert.ReferenceDdIdeal.τ).loc Cert.ReferenceDdIdeal.main_v3) = v0 c
          ∧ r.2.mem ((c.tc : Thread Cert.ReferenceDdIdeal.nD Cert.ReferenceDdIdeal.τ).loc Cert.ReferenceDdIdeal.main_arg0) = m' ((c.tc : Thread Cert.ReferenceDdIdeal.nD Cert.ReferenceDdIdeal.τ).loc Cert.ReferenceDdIdeal.main_arg0)
          ∧ r.2.mem ((c.tc : Thread Cert.ReferenceDdIdeal.nD Cert.ReferenceDdIdeal.τ).loc Cert.ReferenceDdIdeal.main_arg1) = m' ((c.tc : Thread Cert.ReferenceDdIdeal.nD Cert.ReferenceDdIdeal.τ).loc Cert.ReferenceDdIdeal.main_arg1)
          ∧ r.2.mem ((c.tc : Thread Cert.ReferenceDdIdeal.nD Cert.ReferenceDdIdeal.τ).loc Cert.ReferenceDdIdeal.main_arg2) = m' ((c.tc : Thread Cert.ReferenceDdIdeal.nD Cert.ReferenceDdIdeal.τ).loc Cert.ReferenceDdIdeal.main_arg2))

def preserves_KernelDg_KernelDgIdeal : Prop :=
  True

def algebraic_KernelDgIdeal_ReferenceDgIdeal [hKernelDgIdeal : Cert.KernelDgIdeal.Facts] [hReferenceDgIdeal : Cert.ReferenceDgIdeal.Facts] : Prop :=
  ∀ (m : (ℓ : Loc Cert.KernelDgIdeal.nD Cert.KernelDgIdeal.τ Cert.KernelDgIdeal.sig) → Buf (Elt Ideal) ℓ) (g : Dev Cert.KernelDgIdeal.nD → PrngReg)
    (m' : (ℓ : Loc Cert.ReferenceDgIdeal.nD Cert.ReferenceDgIdeal.τ Cert.ReferenceDgIdeal.sig) → Buf (Elt Ideal) ℓ) (g' : Dev Cert.ReferenceDgIdeal.nD → PrngReg), Pre_KernelDgIdeal m →
    (∀ c : Dev Cert.KernelDgIdeal.nD,
      m' ((c.tc : Thread Cert.ReferenceDgIdeal.nD Cert.ReferenceDgIdeal.τ).loc Cert.ReferenceDgIdeal.main_arg0) = m ((c.tc : Thread Cert.KernelDgIdeal.nD Cert.KernelDgIdeal.τ).loc Cert.KernelDgIdeal.main_arg0)
      ∧ m' ((c.tc : Thread Cert.ReferenceDgIdeal.nD Cert.ReferenceDgIdeal.τ).loc Cert.ReferenceDgIdeal.main_arg1) = m ((c.tc : Thread Cert.KernelDgIdeal.nD Cert.KernelDgIdeal.τ).loc Cert.KernelDgIdeal.main_arg1)
      ∧ m' ((c.tc : Thread Cert.ReferenceDgIdeal.nD Cert.ReferenceDgIdeal.τ).loc Cert.ReferenceDgIdeal.main_arg2) = m ((c.tc : Thread Cert.KernelDgIdeal.nD Cert.KernelDgIdeal.τ).loc Cert.KernelDgIdeal.main_arg2)
      ∧ m' ((c.tc : Thread Cert.ReferenceDgIdeal.nD Cert.ReferenceDgIdeal.τ).loc Cert.ReferenceDgIdeal.main_arg3) = m ((c.tc : Thread Cert.KernelDgIdeal.nD Cert.KernelDgIdeal.τ).loc Cert.KernelDgIdeal.main_arg3)) →
    ∃ (v0 : (c : Dev Cert.KernelDgIdeal.nD) → Buf (Elt Ideal) ((c.tc : Thread Cert.KernelDgIdeal.nD Cert.KernelDgIdeal.τ).loc Cert.KernelDgIdeal.main_v3)),
      θ_run (Cert.KernelDgIdeal.defs (F := Ideal)) (onTc (τ := Cert.KernelDgIdeal.τ) (Cert.KernelDgIdeal.main (F := Ideal))) ⟨m, fun _ => 0, g⟩ (fun r => ∀ c : Dev Cert.KernelDgIdeal.nD,
          r.2.mem ((c.tc : Thread Cert.KernelDgIdeal.nD Cert.KernelDgIdeal.τ).loc Cert.KernelDgIdeal.main_v3) = v0 c
          ∧ r.2.mem ((c.tc : Thread Cert.KernelDgIdeal.nD Cert.KernelDgIdeal.τ).loc Cert.KernelDgIdeal.main_arg0) = m ((c.tc : Thread Cert.KernelDgIdeal.nD Cert.KernelDgIdeal.τ).loc Cert.KernelDgIdeal.main_arg0)
          ∧ r.2.mem ((c.tc : Thread Cert.KernelDgIdeal.nD Cert.KernelDgIdeal.τ).loc Cert.KernelDgIdeal.main_arg1) = m ((c.tc : Thread Cert.KernelDgIdeal.nD Cert.KernelDgIdeal.τ).loc Cert.KernelDgIdeal.main_arg1)
          ∧ r.2.mem ((c.tc : Thread Cert.KernelDgIdeal.nD Cert.KernelDgIdeal.τ).loc Cert.KernelDgIdeal.main_arg2) = m ((c.tc : Thread Cert.KernelDgIdeal.nD Cert.KernelDgIdeal.τ).loc Cert.KernelDgIdeal.main_arg2)
          ∧ r.2.mem ((c.tc : Thread Cert.KernelDgIdeal.nD Cert.KernelDgIdeal.τ).loc Cert.KernelDgIdeal.main_arg3) = m ((c.tc : Thread Cert.KernelDgIdeal.nD Cert.KernelDgIdeal.τ).loc Cert.KernelDgIdeal.main_arg3))
      ∧ θ_run (Cert.ReferenceDgIdeal.defs (F := Ideal)) (onTc (τ := Cert.ReferenceDgIdeal.τ) (Cert.ReferenceDgIdeal.main (F := Ideal))) ⟨m', fun _ => 0, g'⟩ (fun r => ∀ c : Dev Cert.ReferenceDgIdeal.nD,
          r.2.mem ((c.tc : Thread Cert.ReferenceDgIdeal.nD Cert.ReferenceDgIdeal.τ).loc Cert.ReferenceDgIdeal.main_v9) = v0 c
          ∧ r.2.mem ((c.tc : Thread Cert.ReferenceDgIdeal.nD Cert.ReferenceDgIdeal.τ).loc Cert.ReferenceDgIdeal.main_arg0) = m' ((c.tc : Thread Cert.ReferenceDgIdeal.nD Cert.ReferenceDgIdeal.τ).loc Cert.ReferenceDgIdeal.main_arg0)
          ∧ r.2.mem ((c.tc : Thread Cert.ReferenceDgIdeal.nD Cert.ReferenceDgIdeal.τ).loc Cert.ReferenceDgIdeal.main_arg1) = m' ((c.tc : Thread Cert.ReferenceDgIdeal.nD Cert.ReferenceDgIdeal.τ).loc Cert.ReferenceDgIdeal.main_arg1)
          ∧ r.2.mem ((c.tc : Thread Cert.ReferenceDgIdeal.nD Cert.ReferenceDgIdeal.τ).loc Cert.ReferenceDgIdeal.main_arg2) = m' ((c.tc : Thread Cert.ReferenceDgIdeal.nD Cert.ReferenceDgIdeal.τ).loc Cert.ReferenceDgIdeal.main_arg2)
          ∧ r.2.mem ((c.tc : Thread Cert.ReferenceDgIdeal.nD Cert.ReferenceDgIdeal.τ).loc Cert.ReferenceDgIdeal.main_arg3) = m' ((c.tc : Thread Cert.ReferenceDgIdeal.nD Cert.ReferenceDgIdeal.τ).loc Cert.ReferenceDgIdeal.main_arg3))

def preserves_KernelAd_KernelAdIdeal : Prop :=
  True

def algebraic_KernelAdIdeal_ReferenceAdIdeal [hKernelAdIdeal : Cert.KernelAdIdeal.Facts] [hReferenceAdIdeal : Cert.ReferenceAdIdeal.Facts] : Prop :=
  ∀ (m : (ℓ : Loc Cert.KernelAdIdeal.nD Cert.KernelAdIdeal.τ Cert.KernelAdIdeal.sig) → Buf (Elt Ideal) ℓ) (g : Dev Cert.KernelAdIdeal.nD → PrngReg)
    (m' : (ℓ : Loc Cert.ReferenceAdIdeal.nD Cert.ReferenceAdIdeal.τ Cert.ReferenceAdIdeal.sig) → Buf (Elt Ideal) ℓ) (g' : Dev Cert.ReferenceAdIdeal.nD → PrngReg), Pre_KernelAdIdeal m →
    (∀ c : Dev Cert.KernelAdIdeal.nD,
      m' ((c.tc : Thread Cert.ReferenceAdIdeal.nD Cert.ReferenceAdIdeal.τ).loc Cert.ReferenceAdIdeal.main_arg0) = m ((c.tc : Thread Cert.KernelAdIdeal.nD Cert.KernelAdIdeal.τ).loc Cert.KernelAdIdeal.main_arg0)
      ∧ m' ((c.tc : Thread Cert.ReferenceAdIdeal.nD Cert.ReferenceAdIdeal.τ).loc Cert.ReferenceAdIdeal.main_arg1) = m ((c.tc : Thread Cert.KernelAdIdeal.nD Cert.KernelAdIdeal.τ).loc Cert.KernelAdIdeal.main_arg1)
      ∧ m' ((c.tc : Thread Cert.ReferenceAdIdeal.nD Cert.ReferenceAdIdeal.τ).loc Cert.ReferenceAdIdeal.main_arg2) = m ((c.tc : Thread Cert.KernelAdIdeal.nD Cert.KernelAdIdeal.τ).loc Cert.KernelAdIdeal.main_arg2)
      ∧ m' ((c.tc : Thread Cert.ReferenceAdIdeal.nD Cert.ReferenceAdIdeal.τ).loc Cert.ReferenceAdIdeal.main_arg3) = m ((c.tc : Thread Cert.KernelAdIdeal.nD Cert.KernelAdIdeal.τ).loc Cert.KernelAdIdeal.main_arg3)) →
    ∃ (v0 : (c : Dev Cert.KernelAdIdeal.nD) → Buf (Elt Ideal) ((c.tc : Thread Cert.KernelAdIdeal.nD Cert.KernelAdIdeal.τ).loc Cert.KernelAdIdeal.main_v0_0)) (v1 : (c : Dev Cert.KernelAdIdeal.nD) → Buf (Elt Ideal) ((c.tc : Thread Cert.KernelAdIdeal.nD Cert.KernelAdIdeal.τ).loc Cert.KernelAdIdeal.main_v0_1)) (v2 : (c : Dev Cert.KernelAdIdeal.nD) → Buf (Elt Ideal) ((c.tc : Thread Cert.KernelAdIdeal.nD Cert.KernelAdIdeal.τ).loc Cert.KernelAdIdeal.main_v0_2)),
      θ_run (Cert.KernelAdIdeal.defs (F := Ideal)) (onTc (τ := Cert.KernelAdIdeal.τ) (Cert.KernelAdIdeal.main (F := Ideal))) ⟨m, fun _ => 0, g⟩ (fun r => ∀ c : Dev Cert.KernelAdIdeal.nD,
          r.2.mem ((c.tc : Thread Cert.KernelAdIdeal.nD Cert.KernelAdIdeal.τ).loc Cert.KernelAdIdeal.main_v0_0) = v0 c
          ∧ r.2.mem ((c.tc : Thread Cert.KernelAdIdeal.nD Cert.KernelAdIdeal.τ).loc Cert.KernelAdIdeal.main_v0_1) = v1 c
          ∧ r.2.mem ((c.tc : Thread Cert.KernelAdIdeal.nD Cert.KernelAdIdeal.τ).loc Cert.KernelAdIdeal.main_v0_2) = v2 c
          ∧ r.2.mem ((c.tc : Thread Cert.KernelAdIdeal.nD Cert.KernelAdIdeal.τ).loc Cert.KernelAdIdeal.main_arg0) = m ((c.tc : Thread Cert.KernelAdIdeal.nD Cert.KernelAdIdeal.τ).loc Cert.KernelAdIdeal.main_arg0)
          ∧ r.2.mem ((c.tc : Thread Cert.KernelAdIdeal.nD Cert.KernelAdIdeal.τ).loc Cert.KernelAdIdeal.main_arg1) = m ((c.tc : Thread Cert.KernelAdIdeal.nD Cert.KernelAdIdeal.τ).loc Cert.KernelAdIdeal.main_arg1)
          ∧ r.2.mem ((c.tc : Thread Cert.KernelAdIdeal.nD Cert.KernelAdIdeal.τ).loc Cert.KernelAdIdeal.main_arg2) = m ((c.tc : Thread Cert.KernelAdIdeal.nD Cert.KernelAdIdeal.τ).loc Cert.KernelAdIdeal.main_arg2)
          ∧ r.2.mem ((c.tc : Thread Cert.KernelAdIdeal.nD Cert.KernelAdIdeal.τ).loc Cert.KernelAdIdeal.main_arg3) = m ((c.tc : Thread Cert.KernelAdIdeal.nD Cert.KernelAdIdeal.τ).loc Cert.KernelAdIdeal.main_arg3))
      ∧ θ_run (Cert.ReferenceAdIdeal.defs (F := Ideal)) (onTc (τ := Cert.ReferenceAdIdeal.τ) (Cert.ReferenceAdIdeal.main (F := Ideal))) ⟨m', fun _ => 0, g'⟩ (fun r => ∀ c : Dev Cert.ReferenceAdIdeal.nD,
          r.2.mem ((c.tc : Thread Cert.ReferenceAdIdeal.nD Cert.ReferenceAdIdeal.τ).loc Cert.ReferenceAdIdeal.main_v23) = v0 c
          ∧ r.2.mem ((c.tc : Thread Cert.ReferenceAdIdeal.nD Cert.ReferenceAdIdeal.τ).loc Cert.ReferenceAdIdeal.main_v4) = v1 c
          ∧ r.2.mem ((c.tc : Thread Cert.ReferenceAdIdeal.nD Cert.ReferenceAdIdeal.τ).loc Cert.ReferenceAdIdeal.main_v10) = v2 c
          ∧ r.2.mem ((c.tc : Thread Cert.ReferenceAdIdeal.nD Cert.ReferenceAdIdeal.τ).loc Cert.ReferenceAdIdeal.main_arg0) = m' ((c.tc : Thread Cert.ReferenceAdIdeal.nD Cert.ReferenceAdIdeal.τ).loc Cert.ReferenceAdIdeal.main_arg0)
          ∧ r.2.mem ((c.tc : Thread Cert.ReferenceAdIdeal.nD Cert.ReferenceAdIdeal.τ).loc Cert.ReferenceAdIdeal.main_arg1) = m' ((c.tc : Thread Cert.ReferenceAdIdeal.nD Cert.ReferenceAdIdeal.τ).loc Cert.ReferenceAdIdeal.main_arg1)
          ∧ r.2.mem ((c.tc : Thread Cert.ReferenceAdIdeal.nD Cert.ReferenceAdIdeal.τ).loc Cert.ReferenceAdIdeal.main_arg2) = m' ((c.tc : Thread Cert.ReferenceAdIdeal.nD Cert.ReferenceAdIdeal.τ).loc Cert.ReferenceAdIdeal.main_arg2)
          ∧ r.2.mem ((c.tc : Thread Cert.ReferenceAdIdeal.nD Cert.ReferenceAdIdeal.τ).loc Cert.ReferenceAdIdeal.main_arg3) = m' ((c.tc : Thread Cert.ReferenceAdIdeal.nD Cert.ReferenceAdIdeal.τ).loc Cert.ReferenceAdIdeal.main_arg3))

def Claim : Prop :=
  ∃ (hKernelFf : Cert.KernelFf.Facts) (hKernelFfIdeal : Cert.KernelFfIdeal.Facts) (hReferenceFfIdeal : Cert.ReferenceFfIdeal.Facts) (hKernelMx : Cert.KernelMx.Facts) (hKernelMxIdeal : Cert.KernelMxIdeal.Facts) (hReferenceMxIdeal : Cert.ReferenceMxIdeal.Facts) (hKernelLs : Cert.KernelLs.Facts) (hKernelLsIdeal : Cert.KernelLsIdeal.Facts) (hReferenceLsIdeal : Cert.ReferenceLsIdeal.Facts) (hKernelWo : Cert.KernelWo.Facts) (hKernelWoIdeal : Cert.KernelWoIdeal.Facts) (hReferenceWoIdeal : Cert.ReferenceWoIdeal.Facts) (hKernelDn : Cert.KernelDn.Facts) (hKernelDnIdeal : Cert.KernelDnIdeal.Facts) (hReferenceDnIdeal : Cert.ReferenceDnIdeal.Facts) (hKernelMf : Cert.KernelMf.Facts) (hKernelMfIdeal : Cert.KernelMfIdeal.Facts) (hReferenceMfIdeal : Cert.ReferenceMfIdeal.Facts) (hKernelDx : Cert.KernelDx.Facts) (hKernelDxIdeal : Cert.KernelDxIdeal.Facts) (hReferenceDxIdeal : Cert.ReferenceDxIdeal.Facts) (hKernelDd : Cert.KernelDd.Facts) (hKernelDdIdeal : Cert.KernelDdIdeal.Facts) (hReferenceDdIdeal : Cert.ReferenceDdIdeal.Facts) (hKernelDg : Cert.KernelDg.Facts) (hKernelDgIdeal : Cert.KernelDgIdeal.Facts) (hReferenceDgIdeal : Cert.ReferenceDgIdeal.Facts) (hKernelAd : Cert.KernelAd.Facts) (hKernelAdIdeal : Cert.KernelAdIdeal.Facts) (hReferenceAdIdeal : Cert.ReferenceAdIdeal.Facts) (hPre_finite_ff : Cert.Pre_finite_ff.Facts) (hPre_finite_mix : Cert.Pre_finite_mix.Facts) (hPre_finite_loss : Cert.Pre_finite_loss.Facts) (hPre_finite_wo : Cert.Pre_finite_wo.Facts) (hPre_finite_dn : Cert.Pre_finite_dn.Facts) (hPre_finite_mf : Cert.Pre_finite_mf.Facts),
    quiescent_KernelFf (hKernelFf := hKernelFf)
    ∧ quiescent_KernelFfIdeal (hKernelFfIdeal := hKernelFfIdeal)
    ∧ quiescent_KernelFfIdeal_pre_finite_ff (hKernelFfIdeal := hKernelFfIdeal) (hPre_finite_ff := hPre_finite_ff)
    ∧ quiescent_ReferenceFfIdeal (hReferenceFfIdeal := hReferenceFfIdeal)
    ∧ quiescent_ReferenceFfIdeal_pre_finite_ff (hReferenceFfIdeal := hReferenceFfIdeal) (hPre_finite_ff := hPre_finite_ff)
    ∧ quiescent_KernelMx (hKernelMx := hKernelMx)
    ∧ quiescent_KernelMxIdeal (hKernelMxIdeal := hKernelMxIdeal)
    ∧ quiescent_KernelMxIdeal_pre_finite_mix (hKernelMxIdeal := hKernelMxIdeal) (hPre_finite_mix := hPre_finite_mix)
    ∧ quiescent_ReferenceMxIdeal (hReferenceMxIdeal := hReferenceMxIdeal)
    ∧ quiescent_ReferenceMxIdeal_pre_finite_mix (hReferenceMxIdeal := hReferenceMxIdeal) (hPre_finite_mix := hPre_finite_mix)
    ∧ quiescent_KernelLs (hKernelLs := hKernelLs)
    ∧ quiescent_KernelLsIdeal (hKernelLsIdeal := hKernelLsIdeal)
    ∧ quiescent_KernelLsIdeal_pre_finite_loss (hKernelLsIdeal := hKernelLsIdeal) (hPre_finite_loss := hPre_finite_loss)
    ∧ quiescent_ReferenceLsIdeal (hReferenceLsIdeal := hReferenceLsIdeal)
    ∧ quiescent_ReferenceLsIdeal_pre_finite_loss (hReferenceLsIdeal := hReferenceLsIdeal) (hPre_finite_loss := hPre_finite_loss)
    ∧ quiescent_KernelWo (hKernelWo := hKernelWo)
    ∧ quiescent_KernelWoIdeal (hKernelWoIdeal := hKernelWoIdeal)
    ∧ quiescent_KernelWoIdeal_pre_finite_wo (hKernelWoIdeal := hKernelWoIdeal) (hPre_finite_wo := hPre_finite_wo)
    ∧ quiescent_ReferenceWoIdeal (hReferenceWoIdeal := hReferenceWoIdeal)
    ∧ quiescent_ReferenceWoIdeal_pre_finite_wo (hReferenceWoIdeal := hReferenceWoIdeal) (hPre_finite_wo := hPre_finite_wo)
    ∧ quiescent_KernelDn (hKernelDn := hKernelDn)
    ∧ quiescent_KernelDnIdeal (hKernelDnIdeal := hKernelDnIdeal)
    ∧ quiescent_KernelDnIdeal_pre_finite_dn (hKernelDnIdeal := hKernelDnIdeal) (hPre_finite_dn := hPre_finite_dn)
    ∧ quiescent_ReferenceDnIdeal (hReferenceDnIdeal := hReferenceDnIdeal)
    ∧ quiescent_ReferenceDnIdeal_pre_finite_dn (hReferenceDnIdeal := hReferenceDnIdeal) (hPre_finite_dn := hPre_finite_dn)
    ∧ quiescent_KernelMf (hKernelMf := hKernelMf)
    ∧ quiescent_KernelMfIdeal (hKernelMfIdeal := hKernelMfIdeal)
    ∧ quiescent_KernelMfIdeal_pre_finite_mf (hKernelMfIdeal := hKernelMfIdeal) (hPre_finite_mf := hPre_finite_mf)
    ∧ quiescent_ReferenceMfIdeal (hReferenceMfIdeal := hReferenceMfIdeal)
    ∧ quiescent_ReferenceMfIdeal_pre_finite_mf (hReferenceMfIdeal := hReferenceMfIdeal) (hPre_finite_mf := hPre_finite_mf)
    ∧ quiescent_KernelDx (hKernelDx := hKernelDx)
    ∧ quiescent_KernelDxIdeal (hKernelDxIdeal := hKernelDxIdeal)
    ∧ quiescent_ReferenceDxIdeal (hReferenceDxIdeal := hReferenceDxIdeal)
    ∧ quiescent_KernelDd (hKernelDd := hKernelDd)
    ∧ quiescent_KernelDdIdeal (hKernelDdIdeal := hKernelDdIdeal)
    ∧ quiescent_ReferenceDdIdeal (hReferenceDdIdeal := hReferenceDdIdeal)
    ∧ quiescent_KernelDg (hKernelDg := hKernelDg)
    ∧ quiescent_KernelDgIdeal (hKernelDgIdeal := hKernelDgIdeal)
    ∧ quiescent_ReferenceDgIdeal (hReferenceDgIdeal := hReferenceDgIdeal)
    ∧ quiescent_KernelAd (hKernelAd := hKernelAd)
    ∧ quiescent_KernelAdIdeal (hKernelAdIdeal := hKernelAdIdeal)
    ∧ quiescent_ReferenceAdIdeal (hReferenceAdIdeal := hReferenceAdIdeal)
    ∧ preserves_KernelFf_KernelFfIdeal
    ∧ algebraic_KernelFfIdeal_ReferenceFfIdeal_pre_finite_ff (hKernelFfIdeal := hKernelFfIdeal) (hReferenceFfIdeal := hReferenceFfIdeal) (hPre_finite_ff := hPre_finite_ff)
    ∧ preserves_KernelMx_KernelMxIdeal
    ∧ algebraic_KernelMxIdeal_ReferenceMxIdeal_pre_finite_mix (hKernelMxIdeal := hKernelMxIdeal) (hReferenceMxIdeal := hReferenceMxIdeal) (hPre_finite_mix := hPre_finite_mix)
    ∧ preserves_KernelLs_KernelLsIdeal
    ∧ algebraic_KernelLsIdeal_ReferenceLsIdeal_pre_finite_loss (hKernelLsIdeal := hKernelLsIdeal) (hReferenceLsIdeal := hReferenceLsIdeal) (hPre_finite_loss := hPre_finite_loss)
    ∧ preserves_KernelWo_KernelWoIdeal
    ∧ algebraic_KernelWoIdeal_ReferenceWoIdeal_pre_finite_wo (hKernelWoIdeal := hKernelWoIdeal) (hReferenceWoIdeal := hReferenceWoIdeal) (hPre_finite_wo := hPre_finite_wo)
    ∧ preserves_KernelDn_KernelDnIdeal
    ∧ algebraic_KernelDnIdeal_ReferenceDnIdeal_pre_finite_dn (hKernelDnIdeal := hKernelDnIdeal) (hReferenceDnIdeal := hReferenceDnIdeal) (hPre_finite_dn := hPre_finite_dn)
    ∧ preserves_KernelMf_KernelMfIdeal
    ∧ algebraic_KernelMfIdeal_ReferenceMfIdeal_pre_finite_mf (hKernelMfIdeal := hKernelMfIdeal) (hReferenceMfIdeal := hReferenceMfIdeal) (hPre_finite_mf := hPre_finite_mf)
    ∧ preserves_KernelDx_KernelDxIdeal
    ∧ algebraic_KernelDxIdeal_ReferenceDxIdeal (hKernelDxIdeal := hKernelDxIdeal) (hReferenceDxIdeal := hReferenceDxIdeal)
    ∧ preserves_KernelDd_KernelDdIdeal
    ∧ algebraic_KernelDdIdeal_ReferenceDdIdeal (hKernelDdIdeal := hKernelDdIdeal) (hReferenceDdIdeal := hReferenceDdIdeal)
    ∧ preserves_KernelDg_KernelDgIdeal
    ∧ algebraic_KernelDgIdeal_ReferenceDgIdeal (hKernelDgIdeal := hKernelDgIdeal) (hReferenceDgIdeal := hReferenceDgIdeal)
    ∧ preserves_KernelAd_KernelAdIdeal
    ∧ algebraic_KernelAdIdeal_ReferenceAdIdeal (hKernelAdIdeal := hKernelAdIdeal) (hReferenceAdIdeal := hReferenceAdIdeal)
-- ==== Pre_finite_dn.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S1024x2176 : Shape := ⟨2, ![1024, 2176]⟩
abbrev S2048x2176 : Shape := ⟨2, ![2048, 2176]⟩
abbrev S_ : Shape := ⟨0, ![]⟩

class Facts : Prop where
  bcast_S_S2048x2816 : S_.BroadcastsInDim S2048x2816 (![] : Fin 0 → Fin S2048x2816.rank)
  reducesTo_S2048x2816_S_d0_1 : S2048x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x2176 : S_.BroadcastsInDim S1024x2176 (![] : Fin 0 → Fin S1024x2176.rank)
  reducesTo_S1024x2176_S_d0_1 : S1024x2176.ReducesTo [0, 1] S_
  bcast_S_S2048x2176 : S_.BroadcastsInDim S2048x2176 (![] : Fin 0 → Fin S2048x2176.rank)
  reducesTo_S2048x2176_S_d0_1 : S2048x2176.ReducesTo [0, 1] S_

variable [Facts]

def fn_part1 {F : FTy → Type} [FloatOps F] (main_arg5 : FVec F S1024x2176 .f32) (main_arg6 : FVec F S2048x1024 .f32) (main_arg7 : FVec F S2048x2176 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024x2176 .f32 := Host.absf main_arg5
  let main_cst_6 : FVec F S_ .f32 := constant S_ .f32 0x7F800000#32
  let main_v20 : FVec F S1024x2176 .f32 := broadcastInDim S1024x2176 ![] bcast_S_S1024x2176 main_cst_6
  let main_v21 : IVec S1024x2176 1 := cmpf .olt main_v19 main_v20
  let main_c_7 : IVec S_ 1 := constantI S_ 1 1#1
  let main_v22 : IVec S_ 1 := (fun x v => Host.reduce IntOp.andi x v reducesTo_S1024x2176_S_d0_1 h_S_) main_v21 main_c_7
  let main_v23 : IVec S_ 1 := andi main_v18 main_v22
  let main_v24 : FVec F S2048x1024 .f32 := Host.absf main_arg6
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S2048x2176 .f32 := Host.absf main_arg7
  let main_cst_10 : FVec F S_ .f32 := constant S_ .f32 0x7F800000#32
  let main_v30 : FVec F S2048x2176 .f32 := broadcastInDim S2048x2176 ![] bcast_S_S2048x2176 main_cst_10
  let main_v31 : IVec S2048x2176 1 := cmpf .olt main_v29 main_v30
  let main_c_11 : IVec S_ 1 := constantI S_ 1 1#1
  let main_v32 : IVec S_ 1 := (fun x v => Host.reduce IntOp.andi x v reducesTo_S2048x2176_S_d0_1 h_S_) main_v31 main_c_11
  let main_v33 : IVec S_ 1 := andi main_v28 main_v32
  main_v33

def fn {F : FTy → Type} [FloatOps F] (main_arg0 : FVec F S2048x2816 .f32) (main_arg1 : FVec F S2816x1024 .f32) (main_arg2 : FVec F S2048x1024 .f32) (main_arg3 : FVec F S1x1024 .f32) (main_arg4 : FVec F S1x1024 .f32) (main_arg5 : FVec F S1024x2176 .f32) (main_arg6 : FVec F S2048x1024 .f32) (main_arg7 : FVec F S2048x2176 .f32) : IVec S_ 1 :=
  let main_v0 : FVec F S2048x2816 .f32 := Host.absf main_arg0
  let main_cst : FVec F S_ .f32 := constant S_ .f32 0x7F800000#32
  let main_v1 : FVec F S2048x2816 .f32 := broadcastInDim S2048x2816 ![] bcast_S_S2048x2816 main_cst
  let main_v2 : IVec S2048x2816 1 := cmpf .olt main_v0 main_v1
  let main_c : IVec S_ 1 := constantI S_ 1 1#1
  let main_v3 : IVec S_ 1 := (fun x v => Host.reduce IntOp.andi x v reducesTo_S2048x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg5 main_arg6 main_arg7 main_v13 main_v16
-- ==== Pre_finite_ff.lean ====
abbrev S2048x1024 : Shape := ⟨2, ![2048, 1024]⟩
abbrev S1024x5632 : Shape := ⟨2, ![1024, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  main_v18

def fn {F : FTy → Type} [FloatOps F] (main_arg0 : FVec F S2048x1024 .f32) (main_arg1 : FVec F S1024x5632 .f32) (main_arg2 : FVec F S2816x1024 .f32) (main_arg3 : FVec F S2048x1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  let main_v9 : FVec F S2816x1024 .f32 := Host.absf main_arg2
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_c_3 : IVec S_ 1 := constantI S_ 1 1#1
  let main_v12 : IVec S_ 1 := (fun x v => Host.reduce IntOp.andi x v reducesTo_S2816x1024_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_v13 main_v16
-- ==== Pre_finite_loss.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S_ : Shape := ⟨0, ![]⟩

class Facts : Prop where
  bcast_S_S2048x2816 : S_.BroadcastsInDim S2048x2816 (![] : Fin 0 → Fin S2048x2816.rank)
  reducesTo_S2048x2816_S_d0_1 : S2048x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S1x1024 .f32) (main_arg5 : FVec F S2048x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S2048x1024 .f32 := Host.absf main_arg5
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  main_v28

def fn {F : FTy → Type} [FloatOps F] (main_arg0 : FVec F S2048x2816 .f32) (main_arg1 : FVec F S2816x1024 .f32) (main_arg2 : FVec F S2048x1024 .f32) (main_arg3 : FVec F S1x1024 .f32) (main_arg4 : FVec F S1x1024 .f32) (main_arg5 : FVec F S2048x1024 .f32) : IVec S_ 1 :=
  let main_v0 : FVec F S2048x2816 .f32 := Host.absf main_arg0
  let main_cst : FVec F S_ .f32 := constant S_ .f32 0x7F800000#32
  let main_v1 : FVec F S2048x2816 .f32 := broadcastInDim S2048x2816 ![] bcast_S_S2048x2816 main_cst
  let main_v2 : IVec S2048x2816 1 := cmpf .olt main_v0 main_v1
  let main_c : IVec S_ 1 := constantI S_ 1 1#1
  let main_v3 : IVec S_ 1 := (fun x v => Host.reduce IntOp.andi x v reducesTo_S2048x2816_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Pre_finite_mf.lean ====
abbrev S2048x2176 : Shape := ⟨2, ![2048, 2176]⟩
abbrev S1x3x384 : Shape := ⟨3, ![1, 3, 384]⟩
abbrev S1x4x64x64 : Shape := ⟨4, ![1, 4, 64, 64]⟩
abbrev S1x256 : Shape := ⟨2, ![1, 256]⟩
abbrev S1x384 : Shape := ⟨2, ![1, 384]⟩
abbrev S1x6x128x128 : Shape := ⟨4, ![1, 6, 128, 128]⟩
abbrev S1x6x128 : Shape := ⟨3, ![1, 6, 128]⟩
abbrev S_ : Shape := ⟨0, ![]⟩

class Facts : Prop where
  bcast_S_S2048x2176 : S_.BroadcastsInDim S2048x2176 (![] : Fin 0 → Fin S2048x2176.rank)
  reducesTo_S2048x2176_S_d0_1 : S2048x2176.ReducesTo [0, 1] S_
  h_S_ : 0 < S_.numel
  bcast_S_S1x4x64x64 : S_.BroadcastsInDim S1x4x64x64 (![] : Fin 0 → Fin S1x4x64x64.rank)
  reducesTo_S1x4x64x64_S_d0_1_2_3 : S1x4x64x64.ReducesTo [0, 1, 2, 3] S_
  bcast_S_S1x384 : S_.BroadcastsInDim S1x384 (![] : Fin 0 → Fin S1x384.rank)
  reducesTo_S1x384_S_d0_1 : S1x384.ReducesTo [0, 1] S_
  bcast_S_S1x6x128x128 : S_.BroadcastsInDim S1x6x128x128 (![] : Fin 0 → Fin S1x6x128x128.rank)
  reducesTo_S1x6x128x128_S_d0_1_2_3 : S1x6x128x128.ReducesTo [0, 1, 2, 3] S_

variable [Facts]

def fn_part1 {F : FTy → Type} [FloatOps F] (main_v13 : IVec S_ 1) (main_v16 : IVec S1x6x128x128 1) : IVec S_ 1 :=
  let main_c_5 : IVec S_ 1 := constantI S_ 1 1#1
  let main_v17 : IVec S_ 1 := (fun x v => Host.reduce IntOp.andi x v reducesTo_S1x6x128x128_S_d0_1_2_3 h_S_) main_v16 main_c_5
  let main_v18 : IVec S_ 1 := andi main_v13 main_v17
  main_v18

def fn {F : FTy → Type} [FloatOps F] (main_arg0 : FVec F S2048x2176 .f32) (main_arg1 : FVec F S1x3x384 .f32) (main_arg2 : FVec F S1x4x64x64 .f32) (main_arg3 : FVec F S1x256 .f32) (main_arg4 : FVec F S1x384 .f32) (main_arg5 : FVec F S1x6x128x128 .f32) (main_arg6 : FVec F S1x6x128 .f32) : IVec S_ 1 :=
  let main_v0 : FVec F S2048x2176 .f32 := Host.absf main_arg0
  let main_cst : FVec F S_ .f32 := constant S_ .f32 0x7F800000#32
  let main_v1 : FVec F S2048x2176 .f32 := broadcastInDim S2048x2176 ![] bcast_S_S2048x2176 main_cst
  let main_v2 : IVec S2048x2176 1 := cmpf .olt main_v0 main_v1
  let main_c : IVec S_ 1 := constantI S_ 1 1#1
  let main_v3 : IVec S_ 1 := (fun x v => Host.reduce IntOp.andi x v reducesTo_S2048x2176_S_d0_1 h_S_) main_v2 main_c
  let main_v4 : FVec F S1x4x64x64 .f32 := Host.absf main_arg2
  let main_cst_0 : FVec F S_ .f32 := constant S_ .f32 0x7F800000#32
  let main_v5 : FVec F S1x4x64x64 .f32 := broadcastInDim S1x4x64x64 ![] bcast_S_S1x4x64x64 main_cst_0
  let main_v6 : IVec S1x4x64x64 1 := cmpf .olt main_v4 main_v5
  let main_c_1 : IVec S_ 1 := constantI S_ 1 1#1
  let main_v7 : IVec S_ 1 := (fun x v => Host.reduce IntOp.andi x v reducesTo_S1x4x64x64_S_d0_1_2_3 h_S_) main_v6 main_c_1
  let main_v8 : IVec S_ 1 := andi main_v3 main_v7
  let main_v9 : FVec F S1x384 .f32 := Host.absf main_arg4
  let main_cst_2 : FVec F S_ .f32 := constant S_ .f32 0x7F800000#32
  let main_v10 : FVec F S1x384 .f32 := broadcastInDim S1x384 ![] bcast_S_S1x384 main_cst_2
  let main_v11 : IVec S1x384 1 := cmpf .olt main_v9 main_v10
  let main_c_3 : IVec S_ 1 := constantI S_ 1 1#1
  let main_v12 : IVec S_ 1 := (fun x v => Host.reduce IntOp.andi x v reducesTo_S1x384_S_d0_1 h_S_) main_v11 main_c_3
  let main_v13 : IVec S_ 1 := andi main_v8 main_v12
  let main_v14 : FVec F S1x6x128x128 .f32 := Host.absf main_arg5
  let main_cst_4 : FVec F S_ .f32 := constant S_ .f32 0x7F800000#32
  let main_v15 : FVec F S1x6x128x128 .f32 := broadcastInDim S1x6x128x128 ![] bcast_S_S1x6x128x128 main_cst_4
  let main_v16 : IVec S1x6x128x128 1 := cmpf .olt main_v14 main_v15
  fn_part1 (F := F) main_v13 main_v16
-- ==== Pre_finite_mix.lean ====
abbrev S2048x2176 : Shape := ⟨2, ![2048, 2176]⟩
abbrev S1x3x384 : Shape := ⟨3, ![1, 3, 384]⟩
abbrev S1x4x64x64 : Shape := ⟨4, ![1, 4, 64, 64]⟩
abbrev S1x256 : Shape := ⟨2, ![1, 256]⟩
abbrev S1x384 : Shape := ⟨2, ![1, 384]⟩
abbrev S1x6x128x128 : Shape := ⟨4, ![1, 6, 128, 128]⟩
abbrev S1x6x128 : Shape := ⟨3, ![1, 6, 128]⟩
abbrev S2048x1024 : Shape := ⟨2, ![2048, 1024]⟩
abbrev S_ : Shape := ⟨0, ![]⟩

class Facts : Prop where
  bcast_S_S2048x2176 : S_.BroadcastsInDim S2048x2176 (![] : Fin 0 → Fin S2048x2176.rank)
  reducesTo_S2048x2176_S_d0_1 : S2048x2176.ReducesTo [0, 1] S_
  h_S_ : 0 < S_.numel
  bcast_S_S1x4x64x64 : S_.BroadcastsInDim S1x4x64x64 (![] : Fin 0 → Fin S1x4x64x64.rank)
  reducesTo_S1x4x64x64_S_d0_1_2_3 : S1x4x64x64.ReducesTo [0, 1, 2, 3] S_
  bcast_S_S1x256 : S_.BroadcastsInDim S1x256 (![] : Fin 0 → Fin S1x256.rank)
  reducesTo_S1x256_S_d0_1 : S1x256.ReducesTo [0, 1] S_
  bcast_S_S1x384 : S_.BroadcastsInDim S1x384 (![] : Fin 0 → Fin S1x384.rank)
  reducesTo_S1x384_S_d0_1 : S1x384.ReducesTo [0, 1] S_
  bcast_S_S1x6x128x128 : S_.BroadcastsInDim S1x6x128x128 (![] : Fin 0 → Fin S1x6x128x128.rank)
  reducesTo_S1x6x128x128_S_d0_1_2_3 : S1x6x128x128.ReducesTo [0, 1, 2, 3] S_
  bcast_S_S1x6x128 : S_.BroadcastsInDim S1x6x128 (![] : Fin 0 → Fin S1x6x128.rank)
  reducesTo_S1x6x128_S_d0_1_2 : S1x6x128.ReducesTo [0, 1, 2] S_
  bcast_S_S2048x1024 : S_.BroadcastsInDim S2048x1024 (![] : Fin 0 → Fin S2048x1024.rank)
  reducesTo_S2048x1024_S_d0_1 : S2048x1024.ReducesTo [0, 1] S_

variable [Facts]

def fn_part1 {F : FTy → Type} [FloatOps F] (main_arg5 : FVec F S1x6x128x128 .f32) (main_arg6 : FVec F S1x6x128 .f32) (main_arg7 : FVec F S2048x1024 .f32) (main_v13 : IVec S_ 1) (main_v16 : IVec S1x384 1) : IVec S_ 1 :=
  let main_c_5 : IVec S_ 1 := constantI S_ 1 1#1
  let main_v17 : IVec S_ 1 := (fun x v => Host.reduce IntOp.andi x v reducesTo_S1x384_S_d0_1 h_S_) main_v16 main_c_5
  let main_v18 : IVec S_ 1 := andi main_v13 main_v17
  let main_v19 : FVec F S1x6x128x128 .f32 := Host.absf main_arg5
  let main_cst_6 : FVec F S_ .f32 := constant S_ .f32 0x7F800000#32
  let main_v20 : FVec F S1x6x128x128 .f32 := broadcastInDim S1x6x128x128 ![] bcast_S_S1x6x128x128 main_cst_6
  let main_v21 : IVec S1x6x128x128 1 := cmpf .olt main_v19 main_v20
  let main_c_7 : IVec S_ 1 := constantI S_ 1 1#1
  let main_v22 : IVec S_ 1 := (fun x v => Host.reduce IntOp.andi x v reducesTo_S1x6x128x128_S_d0_1_2_3 h_S_) main_v21 main_c_7
  let main_v23 : IVec S_ 1 := andi main_v18 main_v22
  let main_v24 : FVec F S1x6x128 .f32 := Host.absf main_arg6
  let main_cst_8 : FVec F S_ .f32 := constant S_ .f32 0x7F800000#32
  let main_v25 : FVec F S1x6x128 .f32 := broadcastInDim S1x6x128 ![] bcast_S_S1x6x128 main_cst_8
  let main_v26 : IVec S1x6x128 1 := cmpf .olt main_v24 main_v25
  let main_c_9 : IVec S_ 1 := constantI S_ 1 1#1
  let main_v27 : IVec S_ 1 := (fun x v => Host.reduce IntOp.andi x v reducesTo_S1x6x128_S_d0_1_2 h_S_) main_v26 main_c_9
  let main_v28 : IVec S_ 1 := andi main_v23 main_v27
  let main_v29 : FVec F S2048x1024 .f32 := Host.absf main_arg7
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  main_v33

def fn {F : FTy → Type} [FloatOps F] (main_arg0 : FVec F S2048x2176 .f32) (main_arg1 : FVec F S1x3x384 .f32) (main_arg2 : FVec F S1x4x64x64 .f32) (main_arg3 : FVec F S1x256 .f32) (main_arg4 : FVec F S1x384 .f32) (main_arg5 : FVec F S1x6x128x128 .f32) (main_arg6 : FVec F S1x6x128 .f32) (main_arg7 : FVec F S2048x1024 .f32) : IVec S_ 1 :=
  let main_v0 : FVec F S2048x2176 .f32 := Host.absf main_arg0
  let main_cst : FVec F S_ .f32 := constant S_ .f32 0x7F800000#32
  let main_v1 : FVec F S2048x2176 .f32 := broadcastInDim S2048x2176 ![] bcast_S_S2048x2176 main_cst
  let main_v2 : IVec S2048x2176 1 := cmpf .olt main_v0 main_v1
  let main_c : IVec S_ 1 := constantI S_ 1 1#1
  let main_v3 : IVec S_ 1 := (fun x v => Host.reduce IntOp.andi x v reducesTo_S2048x2176_S_d0_1 h_S_) main_v2 main_c
  let main_v4 : FVec F S1x4x64x64 .f32 := Host.absf main_arg2
  let main_cst_0 : FVec F S_ .f32 := constant S_ .f32 0x7F800000#32
  let main_v5 : FVec F S1x4x64x64 .f32 := broadcastInDim S1x4x64x64 ![] bcast_S_S1x4x64x64 main_cst_0
  let main_v6 : IVec S1x4x64x64 1 := cmpf .olt main_v4 main_v5
  let main_c_1 : IVec S_ 1 := constantI S_ 1 1#1
  let main_v7 : IVec S_ 1 := (fun x v => Host.reduce IntOp.andi x v reducesTo_S1x4x64x64_S_d0_1_2_3 h_S_) main_v6 main_c_1
  let main_v8 : IVec S_ 1 := andi main_v3 main_v7
  let main_v9 : FVec F S1x256 .f32 := Host.absf main_arg3
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S1x384 .f32 := Host.absf main_arg4
  let main_cst_4 : FVec F S_ .f32 := constant S_ .f32 0x7F800000#32
  let main_v15 : FVec F S1x384 .f32 := broadcastInDim S1x384 ![] bcast_S_S1x384 main_cst_4
  let main_v16 : IVec S1x384 1 := cmpf .olt main_v14 main_v15
  fn_part1 (F := F) main_arg5 main_arg6 main_arg7 main_v13 main_v16
-- ==== Pre_finite_wo.lean ====
abbrev S2048x1024 : Shape := ⟨2, ![2048, 1024]⟩
abbrev S1024x1024 : Shape := ⟨2, ![1024, 1024]⟩
abbrev S1x1024 : Shape := ⟨2, ![1, 1024]⟩
abbrev S1024x5632 : Shape := ⟨2, ![1024, 5632]⟩
abbrev S2048x2816 : Shape := ⟨2, ![2048, 2816]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x1024 : S_.BroadcastsInDim S1x1024 (![] : Fin 0 → Fin S1x1024.rank)
  reducesTo_S1x1024_S_d0_1 : S1x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S2048x2816 : S_.BroadcastsInDim S2048x2816 (![] : Fin 0 → Fin S2048x2816.rank)
  reducesTo_S2048x2816_S_d0_1 : S2048x2816.ReducesTo [0, 1] S_

variable [Facts]

def fn_part2 {F : FTy → Type} [FloatOps F] (main_arg8 : FVec F S2048x2816 .f32) (main_v33 : IVec S_ 1) : IVec S_ 1 :=
  let main_v34 : FVec F S2048x2816 .f32 := Host.absf main_arg8
  let main_cst_12 : FVec F S_ .f32 := constant S_ .f32 0x7F800000#32
  let main_v35 : FVec F S2048x2816 .f32 := broadcastInDim S2048x2816 ![] bcast_S_S2048x2816 main_cst_12
  let main_v36 : IVec S2048x2816 1 := cmpf .olt main_v34 main_v35
  let main_c_13 : IVec S_ 1 := constantI S_ 1 1#1
  let main_v37 : IVec S_ 1 := (fun x v => Host.reduce IntOp.andi x v reducesTo_S2048x2816_S_d0_1 h_S_) main_v36 main_c_13
  let main_v38 : IVec S_ 1 := andi main_v33 main_v37
  main_v38

def fn_part1 {F : FTy → Type} [FloatOps F] (main_arg5 : FVec F S1024x5632 .f32) (main_arg6 : FVec F S2048x1024 .f32) (main_arg7 : FVec F S2048x2816 .f32) (main_arg8 : FVec F S2048x2816 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024x5632 .f32 := Host.absf main_arg5
  let main_cst_6 : FVec F S_ .f32 := constant S_ .f32 0x7F800000#32
  let main_v20 : FVec F S1024x5632 .f32 := broadcastInDim S1024x5632 ![] bcast_S_S1024x5632 main_cst_6
  let main_v21 : IVec S1024x5632 1 := cmpf .olt main_v19 main_v20
  let main_c_7 : IVec S_ 1 := constantI S_ 1 1#1
  let main_v22 : IVec S_ 1 := (fun x v => Host.reduce IntOp.andi x v reducesTo_S1024x5632_S_d0_1 h_S_) main_v21 main_c_7
  let main_v23 : IVec S_ 1 := andi main_v18 main_v22
  let main_v24 : FVec F S2048x1024 .f32 := Host.absf main_arg6
  let main_cst_8 : FVec F S_ .f32 := constant S_ .f32 0x7F800000#32
  let main_v25 : FVec F S2048x1024 .f32 := broadcastInDim S2048x1024 ![] bcast_S_S2048x1024 main_cst_8
  let main_v26 : IVec S2048x1024 1 := cmpf .olt main_v24 main_v25
  let main_c_9 : IVec S_ 1 := constantI S_ 1 1#1
  let main_v27 : IVec S_ 1 := (fun x v => Host.reduce IntOp.andi x v reducesTo_S2048x1024_S_d0_1 h_S_) main_v26 main_c_9
  let main_v28 : IVec S_ 1 := andi main_v23 main_v27
  let main_v29 : FVec F S2048x2816 .f32 := Host.absf main_arg7
  let main_cst_10 : FVec F S_ .f32 := constant S_ .f32 0x7F800000#32
  let main_v30 : FVec F S2048x2816 .f32 := broadcastInDim S2048x2816 ![] bcast_S_S2048x2816 main_cst_10
  let main_v31 : IVec S2048x2816 1 := cmpf .olt main_v29 main_v30
  let main_c_11 : IVec S_ 1 := constantI S_ 1 1#1
  let main_v32 : IVec S_ 1 := (fun x v => Host.reduce IntOp.andi x v reducesTo_S2048x2816_S_d0_1 h_S_) main_v31 main_c_11
  let main_v33 : IVec S_ 1 := andi main_v28 main_v32
  fn_part2 (F := F) main_arg8 main_v33

def fn {F : FTy → Type} [FloatOps F] (main_arg0 : FVec F S2048x1024 .f32) (main_arg1 : FVec F S1024x1024 .f32) (main_arg2 : FVec F S2048x1024 .f32) (main_arg3 : FVec F S1x1024 .f32) (main_arg4 : FVec F S1x1024 .f32) (main_arg5 : FVec F S1024x5632 .f32) (main_arg6 : FVec F S2048x1024 .f32) (main_arg7 : FVec F S2048x2816 .f32) (main_arg8 : FVec F S2048x2816 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg5 main_arg6 main_arg7 main_arg8 main_v13 main_v16
-- ==== KernelFf.lean ====
abbrev S2048x1024 : Shape := ⟨2, ![2048, 1024]⟩
abbrev S1024x5632 : Shape := ⟨2, ![1024, 5632]⟩
abbrev S2816x1024 : Shape := ⟨2, ![2816, 1024]⟩
abbrev S5632x1024 : Shape := ⟨2, ![5632, 1024]⟩
abbrev S2048x2816 : Shape := ⟨2, ![2048, 2816]⟩
abbrev S256x1024 : Shape := ⟨2, ![256, 1024]⟩
abbrev S2048x256 : Shape := ⟨2, ![2048, 256]⟩

abbrev nBuf : Space → Nat
  | .hbm => 14
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2816x1024, .f32⟩
  | .hbm, ⟨3, _⟩ => ⟨S2048x1024, .f32⟩
  | .hbm, ⟨4, _⟩ => ⟨S2048x1024, .bf16⟩
  | .hbm, ⟨5, _⟩ => ⟨S5632x1024, .f32⟩
  | .hbm, ⟨6, _⟩ => ⟨S5632x1024, .bf16⟩
  | .hbm, ⟨7, _⟩ => ⟨S2048x2816, .bf16⟩
  | .hbm, ⟨8, _⟩ => ⟨S2048x2816, .bf16⟩
  | .hbm, ⟨9, _⟩ => ⟨S2048x2816, .bf16⟩
  | .hbm, ⟨10, _⟩ => ⟨S2048x1024, .bf16⟩
  | .hbm, ⟨11, _⟩ => ⟨S2816x1024, .bf16⟩
  | .hbm, ⟨12, _⟩ => ⟨S2048x2816, .bf16⟩
  | .hbm, ⟨13, _⟩ => ⟨S2048x2816, .bf16⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S2048x256, .bf16⟩
  | .local _ .vmem, ⟨6, _⟩ => ⟨S2048x256, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S2048x1024, .bf16⟩
  | .local _ .vmem, ⟨12, _⟩ => ⟨S256x1024, .bf16⟩
  | .local _ .vmem, ⟨13, _⟩ => ⟨S256x1024, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg0 c11_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![11, 1], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S2048x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, true]

abbrev stage1_1 : Fin 2 → Memref sig .tc .vmem S256x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2048x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S2048x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S2048x256 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]
-- ==== ReferenceFfIdeal.lean ====
abbrev S2048x1024 : Shape := ⟨2, ![2048, 1024]⟩
abbrev S1024x5632 : Shape := ⟨2, ![1024, 5632]⟩
abbrev S2816x1024 : Shape := ⟨2, ![2816, 1024]⟩
abbrev S2048x5632 : Shape := ⟨2, ![2048, 5632]⟩
abbrev S2048x2816 : Shape := ⟨2, ![2048, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2816x1024, .f32⟩
  | .hbm, ⟨3, _⟩ => ⟨S2048x1024, .f32⟩
  | .hbm, ⟨4, _⟩ => ⟨S2048x5632, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x1024, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S2048x2816, .bf16⟩
  | .hbm, ⟨30, _⟩ => ⟨S2048x2816, .bf16⟩
  | .hbm, ⟨31, _⟩ => ⟨S2048x2816, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== KernelMx.lean ====
abbrev S2048x2176 : Shape := ⟨2, ![2048, 2176]⟩
abbrev S1x3x384 : Shape := ⟨3, ![1, 3, 384]⟩
abbrev S1x4x64x64 : Shape := ⟨4, ![1, 4, 64, 64]⟩
abbrev S1x256 : Shape := ⟨2, ![1, 256]⟩
abbrev S1x384 : Shape := ⟨2, ![1, 384]⟩
abbrev S1x6x128x128 : Shape := ⟨4, ![1, 6, 128, 128]⟩
abbrev S1x6x128 : Shape := ⟨3, ![1, 6, 128]⟩
abbrev S2048x1024 : Shape := ⟨2, ![2048, 1024]⟩
abbrev S2x2 : Shape := ⟨2, ![2, 2]⟩
abbrev S_ : Shape := ⟨0, ![]⟩
abbrev S1x2x2x64x64 : Shape := ⟨5, ![1, 2, 2, 64, 64]⟩
abbrev S1x2x2x64x1x64 : Shape := ⟨6, ![1, 2, 2, 64, 1, 64]⟩
abbrev S1x1x2x1x2x1 : Shape := ⟨6, ![1, 1, 2, 1, 2, 1]⟩
abbrev S1x2x2x64x2x64 : Shape := ⟨6, ![1, 2, 2, 64, 2, 64]⟩
abbrev S1x2x128x128 : Shape := ⟨4, ![1, 2, 128, 128]⟩
abbrev S1x3x256x128 : Shape := ⟨4, ![1, 3, 256, 128]⟩
abbrev S1x3x2x128 : Shape := ⟨4, ![1, 3, 2, 128]⟩
abbrev S1x3x128x2 : Shape := ⟨4, ![1, 3, 128, 2]⟩
abbrev S1x3x128x2x64 : Shape := ⟨5, ![1, 3, 128, 2, 64]⟩
abbrev S1x3x128x128 : Shape := ⟨4, ![1, 3, 128, 128]⟩
abbrev S1x1x256 : Shape := ⟨3, ![1, 1, 256]⟩
abbrev S1x1x384 : Shape := ⟨3, ![1, 1, 384]⟩
abbrev S3x384 : Shape := ⟨2, ![3, 384]⟩
abbrev S2x128x128 : Shape := ⟨3, ![2, 128, 128]⟩
abbrev S3x256x128 : Shape := ⟨3, ![3, 256, 128]⟩
abbrev S3x128x128 : Shape := ⟨3, ![3, 128, 128]⟩
abbrev S2048x128 : Shape := ⟨2, ![2048, 128]⟩
abbrev S1x3x128 : Shape := ⟨3, ![1, 3, 128]⟩
abbrev S1x1x128x128 : Shape := ⟨4, ![1, 1, 128, 128]⟩
abbrev S1x1x128 : Shape := ⟨3, ![1, 1, 128]⟩
abbrev S1x1x256x128 : Shape := ⟨4, ![1, 1, 256, 128]⟩
abbrev S3x128 : Shape := ⟨2, ![3, 128]⟩
abbrev S1x128x128 : Shape := ⟨3, ![1, 128, 128]⟩
abbrev S1x128 : Shape := ⟨2, ![1, 128]⟩
abbrev S1x256x128 : Shape := ⟨3, ![1, 256, 128]⟩
abbrev S6x2048x128 : Shape := ⟨3, ![6, 2048, 128]⟩
abbrev S3x2048x128 : Shape := ⟨3, ![3, 2048, 128]⟩
abbrev S128 : Shape := ⟨1, ![128]⟩
abbrev S1x2048x128 : Shape := ⟨3, ![1, 2048, 128]⟩
abbrev S128x128 : Shape := ⟨2, ![128, 128]⟩
abbrev S256x128 : Shape := ⟨2, ![256, 128]⟩
abbrev S128x1 : Shape := ⟨2, ![128, 1]⟩
abbrev S1x2x1x64x1x64 : Shape := ⟨6, ![1, 2, 1, 64, 1, 64]⟩
abbrev S1x2x64x64 : Shape := ⟨4, ![1, 2, 64, 64]⟩
abbrev S1x2x1x64x64 : Shape := ⟨5, ![1, 2, 1, 64, 64]⟩
abbrev S3x128x2 : Shape := ⟨3, ![3, 128, 2]⟩
abbrev S6x128x128 : Shape := ⟨3, ![6, 128, 128]⟩

abbrev nBuf : Space → Nat
  | .hbm => 50
  | .vmem => 36
  | .smem => 0
  | _ => 0

abbrev bufTy : (tb : Table) → Fin (tcTables nBuf tb) → BufTy
  | .hbm, ⟨0, _⟩ => ⟨S2048x2176, .f32⟩
  | .hbm, ⟨1, _⟩ => ⟨S1x3x384, .f32⟩
  | .hbm, ⟨2, _⟩ => ⟨S1x4x64x64, .f32⟩
  | .hbm, ⟨3, _⟩ => ⟨S1x256, .f32⟩
  | .hbm, ⟨4, _⟩ => ⟨S1x384, .f32⟩
  | .hbm, ⟨5, _⟩ => ⟨S1x6x128x128, .f32⟩
  | .hbm, ⟨6, _⟩ => ⟨S1x6x128, .f32⟩
  | .hbm, ⟨7, _⟩ => ⟨S2048x1024, .f32⟩
  | .hbm, ⟨8, _⟩ => ⟨S2x2, .i32⟩
  | .hbm, ⟨9, _⟩ => ⟨S2x2, .i32⟩
  | .hbm, ⟨10, _⟩ => ⟨S_, .i32⟩
  | .hbm, ⟨11, _⟩ => ⟨S2x2, .i32⟩
  | .hbm, ⟨12, _⟩ => ⟨S2x2, .i32⟩
  | .hbm, ⟨13, _⟩ => ⟨S2x2, .i1⟩
  | .hbm, ⟨14, _⟩ => ⟨S2x2, .f32⟩
  | .hbm, ⟨15, _⟩ => ⟨S1x2x2x64x64, .f32⟩
  | .hbm, ⟨16, _⟩ => ⟨S1x2x2x64x1x64, .f32⟩
  | .hbm, ⟨17, _⟩ => ⟨S1x1x2x1x2x1, .f32⟩
  | .hbm, ⟨18, _⟩ => ⟨S1x2x2x64x2x64, .f32⟩
  | .hbm, ⟨19, _⟩ => ⟨S1x2x2x64x2x64, .f32⟩
  | .hbm, ⟨20, _⟩ => ⟨S1x2x2x64x2x64, .f32⟩
  | .hbm, ⟨21, _⟩ => ⟨S1x2x128x128, .f32⟩
  | .hbm, ⟨22, _⟩ => ⟨S1x3x256x128, .f32⟩
  | .hbm, ⟨23, _⟩ => ⟨S1x3x2x128, .f32⟩
  | .hbm, ⟨24, _⟩ => ⟨S1x3x128x2, .f32⟩
  | .hbm, ⟨25, _⟩ => ⟨S1x3x128x2x64, .f32⟩
  | .hbm, ⟨26, _⟩ => ⟨S1x3x128x128, .f32⟩
  | .hbm, ⟨27, _⟩ => ⟨S1x1x256, .f32⟩
  | .hbm, ⟨28, _⟩ => ⟨S1x1x384, .f32⟩
  | .hbm, ⟨29, _⟩ => ⟨S2048x2176, .bf16⟩
  | .hbm, ⟨30, _⟩ => ⟨S3x384, .f32⟩
  | .hbm, ⟨31, _⟩ => ⟨S2x128x128, .f32⟩
  | .hbm, ⟨32, _⟩ => ⟨S1x256, .f32⟩
  | .hbm, ⟨33, _⟩ => ⟨S1x384, .f32⟩
  | .hbm, ⟨34, _⟩ => ⟨S3x256x128, .f32⟩
  | .hbm, ⟨35, _⟩ => ⟨S3x128x128, .f32⟩
  | .hbm, ⟨36, _⟩ => ⟨S1x2x2x64x2x64, .f32⟩
  | .hbm, ⟨37, _⟩ => ⟨S1x2x1x64x1x64, .f32⟩
  | .hbm, ⟨38, _⟩ => ⟨S1x2x64x64, .f32⟩
  | .hbm, ⟨39, _⟩ => ⟨S1x2x1x64x1x64, .f32⟩
  | .hbm, ⟨40, _⟩ => ⟨S1x2x64x64, .f32⟩
  | .hbm, ⟨41, _⟩ => ⟨S1x2x1x64x64, .f32⟩
  | .hbm, ⟨42, _⟩ => ⟨S1x2x1x64x64, .f32⟩
  | .hbm, ⟨43, _⟩ => ⟨S1x2x2x64x64, .f32⟩
  | .hbm, ⟨44, _⟩ => ⟨S1x4x64x64, .f32⟩
  | .hbm, ⟨45, _⟩ => ⟨S3x128x2, .f32⟩
  | .hbm, ⟨46, _⟩ => ⟨S1x3x128x2, .f32⟩
  | .hbm, ⟨47, _⟩ => ⟨S1x3x2x128, .f32⟩
  | .hbm, ⟨48, _⟩ => ⟨S1x6x128, .f32⟩
  | .hbm, ⟨49, _⟩ => ⟨S6x128x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S1x3x128, .f32⟩
  | .local _ .vmem, ⟨9, _⟩ => ⟨S1x3x128, .f32⟩
  | .local _ .vmem, ⟨10, _⟩ => ⟨S1x1x128x128, .f32⟩
  | .local _ .vmem, ⟨11, _⟩ => ⟨S1x1x128x128, .f32⟩
  | .local _ .vmem, ⟨12, _⟩ => ⟨S1x1x128, .f32⟩
  | .local _ .vmem, ⟨13, _⟩ => ⟨S1x1x128, .f32⟩
  | .local _ .vmem, ⟨14, _⟩ => ⟨S1x1x128, .f32⟩
  | .local _ .vmem, ⟨15, _⟩ => ⟨S1x1x128, .f32⟩
  | .local _ .vmem, ⟨16, _⟩ => ⟨S1x1x256x128, .f32⟩
  | .local _ .vmem, ⟨17, _⟩ => ⟨S1x1x256x128, .f32⟩
  | .local _ .vmem, ⟨18, _⟩ => ⟨S1x1x128x128, .f32⟩
  | .local _ .vmem, ⟨19, _⟩ => ⟨S1x1x128x128, .f32⟩
  | .local _ .vmem, ⟨20, _⟩ => ⟨S2048x128, .bf16⟩
  | .local _ .vmem, ⟨21, _⟩ => ⟨S2048x128, .bf16⟩
  | .local _ .vmem, ⟨22, _⟩ => ⟨S3x128, .f32⟩
  | .local _ .vmem, ⟨23, _⟩ => ⟨S3x128, .f32⟩
  | .local _ .vmem, ⟨24, _⟩ => ⟨S1x128x128, .f32⟩
  | .local _ .vmem, ⟨25, _⟩ => ⟨S1x128x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x256x128, .f32⟩
  | .local _ .vmem, ⟨31, _⟩ => ⟨S1x256x128, .f32⟩
  | .local _ .vmem, ⟨32, _⟩ => ⟨S1x128x128, .f32⟩
  | .local _ .vmem, ⟨33, _⟩ => ⟨S1x128x128, .f32⟩
  | .local _ .vmem, ⟨34, _⟩ => ⟨S6x2048x128, .bf16⟩
  | .local _ .vmem, ⟨35, _⟩ => ⟨S3x2048x128, .bf16⟩
  | _, _ => ⟨S2048x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev main_v20_4 : Ref sig .tc := ⟨.hbm, 33, rfl⟩
abbrev main_v20_5 : Ref sig .tc := ⟨.hbm, 34, rfl⟩
abbrev main_v20_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c3_i32 : BitVec 32 := 3#32
  let v0 : BitVec 1 := Scalar.cmpi .slt arg0 c3_i32
  let v1 : BitVec 32 := Scalar.extui v0
  let c0_i32 : BitVec 32 := 0#32
  let v2 : BitVec 1 := Scalar.cmpi .ne v1 c0_i32
  v2

def k0_off1 (i : grid0.Coords) : Fin 3 → Nat :=
  let arg0 : BitVec 32 := BitVec.ofNat 32 (i 0).val
  let v92 : Index := Scalar.indexCast arg0
  let c0_34 : Index := 0#32
  let c0_35 : Index := 0#32
  ![v92.toNat, 0, 0]
def k0_off2 (i : grid0.Coords) : Fin 3 → Nat :=
  let arg0 : BitVec 32 := BitVec.ofNat 32 (i 0).val
  let c3_i32_36 : BitVec 32 := 3#32
  let v98 : BitVec 32 := Scalar.addi arg0 c3_i32_36
  let v99 : Index := Scalar.indexCast v98
  let c0_37 : Index := 0#32
  let c0_38 : Index := 0#32
  ![v99.toNat, 0, 0]
def k0_cond2 (i : grid0.Coords) : BitVec 1 :=
  let arg0 : BitVec 32 := BitVec.ofNat 32 (i 0).val
  let c3_i32_0 : BitVec 32 := 3#32
  let v3 : BitVec 1 := Scalar.cmpi .sge arg0 c3_i32_0
  let c9_i32 : BitVec 32 := 9#32
  let v4 : BitVec 1 := Scalar.cmpi .slt arg0 c9_i32
  let v5 : BitVec 1 := Scalar.andi v3 v4
  let v6 : BitVec 32 := Scalar.extui v5
  let c0_i32_1 : BitVec 32 := 0#32
  let v7 : BitVec 1 := Scalar.cmpi .ne v6 c0_i32_1
  v7

def k0_off3 (i : grid0.Coords) : Fin 3 → Nat :=
  let arg0 : BitVec 32 := BitVec.ofNat 32 (i 0).val
  let c3_i32_8 : BitVec 32 := 3#32
  let v21 : BitVec 32 := Scalar.subi arg0 c3_i32_8
  let v22 : Index := Scalar.indexCast v21
  let c0 : Index := 0#32
  let c0_9 : Index := 0#32
  ![v22.toNat, 0, 0]
def k0_cond4 (i : grid0.Coords) : BitVec 1 :=
  let arg0 : BitVec 32 := BitVec.ofNat 32 (i 0).val
  let c11_i32_4 : BitVec 32 := 11#32
  let v13 : BitVec 1 := Scalar.cmpi .sge arg0 c11_i32_4
  let c14_i32 : BitVec 32 := 14#32
  let v14 : BitVec 1 := Scalar.cmpi .slt arg0 c14_i32
  let v15 : BitVec 1 := Scalar.andi v13 v14
  let v16 : BitVec 32 := Scalar.extui v15
  let c0_i32_5 : BitVec 32 := 0#32
  let v17 : BitVec 1 := Scalar.cmpi .ne v16 c0_i32_5
  v17

@[reducible] def k0_t1_loop : Scf.Loop 32 :=
  let c0_i32_29 : BitVec 32 := 0#32
  let c16_i32 : BitVec 32 := 16#32
  let v48 : BitVec 32 := Scalar.addi c0_i32_29 c16_i32
  let c1_i32 : BitVec 32 := 1#32
  ⟨c0_i32_29, v48, c1_i32⟩
def k0_mult1 (k0_t1 : Fin k0_t1_loop.trips) : BitVec 32 :=
  let c0_i32_29 : BitVec 32 := 0#32
  let c1_i32 : BitVec 32 := 1#32
  let arg20 : BitVec 32 := Scf.iv c0_i32_29 c1_i32 k0_t1
  let c128_i32 : BitVec 32 := 128#32
  let v81 : BitVec 32 := Scalar.muli arg20 c128_i32
  v81
def k0_off4 (k0_t1 : Fin k0_t1_loop.trips) : Fin 2 → Nat :=
  let c0_i32_29 : BitVec 32 := 0#32
  let c1_i32 : BitVec 32 := 1#32
  let arg20 : BitVec 32 := Scf.iv c0_i32_29 c1_i32 k0_t1
  let c128_i32 : BitVec 32 := 128#32
  let v81 : BitVec 32 := Scalar.muli arg20 c128_i32
  let v82 : BitVec 32 := v81
  let v83 : Index := Scalar.indexCast v82
  let c0_51 : Index := 0#32
  ![v83.toNat, 0]
def k0_off5 (i : grid0.Coords) (k0_t1 : Fin k0_t1_loop.trips) : Fin 3 → Nat :=
  let arg0 : BitVec 32 := BitVec.ofNat 32 (i 0).val
  let c11_i32_114 : BitVec 32 := 11#32
  let v251 : BitVec 32 := Scalar.subi arg0 c11_i32_114
  let v252 : Index := Scalar.indexCast v251
  let c0_i32_29 : BitVec 32 := 0#32
  let c1_i32 : BitVec 32 := 1#32
  let arg20 : BitVec 32 := Scf.iv c0_i32_29 c1_i32 k0_t1
  let c128_i32 : BitVec 32 := 128#32
  let v81 : BitVec 32 := Scalar.muli arg20 c128_i32
  let v82 : BitVec 32 := v81
  let v253 : Index := Scalar.indexCast v82
  let c0_115 : Index := 0#32
  ![v252.toNat, v253.toNat, 0]
def k0_cond5 (i : grid0.Coords) : BitVec 1 :=
  let arg0 : BitVec 32 := BitVec.ofNat 32 (i 0).val
  let c14_i32_6 : BitVec 32 := 14#32
  let v18 : BitVec 1 := Scalar.cmpi .sge arg0 c14_i32_6
  let v19 : BitVec 32 := Scalar.extui v18
  let c0_i32_7 : BitVec 32 := 0#32
  let v20 : BitVec 1 := Scalar.cmpi .ne v19 c0_i32_7
  v20

def k0_off6 (i : grid0.Coords) : Fin 3 → Nat :=
  let arg0 : BitVec 32 := BitVec.ofNat 32 (i 0).val
  let c14_i32_8 : BitVec 32 := 14#32
  let v21 : BitVec 32 := Scalar.subi arg0 c14_i32_8
  let v22 : Index := Scalar.indexCast v21
  let c0 : Index := 0#32
  let c0_9 : Index := 0#32
  ![v22.toNat, 0, 0]
def k0_cond3 (i : grid0.Coords) : BitVec 1 :=
  let arg0 : BitVec 32 := BitVec.ofNat 32 (i 0).val
  let c9_i32_2 : BitVec 32 := 9#32
  let v8 : BitVec 1 := Scalar.cmpi .sge arg0 c9_i32_2
  let c11_i32 : BitVec 32 := 11#32
  let v9 : BitVec 1 := Scalar.cmpi .slt arg0 c11_i32
  let v10 : BitVec 1 := Scalar.andi v8 v9
  let v11 : BitVec 32 := Scalar.extui v10
  let c0_i32_3 : BitVec 32 := 0#32
  let v12 : BitVec 1 := Scalar.cmpi .ne v11 c0_i32_3
  v12

def cc0_transform_0 (i : grid0.Coords) : Fin 2 → Nat :=
  let arg0 : BitVec 32 := BitVec.ofNat 32 (i 0).val
  let c3_i32 : BitVec 32 := 3#32
  let v0 : BitVec 1 := Scalar.cmpi .slt arg0 c3_i32
  let c9_i32 : BitVec 32 := 9#32
  let v1 : BitVec 1 := Scalar.cmpi .slt arg0 c9_i32
  let c14_i32 : BitVec 32 := 14#32
  let v2 : BitVec 1 := Scalar.cmpi .slt arg0 c14_i32
  let c13_i32 : BitVec 32 := 13#32
  let v3 : BitVec 32 := Scalar.select v2 arg0 c13_i32
  let c2_i32 : BitVec 32 := 2#32
  let v4 : BitVec 32 := Scalar.select v1 c2_i32 v3
  let v5 : BitVec 32 := Scalar.select v0 arg0 v4
  let c0_i32 : BitVec 32 := 0#32
  let c0_i32_0 : BitVec 32 := 0#32
  ![c0_i32.toNat, v5.toNat]

def cc0_transform_1 (i : grid0.Coords) : Fin 2 → Nat :=
  let arg0 : BitVec 32 := BitVec.ofNat 32 (i 0).val
  let c3_i32 : BitVec 32 := 3#32
  let v0 : BitVec 1 := Scalar.cmpi .slt arg0 c3_i32
  let c3_i32_0 : BitVec 32 := 3#32
  let v1 : BitVec 32 := Scalar.addi arg0 c3_i32_0
  let c11_i32 : BitVec 32 := 11#32
  let v2 : BitVec 1 := Scalar.cmpi .slt arg0 c11_i32
  let c14_i32 : BitVec 32 := 14#32
  let v3 : BitVec 1 := Scalar.cmpi .slt arg0 c14_i32
  let c3_i32_1 : BitVec 32 := 3#32
  let v4 : BitVec 32 := Scalar.addi arg0 c3_i32_1
  let c16_i32 : BitVec 32 := 16#32
  let v5 : BitVec 32 := Scalar.select v3 v4 c16_i32
  let c5_i32 : BitVec 32 := 5#32
  let v6 : BitVec 32 := Scalar.select v2 c5_i32 v5
  let v7 : BitVec 32 := Scalar.select v0 v1 v6
  let c0_i32 : BitVec 32 := 0#32
  let c0_i32_2 : BitVec 32 := 0#32
  ![c0_i32.toNat, v7.toNat]

def cc0_transform_2 (i : grid0.Coords) : Fin 2 → Nat :=
  let arg0 : BitVec 32 := BitVec.ofNat 32 (i 0).val
  let c3_i32 : BitVec 32 := 3#32
  let v0 : BitVec 1 := Scalar.cmpi .slt arg0 c3_i32
  let c6_i32 : BitVec 32 := 6#32
  let v1 : BitVec 32 := Scalar.addi arg0 c6_i32
  let c8_i32 : BitVec 32 := 8#32
  let v2 : BitVec 32 := Scalar.select v0 v1 c8_i32
  let c0_i32 : BitVec 32 := 0#32
  let c0_i32_0 : BitVec 32 := 0#32
  ![c0_i32.toNat, v2.toNat]

def cc0_transform_3 (i : grid0.Coords) : Fin 2 → Nat :=
  let arg0 : BitVec 32 := BitVec.ofNat 32 (i 0).val
  let c3_i32 : BitVec 32 := 3#32
  let v0 : BitVec 1 := Scalar.cmpi .slt arg0 c3_i32
  let c9_i32 : BitVec 32 := 9#32
  let v1 : BitVec 1 := Scalar.cmpi .slt arg0 c9_i32
  let c14_i32 : BitVec 32 := 14#32
  let v2 : BitVec 1 := Scalar.cmpi .slt arg0 c14_i32
  let c6_i32 : BitVec 32 := 6#32
  let v3 : BitVec 32 := Scalar.subi arg0 c6_i32
  let c7_i32 : BitVec 32 := 7#32
  let v4 : BitVec 32 := Scalar.select v2 v3 c7_i32
  let c2_i32 : BitVec 32 := 2#32
  let v5 : BitVec 32 := Scalar.select v1 c2_i32 v4
  let v6 : BitVec 32 := Scalar.select v0 arg0 v5
  let c0_i32 : BitVec 32 := 0#32
  let c0_i32_0 : BitVec 32 := 0#32
  ![c0_i32.toNat, v6.toNat]

def cc0_transform_4 (i : grid0.Coords) : Fin 3 → Nat :=
  let arg0 : BitVec 32 := BitVec.ofNat 32 (i 0).val
  let c0_i32 : BitVec 32 := 0#32
  let v0 : BitVec 32 := Scalar.maxsi arg0 c0_i32
  let c2_i32 : BitVec 32 := 2#32
  let v1 : BitVec 32 := Scalar.minsi v0 c2_i32
  let c0_i32_0 : BitVec 32 := 0#32
  let c0_i32_1 : BitVec 32 := 0#32
  let c0_i32_2 : BitVec 32 := 0#32
  ![c0_i32_0.toNat, c0_i32_1.toNat, v1.toNat]

def cc0_transform_5 (i : grid0.Coords) : Fin 4 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c1_i32 : BitVec 32 := 1#32
  let v2 : BitVec 32 := Scalar.minsi v1 c1_i32
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_6 (i : grid0.Coords) : Fin 3 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c1_i32 : BitVec 32 := 1#32
  let v2 : BitVec 32 := Scalar.minsi v1 c1_i32
  let c0_i32_0 : BitVec 32 := 0#32
  let c0_i32_1 : BitVec 32 := 0#32
  let c0_i32_2 : BitVec 32 := 0#32
  ![c0_i32_0.toNat, c0_i32_1.toNat, v2.toNat]

def cc0_transform_7 (i : grid0.Coords) : Fin 3 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c2_i32 : BitVec 32 := 2#32
  let v2 : BitVec 32 := Scalar.minsi v1 c2_i32
  let c0_i32_0 : BitVec 32 := 0#32
  let c0_i32_1 : BitVec 32 := 0#32
  let c0_i32_2 : BitVec 32 := 0#32
  ![c0_i32_0.toNat, c0_i32_1.toNat, v2.toNat]

def cc0_transform_8 (i : grid0.Coords) : Fin 4 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c2_i32 : BitVec 32 := 2#32
  let v2 : BitVec 32 := Scalar.minsi v1 c2_i32
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_9 (i : grid0.Coords) : Fin 4 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c2_i32 : BitVec 32 := 2#32
  let v2 : BitVec 32 := Scalar.minsi v1 c2_i32
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let v0 : BitVec 32 := Scalar.maxsi arg0 c0_i32
  let c2_i32 : BitVec 32 := 2#32
  let v1 : BitVec 32 := Scalar.minsi v0 c2_i32
  let c0_i32_0 : BitVec 32 := 0#32
  let c0_i32_1 : BitVec 32 := 0#32
  ![c0_i32_0.toNat, v1.toNat]

def cc0_transform_12 (i : grid0.Coords) : Fin 3 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c1_i32 : BitVec 32 := 1#32
  let v2 : BitVec 32 := Scalar.minsi v1 c1_i32
  let c0_i32_0 : BitVec 32 := 0#32
  let c0_i32_1 : BitVec 32 := 0#32
  let c0_i32_2 : BitVec 32 := 0#32
  ![v2.toNat, c0_i32_0.toNat, c0_i32_1.toNat]

def cc0_transform_13 (i : grid0.Coords) : Fin 2 → Nat :=
  let arg0 : BitVec 32 := BitVec.ofNat 32 (i 0).val
  let c9_i32 : BitVec 32 := 9#32
  let v0 : BitVec 32 := Scalar.subi arg0 c9_i32
  let c0_i32 : BitVec 32 := 0#32
  let v1 : BitVec 32 := Scalar.maxsi v0 c0_i32
  let c1_i32 : BitVec 32 := 1#32
  let v2 : BitVec 32 := Scalar.minsi v1 c1_i32
  let c0_i32_0 : BitVec 32 := 0#32
  let c0_i32_1 : BitVec 32 := 0#32
  ![c0_i32_0.toNat, v2.toNat]

def cc0_transform_14 (i : grid0.Coords) : Fin 2 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c2_i32 : BitVec 32 := 2#32
  let v2 : BitVec 32 := Scalar.minsi v1 c2_i32
  let c0_i32_0 : BitVec 32 := 0#32
  let c0_i32_1 : BitVec 32 := 0#32
  ![c0_i32_0.toNat, v2.toNat]

def cc0_transform_15 (i : grid0.Coords) : Fin 3 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c2_i32 : BitVec 32 := 2#32
  let v2 : BitVec 32 := Scalar.minsi v1 c2_i32
  let c0_i32_0 : BitVec 32 := 0#32
  let c0_i32_1 : BitVec 32 := 0#32
  let c0_i32_2 : BitVec 32 := 0#32
  ![v2.toNat, c0_i32_0.toNat, c0_i32_1.toNat]

def cc0_transform_16 (i : grid0.Coords) : Fin 3 → Nat :=
  let arg0 : BitVec 32 := BitVec.ofNat 32 (i 0).val
  let c11_i32 : BitVec 32 := 11#32
  let v0 : BitVec 32 := Scalar.subi arg0 c11_i32
  let c0_i32 : BitVec 32 := 0#32
  let v1 : BitVec 32 := Scalar.maxsi v0 c0_i32
  let c2_i32 : BitVec 32 := 2#32
  let v2 : BitVec 32 := Scalar.minsi v1 c2_i32
  let c0_i32_0 : BitVec 32 := 0#32
  let c0_i32_1 : BitVec 32 := 0#32
  let c0_i32_2 : BitVec 32 := 0#32
  ![v2.toNat, c0_i32_0.toNat, c0_i32_1.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S3x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== KernelMxIdeal.lean ====
variable {F : FTy → Type} [FloatOps F] [Named F]
def κ : String → Option EReal := fun
  | "inv_sqrt2" => some (((Real.sqrt 2)⁻¹ : ℝ) : EReal)
  | "inv_sqrt_2pi" => some (((Real.sqrt (2 * Real.pi))⁻¹ : ℝ) : EReal)
  | _ => none
-- ==== ReferenceMxIdeal.lean ====
abbrev S2048x2176 : Shape := ⟨2, ![2048, 2176]⟩
abbrev S1x3x384 : Shape := ⟨3, ![1, 3, 384]⟩
abbrev S1x4x64x64 : Shape := ⟨4, ![1, 4, 64, 64]⟩
abbrev S1x256 : Shape := ⟨2, ![1, 256]⟩
abbrev S1x384 : Shape := ⟨2, ![1, 384]⟩
abbrev S1x6x128x128 : Shape := ⟨4, ![1, 6, 128, 128]⟩
abbrev S1x6x128 : Shape := ⟨3, ![1, 6, 128]⟩
abbrev S2048x1024 : Shape := ⟨2, ![2048, 1024]⟩
abbrev S3x384 : Shape := ⟨2, ![3, 384]⟩
abbrev S4x64x64 : Shape := ⟨3, ![4, 64, 64]⟩
abbrev S256 : Shape := ⟨1, ![256]⟩
abbrev S384 : Shape := ⟨1, ![384]⟩
abbrev S6x128x128 : Shape := ⟨3, ![6, 128, 128]⟩
abbrev S6x128 : Shape := ⟨2, ![6, 128]⟩
abbrev S2048x384 : Shape := ⟨2, ![2048, 384]⟩
abbrev S2048x256 : Shape := ⟨2, ![2048, 256]⟩
abbrev S2048x768 : Shape := ⟨2, ![2048, 768]⟩
abbrev S_ : Shape := ⟨0, ![]⟩
abbrev S2x384 : Shape := ⟨2, ![2, 384]⟩
abbrev S2050x384 : Shape := ⟨2, ![2050, 384]⟩
abbrev S2048x4x64 : Shape := ⟨3, ![2048, 4, 64]⟩
abbrev S2048 : Shape := ⟨1, ![2048]⟩
abbrev S2048x1x64 : Shape := ⟨3, ![2048, 1, 64]⟩
abbrev S2048x64 : Shape := ⟨2, ![2048, 64]⟩
abbrev S2x64 : Shape := ⟨2, ![2, 64]⟩
abbrev S2050x64 : Shape := ⟨2, ![2050, 64]⟩
abbrev S2048x1 : Shape := ⟨2, ![2048, 1]⟩
abbrev S4x64 : Shape := ⟨2, ![4, 64]⟩
abbrev S2052x64 : Shape := ⟨2, ![2052, 64]⟩
abbrev S8x64 : Shape := ⟨2, ![8, 64]⟩
abbrev S2056x64 : Shape := ⟨2, ![2056, 64]⟩
abbrev S16x64 : Shape := ⟨2, ![16, 64]⟩
abbrev S2064x64 : Shape := ⟨2, ![2064, 64]⟩
abbrev S4x64x2048 : Shape := ⟨3, ![4, 64, 2048]⟩
abbrev S2048x6x64 : Shape := ⟨3, ![2048, 6, 64]⟩
abbrev S2048x6 : Shape := ⟨2, ![2048, 6]⟩
abbrev S2048x6x1 : Shape := ⟨3, ![2048, 6, 1]⟩
abbrev S6x64 : Shape := ⟨2, ![6, 64]⟩
abbrev S1x6x64 : Shape := ⟨3, ![1, 6, 64]⟩
abbrev S16x128x6x64 : Shape := ⟨4, ![16, 128, 6, 64]⟩
abbrev S128x128 : Shape := ⟨2, ![128, 128]⟩
abbrev S1x128x128 : Shape := ⟨3, ![1, 128, 128]⟩
abbrev S6x16x64x128 : Shape := ⟨4, ![6, 16, 64, 128]⟩
abbrev S128x6 : Shape := ⟨2, ![128, 6]⟩
abbrev S1x128x6x1 : Shape := ⟨4, ![1, 128, 6, 1]⟩
abbrev S4x2048x64 : Shape := ⟨3, ![4, 2048, 64]⟩

abbrev nBuf : Space → Nat
  | .hbm => 440
  | .vmem => 0
  | .smem => 0
  | _ => 0

abbrev hbmTy0_0 (i : Nat) : BufTy := match i % 128 with
  | 0 => ⟨S2048x2176, .f32⟩
  | 1 => ⟨S1x3x384, .f32⟩
  | 2 => ⟨S1x4x64x64, .f32⟩
  | 3 => ⟨S1x256, .f32⟩
  | 4 => ⟨S1x384, .f32⟩
  | 5 => ⟨S1x6x128x128, .f32⟩
  | 6 => ⟨S1x6x128, .f32⟩
  | 7 => ⟨S2048x1024, .f32⟩
  | 8 => ⟨S3x384, .f32⟩
  | 9 => ⟨S4x64x64, .f32⟩
  | 10 => ⟨S256, .f32⟩
  | 11 => ⟨S384, .f32⟩
  | 12 => ⟨S6x128x128, .f32⟩
  | 13 => ⟨S6x128, .f32⟩
  | 14 => ⟨S2048x384, .f32⟩
  | 15 => ⟨S2048x384, .f32⟩
  | 16 => ⟨S2048x384, .f32⟩
  | 17 => ⟨S2048x256, .f32⟩
  | 18 => ⟨S2048x768, .f32⟩
  | 19 => ⟨S2048x384, .f32⟩
  | 20 => ⟨S_, .f32⟩
  | 21 => ⟨S2x384, .f32⟩
  | 22 => ⟨S2050x384, .f32⟩
  | 23 => ⟨S_, .f32⟩
  | 24 => ⟨S2x384, .f32⟩
  | 25 => ⟨S1x384, .f32⟩
  | 26 => ⟨S384, .f32⟩
  | 27 => ⟨S2048x384, .f32⟩
  | 28 => ⟨S1x384, .f32⟩
  | 29 => ⟨S2048x384, .f32⟩
  | 30 => ⟨S2048x384, .f32⟩
  | 31 => ⟨S1x384, .f32⟩
  | 32 => ⟨S384, .f32⟩
  | 33 => ⟨S2048x384, .f32⟩
  | 34 => ⟨S1x384, .f32⟩
  | 35 => ⟨S2048x384, .f32⟩
  | 36 => ⟨S2048x384, .f32⟩
  | 37 => ⟨S2048x384, .f32⟩
  | 38 => ⟨S1x384, .f32⟩
  | 39 => ⟨S384, .f32⟩
  | 40 => ⟨S2048x384, .f32⟩
  | 41 => ⟨S1x384, .f32⟩
  | 42 => ⟨S2048x384, .f32⟩
  | 43 => ⟨S2048x384, .f32⟩
  | 44 => ⟨S2048x384, .f32⟩
  | 45 => ⟨S2048x384, .f32⟩
  | 46 => ⟨S2048x4x64, .f32⟩
  | 47 => ⟨S_, .f32⟩
  | 48 => ⟨S_, .f32⟩
  | 49 => ⟨S2048x4x64, .f32⟩
  | 50 => ⟨S2048, .f32⟩
  | 51 => ⟨S_, .f32⟩
  | 52 => ⟨S2048, .f32⟩
  | 53 => ⟨S2048, .f32⟩
  | 54 => ⟨S2048x1x64, .f32⟩
  | 55 => ⟨S2048x64, .f32⟩
  | 56 => ⟨S_, .f32⟩
  | 57 => ⟨S2x64, .f32⟩
  | 58 => ⟨S2050x64, .f32⟩
  | 59 => ⟨S_, .f32⟩
  | 60 => ⟨S2x64, .f32⟩
  | 61 => ⟨S2048x64, .f32⟩
  | 62 => ⟨S2048x64, .f32⟩
  | 63 => ⟨S2048x64, .f32⟩
  | 64 => ⟨S_, .f32⟩
  | 65 => ⟨S2048, .f32⟩
  | 66 => ⟨S2048, .f32⟩
  | 67 => ⟨S2048x1, .f32⟩
  | 68 => ⟨S2048x64, .f32⟩
  | 69 => ⟨S2048x64, .f32⟩
  | 70 => ⟨S2048x1x64, .f32⟩
  | 71 => ⟨S2048x64, .f32⟩
  | 72 => ⟨S_, .f32⟩
  | 73 => ⟨S4x64, .f32⟩
  | 74 => ⟨S2052x64, .f32⟩
  | 75 => ⟨S_, .f32⟩
  | 76 => ⟨S4x64, .f32⟩
  | 77 => ⟨S2048x64, .f32⟩
  | 78 => ⟨S2048x64, .f32⟩
  | 79 => ⟨S2048x64, .f32⟩
  | 80 => ⟨S_, .f32⟩
  | 81 => ⟨S2048, .f32⟩
  | 82 => ⟨S2048, .f32⟩
  | 83 => ⟨S2048x1, .f32⟩
  | 84 => ⟨S2048x64, .f32⟩
  | 85 => ⟨S2048x64, .f32⟩
  | 86 => ⟨S2048x1x64, .f32⟩
  | 87 => ⟨S2048x64, .f32⟩
  | 88 => ⟨S_, .f32⟩
  | 89 => ⟨S8x64, .f32⟩
  | 90 => ⟨S2056x64, .f32⟩
  | 91 => ⟨S_, .f32⟩
  | 92 => ⟨S8x64, .f32⟩
  | 93 => ⟨S2048x64, .f32⟩
  | 94 => ⟨S2048x64, .f32⟩
  | 95 => ⟨S2048x64, .f32⟩
  | 96 => ⟨S_, .f32⟩
  | 97 => ⟨S2048, .f32⟩
  | 98 => ⟨S2048, .f32⟩
  | 99 => ⟨S2048x1, .f32⟩
  | 100 => ⟨S2048x64, .f32⟩
  | 101 => ⟨S2048x64, .f32⟩
  | 102 => ⟨S2048x1x64, .f32⟩
  | 103 => ⟨S2048x64, .f32⟩
  | 104 => ⟨S_, .f32⟩
  | 105 => ⟨S16x64, .f32⟩
  | 106 => ⟨S2064x64, .f32⟩
  | 107 => ⟨S_, .f32⟩
  | 108 => ⟨S16x64, .f32⟩
  | 109 => ⟨S2048x64, .f32⟩
  | 110 => ⟨S2048x64, .f32⟩
  | 111 => ⟨S2048x64, .f32⟩
  | 112 => ⟨S_, .f32⟩
  | 113 => ⟨S2048, .f32⟩
  | 114 => ⟨S2048, .f32⟩
  | 115 => ⟨S2048x1, .f32⟩
  | 116 => ⟨S2048x64, .f32⟩
  | 117 => ⟨S2048x64, .f32⟩
  | 118 => ⟨S2048x1x64, .f32⟩
  | 119 => ⟨S2048x1x64, .f32⟩
  | 120 => ⟨S2048x1x64, .f32⟩
  | 121 => ⟨S2048x1x64, .f32⟩
  | 122 => ⟨S2048x4x64, .f32⟩
  | 123 => ⟨S2048x4x64, .f32⟩
  | 124 => ⟨S4x64x2048, .f32⟩
  | 125 => ⟨S2048x4x64, .f32⟩
  | 126 => ⟨S2048x256, .f32⟩
  | 127 => ⟨S1x256, .f32⟩
  | _ => ⟨S2048x2176, .f32⟩

abbrev hbmTy0_1 (i : Nat) : BufTy := match i % 128 with
  | 0 => ⟨S2048x256, .f32⟩
  | 1 => ⟨S2048x256, .f32⟩
  | 2 => ⟨S_, .f32⟩
  | 3 => ⟨S2048x768, .f32⟩
  | 4 => ⟨S2048x768, .f32⟩
  | 5 => ⟨S_, .f32⟩
  | 6 => ⟨S_, .f32⟩
  | 7 => ⟨S2048x768, .f32⟩
  | 8 => ⟨S2048x768, .f32⟩
  | 9 => ⟨S2048x768, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S2048x768, .f32⟩
  | 18 => ⟨S2048x768, .f32⟩
  | 19 => ⟨S2048x768, .f32⟩
  | 20 => ⟨S2048x768, .f32⟩
  | 21 => ⟨S2048x768, .f32⟩
  | 22 => ⟨S_, .f32⟩
  | 23 => ⟨S2048x768, .f32⟩
  | 24 => ⟨S2048x768, .f32⟩
  | 25 => ⟨S2048x768, .f32⟩
  | 26 => ⟨S2048x384, .f32⟩
  | 27 => ⟨S2048x384, .f32⟩
  | 28 => ⟨S2048x6x64, .f32⟩
  | 29 => ⟨S_, .f32⟩
  | 30 => ⟨S2048x6, .f32⟩
  | 31 => ⟨S2048x6x1, .f32⟩
  | 32 => ⟨S_, .f32⟩
  | 33 => ⟨S2048x6x1, .f32⟩
  | 34 => ⟨S2048x6x1, .f32⟩
  | 35 => ⟨S2048x6x64, .f32⟩
  | 36 => ⟨S2048x6x64, .f32⟩
  | 37 => ⟨S2048x6x64, .f32⟩
  | 38 => ⟨S_, .f32⟩
  | 39 => ⟨S2048x6x64, .f32⟩
  | 40 => ⟨S2048x6x64, .f32⟩
  | 41 => ⟨S_, .f32⟩
  | 42 => ⟨S2048x6, .f32⟩
  | 43 => ⟨S2048x6x1, .f32⟩
  | 44 => ⟨S_, .f32⟩
  | 45 => ⟨S2048x6x1, .f32⟩
  | 46 => ⟨S2048x6x1, .f32⟩
  | 47 => ⟨S2048x6x64, .f32⟩
  | 48 => ⟨S2048x6x64, .f32⟩
  | 49 => ⟨S_, .f32⟩
  | 50 => ⟨S2048x6x1, .f32⟩
  | 51 => ⟨S2048x6x1, .f32⟩
  | 52 => ⟨S2048x6x1, .f32⟩
  | 53 => ⟨S2048x6x1, .f32⟩
  | 54 => ⟨S_, .f32⟩
  | 55 => ⟨S2048x6x1, .f32⟩
  | 56 => ⟨S2048x6x1, .f32⟩
  | 57 => ⟨S2048x6x64, .f32⟩
  | 58 => ⟨S2048x6x64, .f32⟩
  | 59 => ⟨S6x64, .f32⟩
  | 60 => ⟨S1x6x64, .f32⟩
  | 61 => ⟨S2048x6x64, .f32⟩
  | 62 => ⟨S2048x6x64, .f32⟩
  | 63 => ⟨S16x128x6x64, .f32⟩
  | 64 => ⟨S_, .f32⟩
  | 65 => ⟨S128x128, .f32⟩
  | 66 => ⟨S128x128, .i32⟩
  | 67 => ⟨S_, .i32⟩
  | 68 => ⟨S128x128, .i32⟩
  | 69 => ⟨S128x128, .i32⟩
  | 70 => ⟨S128x128, .i32⟩
  | 71 => ⟨S128x128, .i1⟩
  | 72 => ⟨S_, .f32⟩
  | 73 => ⟨S128x128, .f32⟩
  | 74 => ⟨S128x128, .f32⟩
  | 75 => ⟨S1x128x128, .f32⟩
  | 76 => ⟨S6x128x128, .f32⟩
  | 77 => ⟨S6x128x128, .f32⟩
  | 78 => ⟨S6x16x64x128, .f32⟩
  | 79 => ⟨S16x128x6x64, .f32⟩
  | 80 => ⟨S128x6, .f32⟩
  | 81 => ⟨S1x128x6x1, .f32⟩
  | 82 => ⟨S16x128x6x64, .f32⟩
  | 83 => ⟨S16x128x6x64, .f32⟩
  | 84 => ⟨S2048x384, .f32⟩
  | 85 => ⟨S2048x384, .f32⟩
  | 86 => ⟨S2048x1024, .f32⟩
  | 87 => ⟨S2048x384, .f32⟩
  | 88 => ⟨S2048x256, .f32⟩
  | 89 => ⟨S2048x384, .f32⟩
  | 90 => ⟨S2048x384, .f32⟩
  | 91 => ⟨S2048x384, .f32⟩
  | 92 => ⟨S16x128x6x64, .f32⟩
  | 93 => ⟨S_, .f32⟩
  | 94 => ⟨S128x6, .f32⟩
  | 95 => ⟨S1x128x6x1, .f32⟩
  | 96 => ⟨S_, .f32⟩
  | 97 => ⟨S128x6, .f32⟩
  | 98 => ⟨S6x128, .f32⟩
  | 99 => ⟨S6x16x64x128, .f32⟩
  | 100 => ⟨S6x128x128, .f32⟩
  | 101 => ⟨S6x16x64x128, .f32⟩
  | 102 => ⟨S16x128x6x64, .f32⟩
  | 103 => ⟨S6x128x128, .f32⟩
  | 104 => ⟨S6x128x128, .f32⟩
  | 105 => ⟨S2048x6x64, .f32⟩
  | 106 => ⟨S2048x6x64, .f32⟩
  | 107 => ⟨S_, .f32⟩
  | 108 => ⟨S6x64, .f32⟩
  | 109 => ⟨S1x6x64, .f32⟩
  | 110 => ⟨S2048x6x64, .f32⟩
  | 111 => ⟨S2048x6x64, .f32⟩
  | 112 => ⟨S_, .f32⟩
  | 113 => ⟨S6x64, .f32⟩
  | 114 => ⟨S384, .f32⟩
  | 115 => ⟨S2048x6x64, .f32⟩
  | 116 => ⟨S_, .f32⟩
  | 117 => ⟨S2048x6, .f32⟩
  | 118 => ⟨S2048x6x1, .f32⟩
  | 119 => ⟨S2048x6x64, .f32⟩
  | 120 => ⟨S2048x6x64, .f32⟩
  | 121 => ⟨S2048x6x1, .f32⟩
  | 122 => ⟨S2048x6x64, .f32⟩
  | 123 => ⟨S_, .f32⟩
  | 124 => ⟨S2048x6, .f32⟩
  | 125 => ⟨S2048x6x1, .f32⟩
  | 126 => ⟨S_, .f32⟩
  | 127 => ⟨S2048x6x1, .f32⟩
  | _ => ⟨S2048x2176, .f32⟩

abbrev hbmTy0_2 (i : Nat) : BufTy := match i % 128 with
  | 0 => ⟨S2048x6x1, .f32⟩
  | 1 => ⟨S_, .f32⟩
  | 2 => ⟨S2048x6, .f32⟩
  | 3 => ⟨S2048x6x64, .f32⟩
  | 4 => ⟨S2048x6x64, .f32⟩
  | 5 => ⟨S2048x6x64, .f32⟩
  | 6 => ⟨S_, .f32⟩
  | 7 => ⟨S2048x6, .f32⟩
  | 8 => ⟨S2048x6x1, .f32⟩
  | 9 => ⟨S2048x6x64, .f32⟩
  | 10 => ⟨S2048x6x1, .f32⟩
  | 11 => ⟨S_, .f32⟩
  | 12 => ⟨S2048x6x1, .f32⟩
  | 13 => ⟨S2048x6x1, .f32⟩
  | 14 => ⟨S_, .f32⟩
  | 15 => ⟨S2048x6, .f32⟩
  | 16 => ⟨S2048x6x64, .f32⟩
  | 17 => ⟨S2048x6x64, .f32⟩
  | 18 => ⟨S2048x384, .f32⟩
  | 19 => ⟨S_, .f32⟩
  | 20 => ⟨S2048x768, .f32⟩
  | 21 => ⟨S_, .f32⟩
  | 22 => ⟨S2048x768, .f32⟩
  | 23 => ⟨S2048x768, .f32⟩
  | 24 => ⟨S2048x768, .f32⟩
  | 25 => ⟨S2048x768, .f32⟩
  | 26 => ⟨S2048x768, .f32⟩
  | 27 => ⟨S2048x768, .f32⟩
  | 28 => ⟨S2048x768, .f32⟩
  | 29 => ⟨S_, .f32⟩
  | 30 => ⟨S2048x768, .f32⟩
  | 31 => ⟨S2048x768, .f32⟩
  | 32 => ⟨S2048x768, .f32⟩
  | 33 => ⟨S2048x256, .f32⟩
  | 34 => ⟨S_, .f32⟩
  | 35 => ⟨S256, .f32⟩
  | 36 => ⟨S1x256, .f32⟩
  | 37 => ⟨S2048x256, .f32⟩
  | 38 => ⟨S2048x256, .f32⟩
  | 39 => ⟨S_, .f32⟩
  | 40 => ⟨S256, .f32⟩
  | 41 => ⟨S2048x4x64, .f32⟩
  | 42 => ⟨S4x64x2048, .f32⟩
  | 43 => ⟨S4x2048x64, .f32⟩
  | 44 => ⟨S2048x4x64, .f32⟩
  | 45 => ⟨S4x64x64, .f32⟩
  | 46 => ⟨S4x64x64, .f32⟩
  | 47 => ⟨S2048x4x64, .f32⟩
  | 48 => ⟨S2048x1x64, .f32⟩
  | 49 => ⟨S2048x64, .f32⟩
  | 50 => ⟨S2048x1x64, .f32⟩
  | 51 => ⟨S2048x64, .f32⟩
  | 52 => ⟨S2048x1x64, .f32⟩
  | 53 => ⟨S2048x64, .f32⟩
  | 54 => ⟨S2048x1x64, .f32⟩
  | 55 => ⟨S2048x64, .f32⟩
  | 56 => ⟨S2048x64, .f32⟩
  | 57 => ⟨S2048x64, .f32⟩
  | 58 => ⟨S2048x64, .f32⟩
  | 59 => ⟨S_, .f32⟩
  | 60 => ⟨S2064x64, .f32⟩
  | 61 => ⟨S_, .f32⟩
  | 62 => ⟨S2064x64, .f32⟩
  | 63 => ⟨S2064x64, .f32⟩
  | 64 => ⟨S16x64, .f32⟩
  | 65 => ⟨S2048x64, .f32⟩
  | 66 => ⟨S2048x1x64, .f32⟩
  | 67 => ⟨S_, .f32⟩
  | 68 => ⟨S2048x4x64, .f32⟩
  | 69 => ⟨S2048x64, .f32⟩
  | 70 => ⟨S2048x64, .f32⟩
  | 71 => ⟨S2048x64, .f32⟩
  | 72 => ⟨S_, .f32⟩
  | 73 => ⟨S2056x64, .f32⟩
  | 74 => ⟨S_, .f32⟩
  | 75 => ⟨S2056x64, .f32⟩
  | 76 => ⟨S2056x64, .f32⟩
  | 77 => ⟨S8x64, .f32⟩
  | 78 => ⟨S2048x64, .f32⟩
  | 79 => ⟨S2048x1x64, .f32⟩
  | 80 => ⟨S_, .f32⟩
  | 81 => ⟨S2048x4x64, .f32⟩
  | 82 => ⟨S2048x4x64, .f32⟩
  | 83 => ⟨S2048x64, .f32⟩
  | 84 => ⟨S2048x64, .f32⟩
  | 85 => ⟨S2048x64, .f32⟩
  | 86 => ⟨S_, .f32⟩
  | 87 => ⟨S2052x64, .f32⟩
  | 88 => ⟨S_, .f32⟩
  | 89 => ⟨S2052x64, .f32⟩
  | 90 => ⟨S2052x64, .f32⟩
  | 91 => ⟨S4x64, .f32⟩
  | 92 => ⟨S2048x64, .f32⟩
  | 93 => ⟨S2048x1x64, .f32⟩
  | 94 => ⟨S_, .f32⟩
  | 95 => ⟨S2048x4x64, .f32⟩
  | 96 => ⟨S2048x4x64, .f32⟩
  | 97 => ⟨S2048x64, .f32⟩
  | 98 => ⟨S2048x64, .f32⟩
  | 99 => ⟨S2048x64, .f32⟩
  | 100 => ⟨S_, .f32⟩
  | 101 => ⟨S2050x64, .f32⟩
  | 102 => ⟨S_, .f32⟩
  | 103 => ⟨S2050x64, .f32⟩
  | 104 => ⟨S2050x64, .f32⟩
  | 105 => ⟨S2x64, .f32⟩
  | 106 => ⟨S2048x64, .f32⟩
  | 107 => ⟨S2048x1x64, .f32⟩
  | 108 => ⟨S_, .f32⟩
  | 109 => ⟨S2048x4x64, .f32⟩
  | 110 => ⟨S2048x4x64, .f32⟩
  | 111 => ⟨S_, .f32⟩
  | 112 => ⟨S_, .f32⟩
  | 113 => ⟨S2048x4x64, .f32⟩
  | 114 => ⟨S2048x4x64, .f32⟩
  | 115 => ⟨S2048x256, .f32⟩
  | 116 => ⟨S2048x384, .f32⟩
  | 117 => ⟨S2048x384, .f32⟩
  | 118 => ⟨S2048x384, .f32⟩
  | 119 => ⟨S2048x384, .f32⟩
  | 120 => ⟨S2048x384, .f32⟩
  | 121 => ⟨S_, .f32⟩
  | 122 => ⟨S384, .f32⟩
  | 123 => ⟨S1x384, .f32⟩
  | 124 => ⟨S_, .f32⟩
  | 125 => ⟨S384, .f32⟩
  | 126 => ⟨S_, .f32⟩
  | 127 => ⟨S2050x384, .f32⟩
  | _ => ⟨S2048x2176, .f32⟩

abbrev hbmTy0_3 (i : Nat) : BufTy := match i % 128 with
  | 0 => ⟨S1x384, .f32⟩
  | 1 => ⟨S_, .f32⟩
  | 2 => ⟨S3x384, .f32⟩
  | 3 => ⟨S2048x384, .f32⟩
  | 4 => ⟨S2048x384, .f32⟩
  | 5 => ⟨S2048x384, .f32⟩
  | 6 => ⟨S_, .f32⟩
  | 7 => ⟨S384, .f32⟩
  | 8 => ⟨S1x384, .f32⟩
  | 9 => ⟨S_, .f32⟩
  | 10 => ⟨S384, .f32⟩
  | 11 => ⟨S_, .f32⟩
  | 12 => ⟨S2050x384, .f32⟩
  | 13 => ⟨S2050x384, .f32⟩
  | 14 => ⟨S1x384, .f32⟩
  | 15 => ⟨S_, .f32⟩
  | 16 => ⟨S3x384, .f32⟩
  | 17 => ⟨S3x384, .f32⟩
  | 18 => ⟨S2048x384, .f32⟩
  | 19 => ⟨S2048x384, .f32⟩
  | 20 => ⟨S2048x384, .f32⟩
  | 21 => ⟨S_, .f32⟩
  | 22 => ⟨S384, .f32⟩
  | 23 => ⟨S1x384, .f32⟩
  | 24 => ⟨S_, .f32⟩
  | 25 => ⟨S384, .f32⟩
  | 26 => ⟨S_, .f32⟩
  | 27 => ⟨S2050x384, .f32⟩
  | 28 => ⟨S2050x384, .f32⟩
  | 29 => ⟨S1x384, .f32⟩
  | 30 => ⟨S_, .f32⟩
  | 31 => ⟨S3x384, .f32⟩
  | 32 => ⟨S3x384, .f32⟩
  | 33 => ⟨S2x384, .f32⟩
  | 34 => ⟨S2048x384, .f32⟩
  | 35 => ⟨S2048x384, .f32⟩
  | 36 => ⟨S2048x384, .f32⟩
  | 37 => ⟨S_, .f32⟩
  | 38 => ⟨S2048x2176, .f32⟩
  | 39 => ⟨S_, .f32⟩
  | 40 => ⟨S2048x2176, .f32⟩
  | 41 => ⟨S2048x2176, .f32⟩
  | 42 => ⟨S_, .f32⟩
  | 43 => ⟨S2048x2176, .f32⟩
  | 44 => ⟨S2048x2176, .f32⟩
  | 45 => ⟨S_, .f32⟩
  | 46 => ⟨S2048x2176, .f32⟩
  | 47 => ⟨S2048x2176, .f32⟩
  | 48 => ⟨S_, .f32⟩
  | 49 => ⟨S2048x2176, .f32⟩
  | 50 => ⟨S2048x2176, .f32⟩
  | 51 => ⟨S2048x2176, .bf16⟩
  | 52 => ⟨S1x4x64x64, .f32⟩
  | 53 => ⟨S1x256, .f32⟩
  | 54 => ⟨S1x384, .f32⟩
  | 55 => ⟨S1x6x128, .f32⟩
  | _ => ⟨S2048x2176, .f32⟩

abbrev hbmTy (i : Nat) : BufTy := match i / 128 with
  | 0 => hbmTy0_0 i
  | 1 => hbmTy0_1 i
  | 2 => hbmTy0_2 i
  | 3 => hbmTy0_3 i
  | _ => ⟨S2048x2176, .f32⟩

abbrev bufTy : (tb : Table) → Fin (tcTables nBuf tb) → BufTy
  | .hbm, ⟨i, _⟩ => hbmTy i
  | _, _ => ⟨S2048x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_call0_call0_cst : Ref sig .tc := ⟨.hbm, 47, rfl⟩
abbrev main_call0_call0_v0 : Ref sig .tc := ⟨.hbm, 48, rfl⟩
abbrev main_v37 : Ref sig .tc := ⟨.hbm, 49, rfl⟩
abbrev main_v38 : Ref sig .tc := ⟨.hbm, 50, rfl⟩
abbrev main_cst_1 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_2 : Ref sig .tc := ⟨.hbm, 56, rfl⟩
abbrev main_v43 : Ref sig .tc := ⟨.hbm, 57, rfl⟩
abbrev main_v44 : Ref sig .tc := ⟨.hbm, 58, rfl⟩
abbrev main_cst_3 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_4 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_5 : Ref sig .tc := ⟨.hbm, 72, rfl⟩
abbrev main_v56 : Ref sig .tc := ⟨.hbm, 73, rfl⟩
abbrev main_v57 : Ref sig .tc := ⟨.hbm, 74, rfl⟩
abbrev main_cst_6 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_cst_7 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_8 : Ref sig .tc := ⟨.hbm, 88, rfl⟩
abbrev main_v69 : Ref sig .tc := ⟨.hbm, 89, rfl⟩
abbrev main_v70 : Ref sig .tc := ⟨.hbm, 90, rfl⟩
abbrev main_cst_9 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_10 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_11 : Ref sig .tc := ⟨.hbm, 104, rfl⟩
abbrev main_v82 : Ref sig .tc := ⟨.hbm, 105, rfl⟩
abbrev main_v83 : Ref sig .tc := ⟨.hbm, 106, rfl⟩
abbrev main_cst_12 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_cst_13 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_cst_14 : Ref sig .tc := ⟨.hbm, 130, rfl⟩
abbrev main_v105 : Ref sig .tc := ⟨.hbm, 131, rfl⟩
abbrev main_v106 : Ref sig .tc := ⟨.hbm, 132, rfl⟩
abbrev main_cst_15 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_cst_16 : Ref sig .tc := ⟨.hbm, 138, rfl⟩
abbrev main_v111 : Ref sig .tc := ⟨.hbm, 139, rfl⟩
abbrev main_cst_17 : Ref sig .tc := ⟨.hbm, 140, rfl⟩
abbrev main_v112 : Ref sig .tc := ⟨.hbm, 141, rfl⟩
abbrev main_v113 : Ref sig .tc := ⟨.hbm, 142, rfl⟩
abbrev main_cst_18 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_cst_19 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_cst_20 : Ref sig .tc := ⟨.hbm, 157, rfl⟩
abbrev main_v126 : Ref sig .tc := ⟨.hbm, 158, rfl⟩
abbrev main_v127 : Ref sig .tc := ⟨.hbm, 159, rfl⟩
abbrev main_cst_21 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_cst_22 : Ref sig .tc := ⟨.hbm, 166, rfl⟩
abbrev main_v133 : Ref sig .tc := ⟨.hbm, 167, rfl⟩
abbrev main_v134 : Ref sig .tc := ⟨.hbm, 168, rfl⟩
abbrev main_cst_23 : Ref sig .tc := ⟨.hbm, 169, rfl⟩
abbrev main_v135 : Ref sig .tc := ⟨.hbm, 170, rfl⟩
abbrev main_v136 : Ref sig .tc := ⟨.hbm, 171, rfl⟩
abbrev main_cst_24 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_cst_25 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_cst_26 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_cst_27 : Ref sig .tc := ⟨.hbm, 192, rfl⟩
abbrev main_v154 : Ref sig .tc := ⟨.hbm, 193, rfl⟩
abbrev main_call1_v0 : Ref sig .tc := ⟨.hbm, 194, rfl⟩
abbrev main_call1_c : Ref sig .tc := ⟨.hbm, 195, rfl⟩
abbrev main_call1_v1 : Ref sig .tc := ⟨.hbm, 196, rfl⟩
abbrev main_call1_v2 : Ref sig .tc := ⟨.hbm, 197, rfl⟩
abbrev main_call1_v3 : Ref sig .tc := ⟨.hbm, 198, rfl⟩
abbrev main_call1_v4 : Ref sig .tc := ⟨.hbm, 199, rfl⟩
abbrev main_call1_cst : Ref sig .tc := ⟨.hbm, 200, rfl⟩
abbrev main_call1_v5 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_v167 : Ref sig .tc := ⟨.hbm, 214, rfl⟩
abbrev main_v168 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_cst_28 : Ref sig .tc := ⟨.hbm, 221, rfl⟩
abbrev main_v174 : Ref sig .tc := ⟨.hbm, 222, rfl⟩
abbrev main_v175 : Ref sig .tc := ⟨.hbm, 223, rfl⟩
abbrev main_cst_29 : Ref sig .tc := ⟨.hbm, 224, rfl⟩
abbrev main_v176 : Ref sig .tc := ⟨.hbm, 225, rfl⟩
abbrev main_v177 : Ref sig .tc := ⟨.hbm, 226, rfl⟩
abbrev main_v178 : Ref sig .tc := ⟨.hbm, 227, rfl⟩
abbrev main_v179 : Ref sig .tc := ⟨.hbm, 228, rfl⟩
abbrev main_v180 : Ref sig .tc := ⟨.hbm, 229, rfl⟩
abbrev main_v181 : Ref sig .tc := ⟨.hbm, 230, rfl⟩
abbrev main_v182 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_cst_30 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_cst_31 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_cst_32 : Ref sig .tc := ⟨.hbm, 244, rfl⟩
abbrev main_v193 : Ref sig .tc := ⟨.hbm, 245, rfl⟩
abbrev main_v194 : Ref sig .tc := ⟨.hbm, 246, rfl⟩
abbrev main_v195 : Ref sig .tc := ⟨.hbm, 247, rfl⟩
abbrev main_v196 : Ref sig .tc := ⟨.hbm, 248, rfl⟩
abbrev main_v197 : Ref sig .tc := ⟨.hbm, 249, rfl⟩
abbrev main_v198 : Ref sig .tc := ⟨.hbm, 250, rfl⟩
abbrev main_cst_33 : Ref sig .tc := ⟨.hbm, 251, rfl⟩
abbrev main_v199 : Ref sig .tc := ⟨.hbm, 252, rfl⟩
abbrev main_v200 : Ref sig .tc := ⟨.hbm, 253, rfl⟩
abbrev main_cst_34 : Ref sig .tc := ⟨.hbm, 254, rfl⟩
abbrev main_v201 : Ref sig .tc := ⟨.hbm, 255, rfl⟩
abbrev main_v202 : Ref sig .tc := ⟨.hbm, 256, rfl⟩
abbrev main_cst_35 : Ref sig .tc := ⟨.hbm, 257, rfl⟩
abbrev main_v203 : Ref sig .tc := ⟨.hbm, 258, rfl⟩
abbrev main_v204 : Ref sig .tc := ⟨.hbm, 259, rfl⟩
abbrev main_v205 : Ref sig .tc := ⟨.hbm, 260, rfl⟩
abbrev main_v206 : Ref sig .tc := ⟨.hbm, 261, rfl⟩
abbrev main_cst_36 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_cst_37 : Ref sig .tc := ⟨.hbm, 267, rfl⟩
abbrev main_v211 : Ref sig .tc := ⟨.hbm, 268, rfl⟩
abbrev main_v212 : Ref sig .tc := ⟨.hbm, 269, rfl⟩
abbrev main_cst_38 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_cst_39 : Ref sig .tc := ⟨.hbm, 275, rfl⟩
abbrev main_v217 : Ref sig .tc := ⟨.hbm, 276, rfl⟩
abbrev main_cst_40 : Ref sig .tc := ⟨.hbm, 277, rfl⟩
abbrev main_v218 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_cst_41 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_cst_42 : Ref sig .tc := ⟨.hbm, 290, rfl⟩
abbrev main_v229 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_cst_43 : Ref sig .tc := ⟨.hbm, 295, rfl⟩
abbrev main_v233 : Ref sig .tc := ⟨.hbm, 296, rfl⟩
abbrev main_v234 : Ref sig .tc := ⟨.hbm, 297, rfl⟩
abbrev main_v235 : Ref sig .tc := ⟨.hbm, 298, rfl⟩
abbrev main_v236 : Ref sig .tc := ⟨.hbm, 299, rfl⟩
abbrev main_v237 : Ref sig .tc := ⟨.hbm, 300, rfl⟩
abbrev main_v238 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_cst_44 : Ref sig .tc := ⟨.hbm, 315, rfl⟩
abbrev main_v252 : Ref sig .tc := ⟨.hbm, 316, rfl⟩
abbrev main_cst_45 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_cst_46 : Ref sig .tc := ⟨.hbm, 323, rfl⟩
abbrev main_v258 : Ref sig .tc := ⟨.hbm, 324, rfl⟩
abbrev main_v259 : Ref sig .tc := ⟨.hbm, 325, rfl⟩
abbrev main_v260 : Ref sig .tc := ⟨.hbm, 326, rfl⟩
abbrev main_v261 : Ref sig .tc := ⟨.hbm, 327, rfl⟩
abbrev main_cst_47 : Ref sig .tc := ⟨.hbm, 328, rfl⟩
abbrev main_v262 : Ref sig .tc := ⟨.hbm, 329, rfl⟩
abbrev main_cst_48 : Ref sig .tc := ⟨.hbm, 330, rfl⟩
abbrev main_v263 : Ref sig .tc := ⟨.hbm, 331, rfl⟩
abbrev main_v264 : Ref sig .tc := ⟨.hbm, 332, rfl⟩
abbrev main_v265 : Ref sig .tc := ⟨.hbm, 333, rfl⟩
abbrev main_v266 : Ref sig .tc := ⟨.hbm, 334, rfl⟩
abbrev main_v267 : Ref sig .tc := ⟨.hbm, 335, rfl⟩
abbrev main_cst_49 : Ref sig .tc := ⟨.hbm, 336, rfl⟩
abbrev main_v268 : Ref sig .tc := ⟨.hbm, 337, rfl⟩
abbrev main_v269 : Ref sig .tc := ⟨.hbm, 338, rfl⟩
abbrev main_v270 : Ref sig .tc := ⟨.hbm, 339, rfl⟩
abbrev main_v271 : Ref sig .tc := ⟨.hbm, 340, rfl⟩
abbrev main_v272 : Ref sig .tc := ⟨.hbm, 341, rfl⟩
abbrev main_cst_50 : Ref sig .tc := ⟨.hbm, 342, rfl⟩
abbrev main_v273 : Ref sig .tc := ⟨.hbm, 343, rfl⟩
abbrev main_cst_51 : Ref sig .tc := ⟨.hbm, 344, rfl⟩
abbrev main_v274 : Ref sig .tc := ⟨.hbm, 345, rfl⟩
abbrev main_v275 : Ref sig .tc := ⟨.hbm, 346, rfl⟩
abbrev main_v276 : Ref sig .tc := ⟨.hbm, 347, rfl⟩
abbrev main_v277 : Ref sig .tc := ⟨.hbm, 348, rfl⟩
abbrev main_v278 : Ref sig .tc := ⟨.hbm, 349, rfl⟩
abbrev main_cst_52 : Ref sig .tc := ⟨.hbm, 350, rfl⟩
abbrev main_v279 : Ref sig .tc := ⟨.hbm, 351, rfl⟩
abbrev main_v280 : Ref sig .tc := ⟨.hbm, 352, rfl⟩
abbrev main_v281 : Ref sig .tc := ⟨.hbm, 353, rfl⟩
abbrev main_v282 : Ref sig .tc := ⟨.hbm, 354, rfl⟩
abbrev main_v283 : Ref sig .tc := ⟨.hbm, 355, rfl⟩
abbrev main_cst_53 : Ref sig .tc := ⟨.hbm, 356, rfl⟩
abbrev main_v284 : Ref sig .tc := ⟨.hbm, 357, rfl⟩
abbrev main_cst_54 : Ref sig .tc := ⟨.hbm, 358, rfl⟩
abbrev main_v285 : Ref sig .tc := ⟨.hbm, 359, rfl⟩
abbrev main_v286 : Ref sig .tc := ⟨.hbm, 360, rfl⟩
abbrev main_v287 : Ref sig .tc := ⟨.hbm, 361, rfl⟩
abbrev main_v288 : Ref sig .tc := ⟨.hbm, 362, rfl⟩
abbrev main_v289 : Ref sig .tc := ⟨.hbm, 363, rfl⟩
abbrev main_cst_55 : Ref sig .tc := ⟨.hbm, 364, rfl⟩
abbrev main_v290 : Ref sig .tc := ⟨.hbm, 365, rfl⟩
abbrev main_v291 : Ref sig .tc := ⟨.hbm, 366, rfl⟩
abbrev main_call2_call0_cst : Ref sig .tc := ⟨.hbm, 367, rfl⟩
abbrev main_call2_call0_v0 : Ref sig .tc := ⟨.hbm, 368, rfl⟩
abbrev main_v292 : Ref sig .tc := ⟨.hbm, 369, rfl⟩
abbrev main_v293 : Ref sig .tc := ⟨.hbm, 370, rfl⟩
abbrev main_v294 : Ref sig .tc := ⟨.hbm, 371, rfl⟩
abbrev main_v295 : Ref sig .tc := ⟨.hbm, 372, rfl⟩
abbrev main_v296 : Ref sig .tc := ⟨.hbm, 373, rfl⟩
abbrev main_v297 : Ref sig .tc := ⟨.hbm, 374, rfl⟩
abbrev main_v298 : Ref sig .tc := ⟨.hbm, 375, rfl⟩
abbrev main_v299 : Ref sig .tc := ⟨.hbm, 376, rfl⟩
abbrev main_cst_56 : Ref sig .tc := ⟨.hbm, 377, rfl⟩
abbrev main_v300 : Ref sig .tc := ⟨.hbm, 378, rfl⟩
abbrev main_v301 : Ref sig .tc := ⟨.hbm, 379, rfl⟩
abbrev main_cst_57 : Ref sig .tc := ⟨.hbm, 380, rfl⟩
abbrev main_v302 : Ref sig .tc := ⟨.hbm, 381, rfl⟩
abbrev main_cst_58 : Ref sig .tc := ⟨.hbm, 382, rfl⟩
abbrev main_v303 : Ref sig .tc := ⟨.hbm, 383, rfl⟩
abbrev main_v304 : Ref sig .tc := ⟨.hbm, 384, rfl⟩
abbrev main_cst_59 : Ref sig .tc := ⟨.hbm, 385, rfl⟩
abbrev main_v305 : Ref sig .tc := ⟨.hbm, 386, rfl⟩
abbrev main_v306 : Ref sig .tc := ⟨.hbm, 387, rfl⟩
abbrev main_v307 : Ref sig .tc := ⟨.hbm, 388, rfl⟩
abbrev main_v308 : Ref sig .tc := ⟨.hbm, 389, rfl⟩
abbrev main_cst_60 : Ref sig .tc := ⟨.hbm, 390, rfl⟩
abbrev main_v309 : Ref sig .tc := ⟨.hbm, 391, rfl⟩
abbrev main_v310 : Ref sig .tc := ⟨.hbm, 392, rfl⟩
abbrev main_cst_61 : Ref sig .tc := ⟨.hbm, 393, rfl⟩
abbrev main_v311 : Ref sig .tc := ⟨.hbm, 394, rfl⟩
abbrev main_cst_62 : Ref sig .tc := ⟨.hbm, 395, rfl⟩
abbrev main_v312 : Ref sig .tc := ⟨.hbm, 396, rfl⟩
abbrev main_v313 : Ref sig .tc := ⟨.hbm, 397, rfl⟩
abbrev main_v314 : Ref sig .tc := ⟨.hbm, 398, rfl⟩
abbrev main_cst_63 : Ref sig .tc := ⟨.hbm, 399, rfl⟩
abbrev main_v315 : Ref sig .tc := ⟨.hbm, 400, rfl⟩
abbrev main_v316 : Ref sig .tc := ⟨.hbm, 401, rfl⟩
abbrev main_v317 : Ref sig .tc := ⟨.hbm, 402, rfl⟩
abbrev main_v318 : Ref sig .tc := ⟨.hbm, 403, rfl⟩
abbrev main_v319 : Ref sig .tc := ⟨.hbm, 404, rfl⟩
abbrev main_cst_64 : Ref sig .tc := ⟨.hbm, 405, rfl⟩
abbrev main_v320 : Ref sig .tc := ⟨.hbm, 406, rfl⟩
abbrev main_v321 : Ref sig .tc := ⟨.hbm, 407, rfl⟩
abbrev main_cst_65 : Ref sig .tc := ⟨.hbm, 408, rfl⟩
abbrev main_v322 : Ref sig .tc := ⟨.hbm, 409, rfl⟩
abbrev main_cst_66 : Ref sig .tc := ⟨.hbm, 410, rfl⟩
abbrev main_v323 : Ref sig .tc := ⟨.hbm, 411, rfl⟩
abbrev main_v324 : Ref sig .tc := ⟨.hbm, 412, rfl⟩
abbrev main_v325 : Ref sig .tc := ⟨.hbm, 413, rfl⟩
abbrev main_cst_67 : Ref sig .tc := ⟨.hbm, 414, rfl⟩
abbrev main_v326 : Ref sig .tc := ⟨.hbm, 415, rfl⟩
abbrev main_v327 : Ref sig .tc := ⟨.hbm, 416, rfl⟩
abbrev main_v328 : Ref sig .tc := ⟨.hbm, 417, rfl⟩
abbrev main_v329 : Ref sig .tc := ⟨.hbm, 418, rfl⟩
abbrev main_v330 : Ref sig .tc := ⟨.hbm, 419, rfl⟩
abbrev main_v331 : Ref sig .tc := ⟨.hbm, 420, rfl⟩
abbrev main_cst_68 : Ref sig .tc := ⟨.hbm, 421, rfl⟩
abbrev main_v332 : Ref sig .tc := ⟨.hbm, 422, rfl⟩
abbrev main_cst_69 : Ref sig .tc := ⟨.hbm, 423, rfl⟩
abbrev main_v333 : Ref sig .tc := ⟨.hbm, 424, rfl⟩
abbrev main_v334 : Ref sig .tc := ⟨.hbm, 425, rfl⟩
abbrev main_cst_70 : Ref sig .tc := ⟨.hbm, 426, rfl⟩
abbrev main_v335 : Ref sig .tc := ⟨.hbm, 427, rfl⟩
abbrev main_v336 : Ref sig .tc := ⟨.hbm, 428, rfl⟩
abbrev main_cst_71 : Ref sig .tc := ⟨.hbm, 429, rfl⟩
abbrev main_v337 : Ref sig .tc := ⟨.hbm, 430, rfl⟩
abbrev main_v338 : Ref sig .tc := ⟨.hbm, 431, rfl⟩
abbrev main_cst_72 : Ref sig .tc := ⟨.hbm, 432, rfl⟩
abbrev main_v339 : Ref sig .tc := ⟨.hbm, 433, rfl⟩
abbrev main_v340 : Ref sig .tc := ⟨.hbm, 434, rfl⟩
abbrev main_v341 : Ref sig .tc := ⟨.hbm, 435, rfl⟩
abbrev main_v342 : Ref sig .tc := ⟨.hbm, 436, rfl⟩
abbrev main_v343 : Ref sig .tc := ⟨.hbm, 437, rfl⟩
abbrev main_v344 : Ref sig .tc := ⟨.hbm, 438, rfl⟩
abbrev main_v345 : Ref sig .tc := ⟨.hbm, 439, rfl⟩

abbrev nD : Nat := 1
abbrev τ : Topo := Topo.v7x

variable {F : FTy → Type} [FloatOps F]
-- ==== KernelLs.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S_ : Shape := ⟨0, ![]⟩
abbrev S1x1x1024 : Shape := ⟨3, ![1, 1, 1024]⟩
abbrev S2048x1 : Shape := ⟨2, ![2048, 1]⟩
abbrev S512x2816 : Shape := ⟨2, ![512, 2816]⟩
abbrev S512x1024 : Shape := ⟨2, ![512, 1024]⟩
abbrev S512x1 : Shape := ⟨2, ![512, 1]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S8x128 : Shape := ⟨2, ![8, 128]⟩
abbrev S1 : Shape := ⟨1, ![1]⟩
abbrev S1x1 : Shape := ⟨2, ![1, 1]⟩
abbrev S1024 : Shape := ⟨1, ![1024]⟩

abbrev nBuf : Space → Nat
  | .hbm => 22
  | .vmem => 30
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S1x1x1024, .f32⟩
  | .hbm, ⟨8, _⟩ => ⟨S_, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S2048x2816, .bf16⟩
  | .hbm, ⟨13, _⟩ => ⟨S2816x1024, .bf16⟩
  | .hbm, ⟨14, _⟩ => ⟨S2048x1024, .f32⟩
  | .hbm, ⟨15, _⟩ => ⟨S2048x1, .f32⟩
  | .hbm, ⟨16, _⟩ => ⟨S2048x1024, .bf16⟩
  | .hbm, ⟨17, _⟩ => ⟨S8x128, .f32⟩
  | .hbm, ⟨18, _⟩ => ⟨S2048x1024, .f32⟩
  | .hbm, ⟨19, _⟩ => ⟨S2048x1024, .bf16⟩
  | .hbm, ⟨20, _⟩ => ⟨S1x1024, .f32⟩
  | .hbm, ⟨21, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | .local _ .vmem, ⟨13, _⟩ => ⟨S512x1024, .bf16⟩
  | .local _ .vmem, ⟨14, _⟩ => ⟨S512x1024, .bf16⟩
  | .local _ .vmem, ⟨15, _⟩ => ⟨S256x1024, .f32⟩
  | .local _ .vmem, ⟨16, _⟩ => ⟨S256x1024, .f32⟩
  | .local _ .vmem, ⟨17, _⟩ => ⟨S256x1, .f32⟩
  | .local _ .vmem, ⟨18, _⟩ => ⟨S256x1, .f32⟩
  | .local _ .vmem, ⟨19, _⟩ => ⟨S1x1x1024, .f32⟩
  | .local _ .vmem, ⟨20, _⟩ => ⟨S1x1x1024, .f32⟩
  | .local _ .vmem, ⟨21, _⟩ => ⟨S256x1024, .f32⟩
  | .local _ .vmem, ⟨22, _⟩ => ⟨S256x1024, .f32⟩
  | .local _ .vmem, ⟨23, _⟩ => ⟨S8x128, .f32⟩
  | .local _ .vmem, ⟨24, _⟩ => ⟨S256x1024, .f32⟩
  | .local _ .vmem, ⟨25, _⟩ => ⟨S256x1024, .f32⟩
  | .local _ .vmem, ⟨26, _⟩ => ⟨S256x1024, .bf16⟩
  | .local _ .vmem, ⟨27, _⟩ => ⟨S256x1024, .bf16⟩
  | .local _ .vmem, ⟨28, _⟩ => ⟨S1x1024, .f32⟩
  | .local _ .vmem, ⟨29, _⟩ => ⟨S1x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg9_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem4_1 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem9_0 : DmaSem sig := 29

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S8x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== ReferenceLsIdeal.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S8x128 : Shape := ⟨2, ![8, 128]⟩

abbrev nBuf : Space → Nat
  | .hbm => 111
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S2048x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048, .f32⟩
  | .hbm, ⟨52, _⟩ => ⟨S_, .f32⟩
  | .hbm, ⟨53, _⟩ => ⟨S2048, .f32⟩
  | .hbm, ⟨54, _⟩ => ⟨S2048, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S2048, .f32⟩
  | .hbm, ⟨63, _⟩ => ⟨S_, .f32⟩
  | .hbm, ⟨64, _⟩ => ⟨S2048, .f32⟩
  | .hbm, ⟨65, _⟩ => ⟨S2048, .f32⟩
  | .hbm, ⟨66, _⟩ => ⟨S2048x1024, .f32⟩
  | .hbm, ⟨67, _⟩ => ⟨S2048x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S2048x1024, .f32⟩
  | .hbm, ⟨72, _⟩ => ⟨S_, .f32⟩
  | .hbm, ⟨73, _⟩ => ⟨S1024, .f32⟩
  | .hbm, ⟨74, _⟩ => ⟨S1x1024, .f32⟩
  | .hbm, ⟨75, _⟩ => ⟨S2048x1024, .f32⟩
  | .hbm, ⟨76, _⟩ => ⟨S2048x1024, .f32⟩
  | .hbm, ⟨77, _⟩ => ⟨S2048x1024, .f32⟩
  | .hbm, ⟨78, _⟩ => ⟨S_, .f32⟩
  | .hbm, ⟨79, _⟩ => ⟨S2048, .f32⟩
  | .hbm, ⟨80, _⟩ => ⟨S2048x1, .f32⟩
  | .hbm, ⟨81, _⟩ => ⟨S2048x1024, .f32⟩
  | .hbm, ⟨82, _⟩ => ⟨S2048x1024, .f32⟩
  | .hbm, ⟨83, _⟩ => ⟨S2048x1, .f32⟩
  | .hbm, ⟨84, _⟩ => ⟨S2048x1024, .f32⟩
  | .hbm, ⟨85, _⟩ => ⟨S_, .f32⟩
  | .hbm, ⟨86, _⟩ => ⟨S2048, .f32⟩
  | .hbm, ⟨87, _⟩ => ⟨S2048x1, .f32⟩
  | .hbm, ⟨88, _⟩ => ⟨S_, .f32⟩
  | .hbm, ⟨89, _⟩ => ⟨S2048x1, .f32⟩
  | .hbm, ⟨90, _⟩ => ⟨S2048x1, .f32⟩
  | .hbm, ⟨91, _⟩ => ⟨S_, .f32⟩
  | .hbm, ⟨92, _⟩ => ⟨S2048, .f32⟩
  | .hbm, ⟨93, _⟩ => ⟨S2048x1024, .f32⟩
  | .hbm, ⟨94, _⟩ => ⟨S2048x1024, .f32⟩
  | .hbm, ⟨95, _⟩ => ⟨S2048x1024, .f32⟩
  | .hbm, ⟨96, _⟩ => ⟨S_, .f32⟩
  | .hbm, ⟨97, _⟩ => ⟨S2048, .f32⟩
  | .hbm, ⟨98, _⟩ => ⟨S2048x1, .f32⟩
  | .hbm, ⟨99, _⟩ => ⟨S2048x1024, .f32⟩
  | .hbm, ⟨100, _⟩ => ⟨S2048x1, .f32⟩
  | .hbm, ⟨101, _⟩ => ⟨S_, .f32⟩
  | .hbm, ⟨102, _⟩ => ⟨S2048x1, .f32⟩
  | .hbm, ⟨103, _⟩ => ⟨S2048x1, .f32⟩
  | .hbm, ⟨104, _⟩ => ⟨S_, .f32⟩
  | .hbm, ⟨105, _⟩ => ⟨S2048, .f32⟩
  | .hbm, ⟨106, _⟩ => ⟨S2048x1024, .f32⟩
  | .hbm, ⟨107, _⟩ => ⟨S2048x1024, .f32⟩
  | .hbm, ⟨108, _⟩ => ⟨S2048x1024, .bf16⟩
  | .hbm, ⟨109, _⟩ => ⟨S8x128, .f32⟩
  | .hbm, ⟨110, _⟩ => ⟨S2048x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_cst_12 : Ref sig .tc := ⟨.hbm, 59, rfl⟩
abbrev main_cst_13 : Ref sig .tc := ⟨.hbm, 60, rfl⟩
abbrev main_v40 : Ref sig .tc := ⟨.hbm, 61, rfl⟩
abbrev main_v41 : Ref sig .tc := ⟨.hbm, 62, rfl⟩
abbrev main_cst_14 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_15 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_16 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_17 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_18 : Ref sig .tc := ⟨.hbm, 85, rfl⟩
abbrev main_v60 : Ref sig .tc := ⟨.hbm, 86, rfl⟩
abbrev main_v61 : Ref sig .tc := ⟨.hbm, 87, rfl⟩
abbrev main_cst_19 : Ref sig .tc := ⟨.hbm, 88, rfl⟩
abbrev main_v62 : Ref sig .tc := ⟨.hbm, 89, rfl⟩
abbrev main_v63 : Ref sig .tc := ⟨.hbm, 90, rfl⟩
abbrev main_cst_20 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_21 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_22 : Ref sig .tc := ⟨.hbm, 101, rfl⟩
abbrev main_v72 : Ref sig .tc := ⟨.hbm, 102, rfl⟩
abbrev main_v73 : Ref sig .tc := ⟨.hbm, 103, rfl⟩
abbrev main_cst_23 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]
-- ==== KernelWo.lean ====
abbrev S2048x1024 : Shape := ⟨2, ![2048, 1024]⟩
abbrev S1024x1024 : Shape := ⟨2, ![1024, 1024]⟩
abbrev S1x1024 : Shape := ⟨2, ![1, 1024]⟩
abbrev S1024x5632 : Shape := ⟨2, ![1024, 5632]⟩
abbrev S2048x2816 : Shape := ⟨2, ![2048, 2816]⟩
abbrev S_ : Shape := ⟨0, ![]⟩
abbrev S1x1x1024 : Shape := ⟨3, ![1, 1, 1024]⟩
abbrev S2048x1 : Shape := ⟨2, ![2048, 1]⟩
abbrev S512x1024 : Shape := ⟨2, ![512, 1024]⟩
abbrev S512x1 : Shape := ⟨2, ![512, 1]⟩
abbrev S256x1024 : Shape := ⟨2, ![256, 1024]⟩
abbrev S256 : Shape := ⟨1, ![256]⟩
abbrev S256x1 : Shape := ⟨2, ![256, 1]⟩
abbrev S5632x1024 : Shape := ⟨2, ![5632, 1024]⟩
abbrev S512x2816 : Shape := ⟨2, ![512, 2816]⟩
abbrev S256x2816 : Shape := ⟨2, ![256, 2816]⟩
abbrev S2816x1024 : Shape := ⟨2, ![2816, 1024]⟩
abbrev S1024 : Shape := ⟨1, ![1024]⟩

abbrev nBuf : Space → Nat
  | .hbm => 29
  | .vmem => 36
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S2048x1024, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S1x1x1024, .f32⟩
  | .hbm, ⟨11, _⟩ => ⟨S_, .f32⟩
  | .hbm, ⟨12, _⟩ => ⟨S1x1x1024, .f32⟩
  | .hbm, ⟨13, _⟩ => ⟨S1x1x1024, .f32⟩
  | .hbm, ⟨14, _⟩ => ⟨S1x1x1024, .f32⟩
  | .hbm, ⟨15, _⟩ => ⟨S1024x1024, .bf16⟩
  | .hbm, ⟨16, _⟩ => ⟨S2048x1024, .bf16⟩
  | .hbm, ⟨17, _⟩ => ⟨S2048x1024, .f32⟩
  | .hbm, ⟨18, _⟩ => ⟨S2048x1, .f32⟩
  | .hbm, ⟨19, _⟩ => ⟨S2048x1024, .bf16⟩
  | .hbm, ⟨20, _⟩ => ⟨S2048x2816, .bf16⟩
  | .hbm, ⟨21, _⟩ => ⟨S2048x2816, .bf16⟩
  | .hbm, ⟨22, _⟩ => ⟨S5632x1024, .f32⟩
  | .hbm, ⟨23, _⟩ => ⟨S5632x1024, .bf16⟩
  | .hbm, ⟨24, _⟩ => ⟨S2048x1024, .f32⟩
  | .hbm, ⟨25, _⟩ => ⟨S2048x1024, .bf16⟩
  | .hbm, ⟨26, _⟩ => ⟨S1x1024, .f32⟩
  | .hbm, ⟨27, _⟩ => ⟨S1x1024, .f32⟩
  | .hbm, ⟨28, _⟩ => ⟨S2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | .local _ .vmem, ⟨13, _⟩ => ⟨S512x1024, .bf16⟩
  | .local _ .vmem, ⟨14, _⟩ => ⟨S512x1024, .bf16⟩
  | .local _ .vmem, ⟨15, _⟩ => ⟨S512x2816, .bf16⟩
  | .local _ .vmem, ⟨16, _⟩ => ⟨S512x2816, .bf16⟩
  | .local _ .vmem, ⟨17, _⟩ => ⟨S512x2816, .bf16⟩
  | .local _ .vmem, ⟨18, _⟩ => ⟨S512x2816, .bf16⟩
  | .local _ .vmem, ⟨19, _⟩ => ⟨S5632x1024, .bf16⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1, .f32⟩
  | .local _ .vmem, ⟨25, _⟩ => ⟨S512x1, .f32⟩
  | .local _ .vmem, ⟨26, _⟩ => ⟨S1x1x1024, .f32⟩
  | .local _ .vmem, ⟨27, _⟩ => ⟨S1024x1024, .bf16⟩
  | .local _ .vmem, ⟨28, _⟩ => ⟨S512x1024, .f32⟩
  | .local _ .vmem, ⟨29, _⟩ => ⟨S512x1024, .f32⟩
  | .local _ .vmem, ⟨30, _⟩ => ⟨S512x1024, .bf16⟩
  | .local _ .vmem, ⟨31, _⟩ => ⟨S512x1024, .bf16⟩
  | .local _ .vmem, ⟨32, _⟩ => ⟨S1x1024, .f32⟩
  | .local _ .vmem, ⟨33, _⟩ => ⟨S1x1024, .f32⟩
  | .local _ .vmem, ⟨34, _⟩ => ⟨S512x1024, .f32⟩
  | .local _ .vmem, ⟨35, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev main_v11_4 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg11_0 : Ref sig .tc := ⟨.vmem, 33, rfl⟩
abbrev cc1_stg12_0 : Ref sig .tc := ⟨.vmem, 34, rfl⟩
abbrev cc1_stg12_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem7_0 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem11_0 : DmaSem sig := 33
abbrev cc1_sem12_0 : DmaSem sig := 34
abbrev cc1_sem12_1 : DmaSem sig := 35

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2816 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x2816 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5632x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x1024 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 1 → Memref sig .tc .vmem S1x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S512x1024 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]
-- ==== ReferenceWoIdeal.lean ====
abbrev S2048x1024 : Shape := ⟨2, ![2048, 1024]⟩
abbrev S1024x1024 : Shape := ⟨2, ![1024, 1024]⟩
abbrev S1x1024 : Shape := ⟨2, ![1, 1024]⟩
abbrev S1024x5632 : Shape := ⟨2, ![1024, 5632]⟩
abbrev S2048x2816 : Shape := ⟨2, ![2048, 2816]⟩
abbrev S_ : Shape := ⟨0, ![]⟩
abbrev S2048 : Shape := ⟨1, ![2048]⟩
abbrev S2048x1 : Shape := ⟨2, ![2048, 1]⟩
abbrev S2048x5632 : Shape := ⟨2, ![2048, 5632]⟩
abbrev S1024 : Shape := ⟨1, ![1024]⟩

abbrev nBuf : Space → Nat
  | .hbm => 101
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1024x5632, .f32⟩
  | .hbm, ⟨6, _⟩ => ⟨S2048x1024, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S_, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S_, .f32⟩
  | .hbm, ⟨49, _⟩ => ⟨S2048x1024, .f32⟩
  | .hbm, ⟨50, _⟩ => ⟨S2048x1024, .f32⟩
  | .hbm, ⟨51, _⟩ => ⟨S2048x5632, .f32⟩
  | .hbm, ⟨52, _⟩ => ⟨S2048x5632, .f32⟩
  | .hbm, ⟨53, _⟩ => ⟨S2048x1024, .f32⟩
  | .hbm, ⟨54, _⟩ => ⟨S_, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S2048x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S_, .f32⟩
  | .hbm, ⟨69, _⟩ => ⟨S2048, .f32⟩
  | .hbm, ⟨70, _⟩ => ⟨S2048x1, .f32⟩
  | .hbm, ⟨71, _⟩ => ⟨S2048x1024, .f32⟩
  | .hbm, ⟨72, _⟩ => ⟨S2048x1024, .f32⟩
  | .hbm, ⟨73, _⟩ => ⟨S2048x1, .f32⟩
  | .hbm, ⟨74, _⟩ => ⟨S2048x1024, .f32⟩
  | .hbm, ⟨75, _⟩ => ⟨S_, .f32⟩
  | .hbm, ⟨76, _⟩ => ⟨S2048, .f32⟩
  | .hbm, ⟨77, _⟩ => ⟨S2048x1, .f32⟩
  | .hbm, ⟨78, _⟩ => ⟨S_, .f32⟩
  | .hbm, ⟨79, _⟩ => ⟨S2048x1, .f32⟩
  | .hbm, ⟨80, _⟩ => ⟨S2048x1, .f32⟩
  | .hbm, ⟨81, _⟩ => ⟨S_, .f32⟩
  | .hbm, ⟨82, _⟩ => ⟨S2048, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S_, .f32⟩
  | .hbm, ⟨87, _⟩ => ⟨S2048, .f32⟩
  | .hbm, ⟨88, _⟩ => ⟨S2048x1, .f32⟩
  | .hbm, ⟨89, _⟩ => ⟨S2048x1024, .f32⟩
  | .hbm, ⟨90, _⟩ => ⟨S2048x1, .f32⟩
  | .hbm, ⟨91, _⟩ => ⟨S_, .f32⟩
  | .hbm, ⟨92, _⟩ => ⟨S2048x1, .f32⟩
  | .hbm, ⟨93, _⟩ => ⟨S2048x1, .f32⟩
  | .hbm, ⟨94, _⟩ => ⟨S_, .f32⟩
  | .hbm, ⟨95, _⟩ => ⟨S2048, .f32⟩
  | .hbm, ⟨96, _⟩ => ⟨S2048x1024, .f32⟩
  | .hbm, ⟨97, _⟩ => ⟨S2048x1024, .f32⟩
  | .hbm, ⟨98, _⟩ => ⟨S2048x1024, .bf16⟩
  | .hbm, ⟨99, _⟩ => ⟨S2048x1024, .bf16⟩
  | .hbm, ⟨100, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_cst_4 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_5 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_12 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_cst_14 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_15 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_cst_16 : Ref sig .tc := ⟨.hbm, 91, rfl⟩
abbrev main_v65 : Ref sig .tc := ⟨.hbm, 92, rfl⟩
abbrev main_v66 : Ref sig .tc := ⟨.hbm, 93, rfl⟩
abbrev main_cst_17 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩

abbrev nD : Nat := 1
abbrev τ : Topo := Topo.v7x

variable {F : FTy → Type} [FloatOps F]
-- ==== KernelDn.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S1024x2176 : Shape := ⟨2, ![1024, 2176]⟩
abbrev S2048x2176 : Shape := ⟨2, ![2048, 2176]⟩
abbrev S_ : Shape := ⟨0, ![]⟩
abbrev S1x1x1024 : Shape := ⟨3, ![1, 1, 1024]⟩
abbrev S2048x1 : Shape := ⟨2, ![2048, 1]⟩
abbrev S512x2816 : Shape := ⟨2, ![512, 2816]⟩
abbrev S512x1024 : Shape := ⟨2, ![512, 1024]⟩
abbrev S512x1 : Shape := ⟨2, ![512, 1]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S2176x1024 : Shape := ⟨2, ![2176, 1024]⟩
abbrev S512x2176 : Shape := ⟨2, ![512, 2176]⟩
abbrev S256x2176 : Shape := ⟨2, ![256, 2176]⟩
abbrev S1024 : Shape := ⟨1, ![1024]⟩

abbrev nBuf : Space → Nat
  | .hbm => 26
  | .vmem => 31
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1024x2176, .f32⟩
  | .hbm, ⟨6, _⟩ => ⟨S2048x1024, .f32⟩
  | .hbm, ⟨7, _⟩ => ⟨S2048x2176, .f32⟩
  | .hbm, ⟨8, _⟩ => ⟨S_, .f32⟩
  | .hbm, ⟨9, _⟩ => ⟨S1x1x1024, .f32⟩
  | .hbm, ⟨10, _⟩ => ⟨S_, .f32⟩
  | .hbm, ⟨11, _⟩ => ⟨S1x1x1024, .f32⟩
  | .hbm, ⟨12, _⟩ => ⟨S1x1x1024, .f32⟩
  | .hbm, ⟨13, _⟩ => ⟨S1x1x1024, .f32⟩
  | .hbm, ⟨14, _⟩ => ⟨S2048x2816, .bf16⟩
  | .hbm, ⟨15, _⟩ => ⟨S2816x1024, .bf16⟩
  | .hbm, ⟨16, _⟩ => ⟨S2048x1024, .f32⟩
  | .hbm, ⟨17, _⟩ => ⟨S2048x1, .f32⟩
  | .hbm, ⟨18, _⟩ => ⟨S2048x1024, .bf16⟩
  | .hbm, ⟨19, _⟩ => ⟨S2048x2176, .bf16⟩
  | .hbm, ⟨20, _⟩ => ⟨S2176x1024, .f32⟩
  | .hbm, ⟨21, _⟩ => ⟨S2176x1024, .bf16⟩
  | .hbm, ⟨22, _⟩ => ⟨S2048x1024, .f32⟩
  | .hbm, ⟨23, _⟩ => ⟨S2048x1024, .bf16⟩
  | .hbm, ⟨24, _⟩ => ⟨S1x1024, .f32⟩
  | .hbm, ⟨25, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S512x1024, .f32⟩
  | .local _ .vmem, ⟨10, _⟩ => ⟨S512x1024, .f32⟩
  | .local _ .vmem, ⟨11, _⟩ => ⟨S512x1, .f32⟩
  | .local _ .vmem, ⟨12, _⟩ => ⟨S512x1, .f32⟩
  | .local _ .vmem, ⟨13, _⟩ => ⟨S512x1024, .bf16⟩
  | .local _ .vmem, ⟨14, _⟩ => ⟨S512x1024, .bf16⟩
  | .local _ .vmem, ⟨15, _⟩ => ⟨S512x2176, .bf16⟩
  | .local _ .vmem, ⟨16, _⟩ => ⟨S512x2176, .bf16⟩
  | .local _ .vmem, ⟨17, _⟩ => ⟨S2176x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1, .f32⟩
  | .local _ .vmem, ⟨23, _⟩ => ⟨S512x1, .f32⟩
  | .local _ .vmem, ⟨24, _⟩ => ⟨S1x1x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .bf16⟩
  | .local _ .vmem, ⟨29, _⟩ => ⟨S1x1024, .f32⟩
  | .local _ .vmem, ⟨30, _⟩ => ⟨S1x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_v10_2 : Ref sig .tc := ⟨.hbm, 24, rfl⟩
abbrev main_v10_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg9_0 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem6_0 : DmaSem sig := 25
abbrev cc1_sem6_1 : DmaSem sig := 26
abbrev cc1_sem7_0 : DmaSem sig := 27
abbrev cc1_sem7_1 : DmaSem sig := 28
abbrev cc1_sem8_0 : DmaSem sig := 29
abbrev cc1_sem9_0 : DmaSem sig := 30

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x2176 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2176x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]
-- ==== ReferenceDnIdeal.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S1024x2176 : Shape := ⟨2, ![1024, 2176]⟩
abbrev S2048x2176 : Shape := ⟨2, ![2048, 2176]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 98
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S1x1024, .f32⟩
  | .hbm, ⟨4, _⟩ => ⟨S1x1024, .f32⟩
  | .hbm, ⟨5, _⟩ => ⟨S1024x2176, .f32⟩
  | .hbm, ⟨6, _⟩ => ⟨S2048x1024, .f32⟩
  | .hbm, ⟨7, _⟩ => ⟨S2048x2176, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1, .f32⟩
  | .hbm, ⟨35, _⟩ => ⟨S2048x1, .f32⟩
  | .hbm, ⟨36, _⟩ => ⟨S2048x1, .f32⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S2048x1024, .f32⟩
  | .hbm, ⟨49, _⟩ => ⟨S2048x1024, .f32⟩
  | .hbm, ⟨50, _⟩ => ⟨S2048x2176, .f32⟩
  | .hbm, ⟨51, _⟩ => ⟨S2048x1024, .f32⟩
  | .hbm, ⟨52, _⟩ => ⟨S_, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S2048x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S_, .f32⟩
  | .hbm, ⟨67, _⟩ => ⟨S2048, .f32⟩
  | .hbm, ⟨68, _⟩ => ⟨S2048x1, .f32⟩
  | .hbm, ⟨69, _⟩ => ⟨S2048x1024, .f32⟩
  | .hbm, ⟨70, _⟩ => ⟨S2048x1024, .f32⟩
  | .hbm, ⟨71, _⟩ => ⟨S2048x1, .f32⟩
  | .hbm, ⟨72, _⟩ => ⟨S2048x1024, .f32⟩
  | .hbm, ⟨73, _⟩ => ⟨S_, .f32⟩
  | .hbm, ⟨74, _⟩ => ⟨S2048, .f32⟩
  | .hbm, ⟨75, _⟩ => ⟨S2048x1, .f32⟩
  | .hbm, ⟨76, _⟩ => ⟨S_, .f32⟩
  | .hbm, ⟨77, _⟩ => ⟨S2048x1, .f32⟩
  | .hbm, ⟨78, _⟩ => ⟨S2048x1, .f32⟩
  | .hbm, ⟨79, _⟩ => ⟨S_, .f32⟩
  | .hbm, ⟨80, _⟩ => ⟨S2048, .f32⟩
  | .hbm, ⟨81, _⟩ => ⟨S2048x1024, .f32⟩
  | .hbm, ⟨82, _⟩ => ⟨S2048x1024, .f32⟩
  | .hbm, ⟨83, _⟩ => ⟨S2048x1024, .f32⟩
  | .hbm, ⟨84, _⟩ => ⟨S_, .f32⟩
  | .hbm, ⟨85, _⟩ => ⟨S2048, .f32⟩
  | .hbm, ⟨86, _⟩ => ⟨S2048x1, .f32⟩
  | .hbm, ⟨87, _⟩ => ⟨S2048x1024, .f32⟩
  | .hbm, ⟨88, _⟩ => ⟨S2048x1, .f32⟩
  | .hbm, ⟨89, _⟩ => ⟨S_, .f32⟩
  | .hbm, ⟨90, _⟩ => ⟨S2048x1, .f32⟩
  | .hbm, ⟨91, _⟩ => ⟨S2048x1, .f32⟩
  | .hbm, ⟨92, _⟩ => ⟨S_, .f32⟩
  | .hbm, ⟨93, _⟩ => ⟨S2048, .f32⟩
  | .hbm, ⟨94, _⟩ => ⟨S2048x1024, .f32⟩
  | .hbm, ⟨95, _⟩ => ⟨S2048x1024, .f32⟩
  | .hbm, ⟨96, _⟩ => ⟨S2048x1024, .bf16⟩
  | .hbm, ⟨97, _⟩ => ⟨S2048x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_5 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_8 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_15 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_16 : Ref sig .tc := ⟨.hbm, 89, rfl⟩
abbrev main_v64 : Ref sig .tc := ⟨.hbm, 90, rfl⟩
abbrev main_v65 : Ref sig .tc := ⟨.hbm, 91, rfl⟩
abbrev main_cst_17 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]
-- ==== KernelMf.lean ====
abbrev S2048x2176 : Shape := ⟨2, ![2048, 2176]⟩
abbrev S1x3x384 : Shape := ⟨3, ![1, 3, 384]⟩
abbrev S1x4x64x64 : Shape := ⟨4, ![1, 4, 64, 64]⟩
abbrev S1x256 : Shape := ⟨2, ![1, 256]⟩
abbrev S1x384 : Shape := ⟨2, ![1, 384]⟩
abbrev S1x6x128x128 : Shape := ⟨4, ![1, 6, 128, 128]⟩
abbrev S1x6x128 : Shape := ⟨3, ![1, 6, 128]⟩
abbrev S2x2 : Shape := ⟨2, ![2, 2]⟩
abbrev S_ : Shape := ⟨0, ![]⟩
abbrev S1x2x2x64x64 : Shape := ⟨5, ![1, 2, 2, 64, 64]⟩
abbrev S1x2x2x64x1x64 : Shape := ⟨6, ![1, 2, 2, 64, 1, 64]⟩
abbrev S1x1x2x1x2x1 : Shape := ⟨6, ![1, 1, 2, 1, 2, 1]⟩
abbrev S1x2x2x64x2x64 : Shape := ⟨6, ![1, 2, 2, 64, 2, 64]⟩
abbrev S1x2x128x128 : Shape := ⟨4, ![1, 2, 128, 128]⟩
abbrev S1x3x256x128 : Shape := ⟨4, ![1, 3, 256, 128]⟩
abbrev S1x3x2x128 : Shape := ⟨4, ![1, 3, 2, 128]⟩
abbrev S1x3x128x2 : Shape := ⟨4, ![1, 3, 128, 2]⟩
abbrev S1x3x128x2x64 : Shape := ⟨5, ![1, 3, 128, 2, 64]⟩
abbrev S1x3x128x128 : Shape := ⟨4, ![1, 3, 128, 128]⟩
abbrev S1x1x256 : Shape := ⟨3, ![1, 1, 256]⟩
abbrev S1x1x384 : Shape := ⟨3, ![1, 1, 384]⟩
abbrev S2048x1024 : Shape := ⟨2, ![2048, 1024]⟩
abbrev S2048x128 : Shape := ⟨2, ![2048, 128]⟩
abbrev S1x3x128 : Shape := ⟨3, ![1, 3, 128]⟩
abbrev S1x1x128x128 : Shape := ⟨4, ![1, 1, 128, 128]⟩
abbrev S1x1x128 : Shape := ⟨3, ![1, 1, 128]⟩
abbrev S1x1x256x128 : Shape := ⟨4, ![1, 1, 256, 128]⟩
abbrev S3x128 : Shape := ⟨2, ![3, 128]⟩
abbrev S1x128 : Shape := ⟨2, ![1, 128]⟩
abbrev S128x128 : Shape := ⟨2, ![128, 128]⟩
abbrev S256x128 : Shape := ⟨2, ![256, 128]⟩
abbrev S128 : Shape := ⟨1, ![128]⟩
abbrev S128x1 : Shape := ⟨2, ![128, 1]⟩

abbrev nBuf : Space → Nat
  | .hbm => 29
  | .vmem => 20
  | .smem => 0
  | _ => 0

abbrev bufTy : (tb : Table) → Fin (tcTables nBuf tb) → BufTy
  | .hbm, ⟨0, _⟩ => ⟨S2048x2176, .f32⟩
  | .hbm, ⟨1, _⟩ => ⟨S1x3x384, .f32⟩
  | .hbm, ⟨2, _⟩ => ⟨S1x4x64x64, .f32⟩
  | .hbm, ⟨3, _⟩ => ⟨S1x256, .f32⟩
  | .hbm, ⟨4, _⟩ => ⟨S1x384, .f32⟩
  | .hbm, ⟨5, _⟩ => ⟨S1x6x128x128, .f32⟩
  | .hbm, ⟨6, _⟩ => ⟨S1x6x128, .f32⟩
  | .hbm, ⟨7, _⟩ => ⟨S2x2, .i32⟩
  | .hbm, ⟨8, _⟩ => ⟨S2x2, .i32⟩
  | .hbm, ⟨9, _⟩ => ⟨S_, .i32⟩
  | .hbm, ⟨10, _⟩ => ⟨S2x2, .i32⟩
  | .hbm, ⟨11, _⟩ => ⟨S2x2, .i32⟩
  | .hbm, ⟨12, _⟩ => ⟨S2x2, .i1⟩
  | .hbm, ⟨13, _⟩ => ⟨S2x2, .f32⟩
  | .hbm, ⟨14, _⟩ => ⟨S1x2x2x64x64, .f32⟩
  | .hbm, ⟨15, _⟩ => ⟨S1x2x2x64x1x64, .f32⟩
  | .hbm, ⟨16, _⟩ => ⟨S1x1x2x1x2x1, .f32⟩
  | .hbm, ⟨17, _⟩ => ⟨S1x2x2x64x2x64, .f32⟩
  | .hbm, ⟨18, _⟩ => ⟨S1x2x2x64x2x64, .f32⟩
  | .hbm, ⟨19, _⟩ => ⟨S1x2x2x64x2x64, .f32⟩
  | .hbm, ⟨20, _⟩ => ⟨S1x2x128x128, .f32⟩
  | .hbm, ⟨21, _⟩ => ⟨S1x3x256x128, .f32⟩
  | .hbm, ⟨22, _⟩ => ⟨S1x3x2x128, .f32⟩
  | .hbm, ⟨23, _⟩ => ⟨S1x3x128x2, .f32⟩
  | .hbm, ⟨24, _⟩ => ⟨S1x3x128x2x64, .f32⟩
  | .hbm, ⟨25, _⟩ => ⟨S1x3x128x128, .f32⟩
  | .hbm, ⟨26, _⟩ => ⟨S1x1x256, .f32⟩
  | .hbm, ⟨27, _⟩ => ⟨S1x1x384, .f32⟩
  | .hbm, ⟨28, _⟩ => ⟨S2048x1024, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S1x3x128, .f32⟩
  | .local _ .vmem, ⟨7, _⟩ => ⟨S1x3x128, .f32⟩
  | .local _ .vmem, ⟨8, _⟩ => ⟨S1x1x128x128, .f32⟩
  | .local _ .vmem, ⟨9, _⟩ => ⟨S1x1x128x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S1x1x256x128, .f32⟩
  | .local _ .vmem, ⟨15, _⟩ => ⟨S1x1x256x128, .f32⟩
  | .local _ .vmem, ⟨16, _⟩ => ⟨S1x1x128x128, .f32⟩
  | .local _ .vmem, ⟨17, _⟩ => ⟨S1x1x128x128, .f32⟩
  | .local _ .vmem, ⟨18, _⟩ => ⟨S2048x128, .bf16⟩
  | .local _ .vmem, ⟨19, _⟩ => ⟨S2048x128, .bf16⟩
  | _, _ => ⟨S2048x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c5_i32_2 : BitVec 32 := 5#32
  let v8 : BitVec 1 := Scalar.cmpi .sge arg0 c5_i32_2
  let v9 : BitVec 32 := Scalar.extui v8
  let c0_i32_3 : BitVec 32 := 0#32
  let v10 : BitVec 1 := Scalar.cmpi .ne v9 c0_i32_3
  v10

@[reducible] def k0_t1_loop : Scf.Loop 32 :=
  let c0_i32_14 : BitVec 32 := 0#32
  let c16_i32 : BitVec 32 := 16#32
  let v28 : BitVec 32 := Scalar.addi c0_i32_14 c16_i32
  let c1_i32 : BitVec 32 := 1#32
  ⟨c0_i32_14, v28, c1_i32⟩
def k0_mult1 (k0_t1 : Fin k0_t1_loop.trips) : BitVec 32 :=
  let c0_i32_14 : BitVec 32 := 0#32
  let c1_i32 : BitVec 32 := 1#32
  let arg11 : BitVec 32 := Scf.iv c0_i32_14 c1_i32 k0_t1
  let c128_i32 : BitVec 32 := 128#32
  let v29 : BitVec 32 := Scalar.muli arg11 c128_i32
  v29
def k0_off1 (k0_t1 : Fin k0_t1_loop.trips) : Fin 2 → Nat :=
  let c0_i32_14 : BitVec 32 := 0#32
  let c1_i32 : BitVec 32 := 1#32
  let arg11 : BitVec 32 := Scf.iv c0_i32_14 c1_i32 k0_t1
  let c128_i32 : BitVec 32 := 128#32
  let v29 : BitVec 32 := Scalar.muli arg11 c128_i32
  let v30 : BitVec 32 := v29
  let v31 : Index := Scalar.indexCast v30
  let c0_16 : Index := 0#32
  ![v31.toNat, 0]
def k0_cond1 (i : grid0.Coords) : BitVec 1 :=
  let arg0 : BitVec 32 := BitVec.ofNat 32 (i 0).val
  let c3_i32 : BitVec 32 := 3#32
  let v0 : BitVec 1 := Scalar.cmpi .slt arg0 c3_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c3_i32_0 : BitVec 32 := 3#32
  let v3 : BitVec 1 := Scalar.cmpi .sge arg0 c3_i32_0
  let c5_i32 : BitVec 32 := 5#32
  let v4 : BitVec 1 := Scalar.cmpi .slt arg0 c5_i32
  let v5 : BitVec 1 := Scalar.andi v3 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c3_i32 : BitVec 32 := 3#32
  let v0 : BitVec 1 := Scalar.cmpi .slt arg0 c3_i32
  let c5_i32 : BitVec 32 := 5#32
  let v1 : BitVec 1 := Scalar.cmpi .slt arg0 c5_i32
  let c6_i32 : BitVec 32 := 6#32
  let v2 : BitVec 32 := Scalar.addi arg0 c6_i32
  let c6_i32_0 : BitVec 32 := 6#32
  let v3 : BitVec 32 := Scalar.addi arg0 c6_i32_0
  let v4 : BitVec 32 := Scalar.select v1 v2 v3
  let v5 : BitVec 32 := Scalar.select v0 arg0 v4
  let c0_i32 : BitVec 32 := 0#32
  let c0_i32_1 : BitVec 32 := 0#32
  ![c0_i32.toNat, v5.toNat]

def cc0_transform_1 (i : grid0.Coords) : Fin 2 → Nat :=
  let arg0 : BitVec 32 := BitVec.ofNat 32 (i 0).val
  let c3_i32 : BitVec 32 := 3#32
  let v0 : BitVec 1 := Scalar.cmpi .slt arg0 c3_i32
  let c3_i32_0 : BitVec 32 := 3#32
  let v1 : BitVec 32 := Scalar.addi arg0 c3_i32_0
  let c5_i32 : BitVec 32 := 5#32
  let v2 : BitVec 1 := Scalar.cmpi .slt arg0 c5_i32
  let c9_i32 : BitVec 32 := 9#32
  let v3 : BitVec 32 := Scalar.addi arg0 c9_i32
  let c5_i32_1 : BitVec 32 := 5#32
  let v4 : BitVec 32 := Scalar.select v2 c5_i32_1 v3
  let v5 : BitVec 32 := Scalar.select v0 v1 v4
  let c0_i32 : BitVec 32 := 0#32
  let c0_i32_2 : BitVec 32 := 0#32
  ![c0_i32.toNat, v5.toNat]

def cc0_transform_2 (i : grid0.Coords) : Fin 2 → Nat :=
  let arg0 : BitVec 32 := BitVec.ofNat 32 (i 0).val
  let c3_i32 : BitVec 32 := 3#32
  let v0 : BitVec 1 := Scalar.cmpi .slt arg0 c3_i32
  let c6_i32 : BitVec 32 := 6#32
  let v1 : BitVec 32 := Scalar.addi arg0 c6_i32
  let c8_i32 : BitVec 32 := 8#32
  let v2 : BitVec 32 := Scalar.select v0 v1 c8_i32
  let c0_i32 : BitVec 32 := 0#32
  let c0_i32_0 : BitVec 32 := 0#32
  ![c0_i32.toNat, v2.toNat]

def cc0_transform_3 (i : grid0.Coords) : Fin 3 → Nat :=
  let arg0 : BitVec 32 := BitVec.ofNat 32 (i 0).val
  let c0_i32 : BitVec 32 := 0#32
  let v0 : BitVec 32 := Scalar.maxsi arg0 c0_i32
  let c2_i32 : BitVec 32 := 2#32
  let v1 : BitVec 32 := Scalar.minsi v0 c2_i32
  let c0_i32_0 : BitVec 32 := 0#32
  let c0_i32_1 : BitVec 32 := 0#32
  let c0_i32_2 : BitVec 32 := 0#32
  ![c0_i32_0.toNat, c0_i32_1.toNat, v1.toNat]

def cc0_transform_4 (i : grid0.Coords) : Fin 4 → Nat :=
  let arg0 : BitVec 32 := BitVec.ofNat 32 (i 0).val
  let c3_i32 : BitVec 32 := 3#32
  let v0 : BitVec 32 := Scalar.subi arg0 c3_i32
  let c0_i32 : BitVec 32 := 0#32
  let v1 : BitVec 32 := Scalar.maxsi v0 c0_i32
  let c1_i32 : BitVec 32 := 1#32
  let v2 : BitVec 32 := Scalar.minsi v1 c1_i32
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_5 (i : grid0.Coords) : Fin 3 → Nat :=
  let arg0 : BitVec 32 := BitVec.ofNat 32 (i 0).val
  let c3_i32 : BitVec 32 := 3#32
  let v0 : BitVec 32 := Scalar.subi arg0 c3_i32
  let c0_i32 : BitVec 32 := 0#32
  let v1 : BitVec 32 := Scalar.maxsi v0 c0_i32
  let c1_i32 : BitVec 32 := 1#32
  let v2 : BitVec 32 := Scalar.minsi v1 c1_i32
  let c0_i32_0 : BitVec 32 := 0#32
  let c0_i32_1 : BitVec 32 := 0#32
  let c0_i32_2 : BitVec 32 := 0#32
  ![c0_i32_0.toNat, c0_i32_1.toNat, v2.toNat]

def cc0_transform_6 (i : grid0.Coords) : Fin 3 → Nat :=
  let arg0 : BitVec 32 := BitVec.ofNat 32 (i 0).val
  let c5_i32 : BitVec 32 := 5#32
  let v0 : BitVec 32 := Scalar.subi arg0 c5_i32
  let c0_i32 : BitVec 32 := 0#32
  let v1 : BitVec 32 := Scalar.maxsi v0 c0_i32
  let c2_i32 : BitVec 32 := 2#32
  let v2 : BitVec 32 := Scalar.minsi v1 c2_i32
  let c0_i32_0 : BitVec 32 := 0#32
  let c0_i32_1 : BitVec 32 := 0#32
  let c0_i32_2 : BitVec 32 := 0#32
  ![c0_i32_0.toNat, c0_i32_1.toNat, v2.toNat]

def cc0_transform_7 (i : grid0.Coords) : Fin 4 → Nat :=
  let arg0 : BitVec 32 := BitVec.ofNat 32 (i 0).val
  let c5_i32 : BitVec 32 := 5#32
  let v0 : BitVec 32 := Scalar.subi arg0 c5_i32
  let c0_i32 : BitVec 32 := 0#32
  let v1 : BitVec 32 := Scalar.maxsi v0 c0_i32
  let c2_i32 : BitVec 32 := 2#32
  let v2 : BitVec 32 := Scalar.minsi v1 c2_i32
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_8 (i : grid0.Coords) : Fin 4 → Nat :=
  let arg0 : BitVec 32 := BitVec.ofNat 32 (i 0).val
  let c5_i32 : BitVec 32 := 5#32
  let v0 : BitVec 32 := Scalar.subi arg0 c5_i32
  let c0_i32 : BitVec 32 := 0#32
  let v1 : BitVec 32 := Scalar.maxsi v0 c0_i32
  let c2_i32 : BitVec 32 := 2#32
  let v2 : BitVec 32 := Scalar.minsi v1 c2_i32
  let c0_i32_0 : BitVec 32 := 0#32
  let c0_i32_1 : BitVec 32 := 0#32
  let c0_i32_2 : BitVec 32 := 0#32
  let c0_i32_3 : BitVec 32 := 0#32
  ![c0_i32_0.toNat, v2.toNat, c0_i32_1.toNat, c0_i32_2.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== KernelMfIdeal.lean ====
variable {F : FTy → Type} [FloatOps F] [Named F]
def κ : String → Option EReal := fun
  | "inv_sqrt2" => some (((Real.sqrt 2)⁻¹ : ℝ) : EReal)
  | _ => none
-- ==== ReferenceMfIdeal.lean ====
abbrev S2048x2176 : Shape := ⟨2, ![2048, 2176]⟩
abbrev S1x3x384 : Shape := ⟨3, ![1, 3, 384]⟩
abbrev S1x4x64x64 : Shape := ⟨4, ![1, 4, 64, 64]⟩
abbrev S1x256 : Shape := ⟨2, ![1, 256]⟩
abbrev S1x384 : Shape := ⟨2, ![1, 384]⟩
abbrev S1x6x128x128 : Shape := ⟨4, ![1, 6, 128, 128]⟩
abbrev S1x6x128 : Shape := ⟨3, ![1, 6, 128]⟩
abbrev S2048x384 : Shape := ⟨2, ![2048, 384]⟩
abbrev S3x384 : Shape := ⟨2, ![3, 384]⟩
abbrev S_ : Shape := ⟨0, ![]⟩
abbrev S2x384 : Shape := ⟨2, ![2, 384]⟩
abbrev S2050x384 : Shape := ⟨2, ![2050, 384]⟩
abbrev S384 : Shape := ⟨1, ![384]⟩
abbrev S2048x256 : Shape := ⟨2, ![2048, 256]⟩
abbrev S4x64x64 : Shape := ⟨3, ![4, 64, 64]⟩
abbrev S256 : Shape := ⟨1, ![256]⟩
abbrev S2048x4x64 : Shape := ⟨3, ![2048, 4, 64]⟩
abbrev S2048 : Shape := ⟨1, ![2048]⟩
abbrev S2048x1x64 : Shape := ⟨3, ![2048, 1, 64]⟩
abbrev S2048x64 : Shape := ⟨2, ![2048, 64]⟩
abbrev S2x64 : Shape := ⟨2, ![2, 64]⟩
abbrev S2050x64 : Shape := ⟨2, ![2050, 64]⟩
abbrev S2048x1 : Shape := ⟨2, ![2048, 1]⟩
abbrev S4x64 : Shape := ⟨2, ![4, 64]⟩
abbrev S2052x64 : Shape := ⟨2, ![2052, 64]⟩
abbrev S8x64 : Shape := ⟨2, ![8, 64]⟩
abbrev S2056x64 : Shape := ⟨2, ![2056, 64]⟩
abbrev S16x64 : Shape := ⟨2, ![16, 64]⟩
abbrev S2064x64 : Shape := ⟨2, ![2064, 64]⟩
abbrev S4x64x2048 : Shape := ⟨3, ![4, 64, 2048]⟩
abbrev S2048x768 : Shape := ⟨2, ![2048, 768]⟩
abbrev S6x128x128 : Shape := ⟨3, ![6, 128, 128]⟩
abbrev S6x128 : Shape := ⟨2, ![6, 128]⟩
abbrev S2048x6x64 : Shape := ⟨3, ![2048, 6, 64]⟩
abbrev S2048x6 : Shape := ⟨2, ![2048, 6]⟩
abbrev S2048x6x1 : Shape := ⟨3, ![2048, 6, 1]⟩
abbrev S6x64 : Shape := ⟨2, ![6, 64]⟩
abbrev S1x6x64 : Shape := ⟨3, ![1, 6, 64]⟩
abbrev S16x128x6x64 : Shape := ⟨4, ![16, 128, 6, 64]⟩
abbrev S128x128 : Shape := ⟨2, ![128, 128]⟩
abbrev S1x128x128 : Shape := ⟨3, ![1, 128, 128]⟩
abbrev S6x16x64x128 : Shape := ⟨4, ![6, 16, 64, 128]⟩
abbrev S128x6 : Shape := ⟨2, ![128, 6]⟩
abbrev S1x128x6x1 : Shape := ⟨4, ![1, 128, 6, 1]⟩
abbrev S2048x1024 : Shape := ⟨2, ![2048, 1024]⟩

abbrev nBuf : Space → Nat
  | .hbm => 188
  | .vmem => 0
  | .smem => 0
  | _ => 0

abbrev hbmTy0_0 (i : Nat) : BufTy := match i % 128 with
  | 0 => ⟨S2048x2176, .f32⟩
  | 1 => ⟨S1x3x384, .f32⟩
  | 2 => ⟨S1x4x64x64, .f32⟩
  | 3 => ⟨S1x256, .f32⟩
  | 4 => ⟨S1x384, .f32⟩
  | 5 => ⟨S1x6x128x128, .f32⟩
  | 6 => ⟨S1x6x128, .f32⟩
  | 7 => ⟨S2048x384, .f32⟩
  | 8 => ⟨S2048x384, .f32⟩
  | 9 => ⟨S2048x384, .f32⟩
  | 10 => ⟨S3x384, .f32⟩
  | 11 => ⟨S2048x384, .f32⟩
  | 12 => ⟨S_, .f32⟩
  | 13 => ⟨S2x384, .f32⟩
  | 14 => ⟨S2050x384, .f32⟩
  | 15 => ⟨S1x384, .f32⟩
  | 16 => ⟨S384, .f32⟩
  | 17 => ⟨S2048x384, .f32⟩
  | 18 => ⟨S1x384, .f32⟩
  | 19 => ⟨S2048x384, .f32⟩
  | 20 => ⟨S2048x384, .f32⟩
  | 21 => ⟨S1x384, .f32⟩
  | 22 => ⟨S384, .f32⟩
  | 23 => ⟨S2048x384, .f32⟩
  | 24 => ⟨S1x384, .f32⟩
  | 25 => ⟨S2048x384, .f32⟩
  | 26 => ⟨S2048x384, .f32⟩
  | 27 => ⟨S2048x384, .f32⟩
  | 28 => ⟨S1x384, .f32⟩
  | 29 => ⟨S384, .f32⟩
  | 30 => ⟨S2048x384, .f32⟩
  | 31 => ⟨S1x384, .f32⟩
  | 32 => ⟨S2048x384, .f32⟩
  | 33 => ⟨S2048x384, .f32⟩
  | 34 => ⟨S2048x384, .f32⟩
  | 35 => ⟨S2048x384, .f32⟩
  | 36 => ⟨S2048x256, .f32⟩
  | 37 => ⟨S4x64x64, .f32⟩
  | 38 => ⟨S256, .f32⟩
  | 39 => ⟨S2048x4x64, .f32⟩
  | 40 => ⟨S_, .f32⟩
  | 41 => ⟨S_, .f32⟩
  | 42 => ⟨S2048x4x64, .f32⟩
  | 43 => ⟨S2048, .f32⟩
  | 44 => ⟨S_, .f32⟩
  | 45 => ⟨S2048, .f32⟩
  | 46 => ⟨S2048, .f32⟩
  | 47 => ⟨S2048x1x64, .f32⟩
  | 48 => ⟨S2048x64, .f32⟩
  | 49 => ⟨S_, .f32⟩
  | 50 => ⟨S2x64, .f32⟩
  | 51 => ⟨S2050x64, .f32⟩
  | 52 => ⟨S2048x64, .f32⟩
  | 53 => ⟨S2048x64, .f32⟩
  | 54 => ⟨S2048x64, .f32⟩
  | 55 => ⟨S_, .f32⟩
  | 56 => ⟨S2048, .f32⟩
  | 57 => ⟨S2048, .f32⟩
  | 58 => ⟨S2048x1, .f32⟩
  | 59 => ⟨S2048x64, .f32⟩
  | 60 => ⟨S2048x64, .f32⟩
  | 61 => ⟨S2048x1x64, .f32⟩
  | 62 => ⟨S2048x64, .f32⟩
  | 63 => ⟨S_, .f32⟩
  | 64 => ⟨S4x64, .f32⟩
  | 65 => ⟨S2052x64, .f32⟩
  | 66 => ⟨S2048x64, .f32⟩
  | 67 => ⟨S2048x64, .f32⟩
  | 68 => ⟨S2048x64, .f32⟩
  | 69 => ⟨S_, .f32⟩
  | 70 => ⟨S2048, .f32⟩
  | 71 => ⟨S2048, .f32⟩
  | 72 => ⟨S2048x1, .f32⟩
  | 73 => ⟨S2048x64, .f32⟩
  | 74 => ⟨S2048x64, .f32⟩
  | 75 => ⟨S2048x1x64, .f32⟩
  | 76 => ⟨S2048x64, .f32⟩
  | 77 => ⟨S_, .f32⟩
  | 78 => ⟨S8x64, .f32⟩
  | 79 => ⟨S2056x64, .f32⟩
  | 80 => ⟨S2048x64, .f32⟩
  | 81 => ⟨S2048x64, .f32⟩
  | 82 => ⟨S2048x64, .f32⟩
  | 83 => ⟨S_, .f32⟩
  | 84 => ⟨S2048, .f32⟩
  | 85 => ⟨S2048, .f32⟩
  | 86 => ⟨S2048x1, .f32⟩
  | 87 => ⟨S2048x64, .f32⟩
  | 88 => ⟨S2048x64, .f32⟩
  | 89 => ⟨S2048x1x64, .f32⟩
  | 90 => ⟨S2048x64, .f32⟩
  | 91 => ⟨S_, .f32⟩
  | 92 => ⟨S16x64, .f32⟩
  | 93 => ⟨S2064x64, .f32⟩
  | 94 => ⟨S2048x64, .f32⟩
  | 95 => ⟨S2048x64, .f32⟩
  | 96 => ⟨S2048x64, .f32⟩
  | 97 => ⟨S_, .f32⟩
  | 98 => ⟨S2048, .f32⟩
  | 99 => ⟨S2048, .f32⟩
  | 100 => ⟨S2048x1, .f32⟩
  | 101 => ⟨S2048x64, .f32⟩
  | 102 => ⟨S2048x64, .f32⟩
  | 103 => ⟨S2048x1x64, .f32⟩
  | 104 => ⟨S2048x1x64, .f32⟩
  | 105 => ⟨S2048x1x64, .f32⟩
  | 106 => ⟨S2048x1x64, .f32⟩
  | 107 => ⟨S2048x4x64, .f32⟩
  | 108 => ⟨S2048x4x64, .f32⟩
  | 109 => ⟨S4x64x2048, .f32⟩
  | 110 => ⟨S2048x4x64, .f32⟩
  | 111 => ⟨S2048x256, .f32⟩
  | 112 => ⟨S1x256, .f32⟩
  | 113 => ⟨S2048x256, .f32⟩
  | 114 => ⟨S2048x256, .f32⟩
  | 115 => ⟨S2048x768, .f32⟩
  | 116 => ⟨S384, .f32⟩
  | 117 => ⟨S6x128x128, .f32⟩
  | 118 => ⟨S6x128, .f32⟩
  | 119 => ⟨S_, .f32⟩
  | 120 => ⟨S2048x768, .f32⟩
  | 121 => ⟨S2048x768, .f32⟩
  | 122 => ⟨S_, .f32⟩
  | 123 => ⟨S_, .f32⟩
  | 124 => ⟨S2048x768, .f32⟩
  | 125 => ⟨S2048x768, .f32⟩
  | 126 => ⟨S2048x768, .f32⟩
  | 127 => ⟨S_, .f32⟩
  | _ => ⟨S2048x2176, .f32⟩

abbrev hbmTy0_1 (i : Nat) : BufTy := match i % 128 with
  | 0 => ⟨S2048x768, .f32⟩
  | 1 => ⟨S2048x768, .f32⟩
  | 2 => ⟨S2048x768, .f32⟩
  | 3 => ⟨S2048x384, .f32⟩
  | 4 => ⟨S2048x384, .f32⟩
  | 5 => ⟨S2048x6x64, .f32⟩
  | 6 => ⟨S_, .f32⟩
  | 7 => ⟨S2048x6, .f32⟩
  | 8 => ⟨S2048x6x1, .f32⟩
  | 9 => ⟨S_, .f32⟩
  | 10 => ⟨S2048x6x1, .f32⟩
  | 11 => ⟨S2048x6x1, .f32⟩
  | 12 => ⟨S2048x6x64, .f32⟩
  | 13 => ⟨S2048x6x64, .f32⟩
  | 14 => ⟨S2048x6x64, .f32⟩
  | 15 => ⟨S_, .f32⟩
  | 16 => ⟨S2048x6, .f32⟩
  | 17 => ⟨S2048x6x1, .f32⟩
  | 18 => ⟨S_, .f32⟩
  | 19 => ⟨S2048x6x1, .f32⟩
  | 20 => ⟨S2048x6x1, .f32⟩
  | 21 => ⟨S2048x6x64, .f32⟩
  | 22 => ⟨S2048x6x64, .f32⟩
  | 23 => ⟨S_, .f32⟩
  | 24 => ⟨S2048x6x1, .f32⟩
  | 25 => ⟨S2048x6x1, .f32⟩
  | 26 => ⟨S2048x6x1, .f32⟩
  | 27 => ⟨S2048x6x64, .f32⟩
  | 28 => ⟨S2048x6x64, .f32⟩
  | 29 => ⟨S6x64, .f32⟩
  | 30 => ⟨S1x6x64, .f32⟩
  | 31 => ⟨S2048x6x64, .f32⟩
  | 32 => ⟨S2048x6x64, .f32⟩
  | 33 => ⟨S16x128x6x64, .f32⟩
  | 34 => ⟨S_, .f32⟩
  | 35 => ⟨S128x128, .f32⟩
  | 36 => ⟨S128x128, .i32⟩
  | 37 => ⟨S_, .i32⟩
  | 38 => ⟨S128x128, .i32⟩
  | 39 => ⟨S128x128, .i32⟩
  | 40 => ⟨S128x128, .i32⟩
  | 41 => ⟨S128x128, .i1⟩
  | 42 => ⟨S_, .f32⟩
  | 43 => ⟨S128x128, .f32⟩
  | 44 => ⟨S128x128, .f32⟩
  | 45 => ⟨S1x128x128, .f32⟩
  | 46 => ⟨S6x128x128, .f32⟩
  | 47 => ⟨S6x128x128, .f32⟩
  | 48 => ⟨S6x16x64x128, .f32⟩
  | 49 => ⟨S16x128x6x64, .f32⟩
  | 50 => ⟨S128x6, .f32⟩
  | 51 => ⟨S1x128x6x1, .f32⟩
  | 52 => ⟨S16x128x6x64, .f32⟩
  | 53 => ⟨S16x128x6x64, .f32⟩
  | 54 => ⟨S2048x384, .f32⟩
  | 55 => ⟨S2048x384, .f32⟩
  | 56 => ⟨S2048x384, .bf16⟩
  | 57 => ⟨S2048x256, .bf16⟩
  | 58 => ⟨S2048x384, .bf16⟩
  | 59 => ⟨S2048x1024, .bf16⟩
  | _ => ⟨S2048x2176, .f32⟩

abbrev hbmTy (i : Nat) : BufTy := match i / 128 with
  | 0 => hbmTy0_0 i
  | 1 => hbmTy0_1 i
  | _ => ⟨S2048x2176, .f32⟩

abbrev bufTy : (tb : Table) → Fin (tcTables nBuf tb) → BufTy
  | .hbm, ⟨i, _⟩ => hbmTy i
  | _, _ => ⟨S2048x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_call0_call0_cst : Ref sig .tc := ⟨.hbm, 40, rfl⟩
abbrev main_call0_call0_v0 : Ref sig .tc := ⟨.hbm, 41, rfl⟩
abbrev main_v32 : Ref sig .tc := ⟨.hbm, 42, rfl⟩
abbrev main_v33 : Ref sig .tc := ⟨.hbm, 43, rfl⟩
abbrev main_cst_0 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_1 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_2 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_3 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_cst_4 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_5 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_cst_6 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_cst_7 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_8 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_cst_9 : Ref sig .tc := ⟨.hbm, 119, rfl⟩
abbrev main_v100 : Ref sig .tc := ⟨.hbm, 120, rfl⟩
abbrev main_v101 : Ref sig .tc := ⟨.hbm, 121, rfl⟩
abbrev main_cst_10 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_cst_11 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_cst_12 : Ref sig .tc := ⟨.hbm, 134, rfl⟩
abbrev main_v112 : Ref sig .tc := ⟨.hbm, 135, rfl⟩
abbrev main_v113 : Ref sig .tc := ⟨.hbm, 136, rfl⟩
abbrev main_cst_13 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_cst_14 : Ref sig .tc := ⟨.hbm, 143, rfl⟩
abbrev main_v119 : Ref sig .tc := ⟨.hbm, 144, rfl⟩
abbrev main_v120 : Ref sig .tc := ⟨.hbm, 145, rfl⟩
abbrev main_cst_15 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_cst_16 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_cst_17 : Ref sig .tc := ⟨.hbm, 162, rfl⟩
abbrev main_v135 : Ref sig .tc := ⟨.hbm, 163, rfl⟩
abbrev main_call1_v0 : Ref sig .tc := ⟨.hbm, 164, rfl⟩
abbrev main_call1_c : Ref sig .tc := ⟨.hbm, 165, rfl⟩
abbrev main_call1_v1 : Ref sig .tc := ⟨.hbm, 166, rfl⟩
abbrev main_call1_v2 : Ref sig .tc := ⟨.hbm, 167, rfl⟩
abbrev main_call1_v3 : Ref sig .tc := ⟨.hbm, 168, rfl⟩
abbrev main_call1_v4 : Ref sig .tc := ⟨.hbm, 169, rfl⟩
abbrev main_call1_cst : Ref sig .tc := ⟨.hbm, 170, rfl⟩
abbrev main_call1_v5 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩

abbrev nD : Nat := 1
abbrev τ : Topo := Topo.v7x

variable {F : FTy → Type} [FloatOps F]
-- ==== KernelDx.lean ====
abbrev S2048x1024 : Shape := ⟨2, ![2048, 1024]⟩
abbrev S1024x2176 : Shape := ⟨2, ![1024, 2176]⟩
abbrev S2048x2176 : Shape := ⟨2, ![2048, 2176]⟩
abbrev S2176x1024 : Shape := ⟨2, ![2176, 1024]⟩
abbrev S512x2176 : Shape := ⟨2, ![512, 2176]⟩
abbrev S512x1024 : Shape := ⟨2, ![512, 1024]⟩
abbrev S256x2176 : Shape := ⟨2, ![256, 2176]⟩
abbrev S256x1024 : Shape := ⟨2, ![256, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x2176, .f32⟩
  | .hbm, ⟨2, _⟩ => ⟨S2048x1024, .f32⟩
  | .hbm, ⟨3, _⟩ => ⟨S2048x2176, .f32⟩
  | .hbm, ⟨4, _⟩ => ⟨S2048x2176, .bf16⟩
  | .hbm, ⟨5, _⟩ => ⟨S2176x1024, .f32⟩
  | .hbm, ⟨6, _⟩ => ⟨S2176x1024, .bf16⟩
  | .hbm, ⟨7, _⟩ => ⟨S2048x1024, .f32⟩
  | .local _ .vmem, ⟨0, _⟩ => ⟨S512x2176, .bf16⟩
  | .local _ .vmem, ⟨1, _⟩ => ⟨S512x2176, .bf16⟩
  | .local _ .vmem, ⟨2, _⟩ => ⟨S2176x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceDxIdeal.lean ====
abbrev S2048x1024 : Shape := ⟨2, ![2048, 1024]⟩
abbrev S1024x2176 : Shape := ⟨2, ![1024, 2176]⟩
abbrev S2048x2176 : Shape := ⟨2, ![2048, 2176]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2176, .f32⟩
  | .hbm, ⟨2, _⟩ => ⟨S2048x1024, .f32⟩
  | .hbm, ⟨3, _⟩ => ⟨S2048x2176, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x2176, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]
-- ==== KernelDd.lean ====
abbrev S2048x2816 : Shape := ⟨2, ![2048, 2816]⟩
abbrev S2816x1024 : Shape := ⟨2, ![2816, 1024]⟩
abbrev S2048x1024 : Shape := ⟨2, ![2048, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 6
  | .vmem => 6
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x2816, .bf16⟩
  | .hbm, ⟨4, _⟩ => ⟨S2048x1024, .bf16⟩
  | .hbm, ⟨5, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .bf16⟩
  | .local _ .vmem, ⟨5, _⟩ => ⟨S1408x512, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceDdIdeal.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | .hbm, ⟨3, _⟩ => ⟨S2048x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KernelDg.lean ====
abbrev S2048x1024 : Shape := ⟨2, ![2048, 1024]⟩
abbrev S1024x5632 : Shape := ⟨2, ![1024, 5632]⟩
abbrev S2048x2816 : Shape := ⟨2, ![2048, 2816]⟩
abbrev S5632x1024 : Shape := ⟨2, ![5632, 1024]⟩
abbrev S2048x1408 : Shape := ⟨2, ![2048, 1408]⟩
abbrev S1408x1024 : Shape := ⟨2, ![1408, 1024]⟩

abbrev nBuf : Space → Nat
  | .hbm => 8
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x2816, .f32⟩
  | .hbm, ⟨3, _⟩ => ⟨S2048x2816, .f32⟩
  | .hbm, ⟨4, _⟩ => ⟨S2048x2816, .bf16⟩
  | .hbm, ⟨5, _⟩ => ⟨S2048x2816, .bf16⟩
  | .hbm, ⟨6, _⟩ => ⟨S2048x1024, .bf16⟩
  | .hbm, ⟨7, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1024, .bf16⟩
  | .local _ .vmem, ⟨5, _⟩ => ⟨S1408x1024, .bf16⟩
  | .local _ .vmem, ⟨6, _⟩ => ⟨S1408x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c2_i32_0 : BitVec 32 := 2#32
  let v3 : BitVec 1 := Scalar.cmpi .sge arg0 c2_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceDgIdeal.lean ====
abbrev S2048x1024 : Shape := ⟨2, ![2048, 1024]⟩
abbrev S1024x5632 : Shape := ⟨2, ![1024, 5632]⟩
abbrev S2048x2816 : Shape := ⟨2, ![2048, 2816]⟩
abbrev S2048x5632 : Shape := ⟨2, ![2048, 5632]⟩
abbrev S_ : Shape := ⟨0, ![]⟩
abbrev S5632x1024 : Shape := ⟨2, ![5632, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x5632, .f32⟩
  | .hbm, ⟨2, _⟩ => ⟨S2048x2816, .f32⟩
  | .hbm, ⟨3, _⟩ => ⟨S2048x2816, .f32⟩
  | .hbm, ⟨4, _⟩ => ⟨S2048x5632, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x5632, .f32⟩
  | .hbm, ⟨9, _⟩ => ⟨S_, .f32⟩
  | .hbm, ⟨10, _⟩ => ⟨S2048x5632, .f32⟩
  | .hbm, ⟨11, _⟩ => ⟨S2048x5632, .f32⟩
  | .hbm, ⟨12, _⟩ => ⟨S5632x1024, .f32⟩
  | .hbm, ⟨13, _⟩ => ⟨S1024x5632, .f32⟩
  | .hbm, ⟨14, _⟩ => ⟨S5632x1024, .f32⟩
  | .hbm, ⟨15, _⟩ => ⟨S5632x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]
-- ==== KernelAd.lean ====
abbrev S4x704x1024 : Shape := ⟨3, ![4, 704, 1024]⟩
abbrev S1x352x1024 : Shape := ⟨3, ![1, 352, 1024]⟩
abbrev S352x1024 : Shape := ⟨2, ![352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S4x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceAdIdeal.lean ====
abbrev S4x704x1024 : Shape := ⟨3, ![4, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x704x1024, .f32⟩
  | .hbm, ⟨1, _⟩ => ⟨S4x704x1024, .f32⟩
  | .hbm, ⟨2, _⟩ => ⟨S4x704x1024, .f32⟩
  | .hbm, ⟨3, _⟩ => ⟨S4x704x1024, .f32⟩
  | .hbm, ⟨4, _⟩ => ⟨S_, .f32⟩
  | .hbm, ⟨5, _⟩ => ⟨S4x704x1024, .f32⟩
  | .hbm, ⟨6, _⟩ => ⟨S4x704x1024, .f32⟩
  | .hbm, ⟨7, _⟩ => ⟨S_, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S_, .f32⟩
  | .hbm, ⟨12, _⟩ => ⟨S4x704x1024, .f32⟩
  | .hbm, ⟨13, _⟩ => ⟨S4x704x1024, .f32⟩
  | .hbm, ⟨14, _⟩ => ⟨S4x704x1024, .f32⟩
  | .hbm, ⟨15, _⟩ => ⟨S_, .f32⟩
  | .hbm, ⟨16, _⟩ => ⟨S4x704x1024, .f32⟩
  | .hbm, ⟨17, _⟩ => ⟨S4x704x1024, .f32⟩
  | .hbm, ⟨18, _⟩ => ⟨S4x704x1024, .f32⟩
  | .hbm, ⟨19, _⟩ => ⟨S_, .f32⟩
  | .hbm, ⟨20, _⟩ => ⟨S4x704x1024, .f32⟩
  | .hbm, ⟨21, _⟩ => ⟨S4x704x1024, .f32⟩
  | .hbm, ⟨22, _⟩ => ⟨S_, .f32⟩
  | .hbm, ⟨23, _⟩ => ⟨S4x704x1024, .f32⟩
  | .hbm, ⟨24, _⟩ => ⟨S4x704x1024, .f32⟩
  | .hbm, ⟨25, _⟩ => ⟨S4x704x1024, .f32⟩
  | .hbm, ⟨26, _⟩ => ⟨S_, .f32⟩
  | .hbm, ⟨27, _⟩ => ⟨S4x704x1024, .f32⟩
  | .hbm, ⟨28, _⟩ => ⟨S4x704x1024, .f32⟩
  | .hbm, ⟨29, _⟩ => ⟨S4x704x1024, .f32⟩
  | .hbm, ⟨30, _⟩ => ⟨S_, .f32⟩
  | .hbm, ⟨31, _⟩ => ⟨S4x704x1024, .f32⟩
  | .hbm, ⟨32, _⟩ => ⟨S4x704x1024, .f32⟩
  | .hbm, ⟨33, _⟩ => ⟨S4x704x1024, .f32⟩
  | .hbm, ⟨34, _⟩ => ⟨S_, .f32⟩
  | .hbm, ⟨35, _⟩ => ⟨S4x704x1024, .f32⟩
  | .hbm, ⟨36, _⟩ => ⟨S4x704x1024, .f32⟩
  | _, _ => ⟨S4x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.Ff.Blocks.lean ====
/- What the two feed-forward calls leave in their output arrays, as functions of the arrays that they are entered with. -/
module

public import proofs.«01_k».proof.Proof.Gen.KernelFfIdeal.Frame
public import Idealize.ShloMosaic.Lib.Pipeline.ValueKit

@[expose] public section

set_option maxRecDepth 16384

noncomputable section

namespace Cert.KernelFfIdeal.Hand

open Idealize.ShloMosaic Idealize.ShloMosaic.TcCoe Idealize.SL.Sem
open Idealize.ShloMosaic.Pipeline (Dat)
open Cert.KernelFfIdeal.Gen

/-- The pre-activation of the gate: row `i 0` of `h` against row `i 1` of the transposed weights. -/
def gateOf (h : FVec Ideal S2048x1024 .bf16) (w : FVec Ideal S5632x1024 .bf16) (i : S2048x2816.Idx) : EReal :=
  ∑ k : Fin 1024, h (ix2 (⟨(i 0).val, (i 0).isLt⟩ : Fin 2048) k) * w (ix2 (⟨(i 1).val, Nat.lt_of_lt_of_le (i 1).isLt (by decide)⟩ : Fin 5632) k)

/-- The linear half: the same row of `h` against the weights' rows from 2816 on. -/
def upOf (h : FVec Ideal S2048x1024 .bf16) (w : FVec Ideal S5632x1024 .bf16) (i : S2048x2816.Idx) : EReal :=
  ∑ k : Fin 1024, h (ix2 (⟨(i 0).val, (i 0).isLt⟩ : Fin 2048) k) * w (ix2 (⟨(i 1).val + 2816, by have := (i 1).isLt; have e : S2048x2816.size 1 = 2816 := rfl; omega⟩ : Fin 5632) k)

/-- The cotangent of the activation: row `i 0` of the residual's cotangent against row `i 1` of the down weights. -/
def dactOf (dr : FVec Ideal S2048x1024 .bf16) (w : FVec Ideal S2816x1024 .bf16) (i : S2048x2816.Idx) : EReal :=
  ∑ k : Fin 1024, dr (ix2 (⟨(i 0).val, (i 0).isLt⟩ : Fin 2048) k) * w (ix2 (⟨(i 1).val, (i 1).isLt⟩ : Fin 2816) k)

/-- The gate's cotangent, from the activation's and the two saved halves. -/
def dgateOf (da : S2048x2816.Idx → EReal) (g u : FVec Ideal S2048x2816 .bf16) (i : S2048x2816.Idx) : EReal :=
  da i * u i * (Ideal.logistic (g i) * (1 + g i * (1 - Ideal.logistic (g i))))

/-- The linear half's cotangent, from the activation's and the saved gate. -/
def dupOf (da : S2048x2816.Idx → EReal) (g : FVec Ideal S2048x2816 .bf16) (i : S2048x2816.Idx) : EReal :=
  da i * (g i * Ideal.logistic (g i))

/-- The windows' block indices at every point of the forward call. -/
theorem idx0 : ∀ t : Fin cfg0.N, win0_0.index t = ![0, 0] ∧ win0_1.index t = ![t.val, 0] ∧ win0_2.index t = ![t.val + 11, 0]
    ∧ win0_3.index t = ![0, t.val] ∧ win0_4.index t = ![0, t.val] ∧ win0_5.index t = ![0, t.val] :=
  (by decide +kernel : ∀ t : Fin grid0.N, _)

/-- The windows' block indices at every point of the backward call. -/
theorem idx1 : ∀ t : Fin cfg1.N, win1_0.index t = ![0, 0] ∧ win1_1.index t = ![t.val, 0] ∧ win1_2.index t = ![0, t.val]
    ∧ win1_3.index t = ![0, t.val] ∧ win1_4.index t = ![0, t.val] ∧ win1_5.index t = ![0, t.val] :=
  (by decide +kernel : ∀ t : Fin grid1.N, _)

variable (V : (c : Dev nD) → (b : Ref sig .tc) → Buf (Elt Ideal) ((c : Thread nD τ).loc b))

/-- The forward call leaves the gate's pre-activation in its first result. -/
theorem final0_3 (c : Dev nD) : (dat0 V c).arrAt 3 cfg0.N = gateOf (V c main_v0) (V c main_v2) := by
  refine (dat0 V c).arrAt_eq_of_covers 3 _ (by decide +kernel) fun t _ y => ?_
  blk_simp
  rw [after0_3]; frame_out
  pointwise [k0_pay4, k0_pay2, k0_pay1, gateOf]
  blk_point [iblk0, idx0 t]

/-- The forward call leaves the linear half in its second result. -/
theorem final0_4 (c : Dev nD) : (dat0 V c).arrAt 4 cfg0.N = upOf (V c main_v0) (V c main_v2) := by
  refine (dat0 V c).arrAt_eq_of_covers 4 _ (by decide +kernel) fun t _ y => ?_
  blk_simp
  rw [after0_4]; frame_out
  pointwise [k0_pay5, k0_pay3, k0_pay1, upOf]
  blk_point [iblk0, idx0 t]

/-- The forward call leaves the gated activation in its third result. -/
theorem final0_5 (c : Dev nD) : (dat0 V c).arrAt 5 cfg0.N = fun i =>
    gateOf (V c main_v0) (V c main_v2) i * Ideal.logistic (gateOf (V c main_v0) (V c main_v2) i) * upOf (V c main_v0) (V c main_v2) i := by
  refine (dat0 V c).arrAt_eq_of_covers 5 _ (by decide +kernel) fun t _ y => ?_
  blk_simp
  rw [after0_5]; frame_out
  pointwise [k0_pay6, k0_pay3, k0_pay2, k0_pay1, upOf, gateOf]
  blk_point [iblk0, idx0 t]

/-- The backward call leaves the gate's cotangent in its first result. -/
theorem final1_4 (c : Dev nD) : (dat1 V c).arrAt 4 cfg1.N = dgateOf (dactOf (V c main_v4) (V c main_v5)) (V c main_v3_0) (V c main_v3_1) := by
  refine (dat1 V c).arrAt_eq_of_covers 4 _ (by decide +kernel) fun t _ y => ?_
  blk_simp
  rw [after1_4]; frame_out
  pointwise [k1_pay5, k1_pay3, k1_pay2, k1_pay1, dactOf, dgateOf]
  blk_point [iblk1, idx1 t]

/-- The backward call leaves the linear half's cotangent in its second result. -/
theorem final1_5 (c : Dev nD) : (dat1 V c).arrAt 5 cfg1.N = dupOf (dactOf (V c main_v4) (V c main_v5)) (V c main_v3_0) := by
  refine (dat1 V c).arrAt_eq_of_covers 5 _ (by decide +kernel) fun t _ y => ?_
  blk_simp
  rw [after1_5]; frame_out
  pointwise [k1_pay4, k1_pay3, k1_pay2, k1_pay1, dactOf, dupOf]
  blk_point [iblk1, idx1 t]

end Cert.KernelFfIdeal.Hand

end
-- ==== Proof.Ff.Run.lean ====
/- The feed-forward pair's run: what every buffer of the device holds when both calls have returned. -/
module

public import proofs.«01_k».proof.Proof.Gen.KernelFfIdeal.Frame

@[expose] public section

set_option maxRecDepth 16384

noncomputable section

namespace Cert.KernelFfIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelFfIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The program ends with every buffer of every device at the contents that the last boundary names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => h c)

end Cert.KernelFfIdeal.Hand

end
-- ==== Proof.Ff.Arrays.lean ====
/- The feed-forward pair's results as functions of the program's arguments. -/
module

public import proofs.«01_k».proof.Proof.Ff.Blocks
public import proofs.«01_k».proof.Proof.Ff.Run

@[expose] public section

set_option maxRecDepth 16384

noncomputable section

namespace Cert.KernelFfIdeal.Hand

open Idealize.ShloMosaic Idealize.ShloMosaic.TcCoe Idealize.SL.Sem
open Idealize.ShloMosaic.Pipeline (Dat)
open Cert.KernelFfIdeal.Gen

variable (m : (ℓ : Loc nD τ sig) → Buf (Elt Ideal) ℓ) (ρ : Dev nD → PrngReg) (c : Dev nD)

/-- The gate and up weights as the call takes them: one row per output column. -/
abbrev wT : FVec Ideal S5632x1024 .bf16 :=
  truncf .bf16 (transpose S5632x1024 [1, 0] (m ((c : Thread nD τ).loc main_arg1)) transposes_S1024x5632_S5632x1024_1_0) bitsLt_bf16_f32

theorem V1_v0 : V1 m ρ c main_v0 = m ((c : Thread nD τ).loc main_arg0) := by
  show StableHlo.after hostOps0 (W0 m ρ c) _ = _
  after_results
  rfl

theorem V1_v2 : V1 m ρ c main_v2 = wT m c := by
  show StableHlo.after hostOps0 (W0 m ρ c) _ = _
  after_results

/-- The saved gate, the saved linear half, and the activation. -/
theorem V2_v3_0 : V2 m ρ c main_v3_0 = gateOf (m ((c : Thread nD τ).loc main_arg0)) (wT m c) :=
  (W2_arr m ρ c 3).trans ((final0_3 (V1 m ρ) c).trans (by rw [V1_v0, V1_v2]))

theorem V2_v3_1 : V2 m ρ c main_v3_1 = upOf (m ((c : Thread nD τ).loc main_arg0)) (wT m c) :=
  (W2_arr m ρ c 4).trans ((final0_4 (V1 m ρ) c).trans (by rw [V1_v0, V1_v2]))

theorem V3_v4 : V3 m ρ c main_v4 = m ((c : Thread nD τ).loc main_arg3) := by
  show StableHlo.after hostOps1 (W2 m ρ c) _ = _
  after_results
  exact W2_args m ρ c main_arg3 (by decide)

theorem V3_v5 : V3 m ρ c main_v5 = m ((c : Thread nD τ).loc main_arg2) := by
  show StableHlo.after hostOps1 (W2 m ρ c) _ = _
  after_results
  exact W2_args m ρ c main_arg2 (by decide)

theorem V3_v3_0 : V3 m ρ c main_v3_0 = gateOf (m ((c : Thread nD τ).loc main_arg0)) (wT m c) :=
  (W3_of m ρ c main_v3_0 (by decide)).trans (V2_v3_0 m ρ c)

theorem V3_v3_1 : V3 m ρ c main_v3_1 = upOf (m ((c : Thread nD τ).loc main_arg0)) (wT m c) :=
  (W3_of m ρ c main_v3_1 (by decide)).trans (V2_v3_1 m ρ c)

/-- The activation at the program's end. -/
theorem end_act : W4 m ρ c (Proc.devRef .tc main_v3_2) = fun i =>
    gateOf (m ((c : Thread nD τ).loc main_arg0)) (wT m c) i * Ideal.logistic (gateOf (m ((c : Thread nD τ).loc main_arg0)) (wT m c) i)
      * upOf (m ((c : Thread nD τ).loc main_arg0)) (wT m c) i :=
  (W4_of m ρ c main_v3_2 (by decide)).trans ((W3_of m ρ c main_v3_2 (by decide)).trans
    ((W2_arr m ρ c 5).trans ((final0_5 (V1 m ρ) c).trans (by rw [V1_v0, V1_v2]))))

/-- The gate's cotangent at the program's end. -/
theorem end_dg : W4 m ρ c (Proc.devRef .tc main_v6_0) =
    dgateOf (dactOf (m ((c : Thread nD τ).loc main_arg3)) (m ((c : Thread nD τ).loc main_arg2)))
      (gateOf (m ((c : Thread nD τ).loc main_arg0)) (wT m c)) (upOf (m ((c : Thread nD τ).loc main_arg0)) (wT m c)) :=
  (W4_arr m ρ c 4).trans ((final1_4 (V3 m ρ) c).trans (by rw [V3_v4, V3_v5, V3_v3_0, V3_v3_1]))

/-- The linear half's cotangent at the program's end. -/
theorem end_du : W4 m ρ c (Proc.devRef .tc main_v6_1) =
    dupOf (dactOf (m ((c : Thread nD τ).loc main_arg3)) (m ((c : Thread nD τ).loc main_arg2)))
      (gateOf (m ((c : Thread nD τ).loc main_arg0)) (wT m c)) :=
  (W4_arr m ρ c 5).trans ((final1_5 (V3 m ρ) c).trans (by rw [V3_v4, V3_v5, V3_v3_0]))

end Cert.KernelFfIdeal.Hand

end
-- ==== Proof.Common.Reals.lean ====
/- Arrays of finite numbers: from the stated precondition to real-valued arrays, and sums of real numbers. -/
module

public import Idealize.ShloMosaic.Lib.ReduceAll
public import Idealize.ShloMosaic.Lib.Pointwise
public import Idealize.ShloMosaic.PureOps.Ideal.Laws
public import Idealize.ShloMosaic.Lib.IdealHost

@[expose] public section

noncomputable section

namespace Cert.Common

open Idealize.ShloMosaic

/-- The bit pattern of the f32 infinity is the top of the extended reals. -/
theorem inf_f32 : Ideal.ofBits .f32 0x7F800000#32 = ⊤ := by
  simp [Ideal.ofBits, Ideal.ieee]

/-- A number whose absolute value is below the infinity is real. -/
theorem real_of_abs_lt (x : EReal) (h : Ideal.cmp .olt (max x (-x)) ⊤ = 1#1) : ∃ r : ℝ, x = (r : EReal) := by
  have hlt : max x (-x) < ⊤ := by
    by_contra hn
    simp [Ideal.cmp, hn] at h
  induction x with
  | bot => simp at hlt
  | top => simp at hlt
  | coe r => exact ⟨r, rfl⟩

/-- An array all of whose entries pass the finiteness test is an array of reals. -/
theorem reals_of_all {s : Shape} {axes : List (Fin s.rank)} (x : FVec Ideal s .f32) (hb : (⟨0, ![]⟩ : Shape).BroadcastsInDim s ![])
    (hr : s.ReducesTo axes ⟨0, ![]⟩) (hu : 0 < (⟨0, ![]⟩ : Shape).numel) (j : (⟨0, ![]⟩ : Shape).Idx)
    (h : Host.reduce IntOp.andi (cmpf .olt (Host.absf x) (broadcastInDim s ![] hb (constant ⟨0, ![]⟩ .f32 0x7F800000#32)))
      (constantI ⟨0, ![]⟩ 1 1#1) hr hu j = 1#1) : ∃ X : s.Idx → ℝ, x = fun i => (X i : EReal) := by
  haveI : Subsingleton (⟨0, ![]⟩ : Shape).Idx := ⟨fun a b => funext fun k => k.elim0⟩
  have hx : ∀ i, ∃ r : ℝ, x i = (r : EReal) := fun i => by
    have := Host.reduce_andi_all _ _ hr hu j h i
    refine real_of_abs_lt (x i) ?_
    rw [← inf_f32]
    exact this
  choose X hX using hx
  exact ⟨X, funext hX⟩

/-- A finite sum of reals, taken in the extended reals, is the real sum. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- A sum of products of reals, taken in the extended reals, is the real sum of products. -/
theorem coe_sum_mul {ι : Type} (s : Finset ι) (f g : ι → ℝ) :
    ∑ k ∈ s, (f k : EReal) * (g k : EReal) = ((∑ k ∈ s, f k * g k : ℝ) : EReal) := by
  simp only [← EReal.coe_mul]
  exact coe_sum s _

end Cert.Common

end
-- ==== Proof.Ff.Equation.lean ====
/- The feed-forward pair against the derivative of the gated activation, at finite arguments. -/
module

public import proofs.«01_k».proof.Proof.Ff.Arrays
public import proofs.«01_k».proof.Proof.Common.Reals
public import proofs.«01_k».proof.Proof.Gen.ReferenceFfIdeal.Run
public import proofs.«01_k».proof.Proof.Gen.ReferenceFfIdeal.Read

@[expose] public section

set_option maxRecDepth 16384

noncomputable section

namespace Cert.KernelFfIdeal.Hand

open Idealize.ShloMosaic Idealize.ShloMosaic.TcCoe Idealize.SL.Sem
open Cert.KernelFfIdeal.Gen
open Cert.ReferenceFfIdeal.Read Cert.Common

/-- The reference's pre-activation of the gate is the kernel's. -/
theorem ref_gate (x : FVec Ideal S2048x1024 .f32) (w : FVec Ideal S1024x5632 .f32) (i : S2048x2816.Idx) :
    val_main_v1 (F := Ideal) x w i
      = gateOf x (truncf .bf16 (transpose S5632x1024 [1, 0] w transposes_S1024x5632_S5632x1024_1_0) bitsLt_bf16_f32) i := by
  rw [val_main_v1_apply, val_main_v0_apply]
  unfold gateOf
  refine Finset.sum_congr rfl fun k _ => ?_
  pointwise
  blk_point

/-- The reference's linear half is the kernel's. -/
theorem ref_up (x : FVec Ideal S2048x1024 .f32) (w : FVec Ideal S1024x5632 .f32) (i : S2048x2816.Idx) :
    val_main_v2 (F := Ideal) x w i
      = upOf x (truncf .bf16 (transpose S5632x1024 [1, 0] w transposes_S1024x5632_S5632x1024_1_0) bitsLt_bf16_f32) i := by
  rw [val_main_v2_apply, val_main_v0_apply]
  unfold upOf
  refine Finset.sum_congr rfl fun k _ => ?_
  pointwise
  blk_point

/-- The reference's cotangent of the activation is the kernel's. -/
theorem ref_dact (w : FVec Ideal S2816x1024 .f32) (dr : FVec Ideal S2048x1024 .f32) (i : S2048x2816.Idx) :
    val_main_v6 (F := Ideal) w dr i = dactOf dr w i := by
  rw [val_main_v6_apply]
  unfold dactOf
  refine Finset.sum_congr rfl fun k _ => ?_
  blk_point

/-- The reference's sigmoid of the gate. -/
theorem ref_sig (x : FVec Ideal S2048x1024 .f32) (w : FVec Ideal S1024x5632 .f32) (i : S2048x2816.Idx) :
    val_main_v3_2 (F := Ideal) x w i = Ideal.logistic (val_main_v1 (F := Ideal) x w i) := by
  simp only [val_main_v3_2_apply, val_main_call0_v4_apply, val_main_call0_cst_0_apply, val_main_call0_v3_apply,
    val_main_call0_v2_apply, val_main_call0_cst_apply, val_main_call0_v1_apply, val_main_call0_v0_apply]
  simp only [Ideal.ofBits_def, Ideal.ofBits_one_f32, Ideal.hostDivf_def, Ideal.addf_def, Ideal.hostUnary_exp_def,
    Ideal.hostNegf_def, Ideal.negf_def]
  rfl

/-- On real numbers, the kernel's derivative of the gate is the reference's sum of two terms. -/
theorem gate_deriv (a g u : ℝ) :
    (a : EReal) * (u : EReal) * (Ideal.logistic g * (1 + (g : EReal) * (1 - Ideal.logistic g)))
      = (a : EReal) * (u : EReal) * Ideal.logistic g
        + (g : EReal) * ((a : EReal) * (u : EReal)) * (Ideal.logistic g * (1 - Ideal.logistic g)) := by
  rw [Ideal.logistic_coe]
  generalize (1 + Real.exp (-g))⁻¹ = s
  norm_cast
  ring

variable (x : FVec Ideal S2048x1024 .f32) (w : FVec Ideal S1024x5632 .f32) (wd : FVec Ideal S2816x1024 .f32)
  (dr : FVec Ideal S2048x1024 .f32)

/-- The transposed weights, as the call takes them. -/
abbrev wt : FVec Ideal S5632x1024 .bf16 :=
  truncf .bf16 (transpose S5632x1024 [1, 0] w transposes_S1024x5632_S5632x1024_1_0) bitsLt_bf16_f32

/-- The activation: the two programs compute the same products, with no condition on the arguments. -/
theorem act_eq : (fun i => gateOf x (wt w) i * Ideal.logistic (gateOf x (wt w) i) * upOf x (wt w) i)
    = val_main_v10 (F := Ideal) x w := by
  funext i
  rw [val_main_v10_apply, val_main_v4_apply, val_main_v3_0_apply, ref_sig, ref_gate, ref_up]
  rfl

/-- The linear half's cotangent: the same product in another order. -/
theorem du_eq : dupOf (dactOf dr wd) (gateOf x (wt w)) = val_main_v12 (F := Ideal) x w wd dr := by
  funext i
  rw [val_main_v12_apply, val_main_v7_apply, val_main_v3_0_apply, ref_sig, ref_gate, ref_dact]
  unfold dupOf
  simp only [Ideal.truncf_def, Ideal.mulf_def]
  exact mul_comm _ _

/-- The gate's cotangent, where the four arguments are finite. -/
theorem dg_eq (hx : ∃ X : S2048x1024.Idx → ℝ, x = fun i => (X i : EReal)) (hw : ∃ X : S1024x5632.Idx → ℝ, w = fun i => (X i : EReal))
    (hd : ∃ X : S2816x1024.Idx → ℝ, wd = fun i => (X i : EReal)) (hr : ∃ X : S2048x1024.Idx → ℝ, dr = fun i => (X i : EReal)) :
    dgateOf (dactOf dr wd) (gateOf x (wt w)) (upOf x (wt w)) = val_main_v11 (F := Ideal) x w wd dr := by
  obtain ⟨X, rfl⟩ := hx
  obtain ⟨Y, rfl⟩ := hw
  obtain ⟨Z, rfl⟩ := hd
  obtain ⟨R, rfl⟩ := hr
  funext i
  rw [val_main_v11_apply, val_main_v9_apply, val_main_call1_v1_apply, val_main_call1_v2_apply, val_main_call1_v0_apply,
    val_main_v8_apply, val_main_v3_1_apply, val_main_call0_v7_apply, val_main_call0_v6_apply, val_main_call0_cst_1_apply,
    ref_sig, ref_gate, ref_up, ref_dact]
  simp only [Ideal.truncf_def, Ideal.mulf_def, Ideal.addf_def, Ideal.subf_def, Ideal.ofBits_def, Ideal.ofBits_one_f32]
  have hg : ∃ r : ℝ, gateOf (fun i => (X i : EReal)) (wt fun i => (Y i : EReal)) i = (r : EReal) := ⟨_, coe_sum_mul _ _ fun k => Y _⟩
  have hu : ∃ r : ℝ, upOf (fun i => (X i : EReal)) (wt fun i => (Y i : EReal)) i = (r : EReal) := ⟨_, coe_sum_mul _ _ fun k => Y _⟩
  have ha : ∃ r : ℝ, dactOf (fun i => (R i : EReal)) (fun i => (Z i : EReal)) i = (r : EReal) := ⟨_, coe_sum_mul _ _ _⟩
  obtain ⟨g, hg⟩ := hg
  obtain ⟨u, hu⟩ := hu
  obtain ⟨a, ha⟩ := ha
  unfold dgateOf
  rw [hg, hu, ha]
  exact gate_deriv a g u

end Cert.KernelFfIdeal.Hand

end
-- ==== Proof.Ff.Claims.lean ====
/- The claims of the feed-forward pair. -/
module

public import proofs.«01_k».proof.Defs
public import proofs.«01_k».proof.Proof.Ff.Equation
public import proofs.«01_k».proof.Proof.Gen.KernelFf.Frame
public import proofs.«01_k».proof.Proof.Gen.Pre_finite_ff
public import Idealize.ShloMosaic.Lib.Claim

@[expose] public section

set_option maxRecDepth 16384

noncomputable section

namespace Cert.Ff

open Idealize.ShloMosaic Idealize.ShloMosaic.TcCoe Idealize.SL.Sem

/-- The reference runs, keeps its arguments and declares no semaphore. -/
theorem frame_reference : Cert.quiescent_ReferenceFfIdeal := fun m g _ =>
  (θ_run Cert.ReferenceFfIdeal.defs _ _).mono (fun r h => ⟨fun c => (h c).2.2.2, sem_eq_zero_of_no_sems (by decide) r.2⟩)
    (Cert.ReferenceFfIdeal.Value.run m g)

/-- The precondition says that each of the four argument arrays is an array of reals. -/
theorem reals (m : (ℓ : Loc Cert.KernelFfIdeal.nD Cert.KernelFfIdeal.τ Cert.KernelFfIdeal.sig) → Buf (Elt Ideal) ℓ)
    (h : Cert.Pre_KernelFfIdeal_finite_ff m) (c : Dev Cert.KernelFfIdeal.nD) :
    (∃ X : Cert.KernelFfIdeal.S2048x1024.Idx → ℝ, m ((c.tc : Thread Cert.KernelFfIdeal.nD Cert.KernelFfIdeal.τ).loc Cert.KernelFfIdeal.main_arg0) = fun i => (X i : EReal))
    ∧ (∃ X : Cert.KernelFfIdeal.S1024x5632.Idx → ℝ, m ((c.tc : Thread Cert.KernelFfIdeal.nD Cert.KernelFfIdeal.τ).loc Cert.KernelFfIdeal.main_arg1) = fun i => (X i : EReal))
    ∧ (∃ X : Cert.KernelFfIdeal.S2816x1024.Idx → ℝ, m ((c.tc : Thread Cert.KernelFfIdeal.nD Cert.KernelFfIdeal.τ).loc Cert.KernelFfIdeal.main_arg2) = fun i => (X i : EReal))
    ∧ (∃ X : Cert.KernelFfIdeal.S2048x1024.Idx → ℝ, m ((c.tc : Thread Cert.KernelFfIdeal.nD Cert.KernelFfIdeal.τ).loc Cert.KernelFfIdeal.main_arg3) = fun i => (X i : EReal)) := by
  have h0 := congrFun (h c) (fun k => k.elim0)
  obtain ⟨h1, hr⟩ := IntOp.andi_eq_one.1 h0
  obtain ⟨h2, hd⟩ := IntOp.andi_eq_one.1 h1
  obtain ⟨hx, hw⟩ := IntOp.andi_eq_one.1 h2
  exact ⟨Cert.Common.reals_of_all _ _ _ _ _ hx, Cert.Common.reals_of_all _ _ _ _ _ hw,
    Cert.Common.reals_of_all _ _ _ _ _ hd, Cert.Common.reals_of_all _ _ _ _ _ hr⟩

open Cert.KernelFfIdeal Cert.KernelFfIdeal.Gen Cert.KernelFfIdeal.Hand in
/-- Kernel and reference leave the same act, dgate and dup wherever the arguments are finite. -/
theorem value : Cert.algebraic_KernelFfIdeal_ReferenceFfIdeal_pre_finite_ff := by
  intro m g m' g' hpre hargs
  refine ⟨fun c => W4 m g c (Proc.devRef .tc main_v3_2), fun c => W4 m g c (Proc.devRef .tc main_v6_0),
    fun c => W4 m g c (Proc.devRef .tc main_v6_1), ?_, ?_⟩
  · refine (θ_run defs _ _).mono (fun r h c => ⟨h c _ (mem_uc main_v3_2 (by decide)), h c _ (mem_uc main_v6_0 (by decide)),
      h c _ (mem_uc main_v6_1 (by decide)), (h c _ (mem_uc main_arg0 (by decide))).trans (W4_main_arg0 m g c),
      (h c _ (mem_uc main_arg1 (by decide))).trans (W4_main_arg1 m g c), (h c _ (mem_uc main_arg2 (by decide))).trans (W4_main_arg2 m g c),
      (h c _ (mem_uc main_arg3 (by decide))).trans (W4_main_arg3 m g c)⟩) (run_all m g)
  · refine (θ_run Cert.ReferenceFfIdeal.defs _ _).mono (fun r h c => ?_) (Cert.ReferenceFfIdeal.Value.run m' g')
    obtain ⟨r0, r1, r2, a0, a1, a2, a3⟩ := h c
    obtain ⟨e0, e1, e2, e3⟩ := hargs c
    obtain ⟨f0, f1, f2, f3⟩ := reals m hpre c
    refine ⟨r0.trans ?_, r1.trans ?_, r2.trans ?_, a0, a1, a2, a3⟩
    · rw [e0, e1, Cert.ReferenceFfIdeal.Read.val_main_v10_eq]
      exact ((end_act m g c).trans (act_eq _ _)).symm
    · rw [e0, e1, e2, e3, Cert.ReferenceFfIdeal.Read.val_main_v11_eq]
      exact ((end_dg m g c).trans (dg_eq _ _ _ _ f0 f1 f2 f3)).symm
    · rw [e0, e1, e2, e3, Cert.ReferenceFfIdeal.Read.val_main_v12_eq]
      exact ((end_du m g c).trans (du_eq _ _ _ _)).symm

end Cert.Ff

end
-- ==== Proof.Mx.Spec.lean ====
/- The mixers' gradients as formulas over the real numbers. -/
module

public import proofs.«01_k».proof.Proof.Common.Reals

@[expose] public section

noncomputable section

namespace Cert.Mx.Spec

open Idealize.ShloMosaic

/-- The error function on the real numbers. -/
def erfR (r : ℝ) : ℝ := 2 / Real.sqrt Real.pi * ∫ t in (0 : ℝ)..r, Real.exp (-(t ^ 2))
/-- The exact GELU. -/
def gelu (x : ℝ) : ℝ := 1 / 2 * x * (1 + erfR (x * (Real.sqrt 2)⁻¹))
/-- The derivative of the exact GELU. -/
def geluD (x : ℝ) : ℝ := 1 / 2 * (1 + erfR (x * (Real.sqrt 2)⁻¹)) + x * (Real.exp (-(1 / 2) * x * x) * (Real.sqrt (2 * Real.pi))⁻¹)
/-- The constant added to a variance. -/
def eps : ℝ := 10995116 / 1099511627776

theorem eps_pos : 0 < eps := by unfold eps; norm_num

theorem erf_coe (r : ℝ) : Ideal.erf (r : EReal) = (erfR r : EReal) := rfl
theorem exp_coe (r : ℝ) : Ideal.exp (r : EReal) = (Real.exp r : EReal) := rfl
theorem rsqrt_coe (r : ℝ) (h : 0 < r) : Ideal.rsqrt (r : EReal) = ((Real.sqrt r)⁻¹ : ℝ) := by
  show (if r < 0 then _ else if r = 0 then _ else _) = _
  rw [if_neg (by linarith), if_neg (by linarith)]
theorem bits_half : Ideal.ofBits .f32 0x3F000000#32 = ((1 / 2 : ℝ) : EReal) := by
  simp [Ideal.ofBits, Ideal.ieee, -EReal.coe_mul]
  try rw [← EReal.coe_mul]
  try norm_num
theorem bits_mhalf : Ideal.ofBits .f32 0xBF000000#32 = ((-(1 / 2) : ℝ) : EReal) := by
  simp [Ideal.ofBits, Ideal.ieee, -EReal.coe_mul]
  try rw [← EReal.coe_mul]
  try norm_num
theorem bits_one : Ideal.ofBits .f32 0x3F800000#32 = ((1 : ℝ) : EReal) := by
  simp [Ideal.ofBits, Ideal.ieee, -EReal.coe_mul]
  try rw [← EReal.coe_mul]
  try norm_num
theorem bits_zero : Ideal.ofBits .f32 0x00000000#32 = ((0 : ℝ) : EReal) := by
  simp [Ideal.ofBits, Ideal.ieee, -EReal.coe_mul]
  try rw [← EReal.coe_mul]
  try norm_num
theorem bits_64th : Ideal.ofBits .f32 0x3C800000#32 = ((1 / 64 : ℝ) : EReal) := by
  simp [Ideal.ofBits, Ideal.ieee, -EReal.coe_mul]
  try rw [← EReal.coe_mul]
  try norm_num
theorem bits_eps : Ideal.ofBits .f32 0x3727C5AC#32 = (eps : EReal) := by
  unfold eps
  simp [Ideal.ofBits, Ideal.ieee, -EReal.coe_mul]
  try rw [← EReal.coe_mul]
  try norm_num
theorem bits_two : Ideal.ofBits .f32 0x40000000#32 = ((2 : ℝ) : EReal) := by
  simp [Ideal.ofBits, Ideal.ieee, -EReal.coe_mul]
  try rw [← EReal.coe_mul]
  try norm_num
theorem bits_four : Ideal.ofBits .f32 0x40800000#32 = ((4 : ℝ) : EReal) := by
  simp [Ideal.ofBits, Ideal.ieee, -EReal.coe_mul]
  try rw [← EReal.coe_mul]
  try norm_num
theorem bits_eight : Ideal.ofBits .f32 0x41000000#32 = ((8 : ℝ) : EReal) := by
  simp [Ideal.ofBits, Ideal.ieee, -EReal.coe_mul]
  try rw [← EReal.coe_mul]
  try norm_num
theorem bits_sixteen : Ideal.ofBits .f32 0x41800000#32 = ((16 : ℝ) : EReal) := by
  simp [Ideal.ofBits, Ideal.ieee, -EReal.coe_mul]
  try rw [← EReal.coe_mul]
  try norm_num
theorem bits_64 : Ideal.ofBits .f32 0x42800000#32 = ((64 : ℝ) : EReal) := by
  simp [Ideal.ofBits, Ideal.ieee, -EReal.coe_mul]
  try rw [← EReal.coe_mul]
  try norm_num

/-- A sum over an index type of sizes, as a sum over a range. -/
theorem sum_fin (n : ℕ) (f : ℕ → ℝ) : ∑ k : Fin n, f k.val = ∑ k ∈ Finset.range n, f k := Fin.sum_univ_eq_sum_range f n

/-- The half of 128 lanes that a lane is in, summed: what is outside it is left out. -/
theorem half_sum (l : ℕ) (hl : l < 128) (f : ℕ → ℝ) :
    (if l < 64 then ∑ k : Fin 128, (if k.val < 64 then f k.val else 0) else ∑ k : Fin 128, (if k.val < 64 then 0 else f k.val))
      = ∑ j ∈ Finset.range 64, f (64 * (l / 64) + j) := by
  rw [sum_fin 128 (fun k => if k < 64 then f k else 0), sum_fin 128 (fun k => if k < 64 then 0 else f k)]
  rw [show (128 : ℕ) = 64 + 64 from rfl, Finset.sum_range_add, Finset.sum_range_add]
  by_cases h : l < 64
  · rw [if_pos h, Nat.div_eq_of_lt h]
    rw [Finset.sum_congr rfl (g := fun j => f (64 * 0 + j)) (fun j hj => by rw [if_pos (Finset.mem_range.1 hj)]; simp)]
    rw [Finset.sum_eq_zero (s := Finset.range 64) (f := fun x => if 64 + x < 64 then f (64 + x) else 0) (fun j _ => if_neg (by omega))]
    simp
  · rw [if_neg h, show l / 64 = 1 by omega]
    rw [Finset.sum_eq_zero (s := Finset.range 64) (f := fun x => if x < 64 then 0 else f x) (fun j hj => if_pos (Finset.mem_range.1 hj)), zero_add]
    exact Finset.sum_congr rfl fun j _ => if_neg (by omega)

/-- The half of 128 lanes that a lane is in, summed, where the lanes are those of one block of a wider row. -/
theorem half_block (l q : ℕ) (hl : l < 128) (f : ℕ → ℝ) :
    (if l < 64 then ∑ k : Fin 128, (if k.val < 64 then f (128 * q + k.val) else 0) else ∑ k : Fin 128, (if k.val < 64 then 0 else f (128 * q + k.val)))
      = ∑ j ∈ Finset.range 64, f (64 * ((128 * q + l) / 64) + j) := by
  rw [half_sum l hl (fun k => f (128 * q + k))]
  refine Finset.sum_congr rfl fun j _ => congrArg f ?_
  omega

/-- What the mixers' backward pass takes, as real numbers: the projected columns, the incoming gradient, the gain of the
    normalisation, the mixing matrices, their biases, the pooling matrices and scales,
    and the taps of the convolution, which may be infinite. -/
structure Inp where
  P : ℕ → ℕ → ℝ
  D : ℕ → ℕ → ℝ
  G : ℕ → ℝ
  WS : ℕ → ℕ → ℕ → ℝ
  BS : ℕ → ℕ → ℝ
  WP : ℕ → ℕ → ℕ → ℝ
  PS : ℕ → ℝ
  WC : ℕ → ℕ → EReal

section Gate

variable (I : Inp)

def gu (r k : ℕ) : ℝ := gelu (I.P r (1408 + k))
def gv (r k : ℕ) : ℝ := gelu (I.P r (1792 + k))
/-- The mean over a head. -/
def mu (r h : ℕ) : ℝ := (∑ j ∈ Finset.range 64, gv I r (64 * h + j)) / 64
def cen (r k : ℕ) : ℝ := gv I r k - mu I r (k / 64)
def var (r h : ℕ) : ℝ := (∑ j ∈ Finset.range 64, cen I r (64 * h + j) * cen I r (64 * h + j)) / 64
def rs (r h : ℕ) : ℝ := (Real.sqrt (var I r h + eps))⁻¹
def vn (r k : ℕ) : ℝ := cen I r k * rs I r (k / 64)
def vh (r k : ℕ) : ℝ := vn I r k * I.G k
/-- The mixing matrix of a head, lower triangular. -/
def wm (h t s : ℕ) : ℝ := if s ≤ t then I.WS h t s else 0
def mixed (r k : ℕ) : ℝ := (∑ s ∈ Finset.range 128, wm I (k / 64) (r % 128) s * vh I (128 * (r / 128) + s) k) + I.BS (k / 64) (r % 128)
def dmx (r k : ℕ) : ℝ := I.D r (640 + k) * gu I r k
/-- The gradient of the gating columns. -/
def dup (r k : ℕ) : ℝ := I.D r (640 + k) * mixed I r k * geluD (I.P r (1408 + k))
/-- The gradient of the biases. -/
def dbs (h t : ℕ) : ℝ := ∑ n ∈ Finset.range 16, ∑ j ∈ Finset.range 64, dmx I (128 * n + t) (64 * h + j)
/-- The gradient of the mixing matrices. -/
def dws (h t s : ℕ) : ℝ := if s ≤ t then ∑ n ∈ Finset.range 16, ∑ j ∈ Finset.range 64, dmx I (128 * n + t) (64 * h + j) * vh I (128 * n + s) (64 * h + j) else 0
def dvh (r k : ℕ) : ℝ := ∑ t ∈ Finset.range 128, wm I (k / 64) t (r % 128) * dmx I (128 * (r / 128) + t) k
/-- The gradient of the gain. -/
def dgn (k : ℕ) : ℝ := ∑ r ∈ Finset.range 2048, dvh I r k * vn I r k
def dvn (r k : ℕ) : ℝ := dvh I r k * I.G k
def m1 (r h : ℕ) : ℝ := (∑ j ∈ Finset.range 64, dvn I r (64 * h + j)) / 64
def m2 (r h : ℕ) : ℝ := (∑ j ∈ Finset.range 64, dvn I r (64 * h + j) * vn I r (64 * h + j)) / 64
def dv (r k : ℕ) : ℝ := rs I r (k / 64) * ((dvn I r k - m1 I r (k / 64)) - vn I r k * m2 I r (k / 64))
/-- The gradient of the gated columns. -/
def dvp (r k : ℕ) : ℝ := dv I r k * geluD (I.P r (1792 + k))

theorem var_nonneg (r h : ℕ) : 0 ≤ var I r h := by
  unfold var
  exact div_nonneg (Finset.sum_nonneg fun j _ => mul_self_nonneg _) (by norm_num)

end Gate

theorem div_coe (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

section Pool

/-- The last `w` values up to a row, summed. -/
def back (w : ℕ) (f : ℕ → ℝ) (r : ℕ) : ℝ := ∑ j ∈ Finset.range w, if j ≤ r then f (r - j) else 0
/-- The next `w` values from a row on, summed, of 2048 rows. -/
def ahead (w : ℕ) (f : ℕ → ℝ) (r : ℕ) : ℝ := ∑ j ∈ Finset.range w, if r + j < 2048 then f (r + j) else 0

theorem back_one (f : ℕ → ℝ) (r : ℕ) : back 1 f r = f r := by simp [back]
theorem ahead_one (f : ℕ → ℝ) (r : ℕ) (hr : r < 2048) : ahead 1 f r = f r := by simp [ahead, hr]
theorem back_double (w : ℕ) (f : ℕ → ℝ) (r : ℕ) : back w f r + (if w ≤ r then back w f (r - w) else 0) = back (w + w) f r := by
  unfold back
  rw [Finset.sum_range_add]
  congr 1
  split
  · refine Finset.sum_congr rfl fun j _ => ?_
    by_cases h : j ≤ r - w
    · rw [if_pos h, if_pos (by omega), show r - w - j = r - (w + j) by omega]
    · rw [if_neg h, if_neg (by omega)]
  · exact (Finset.sum_eq_zero fun j _ => if_neg (by omega)).symm
theorem ahead_double (w : ℕ) (f : ℕ → ℝ) (r : ℕ) : ahead w f r + (if r + w < 2048 then ahead w f (r + w) else 0) = ahead (w + w) f r := by
  unfold ahead
  rw [Finset.sum_range_add]
  congr 1
  split
  · exact Finset.sum_congr rfl fun j _ => by rw [Nat.add_assoc]
  · exact (Finset.sum_eq_zero fun j _ => if_neg (by omega)).symm

variable (I : Inp)

/-- The window of a pooling column's group: 2, 4, 8 or 16 rows. -/
def wid (k : ℕ) : ℕ := 2 ^ (k / 64 + 1)
/-- How many rows a window holds at a row. -/
def cnt (r k : ℕ) : ℝ := min ((r : ℝ) + 1) (wid k : ℝ)
def pl (k r : ℕ) : ℝ := I.P r (1152 + k)
/-- A running mean less its own value. -/
def dev (r k : ℕ) : ℝ := back (wid k) (pl I k) r / cnt r k - pl I k r
def pmix (r k : ℕ) : ℝ := ∑ c ∈ Finset.range 64, dev I r (64 * (k / 64) + c) * I.WP (k / 64) c (k % 64)
/-- The gradient of the scales. -/
def dps (k : ℕ) : ℝ := ∑ r ∈ Finset.range 2048, I.D r (384 + k) * pmix I r k
def dyw (r k : ℕ) : ℝ := I.D r (384 + k) * I.PS k
/-- The gradient of the pooling matrices. -/
def dwp (g c e : ℕ) : ℝ := ∑ r ∈ Finset.range 2048, dev I r (64 * g + c) * dyw I r (64 * g + e)
def dd (r k : ℕ) : ℝ := ∑ e ∈ Finset.range 64, dyw I r (64 * (k / 64) + e) * I.WP (k / 64) (k % 64) e
/-- The gradient of the pooled columns. -/
def dpl (r k : ℕ) : ℝ := ahead (wid k) (fun r => dd I r k / cnt r k) r - dd I r k

theorem cnt_pos (r k : ℕ) : 0 < cnt r k := by
  unfold cnt wid
  have : (0 : ℝ) < ((2 ^ (k / 64 + 1) : ℕ) : ℝ) := by positivity
  exact lt_min (by positivity) this

end Pool

section Conv

variable (I : Inp)

/-- The convolution's input, and the same moved down by `w` rows. -/
def zz (r k : ℕ) : ℝ := I.P r (768 + k) * I.P r k
def zb (w r k : ℕ) : ℝ := if w ≤ r then zz I (r - w) k else 0
/-- The gradient of the convolution's output, and the same moved up by `w` rows. -/
def dy (r k : ℕ) : ℝ := I.D r k * I.P r (384 + k)
def da (w r k : ℕ) : ℝ := if r + w < 2048 then dy I (r + w) k else 0
def yc (r k : ℕ) : EReal := I.WC 0 k * (zb I 2 r k : EReal) + I.WC 1 k * (zb I 1 r k : EReal) + I.WC 2 k * (zz I r k : EReal)
def dz (r k : ℕ) : EReal := I.WC 2 k * (dy I r k : EReal) + I.WC 1 k * (da I 1 r k : EReal) + I.WC 0 k * (da I 2 r k : EReal)
/-- The gradients of the three columns the convolution reads. -/
def dxa (r k : ℕ) : EReal := dz I r k * (I.P r (768 + k) : EReal)
def dgb (r k : ℕ) : EReal := (I.D r k : EReal) * yc I r k
def dgc (r k : ℕ) : EReal := dz I r k * (I.P r k : EReal)
/-- The gradient of the taps. -/
def dwc (t k : ℕ) : ℝ := ∑ r ∈ Finset.range 2048, dy I r k * zb I (2 - t) r k

end Conv

end Cert.Mx.Spec

end
-- ==== Proof.Mx.RefHead.lean ====
/- The reference's gate, forward: the GELU, the normalisation over a head, and the mixing over 128 rows. -/
module

public import proofs.«01_k».proof.Proof.Mx.Spec
public import proofs.«01_k».proof.Proof.Gen.ReferenceMxIdeal.Read

@[expose] public section

set_option maxRecDepth 16384

noncomputable section

namespace Cert.Mx.Ref

open Cert.ReferenceMxIdeal Cert.ReferenceMxIdeal.Gen Cert.ReferenceMxIdeal.Read
open Idealize.ShloMosaic Idealize.ShloMosaic.TcCoe Idealize.ShloMosaic.Tactic
open Cert.Mx.Spec

theorem row3 (a b c : ℕ) (hb : b < 6) (hc : c < 64) : ((a * 6 + b) * 64 + c) / 384 = a := by omega
theorem col3 (a b c : ℕ) (hb : b < 6) (hc : c < 64) : ((a * 6 + b) * 64 + c) % 384 = 64 * b + c := by omega
theorem sqrt_coe' (r : ℝ) (h : 0 ≤ r) : Ideal.sqrt (r : EReal) = (Real.sqrt r : EReal) := by
  rw [Ideal.sqrt_coe, if_neg (by linarith)]

variable (I : Inp)
variable (x0 : (⟨S2048x2176, .f32⟩ : BufTy).Contents (Elt Ideal)) (hp : ∀ y, x0 y = (I.P (y 0).val (y 1).val : EReal))

section Gelu
include hp

theorem v10_val (y : S2048x768.Idx) : val_main_v10 (F := Ideal) x0 y = (I.P (y 0).val (1408 + (y 1).val) : EReal) := by
  rw [val_main_v10_apply, hp]
theorem v106_val (y : S2048x768.Idx) : val_main_v106 (F := Ideal) x0 y = ((1 / 2 * I.P (y 0).val (1408 + (y 1).val) : ℝ) : EReal) := by
  rw [val_main_v106_apply, v10_val I x0 hp, val_main_v105_apply]
  rw [show val_main_cst_14 (F := Ideal) _ = ((1 / 2 : ℝ) : EReal) from bits_half, Ideal.mulf_def, ← EReal.coe_mul]
omit hp in
theorem v107_val (i : S_.Idx) : val_main_v107 (F := Ideal) i = (Real.sqrt 2 : EReal) := by
  rw [val_main_v107_apply, Ideal.hostUnary_sqrt_def, show val_main_cst_15 (F := Ideal) i = ((2 : ℝ) : EReal) from bits_two]
  exact sqrt_coe' 2 (by norm_num)
theorem v109_val (y : S2048x768.Idx) : val_main_v109 (F := Ideal) x0 y = ((I.P (y 0).val (1408 + (y 1).val) * (Real.sqrt 2)⁻¹ : ℝ) : EReal) := by
  rw [val_main_v109_apply, v10_val I x0 hp, val_main_v108_apply, v107_val, Ideal.hostDivf_def, div_coe _ _ (by positivity), div_eq_mul_inv]
theorem v121_val (y : S2048x768.Idx) :
    val_main_v121 (F := Ideal) x0 y = ((1 + erfR (I.P (y 0).val (1408 + (y 1).val) * (Real.sqrt 2)⁻¹) : ℝ) : EReal) := by
  rw [val_main_v121_apply, val_main_v120_apply, val_main_v110_apply, v109_val I x0 hp, Ideal.hostUnary_erf_def, erf_coe]
  rw [show val_main_cst_19 (F := Ideal) _ = ((1 : ℝ) : EReal) from bits_one, Ideal.addf_def, ← EReal.coe_add]
theorem v122_val (y : S2048x768.Idx) : val_main_v122 (F := Ideal) x0 y = (gelu (I.P (y 0).val (1408 + (y 1).val)) : EReal) := by
  rw [val_main_v122_apply, v106_val I x0 hp, v121_val I x0 hp, Ideal.mulf_def, ← EReal.coe_mul]
  rfl
omit hp in
theorem v114_val (i : S_.Idx) : val_main_v114 (F := Ideal) i = ((2 / Real.sqrt Real.pi : ℝ) : EReal) := by
  rw [val_main_v114_apply, val_main_v113_apply, val_main_v112_apply, val_main_v111_apply]
  rw [show val_main_cst_16 (F := Ideal) i = ((1 : ℝ) : EReal) from bits_one, show val_main_cst_17 (F := Ideal) i = ((4 : ℝ) : EReal) from bits_four,
    show val_main_cst_18 (F := Ideal) i = ((2 : ℝ) : EReal) from bits_two]
  rw [Ideal.hostUnary_atan_def, show Ideal.atan ((1 : ℝ) : EReal) = (Real.arctan 1 : EReal) from rfl, Real.arctan_one, Ideal.mulf_def, ← EReal.coe_mul,
    show (4 : ℝ) * (Real.pi / 4) = Real.pi by ring, Ideal.hostUnary_sqrt_def, sqrt_coe' _ Real.pi_pos.le, Ideal.hostDivf_def,
    div_coe _ _ (Real.sqrt_pos.2 Real.pi_pos).ne']
theorem v119_val (y : S2048x768.Idx) : val_main_v119 (F := Ideal) x0 y
    = ((2 / Real.sqrt Real.pi * Real.exp (-(I.P (y 0).val (1408 + (y 1).val) * (Real.sqrt 2)⁻¹ * (I.P (y 0).val (1408 + (y 1).val) * (Real.sqrt 2)⁻¹))) : ℝ) : EReal) := by
  rw [val_main_v119_apply, val_main_v118_apply, v114_val, val_main_v117_apply, val_main_v116_apply, val_main_v115_apply, v109_val I x0 hp]
  simp only [Ideal.mulf_def, Ideal.hostNegf_def, Ideal.negf_def, Ideal.hostUnary_exp_def, ← EReal.coe_mul, ← EReal.coe_neg, exp_coe]

/-- The two ways to write the GELU's derivative times a gradient. -/
theorem geluD_eq (x d : ℝ) :
    2 / Real.sqrt Real.pi * Real.exp (-(x * (Real.sqrt 2)⁻¹ * (x * (Real.sqrt 2)⁻¹))) * (1 / 2 * x * d) / Real.sqrt 2
      + 1 / 2 * (d * (1 + erfR (x * (Real.sqrt 2)⁻¹))) = d * geluD x := by
  have h2 : (Real.sqrt 2)⁻¹ * (Real.sqrt 2)⁻¹ = 1 / 2 := by
    rw [← mul_inv, Real.mul_self_sqrt (by norm_num)]; norm_num
  have e : -(x * (Real.sqrt 2)⁻¹ * (x * (Real.sqrt 2)⁻¹)) = -(1 / 2) * x * x := by
    rw [show x * (Real.sqrt 2)⁻¹ * (x * (Real.sqrt 2)⁻¹) = x * x * ((Real.sqrt 2)⁻¹ * (Real.sqrt 2)⁻¹) by ring, h2]; ring
  rw [e]
  unfold geluD
  rw [Real.sqrt_mul (by norm_num : (0 : ℝ) ≤ 2), mul_inv, div_eq_mul_inv, div_eq_mul_inv]
  ring

end Gelu

section Head
include hp

theorem v123_val (y : S2048x384.Idx) : val_main_v123 (F := Ideal) x0 y = (gu I (y 0).val (y 1).val : EReal) := by
  rw [val_main_v123_apply, v122_val I x0 hp]; rfl
theorem v124_val (y : S2048x384.Idx) : val_main_v124 (F := Ideal) x0 y = (gv I (y 0).val (y 1).val : EReal) := by
  rw [val_main_v124_apply, v122_val I x0 hp]
  exact congrArg Real.toEReal (congrArg (fun n => gelu (I.P (y 0).val n)) (show 1408 + (384 + (y 1).val) = 1792 + (y 1).val by omega))
theorem v125_val (y : S2048x6x64.Idx) : val_main_v125 (F := Ideal) x0 y = (gv I (y 0).val (64 * (y 1).val + (y 2).val) : EReal) := by
  have h1 : (y 1).val < 6 := (y 1).isLt
  have h2 : (y 2).val < 64 := (y 2).isLt
  rw [val_main_v125_apply, v124_val I x0 hp]
  exact congrArg Real.toEReal (congrArg₂ (gv I) (row3 _ _ _ h1 h2) (col3 _ _ _ h1 h2))
theorem v126_val (y : S2048x6.Idx) : val_main_v126 (F := Ideal) x0 y = ((∑ j ∈ Finset.range 64, gv I (y 0).val (64 * (y 1).val + j) : ℝ) : EReal) := by
  rw [val_main_v126_apply, show val_main_cst_20 (F := Ideal) _ = ((0 : ℝ) : EReal) from bits_zero,
    Finset.sum_congr rfl (fun k _ => v125_val I x0 hp _), Cert.Common.coe_sum, ← EReal.coe_add, zero_add]
  exact congrArg Real.toEReal (sum_fin 64 (fun j => gv I (y 0).val (64 * (y 1).val + j)))
theorem v129_val (y : S2048x6x1.Idx) : val_main_v129 (F := Ideal) x0 y = (mu I (y 0).val (y 1).val : EReal) := by
  rw [val_main_v129_apply, val_main_v127_apply, v126_val I x0 hp, val_main_v128_apply,
    show val_main_cst_21 (F := Ideal) _ = ((64 : ℝ) : EReal) from bits_64, Ideal.hostDivf_def, div_coe _ _ (by norm_num)]
  rfl
omit hp in
theorem head (h j : ℕ) (hj : j < 64) : (64 * h + j) / 64 = h := by omega
theorem v131_val (y : S2048x6x64.Idx) : val_main_v131 (F := Ideal) x0 y = (cen I (y 0).val (64 * (y 1).val + (y 2).val) : EReal) := by
  have h2 : (y 2).val < 64 := (y 2).isLt
  rw [val_main_v131_apply, v125_val I x0 hp, val_main_v130_apply, v129_val I x0 hp, Ideal.subf_def, ← EReal.coe_sub]
  unfold cen
  rw [head _ _ h2]
theorem v140_val (y : S2048x6x64.Idx) : val_main_v140 (F := Ideal) x0 y = (cen I (y 0).val (64 * (y 1).val + (y 2).val) : EReal) := by
  have h2 : (y 2).val < 64 := (y 2).isLt
  rw [val_main_v140_apply, v125_val I x0 hp, val_main_v139_apply, v129_val I x0 hp, Ideal.subf_def, ← EReal.coe_sub]
  unfold cen
  rw [head _ _ h2]
theorem v134_val (y : S2048x6x64.Idx) : val_main_v134 (F := Ideal) x0 y = ((2 * cen I (y 0).val (64 * (y 1).val + (y 2).val) : ℝ) : EReal) := by
  rw [val_main_v134_apply, val_main_v133_apply, v131_val I x0 hp, show val_main_cst_22 (F := Ideal) _ = ((2 : ℝ) : EReal) from bits_two,
    Ideal.mulf_def, ← EReal.coe_mul]
theorem v138_val (y : S2048x6x1.Idx) : val_main_v138 (F := Ideal) x0 y = (var I (y 0).val (y 1).val : EReal) := by
  rw [val_main_v138_apply, val_main_v136_apply, val_main_v135_apply, val_main_v137_apply, show val_main_cst_23 (F := Ideal) _ = ((0 : ℝ) : EReal) from bits_zero,
    Finset.sum_congr rfl (g := fun k : Fin 64 => ((cen I (y 0).val (64 * (y 1).val + k.val) * cen I (y 0).val (64 * (y 1).val + k.val) : ℝ) : EReal))
      (fun k _ => by rw [val_main_v132_apply, v131_val I x0 hp, Ideal.mulf_def, ← EReal.coe_mul]),
    Cert.Common.coe_sum, ← EReal.coe_add, zero_add, show val_main_cst_24 (F := Ideal) _ = ((64 : ℝ) : EReal) from bits_64,
    Ideal.hostDivf_def, div_coe _ _ (by norm_num)]
  exact congrArg Real.toEReal (congrArg (· / 64) (sum_fin 64 (fun j => cen I (y 0).val (64 * (y 1).val + j) * cen I (y 0).val (64 * (y 1).val + j))))
theorem v142_val (y : S2048x6x1.Idx) : val_main_v142 (F := Ideal) x0 y = ((var I (y 0).val (y 1).val + eps : ℝ) : EReal) := by
  rw [val_main_v142_apply, v138_val I x0 hp, val_main_v141_apply, show val_main_cst_25 (F := Ideal) _ = ((eps : ℝ) : EReal) from bits_eps,
    Ideal.addf_def, ← EReal.coe_add]
omit hp in
theorem pos (r h : ℕ) : 0 < var I r h + eps := add_pos_of_nonneg_of_pos (var_nonneg I r h) eps_pos
theorem v143_val (y : S2048x6x1.Idx) : val_main_v143 (F := Ideal) x0 y = (rs I (y 0).val (y 1).val : EReal) := by
  rw [val_main_v143_apply, v142_val I x0 hp, Ideal.hostUnary_rsqrt_def, rsqrt_coe _ (pos I _ _)]
  rfl
theorem v148_val (y : S2048x6x64.Idx) : val_main_v148 (F := Ideal) x0 y = (vn I (y 0).val (64 * (y 1).val + (y 2).val) : EReal) := by
  have h2 : (y 2).val < 64 := (y 2).isLt
  rw [val_main_v148_apply, v140_val I x0 hp, val_main_v147_apply, v143_val I x0 hp, Ideal.mulf_def, ← EReal.coe_mul]
  unfold vn
  rw [head _ _ h2]

end Head

end Cert.Mx.Ref

end
-- ==== Proof.Mx.RefSums.lean ====
/- Sums that the mixers' reference is written with, read at an index. -/
module

public import proofs.«01_k».proof.Proof.Mx.Spec
public import Idealize.ShloMosaic.Lib.KernelVsHost
public import Idealize.ShloMosaic.Lib.Pipeline.Value
public import Idealize.ShloMosaic.Lib.ValueIdx
public import Idealize.ShloMosaic.Lib.Pointwise
public import Idealize.ShloMosaic.PureOps.Ideal.Laws

@[expose] public section

set_option maxRecDepth 16384

noncomputable section

namespace Cert.Mx.Ref

open Idealize.ShloMosaic Idealize.ShloMosaic.TcCoe Idealize.ShloMosaic.Tactic
open Cert.Mx.Spec

/-- A sum over the first and the last of four axes. -/
theorem sum03 {n0 n1 n2 n3 : ℕ} (h : (⟨4, ![n0, n1, n2, n3]⟩ : Shape).ReducesTo [0, 3] ⟨2, ![n1, n2]⟩)
    (x : (⟨4, ![n0, n1, n2, n3]⟩ : Shape).Idx → EReal) (init : EReal) (j : (⟨2, ![n1, n2]⟩ : Shape).Idx) :
    Ideal.hostReduceAdd h x init j = init + ∑ a : Fin n0, ∑ b : Fin n3, x (ix4 a (j 0) (j 1) b) := by
  unfold Ideal.hostReduceAdd
  congr 1
  refine (@Finset.sum_filter_eq_sum_of_fiber _ _ _ _ (Classical.decEq _) _ _ (fun i => h.drop i = j) _ (fun k : Fin n0 × Fin n3 => ix4 k.1 (j 0) (j 1) k.2)
    (fun _ _ e => Prod.ext (congrFun e 0) (congrFun e 3)) (fun i => ⟨fun e => ⟨(i 0, i 3), ?_⟩, ?_⟩) x).trans (by simp only [Fintype.sum_prod_type])
  · funext a
    apply Fin.ext
    match a with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    funext b
    apply Fin.ext
    match b with
    | ⟨0, _⟩ => rfl
    | ⟨1, _⟩ => rfl

theorem foldl_add {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- A sum over the positions of a window of one column. -/
theorem sum_column (n : ℕ) (g : Fin (⟨3, ![n, 1, 1]⟩ : Shape).numel → EReal) (f : Fin n → EReal)
    (hg : ∀ k q, ((⟨3, ![n, 1, 1]⟩ : Shape).rowMajor.symm k 0).val = q.val → ((⟨3, ![n, 1, 1]⟩ : Shape).rowMajor.symm k 1).val = 0
      → ((⟨3, ![n, 1, 1]⟩ : Shape).rowMajor.symm k 2).val = 0 → g k = f q) :
    ∑ k, g k = ∑ k, f k := by
  rw [← Equiv.sum_comp (⟨3, ![n, 1, 1]⟩ : Shape).rowMajor g]
  refine (Finset.sum_bij (fun (k : Fin n) _ => (ix3 k 0 0 : (⟨3, ![n, 1, 1]⟩ : Shape).Idx)) (fun _ _ => Finset.mem_univ _) (fun _ _ _ _ e => congrFun e 0)
    (fun i _ => ⟨i 0, Finset.mem_univ _, ?_⟩) (fun k _ => ?_)).symm
  · funext a
    apply Fin.ext
    match a with
    | ⟨0, _⟩ => rfl
    | ⟨1, h⟩ => exact (Nat.lt_one_iff.1 (i 1).isLt).symm
    | ⟨2, h⟩ => exact (Nat.lt_one_iff.1 (i 2).isLt).symm
  · refine (hg _ k ?_ ?_ ?_).symm
    · rw [Equiv.symm_apply_apply]; rfl
    · rw [Equiv.symm_apply_apply]; rfl
    · rw [Equiv.symm_apply_apply]; rfl

/-- The running sum down the rows. -/
theorem window_down {u : Shape} (f : ℕ → ℕ → ℕ → ℝ) (x : FVec Ideal ⟨3, ![2048, 4, 64]⟩ .f32) (hx : ∀ y, x y = (f (y 0).val (y 1).val (y 2).val : EReal))
    (v : FVec Ideal u .f32) (hv : ∀ i, v i = ((0 : ℝ) : EReal))
    (h : (⟨3, ![2048, 4, 64]⟩ : Shape).ReduceWindows ![2048, 1, 1] ![1, 1, 1] ![2047, 0, 0] ![0, 0, 0] ⟨3, ![2048, 4, 64]⟩) (hu : 0 < u.numel)
    (j : (⟨3, ![2048, 4, 64]⟩ : Shape).Idx) :
    Host.reduceWindowAdd (F := Ideal) ![2048, 1, 1] ![1, 1, 1] ![2047, 0, 0] ![0, 0, 0] x v h hu j
      = ((back 2048 (fun r => f r (j 1).val (j 2).val) (j 0).val : ℝ) : EReal) := by
  have h0 : (j 0).val < 2048 := (j 0).isLt
  have h1 : (j 1).val < 4 := (j 1).isLt
  have h2 : (j 2).val < 64 := (j 2).isLt
  unfold Host.reduceWindowAdd
  rw [Ideal.hostReduceWindowAdd_def, hv]
  unfold Ideal.hostReduceWindowAdd Host.reduceWindow
  rw [foldl_add, ← Fin.sum_univ_def]
  refine (congrArg (((0 : ℝ) : EReal) + ·) (sum_column 2048 _ (fun k => ((if 2047 - k.val ≤ (j 0).val then f ((j 0).val - (2047 - k.val)) (j 1).val (j 2).val else 0 : ℝ) : EReal)) ?_)).trans ?_
  · intro n k q0 q1 q2
    have hk := k.isLt
    by_cases hc : 2047 - k.val ≤ (j 0).val
    · rw [if_pos hc]
      refine (dif_pos ?_).trans ((hx _).trans (congrArg Real.toEReal ?_))
      · intro a
        match a with
        | ⟨0, _⟩ =>
          show 2047 ≤ (j 0).val * 1 + ((⟨3, ![2048, 1, 1]⟩ : Shape).rowMajor.symm n 0).val ∧ (j 0).val * 1 + ((⟨3, ![2048, 1, 1]⟩ : Shape).rowMajor.symm n 0).val - 2047 < 2048
          omega
        | ⟨1, _⟩ =>
          show 0 ≤ (j 1).val * 1 + ((⟨3, ![2048, 1, 1]⟩ : Shape).rowMajor.symm n 1).val ∧ (j 1).val * 1 + ((⟨3, ![2048, 1, 1]⟩ : Shape).rowMajor.symm n 1).val - 0 < 4
          omega
        | ⟨2, _⟩ =>
          show 0 ≤ (j 2).val * 1 + ((⟨3, ![2048, 1, 1]⟩ : Shape).rowMajor.symm n 2).val ∧ (j 2).val * 1 + ((⟨3, ![2048, 1, 1]⟩ : Shape).rowMajor.symm n 2).val - 0 < 64
          omega
      · show f ((j 0).val * 1 + ((⟨3, ![2048, 1, 1]⟩ : Shape).rowMajor.symm n 0).val - 2047) ((j 1).val * 1 + ((⟨3, ![2048, 1, 1]⟩ : Shape).rowMajor.symm n 1).val - 0)
          ((j 2).val * 1 + ((⟨3, ![2048, 1, 1]⟩ : Shape).rowMajor.symm n 2).val - 0) = _
        rw [q0, q1, q2, show (j 0).val * 1 + k.val - 2047 = (j 0).val - (2047 - k.val) by omega, show (j 1).val * 1 + 0 - 0 = (j 1).val by omega,
          show (j 2).val * 1 + 0 - 0 = (j 2).val by omega]
    · rw [if_neg hc]
      refine dif_neg fun hin => ?_
      have h3 : 2047 ≤ (j 0).val * 1 + ((⟨3, ![2048, 1, 1]⟩ : Shape).rowMajor.symm n 0).val ∧ (j 0).val * 1 + ((⟨3, ![2048, 1, 1]⟩ : Shape).rowMajor.symm n 0).val - 2047 < 2048 := hin 0
      omega
  · rw [Cert.Common.coe_sum, ← EReal.coe_add, zero_add]
    refine congrArg Real.toEReal ?_
    rw [sum_fin 2048 (fun k => if 2047 - k ≤ (j 0).val then f ((j 0).val - (2047 - k)) (j 1).val (j 2).val else 0)]
    exact Finset.sum_range_reflect (fun k => if k ≤ (j 0).val then f ((j 0).val - k) (j 1).val (j 2).val else 0) 2048

/-- The running sum up the rows. -/
theorem window_up {u : Shape} (f : ℕ → ℕ → ℕ → ℝ) (x : FVec Ideal ⟨3, ![2048, 4, 64]⟩ .f32) (hx : ∀ y, x y = (f (y 0).val (y 1).val (y 2).val : EReal))
    (v : FVec Ideal u .f32) (hv : ∀ i, v i = ((0 : ℝ) : EReal))
    (h : (⟨3, ![2048, 4, 64]⟩ : Shape).ReduceWindows ![2048, 1, 1] ![1, 1, 1] ![0, 0, 0] ![2047, 0, 0] ⟨3, ![2048, 4, 64]⟩) (hu : 0 < u.numel)
    (j : (⟨3, ![2048, 4, 64]⟩ : Shape).Idx) :
    Host.reduceWindowAdd (F := Ideal) ![2048, 1, 1] ![1, 1, 1] ![0, 0, 0] ![2047, 0, 0] x v h hu j
      = ((ahead 2048 (fun r => f r (j 1).val (j 2).val) (j 0).val : ℝ) : EReal) := by
  have h0 : (j 0).val < 2048 := (j 0).isLt
  have h1 : (j 1).val < 4 := (j 1).isLt
  have h2 : (j 2).val < 64 := (j 2).isLt
  unfold Host.reduceWindowAdd
  rw [Ideal.hostReduceWindowAdd_def, hv]
  unfold Ideal.hostReduceWindowAdd Host.reduceWindow
  rw [foldl_add, ← Fin.sum_univ_def]
  refine (congrArg (((0 : ℝ) : EReal) + ·) (sum_column 2048 _ (fun k => ((if (j 0).val + k.val < 2048 then f ((j 0).val + k.val) (j 1).val (j 2).val else 0 : ℝ) : EReal)) ?_)).trans ?_
  · intro n k q0 q1 q2
    have hk := k.isLt
    by_cases hc : (j 0).val + k.val < 2048
    · rw [if_pos hc]
      refine (dif_pos ?_).trans ((hx _).trans (congrArg Real.toEReal ?_))
      · intro a
        match a with
        | ⟨0, _⟩ =>
          show 0 ≤ (j 0).val * 1 + ((⟨3, ![2048, 1, 1]⟩ : Shape).rowMajor.symm n 0).val ∧ (j 0).val * 1 + ((⟨3, ![2048, 1, 1]⟩ : Shape).rowMajor.symm n 0).val - 0 < 2048
          omega
        | ⟨1, _⟩ =>
          show 0 ≤ (j 1).val * 1 + ((⟨3, ![2048, 1, 1]⟩ : Shape).rowMajor.symm n 1).val ∧ (j 1).val * 1 + ((⟨3, ![2048, 1, 1]⟩ : Shape).rowMajor.symm n 1).val - 0 < 4
          omega
        | ⟨2, _⟩ =>
          show 0 ≤ (j 2).val * 1 + ((⟨3, ![2048, 1, 1]⟩ : Shape).rowMajor.symm n 2).val ∧ (j 2).val * 1 + ((⟨3, ![2048, 1, 1]⟩ : Shape).rowMajor.symm n 2).val - 0 < 64
          omega
      · show f ((j 0).val * 1 + ((⟨3, ![2048, 1, 1]⟩ : Shape).rowMajor.symm n 0).val - 0) ((j 1).val * 1 + ((⟨3, ![2048, 1, 1]⟩ : Shape).rowMajor.symm n 1).val - 0)
          ((j 2).val * 1 + ((⟨3, ![2048, 1, 1]⟩ : Shape).rowMajor.symm n 2).val - 0) = _
        rw [q0, q1, q2, show (j 0).val * 1 + k.val - 0 = (j 0).val + k.val by omega, show (j 1).val * 1 + 0 - 0 = (j 1).val by omega,
          show (j 2).val * 1 + 0 - 0 = (j 2).val by omega]
    · rw [if_neg hc]
      refine dif_neg fun hin => ?_
      have h3 : 0 ≤ (j 0).val * 1 + ((⟨3, ![2048, 1, 1]⟩ : Shape).rowMajor.symm n 0).val ∧ (j 0).val * 1 + ((⟨3, ![2048, 1, 1]⟩ : Shape).rowMajor.symm n 0).val - 0 < 2048 := hin 0
      omega
  · rw [Cert.Common.coe_sum, ← EReal.coe_add, zero_add]
    refine congrArg Real.toEReal ?_
    rw [sum_fin 2048 (fun k => if (j 0).val + k < 2048 then f ((j 0).val + k) (j 1).val (j 2).val else 0)]
    rfl

theorem back_add (w v : ℕ) (f : ℕ → ℝ) (r : ℕ) : back w f r + (if w ≤ r then back v f (r - w) else 0) = back (w + v) f r := by
  unfold back
  rw [Finset.sum_range_add]
  congr 1
  split
  · refine Finset.sum_congr rfl fun j _ => ?_
    by_cases h : j ≤ r - w
    · rw [if_pos h, if_pos (by omega), show r - w - j = r - (w + j) by omega]
    · rw [if_neg h, if_neg (by omega)]
  · exact (Finset.sum_eq_zero fun j _ => if_neg (by omega)).symm
theorem ahead_add (w v : ℕ) (f : ℕ → ℝ) (r : ℕ) : ahead w f r + (if r + w < 2048 then ahead v f (r + w) else 0) = ahead (w + v) f r := by
  unfold ahead
  rw [Finset.sum_range_add]
  congr 1
  split
  · exact Finset.sum_congr rfl fun j _ => by rw [Nat.add_assoc]
  · exact (Finset.sum_eq_zero fun j _ => if_neg (by omega)).symm

/-- A running sum less the one `w` rows before is a window's sum. -/
theorem back_diff (w : ℕ) (f : ℕ → ℝ) (r : ℕ) (hr : r < 2048) : back 2048 f r - (if w ≤ r then back 2048 f (r - w) else 0) = back w f r := by
  have e : back 2048 f r = back (w + 2048) f r := by
    rw [Nat.add_comm, ← back_add 2048 w f r, if_neg (by omega), add_zero]
  rw [e, ← back_add w 2048 f r]
  ring
/-- The sum up the rows of what a window's sum passes back is a window's sum up the rows. -/
theorem ahead_diff (w : ℕ) (q : ℕ → ℝ) (r : ℕ) (hr : r < 2048) :
    ahead 2048 (fun r => (if r + w < 2048 then -(q (r + w)) else 0) + q r) r = ahead w q r := by
  have e : ahead 2048 q r = ahead (w + 2048) q r := by
    rw [Nat.add_comm, ← ahead_add 2048 w q r, if_neg (by omega), add_zero]
  have e1 : ahead w q r = ahead 2048 q r - (if r + w < 2048 then ahead 2048 q (r + w) else 0) := by
    rw [e, ← ahead_add w 2048 q r]
    ring
  rw [e1]
  have e2 : (if r + w < 2048 then ahead 2048 q (r + w) else 0) = ∑ j ∈ Finset.range 2048, if r + j + w < 2048 then q (r + j + w) else 0 := by
    unfold ahead
    by_cases h : r + w < 2048
    · rw [if_pos h]
      exact Finset.sum_congr rfl fun j _ => by rw [show r + w + j = r + j + w by omega]
    · rw [if_neg h]
      exact (Finset.sum_eq_zero fun j _ => if_neg (by omega)).symm
  rw [e2]
  unfold ahead
  rw [← Finset.sum_sub_distrib]
  refine Finset.sum_congr rfl fun j _ => ?_
  beta_reduce
  by_cases h : r + j < 2048
  · rw [if_pos h, if_pos h]
    by_cases h' : r + j + w < 2048
    · rw [if_pos h', if_pos h']; ring
    · rw [if_neg h', if_neg h']; ring
  · rw [if_neg h, if_neg h, if_neg (by omega), sub_zero]

/-- A matrix put into a larger one of zeros. -/
theorem pad2 {n m N M l0 l1 h0 h1 : ℕ} {u : Shape} (f : ℕ → ℕ → EReal) (x : (⟨2, ![n, m]⟩ : Shape).Idx → EReal)
    (hx : ∀ y, x y = f (y 0).val (y 1).val) (v : u.Idx → EReal) (hv : ∀ i, v i = 0)
    (h : (⟨2, ![n, m]⟩ : Shape).Pads ![l0, l1] ![h0, h1] ![0, 0] ⟨2, ![N, M]⟩) (hu : 0 < u.numel) (y : (⟨2, ![N, M]⟩ : Shape).Idx) :
    pad ⟨2, ![N, M]⟩ ![l0, l1] ![h0, h1] ![0, 0] x v h hu y
      = if (l0 ≤ (y 0).val ∧ (y 0).val - l0 < n) ∧ (l1 ≤ (y 1).val ∧ (y 1).val - l1 < m) then f ((y 0).val - l0) ((y 1).val - l1) else 0 := by
  by_cases hc : (l0 ≤ (y 0).val ∧ (y 0).val - l0 < n) ∧ (l1 ≤ (y 1).val ∧ (y 1).val - l1 < m)
  · rw [if_pos hc]
    refine (pad_apply_of_inside _ _ _ x v h hu y (ix2 ⟨(y 0).val - l0, hc.1.2⟩ ⟨(y 1).val - l1, hc.2.2⟩) ?_).trans (hx _)
    intro a
    match a with
    | ⟨0, _⟩ => show (y 0).val = l0 + ((y 0).val - l0) * (0 + 1); omega
    | ⟨1, _⟩ => show (y 1).val = l1 + ((y 1).val - l1) * (0 + 1); omega
  · rw [if_neg hc]
    by_cases ha : l0 ≤ (y 0).val ∧ (y 0).val - l0 < n
    · refine (pad_apply_of_not_inside _ _ _ x v h hu y 1 ?_).trans (hv _)
      rintro ⟨a, -, b⟩
      have b' : ((y 1).val - l1) / (0 + 1) < m := b
      rw [zero_add, Nat.div_one] at b'
      exact hc ⟨ha, a, b'⟩
    · refine (pad_apply_of_not_inside _ _ _ x v h hu y 0 ?_).trans (hv _)
      rintro ⟨a, -, b⟩
      have b' : ((y 0).val - l0) / (0 + 1) < n := b
      rw [zero_add, Nat.div_one] at b'
      exact ha ⟨a, b'⟩

/-- One group of columns put among the groups, the others zero. -/
theorem pad_group {l h : ℕ} {u : Shape} (f : ℕ → ℕ → EReal) (x : (⟨3, ![2048, 1, 64]⟩ : Shape).Idx → EReal)
    (hx : ∀ y, x y = f (y 0).val (y 2).val) (v : u.Idx → EReal) (hv : ∀ i, v i = 0)
    (hp : (⟨3, ![2048, 1, 64]⟩ : Shape).Pads ![0, l, 0] ![0, h, 0] ![0, 0, 0] ⟨3, ![2048, 4, 64]⟩) (hu : 0 < u.numel) (y : (⟨3, ![2048, 4, 64]⟩ : Shape).Idx) :
    pad ⟨3, ![2048, 4, 64]⟩ ![0, l, 0] ![0, h, 0] ![0, 0, 0] x v hp hu y = if (y 1).val = l then f (y 0).val (y 2).val else 0 := by
  have h0 : (y 0).val < 2048 := (y 0).isLt
  have h2 : (y 2).val < 64 := (y 2).isLt
  by_cases hc : (y 1).val = l
  · rw [if_pos hc]
    refine (pad_apply_of_inside _ _ _ x v hp hu y (ix3 (y 0) 0 (y 2)) ?_).trans (hx _)
    intro a
    match a with
    | ⟨0, _⟩ => show (y 0).val = 0 + (y 0).val * (0 + 1); omega
    | ⟨1, _⟩ => show (y 1).val = l + 0 * (0 + 1); omega
    | ⟨2, _⟩ => show (y 2).val = 0 + (y 2).val * (0 + 1); omega
  · rw [if_neg hc]
    refine (pad_apply_of_not_inside _ _ _ x v hp hu y 1 ?_).trans (hv _)
    rintro ⟨a, -, b⟩
    have a' : l ≤ (y 1).val := a
    have b' : ((y 1).val - l) / (0 + 1) < 1 := b
    rw [zero_add, Nat.div_one] at b'
    omega

/-- Rows of zeros over a matrix. -/
theorem zeros_over {w n N m : ℕ} (f : ℕ → ℕ → EReal) (x : (⟨2, ![n, m]⟩ : Shape).Idx → EReal) (hx : ∀ y, x y = f (y 0).val (y 1).val)
    (z : (⟨2, ![w, m]⟩ : Shape).Idx → EReal) (hz : ∀ y, z y = 0)
    (h : Shape.Concatenates [⟨2, ![w, m]⟩, ⟨2, ![n, m]⟩] ⟨2, ![N, m]⟩ 0) (hN : N = w + n) (y : (⟨2, ![N, m]⟩ : Shape).Idx) :
    concatenate (⟨2, ![N, m]⟩ : Shape) 0 [⟨⟨2, ![w, m]⟩, z⟩, ⟨⟨2, ![n, m]⟩, x⟩] h y = if w ≤ (y 0).val then f ((y 0).val - w) (y 1).val else 0 := by
  have h0 : (y 0).val < N := (y 0).isLt
  by_cases hc : w ≤ (y 0).val
  · rw [if_pos hc]
    refine (concatenate_pair_apply_right 0 z x h y rfl rfl (ix2 ⟨(y 0).val - w, by omega⟩ (y 1)) ?_ ?_).trans (hx _)
    · intro b hb
      match b with
      | ⟨0, _⟩ => exact absurd rfl hb
      | ⟨1, _⟩ => rfl
    · show (y 0).val - w + w = (y 0).val
      omega
  · rw [if_neg hc]
    refine (concatenate_pair_apply_left 0 z x h y rfl (ix2 ⟨(y 0).val, by omega⟩ (y 1)) ?_).trans (hz _)
    intro b
    match b with
    | ⟨0, _⟩ => rfl
    | ⟨1, _⟩ => rfl

end Cert.Mx.Ref

end
-- ==== Proof.Mx.RefGate.lean ====
/- The reference's gate: what is mixed over 128 rows, and the gradients of the matrices, the biases and the gain. -/
module

public import proofs.«01_k».proof.Proof.Mx.RefHead
public import proofs.«01_k».proof.Proof.Mx.RefSums
public import Idealize.ShloMosaic.Lib.TwoAxisContraction
public import proofs.«01_k».proof.Proof.Gen.ReferenceMxIdeal.Read

@[expose] public section

set_option maxRecDepth 16384

noncomputable section

namespace Cert.Mx.Ref

open Cert.ReferenceMxIdeal Cert.ReferenceMxIdeal.Gen Cert.ReferenceMxIdeal.Read
open Idealize.ShloMosaic Idealize.ShloMosaic.TcCoe Idealize.ShloMosaic.Tactic
open Cert.Mx.Spec

/-- The arguments of the reference, read as the formulas' real numbers. -/
structure Reads (I : Inp) (x0 : (⟨S2048x2176, .f32⟩ : BufTy).Contents (Elt Ideal)) (x1 : (⟨S1x3x384, .f32⟩ : BufTy).Contents (Elt Ideal))
    (x2 : (⟨S1x4x64x64, .f32⟩ : BufTy).Contents (Elt Ideal)) (x3 : (⟨S1x256, .f32⟩ : BufTy).Contents (Elt Ideal))
    (x4 : (⟨S1x384, .f32⟩ : BufTy).Contents (Elt Ideal)) (x5 : (⟨S1x6x128x128, .f32⟩ : BufTy).Contents (Elt Ideal))
    (x6 : (⟨S1x6x128, .f32⟩ : BufTy).Contents (Elt Ideal)) (x7 : (⟨S2048x1024, .f32⟩ : BufTy).Contents (Elt Ideal)) : Prop where
  hp : ∀ y, x0 y = (I.P (y 0).val (y 1).val : EReal)
  h1 : ∀ y, x1 y = I.WC (y 1).val (y 2).val
  h2 : ∀ y, x2 y = (I.WP (y 1).val (y 2).val (y 3).val : EReal)
  h3 : ∀ y, x3 y = (I.PS (y 1).val : EReal)
  h4 : ∀ y, x4 y = (I.G (y 1).val : EReal)
  h5 : ∀ y, x5 y = (I.WS (y 1).val (y 2).val (y 3).val : EReal)
  h6 : ∀ y, x6 y = (I.BS (y 1).val (y 2).val : EReal)
  h7 : ∀ y, x7 y = (I.D (y 0).val (y 1).val : EReal)

theorem sum1 (n : ℕ) (X : Fin n → EReal) (f : ℕ → ℝ) (h : ∀ k, X k = (f k.val : EReal)) : ∑ k, X k = ((∑ k ∈ Finset.range n, f k : ℝ) : EReal) := by
  rw [Finset.sum_congr rfl fun k _ => h k, Cert.Common.coe_sum, sum_fin n f]
theorem zsum1 (n : ℕ) (X : Fin n → EReal) (f : ℕ → ℝ) (h : ∀ k, X k = (f k.val : EReal)) :
    ((0 : ℝ) : EReal) + ∑ k, X k = ((∑ k ∈ Finset.range n, f k : ℝ) : EReal) := by
  rw [sum1 n X f h, ← EReal.coe_add, zero_add]
theorem sum2 (n m : ℕ) (X : Fin n → Fin m → EReal) (f : ℕ → ℕ → ℝ) (h : ∀ a b, X a b = (f a.val b.val : EReal)) :
    ∑ a, ∑ b, X a b = ((∑ a ∈ Finset.range n, ∑ b ∈ Finset.range m, f a b : ℝ) : EReal) :=
  sum1 n _ (fun a => ∑ b ∈ Finset.range m, f a b) fun a => sum1 m _ (f a.val) fun b => h a b
theorem zsum11 (X : Fin 1 → EReal) (v : ℝ) (h : ∀ k, X k = (v : EReal)) : ((0 : ℝ) : EReal) + ∑ k, X k = (v : EReal) := by
  rw [Fin.sum_univ_one, h, ← EReal.coe_add, zero_add]

section Places
theorem d1 (a b c d : ℕ) (hb : b < 128) (hc : c < 6) (hd : d < 64) : (((a * 128 + b) * 6 + c) * 64 + d) / 384 = 128 * a + b := by omega
theorem d2 (a b c d : ℕ) (hb : b < 128) (hc : c < 6) (hd : d < 64) : (((a * 128 + b) * 6 + c) * 64 + d) / 64 % 6 = c := by omega
theorem d3 (a b c d : ℕ) (hb : b < 128) (hc : c < 6) (hd : d < 64) : (((a * 128 + b) * 6 + c) * 64 + d) % 64 = d := by omega
theorem d4 (a b c d : ℕ) (hb : b < 128) (hc : c < 6) (hd : d < 64) : (((a * 128 + b) * 6 + c) * 64 + d) % 384 = 64 * c + d := by omega
theorem e1 (r k : ℕ) (hk : k < 384) : (r * 384 + k) / 49152 = r / 128 := by omega
theorem e2 (r k : ℕ) (hk : k < 384) : (r * 384 + k) / 384 % 128 = r % 128 := by omega
theorem e3 (r k : ℕ) (hk : k < 384) : (r * 384 + k) / 64 % 6 = k / 64 := by omega
theorem e4 (r k : ℕ) (hk : k < 384) : 64 * ((r * 384 + k) / 64 % 6) + (r * 384 + k) % 64 = k := by omega
theorem e5 (r k : ℕ) (hk : k < 384) : (r * 384 + k) / 384 = r := by omega
theorem f1 (r h j : ℕ) (hh : h < 6) (hj : j < 64) : ((r * 6 + h) * 64 + j) / 49152 = r / 128 := by omega
theorem f2 (r h j : ℕ) (hh : h < 6) (hj : j < 64) : ((r * 6 + h) * 64 + j) / 384 % 128 = r % 128 := by omega
theorem f3 (r h j : ℕ) (hh : h < 6) (hj : j < 64) : ((r * 6 + h) * 64 + j) / 64 % 6 = (64 * h + j) / 64 := by omega
theorem f4 (r h j : ℕ) (hh : h < 6) (hj : j < 64) : 64 * (((r * 6 + h) * 64 + j) / 64 % 6) + ((r * 6 + h) * 64 + j) % 64 = 64 * h + j := by omega
theorem g1 (a b c : ℕ) (ha : a < 1) (hc : c < 64) : 64 * (((a * 6 + b) * 64 + c) / 64) + ((a * 6 + b) * 64 + c) % 64 = 64 * b + c := by omega
theorem g2 (a b c : ℕ) (hb : b < 6) (hc : c < 1) : ((a * 6 + b) * 1 + c) / 6 = a := by omega
theorem g3 (a b c : ℕ) (hb : b < 6) (hc : c < 1) : ((a * 6 + b) * 1 + c) % 6 = b := by omega
theorem g4 (a b c d : ℕ) (ha : a < 1) (hc : c < 6) (hd : d < 1) : (((a * 128 + b) * 6 + c) * 1 + d) / 6 = b := by omega
theorem g5 (a b c d : ℕ) (hc : c < 6) (hd : d < 1) : (((a * 128 + b) * 6 + c) * 1 + d) % 6 = c := by omega
end Places

variable {I : Inp} {x0 x1 x2 x3 x4 x5 x6 x7} (A : Reads I x0 x1 x2 x3 x4 x5 x6 x7)
include A

theorem v150_val (y : S1x6x64.Idx) : val_main_v150 (F := Ideal) x4 y = (I.G (64 * (y 1).val + (y 2).val) : EReal) := by
  have h1 : (y 1).val < 6 := (y 1).isLt
  have h2 : (y 2).val < 64 := (y 2).isLt
  rw [val_main_v150_apply, val_main_v149_apply, val_main_v3_apply, A.h4]
  exact congrArg Real.toEReal (congrArg I.G (show ((y 1).val * 64 + (y 2).val) % 384 = 64 * (y 1).val + (y 2).val by omega))
theorem v152_val (y : S2048x6x64.Idx) : val_main_v152 (F := Ideal) x0 x4 y = (vh I (y 0).val (64 * (y 1).val + (y 2).val) : EReal) := by
  rw [val_main_v152_apply, v148_val I x0 A.hp, val_main_v151_apply, v150_val A, Ideal.mulf_def, ← EReal.coe_mul]
  rfl
theorem v153_val (y : S16x128x6x64.Idx) : val_main_v153 (F := Ideal) x0 x4 y = (vh I (128 * (y 0).val + (y 1).val) (64 * (y 2).val + (y 3).val) : EReal) := by
  have h1 : (y 1).val < 128 := (y 1).isLt
  have h2 : (y 2).val < 6 := (y 2).isLt
  have h3 : (y 3).val < 64 := (y 3).isLt
  rw [val_main_v153_apply, v152_val A]
  exact congrArg Real.toEReal (congrArg₂ (vh I) (d1 _ _ _ _ h1 h2 h3) (congrArg₂ (fun a b => 64 * a + b) (d2 _ _ _ _ h1 h2 h3) (d3 _ _ _ _ h1 h2 h3)))

omit A in
/-- The triangle mask. -/
theorem v155_val (y : S128x128.Idx) : val_main_v155 (F := Ideal) y = ((if (y 1).val ≤ (y 0).val then 1 else 0 : ℝ) : EReal) := by
  have hm : ∀ a b : Fin 128, IntOp.cmpi CmpIPredicate.sge (IntOp.addi (BitVec.ofNat 32 a.val) 0#32) (BitVec.ofNat 32 b.val) = if b.val ≤ a.val then 1#1 else 0#1 := by
    decide +kernel
  rw [val_main_v155_apply, val_main_call1_v4_apply, val_main_call1_v2_apply, val_main_call1_v0_apply, val_main_call1_v1_apply, val_main_call1_v3_apply,
    val_main_v154_apply, val_main_call1_v5_apply, show val_main_cst_27 (F := Ideal) _ = ((1 : ℝ) : EReal) from bits_one,
    show val_main_call1_cst (F := Ideal) _ = ((0 : ℝ) : EReal) from bits_zero]
  refine (congrArg (fun b => Scalar.select b ((1 : ℝ) : EReal) ((0 : ℝ) : EReal)) (hm (y 0) (y 1))).trans ?_
  by_cases h : (y 1).val ≤ (y 0).val
  · rw [if_pos h, if_pos h]; rfl
  · rw [if_neg h, if_neg h]; rfl
theorem v158_val (y : S6x128x128.Idx) : val_main_v158 (F := Ideal) x5 y = (wm I (y 0).val (y 1).val (y 2).val : EReal) := by
  have h0 : (y 0).val < 6 := (y 0).isLt
  have h1 : (y 1).val < 128 := (y 1).isLt
  have h2 : (y 2).val < 128 := (y 2).isLt
  rw [val_main_v158_apply, val_main_v4_apply, val_main_v157_apply, val_main_v156_apply, v155_val, A.h5, Ideal.mulf_def, ← EReal.coe_mul]
  refine congrArg Real.toEReal ?_
  show I.WS ((((y 0).val * 128 + (y 1).val) * 128 + (y 2).val) / 16384 % 6) ((((y 0).val * 128 + (y 1).val) * 128 + (y 2).val) / 128 % 128)
    ((((y 0).val * 128 + (y 1).val) * 128 + (y 2).val) % 128) * (if (y 2).val ≤ (y 1).val then 1 else 0) = _
  rw [show (((y 0).val * 128 + (y 1).val) * 128 + (y 2).val) / 16384 % 6 = (y 0).val by omega,
    show (((y 0).val * 128 + (y 1).val) * 128 + (y 2).val) / 128 % 128 = (y 1).val by omega,
    show (((y 0).val * 128 + (y 1).val) * 128 + (y 2).val) % 128 = (y 2).val by omega]
  unfold wm
  split <;> simp
theorem v159_val (y : S6x16x64x128.Idx) : val_main_v159 (F := Ideal) x0 x4 x5 y
    = ((∑ s ∈ Finset.range 128, wm I (y 0).val (y 3).val s * vh I (128 * (y 1).val + s) (64 * (y 0).val + (y 2).val) : ℝ) : EReal) := by
  rw [val_main_v159_apply]
  exact sum1 128 _ (fun s => wm I (y 0).val (y 3).val s * vh I (128 * (y 1).val + s) (64 * (y 0).val + (y 2).val)) fun k => by
    rw [v153_val A, v158_val A, ← EReal.coe_mul, mul_comm]
theorem v163_val (y : S16x128x6x64.Idx) : val_main_v163 (F := Ideal) x6 y = (I.BS (y 2).val (y 1).val : EReal) := by
  have h1 : (y 1).val < 128 := (y 1).isLt
  have h2 : (y 2).val < 6 := (y 2).isLt
  rw [val_main_v163_apply, val_main_v162_apply, val_main_v161_apply, val_main_v5_apply, A.h6]
  exact congrArg Real.toEReal (congrArg₂ I.BS (show ((y 2).val * 128 + (y 1).val) / 128 % 6 = (y 2).val by omega)
    (show ((y 2).val * 128 + (y 1).val) % 128 = (y 1).val by omega))
theorem v164_val (y : S16x128x6x64.Idx) : val_main_v164 (F := Ideal) x0 x4 x5 x6 y
    = (((∑ s ∈ Finset.range 128, wm I (y 2).val (y 1).val s * vh I (128 * (y 0).val + s) (64 * (y 2).val + (y 3).val)) + I.BS (y 2).val (y 1).val : ℝ) : EReal) := by
  rw [val_main_v164_apply, val_main_v160_apply, v159_val A, v163_val A, Ideal.addf_def, ← EReal.coe_add]
omit A in
theorem mixed_eq (a b c d r k : ℕ) (ha : a = k / 64) (hb : b = r % 128) (hc : c = r / 128) (hd : 64 * a + d = k) :
    (∑ s ∈ Finset.range 128, wm I a b s * vh I (128 * c + s) (64 * a + d)) + I.BS a b = mixed I r k := by
  rw [hd, ha, hb, hc]
  rfl
theorem v165_val (y : S2048x384.Idx) : val_main_v165 (F := Ideal) x0 x4 x5 x6 y = (mixed I (y 0).val (y 1).val : EReal) := by
  have h1 : (y 1).val < 384 := (y 1).isLt
  rw [val_main_v165_apply, v164_val A]
  exact congrArg Real.toEReal (mixed_eq _ _ _ _ _ _ (e3 _ _ h1) (e2 _ _ h1) (e1 _ _ h1) (e4 _ _ h1))
theorem v170_val (y : S2048x384.Idx) : val_main_v170 (F := Ideal) x7 y = (I.D (y 0).val (640 + (y 1).val) : EReal) := by
  rw [val_main_v170_apply, A.h7]
theorem v171_val (y : S2048x384.Idx) : val_main_v171 (F := Ideal) x0 x7 y = (dmx I (y 0).val (y 1).val : EReal) := by
  rw [val_main_v171_apply, v123_val I x0 A.hp, v170_val A, Ideal.mulf_def, ← EReal.coe_mul, mul_comm]
  rfl
theorem v173_val (y : S16x128x6x64.Idx) : val_main_v173 (F := Ideal) x0 x7 y = (dmx I (128 * (y 0).val + (y 1).val) (64 * (y 2).val + (y 3).val) : EReal) := by
  have h1 : (y 1).val < 128 := (y 1).isLt
  have h2 : (y 2).val < 6 := (y 2).isLt
  have h3 : (y 3).val < 64 := (y 3).isLt
  rw [val_main_v173_apply, v171_val A]
  exact congrArg Real.toEReal (congrArg₂ (dmx I) (d1 _ _ _ _ h1 h2 h3) (d4 _ _ _ _ h1 h2 h3))
theorem v174_val (y : S128x6.Idx) : val_main_v174 (F := Ideal) x0 x7 y = (dbs I (y 1).val (y 0).val : EReal) := by
  unfold val_main_v174
  refine (sum03 _ _ _ y).trans ?_
  rw [show val_main_cst_28 (F := Ideal) _ = ((0 : ℝ) : EReal) from bits_zero,
    sum2 16 64 _ (fun n j => dmx I (128 * n + (y 0).val) (64 * (y 1).val + j)) (fun a b => v173_val A _), ← EReal.coe_add, zero_add]
  rfl
theorem v176_val (y : S128x6.Idx) : val_main_v176 (F := Ideal) x0 x7 y = (dbs I (y 1).val (y 0).val : EReal) := by
  have h1 : (y 1).val < 6 := (y 1).isLt
  unfold val_main_v176
  refine (sum03 _ _ _ y).trans ?_
  rw [show val_main_cst_29 (F := Ideal) _ = ((0 : ℝ) : EReal) from bits_zero, Fin.sum_univ_one, Fin.sum_univ_one, val_main_v175_apply, v174_val A,
    ← EReal.coe_add, zero_add]
  exact congrArg Real.toEReal (congrArg₂ (dbs I) (g5 _ _ _ _ h1 Nat.one_pos) (g4 _ _ _ _ Nat.one_pos h1 Nat.one_pos))
/-- The gradient of the biases. -/
theorem v177_val (y : S6x128.Idx) : val_main_v177 (F := Ideal) x0 x7 y = (dbs I (y 0).val (y 1).val : EReal) := by
  rw [val_main_v177_apply, v176_val A]
theorem v178_val (y : S6x16x64x128.Idx) : val_main_v178 (F := Ideal) x0 x7 y = (dmx I (128 * (y 1).val + (y 3).val) (64 * (y 0).val + (y 2).val) : EReal) := by
  rw [val_main_v178_apply, v173_val A]

omit A in
/-- The product over the chunks and the columns of a head. -/
theorem dot2 (x : FVec Ideal S6x16x64x128 .f32) (z : FVec Ideal S16x128x6x64 .f32) (y : S6x128x128.Idx) :
    (Host.dotGeneral (F := Ideal) dot_S6x16x64x128_S16x128x6x64_S6x128x128_12_03_3_1_0_2 none x z : FVec Ideal S6x128x128 .f32) y
      = ∑ n : Fin 16, ∑ j : Fin 64, x (ix4 (y 0) n j (y 1)) * z (ix4 n (y 2) (y 0) j) := by
  simp only [Host.dotGeneral]
  rw [Ideal.dotGeneral_apply, ValueIdx.sum_contr2 dot_S6x16x64x128_S16x128x6x64_S6x128x128_12_03_3_1_0_2 16 64 rfl rfl rfl]
  refine Finset.sum_congr rfl fun n _ => Finset.sum_congr rfl fun j _ => ?_
  have hn := ValueIdx.contrEquiv2_symm_val0 dot_S6x16x64x128_S16x128x6x64_S6x128x128_12_03_3_1_0_2 16 64 rfl rfl rfl (n, j)
  have hj := ValueIdx.contrEquiv2_symm_val1 dot_S6x16x64x128_S16x128x6x64_S6x128x128_12_03_3_1_0_2 16 64 rfl rfl rfl (n, j)
  generalize (ValueIdx.contrEquiv2 dot_S6x16x64x128_S16x128x6x64_S6x128x128_12_03_3_1_0_2 16 64 rfl rfl rfl).symm (n, j) = q at hn hj ⊢
  refine congrArg₂ (· * ·) (congrArg x (funext fun a => Fin.ext ?_)) (congrArg z (funext fun a => Fin.ext ?_))
  · unfold DotDims.lhsIdx
    match a with
    | ⟨0, _⟩ => rw [dif_pos (show (⟨0, by decide⟩ : Fin S6x16x64x128.rank) ∈ dot_S6x16x64x128_S16x128x6x64_S6x128x128_12_03_3_1_0_2.lhsBatch by decide)]; rfl
    | ⟨1, _⟩ => rw [dif_neg (show ¬(⟨1, by decide⟩ : Fin S6x16x64x128.rank) ∈ dot_S6x16x64x128_S16x128x6x64_S6x128x128_12_03_3_1_0_2.lhsBatch by decide), dif_neg (show ¬(⟨1, by decide⟩ : Fin S6x16x64x128.rank) ∈ dot_S6x16x64x128_S16x128x6x64_S6x128x128_12_03_3_1_0_2.lhsNonContracting by decide)]; exact hn
    | ⟨2, _⟩ => rw [dif_neg (show ¬(⟨2, by decide⟩ : Fin S6x16x64x128.rank) ∈ dot_S6x16x64x128_S16x128x6x64_S6x128x128_12_03_3_1_0_2.lhsBatch by decide), dif_neg (show ¬(⟨2, by decide⟩ : Fin S6x16x64x128.rank) ∈ dot_S6x16x64x128_S16x128x6x64_S6x128x128_12_03_3_1_0_2.lhsNonContracting by decide)]; exact hj
    | ⟨3, _⟩ => rw [dif_neg (show ¬(⟨3, by decide⟩ : Fin S6x16x64x128.rank) ∈ dot_S6x16x64x128_S16x128x6x64_S6x128x128_12_03_3_1_0_2.lhsBatch by decide), dif_pos (show (⟨3, by decide⟩ : Fin S6x16x64x128.rank) ∈ dot_S6x16x64x128_S16x128x6x64_S6x128x128_12_03_3_1_0_2.lhsNonContracting by decide)]; rfl
  · unfold DotDims.rhsIdx
    match a with
    | ⟨0, _⟩ => rw [dif_neg (show ¬(⟨0, by decide⟩ : Fin S16x128x6x64.rank) ∈ dot_S6x16x64x128_S16x128x6x64_S6x128x128_12_03_3_1_0_2.rhsBatch by decide), dif_neg (show ¬(⟨0, by decide⟩ : Fin S16x128x6x64.rank) ∈ dot_S6x16x64x128_S16x128x6x64_S6x128x128_12_03_3_1_0_2.rhsNonContracting by decide)]; exact hn
    | ⟨1, _⟩ => rw [dif_neg (show ¬(⟨1, by decide⟩ : Fin S16x128x6x64.rank) ∈ dot_S6x16x64x128_S16x128x6x64_S6x128x128_12_03_3_1_0_2.rhsBatch by decide), dif_pos (show (⟨1, by decide⟩ : Fin S16x128x6x64.rank) ∈ dot_S6x16x64x128_S16x128x6x64_S6x128x128_12_03_3_1_0_2.rhsNonContracting by decide)]; rfl
    | ⟨2, _⟩ => rw [dif_pos (show (⟨2, by decide⟩ : Fin S16x128x6x64.rank) ∈ dot_S6x16x64x128_S16x128x6x64_S6x128x128_12_03_3_1_0_2.rhsBatch by decide)]; rfl
    | ⟨3, _⟩ => rw [dif_neg (show ¬(⟨3, by decide⟩ : Fin S16x128x6x64.rank) ∈ dot_S6x16x64x128_S16x128x6x64_S6x128x128_12_03_3_1_0_2.rhsBatch by decide), dif_neg (show ¬(⟨3, by decide⟩ : Fin S16x128x6x64.rank) ∈ dot_S6x16x64x128_S16x128x6x64_S6x128x128_12_03_3_1_0_2.rhsNonContracting by decide)]; exact hj
theorem v179_val (y : S6x128x128.Idx) : val_main_v179 (F := Ideal) x0 x4 x7 y
    = ((∑ n ∈ Finset.range 16, ∑ j ∈ Finset.range 64, dmx I (128 * n + (y 1).val) (64 * (y 0).val + j) * vh I (128 * n + (y 2).val) (64 * (y 0).val + j) : ℝ) : EReal) := by
  unfold val_main_v179
  refine (dot2 _ _ y).trans ?_
  exact sum2 16 64 _ (fun n j => dmx I (128 * n + (y 1).val) (64 * (y 0).val + j) * vh I (128 * n + (y 2).val) (64 * (y 0).val + j)) fun a b => by
    rw [v178_val A, v153_val A, ← EReal.coe_mul]; rfl
/-- The gradient of the mixing matrices. -/
theorem v183_val (y : S6x128x128.Idx) : val_main_v183 (F := Ideal) x0 x4 x7 y = (dws I (y 0).val (y 1).val (y 2).val : EReal) := by
  rw [val_main_v183_apply, v179_val A, val_main_v182_apply, val_main_v156_apply, v155_val, Ideal.mulf_def, ← EReal.coe_mul]
  refine congrArg Real.toEReal ?_
  show _ * (if (y 2).val ≤ (y 1).val then (1 : ℝ) else 0) = _
  unfold dws
  split <;> simp
theorem v180_val (y : S6x16x64x128.Idx) : val_main_v180 (F := Ideal) x0 x5 x7 y
    = ((∑ t ∈ Finset.range 128, wm I (y 0).val t (y 3).val * dmx I (128 * (y 1).val + t) (64 * (y 0).val + (y 2).val) : ℝ) : EReal) := by
  rw [val_main_v180_apply]
  exact sum1 128 _ (fun t => wm I (y 0).val t (y 3).val * dmx I (128 * (y 1).val + t) (64 * (y 0).val + (y 2).val)) fun k => by
    rw [v178_val A, v158_val A, ← EReal.coe_mul, mul_comm]
omit A in
theorem dvh_eq (a b c d r k : ℕ) (ha : a = k / 64) (hb : b = r % 128) (hc : c = r / 128) (hd : 64 * a + d = k) :
    (∑ t ∈ Finset.range 128, wm I a t b * dmx I (128 * c + t) (64 * a + d)) = dvh I r k := by
  rw [hd, ha, hb, hc]
  rfl
theorem v184_val (y : S2048x6x64.Idx) : val_main_v184 (F := Ideal) x0 x5 x7 y = (dvh I (y 0).val (64 * (y 1).val + (y 2).val) : EReal) := by
  have h1 : (y 1).val < 6 := (y 1).isLt
  have h2 : (y 2).val < 64 := (y 2).isLt
  rw [val_main_v184_apply, val_main_v181_apply, v180_val A]
  exact congrArg Real.toEReal (dvh_eq _ _ _ _ _ _ (f3 _ _ _ h1 h2) (f2 _ _ _ h1 h2) (f1 _ _ _ h1 h2) (f4 _ _ _ h1 h2))
theorem v187_val (y : S1x6x64.Idx) : val_main_v187 (F := Ideal) x0 x5 x7 y = (dgn I (64 * (y 1).val + (y 2).val) : EReal) := by
  have h0 : (y 0).val < 1 := (y 0).isLt
  have h2 : (y 2).val < 64 := (y 2).isLt
  rw [val_main_v187_apply, val_main_v186_apply, show val_main_cst_30 (F := Ideal) _ = ((0 : ℝ) : EReal) from bits_zero]
  refine (zsum1 2048 _ (fun r => dvh I r (64 * (y 1).val + (y 2).val) * vn I r (64 * (y 1).val + (y 2).val)) fun k => ?_).trans rfl
  rw [val_main_v185_apply, v148_val I x0 A.hp, v184_val A, Ideal.mulf_def, ← EReal.coe_mul, mul_comm]
  exact congrArg Real.toEReal (congrArg (fun n => dvh I k.val n * vn I k.val n) (g1 _ _ _ h0 h2))
/-- The gradient of the gain. -/
theorem v191_val (y : S384.Idx) : val_main_v191 (F := Ideal) x0 x5 x7 y = (dgn I (y 0).val : EReal) := by
  rw [val_main_v191_apply, val_main_v190_apply, show val_main_cst_31 (F := Ideal) _ = ((0 : ℝ) : EReal) from bits_zero]
  refine zsum11 _ _ fun k => (v187_val A _).trans ?_
  exact congrArg Real.toEReal (congrArg (dgn I) (show 64 * ((y 0).val / 64) + (y 0).val % 64 = (y 0).val by omega))
theorem v189_val (y : S2048x6x64.Idx) : val_main_v189 (F := Ideal) x0 x4 x5 x7 y = (dvn I (y 0).val (64 * (y 1).val + (y 2).val) : EReal) := by
  rw [val_main_v189_apply, v184_val A, val_main_v188_apply, v150_val A, Ideal.mulf_def, ← EReal.coe_mul]
  rfl

end Cert.Mx.Ref

end
-- ==== Proof.Mx.Conv.lean ====
module

public import proofs.«01_k».proof.Proof.Gen.KernelMxIdeal.Frame
public import proofs.«01_k».proof.Proof.Gen.KernelMxIdeal.Skeleton
public import Idealize.ShloMosaic.Lib.VecWindow

@[expose] public section

set_option maxRecDepth 16384

noncomputable section

namespace Cert.Mx

open Cert.KernelMxIdeal Cert.KernelMxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The convolution points of the mixers' backward pass

At points 0, 1, 2 the body works on one column block of the convolution mixer: it stores the gradient of one third of
the columns, keeps the other two thirds for later points, and stores the gradient of the three taps. -/

section Values

variable (x0 x1 x2 x3 : Vec F S2048x128 .f32) (x4 : Vec F S1x3x128 .f32)

/-- The block stored at once. -/
def convOut : FVec F S2048x128 .bf16 :=
  k0_pay22 x2 (k0_pay7 x4) (k0_pay12 x1 x3) (k0_pay13 x1 x3 x4) (k0_pay14 x4) k0_pay15 (k0_pay16 x1 x3) k0_pay17
/-- The first block kept. -/
def convKeep1 : FVec F S1x2048x128 .bf16 := k0_pay23 x3 (k0_pay11 x0 x2 x4)
/-- The second block kept. -/
def convKeep2 : FVec F S1x2048x128 .bf16 :=
  k0_pay1 (k0_pay24 x0 (k0_pay7 x4) (k0_pay12 x1 x3) (k0_pay13 x1 x3 x4) (k0_pay14 x4) k0_pay15 (k0_pay16 x1 x3) k0_pay17)
/-- The gradient of the taps: three rows put one after the other. -/
def convTaps (d : Vec F S3x128 .f32) : Vec F S3x128 .f32 :=
  VecWindow.put (VecWindow.put (VecWindow.put d ![0, 0] S1x128.size (k0_pay19 (k0_pay10 x0 x2) (k0_pay12 x1 x3)))
    ![1, 0] S1x128.size (k0_pay20 (k0_pay9 x0 x2) (k0_pay12 x1 x3))) ![2, 0] S1x128.size (k0_pay21 (k0_pay8 x0 x2) (k0_pay12 x1 x3))

end Values

section Run

variable (c : Dev nD) (i : grid0.Coords) (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S1x3x128 .f32) (harg5 : arg5.IsWhole)
  (arg6 : Memref sig .tc .vmem S1x1x128x128 .f32) (harg6 : arg6.IsWhole)
  (arg7 : Memref sig .tc .vmem S1x1x128 .f32) (harg7 : arg7.IsWhole)
  (arg8 : Memref sig .tc .vmem S1x1x128 .f32) (harg8 : arg8.IsWhole)
  (arg9 : Memref sig .tc .vmem S1x1x256x128 .f32) (harg9 : arg9.IsWhole)
  (arg10 : Memref sig .tc .vmem S1x1x128x128 .f32) (harg10 : arg10.IsWhole)
  (arg11 : Memref sig .tc .vmem S2048x128 .bf16) (harg11 : arg11.IsWhole)
  (arg12 : Memref sig .tc .vmem S3x128 .f32) (harg12 : arg12.IsWhole)
  (arg13 : Memref sig .tc .vmem S1x128x128 .f32) (harg13 : arg13.IsWhole)
  (arg14 : Memref sig .tc .vmem S1x128 .f32) (harg14 : arg14.IsWhole)
  (arg15 : Memref sig .tc .vmem S1x128 .f32) (harg15 : arg15.IsWhole)
  (arg16 : Memref sig .tc .vmem S1x256x128 .f32) (harg16 : arg16.IsWhole)
  (arg17 : Memref sig .tc .vmem S1x128x128 .f32) (harg17 : arg17.IsWhole)
  (arg18 : Memref sig .tc .vmem S6x2048x128 .bf16) (harg18 : arg18.IsWhole)
  (arg19 : Memref sig .tc .vmem S3x2048x128 .bf16) (harg19 : arg19.IsWhole)

set_option maxHeartbeats 1000000 in
/-- The body at a convolution point. -/
theorem conv_run (hc1 : k0_cond1 i = 1#1) (hc2 : ¬k0_cond2 i = 1#1) (hc3 : ¬k0_cond3 i = 1#1) (hc4 : ¬k0_cond4 i = 1#1) (hc5 : ¬k0_cond5 i = 1#1)
    (x0 x1 x2 x3 : Vec F S2048x128 .f32) (x4 : Vec F S1x3x128 .f32) (d10 : Vec F S2048x128 .bf16) (d11 : Vec F S3x128 .f32) (s0 : Vec F S6x2048x128 .bf16)
    (E : Set ℕ) (K : PUnit → sProp 𝕄) :
    iprop(owns (c : Thread nD τ) arg1 fullShare x0 ∗ owns (c : Thread nD τ) arg2 fullShare x1 ∗ owns (c : Thread nD τ) arg3 fullShare x2
      ∗ owns (c : Thread nD τ) arg4 fullShare x3 ∗ owns (c : Thread nD τ) arg5 fullShare x4 ∗ owns (c : Thread nD τ) arg11 fullShare d10
      ∗ owns (c : Thread nD τ) arg12 fullShare d11 ∗ owns (c : Thread nD τ) arg18 fullShare s0
      ∗ (iprop(owns (c : Thread nD τ) arg1 fullShare x0 ∗ owns (c : Thread nD τ) arg2 fullShare x1 ∗ owns (c : Thread nD τ) arg3 fullShare x2
          ∗ owns (c : Thread nD τ) arg4 fullShare x3 ∗ owns (c : Thread nD τ) arg5 fullShare x4 ∗ owns (c : Thread nD τ) arg11 fullShare (convOut x1 x2 x3 x4)
          ∗ owns (c : Thread nD τ) arg12 fullShare (convTaps x0 x1 x2 x3 d11)
          ∗ owns (c : Thread nD τ) arg18 fullShare (VecWindow.put (VecWindow.put s0 (k0_off1 i) S1x2048x128.size (convKeep1 x0 x2 x3 x4)) (k0_off2 i) S1x2048x128.size (convKeep2 x0 x1 x3 x4)))
        -∗ K ⟨⟩))
      ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_mixer_bwd_eq_skeleton]; unfold cc0_mixer_bwd_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f10, %hf10, H10⟩, ⟨%f11, %hf11, H11⟩, ⟨%fs, %hfs, HS⟩, Hk⟩
  sl_exec (disch := first | sl_exact hc1 | sl_exact hc2 | sl_exact hc3 | sl_exact hc4 | sl_exact hc5)
  sl_step
  iapply Hk
  have e0 : View.readAt (Elt F) arg1.view (Rect.unit (s := S2048x128) ![0, 0] ![2048, 128] inb_S2048x128_S2048x128_0_0).toLoadRect f0 = x0 := (View.readAt_full arg1.view f0 _).trans hf0
  have e1 : View.readAt (Elt F) arg2.view (Rect.unit (s := S2048x128) ![0, 0] ![2048, 128] inb_S2048x128_S2048x128_0_0).toLoadRect f1 = x1 := (View.readAt_full arg2.view f1 _).trans hf1
  have e2 : View.readAt (Elt F) arg3.view (Rect.unit (s := S2048x128) ![0, 0] ![2048, 128] inb_S2048x128_S2048x128_0_0).toLoadRect f2 = x2 := (View.readAt_full arg3.view f2 _).trans hf2
  have e3 : View.readAt (Elt F) arg4.view (Rect.unit (s := S2048x128) ![0, 0] ![2048, 128] inb_S2048x128_S2048x128_0_0).toLoadRect f3 = x3 := (View.readAt_full arg4.view f3 _).trans hf3
  have e4 : View.readAt (Elt F) arg5.view (Rect.unit (s := S1x3x128) ![0, 0, 0] ![1, 3, 128] inb_S1x3x128_S1x3x128_0_0_0).toLoadRect f4 = x4 := (View.readAt_full arg5.view f4 _).trans hf4
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H10]
  · iexists _; isplitr; swap
    · iexact H10
    · ipureintro
      rw [View.read_writes_full]
      try delta conv_run.sl.r_12
      try delta conv_run.sl.r_11
      try delta conv_run.sl.r_10
      try delta conv_run.sl.r_9
      try delta conv_run.sl.r_8
      try delta conv_run.sl.r_7
      try delta conv_run.sl.r_6
      try delta conv_run.sl.r_5
      try delta conv_run.sl.r_4
      try delta conv_run.sl.r_3
      try delta conv_run.sl.r_2
      try delta conv_run.sl.r_1
      try delta conv_run.sl.r
      simp only [e0, e1, e2, e3, e4]; rfl
  isplitl [H11]
  · iexists _; isplitr; swap
    · iexact H11
    · ipureintro
      rw [View.read_writes_cons_put _ _ _ _ _ rfl, View.read_writes_cons_put _ _ _ _ _ rfl, View.read_writes_cons_put _ _ _ _ _ rfl, View.writes_nil, hf11]
      try delta conv_run.sl.r_12
      try delta conv_run.sl.r_11
      try delta conv_run.sl.r_10
      try delta conv_run.sl.r_9
      try delta conv_run.sl.r_8
      try delta conv_run.sl.r_7
      try delta conv_run.sl.r_6
      try delta conv_run.sl.r_5
      try delta conv_run.sl.r_4
      try delta conv_run.sl.r_3
      try delta conv_run.sl.r_2
      try delta conv_run.sl.r_1
      try delta conv_run.sl.r
      simp only [e0, e1, e2, e3, e4]; rfl
  · iexists _; isplitr; swap
    · iexact HS
    · ipureintro
      rw [View.read_writes_cons_put _ _ _ _ _ rfl, View.read_writes_cons_put _ _ _ _ _ rfl, View.writes_nil, hfs]
      try delta conv_run.sl.r_12
      try delta conv_run.sl.r_11
      try delta conv_run.sl.r_10
      try delta conv_run.sl.r_9
      try delta conv_run.sl.r_8
      try delta conv_run.sl.r_7
      try delta conv_run.sl.r_6
      try delta conv_run.sl.r_5
      try delta conv_run.sl.r_4
      try delta conv_run.sl.r_3
      try delta conv_run.sl.r_2
      try delta conv_run.sl.r_1
      try delta conv_run.sl.r
      simp only [e0, e1, e2, e3, e4]; rfl

end Run

end Cert.Mx

end
-- ==== Proof.Mx.Emit.lean ====
module

public import proofs.«01_k».proof.Proof.Mx.Conv

@[expose] public section

set_option maxRecDepth 16384

noncomputable section

namespace Cert.Mx

open Cert.KernelMxIdeal Cert.KernelMxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The points that hand on a kept block

At points 3 to 8 the body stores a block kept at a convolution point, at points 14 to 16 one kept at a gated point. -/

/-- The block of the first store of kept blocks that a point hands on. -/
def emit1 (i : grid0.Coords) (h : k0_cond2 i = 1#1) (s0 : Vec F S6x2048x128 .bf16) : FVec F S2048x128 .bf16 :=
  k0_pay2 (VecWindow.window s0 (k0_off3 i) S1x2048x128.size (k0_off3_inb i h))
/-- The block of the second store of kept blocks that a point hands on. -/
def emit2 (i : grid0.Coords) (h : k0_cond5 i = 1#1) (s1 : Vec F S3x2048x128 .bf16) : FVec F S2048x128 .bf16 :=
  k0_pay6 (VecWindow.window s1 (k0_off6 i) S1x2048x128.size (k0_off6_inb i h))

section Run

variable (c : Dev nD) (i : grid0.Coords) (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S1x3x128 .f32) (harg5 : arg5.IsWhole)
  (arg6 : Memref sig .tc .vmem S1x1x128x128 .f32) (harg6 : arg6.IsWhole)
  (arg7 : Memref sig .tc .vmem S1x1x128 .f32) (harg7 : arg7.IsWhole)
  (arg8 : Memref sig .tc .vmem S1x1x128 .f32) (harg8 : arg8.IsWhole)
  (arg9 : Memref sig .tc .vmem S1x1x256x128 .f32) (harg9 : arg9.IsWhole)
  (arg10 : Memref sig .tc .vmem S1x1x128x128 .f32) (harg10 : arg10.IsWhole)
  (arg11 : Memref sig .tc .vmem S2048x128 .bf16) (harg11 : arg11.IsWhole)
  (arg12 : Memref sig .tc .vmem S3x128 .f32) (harg12 : arg12.IsWhole)
  (arg13 : Memref sig .tc .vmem S1x128x128 .f32) (harg13 : arg13.IsWhole)
  (arg14 : Memref sig .tc .vmem S1x128 .f32) (harg14 : arg14.IsWhole)
  (arg15 : Memref sig .tc .vmem S1x128 .f32) (harg15 : arg15.IsWhole)
  (arg16 : Memref sig .tc .vmem S1x256x128 .f32) (harg16 : arg16.IsWhole)
  (arg17 : Memref sig .tc .vmem S1x128x128 .f32) (harg17 : arg17.IsWhole)
  (arg18 : Memref sig .tc .vmem S6x2048x128 .bf16) (harg18 : arg18.IsWhole)
  (arg19 : Memref sig .tc .vmem S3x2048x128 .bf16) (harg19 : arg19.IsWhole)

set_option maxHeartbeats 1000000 in
/-- The body at a point that hands on a kept block of the convolution mixer. -/
theorem emit1_run (hc1 : ¬k0_cond1 i = 1#1) (hc2 : k0_cond2 i = 1#1) (hc3 : ¬k0_cond3 i = 1#1) (hc4 : ¬k0_cond4 i = 1#1) (hc5 : ¬k0_cond5 i = 1#1)
     (d10 : Vec F S2048x128 .bf16) (s0 : Vec F S6x2048x128 .bf16)
    (E : Set ℕ) (K : PUnit → sProp 𝕄) :
    iprop(owns (c : Thread nD τ) arg11 fullShare d10 ∗ owns (c : Thread nD τ) arg18 fullShare s0
      ∗ (iprop(owns (c : Thread nD τ) arg11 fullShare (emit1 i hc2 s0) ∗ owns (c : Thread nD τ) arg18 fullShare s0)
        -∗ K ⟨⟩))
      ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_mixer_bwd_eq_skeleton]; unfold cc0_mixer_bwd_skel

  unfold owns
  iintro ⟨⟨%f11, %hf11, H11⟩, ⟨%f18, %hf18, H18⟩, Hk⟩
  sl_exec (disch := first | sl_exact hc1 | sl_exact hc2 | sl_exact hc3 | sl_exact hc4 | sl_exact hc5)
  sl_step
  iapply Hk
  isplitl [H11]
  · iexists _; isplitr; swap
    · iexact H11
    · ipureintro
      rw [View.read_writes_full]
      try delta emit1_run.sl.r_3
      try delta emit1_run.sl.r_2
      try delta emit1_run.sl.r_1
      try delta emit1_run.sl.r
      rw [← hf18]; rfl
  · iexists _; isplitr; swap
    · iexact H18
    · ipureintro
      exact hf18

set_option maxHeartbeats 1000000 in
/-- The body at a point that hands on a kept block of the gated mixer. -/
theorem emit2_run (hc1 : ¬k0_cond1 i = 1#1) (hc2 : ¬k0_cond2 i = 1#1) (hc3 : ¬k0_cond3 i = 1#1) (hc4 : ¬k0_cond4 i = 1#1) (hc5 : k0_cond5 i = 1#1)
     (d10 : Vec F S2048x128 .bf16) (s0 : Vec F S3x2048x128 .bf16)
    (E : Set ℕ) (K : PUnit → sProp 𝕄) :
    iprop(owns (c : Thread nD τ) arg11 fullShare d10 ∗ owns (c : Thread nD τ) arg19 fullShare s0
      ∗ (iprop(owns (c : Thread nD τ) arg11 fullShare (emit2 i hc5 s0) ∗ owns (c : Thread nD τ) arg19 fullShare s0)
        -∗ K ⟨⟩))
      ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_mixer_bwd_eq_skeleton]; unfold cc0_mixer_bwd_skel

  unfold owns
  iintro ⟨⟨%f11, %hf11, H11⟩, ⟨%f19, %hf19, H19⟩, Hk⟩
  sl_exec (disch := first | sl_exact hc1 | sl_exact hc2 | sl_exact hc3 | sl_exact hc4 | sl_exact hc5)
  sl_step
  iapply Hk
  isplitl [H11]
  · iexists _; isplitr; swap
    · iexact H11
    · ipureintro
      rw [View.read_writes_full]
      try delta emit2_run.sl.r_3
      try delta emit2_run.sl.r_2
      try delta emit2_run.sl.r_1
      try delta emit2_run.sl.r
      rw [← hf19]; rfl
  · iexists _; isplitr; swap
    · iexact H19
    · ipureintro
      exact hf19

end Run

end Cert.Mx

end
-- ==== Proof.Mx.Pool.lean ====
module

public import proofs.«01_k».proof.Proof.Mx.Emit

@[expose] public section

set_option maxRecDepth 16384

noncomputable section

namespace Cert.Mx

open Cert.KernelMxIdeal Cert.KernelMxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The pooling points

At points 9 and 10 the body works on one column block of the pooling mixer: it stores the gradient of the block's
columns, of its matrix and of its scale. -/

section Values

variable (i : grid0.Coords) (x0 x3 : Vec F S2048x128 .f32) (x5 : Vec F S1x1x128x128 .f32) (x6 : Vec F S1x1x128 .f32)

/-- The gradient of the scale. -/
def poolScale : FVec F S1x128 .f32 :=
  k0_pay35 (Scalar.cmpi .eq (BitVec.ofNat 32 (i 0).val) 9#32) x0 x3 k0_pay25 (k0_pay26 (BitVec.ofNat 32 (i 0).val)) (k0_pay27 x0) (k0_pay28 x0) (k0_pay29 x0) k0_pay30 (k0_pay31 x0) (Scalar.ofBits .f32 0x00000000#32) x5
/-- The gradient of the matrix. -/
def poolMat : FVec F S1x128x128 .f32 :=
  k0_pay38 (Scalar.cmpi .eq (BitVec.ofNat 32 (i 0).val) 9#32) x0 x3 k0_pay25 (k0_pay26 (BitVec.ofNat 32 (i 0).val)) (k0_pay27 x0) (k0_pay28 x0) (k0_pay29 x0) k0_pay30 (k0_pay31 x0) (Scalar.ofBits .f32 0x00000000#32) x6
/-- The gradient of the columns. -/
def poolOut : FVec F S2048x128 .bf16 :=
  k0_pay3 (Scalar.cmpi .eq (BitVec.ofNat 32 (i 0).val) 9#32) (k0_pay37 x3 x5 x6) (k0_pay39 x3 (k0_pay26 (BitVec.ofNat 32 (i 0).val)) x5 x6) (iota .tc S2048x128 32 [0] iota_S2048x128_d0_w32) k0_pay40

end Values

section Run

variable (c : Dev nD) (i : grid0.Coords) (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S1x3x128 .f32) (harg5 : arg5.IsWhole)
  (arg6 : Memref sig .tc .vmem S1x1x128x128 .f32) (harg6 : arg6.IsWhole)
  (arg7 : Memref sig .tc .vmem S1x1x128 .f32) (harg7 : arg7.IsWhole)
  (arg8 : Memref sig .tc .vmem S1x1x128 .f32) (harg8 : arg8.IsWhole)
  (arg9 : Memref sig .tc .vmem S1x1x256x128 .f32) (harg9 : arg9.IsWhole)
  (arg10 : Memref sig .tc .vmem S1x1x128x128 .f32) (harg10 : arg10.IsWhole)
  (arg11 : Memref sig .tc .vmem S2048x128 .bf16) (harg11 : arg11.IsWhole)
  (arg12 : Memref sig .tc .vmem S3x128 .f32) (harg12 : arg12.IsWhole)
  (arg13 : Memref sig .tc .vmem S1x128x128 .f32) (harg13 : arg13.IsWhole)
  (arg14 : Memref sig .tc .vmem S1x128 .f32) (harg14 : arg14.IsWhole)
  (arg15 : Memref sig .tc .vmem S1x128 .f32) (harg15 : arg15.IsWhole)
  (arg16 : Memref sig .tc .vmem S1x256x128 .f32) (harg16 : arg16.IsWhole)
  (arg17 : Memref sig .tc .vmem S1x128x128 .f32) (harg17 : arg17.IsWhole)
  (arg18 : Memref sig .tc .vmem S6x2048x128 .bf16) (harg18 : arg18.IsWhole)
  (arg19 : Memref sig .tc .vmem S3x2048x128 .bf16) (harg19 : arg19.IsWhole)

set_option maxHeartbeats 1000000 in
/-- The body at a pooling point. -/
theorem pool_run (hc1 : ¬k0_cond1 i = 1#1) (hc2 : ¬k0_cond2 i = 1#1) (hc3 : k0_cond3 i = 1#1) (hc4 : ¬k0_cond4 i = 1#1) (hc5 : ¬k0_cond5 i = 1#1)
    (x0 : Vec F S2048x128 .f32) (x3 : Vec F S2048x128 .f32) (x5 : Vec F S1x1x128x128 .f32) (x6 : Vec F S1x1x128 .f32) (d10 : Vec F S2048x128 .bf16) (d12 : Vec F S1x128x128 .f32) (d13 : Vec F S1x128 .f32)
    (E : Set ℕ) (K : PUnit → sProp 𝕄) :
    iprop(owns (c : Thread nD τ) arg1 fullShare x0 ∗ owns (c : Thread nD τ) arg4 fullShare x3 ∗ owns (c : Thread nD τ) arg6 fullShare x5 ∗ owns (c : Thread nD τ) arg7 fullShare x6 ∗ owns (c : Thread nD τ) arg11 fullShare d10 ∗ owns (c : Thread nD τ) arg13 fullShare d12 ∗ owns (c : Thread nD τ) arg14 fullShare d13
      ∗ (iprop(owns (c : Thread nD τ) arg1 fullShare x0 ∗ owns (c : Thread nD τ) arg4 fullShare x3 ∗ owns (c : Thread nD τ) arg6 fullShare x5 ∗ owns (c : Thread nD τ) arg7 fullShare x6 ∗ owns (c : Thread nD τ) arg11 fullShare (poolOut i x3 x5 x6) ∗ owns (c : Thread nD τ) arg13 fullShare (poolMat i x0 x3 x6) ∗ owns (c : Thread nD τ) arg14 fullShare (poolScale i x0 x3 x5))
        -∗ K ⟨⟩))
      ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_mixer_bwd_eq_skeleton]; unfold cc0_mixer_bwd_skel
  simp only [k0_part3_eq_skeleton, k0_part4_eq_skeleton]
  unfold owns
  iintro ⟨⟨%f1, %hf1, H1⟩, ⟨%f4, %hf4, H4⟩, ⟨%f6, %hf6, H6⟩, ⟨%f7, %hf7, H7⟩, ⟨%f11, %hf11, H11⟩, ⟨%f13, %hf13, H13⟩, ⟨%f14, %hf14, H14⟩, Hk⟩
  sl_exec (disch := first | sl_exact hc1 | sl_exact hc2 | sl_exact hc3 | sl_exact hc4 | sl_exact hc5)
  sl_step
  iapply Hk
  have e1 : View.readAt (Elt F) arg1.view (Rect.unit (s := S2048x128) ![0, 0] ![2048, 128] inb_S2048x128_S2048x128_0_0).toLoadRect f1 = x0 := (View.readAt_full arg1.view f1 _).trans hf1
  have e4 : View.readAt (Elt F) arg4.view (Rect.unit (s := S2048x128) ![0, 0] ![2048, 128] inb_S2048x128_S2048x128_0_0).toLoadRect f4 = x3 := (View.readAt_full arg4.view f4 _).trans hf4
  have e6 : View.readAt (Elt F) arg6.view (Rect.unit (s := S1x1x128x128) ![0, 0, 0, 0] ![1, 1, 128, 128] inb_S1x1x128x128_S1x1x128x128_0_0_0_0).toLoadRect f6 = x5 := (View.readAt_full arg6.view f6 _).trans hf6
  have e7 : View.readAt (Elt F) arg7.view (Rect.unit (s := S1x1x128) ![0, 0, 0] ![1, 1, 128] inb_S1x1x128_S1x1x128_0_0_0).toLoadRect f7 = x6 := (View.readAt_full arg7.view f7 _).trans hf7
  isplitl [H1]
  · iexists _; isplitr; · ipureintro; exact hf1
    iexact H1
  isplitl [H4]
  · iexists _; isplitr; · ipureintro; exact hf4
    iexact H4
  isplitl [H6]
  · iexists _; isplitr; · ipureintro; exact hf6
    iexact H6
  isplitl [H7]
  · iexists _; isplitr; · ipureintro; exact hf7
    iexact H7
  isplitl [H11]
  · iexists _; isplitr; swap
    · iexact H11
    · ipureintro
      rw [View.read_writes_full]
      try delta pool_run.sl.r_16
      try delta pool_run.sl.r_15
      try delta pool_run.sl.r_14
      try delta pool_run.sl.r_13
      try delta pool_run.sl.r_12
      try delta pool_run.sl.r_11
      try delta pool_run.sl.r_10
      try delta pool_run.sl.r_9
      try delta pool_run.sl.r_8
      try delta pool_run.sl.r_7
      try delta pool_run.sl.r_6
      try delta pool_run.sl.r_5
      try delta pool_run.sl.r_4
      try delta pool_run.sl.r_3
      try delta pool_run.sl.r_2
      try delta pool_run.sl.r_1
      try delta pool_run.sl.r
      simp only [e1, e4, e6, e7]; rfl
  isplitl [H13]
  · iexists _; isplitr; swap
    · iexact H13
    · ipureintro
      rw [View.read_writes_full]
      try delta pool_run.sl.r_16
      try delta pool_run.sl.r_15
      try delta pool_run.sl.r_14
      try delta pool_run.sl.r_13
      try delta pool_run.sl.r_12
      try delta pool_run.sl.r_11
      try delta pool_run.sl.r_10
      try delta pool_run.sl.r_9
      try delta pool_run.sl.r_8
      try delta pool_run.sl.r_7
      try delta pool_run.sl.r_6
      try delta pool_run.sl.r_5
      try delta pool_run.sl.r_4
      try delta pool_run.sl.r_3
      try delta pool_run.sl.r_2
      try delta pool_run.sl.r_1
      try delta pool_run.sl.r
      simp only [e1, e4, e6, e7]; rfl
  · iexists _; isplitr; swap
    · iexact H14
    · ipureintro
      rw [View.read_writes_full]
      try delta pool_run.sl.r_16
      try delta pool_run.sl.r_15
      try delta pool_run.sl.r_14
      try delta pool_run.sl.r_13
      try delta pool_run.sl.r_12
      try delta pool_run.sl.r_11
      try delta pool_run.sl.r_10
      try delta pool_run.sl.r_9
      try delta pool_run.sl.r_8
      try delta pool_run.sl.r_7
      try delta pool_run.sl.r_6
      try delta pool_run.sl.r_5
      try delta pool_run.sl.r_4
      try delta pool_run.sl.r_3
      try delta pool_run.sl.r_2
      try delta pool_run.sl.r_1
      try delta pool_run.sl.r
      simp only [e1, e4, e6, e7]; rfl

end Run

end Cert.Mx

end
-- ==== Proof.Mx.Trip.lean ====
module

public import proofs.«01_k».proof.Proof.Mx.Pool

@[expose] public section

set_option maxRecDepth 16384

noncomputable section

namespace Cert.Mx

open Cert.KernelMxIdeal Cert.KernelMxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The gated points: one trip

At points 11, 12, 13 the body works on one column block of the gated mixer, by a loop over sixteen chunks of 128 rows.
A trip stores a chunk of the first gradient, keeps a chunk of the second, and adds to the three sums. -/

section Values

/-- What the loop carries: the first gradient, the three sums, the blocks kept. -/
structure Carry (F : FTy → Type) where
  out : Vec F S2048x128 .bf16
  gain : Vec F S1x128 .f32
  mat : Vec F S1x256x128 .f32
  bias : Vec F S1x128x128 .f32
  kept : Vec F S3x2048x128 .bf16

variable (a b d : Vec F S128x128 .f32) (x7 : Vec F S1x1x128 .f32) (x8 : Vec F S1x1x256x128 .f32) (x9 : Vec F S1x1x128x128 .f32)

/-- A chunk of the first gradient. -/
def tripOut : FVec F S128x128 .bf16 :=
  k0_pay49 k0_pay59 (k0_pay61 x8) (k0_pay62 x9) (k0_pay63 x7) a d (k0_pay42 k0_pay59 b) (k0_pay43 k0_pay59 b) (k0_pay44 k0_pay59 b)
/-- The chunk's part of the bias gradient. -/
def tripD : FVec F S128x128 .f32 := k0_pay48 d (k0_pay41 a)
/-- The chunk's normalised values. -/
def tripN : FVec F S128x128 .f32 := k0_pay46 k0_pay59 (k0_pay42 k0_pay59 b) (k0_pay43 k0_pay59 b) (k0_pay44 k0_pay59 b)
/-- A chunk of the second gradient. -/
def tripKeep : FVec F S1x128x128 .bf16 :=
  k0_pay67 (k0_pay58 k0_pay59 b (k0_pay45 k0_pay59 (k0_pay43 k0_pay59 b) (k0_pay44 k0_pay59 b)) (tripN b)
    (k0_pay55 k0_pay59 (k0_pay61 x8) (k0_pay63 x7) (tripD a d)) (k0_pay56 k0_pay59 (k0_pay61 x8) (k0_pay63 x7) (tripD a d)) k0_pay57)
/-- The bias sum after the chunk. -/
def tripBias (s : Vec F S1x128x128 .f32) : FVec F S1x128x128 .f32 := k0_pay50 (tripD a d) s
/-- The matrix sum after the chunk. -/
def tripMat (s : Vec F S1x256x128 .f32) : FVec F S1x256x128 .f32 :=
  k0_pay52 k0_pay59 (k0_pay47 k0_pay59 (k0_pay63 x7) (k0_pay42 k0_pay59 b) (k0_pay43 k0_pay59 b) (k0_pay44 k0_pay59 b)) (tripD a d) s
/-- The gain sum after the chunk. -/
def tripGain (s : Vec F S1x128 .f32) : FVec F S1x128 .f32 := k0_pay54 k0_pay59 (k0_pay61 x8) (tripN b) (tripD a d) s

end Values

section Steps

variable (i : grid0.Coords) (h4 : k0_cond4 i = 1#1) (x0 x1 x3 : Vec F S2048x128 .f32)
  (x7 : Vec F S1x1x128 .f32) (x8 : Vec F S1x1x256x128 .f32) (x9 : Vec F S1x1x128x128 .f32)

/-- The chunk of rows of a trip. -/
def chunk (n : Fin k0_t1_loop.trips) (x : Vec F S2048x128 .f32) : Vec F S128x128 .f32 :=
  VecWindow.window x (k0_off4 n) S128x128.size (k0_off4_inb i n h4)

/-- One trip. -/
def carryStep (n : Fin k0_t1_loop.trips) (S : Carry F) : Carry F where
  out := VecWindow.put S.out (k0_off4 n) S128x128.size (tripOut (chunk i h4 n x0) (chunk i h4 n x1) (chunk i h4 n x3) x7 x8 x9)
  gain := tripGain (chunk i h4 n x0) (chunk i h4 n x1) (chunk i h4 n x3) x8 S.gain
  mat := tripMat (chunk i h4 n x0) (chunk i h4 n x1) (chunk i h4 n x3) x7 S.mat
  bias := tripBias (chunk i h4 n x0) (chunk i h4 n x3) S.bias
  kept := VecWindow.put S.kept (k0_off5 i n) S1x128x128.size (tripKeep (chunk i h4 n x0) (chunk i h4 n x1) (chunk i h4 n x3) x7 x8)

/-- What the loop carries before trip `n`, from what it starts with. -/
def carry (S : Carry F) : ℕ → Carry F
  | 0 => S
  | n + 1 => if h : n < k0_t1_loop.trips then carryStep i h4 x0 x1 x3 x7 x8 x9 ⟨n, h⟩ (carry S n) else carry S n

theorem carry_succ (S : Carry F) (n : Fin k0_t1_loop.trips) :
    carry i h4 x0 x1 x3 x7 x8 x9 S (n.val + 1) = carryStep i h4 x0 x1 x3 x7 x8 x9 n (carry i h4 x0 x1 x3 x7 x8 x9 S n.val) :=
  dif_pos n.isLt

end Steps

section Run

variable (c : Dev nD) (i : grid0.Coords) (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S1x3x128 .f32) (harg5 : arg5.IsWhole)
  (arg6 : Memref sig .tc .vmem S1x1x128x128 .f32) (harg6 : arg6.IsWhole)
  (arg7 : Memref sig .tc .vmem S1x1x128 .f32) (harg7 : arg7.IsWhole)
  (arg8 : Memref sig .tc .vmem S1x1x128 .f32) (harg8 : arg8.IsWhole)
  (arg9 : Memref sig .tc .vmem S1x1x256x128 .f32) (harg9 : arg9.IsWhole)
  (arg10 : Memref sig .tc .vmem S1x1x128x128 .f32) (harg10 : arg10.IsWhole)
  (arg11 : Memref sig .tc .vmem S2048x128 .bf16) (harg11 : arg11.IsWhole)
  (arg12 : Memref sig .tc .vmem S3x128 .f32) (harg12 : arg12.IsWhole)
  (arg13 : Memref sig .tc .vmem S1x128x128 .f32) (harg13 : arg13.IsWhole)
  (arg14 : Memref sig .tc .vmem S1x128 .f32) (harg14 : arg14.IsWhole)
  (arg15 : Memref sig .tc .vmem S1x128 .f32) (harg15 : arg15.IsWhole)
  (arg16 : Memref sig .tc .vmem S1x256x128 .f32) (harg16 : arg16.IsWhole)
  (arg17 : Memref sig .tc .vmem S1x128x128 .f32) (harg17 : arg17.IsWhole)
  (arg18 : Memref sig .tc .vmem S6x2048x128 .bf16) (harg18 : arg18.IsWhole)
  (arg19 : Memref sig .tc .vmem S3x2048x128 .bf16) (harg19 : arg19.IsWhole)

/-- The buffers of the loop, at what it carries. -/
def Held (x0 x1 x3 : Vec F S2048x128 .f32) (S : Carry F) : sProp 𝕄 :=
  iprop(owns (c : Thread nD τ) arg1 fullShare x0 ∗ owns (c : Thread nD τ) arg2 fullShare x1 ∗ owns (c : Thread nD τ) arg4 fullShare x3 ∗ owns (c : Thread nD τ) arg11 fullShare (S).out ∗ owns (c : Thread nD τ) arg15 fullShare (S).gain ∗ owns (c : Thread nD τ) arg16 fullShare (S).mat ∗ owns (c : Thread nD τ) arg17 fullShare (S).bias ∗ owns (c : Thread nD τ) arg19 fullShare (S).kept)

set_option maxHeartbeats 1000000 in
/-- One trip of the loop. -/
theorem trip_run (h4 : k0_cond4 i = 1#1) (arg0 : BitVec 32) (x0 x1 x3 : Vec F S2048x128 .f32)
    (x7 : Vec F S1x1x128 .f32) (x8 : Vec F S1x1x256x128 .f32) (x9 : Vec F S1x1x128x128 .f32) (n : Fin k0_t1_loop.trips) (u : Unit) (S : Carry F) (E : Set ℕ) :
    Held c arg1 arg2 arg4 arg11 arg15 arg16 arg17 arg19 x0 x1 x3 S
      ⊢ wp frame (wpE (defs₀ (F := F)) Variants.none (c : Thread nD τ) none) E (k0_t1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 h4 x8 x9 x7 n u)
        (fun _ => Held c arg1 arg2 arg4 arg11 arg15 arg16 arg17 arg19 x0 x1 x3 (carryStep i h4 x0 x1 x3 x7 x8 x9 n S)) := by
  unfold k0_t1_body
  simp only [k0_part5_eq_skeleton, k0_part6_eq_skeleton, k0_part7_eq_skeleton, k0_part8_eq_skeleton]
  unfold Held owns
  iintro ⟨⟨%f1, %hf1, H1⟩, ⟨%f2, %hf2, H2⟩, ⟨%f4, %hf4, H4⟩, ⟨%f11, %hf11, H11⟩, ⟨%f15, %hf15, H15⟩, ⟨%f16, %hf16, H16⟩, ⟨%f17, %hf17, H17⟩, ⟨%f19, %hf19, H19⟩⟩
  sl_exec
  sl_step
  have e1 : View.readAt (Elt F) arg1.view (Rect.unit (s := S2048x128) (k0_off4 n) ![128, 128] (k0_off4_inb i n h4)).toLoadRect f1 = chunk i h4 n x0 := by rw [← hf1]; rfl
  have e2 : View.readAt (Elt F) arg2.view (Rect.unit (s := S2048x128) (k0_off4 n) ![128, 128] (k0_off4_inb i n h4)).toLoadRect f2 = chunk i h4 n x1 := by rw [← hf2]; rfl
  have e4 : View.readAt (Elt F) arg4.view (Rect.unit (s := S2048x128) (k0_off4 n) ![128, 128] (k0_off4_inb i n h4)).toLoadRect f4 = chunk i h4 n x3 := by rw [← hf4]; rfl
  have e15 : View.readAt (Elt F) arg15.view (Rect.unit (s := S1x128) ![0, 0] ![1, 128] inb_S1x128_S1x128_0_0).toLoadRect f15 = S.gain := (View.readAt_full arg15.view f15 _).trans hf15
  have e16 : View.readAt (Elt F) arg16.view (Rect.unit (s := S1x256x128) ![0, 0, 0] ![1, 256, 128] inb_S1x256x128_S1x256x128_0_0_0).toLoadRect f16 = S.mat := (View.readAt_full arg16.view f16 _).trans hf16
  have e17 : View.readAt (Elt F) arg17.view (Rect.unit (s := S1x128x128) ![0, 0, 0] ![1, 128, 128] inb_S1x128x128_S1x128x128_0_0_0).toLoadRect f17 = S.bias := (View.readAt_full arg17.view f17 _).trans hf17
  isplitl [H1]
  · iexists _; isplitr; · ipureintro; exact hf1
    iexact H1
  isplitl [H2]
  · iexists _; isplitr; · ipureintro; exact hf2
    iexact H2
  isplitl [H4]
  · iexists _; isplitr; · ipureintro; exact hf4
    iexact H4
  isplitl [H11]
  · iexists _; isplitr; swap
    · iexact H11
    · ipureintro
      rw [View.read_writes_cons_put _ _ _ _ _ rfl, View.writes_nil, hf11]
      try delta trip_run.sl.r_16
      try delta trip_run.sl.r_15
      try delta trip_run.sl.r_14
      try delta trip_run.sl.r_13
      try delta trip_run.sl.r_12
      try delta trip_run.sl.r_11
      try delta trip_run.sl.r_10
      try delta trip_run.sl.r_9
      try delta trip_run.sl.r_8
      try delta trip_run.sl.r_7
      try delta trip_run.sl.r_6
      try delta trip_run.sl.r_5
      try delta trip_run.sl.r_4
      try delta trip_run.sl.r_3
      try delta trip_run.sl.r_2
      try delta trip_run.sl.r_1
      try delta trip_run.sl.r
      simp only [e1, e2, e4, e15, e16, e17]; rfl
  isplitl [H15]
  · iexists _; isplitr; swap
    · iexact H15
    · ipureintro
      rw [View.read_writes_full]
      try delta trip_run.sl.r_16
      try delta trip_run.sl.r_15
      try delta trip_run.sl.r_14
      try delta trip_run.sl.r_13
      try delta trip_run.sl.r_12
      try delta trip_run.sl.r_11
      try delta trip_run.sl.r_10
      try delta trip_run.sl.r_9
      try delta trip_run.sl.r_8
      try delta trip_run.sl.r_7
      try delta trip_run.sl.r_6
      try delta trip_run.sl.r_5
      try delta trip_run.sl.r_4
      try delta trip_run.sl.r_3
      try delta trip_run.sl.r_2
      try delta trip_run.sl.r_1
      try delta trip_run.sl.r
      simp only [e1, e2, e4, e15, e16, e17]; rfl
  isplitl [H16]
  · iexists _; isplitr; swap
    · iexact H16
    · ipureintro
      rw [View.read_writes_full]
      try delta trip_run.sl.r_16
      try delta trip_run.sl.r_15
      try delta trip_run.sl.r_14
      try delta trip_run.sl.r_13
      try delta trip_run.sl.r_12
      try delta trip_run.sl.r_11
      try delta trip_run.sl.r_10
      try delta trip_run.sl.r_9
      try delta trip_run.sl.r_8
      try delta trip_run.sl.r_7
      try delta trip_run.sl.r_6
      try delta trip_run.sl.r_5
      try delta trip_run.sl.r_4
      try delta trip_run.sl.r_3
      try delta trip_run.sl.r_2
      try delta trip_run.sl.r_1
      try delta trip_run.sl.r
      simp only [e1, e2, e4, e15, e16, e17]; rfl
  isplitl [H17]
  · iexists _; isplitr; swap
    · iexact H17
    · ipureintro
      rw [View.read_writes_full]
      try delta trip_run.sl.r_16
      try delta trip_run.sl.r_15
      try delta trip_run.sl.r_14
      try delta trip_run.sl.r_13
      try delta trip_run.sl.r_12
      try delta trip_run.sl.r_11
      try delta trip_run.sl.r_10
      try delta trip_run.sl.r_9
      try delta trip_run.sl.r_8
      try delta trip_run.sl.r_7
      try delta trip_run.sl.r_6
      try delta trip_run.sl.r_5
      try delta trip_run.sl.r_4
      try delta trip_run.sl.r_3
      try delta trip_run.sl.r_2
      try delta trip_run.sl.r_1
      try delta trip_run.sl.r
      simp only [e1, e2, e4, e15, e16, e17]; rfl
  · iexists _; isplitr; swap
    · iexact H19
    · ipureintro
      rw [View.read_writes_cons_put _ _ _ _ _ rfl, View.writes_nil, hf19]
      try delta trip_run.sl.r_16
      try delta trip_run.sl.r_15
      try delta trip_run.sl.r_14
      try delta trip_run.sl.r_13
      try delta trip_run.sl.r_12
      try delta trip_run.sl.r_11
      try delta trip_run.sl.r_10
      try delta trip_run.sl.r_9
      try delta trip_run.sl.r_8
      try delta trip_run.sl.r_7
      try delta trip_run.sl.r_6
      try delta trip_run.sl.r_5
      try delta trip_run.sl.r_4
      try delta trip_run.sl.r_3
      try delta trip_run.sl.r_2
      try delta trip_run.sl.r_1
      try delta trip_run.sl.r
      simp only [e1, e2, e4, e15, e16, e17]; rfl

/-- The loop at the head of a program. -/
theorem loop_run (h4 : k0_cond4 i = 1#1) (arg0 : BitVec 32) (x0 x1 x3 : Vec F S2048x128 .f32)
    (x7 : Vec F S1x1x128 .f32) (x8 : Vec F S1x1x256x128 .f32) (x9 : Vec F S1x1x128x128 .f32) (S : Carry F) (E : Set ℕ)
    {β : Type} (kk : Unit → Prog (TpuEff nD τ sig (Elt F) Λ₀ .tc) β) (Q : β → sProp 𝕄) :
    Held c arg1 arg2 arg4 arg11 arg15 arg16 arg17 arg19 x0 x1 x3 S
      ⊢ iprop((Held c arg1 arg2 arg4 arg11 arg15 arg16 arg17 arg19 x0 x1 x3 (carry i h4 x0 x1 x3 x7 x8 x9 S k0_t1_loop.trips)
          -∗ wp frame (wpE (defs₀ (F := F)) Variants.none (c : Thread nD τ) none) E (kk ()) Q)
        -∗ wp frame (wpE (defs₀ (F := F)) Variants.none (c : Thread nD τ) none) E
          (Scf.for k0_t1_loop.lb k0_t1_loop.ub k0_t1_loop.st (k0_t1_ok i h4) () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 h4 x8 x9 x7) >>= kk) Q) := by
  have h := Scf.wp_for_bind (M := 𝕄) Idealize.ShloMosaic.frame (wpE (defs₀ (F := F)) Variants.none (c : Thread nD τ) none) E
    k0_t1_loop.lb k0_t1_loop.ub k0_t1_loop.st (k0_t1_ok i h4) () (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg0 h4 x8 x9 x7)
    (fun n _ => Held c arg1 arg2 arg4 arg11 arg15 arg16 arg17 arg19 x0 x1 x3 (carry i h4 x0 x1 x3 x7 x8 x9 S n))
    (fun n u => by rw [carry_succ]; exact trip_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 h4 arg0 x0 x1 x3 x7 x8 x9 n u _ E) (kk := kk) (Q := Q)
  iintro H HK
  iapply h $$ [H]
  · iexact H
  iintro %u HI
  iapply HK
  iexact HI

end Run

end Cert.Mx

end
-- ==== Proof.Mx.Gated.lean ====
module

public import proofs.«01_k».proof.Proof.Mx.Trip

@[expose] public section

set_option maxRecDepth 16384

noncomputable section

namespace Cert.Mx

open Cert.KernelMxIdeal Cert.KernelMxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # The gated points -/

/-- What the loop of a gated point carries at its end. -/
def gatedCarry (i : grid0.Coords) (h4 : k0_cond4 i = 1#1) (x0 x1 x3 : Vec F S2048x128 .f32) (x7 : Vec F S1x1x128 .f32)
    (x8 : Vec F S1x1x256x128 .f32) (x9 : Vec F S1x1x128x128 .f32) (d10 : Vec F S2048x128 .bf16) (s1 : Vec F S3x2048x128 .bf16) : Carry F :=
  carry i h4 x0 x1 x3 x7 x8 x9 ⟨d10, k0_pay66, k0_pay64, k0_pay65, s1⟩ k0_t1_loop.trips

section Run

variable (c : Dev nD) (i : grid0.Coords) (arg1 : Memref sig .tc .vmem S2048x128 .f32) (harg1 : arg1.IsWhole)
  (arg2 : Memref sig .tc .vmem S2048x128 .f32) (harg2 : arg2.IsWhole)
  (arg3 : Memref sig .tc .vmem S2048x128 .f32) (harg3 : arg3.IsWhole)
  (arg4 : Memref sig .tc .vmem S2048x128 .f32) (harg4 : arg4.IsWhole)
  (arg5 : Memref sig .tc .vmem S1x3x128 .f32) (harg5 : arg5.IsWhole)
  (arg6 : Memref sig .tc .vmem S1x1x128x128 .f32) (harg6 : arg6.IsWhole)
  (arg7 : Memref sig .tc .vmem S1x1x128 .f32) (harg7 : arg7.IsWhole)
  (arg8 : Memref sig .tc .vmem S1x1x128 .f32) (harg8 : arg8.IsWhole)
  (arg9 : Memref sig .tc .vmem S1x1x256x128 .f32) (harg9 : arg9.IsWhole)
  (arg10 : Memref sig .tc .vmem S1x1x128x128 .f32) (harg10 : arg10.IsWhole)
  (arg11 : Memref sig .tc .vmem S2048x128 .bf16) (harg11 : arg11.IsWhole)
  (arg12 : Memref sig .tc .vmem S3x128 .f32) (harg12 : arg12.IsWhole)
  (arg13 : Memref sig .tc .vmem S1x128x128 .f32) (harg13 : arg13.IsWhole)
  (arg14 : Memref sig .tc .vmem S1x128 .f32) (harg14 : arg14.IsWhole)
  (arg15 : Memref sig .tc .vmem S1x128 .f32) (harg15 : arg15.IsWhole)
  (arg16 : Memref sig .tc .vmem S1x256x128 .f32) (harg16 : arg16.IsWhole)
  (arg17 : Memref sig .tc .vmem S1x128x128 .f32) (harg17 : arg17.IsWhole)
  (arg18 : Memref sig .tc .vmem S6x2048x128 .bf16) (harg18 : arg18.IsWhole)
  (arg19 : Memref sig .tc .vmem S3x2048x128 .bf16) (harg19 : arg19.IsWhole)

set_option maxHeartbeats 2000000 in
/-- The body at a gated point. -/
theorem gated_run (hc1 : ¬k0_cond1 i = 1#1) (hc2 : ¬k0_cond2 i = 1#1) (hc3 : ¬k0_cond3 i = 1#1) (hc4 : k0_cond4 i = 1#1) (hc5 : ¬k0_cond5 i = 1#1)
    (x0 : Vec F S2048x128 .f32) (x1 : Vec F S2048x128 .f32) (x3 : Vec F S2048x128 .f32) (x7 : Vec F S1x1x128 .f32) (x8 : Vec F S1x1x256x128 .f32) (x9 : Vec F S1x1x128x128 .f32) (d10 : Vec F S2048x128 .bf16) (d14 : Vec F S1x128 .f32) (d15 : Vec F S1x256x128 .f32) (d16 : Vec F S1x128x128 .f32) (s1 : Vec F S3x2048x128 .bf16)
    (E : Set ℕ) (K : PUnit → sProp 𝕄) :
    iprop(owns (c : Thread nD τ) arg1 fullShare x0 ∗ owns (c : Thread nD τ) arg2 fullShare x1 ∗ owns (c : Thread nD τ) arg4 fullShare x3 ∗ owns (c : Thread nD τ) arg8 fullShare x7 ∗ owns (c : Thread nD τ) arg9 fullShare x8 ∗ owns (c : Thread nD τ) arg10 fullShare x9 ∗ owns (c : Thread nD τ) arg11 fullShare d10 ∗ owns (c : Thread nD τ) arg15 fullShare d14 ∗ owns (c : Thread nD τ) arg16 fullShare d15 ∗ owns (c : Thread nD τ) arg17 fullShare d16 ∗ owns (c : Thread nD τ) arg19 fullShare s1
      ∗ (iprop(owns (c : Thread nD τ) arg1 fullShare x0 ∗ owns (c : Thread nD τ) arg2 fullShare x1 ∗ owns (c : Thread nD τ) arg4 fullShare x3 ∗ owns (c : Thread nD τ) arg8 fullShare x7 ∗ owns (c : Thread nD τ) arg9 fullShare x8 ∗ owns (c : Thread nD τ) arg10 fullShare x9 ∗ owns (c : Thread nD τ) arg11 fullShare (gatedCarry i hc4 x0 x1 x3 x7 x8 x9 d10 s1).out ∗ owns (c : Thread nD τ) arg15 fullShare (gatedCarry i hc4 x0 x1 x3 x7 x8 x9 d10 s1).gain ∗ owns (c : Thread nD τ) arg16 fullShare (k0_pay4 k0_pay60 (gatedCarry i hc4 x0 x1 x3 x7 x8 x9 d10 s1).mat) ∗ owns (c : Thread nD τ) arg17 fullShare (k0_pay5 k0_pay59 (gatedCarry i hc4 x0 x1 x3 x7 x8 x9 d10 s1).bias) ∗ owns (c : Thread nD τ) arg19 fullShare (gatedCarry i hc4 x0 x1 x3 x7 x8 x9 d10 s1).kept)
        -∗ K ⟨⟩))
      ⊢ wp frame (wpE (defs₀ (F := F)) Variants.none c none) E (cc0_mixer_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  simp only [cc0_mixer_bwd_eq_skeleton]; unfold cc0_mixer_bwd_skel
  simp only [k0_part9_eq_skeleton]; unfold k0_part9_skel
  unfold owns
  iintro ⟨⟨%f1, %hf1, H1⟩, ⟨%f2, %hf2, H2⟩, ⟨%f4, %hf4, H4⟩, ⟨%f8, %hf8, H8⟩, ⟨%f9, %hf9, H9⟩, ⟨%f10, %hf10, H10⟩, ⟨%f11, %hf11, H11⟩, ⟨%f15, %hf15, H15⟩, ⟨%f16, %hf16, H16⟩, ⟨%f17, %hf17, H17⟩, ⟨%f19, %hf19, H19⟩, Hk⟩
  sl_exec (disch := first | sl_exact hc1 | sl_exact hc2 | sl_exact hc3 | sl_exact hc4 | sl_exact hc5)
  irw [bind_assoc]
  iapply (loop_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc4 (BitVec.ofNat 32 (i 0).val) x0 x1 x3 _ _ _ ⟨d10, k0_pay66, k0_pay64, k0_pay65, s1⟩ E) $$ [H1 H2 H4 H11 H15 H16 H17 H19]
  · unfold Held owns
    isplitl [H1]
    · iexists _; isplitr; swap
      · iexact H1
      · ipureintro; exact hf1
    isplitl [H2]
    · iexists _; isplitr; swap
      · iexact H2
      · ipureintro; exact hf2
    isplitl [H4]
    · iexists _; isplitr; swap
      · iexact H4
      · ipureintro; exact hf4
    isplitl [H11]
    · iexists _; isplitr; swap
      · iexact H11
      · ipureintro; exact hf11
    isplitl [H15]
    · iexists _; isplitr; swap
      · iexact H15
      · ipureintro; exact View.read_writes_full _ _ _ _ _
    isplitl [H16]
    · iexists _; isplitr; swap
      · iexact H16
      · ipureintro; exact View.read_writes_full _ _ _ _ _
    isplitl [H17]
    · iexists _; isplitr; swap
      · iexact H17
      · ipureintro; exact View.read_writes_full _ _ _ _ _
    · iexists _; isplitr; swap
      · iexact H19
      · ipureintro; exact hf19
  iintro HI
  unfold Held owns
  icases HI with ⟨⟨%g1, %hg1, H1⟩, ⟨%g2, %hg2, H2⟩, ⟨%g4, %hg4, H4⟩, ⟨%g11, %hg11, H11⟩, ⟨%g15, %hg15, H15⟩, ⟨%g16, %hg16, H16⟩, ⟨%g17, %hg17, H17⟩, ⟨%g19, %hg19, H19⟩⟩
  rw [View.readAt_full, View.readAt_full, View.readAt_full, hf8, hf9, hf10] at hg11 hg15 hg16 hg17 hg19
  sl_exec (disch := first | sl_exact hc1 | sl_exact hc2 | sl_exact hc3 | sl_exact hc4 | sl_exact hc5)
  sl_step
  iapply Hk
  isplitl [H1]
  · iexists _; isplitr; · ipureintro; exact hg1
    iexact H1
  isplitl [H2]
  · iexists _; isplitr; · ipureintro; exact hg2
    iexact H2
  isplitl [H4]
  · iexists _; isplitr; · ipureintro; exact hg4
    iexact H4
  isplitl [H8]
  · iexists _; isplitr; · ipureintro; exact hf8
    iexact H8
  isplitl [H9]
  · iexists _; isplitr; · ipureintro; exact hf9
    iexact H9
  isplitl [H10]
  · iexists _; isplitr; · ipureintro; exact hf10
    iexact H10
  isplitl [H11]
  · iexists _; isplitr; swap
    · iexact H11
    · ipureintro; exact hg11
  isplitl [H15]
  · iexists _; isplitr; swap
    · iexact H15
    · ipureintro; exact hg15
  isplitl [H16]
  · iexists _; isplitr; swap
    · iexact H16
    · ipureintro; rw [View.read_writes_full]; exact congrArg _ ((View.readAt_full arg16.view g16 _).trans hg16)
  isplitl [H17]
  · iexists _; isplitr; swap
    · iexact H17
    · ipureintro; rw [View.read_writes_full]; exact congrArg _ ((View.readAt_full arg17.view g17 _).trans hg17)
  · iexists _; isplitr; swap
    · iexact H19
    · ipureintro; exact hg19

end Run

end Cert.Mx

end
-- ==== Proof.Mx.Closed.lean ====
module

public import proofs.«01_k».proof.Proof.Mx.Gated
public import Idealize.ShloMosaic.Lib.Pipeline.ValueKit

@[expose] public section

set_option maxRecDepth 16384

noncomputable section

namespace Cert.Mx

open Cert.KernelMxIdeal Cert.KernelMxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! # What the mixers' backward pass leaves, point by point

The contents of every output block and of the two scratch buffers, as functions of the input blocks alone: no
earlier contents of a buffer are in them. -/

section Rows

/-- Rows `128 n` to `128 n + 127`. -/
def rows (n : ℕ) (x : Vec F S2048x128 .f32) : Vec F S128x128 .f32 :=
  fun y => x (ix2 (⟨(128 * n + (y 0).val) % 2048, Nat.mod_lt _ (by decide)⟩ : Fin 2048) (⟨(y 1).val, (y 1).isLt⟩ : Fin 128))

theorem off4_eq : ∀ n : Fin k0_t1_loop.trips, k0_off4 n = ![128 * n.val, 0] := by decide +kernel
theorem off5_eq : ∀ t : Fin grid0.N, 11 ≤ t.val → t.val ≤ 13 → ∀ n : Fin k0_t1_loop.trips,
    k0_off5 (grid0.coords t) n = ![t.val - 11, 128 * n.val, 0] := by decide +kernel
theorem off1_eq : ∀ t : Fin grid0.N, t.val < 3 → k0_off1 (grid0.coords t) = ![t.val, 0, 0] := by decide +kernel
theorem off2_eq : ∀ t : Fin grid0.N, t.val < 3 → k0_off2 (grid0.coords t) = ![t.val + 3, 0, 0] := by decide +kernel
theorem off3_eq : ∀ t : Fin grid0.N, 3 ≤ t.val → t.val < 9 → k0_off3 (grid0.coords t) = ![t.val - 3, 0, 0] := by decide +kernel
theorem off6_eq : ∀ t : Fin grid0.N, 14 ≤ t.val → k0_off6 (grid0.coords t) = ![t.val - 14, 0, 0] := by decide +kernel
theorem trips_eq : k0_t1_loop.trips = 16 := by decide +kernel

theorem chunk_eq (i : grid0.Coords) (h4 : k0_cond4 i = 1#1) (n : Fin k0_t1_loop.trips) (x : Vec F S2048x128 .f32) :
    chunk i h4 n x = rows n.val x := by
  funext y
  refine congrArg x (funext fun a => Fin.ext ?_)
  have h0 : (y 0).val < 128 := (y 0).isLt
  have hn : n.val < 16 := trips_eq ▸ n.isLt
  have hoff := off4_eq n
  have e : ((Rect.unit (s := S2048x128) (k0_off4 n) S128x128.size (k0_off4_inb i n h4)).emb y a).val = k0_off4 n a + 1 * (y a).val := rfl
  refine e.trans ?_
  rw [hoff]
  fin_cases a
  · show 128 * n.val + 1 * (y 0).val = (128 * n.val + (y 0).val) % 2048
    omega
  · show 0 + 1 * (y 1).val = (y 1).val
    omega

/-- The coordinates at which a window of sizes `size` put at `off` is read. -/
theorem put_apply {α : Type} {s : Shape} (x : s.Idx → α) (off size : Fin s.rank → ℕ) (w : ((a : Fin s.rank) → Fin (size a)) → α) (y : s.Idx) :
    VecWindow.put x off size w y = if h : ∀ a, off a ≤ (y a).val ∧ (y a).val < off a + size a
      then w (Rect.unitLocal (s := s) (off := off) (size := size) y h) else x y := rfl

end Rows

section Closed

variable (x0 x1 x3 : Vec F S2048x128 .f32) (x7 : Vec F S1x1x128 .f32) (x8 : Vec F S1x1x256x128 .f32) (x9 : Vec F S1x1x128x128 .f32)

/-- The block the gated points store at once, chunk by chunk. -/
def gateOut : Vec F S2048x128 .bf16 := fun y =>
  tripOut (rows ((y 0).val / 128) x0) (rows ((y 0).val / 128) x1) (rows ((y 0).val / 128) x3) x7 x8 x9
    (ix2 (⟨(y 0).val % 128, Nat.mod_lt _ (by decide)⟩ : Fin 128) (⟨(y 1).val, (y 1).isLt⟩ : Fin 128))
/-- The block the gated points keep, chunk by chunk. -/
def gateKeep : Vec F S1x2048x128 .bf16 := fun y =>
  tripKeep (rows ((y 1).val / 128) x0) (rows ((y 1).val / 128) x1) (rows ((y 1).val / 128) x3) x7 x8
    (ix3 (0 : Fin 1) (⟨(y 1).val % 128, Nat.mod_lt _ (by decide)⟩ : Fin 128) (⟨(y 2).val, (y 2).isLt⟩ : Fin 128))
/-- The gain sum over the first `n` chunks. -/
def gateGain : ℕ → Vec F S1x128 .f32
  | 0 => k0_pay66
  | n + 1 => tripGain (rows n x0) (rows n x1) (rows n x3) x8 (gateGain n)
/-- The matrix sum over the first `n` chunks. -/
def gateMat : ℕ → Vec F S1x256x128 .f32
  | 0 => k0_pay64
  | n + 1 => tripMat (rows n x0) (rows n x1) (rows n x3) x7 (gateMat n)
/-- The bias sum over the first `n` chunks. -/
def gateBias : ℕ → Vec F S1x128x128 .f32
  | 0 => k0_pay65
  | n + 1 => tripBias (rows n x0) (rows n x3) (gateBias n)

/-- The three sums the loop carries are the sums over the chunks so far. -/
theorem carry_sums (i : grid0.Coords) (h4 : k0_cond4 i = 1#1) (d10 : Vec F S2048x128 .bf16) (s1 : Vec F S3x2048x128 .bf16) : ∀ n, n ≤ 16 →
    (carry i h4 x0 x1 x3 x7 x8 x9 ⟨d10, k0_pay66, k0_pay64, k0_pay65, s1⟩ n).gain = gateGain x0 x1 x3 x8 n
    ∧ (carry i h4 x0 x1 x3 x7 x8 x9 ⟨d10, k0_pay66, k0_pay64, k0_pay65, s1⟩ n).mat = gateMat x0 x1 x3 x7 n
    ∧ (carry i h4 x0 x1 x3 x7 x8 x9 ⟨d10, k0_pay66, k0_pay64, k0_pay65, s1⟩ n).bias = gateBias x0 x3 n
  | 0, _ => ⟨rfl, rfl, rfl⟩
  | n + 1, h => by
    obtain ⟨h1, h2, h3⟩ := carry_sums i h4 d10 s1 n (by omega)
    have e := carry_succ i h4 x0 x1 x3 x7 x8 x9 ⟨d10, k0_pay66, k0_pay64, k0_pay65, s1⟩ ⟨n, by rw [trips_eq]; omega⟩
    refine ⟨(congrArg Carry.gain e).trans ?_, (congrArg Carry.mat e).trans ?_, (congrArg Carry.bias e).trans ?_⟩
    · show tripGain _ _ _ _ _ = _
      rw [h1, chunk_eq, chunk_eq, chunk_eq]; rfl
    · show tripMat _ _ _ _ _ = _
      rw [h2, chunk_eq, chunk_eq, chunk_eq]; rfl
    · show tripBias _ _ _ = _
      rw [h3, chunk_eq, chunk_eq]; rfl

/-- The block stored at once, after the first `n` chunks. -/
theorem carry_out (i : grid0.Coords) (h4 : k0_cond4 i = 1#1) (S : Carry F) : ∀ n, n ≤ 16 → ∀ y : S2048x128.Idx,
    (carry i h4 x0 x1 x3 x7 x8 x9 S n).out y = if (y 0).val < 128 * n then gateOut x0 x1 x3 x7 x8 x9 y else S.out y
  | 0, _, y => (if_neg (by omega)).symm
  | n + 1, h, y => by
    have ih := carry_out i h4 S n (by omega) y
    have e := carry_succ i h4 x0 x1 x3 x7 x8 x9 S ⟨n, by rw [trips_eq]; omega⟩
    refine (congrArg (fun C => Carry.out C y) e).trans ?_
    show VecWindow.put (s := S2048x128) _ (k0_off4 _) S128x128.size _ y = _
    rw [put_apply, chunk_eq, chunk_eq, chunk_eq]
    have h1 : (y 1).val < 128 := (y 1).isLt
    have hoff := off4_eq ⟨n, by rw [trips_eq]; omega⟩
    have h00 : k0_off4 ⟨n, by rw [trips_eq]; omega⟩ 0 = 128 * n := by rw [hoff]; rfl
    have h01 : k0_off4 ⟨n, by rw [trips_eq]; omega⟩ 1 = 0 := by rw [hoff]; rfl
    by_cases hy : 128 * n ≤ (y 0).val ∧ (y 0).val < 128 * n + 128
    · have hin : ∀ a, k0_off4 ⟨n, by rw [trips_eq]; omega⟩ a ≤ (y a).val ∧ (y a).val < k0_off4 ⟨n, by rw [trips_eq]; omega⟩ a + S128x128.size a := by
        intro a; fin_cases a
        · show k0_off4 _ 0 ≤ _ ∧ _ < k0_off4 _ 0 + 128
          rw [h00]; exact hy
        · show k0_off4 _ 1 ≤ _ ∧ _ < k0_off4 _ 1 + 128
          rw [h01]; exact ⟨Nat.zero_le _, by show (y 1).val < _; omega⟩
      rw [dif_pos hin, if_pos (by omega)]
      have hq : (y 0).val / 128 = n := by omega
      unfold gateOut
      rw [hq]
      refine congrArg _ (funext fun a => Fin.ext ?_)
      fin_cases a
      · show (y 0).val - k0_off4 _ 0 = (y 0).val % 128
        rw [h00]; omega
      · show (y 1).val - k0_off4 _ 1 = (y 1).val
        rw [h01]; omega
    · have hout : ¬ ∀ a, k0_off4 ⟨n, by rw [trips_eq]; omega⟩ a ≤ (y a).val ∧ (y a).val < k0_off4 ⟨n, by rw [trips_eq]; omega⟩ a + S128x128.size a := by
        intro hall; have h := hall 0; rw [h00] at h; exact hy h
      rw [dif_neg hout, ih]
      by_cases hlt : (y 0).val < 128 * n
      · rw [if_pos hlt, if_pos (by omega)]
      · rw [if_neg hlt, if_neg (by omega)]

/-- The blocks kept, after the first `n` chunks of point `t`. -/
theorem carry_kept (t : Fin grid0.N) (ht : 11 ≤ t.val) (ht' : t.val ≤ 13) (h4 : k0_cond4 (grid0.coords t) = 1#1) (S : Carry F) : ∀ n, n ≤ 16 → ∀ y : S3x2048x128.Idx,
    (carry (grid0.coords t) h4 x0 x1 x3 x7 x8 x9 S n).kept y = if (y 0).val = t.val - 11 ∧ (y 1).val < 128 * n
      then gateKeep x0 x1 x3 x7 x8 (ix3 (0 : Fin 1) (⟨(y 1).val, (y 1).isLt⟩ : Fin 2048) (⟨(y 2).val, (y 2).isLt⟩ : Fin 128)) else S.kept y
  | 0, _, y => (if_neg (by omega)).symm
  | n + 1, h, y => by
    have ih := carry_kept t ht ht' h4 S n (by omega) y
    have e := carry_succ (grid0.coords t) h4 x0 x1 x3 x7 x8 x9 S ⟨n, by rw [trips_eq]; omega⟩
    refine (congrArg (fun C => Carry.kept C y) e).trans ?_
    show VecWindow.put (s := S3x2048x128) _ (k0_off5 _ _) S1x128x128.size _ y = _
    rw [put_apply, chunk_eq, chunk_eq, chunk_eq]
    have h2 : (y 2).val < 128 := (y 2).isLt
    have hoff := off5_eq t ht ht' ⟨n, by rw [trips_eq]; omega⟩
    have h00 : k0_off5 (grid0.coords t) ⟨n, by rw [trips_eq]; omega⟩ 0 = t.val - 11 := by rw [hoff]; rfl
    have h01 : k0_off5 (grid0.coords t) ⟨n, by rw [trips_eq]; omega⟩ 1 = 128 * n := by rw [hoff]; rfl
    have h02 : k0_off5 (grid0.coords t) ⟨n, by rw [trips_eq]; omega⟩ 2 = 0 := by rw [hoff]; rfl
    by_cases hy : (y 0).val = t.val - 11 ∧ 128 * n ≤ (y 1).val ∧ (y 1).val < 128 * n + 128
    · have hin : ∀ a, k0_off5 (grid0.coords t) ⟨n, by rw [trips_eq]; omega⟩ a ≤ (y a).val ∧ (y a).val < k0_off5 (grid0.coords t) ⟨n, by rw [trips_eq]; omega⟩ a + S1x128x128.size a := by
        intro a; fin_cases a
        · show k0_off5 _ _ 0 ≤ (y 0).val ∧ (y 0).val < k0_off5 _ _ 0 + 1
          rw [h00]; omega
        · show k0_off5 _ _ 1 ≤ (y 1).val ∧ (y 1).val < k0_off5 _ _ 1 + 128
          rw [h01]; exact hy.2
        · show k0_off5 _ _ 2 ≤ (y 2).val ∧ (y 2).val < k0_off5 _ _ 2 + 128
          rw [h02]; omega
      rw [dif_pos hin, if_pos (by omega)]
      have hq : (y 1).val / 128 = n := by omega
      unfold gateKeep
      show _ = tripKeep (rows ((y 1).val / 128) x0) (rows ((y 1).val / 128) x1) (rows ((y 1).val / 128) x3) x7 x8 _
      rw [hq]
      refine congrArg _ (funext fun a => Fin.ext ?_)
      fin_cases a
      · show (y 0).val - k0_off5 _ _ 0 = 0
        rw [h00]; omega
      · show (y 1).val - k0_off5 _ _ 1 = (y 1).val % 128
        rw [h01]; omega
      · show (y 2).val - k0_off5 _ _ 2 = (y 2).val
        rw [h02]; omega
    · have hout : ¬ ∀ a, k0_off5 (grid0.coords t) ⟨n, by rw [trips_eq]; omega⟩ a ≤ (y a).val ∧ (y a).val < k0_off5 (grid0.coords t) ⟨n, by rw [trips_eq]; omega⟩ a + S1x128x128.size a := by
        intro hall; have h := hall 0; have h' := hall 1; rw [h00] at h; rw [h01] at h'
        have g0 : S1x128x128.size 0 = 1 := rfl
        have g1 : S1x128x128.size 1 = 128 := rfl
        refine hy ⟨?_, h'⟩
        have hb := h.2
        have hb' : (y 0).val < t.val - 11 + 1 := hb
        omega
      rw [dif_neg hout, ih]
      by_cases hlt : (y 0).val = t.val - 11 ∧ (y 1).val < 128 * n
      · rw [if_pos hlt, if_pos ⟨hlt.1, by omega⟩]
      · rw [if_neg hlt, if_neg (by intro hh; exact hlt ⟨hh.1, by omega⟩)]

end Closed

section Taps

variable (x0 x1 x2 x3 : Vec F S2048x128 .f32)

/-- The gradient of the taps, row by row. -/
def taps : Vec F S3x128 .f32 := fun y =>
  if (y 0).val = 2 then k0_pay21 (k0_pay8 x0 x2) (k0_pay12 x1 x3) (ix2 (0 : Fin 1) (⟨(y 1).val, (y 1).isLt⟩ : Fin 128))
  else if (y 0).val = 1 then k0_pay20 (k0_pay9 x0 x2) (k0_pay12 x1 x3) (ix2 (0 : Fin 1) (⟨(y 1).val, (y 1).isLt⟩ : Fin 128))
  else k0_pay19 (k0_pay10 x0 x2) (k0_pay12 x1 x3) (ix2 (0 : Fin 1) (⟨(y 1).val, (y 1).isLt⟩ : Fin 128))

/-- A row put into three rows. -/
theorem put_row (x : Vec F S3x128 .f32) (k : ℕ) (w : Vec F S1x128 .f32) (y : S3x128.Idx) :
    VecWindow.put x ![k, 0] S1x128.size w y
      = if (y 0).val = k then w (ix2 (0 : Fin 1) (⟨(y 1).val, (y 1).isLt⟩ : Fin 128)) else x y := by
  have h1 : (y 1).val < 128 := (y 1).isLt
  rw [put_apply]
  by_cases hk : (y 0).val = k
  · have hin : ∀ a, (![k, 0] : Fin 2 → ℕ) a ≤ (y a).val ∧ (y a).val < (![k, 0] : Fin 2 → ℕ) a + S1x128.size a := by
      intro a; fin_cases a
      · show k ≤ (y 0).val ∧ (y 0).val < k + 1
        omega
      · show 0 ≤ (y 1).val ∧ (y 1).val < 0 + 128
        omega
    rw [dif_pos hin, if_pos hk]
    refine congrArg w (funext fun a => Fin.ext ?_)
    fin_cases a
    · show (y 0).val - k = 0
      omega
    · show (y 1).val - 0 = (y 1).val
      omega
  · rw [dif_neg (fun hall => hk (by
      have h := hall 0
      have ha : k ≤ (y 0).val := h.1
      have hb : (y 0).val < k + 1 := h.2
      omega)), if_neg hk]

theorem convTaps_eq (d : Vec F S3x128 .f32) : convTaps x0 x1 x2 x3 d = taps x0 x1 x2 x3 := by
  funext y
  have h0 : (y 0).val < 3 := (y 0).isLt
  unfold convTaps taps
  rw [put_row, put_row, put_row]
  by_cases h2 : (y 0).val = 2
  · rw [if_pos h2, if_pos h2]
  · rw [if_neg h2, if_neg h2]
    by_cases h1 : (y 0).val = 1
    · rw [if_pos h1, if_pos h1]
    · rw [if_neg h1, if_neg h1, if_pos (by omega)]

/-- A block put into six. -/
theorem put_block6 (x : Vec F S6x2048x128 .bf16) (k : ℕ) (w : Vec F S1x2048x128 .bf16) (y : S6x2048x128.Idx) :
    VecWindow.put x ![k, 0, 0] S1x2048x128.size w y
      = if (y 0).val = k then w (ix3 (0 : Fin 1) (⟨(y 1).val, (y 1).isLt⟩ : Fin 2048) (⟨(y 2).val, (y 2).isLt⟩ : Fin 128)) else x y := by
  have h1 : (y 1).val < 2048 := (y 1).isLt
  have h2 : (y 2).val < 128 := (y 2).isLt
  rw [put_apply]
  by_cases hk : (y 0).val = k
  · have hin : ∀ a, (![k, 0, 0] : Fin 3 → ℕ) a ≤ (y a).val ∧ (y a).val < (![k, 0, 0] : Fin 3 → ℕ) a + S1x2048x128.size a := by
      intro a; fin_cases a
      · show k ≤ (y 0).val ∧ (y 0).val < k + 1
        omega
      · show 0 ≤ (y 1).val ∧ (y 1).val < 0 + 2048
        omega
      · show 0 ≤ (y 2).val ∧ (y 2).val < 0 + 128
        omega
    rw [dif_pos hin, if_pos hk]
    refine congrArg w (funext fun a => Fin.ext ?_)
    fin_cases a
    · show (y 0).val - k = 0
      omega
    · show (y 1).val - 0 = (y 1).val
      omega
    · show (y 2).val - 0 = (y 2).val
      omega
  · rw [dif_neg (fun hall => hk (by
      have h := hall 0
      have ha : k ≤ (y 0).val := h.1
      have hb : (y 0).val < k + 1 := h.2
      omega)), if_neg hk]

end Taps

end Cert.Mx

end
-- ==== Proof.Mx.Data.lean ====
module

public import proofs.«01_k».proof.Proof.Mx.Closed
public import Idealize.ShloMosaic.Lib.Pipeline.TableIdle

@[expose] public section

set_option maxRecDepth 16384

noncomputable section

namespace Cert.Mx

open Cert.KernelMxIdeal Cert.KernelMxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-! # What the mixers' backward pass leaves at each grid point -/

/-- The grid point of a number. -/
def pnt (n : ℕ) : Fin cfg0.N := ⟨n % 17, by have : cfg0.N = 17 := N_0; omega⟩

/-! ## The input blocks -/

def in0 (t : Fin cfg0.N) : Vec F S2048x128 .f32 := iblk m c 0 t
def in1 (t : Fin cfg0.N) : Vec F S2048x128 .f32 := iblk m c 1 t
def in2 (t : Fin cfg0.N) : Vec F S2048x128 .f32 := iblk m c 2 t
def in3 (t : Fin cfg0.N) : Vec F S2048x128 .f32 := iblk m c 3 t
def in4 (t : Fin cfg0.N) : Vec F S1x3x128 .f32 := iblk m c 4 t
def in5 (t : Fin cfg0.N) : Vec F S1x1x128x128 .f32 := iblk m c 5 t
def in6 (t : Fin cfg0.N) : Vec F S1x1x128 .f32 := iblk m c 6 t
def in7 (t : Fin cfg0.N) : Vec F S1x1x128 .f32 := iblk m c 7 t
def in8 (t : Fin cfg0.N) : Vec F S1x1x256x128 .f32 := iblk m c 8 t
def in9 (t : Fin cfg0.N) : Vec F S1x1x128x128 .f32 := iblk m c 9 t

/-! ## The blocks kept -/

/-- The six blocks that the convolution points keep. -/
def keep1 : Vec F S6x2048x128 .bf16 := fun y =>
  if (y 0).val < 3 then
    convKeep1 (in0 m c (pnt (y 0).val)) (in2 m c (pnt (y 0).val)) (in3 m c (pnt (y 0).val)) (in4 m c (pnt (y 0).val))
      (ix3 (0 : Fin 1) (⟨(y 1).val, (y 1).isLt⟩ : Fin 2048) (⟨(y 2).val, (y 2).isLt⟩ : Fin 128))
  else
    convKeep2 (in0 m c (pnt ((y 0).val - 3))) (in1 m c (pnt ((y 0).val - 3))) (in3 m c (pnt ((y 0).val - 3))) (in4 m c (pnt ((y 0).val - 3)))
      (ix3 (0 : Fin 1) (⟨(y 1).val, (y 1).isLt⟩ : Fin 2048) (⟨(y 2).val, (y 2).isLt⟩ : Fin 128))
/-- The three blocks that the gated points keep. -/
def keep2 : Vec F S3x2048x128 .bf16 := fun y =>
  gateKeep (in0 m c (pnt ((y 0).val + 11))) (in1 m c (pnt ((y 0).val + 11))) (in3 m c (pnt ((y 0).val + 11)))
    (in7 m c (pnt ((y 0).val + 11))) (in8 m c (pnt ((y 0).val + 11)))
    (ix3 (0 : Fin 1) (⟨(y 1).val, (y 1).isLt⟩ : Fin 2048) (⟨(y 2).val, (y 2).isLt⟩ : Fin 128))

/-- Block `k` of six. -/
def row6 (k : ℕ) (x : Vec F S6x2048x128 .bf16) : Vec F S1x2048x128 .bf16 := fun y =>
  x (ix3 (⟨k % 6, Nat.mod_lt _ (by decide)⟩ : Fin 6) (⟨(y 1).val, (y 1).isLt⟩ : Fin 2048) (⟨(y 2).val, (y 2).isLt⟩ : Fin 128))
/-- Block `k` of three. -/
def row3 (k : ℕ) (x : Vec F S3x2048x128 .bf16) : Vec F S1x2048x128 .bf16 := fun y =>
  x (ix3 (⟨k % 3, Nat.mod_lt _ (by decide)⟩ : Fin 3) (⟨(y 1).val, (y 1).isLt⟩ : Fin 2048) (⟨(y 2).val, (y 2).isLt⟩ : Fin 128))

/-! ## The blocks stored -/

/-- The column block of the projection's gradient. -/
def out10 (t : Fin cfg0.N) : Vec F S2048x128 .bf16 :=
  if t.val < 3 then convOut (in1 m c t) (in2 m c t) (in3 m c t) (in4 m c t)
  else if t.val < 9 then k0_pay2 (row6 (t.val - 3) (keep1 m c))
  else if t.val < 11 then poolOut (grid0.coords t) (in3 m c t) (in5 m c t) (in6 m c t)
  else if t.val < 14 then gateOut (in0 m c t) (in1 m c t) (in3 m c t) (in7 m c t) (in8 m c t) (in9 m c t)
  else k0_pay6 (row3 (t.val - 14) (keep2 m c))
/-- The point whose convolution block the tap gradients are of. -/
def tapPt (t : Fin cfg0.N) : Fin cfg0.N := pnt (min t.val 2)
/-- The point whose pooling block the matrix and scale gradients are of. -/
def poolPt (t : Fin cfg0.N) : Fin cfg0.N := pnt (max 9 (min t.val 10))
/-- The point whose gated block the three sums are of. -/
def gatePt (t : Fin cfg0.N) : Fin cfg0.N := pnt (max 11 (min t.val 13))
def out11 (t : Fin cfg0.N) : Vec F S3x128 .f32 :=
  taps (in0 m c (tapPt t)) (in1 m c (tapPt t)) (in2 m c (tapPt t)) (in3 m c (tapPt t))
def out12 (t : Fin cfg0.N) : Vec F S1x128x128 .f32 :=
  poolMat (grid0.coords (poolPt t)) (in0 m c (poolPt t)) (in3 m c (poolPt t)) (in6 m c (poolPt t))
def out13 (t : Fin cfg0.N) : Vec F S1x128 .f32 :=
  poolScale (grid0.coords (poolPt t)) (in0 m c (poolPt t)) (in3 m c (poolPt t)) (in5 m c (poolPt t))
def out14 (t : Fin cfg0.N) : Vec F S1x128 .f32 :=
  gateGain (in0 m c (gatePt t)) (in1 m c (gatePt t)) (in3 m c (gatePt t)) (in8 m c (gatePt t)) 16
def out15 (t : Fin cfg0.N) : Vec F S1x256x128 .f32 :=
  k0_pay4 k0_pay60 (gateMat (in0 m c (gatePt t)) (in1 m c (gatePt t)) (in3 m c (gatePt t)) (in7 m c (gatePt t)) 16)
def out16 (t : Fin cfg0.N) : Vec F S1x128x128 .f32 :=
  k0_pay5 k0_pay59 (gateBias (in0 m c (gatePt t)) (in3 m c (gatePt t)) 16)

/-! ## The proof data -/

abbrev scM0_0 : Memref sig .tc .vmem S6x2048x128 .bf16 := Memref.whole cc0_scratch0
abbrev scM0_1 : Memref sig .tc .vmem S3x2048x128 .bf16 := Memref.whole cc0_scratch1

/-- Before point `n`: both scratch buffers, the blocks kept so far in them, and the generator's register. -/
def Inv (n : ℕ) : sProp 𝕄 :=
  iprop((∃ k1 : Vec F S6x2048x128 .bf16, ⌜∀ y : S6x2048x128.Idx, (y 0).val % 3 < n → k1 y = keep1 m c y⌝ ∗ owns (c : Thread nD τ) scM0_0 fullShare k1)
    ∗ (∃ k2 : Vec F S3x2048x128 .bf16, ⌜∀ y : S3x2048x128.Idx, (y 0).val + 11 < n → k2 y = keep2 m c y⌝ ∗ owns (c : Thread nD τ) scM0_1 fullShare k2)
    ∗ (∃ r, prngReg c r))

/-- The arrays as the region finds them, each block after each point, and the invariant. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 m c t
    | ⟨11, _⟩ => out11 m c t
    | ⟨12, _⟩ => out12 m c t
    | ⟨13, _⟩ => out13 m c t
    | ⟨14, _⟩ => out14 m c t
    | ⟨15, _⟩ => out15 m c t
    | ⟨16, _⟩ => out16 m c t
    | ⟨_ + 17, h⟩ => absurd h (Nat.not_lt.2 (Nat.le_add_left _ _))
  Φ t := Inv m c t.val
  q w := Pipeline.shareOf spec0 w
  owed _ := 0

theorem A_eq (c : Dev nD) (w : Fin cfg0.W) : (dats m 0 c).A w = V m c (Pipeline.arrRef spec0 w) := by
  dsimp only [dats]
theorem after_0 (t : Fin cfg0.N) : (dats m 0 c).after 0 t = iblk m c 0 t := by dsimp only [dats]
theorem after_1 (t : Fin cfg0.N) : (dats m 0 c).after 1 t = iblk m c 1 t := by dsimp only [dats]
theorem after_2 (t : Fin cfg0.N) : (dats m 0 c).after 2 t = iblk m c 2 t := by dsimp only [dats]
theorem after_3 (t : Fin cfg0.N) : (dats m 0 c).after 3 t = iblk m c 3 t := by dsimp only [dats]
theorem after_4 (t : Fin cfg0.N) : (dats m 0 c).after 4 t = iblk m c 4 t := by dsimp only [dats]
theorem after_5 (t : Fin cfg0.N) : (dats m 0 c).after 5 t = iblk m c 5 t := by dsimp only [dats]
theorem after_6 (t : Fin cfg0.N) : (dats m 0 c).after 6 t = iblk m c 6 t := by dsimp only [dats]
theorem after_7 (t : Fin cfg0.N) : (dats m 0 c).after 7 t = iblk m c 7 t := by dsimp only [dats]
theorem after_8 (t : Fin cfg0.N) : (dats m 0 c).after 8 t = iblk m c 8 t := by dsimp only [dats]
theorem after_9 (t : Fin cfg0.N) : (dats m 0 c).after 9 t = iblk m c 9 t := by dsimp only [dats]
theorem after_10 (t : Fin cfg0.N) : (dats m 0 c).after 10 t = out10 m c t := by dsimp only [dats]
theorem after_11 (t : Fin cfg0.N) : (dats m 0 c).after 11 t = out11 m c t := by dsimp only [dats]
theorem after_12 (t : Fin cfg0.N) : (dats m 0 c).after 12 t = out12 m c t := by dsimp only [dats]
theorem after_13 (t : Fin cfg0.N) : (dats m 0 c).after 13 t = out13 m c t := by dsimp only [dats]
theorem after_14 (t : Fin cfg0.N) : (dats m 0 c).after 14 t = out14 m c t := by dsimp only [dats]
theorem after_15 (t : Fin cfg0.N) : (dats m 0 c).after 15 t = out15 m c t := by dsimp only [dats]
theorem after_16 (t : Fin cfg0.N) : (dats m 0 c).after 16 t = out16 m c t := by dsimp only [dats]

theorem before_0 (t : Fin cfg0.N) (d) : (dats m 0 c).before 0 t d = in0 m c t :=
  before0_0_of m (dats m 0 c) (A_eq m c 0) (after_0 m c) t d
theorem before_1 (t : Fin cfg0.N) (d) : (dats m 0 c).before 1 t d = in1 m c t :=
  before0_1_of m (dats m 0 c) (A_eq m c 1) (after_1 m c) t d
theorem before_2 (t : Fin cfg0.N) (d) : (dats m 0 c).before 2 t d = in2 m c t :=
  before0_2_of m (dats m 0 c) (A_eq m c 2) (after_2 m c) t d
theorem before_3 (t : Fin cfg0.N) (d) : (dats m 0 c).before 3 t d = in3 m c t :=
  before0_3_of m (dats m 0 c) (A_eq m c 3) (after_3 m c) t d
theorem before_4 (t : Fin cfg0.N) (d) : (dats m 0 c).before 4 t d = in4 m c t :=
  before0_4_of m (dats m 0 c) (A_eq m c 4) (after_4 m c) t d
theorem before_5 (t : Fin cfg0.N) (d) : (dats m 0 c).before 5 t d = in5 m c t :=
  before0_5_of m (dats m 0 c) (A_eq m c 5) (after_5 m c) t d
theorem before_6 (t : Fin cfg0.N) (d) : (dats m 0 c).before 6 t d = in6 m c t :=
  before0_6_of m (dats m 0 c) (A_eq m c 6) (after_6 m c) t d
theorem before_7 (t : Fin cfg0.N) (d) : (dats m 0 c).before 7 t d = in7 m c t :=
  before0_7_of m (dats m 0 c) (A_eq m c 7) (after_7 m c) t d
theorem before_8 (t : Fin cfg0.N) (d) : (dats m 0 c).before 8 t d = in8 m c t :=
  before0_8_of m (dats m 0 c) (A_eq m c 8) (after_8 m c) t d
theorem before_9 (t : Fin cfg0.N) (d) : (dats m 0 c).before 9 t d = in9 m c t :=
  before0_9_of m (dats m 0 c) (A_eq m c 9) (after_9 m c) t d

/-! ## Which points store which outputs -/

/-- The point stores the output afresh, or carries it: then the block is what the point before left. -/
theorem idle_of : ∀ t : Fin grid0.N,
    (cfg0.idle 11 (grid0.coords t) = !decide (t.val < 3)) ∧ (cfg0.idle 12 (grid0.coords t) = !decide (9 ≤ t.val ∧ t.val < 11))
    ∧ (cfg0.idle 13 (grid0.coords t) = !decide (9 ≤ t.val ∧ t.val < 11)) ∧ (cfg0.idle 14 (grid0.coords t) = !decide (11 ≤ t.val ∧ t.val < 14))
    ∧ (cfg0.idle 15 (grid0.coords t) = !decide (11 ≤ t.val ∧ t.val < 14)) ∧ (cfg0.idle 16 (grid0.coords t) = !decide (11 ≤ t.val ∧ t.val < 14))
    ∧ cfg0.idle 10 (grid0.coords t) = false := by
  decide +kernel
theorem cond_of : ∀ t : Fin grid0.N, (k0_cond1 (grid0.coords t) = 1#1 ↔ t.val < 3) ∧ (k0_cond2 (grid0.coords t) = 1#1 ↔ (3 ≤ t.val ∧ t.val < 9))
    ∧ (k0_cond3 (grid0.coords t) = 1#1 ↔ (9 ≤ t.val ∧ t.val < 11)) ∧ (k0_cond4 (grid0.coords t) = 1#1 ↔ (11 ≤ t.val ∧ t.val < 14))
    ∧ (k0_cond5 (grid0.coords t) = 1#1 ↔ 14 ≤ t.val) := by
  decide +kernel
/-- An output written back at the last point only holds, there, what some earlier point stored. -/
theorem flush_of : ∀ t : Fin grid0.N,
    ((cfg0.win 11).flush t = (decide (t.val < 2) || decide (t.val = 16))) ∧ ((cfg0.win 12).flush t = (decide (t.val = 9) || decide (t.val = 16)))
    ∧ ((cfg0.win 13).flush t = (decide (t.val = 9) || decide (t.val = 16))) ∧ ((cfg0.win 14).flush t = (decide (t.val = 11) || decide (t.val = 12) || decide (t.val = 16)))
    ∧ ((cfg0.win 15).flush t = (decide (t.val = 11) || decide (t.val = 12) || decide (t.val = 16))) ∧ ((cfg0.win 16).flush t = (decide (t.val = 11) || decide (t.val = 12) || decide (t.val = 16))) := by
  decide +kernel
theorem tapPt_carry (t : Fin cfg0.N) (h : t.val ≠ 0) (hc : ¬ t.val < 3) : tapPt t = tapPt ⟨t.val - 1, by omega⟩ :=
  congrArg pnt (by show min t.val 2 = min (t.val - 1) 2; omega)
theorem poolPt_carry (t : Fin cfg0.N) (h : t.val ≠ 0) (hc : ¬ (9 ≤ t.val ∧ t.val < 11)) : poolPt t = poolPt ⟨t.val - 1, by omega⟩ :=
  congrArg pnt (by show max 9 (min t.val 10) = max 9 (min (t.val - 1) 10); omega)
theorem gatePt_carry (t : Fin cfg0.N) (h : t.val ≠ 0) (hc : ¬ (11 ≤ t.val ∧ t.val < 14)) : gatePt t = gatePt ⟨t.val - 1, by omega⟩ :=
  congrArg pnt (by show max 11 (min t.val 13) = max 11 (min (t.val - 1) 13); omega)

/-- At a point that stores nothing into the output, its buffer is handed on: at the last point, where it is written
    back, at the block that an earlier point stored. -/
theorem handed (w : Fin cfg0.W) (hw : (cfg0.win w).isOut = true) (hclip : ∀ (i : cfg0.grid.Coords) a, (cfg0.win w).clip i a = none)
    (hcarry : ∀ (t : Fin cfg0.N) (_ : t.val ≠ 0), cfg0.idle w (cfg0.grid.coords t) = true →
      (dats m 0 c).after w t = (dats m 0 c).after w ⟨t.val - 1, by omega⟩)
    (t : Fin cfg0.N) (hi : cfg0.idle w (cfg0.grid.coords t) = true)
    (hfr : (cfg0.win w).flush t = true → t.val ≠ 0 ∧ cfg0.fresh w t.val = false) :
    iprop(∃ d, owns (c : Thread nD τ) ((cfg0.win w).stage (cfg0.slots t w)) fullShare ((dats m 0 c).before w t d)) ⊢ (dats m 0 c).leavesExact w t := by
  cases hf : (cfg0.win w).flush t with
  | false => rw [Dat.leavesExact_idle _ w t hi hf]
  | true =>
    obtain ⟨h0, hfr⟩ := hfr hf
    have hl : (dats m 0 c).leavesExact w t = owns (c : Thread nD τ) ((cfg0.win w).stage (cfg0.slots t w)) fullShare ((dats m 0 c).after w t) := by
      unfold Dat.leavesExact; rw [hi, hf]
    rw [hl]
    iintro ⟨%d, H⟩
    have e := (dats m 0 c).before_out_traj w hw hclip (fun t h0 hi _ => hcarry t h0 hi) t.val t rfl d
    rw [hfr] at e
    rw [e, hcarry t h0 hi]
    iexact H

end Cert.Mx

end
-- ==== Proof.Mx.Inputs.lean ====
module

public import proofs.«01_k».proof.Proof.Mx.RefGate
public import proofs.«01_k».proof.Proof.Mx.Data
public import Idealize.ShloMosaic.Lib.Pipeline.ValueKit

@[expose] public section

set_option maxRecDepth 16384

noncomputable section

namespace Cert.Mx

open Cert.KernelMxIdeal Cert.KernelMxIdeal.Gen
open Idealize.ShloMosaic Idealize.ShloMosaic.TcCoe Idealize.ShloMosaic.Tactic Idealize.SL.Sem
open Idealize.ShloMosaic.Pipeline (Dat)
open Cert.Mx.Spec

variable (m : (ℓ : Loc nD τ sig) → Buf (Elt Ideal) ℓ) (c : Dev nD)

/-! # What the kernel's windows show of the program's arguments -/

/-- The blocks that the windows show at each point of the grid. -/
theorem idx0 : ∀ t : Fin cfg0.N, win0_0.index t = ![0, if t.val < 3 then t.val else if t.val < 9 then 2 else if t.val < 14 then t.val else 13] :=
  (by decide +kernel : ∀ t : Fin grid0.N, _)
theorem idx1 : ∀ t : Fin cfg0.N, win0_1.index t = ![0, if t.val < 3 then t.val + 3 else if t.val < 11 then 5 else if t.val < 14 then t.val + 3 else 16] :=
  (by decide +kernel : ∀ t : Fin grid0.N, _)
theorem idx2 : ∀ t : Fin cfg0.N, win0_2.index t = ![0, if t.val < 3 then t.val + 6 else 8] :=
  (by decide +kernel : ∀ t : Fin grid0.N, _)
theorem idx3 : ∀ t : Fin cfg0.N, win0_3.index t = ![0, if t.val < 3 then t.val else if t.val < 9 then 2 else if t.val < 14 then t.val - 6 else 7] :=
  (by decide +kernel : ∀ t : Fin grid0.N, _)
theorem idx4 : ∀ t : Fin cfg0.N, win0_4.index t = ![0, 0, min t.val 2] :=
  (by decide +kernel : ∀ t : Fin grid0.N, _)
theorem idx5 : ∀ t : Fin cfg0.N, win0_5.index t = ![0, min (t.val - 9) 1, 0, 0] :=
  (by decide +kernel : ∀ t : Fin grid0.N, _)
theorem idx6 : ∀ t : Fin cfg0.N, win0_6.index t = ![0, 0, min (t.val - 9) 1] :=
  (by decide +kernel : ∀ t : Fin grid0.N, _)
theorem idx7 : ∀ t : Fin cfg0.N, win0_7.index t = ![0, 0, min (t.val - 11) 2] :=
  (by decide +kernel : ∀ t : Fin grid0.N, _)
theorem idx8 : ∀ t : Fin cfg0.N, win0_8.index t = ![0, min (t.val - 11) 2, 0, 0] :=
  (by decide +kernel : ∀ t : Fin grid0.N, _)
theorem idx9 : ∀ t : Fin cfg0.N, win0_9.index t = ![0, min (t.val - 11) 2, 0, 0] :=
  (by decide +kernel : ∀ t : Fin grid0.N, _)
theorem idx10 : ∀ t : Fin cfg0.N, win0_10.index t = ![0, t.val] :=
  (by decide +kernel : ∀ t : Fin grid0.N, _)
theorem idx11 : ∀ t : Fin cfg0.N, win0_11.index t = ![0, min t.val 2] :=
  (by decide +kernel : ∀ t : Fin grid0.N, _)
theorem idx12 : ∀ t : Fin cfg0.N, win0_12.index t = ![min (t.val - 9) 1, 0, 0] :=
  (by decide +kernel : ∀ t : Fin grid0.N, _)
theorem idx13 : ∀ t : Fin cfg0.N, win0_13.index t = ![0, min (t.val - 9) 1] :=
  (by decide +kernel : ∀ t : Fin grid0.N, _)
theorem idx14 : ∀ t : Fin cfg0.N, win0_14.index t = ![0, min (t.val - 11) 2] :=
  (by decide +kernel : ∀ t : Fin grid0.N, _)
theorem idx15 : ∀ t : Fin cfg0.N, win0_15.index t = ![min (t.val - 11) 2, 0, 0] :=
  (by decide +kernel : ∀ t : Fin grid0.N, _)
theorem idx16 : ∀ t : Fin cfg0.N, win0_16.index t = ![min (t.val - 11) 2, 0, 0] :=
  (by decide +kernel : ∀ t : Fin grid0.N, _)

/-! ## The arrays that the host prepares -/

theorem V_v12 (g : Fin 2) (a b : Fin 128) : (V m c main_v12 : Vec Ideal S1x2x128x128 .f32) (ix4 0 g a b)
    = HMul.hMul (α := EReal) (β := EReal) (γ := EReal)
      ((m ((c : Thread nD τ).loc main_arg2) : Vec Ideal S1x4x64x64 .f32) (ix4 0 ⟨g.val * 2 + a.val / 64, by omega⟩ ⟨a.val % 64, by omega⟩ ⟨b.val % 64, by omega⟩))
      (FloatOps.uitofp FTy.f32 (IntOp.cmpi .eq (IntOp.addi (BitVec.ofNat 32 (a.val / 64)) 0#32) (BitVec.ofNat 32 (b.val / 64))) : Ideal .f32) := by
  show StableHlo.after (List.flatten [hostOps0]) _ _ _ = _
  simp only [List.flatten_cons, List.flatten_nil, List.append_nil]
  after_results
  pointwise
theorem V_v13 (g : Fin 3) (a : Fin 256) (b : Fin 128) : (V m c main_v13 : Vec Ideal S1x3x256x128 .f32) (ix4 0 g a b)
    = (m ((c : Thread nD τ).loc main_arg5) : Vec Ideal S1x6x128x128 .f32) (ix4 0 ⟨g.val * 2 + a.val / 128, by omega⟩ ⟨a.val % 128, by omega⟩ b) := by
  show StableHlo.after (List.flatten [hostOps0]) _ _ _ = _
  simp only [List.flatten_cons, List.flatten_nil, List.append_nil]
  after_results
  pointwise
theorem V_v17 (g : Fin 3) (a b : Fin 128) : (V m c main_v17 : Vec Ideal S1x3x128x128 .f32) (ix4 0 g a b)
    = (m ((c : Thread nD τ).loc main_arg6) : Vec Ideal S1x6x128 .f32) (ix3 0 ⟨g.val * 2 + b.val / 64, by omega⟩ a) := by
  show StableHlo.after (List.flatten [hostOps0]) _ _ _ = _
  simp only [List.flatten_cons, List.flatten_nil, List.append_nil]
  after_results
  pointwise
theorem V_v18 (l : Fin 256) : (V m c main_v18 : Vec Ideal S1x1x256 .f32) (ix3 0 0 l) = (m ((c : Thread nD τ).loc main_arg3) : Vec Ideal S1x256 .f32) (ix2 0 l) := by
  show StableHlo.after (List.flatten [hostOps0]) _ _ _ = _
  simp only [List.flatten_cons, List.flatten_nil, List.append_nil]
  after_results
  pointwise
theorem V_v19 (l : Fin 384) : (V m c main_v19 : Vec Ideal S1x1x384 .f32) (ix3 0 0 l) = (m ((c : Thread nD τ).loc main_arg4) : Vec Ideal S1x384 .f32) (ix2 0 l) := by
  show StableHlo.after (List.flatten [hostOps0]) _ _ _ = _
  simp only [List.flatten_cons, List.flatten_nil, List.append_nil]
  after_results
  pointwise

/-! ## The windows' blocks -/

theorem in0_read (t : Fin cfg0.N) (k : ℕ) (hk : win0_0.index t = ![0, k]) (hb : k < 17) (r : Fin 2048) (l : Fin 128) :
    in0 m c t (ix2 r l) = (m ((c : Thread nD τ).loc main_arg0) : Vec Ideal S2048x2176 .f32) (ix2 r ⟨128 * k + l.val, by omega⟩) := by
  unfold in0 iblk
  rw [show V m c (Pipeline.arrRef spec0 0) = V m c main_arg0 from rfl, V_main_arg0]
  blk_simp
  blk_point [hk]
theorem in1_read (t : Fin cfg0.N) (k : ℕ) (hk : win0_1.index t = ![0, k]) (hb : k < 17) (r : Fin 2048) (l : Fin 128) :
    in1 m c t (ix2 r l) = (m ((c : Thread nD τ).loc main_arg0) : Vec Ideal S2048x2176 .f32) (ix2 r ⟨128 * k + l.val, by omega⟩) := by
  unfold in1 iblk
  rw [show V m c (Pipeline.arrRef spec0 1) = V m c main_arg0 from rfl, V_main_arg0]
  blk_simp
  blk_point [hk]
theorem in2_read (t : Fin cfg0.N) (k : ℕ) (hk : win0_2.index t = ![0, k]) (hb : k < 17) (r : Fin 2048) (l : Fin 128) :
    in2 m c t (ix2 r l) = (m ((c : Thread nD τ).loc main_arg0) : Vec Ideal S2048x2176 .f32) (ix2 r ⟨128 * k + l.val, by omega⟩) := by
  unfold in2 iblk
  rw [show V m c (Pipeline.arrRef spec0 2) = V m c main_arg0 from rfl, V_main_arg0]
  blk_simp
  blk_point [hk]
theorem in3_read (t : Fin cfg0.N) (k : ℕ) (hk : win0_3.index t = ![0, k]) (hb : k < 8) (r : Fin 2048) (l : Fin 128) :
    in3 m c t (ix2 r l) = (m ((c : Thread nD τ).loc main_arg7) : Vec Ideal S2048x1024 .f32) (ix2 r ⟨128 * k + l.val, by omega⟩) := by
  unfold in3 iblk
  rw [show V m c (Pipeline.arrRef spec0 3) = V m c main_arg7 from rfl, V_main_arg7]
  blk_simp
  blk_point [hk]
theorem in4_read (t : Fin cfg0.N) (k : ℕ) (hk : win0_4.index t = ![0, 0, k]) (hb : k < 3) (r : Fin 3) (l : Fin 128) :
    in4 m c t (ix3 0 r l) = (m ((c : Thread nD τ).loc main_arg1) : Vec Ideal S1x3x384 .f32) (ix3 0 r ⟨128 * k + l.val, by omega⟩) := by
  unfold in4 iblk
  rw [show V m c (Pipeline.arrRef spec0 4) = V m c main_arg1 from rfl, V_main_arg1]
  blk_simp
  blk_point [hk]
theorem in5_read (t : Fin cfg0.N) (k : ℕ) (hk : win0_5.index t = ![0, k, 0, 0]) (hb : k < 2) (a b : Fin 128) :
    in5 m c t (ix4 0 0 a b) = (V m c main_v12 : Vec Ideal S1x2x128x128 .f32) (ix4 0 ⟨k, hb⟩ a b) := by
  unfold in5 iblk
  rw [show V m c (Pipeline.arrRef spec0 5) = V m c main_v12 from rfl]
  blk_simp
  blk_point [hk]
theorem in6_read (t : Fin cfg0.N) (k : ℕ) (hk : win0_6.index t = ![0, 0, k]) (hb : k < 2) (l : Fin 128) :
    in6 m c t (ix3 0 0 l) = (V m c main_v18 : Vec Ideal S1x1x256 .f32) (ix3 0 0 ⟨128 * k + l.val, by omega⟩) := by
  unfold in6 iblk
  rw [show V m c (Pipeline.arrRef spec0 6) = V m c main_v18 from rfl]
  blk_simp
  blk_point [hk]
theorem in7_read (t : Fin cfg0.N) (k : ℕ) (hk : win0_7.index t = ![0, 0, k]) (hb : k < 3) (l : Fin 128) :
    in7 m c t (ix3 0 0 l) = (V m c main_v19 : Vec Ideal S1x1x384 .f32) (ix3 0 0 ⟨128 * k + l.val, by omega⟩) := by
  unfold in7 iblk
  rw [show V m c (Pipeline.arrRef spec0 7) = V m c main_v19 from rfl]
  blk_simp
  blk_point [hk]
theorem in8_read (t : Fin cfg0.N) (k : ℕ) (hk : win0_8.index t = ![0, k, 0, 0]) (hb : k < 3) (a : Fin 256) (b : Fin 128) :
    in8 m c t (ix4 0 0 a b) = (V m c main_v13 : Vec Ideal S1x3x256x128 .f32) (ix4 0 ⟨k, hb⟩ a b) := by
  unfold in8 iblk
  rw [show V m c (Pipeline.arrRef spec0 8) = V m c main_v13 from rfl]
  blk_simp
  blk_point [hk]
theorem in9_read (t : Fin cfg0.N) (k : ℕ) (hk : win0_9.index t = ![0, k, 0, 0]) (hb : k < 3) (a b : Fin 128) :
    in9 m c t (ix4 0 0 a b) = (V m c main_v17 : Vec Ideal S1x3x128x128 .f32) (ix4 0 ⟨k, hb⟩ a b) := by
  unfold in9 iblk
  rw [show V m c (Pipeline.arrRef spec0 9) = V m c main_v17 from rfl]
  blk_simp
  blk_point [hk]

/-! ## The same in the arguments' values -/

variable {m c} {I : Inp} (A : Ref.Reads I (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)))

/-- Whether two halves are the same, as a factor. -/
theorem same_half (u v : ℕ) (hu : u < 2) (hv : v < 2) :
    (FloatOps.uitofp FTy.f32 (IntOp.cmpi .eq (IntOp.addi (BitVec.ofNat 32 u) 0#32) (BitVec.ofNat 32 v)) : Ideal .f32) = (((if u = v then 1 else 0 : ℝ)) : EReal) := by
  have h : ∀ a b : Fin 2, IntOp.cmpi .eq (IntOp.addi (BitVec.ofNat 32 a.val) 0#32) (BitVec.ofNat 32 b.val) = if a.val = b.val then 1#1 else 0#1 := by decide
  rw [h ⟨u, hu⟩ ⟨v, hv⟩]
  show (((if u = v then 1#1 else 0#1 : BitVec 1).toNat : ℝ) : EReal) = _
  split <;> simp

include A

theorem cols0 (t : Fin cfg0.N) (k : ℕ) (hk : win0_0.index t = ![0, k]) (hb : k < 17) (s q : ℕ) (hs : 128 * k = s + 128 * q) (r : Fin 2048) (l : Fin 128) :
    in0 m c t (ix2 r l) = ((I.P r.val (s + (128 * q + l.val)) : ℝ) : EReal) := by
  rw [in0_read m c t k hk hb, A.hp, ← Nat.add_assoc, ← hs]
  rfl
theorem cols1 (t : Fin cfg0.N) (k : ℕ) (hk : win0_1.index t = ![0, k]) (hb : k < 17) (s q : ℕ) (hs : 128 * k = s + 128 * q) (r : Fin 2048) (l : Fin 128) :
    in1 m c t (ix2 r l) = ((I.P r.val (s + (128 * q + l.val)) : ℝ) : EReal) := by
  rw [in1_read m c t k hk hb, A.hp, ← Nat.add_assoc, ← hs]
  rfl
theorem cols2 (t : Fin cfg0.N) (k : ℕ) (hk : win0_2.index t = ![0, k]) (hb : k < 17) (s q : ℕ) (hs : 128 * k = s + 128 * q) (r : Fin 2048) (l : Fin 128) :
    in2 m c t (ix2 r l) = ((I.P r.val (s + (128 * q + l.val)) : ℝ) : EReal) := by
  rw [in2_read m c t k hk hb, A.hp, ← Nat.add_assoc, ← hs]
  rfl
theorem cols3 (t : Fin cfg0.N) (k : ℕ) (hk : win0_3.index t = ![0, k]) (hb : k < 8) (s q : ℕ) (hs : 128 * k = s + 128 * q) (r : Fin 2048) (l : Fin 128) :
    in3 m c t (ix2 r l) = ((I.D r.val (s + (128 * q + l.val)) : ℝ) : EReal) := by
  rw [in3_read m c t k hk hb, A.h7, ← Nat.add_assoc, ← hs]
  rfl
theorem cols4 (t : Fin cfg0.N) (k : ℕ) (hk : win0_4.index t = ![0, 0, k]) (hb : k < 3) (r : Fin 3) (l : Fin 128) :
    in4 m c t (ix3 0 r l) = I.WC r.val (128 * k + l.val) := by
  rw [in4_read m c t k hk hb, A.h1]
  rfl
theorem cols5 (t : Fin cfg0.N) (k : ℕ) (hk : win0_5.index t = ![0, k, 0, 0]) (hb : k < 2) (a b : Fin 128) :
    in5 m c t (ix4 0 0 a b) = (((if a.val / 64 = b.val / 64 then I.WP (2 * k + a.val / 64) (a.val % 64) (b.val % 64) else 0 : ℝ)) : EReal) := by
  rw [in5_read m c t k hk hb, V_v12, A.h2, same_half _ _ (by omega) (by omega), ← EReal.coe_mul]
  refine congrArg Real.toEReal ?_
  show I.WP (k * 2 + a.val / 64) (a.val % 64) (b.val % 64) * _ = _
  rw [Nat.mul_comm k 2]
  split <;> simp
theorem cols6 (t : Fin cfg0.N) (k : ℕ) (hk : win0_6.index t = ![0, 0, k]) (hb : k < 2) (l : Fin 128) :
    in6 m c t (ix3 0 0 l) = ((I.PS (128 * k + l.val) : ℝ) : EReal) := by
  rw [in6_read m c t k hk hb, V_v18, A.h3]
  rfl
theorem cols7 (t : Fin cfg0.N) (k : ℕ) (hk : win0_7.index t = ![0, 0, k]) (hb : k < 3) (l : Fin 128) :
    in7 m c t (ix3 0 0 l) = ((I.G (128 * k + l.val) : ℝ) : EReal) := by
  rw [in7_read m c t k hk hb, V_v19, A.h4]
  rfl
theorem cols8 (t : Fin cfg0.N) (k : ℕ) (hk : win0_8.index t = ![0, k, 0, 0]) (hb : k < 3) (a : Fin 256) (b : Fin 128) :
    in8 m c t (ix4 0 0 a b) = ((I.WS (2 * k + a.val / 128) (a.val % 128) b.val : ℝ) : EReal) := by
  rw [in8_read m c t k hk hb, V_v13, A.h5, ← Nat.mul_comm k 2]
  rfl
theorem cols9 (t : Fin cfg0.N) (k : ℕ) (hk : win0_9.index t = ![0, k, 0, 0]) (hb : k < 3) (a b : Fin 128) :
    in9 m c t (ix4 0 0 a b) = ((I.BS (2 * k + b.val / 64) a.val : ℝ) : EReal) := by
  rw [in9_read m c t k hk hb, V_v17, A.h6, ← Nat.mul_comm k 2]
  rfl

/-! ## At the convolution's points -/

section Conv
variable (t : Fin cfg0.N) (h : t.val < 3)
include h
theorem conv0 (r : Fin 2048) (l : Fin 128) : in0 m c t (ix2 r l) = ((I.P r.val (128 * t.val + l.val) : ℝ) : EReal) := by
  rw [cols0 A t t.val ((idx0 t).trans (by rw [if_pos h])) (by omega) 0 t.val (by omega), Nat.zero_add]
theorem conv1 (r : Fin 2048) (l : Fin 128) : in1 m c t (ix2 r l) = ((I.P r.val (384 + (128 * t.val + l.val)) : ℝ) : EReal) :=
  cols1 A t (t.val + 3) ((idx1 t).trans (by rw [if_pos h])) (by omega) _ _ (by omega) r l
theorem conv2 (r : Fin 2048) (l : Fin 128) : in2 m c t (ix2 r l) = ((I.P r.val (768 + (128 * t.val + l.val)) : ℝ) : EReal) :=
  cols2 A t (t.val + 6) ((idx2 t).trans (by rw [if_pos h])) (by omega) _ _ (by omega) r l
theorem conv3 (r : Fin 2048) (l : Fin 128) : in3 m c t (ix2 r l) = ((I.D r.val (128 * t.val + l.val) : ℝ) : EReal) := by
  rw [cols3 A t t.val ((idx3 t).trans (by rw [if_pos h])) (by omega) 0 t.val (by omega), Nat.zero_add]
theorem conv4 (r : Fin 3) (l : Fin 128) : in4 m c t (ix3 0 r l) = I.WC r.val (128 * t.val + l.val) :=
  cols4 A t t.val ((idx4 t).trans (by rw [Nat.min_eq_left (by omega)])) h r l
end Conv

/-! ## At the pooling's points -/

section Pool
variable (t : Fin cfg0.N) (q : ℕ) (hq : q < 2) (h : t.val = 9 + q)
include hq h
theorem pool0 (r : Fin 2048) (l : Fin 128) : in0 m c t (ix2 r l) = ((I.P r.val (1152 + (128 * q + l.val)) : ℝ) : EReal) :=
  cols0 A t t.val ((idx0 t).trans (by rw [if_neg (by omega), if_neg (by omega), if_pos (by omega)])) (by omega) _ _ (by omega) r l
theorem pool3 (r : Fin 2048) (l : Fin 128) : in3 m c t (ix2 r l) = ((I.D r.val (384 + (128 * q + l.val)) : ℝ) : EReal) :=
  cols3 A t (t.val - 6) ((idx3 t).trans (by rw [if_neg (by omega), if_neg (by omega), if_pos (by omega)])) (by omega) _ _ (by omega) r l
theorem pool5 (a b : Fin 128) : in5 m c t (ix4 0 0 a b) = (((if a.val / 64 = b.val / 64 then I.WP (2 * q + a.val / 64) (a.val % 64) (b.val % 64) else 0 : ℝ)) : EReal) :=
  cols5 A t q ((idx5 t).trans (by rw [show min (t.val - 9) 1 = q by omega])) hq a b
theorem pool6 (l : Fin 128) : in6 m c t (ix3 0 0 l) = ((I.PS (128 * q + l.val) : ℝ) : EReal) :=
  cols6 A t q ((idx6 t).trans (by rw [show min (t.val - 9) 1 = q by omega])) hq l
end Pool

/-! ## At the gated points -/

section Gate
variable (t : Fin cfg0.N) (q : ℕ) (hq : q < 3) (h : t.val = 11 + q)
include hq h
theorem gate0 (r : Fin 2048) (l : Fin 128) : in0 m c t (ix2 r l) = ((I.P r.val (1408 + (128 * q + l.val)) : ℝ) : EReal) :=
  cols0 A t t.val ((idx0 t).trans (by rw [if_neg (by omega), if_neg (by omega), if_pos (by omega)])) (by omega) _ _ (by omega) r l
theorem gate1 (r : Fin 2048) (l : Fin 128) : in1 m c t (ix2 r l) = ((I.P r.val (1792 + (128 * q + l.val)) : ℝ) : EReal) :=
  cols1 A t (t.val + 3) ((idx1 t).trans (by rw [if_neg (by omega), if_neg (by omega), if_pos (by omega)])) (by omega) _ _ (by omega) r l
theorem gate3 (r : Fin 2048) (l : Fin 128) : in3 m c t (ix2 r l) = ((I.D r.val (640 + (128 * q + l.val)) : ℝ) : EReal) :=
  cols3 A t (t.val - 6) ((idx3 t).trans (by rw [if_neg (by omega), if_neg (by omega), if_pos (by omega)])) (by omega) _ _ (by omega) r l
theorem gate7 (l : Fin 128) : in7 m c t (ix3 0 0 l) = ((I.G (128 * q + l.val) : ℝ) : EReal) :=
  cols7 A t q ((idx7 t).trans (by rw [show min (t.val - 11) 2 = q by omega])) hq l
theorem gate8 (a : Fin 256) (b : Fin 128) : in8 m c t (ix4 0 0 a b) = ((I.WS (2 * q + a.val / 128) (a.val % 128) b.val : ℝ) : EReal) :=
  cols8 A t q ((idx8 t).trans (by rw [show min (t.val - 11) 2 = q by omega])) hq a b
theorem gate9 (a b : Fin 128) : in9 m c t (ix4 0 0 a b) = ((I.BS (2 * q + b.val / 64) a.val : ℝ) : EReal) :=
  cols9 A t q ((idx9 t).trans (by rw [show min (t.val - 11) 2 = q by omega])) hq a b
end Gate

end Cert.Mx

end
-- ==== Proof.Mx.RefNorm.lean ====
/- The reference's gate: the gradient through the normalisation over a head and through the GELU. -/
module

public import proofs.«01_k».proof.Proof.Mx.RefGate
public import proofs.«01_k».proof.Proof.Gen.ReferenceMxIdeal.Read

@[expose] public section

set_option maxRecDepth 16384

noncomputable section

namespace Cert.Mx.Ref

open Cert.ReferenceMxIdeal Cert.ReferenceMxIdeal.Gen Cert.ReferenceMxIdeal.Read
open Idealize.ShloMosaic Idealize.ShloMosaic.TcCoe Idealize.ShloMosaic.Tactic
open Cert.Mx.Spec

variable {I : Inp} {x0 x1 x2 x3 x4 x5 x6 x7} (A : Reads I x0 x1 x2 x3 x4 x5 x6 x7)

section Formula
variable (I)

/-- The gradient that reaches the variance, over the width of a head. -/
def qv (r h : ℕ) : ℝ := (∑ j ∈ Finset.range 64, cen I r (64 * h + j) * dvn I r (64 * h + j)) * (-(1 / 2) * (rs I r h / (var I r h + eps))) / 64
/-- The gradient that reaches the mean, over the width of a head. -/
def qm (r h : ℕ) : ℝ :=
  ((∑ j ∈ Finset.range 64, -(dvn I r (64 * h + j) * rs I r h)) + ∑ j ∈ Finset.range 64, -(qv I r h * (2 * cen I r (64 * h + j)))) / 64

theorem cen_sum (r h : ℕ) : ∑ j ∈ Finset.range 64, cen I r (64 * h + j) = 0 := by
  have e : ∀ j ∈ Finset.range 64, cen I r (64 * h + j) = gv I r (64 * h + j) - mu I r h := fun j hj => by
    unfold cen
    rw [head _ _ (Finset.mem_range.1 hj)]
  rw [Finset.sum_congr rfl e, Finset.sum_sub_distrib, Finset.sum_const, Finset.card_range, nsmul_eq_mul]
  unfold mu
  push_cast
  ring
theorem rs_sq (r h : ℕ) : rs I r h * rs I r h = (var I r h + eps)⁻¹ := by
  unfold rs
  rw [← mul_inv, Real.mul_self_sqrt (pos I r h).le]
/-- The gradient through the normalisation: through the value, the variance and the mean, or in one form. -/
theorem dv_eq (r h j : ℕ) (hj : j < 64) :
    dvn I r (64 * h + j) * rs I r h + qv I r h * (2 * cen I r (64 * h + j)) + qm I r h = dv I r (64 * h + j) := by
  have e1 : (∑ j ∈ Finset.range 64, dvn I r (64 * h + j) * vn I r (64 * h + j))
      = (∑ j ∈ Finset.range 64, cen I r (64 * h + j) * dvn I r (64 * h + j)) * rs I r h := by
    rw [Finset.sum_mul]
    refine Finset.sum_congr rfl fun j hj => ?_
    unfold vn
    rw [head _ _ (Finset.mem_range.1 hj)]
    ring
  have e2 : (∑ j ∈ Finset.range 64, -(dvn I r (64 * h + j) * rs I r h)) = -((∑ j ∈ Finset.range 64, dvn I r (64 * h + j)) * rs I r h) := by
    rw [Finset.sum_neg_distrib, Finset.sum_mul]
  have e3 : (∑ j ∈ Finset.range 64, -(qv I r h * (2 * cen I r (64 * h + j)))) = 0 := by
    rw [Finset.sum_neg_distrib, Finset.sum_congr rfl (g := fun j => qv I r h * 2 * cen I r (64 * h + j)) (fun j _ => by ring), ← Finset.mul_sum,
      cen_sum, mul_zero, neg_zero]
  unfold dv m1 m2 qm qv vn
  rw [head _ _ hj, show (∑ j ∈ Finset.range 64, dvn I r (64 * h + j) * (cen I r (64 * h + j) * rs I r ((64 * h + j) / 64))) = _ from e1, e2,
    show (∑ j ∈ Finset.range 64, -((∑ j ∈ Finset.range 64, cen I r (64 * h + j) * dvn I r (64 * h + j)) * (-(1 / 2) * (rs I r h / (var I r h + eps))) / 64
      * (2 * cen I r (64 * h + j)))) = 0 from e3, div_eq_mul_inv (rs I r h), ← rs_sq]
  ring
end Formula

include A

theorem v193_val (y : S2048x6.Idx) : val_main_v193 (F := Ideal) x0 x4 x5 x7 y
    = ((∑ j ∈ Finset.range 64, cen I (y 0).val (64 * (y 1).val + j) * dvn I (y 0).val (64 * (y 1).val + j) : ℝ) : EReal) := by
  rw [val_main_v193_apply, show val_main_cst_32 (F := Ideal) _ = ((0 : ℝ) : EReal) from bits_zero]
  exact zsum1 64 _ (fun j => cen I (y 0).val (64 * (y 1).val + j) * dvn I (y 0).val (64 * (y 1).val + j)) fun k => by
    rw [val_main_v192_apply, v140_val I x0 A.hp, v189_val A, Ideal.mulf_def, ← EReal.coe_mul]
theorem v202_val (y : S2048x6x1.Idx) : val_main_v202 (F := Ideal) x0 x4 x5 x7 y = (qv I (y 0).val (y 1).val : EReal) := by
  have h1 : (y 1).val < 6 := (y 1).isLt
  have h2 : (y 2).val < 1 := (y 2).isLt
  rw [val_main_v202_apply, val_main_v197_apply, val_main_v194_apply, v193_val A, val_main_v146_apply, val_main_v144_apply, v143_val I x0 A.hp, v142_val I x0 A.hp,
    val_main_v145_apply, val_main_v201_apply, show val_main_cst_26 (F := Ideal) _ = ((-(1 / 2) : ℝ) : EReal) from bits_mhalf,
    show val_main_cst_34 (F := Ideal) _ = ((64 : ℝ) : EReal) from bits_64]
  simp only [Ideal.hostDivf_def, Ideal.mulf_def]
  rw [div_coe _ _ (pos I _ _).ne', ← EReal.coe_mul, ← EReal.coe_mul, div_coe _ _ (by norm_num)]
  exact congrArg Real.toEReal (congrArg₂ (fun r h => (∑ j ∈ Finset.range 64, cen I r (64 * h + j) * dvn I r (64 * h + j))
    * (-(1 / 2) * (rs I (y 0).val (y 1).val / (var I (y 0).val (y 1).val + eps))) / 64) (g2 _ _ _ h1 h2) (g3 _ _ _ h1 h2))
theorem v204_val (y : S2048x6x64.Idx) : val_main_v204 (F := Ideal) x0 x4 x5 x7 y = (qv I (y 0).val (y 1).val : EReal) := by
  rw [val_main_v204_apply, val_main_v203_apply, show val_main_cst_35 (F := Ideal) _ = ((0 : ℝ) : EReal) from bits_zero]
  exact zsum11 _ _ fun k => v202_val A _
theorem v205_val (y : S2048x6x64.Idx) : val_main_v205 (F := Ideal) x0 x4 x5 x7 y
    = ((qv I (y 0).val (y 1).val * (2 * cen I (y 0).val (64 * (y 1).val + (y 2).val)) : ℝ) : EReal) := by
  rw [val_main_v205_apply, v204_val A, v134_val I x0 A.hp, Ideal.mulf_def, ← EReal.coe_mul]
theorem v196_val (y : S2048x6x64.Idx) : val_main_v196 (F := Ideal) x0 x4 x5 x7 y
    = ((dvn I (y 0).val (64 * (y 1).val + (y 2).val) * rs I (y 0).val (y 1).val : ℝ) : EReal) := by
  rw [val_main_v196_apply, v189_val A, val_main_v195_apply, v143_val I x0 A.hp, Ideal.mulf_def, ← EReal.coe_mul]
theorem v199_val (y : S2048x6.Idx) : val_main_v199 (F := Ideal) x0 x4 x5 x7 y
    = ((∑ j ∈ Finset.range 64, -(dvn I (y 0).val (64 * (y 1).val + j) * rs I (y 0).val (y 1).val) : ℝ) : EReal) := by
  rw [val_main_v199_apply, show val_main_cst_33 (F := Ideal) _ = ((0 : ℝ) : EReal) from bits_zero]
  exact zsum1 64 _ (fun j => -(dvn I (y 0).val (64 * (y 1).val + j) * rs I (y 0).val (y 1).val)) fun k => by
    rw [val_main_v198_apply, v196_val A, Ideal.hostNegf_def, Ideal.negf_def, ← EReal.coe_neg]
theorem v207_val (y : S2048x6.Idx) : val_main_v207 (F := Ideal) x0 x4 x5 x7 y
    = ((∑ j ∈ Finset.range 64, -(qv I (y 0).val (y 1).val * (2 * cen I (y 0).val (64 * (y 1).val + j))) : ℝ) : EReal) := by
  rw [val_main_v207_apply, show val_main_cst_36 (F := Ideal) _ = ((0 : ℝ) : EReal) from bits_zero]
  exact zsum1 64 _ (fun j => -(qv I (y 0).val (y 1).val * (2 * cen I (y 0).val (64 * (y 1).val + j)))) fun k => by
    rw [val_main_v206_apply, v205_val A, Ideal.hostNegf_def, Ideal.negf_def, ← EReal.coe_neg]
theorem v212_val (y : S2048x6x1.Idx) : val_main_v212 (F := Ideal) x0 x4 x5 x7 y = (qm I (y 0).val (y 1).val : EReal) := by
  have h1 : (y 1).val < 6 := (y 1).isLt
  have h2 : (y 2).val < 1 := (y 2).isLt
  rw [val_main_v212_apply, val_main_v210_apply, val_main_v200_apply, val_main_v208_apply, v199_val A, v207_val A, val_main_v211_apply,
    show val_main_cst_37 (F := Ideal) _ = ((64 : ℝ) : EReal) from bits_64, Ideal.addf_def, ← EReal.coe_add, Ideal.hostDivf_def, div_coe _ _ (by norm_num)]
  exact congrArg Real.toEReal (congrArg₂ (qm I) (g2 _ _ _ h1 h2) (g3 _ _ _ h1 h2))
theorem v214_val (y : S2048x6x64.Idx) : val_main_v214 (F := Ideal) x0 x4 x5 x7 y = (qm I (y 0).val (y 1).val : EReal) := by
  rw [val_main_v214_apply, val_main_v213_apply, show val_main_cst_38 (F := Ideal) _ = ((0 : ℝ) : EReal) from bits_zero]
  exact zsum11 _ _ fun k => v212_val A _
theorem v215_val (y : S2048x6x64.Idx) : val_main_v215 (F := Ideal) x0 x4 x5 x7 y = (dv I (y 0).val (64 * (y 1).val + (y 2).val) : EReal) := by
  have h2 : (y 2).val < 64 := (y 2).isLt
  rw [val_main_v215_apply, val_main_v209_apply, v196_val A, v205_val A, v214_val A]
  simp only [Ideal.addf_def, ← EReal.coe_add]
  rw [dv_eq I _ _ _ h2]
theorem v216_val (y : S2048x384.Idx) : val_main_v216 (F := Ideal) x0 x4 x5 x7 y = (dv I (y 0).val (y 1).val : EReal) := by
  have h1 : (y 1).val < 384 := (y 1).isLt
  rw [val_main_v216_apply, v215_val A]
  exact congrArg Real.toEReal (congrArg₂ (dv I) (e5 _ _ h1) (e4 _ _ h1))
theorem v172_val (y : S2048x384.Idx) : val_main_v172 (F := Ideal) x0 x4 x5 x6 x7 y = ((I.D (y 0).val (640 + (y 1).val) * mixed I (y 0).val (y 1).val : ℝ) : EReal) := by
  rw [val_main_v172_apply, v170_val A, v165_val A, Ideal.mulf_def, ← EReal.coe_mul]
theorem v219_val (y : S2048x768.Idx) : val_main_v219 (F := Ideal) x0 x4 x5 x6 x7 y
    = ((if (y 1).val < 384 then I.D (y 0).val (640 + (y 1).val) * mixed I (y 0).val (y 1).val else dv I (y 0).val ((y 1).val - 384) : ℝ) : EReal) := by
  have h0 : (y 0).val < 2048 := (y 0).isLt
  have h1 : (y 1).val < 768 := (y 1).isLt
  rw [val_main_v219_apply]
  unfold val_main_v217 val_main_v218
  have ea := pad2 (fun r k => (dv I r k : EReal)) _ (v216_val A) (val_main_cst_39 (F := Ideal)) (fun _ => bits_zero) pads_S2048x384_S2048x768_000_38400 h_S_ y
  have eb := pad2 (fun r k => ((I.D r (640 + k) * mixed I r k : ℝ) : EReal)) _ (v172_val A) (val_main_cst_40 (F := Ideal)) (fun _ => bits_zero) pads_S2048x384_S2048x768_000_03840 h_S_ y
  refine (congrArg₂ (· + ·) ea eb).trans ?_
  by_cases h : (y 1).val < 384
  · rw [if_neg (by omega), if_pos (by omega), if_pos h, zero_add]; rfl
  · rw [if_pos (by omega), if_neg (by omega), if_neg h, add_zero]; rfl
/-- The gradients of the gating and of the gated columns. -/
theorem v227_val (y : S2048x768.Idx) : val_main_v227 (F := Ideal) x0 x4 x5 x6 x7 y
    = ((if (y 1).val < 384 then dup I (y 0).val (y 1).val else dvp I (y 0).val ((y 1).val - 384) : ℝ) : EReal) := by
  have h1 : (y 1).val < 768 := (y 1).isLt
  rw [val_main_v227_apply, val_main_v224_apply, val_main_v226_apply, val_main_v222_apply, val_main_v221_apply, val_main_v220_apply, v219_val A,
    v119_val I x0 A.hp, v106_val I x0 A.hp, v121_val I x0 A.hp, val_main_v223_apply, v107_val, val_main_v225_apply,
    show val_main_cst_41 (F := Ideal) _ = ((1 / 2 : ℝ) : EReal) from bits_half]
  simp only [Ideal.mulf_def, ← EReal.coe_mul, Ideal.hostDivf_def]
  rw [div_coe _ _ (by positivity), Ideal.addf_def, ← EReal.coe_add, geluD_eq I x0 A.hp]
  refine congrArg Real.toEReal ?_
  by_cases h : (y 1).val < 384
  · rw [if_pos h, if_pos h]; rfl
  · rw [if_neg h, if_neg h]
    unfold dvp
    rw [show 1792 + ((y 1).val - 384) = 1408 + (y 1).val by omega]

end Cert.Mx.Ref

end
-- ==== Proof.Mx.RefPool.lean ====
module

public import proofs.«01_k».proof.Proof.Mx.RefGate
public import proofs.«01_k».proof.Proof.Mx.RefSums
public import proofs.«01_k».proof.Proof.Gen.ReferenceMxIdeal.Read

@[expose] public section

set_option maxRecDepth 16384

noncomputable section

namespace Cert.Mx.Ref

open Cert.ReferenceMxIdeal Cert.ReferenceMxIdeal.Gen Cert.ReferenceMxIdeal.Read
open Idealize.ShloMosaic Idealize.ShloMosaic.TcCoe Idealize.ShloMosaic.Tactic
open Cert.Mx.Spec

/-! # What the reference computes of the pooling -/

section Places
theorem p1 (a g b : ℕ) (hg : g < 4) (hb : b < 64) : ((a * 4 + g) * 64 + b) / 256 = a := by omega
theorem p2 (a g b : ℕ) (hg : g < 4) (hb : b < 64) : ((a * 4 + g) * 64 + b) % 256 = 64 * g + b := by omega
theorem p3 (a b : ℕ) (hb : b < 64) : (a * 64 + b) / 64 = a := by omega
theorem p4 (a b : ℕ) (hb : b < 64) : (a * 64 + b) % 64 = b := by omega
theorem p5 (r k : ℕ) (hk : k < 256) : (r * 256 + k) / 256 = r := by omega
theorem p6 (r k : ℕ) (hk : k < 256) : (r * 256 + k) / 64 % 4 = k / 64 := by omega
theorem p7 (r k : ℕ) (hk : k < 256) : (r * 256 + k) % 64 = k % 64 := by omega
theorem p8 (k : ℕ) : 64 * (k / 64) + k % 64 = k := by omega
end Places

section Groups
variable (I : Inp)

/-- The difference of two rows of a running sum with `w` zeros before it is a window's sum. -/
theorem window_sum (w g r c : ℕ) (hr : r < 2048) (u v : ℕ) (hu : u = w + r) (hv : v = r) :
    (if w ≤ u then ((back 2048 (pl I (64 * g + c)) (u - w) : ℝ) : EReal) else 0) - (if w ≤ v then ((back 2048 (pl I (64 * g + c)) (v - w) : ℝ) : EReal) else 0)
      = ((back w (pl I (64 * g + c)) r : ℝ) : EReal) := by
  subst hu hv
  rw [if_pos (by omega), Nat.add_sub_cancel_left, ← back_diff w _ v hr]
  split
  · rw [← EReal.coe_sub]
  · rw [← EReal.coe_zero, ← EReal.coe_sub]
/-- The count of a group's windows. -/
theorem count_eq (w k r : ℕ) (hw : wid k = w) (u : EReal) (hu : u = (((w : ℕ) : ℝ) : EReal)) : min ((((r : ℝ) + 1 : ℝ)) : EReal) u = (cnt r k : EReal) := by
  subst hw hu
  unfold cnt
  rw [EReal.coe_strictMono.monotone.map_min]
theorem wid_eq (g c w : ℕ) (hc : c < 64) (hw : 2 ^ (g + 1) = w) : wid (64 * g + c) = w := by
  unfold wid
  rw [show (64 * g + c) / 64 = g by omega, hw]
/-- What a window's difference of a running sum passes back to the rows of the sum. -/
def pass (w : ℕ) (q : ℕ → ℝ) (r : ℕ) : ℝ := (if r + w < 2048 then -(q (r + w)) else 0) + q r
def share (g c r : ℕ) : ℝ := dd I r (64 * g + c) / cnt r (64 * g + c)
theorem pass_eq (w : ℕ) (q : ℕ → ℕ → ℝ) (r c : ℕ) (hr : r < 2048) (u : ℕ) (hu : u = w + r) (e f : ℕ) (he : e = 2048) (hf : f = 2048) (hc : c < 64) :
    (if (0 ≤ u ∧ u - 0 < e) ∧ (0 ≤ c ∧ c - 0 < 64) then ((-(q (c - 0) (u - 0)) : ℝ) : EReal) else 0)
      + (if (w ≤ u ∧ u - w < f) ∧ (0 ≤ c ∧ c - 0 < 64) then ((q (c - 0) (u - w) : ℝ) : EReal) else 0) = ((pass w (q c) r : ℝ) : EReal) := by
  subst hu he hf
  have e1 : w + r - w = r := by omega
  rw [if_pos (c := (w ≤ w + r ∧ w + r - w < 2048) ∧ (0 ≤ c ∧ c - 0 < 64)) ⟨⟨by omega, by omega⟩, by omega, by omega⟩, e1, Nat.sub_zero, Nat.sub_zero]
  unfold pass
  by_cases h : r + w < 2048
  · rw [if_pos h, if_pos ⟨⟨by omega, by omega⟩, by omega, by omega⟩, ← EReal.coe_add, Nat.add_comm w r]
  · rw [if_neg h, if_neg (by omega), ← EReal.coe_zero, ← EReal.coe_add]
end Groups

variable {I : Inp} {x0 x1 x2 x3 x4 x5 x6 x7} (A : Reads I x0 x1 x2 x3 x4 x5 x6 x7)
include A

theorem v36_val (y : S2048x4x64.Idx) : val_main_v36 (F := Ideal) x0 y = (pl I (64 * (y 1).val + (y 2).val) (y 0).val : EReal) := by
  have h1 : (y 1).val < 4 := (y 1).isLt
  have h2 : (y 2).val < 64 := (y 2).isLt
  rw [val_main_v36_apply, val_main_v9_apply, A.hp]
  exact congrArg Real.toEReal (congrArg₂ (fun r k => I.P r (1152 + k)) (p1 _ _ _ h1 h2) (p2 _ _ _ h1 h2))
/-- The running sums down the rows. -/
theorem v37_val (y : S2048x4x64.Idx) : val_main_v37 (F := Ideal) x0 y = (back 2048 (pl I (64 * (y 1).val + (y 2).val)) (y 0).val : EReal) := by
  unfold val_main_v37
  exact window_down (fun r g c => pl I (64 * g + c) r) _ (v36_val A) _ (fun i => by rw [val_main_call0_call0_v0_apply]; exact bits_zero) _ _ y
omit A in
theorem v40_val (y : S2048.Idx) : val_main_v40 (F := Ideal) y = (((((y 0).val : ℝ) + 1 : ℝ)) : EReal) := by
  have ht : ∀ r : Fin 2048, (BitVec.ofNat 32 r.val).toInt = r.val := by decide +kernel
  have e : val_main_v38 (F := Ideal) y = ((((y 0).val : ℝ)) : EReal) := by
    show ((((BitVec.ofNat 32 (y 0).val).toInt : ℝ)) : EReal) = _
    rw [ht (y 0)]; push_cast; rfl
  rw [val_main_v40_apply, val_main_v39_apply, e, show val_main_cst_1 (F := Ideal) _ = ((1 : ℝ) : EReal) from bits_one, Ideal.addf_def, ← EReal.coe_add, add_comm]
theorem v1_val (y : S4x64x64.Idx) : val_main_v1 (F := Ideal) x2 y = (I.WP (y 0).val (y 1).val (y 2).val : EReal) := by
  have h0 : (y 0).val < 4 := (y 0).isLt
  have h1 : (y 1).val < 64 := (y 1).isLt
  have h2 : (y 2).val < 64 := (y 2).isLt
  have e : ∀ a b c : ℕ, a < 4 → b < 64 → c < 64 → ∀ u v w : ℕ, u = a → v = b → w = c → I.WP u v w = I.WP a b c := by
    intro a b c _ _ _ u v w hu hv hw
    rw [hu, hv, hw]
  rw [val_main_v1_apply, A.h2]
  exact congrArg Real.toEReal (e _ _ _ h0 h1 h2 _ _ _ (show (((y 0).val * 64 + (y 1).val) * 64 + (y 2).val) / 4096 % 4 = _ by omega)
    (show (((y 0).val * 64 + (y 1).val) * 64 + (y 2).val) / 64 % 64 = _ by omega) (show (((y 0).val * 64 + (y 1).val) * 64 + (y 2).val) % 64 = _ by omega))

theorem v42_val (y : S2048x64.Idx) : val_main_v42 (F := Ideal) x0 y = (back 2048 (pl I (64 * 0 + (y 1).val)) (y 0).val : EReal) := by
  have h1 : (y 1).val < 64 := (y 1).isLt
  rw [val_main_v42_apply, val_main_v41_apply, v37_val A]
  exact congrArg Real.toEReal (congrArg₂ (fun r k => back 2048 (pl I (64 * 0 + k)) r) (p3 _ _ h1) (p4 _ _ h1))
theorem v48_val (y : S2048x64.Idx) : val_main_v48 (F := Ideal) x0 y = (back 2 (pl I (64 * 0 + (y 1).val)) (y 0).val : EReal) := by
  have e : ∀ y, val_main_v44 (F := Ideal) x0 y = _ := fun y => by
    unfold val_main_v44
    exact zeros_over (fun r k => ((back 2048 (pl I (64 * 0 + k)) r : ℝ) : EReal)) _ (v42_val A) _ (fun y => by rw [val_main_v43_apply]; exact bits_zero) _ rfl y
  rw [val_main_v48_apply, val_main_v46_apply, val_main_v47_apply, e, e, Ideal.subf_def]
  exact window_sum I 2 0 _ _ (y 0).isLt _ _ rfl rfl
omit A in
theorem v51_val (y : S2048x1.Idx) (k : ℕ) (hk : k < 64) : val_main_v51 (F := Ideal) y = (cnt (y 0).val (64 * 0 + k) : EReal) := by
  rw [val_main_v51_apply, val_main_v50_apply, v40_val, val_main_v49_apply, show val_main_cst_4 (F := Ideal) _ = ((2 : ℝ) : EReal) from bits_two, Ideal.minimumf_def]
  exact count_eq 2 _ _ (wid_eq 0 k 2 hk rfl) _ (by norm_num)
theorem v53_val (y : S2048x64.Idx) : val_main_v53 (F := Ideal) x0 y
    = ((back (wid (64 * 0 + (y 1).val)) (pl I (64 * 0 + (y 1).val)) (y 0).val / cnt (y 0).val (64 * 0 + (y 1).val) : ℝ) : EReal) := by
  have h1 : (y 1).val < 64 := (y 1).isLt
  rw [val_main_v53_apply, v48_val A, val_main_v52_apply, v51_val _ (y 1).val h1, Ideal.hostDivf_def, wid_eq 0 _ 2 h1 rfl]
  exact div_coe _ _ (cnt_pos _ _).ne'

theorem v55_val (y : S2048x64.Idx) : val_main_v55 (F := Ideal) x0 y = (back 2048 (pl I (64 * 1 + (y 1).val)) (y 0).val : EReal) := by
  have h1 : (y 1).val < 64 := (y 1).isLt
  rw [val_main_v55_apply, val_main_v54_apply, v37_val A]
  exact congrArg Real.toEReal (congrArg₂ (fun r k => back 2048 (pl I (64 * 1 + k)) r) (p3 _ _ h1) (p4 _ _ h1))
theorem v61_val (y : S2048x64.Idx) : val_main_v61 (F := Ideal) x0 y = (back 4 (pl I (64 * 1 + (y 1).val)) (y 0).val : EReal) := by
  have e : ∀ y, val_main_v57 (F := Ideal) x0 y = _ := fun y => by
    unfold val_main_v57
    exact zeros_over (fun r k => ((back 2048 (pl I (64 * 1 + k)) r : ℝ) : EReal)) _ (v55_val A) _ (fun y => by rw [val_main_v56_apply]; exact bits_zero) _ rfl y
  rw [val_main_v61_apply, val_main_v59_apply, val_main_v60_apply, e, e, Ideal.subf_def]
  exact window_sum I 4 1 _ _ (y 0).isLt _ _ rfl rfl
omit A in
theorem v64_val (y : S2048x1.Idx) (k : ℕ) (hk : k < 64) : val_main_v64 (F := Ideal) y = (cnt (y 0).val (64 * 1 + k) : EReal) := by
  rw [val_main_v64_apply, val_main_v63_apply, v40_val, val_main_v62_apply, show val_main_cst_7 (F := Ideal) _ = ((4 : ℝ) : EReal) from bits_four, Ideal.minimumf_def]
  exact count_eq 4 _ _ (wid_eq 1 k 4 hk rfl) _ (by norm_num)
theorem v66_val (y : S2048x64.Idx) : val_main_v66 (F := Ideal) x0 y
    = ((back (wid (64 * 1 + (y 1).val)) (pl I (64 * 1 + (y 1).val)) (y 0).val / cnt (y 0).val (64 * 1 + (y 1).val) : ℝ) : EReal) := by
  have h1 : (y 1).val < 64 := (y 1).isLt
  rw [val_main_v66_apply, v61_val A, val_main_v65_apply, v64_val _ (y 1).val h1, Ideal.hostDivf_def, wid_eq 1 _ 4 h1 rfl]
  exact div_coe _ _ (cnt_pos _ _).ne'

theorem v68_val (y : S2048x64.Idx) : val_main_v68 (F := Ideal) x0 y = (back 2048 (pl I (64 * 2 + (y 1).val)) (y 0).val : EReal) := by
  have h1 : (y 1).val < 64 := (y 1).isLt
  rw [val_main_v68_apply, val_main_v67_apply, v37_val A]
  exact congrArg Real.toEReal (congrArg₂ (fun r k => back 2048 (pl I (64 * 2 + k)) r) (p3 _ _ h1) (p4 _ _ h1))
theorem v74_val (y : S2048x64.Idx) : val_main_v74 (F := Ideal) x0 y = (back 8 (pl I (64 * 2 + (y 1).val)) (y 0).val : EReal) := by
  have e : ∀ y, val_main_v70 (F := Ideal) x0 y = _ := fun y => by
    unfold val_main_v70
    exact zeros_over (fun r k => ((back 2048 (pl I (64 * 2 + k)) r : ℝ) : EReal)) _ (v68_val A) _ (fun y => by rw [val_main_v69_apply]; exact bits_zero) _ rfl y
  rw [val_main_v74_apply, val_main_v72_apply, val_main_v73_apply, e, e, Ideal.subf_def]
  exact window_sum I 8 2 _ _ (y 0).isLt _ _ rfl rfl
omit A in
theorem v77_val (y : S2048x1.Idx) (k : ℕ) (hk : k < 64) : val_main_v77 (F := Ideal) y = (cnt (y 0).val (64 * 2 + k) : EReal) := by
  rw [val_main_v77_apply, val_main_v76_apply, v40_val, val_main_v75_apply, show val_main_cst_10 (F := Ideal) _ = ((8 : ℝ) : EReal) from bits_eight, Ideal.minimumf_def]
  exact count_eq 8 _ _ (wid_eq 2 k 8 hk rfl) _ (by norm_num)
theorem v79_val (y : S2048x64.Idx) : val_main_v79 (F := Ideal) x0 y
    = ((back (wid (64 * 2 + (y 1).val)) (pl I (64 * 2 + (y 1).val)) (y 0).val / cnt (y 0).val (64 * 2 + (y 1).val) : ℝ) : EReal) := by
  have h1 : (y 1).val < 64 := (y 1).isLt
  rw [val_main_v79_apply, v74_val A, val_main_v78_apply, v77_val _ (y 1).val h1, Ideal.hostDivf_def, wid_eq 2 _ 8 h1 rfl]
  exact div_coe _ _ (cnt_pos _ _).ne'

theorem v81_val (y : S2048x64.Idx) : val_main_v81 (F := Ideal) x0 y = (back 2048 (pl I (64 * 3 + (y 1).val)) (y 0).val : EReal) := by
  have h1 : (y 1).val < 64 := (y 1).isLt
  rw [val_main_v81_apply, val_main_v80_apply, v37_val A]
  exact congrArg Real.toEReal (congrArg₂ (fun r k => back 2048 (pl I (64 * 3 + k)) r) (p3 _ _ h1) (p4 _ _ h1))
theorem v87_val (y : S2048x64.Idx) : val_main_v87 (F := Ideal) x0 y = (back 16 (pl I (64 * 3 + (y 1).val)) (y 0).val : EReal) := by
  have e : ∀ y, val_main_v83 (F := Ideal) x0 y = _ := fun y => by
    unfold val_main_v83
    exact zeros_over (fun r k => ((back 2048 (pl I (64 * 3 + k)) r : ℝ) : EReal)) _ (v81_val A) _ (fun y => by rw [val_main_v82_apply]; exact bits_zero) _ rfl y
  rw [val_main_v87_apply, val_main_v85_apply, val_main_v86_apply, e, e, Ideal.subf_def]
  exact window_sum I 16 3 _ _ (y 0).isLt _ _ rfl rfl
omit A in
theorem v90_val (y : S2048x1.Idx) (k : ℕ) (hk : k < 64) : val_main_v90 (F := Ideal) y = (cnt (y 0).val (64 * 3 + k) : EReal) := by
  rw [val_main_v90_apply, val_main_v89_apply, v40_val, val_main_v88_apply, show val_main_cst_13 (F := Ideal) _ = ((16 : ℝ) : EReal) from bits_sixteen, Ideal.minimumf_def]
  exact count_eq 16 _ _ (wid_eq 3 k 16 hk rfl) _ (by norm_num)
theorem v92_val (y : S2048x64.Idx) : val_main_v92 (F := Ideal) x0 y
    = ((back (wid (64 * 3 + (y 1).val)) (pl I (64 * 3 + (y 1).val)) (y 0).val / cnt (y 0).val (64 * 3 + (y 1).val) : ℝ) : EReal) := by
  have h1 : (y 1).val < 64 := (y 1).isLt
  rw [val_main_v92_apply, v87_val A, val_main_v91_apply, v90_val _ (y 1).val h1, Ideal.hostDivf_def, wid_eq 3 _ 16 h1 rfl]
  exact div_coe _ _ (cnt_pos _ _).ne'

/-- The running means: the four groups side by side. -/
theorem v97_val (y : S2048x4x64.Idx) : val_main_v97 (F := Ideal) x0 y
    = ((back (wid (64 * (y 1).val + (y 2).val)) (pl I (64 * (y 1).val + (y 2).val)) (y 0).val / cnt (y 0).val (64 * (y 1).val + (y 2).val) : ℝ) : EReal) := by
  have h1 : (y 1).val < 4 := (y 1).isLt
  have hi : ∀ b : Fin 3, b ≠ 1 → ((ix3 (y 0) 0 (y 2) : S2048x1x64.Idx) b).val = (y b).val := by
    intro b hb
    match b with
    | ⟨0, _⟩ => rfl
    | ⟨1, _⟩ => exact absurd rfl hb
    | ⟨2, _⟩ => rfl
  unfold val_main_v97
  rcases (show (y 1).val = 0 ∨ (y 1).val = 1 ∨ (y 1).val = 2 ∨ (y 1).val = 3 by omega) with h | h | h | h
  · refine (concatenate_apply_piece 1 _ _ y 0 (by show 0 < 4; decide) S2048x1x64 (val_main_v93 (F := Ideal) x0) rfl rfl 0 rfl (ix3 (y 0) 0 (y 2)) hi h.symm).trans ?_
    rw [val_main_v93_apply, v53_val A, h]
    rfl
  · refine (concatenate_apply_piece 1 _ _ y 1 (by show 1 < 4; decide) S2048x1x64 (val_main_v94 (F := Ideal) x0) rfl rfl 1 rfl (ix3 (y 0) 0 (y 2)) hi h.symm).trans ?_
    rw [val_main_v94_apply, v66_val A, h]
    rfl
  · refine (concatenate_apply_piece 1 _ _ y 2 (by show 2 < 4; decide) S2048x1x64 (val_main_v95 (F := Ideal) x0) rfl rfl 2 rfl (ix3 (y 0) 0 (y 2)) hi h.symm).trans ?_
    rw [val_main_v95_apply, v79_val A, h]
    rfl
  · refine (concatenate_apply_piece 1 _ _ y 3 (by show 3 < 4; decide) S2048x1x64 (val_main_v96 (F := Ideal) x0) rfl rfl 3 rfl (ix3 (y 0) 0 (y 2)) hi h.symm).trans ?_
    rw [val_main_v96_apply, v92_val A, h]
    rfl
theorem v98_val (y : S2048x4x64.Idx) : val_main_v98 (F := Ideal) x0 y = (dev I (y 0).val (64 * (y 1).val + (y 2).val) : EReal) := by
  rw [val_main_v98_apply, v97_val A, v36_val A, Ideal.subf_def, ← EReal.coe_sub]
  rfl
theorem v99_val (y : S4x64x2048.Idx) : val_main_v99 (F := Ideal) x0 x2 y
    = ((∑ c ∈ Finset.range 64, dev I (y 2).val (64 * (y 0).val + c) * I.WP (y 0).val c (y 1).val : ℝ) : EReal) := by
  rw [val_main_v99_apply]
  exact sum1 64 _ (fun c => dev I (y 2).val (64 * (y 0).val + c) * I.WP (y 0).val c (y 1).val) fun k => by
    rw [v1_val A, v98_val A, ← EReal.coe_mul, mul_comm]
theorem v101_val (y : S2048x256.Idx) : val_main_v101 (F := Ideal) x0 x2 y = (pmix I (y 0).val (y 1).val : EReal) := by
  have h1 : (y 1).val < 256 := (y 1).isLt
  have e : ∀ r k a g c : ℕ, a = r → g = k / 64 → c = k % 64 → (∑ j ∈ Finset.range 64, dev I a (64 * g + j) * I.WP g j c) = pmix I r k := by
    intro r k a g c ha hg hc
    rw [ha, hg, hc]
    rfl
  rw [val_main_v101_apply, val_main_v100_apply, v99_val A]
  exact congrArg Real.toEReal (e _ _ _ _ _ (p5 _ _ h1) (p6 _ _ h1) (p7 _ _ h1))
theorem v169_val (y : S2048x256.Idx) : val_main_v169 (F := Ideal) x7 y = (I.D (y 0).val (384 + (y 1).val) : EReal) := by
  rw [val_main_v169_apply, A.h7]
theorem v228_val (y : S2048x256.Idx) : val_main_v228 (F := Ideal) x0 x2 x7 y = (I.D (y 0).val (384 + (y 1).val) * pmix I (y 0).val (y 1).val : ℝ) := by
  rw [val_main_v228_apply, v101_val A, v169_val A, Ideal.mulf_def, ← EReal.coe_mul, mul_comm]
/-- The gradient of the scales. -/
theorem v233_val (y : S256.Idx) : val_main_v233 (F := Ideal) x0 x2 x7 y = (dps I (y 0).val : EReal) := by
  rw [val_main_v233_apply, show val_main_cst_43 (F := Ideal) _ = ((0 : ℝ) : EReal) from bits_zero]
  refine zsum11 _ _ fun k => ?_
  have hk : k.val = 0 := by have := k.isLt; omega
  rw [val_main_v230_apply, val_main_v229_apply, show val_main_cst_42 (F := Ideal) _ = ((0 : ℝ) : EReal) from bits_zero]
  refine (zsum1 2048 _ (fun r => I.D r (384 + (y 0).val) * pmix I r (y 0).val) fun a => (v228_val A _).trans ?_).trans rfl
  exact congrArg Real.toEReal (congrArg (fun n => I.D a.val (384 + n) * pmix I a.val n) (show k.val * 256 + (y 0).val = (y 0).val by omega))
theorem v232_val (y : S2048x256.Idx) : val_main_v232 (F := Ideal) x3 x7 y = (dyw I (y 0).val (y 1).val : EReal) := by
  have h1 : (y 1).val < 256 := (y 1).isLt
  rw [val_main_v232_apply, v169_val A, val_main_v231_apply, val_main_v102_apply, val_main_v2_apply, A.h3, Ideal.mulf_def, ← EReal.coe_mul]
  exact congrArg Real.toEReal (congrArg (fun n => I.D (y 0).val (384 + (y 1).val) * I.PS n) (Nat.mod_eq_of_lt h1))
theorem v235_val (y : S4x64x2048.Idx) : val_main_v235 (F := Ideal) x3 x7 y = (dyw I (y 2).val (64 * (y 0).val + (y 1).val) : EReal) := by
  have h0 : (y 0).val < 4 := (y 0).isLt
  have h1 : (y 1).val < 64 := (y 1).isLt
  rw [val_main_v235_apply, val_main_v234_apply, v232_val A]
  exact congrArg Real.toEReal (congrArg₂ (dyw I) (p1 _ _ _ h0 h1) (p2 _ _ _ h0 h1))
/-- The gradient of the pooling matrices. -/
theorem v239_val (y : S4x64x64.Idx) : val_main_v239 (F := Ideal) x0 x3 x7 y = (dwp I (y 0).val (y 1).val (y 2).val : EReal) := by
  rw [val_main_v239_apply, val_main_v238_apply]
  refine (sum1 2048 _ (fun r => dev I r (64 * (y 0).val + (y 1).val) * dyw I r (64 * (y 0).val + (y 2).val)) fun k => ?_).trans rfl
  rw [v235_val A, v98_val A, ← EReal.coe_mul, mul_comm]
theorem v237_val (y : S2048x4x64.Idx) : val_main_v237 (F := Ideal) x2 x3 x7 y = (dd I (y 0).val (64 * (y 1).val + (y 2).val) : EReal) := by
  have h2 : (y 2).val < 64 := (y 2).isLt
  rw [val_main_v237_apply, val_main_v236_apply]
  refine (sum1 64 _ (fun e => dyw I (y 0).val (64 * (y 1).val + e) * I.WP (y 1).val (y 2).val e) fun k => ?_).trans ?_
  · rw [v235_val A, v1_val A, ← EReal.coe_mul]
  · unfold dd
    rw [show (64 * (y 1).val + (y 2).val) / 64 = (y 1).val by omega, show (64 * (y 1).val + (y 2).val) % 64 = (y 2).val by omega]

theorem v250_val (y : S2048x64.Idx) : val_main_v250 (F := Ideal) x2 x3 x7 y = (share I 3 (y 1).val (y 0).val : EReal) := by
  have h1 : (y 1).val < 64 := (y 1).isLt
  rw [val_main_v250_apply, val_main_v248_apply, val_main_v247_apply, v237_val A, val_main_v249_apply, v90_val _ (y 1).val h1, Ideal.hostDivf_def]
  refine (div_coe _ _ (cnt_pos _ _).ne').trans ?_
  exact congrArg Real.toEReal (congrArg₂ (fun r k => dd I r (64 * 3 + k) / cnt (y 0).val (64 * 3 + (y 1).val)) (p3 _ _ h1) (p4 _ _ h1))
theorem v258_val (y : S2048x4x64.Idx) : val_main_v258 (F := Ideal) x2 x3 x7 y
    = if (y 1).val = 3 then ((pass 16 (share I 3 (y 2).val) (y 0).val : ℝ) : EReal) else 0 := by
  unfold val_main_v258
  refine pad_group (fun r c => ((pass 16 (share I 3 c) r : ℝ) : EReal)) _ (fun y => ?_) _ (fun _ => bits_zero) _ _ y
  have e1 : ∀ y, val_main_v252 (F := Ideal) x2 x3 x7 y = _ := fun y => by
    unfold val_main_v252
    exact pad2 (fun r c => ((-(share I 3 c r) : ℝ) : EReal)) _ (fun y => by rw [val_main_v251_apply, v250_val A, Ideal.hostNegf_def, Ideal.negf_def, ← EReal.coe_neg]) _ (fun _ => bits_zero) _ _ y
  have e2 : ∀ y, val_main_v253 (F := Ideal) x2 x3 x7 y = _ := fun y => by
    unfold val_main_v253
    exact pad2 (fun r c => ((share I 3 c r : ℝ) : EReal)) _ (v250_val A) _ (fun _ => bits_zero) _ _ y
  rw [val_main_v257_apply, val_main_v256_apply, val_main_v254_apply, e1, e2, Ideal.addf_def]
  exact pass_eq 16 (share I 3) _ _ (y 0).isLt _ rfl _ _ rfl rfl (y 2).isLt

theorem v260_val (y : S2048x64.Idx) : val_main_v260 (F := Ideal) x2 x3 x7 y = (share I 2 (y 1).val (y 0).val : EReal) := by
  have h1 : (y 1).val < 64 := (y 1).isLt
  rw [val_main_v260_apply, val_main_v246_apply, val_main_v245_apply, v237_val A, val_main_v259_apply, v77_val _ (y 1).val h1, Ideal.hostDivf_def]
  refine (div_coe _ _ (cnt_pos _ _).ne').trans ?_
  exact congrArg Real.toEReal (congrArg₂ (fun r k => dd I r (64 * 2 + k) / cnt (y 0).val (64 * 2 + (y 1).val)) (p3 _ _ h1) (p4 _ _ h1))
theorem v268_val (y : S2048x4x64.Idx) : val_main_v268 (F := Ideal) x2 x3 x7 y
    = if (y 1).val = 2 then ((pass 8 (share I 2 (y 2).val) (y 0).val : ℝ) : EReal) else 0 := by
  unfold val_main_v268
  refine pad_group (fun r c => ((pass 8 (share I 2 c) r : ℝ) : EReal)) _ (fun y => ?_) _ (fun _ => bits_zero) _ _ y
  have e1 : ∀ y, val_main_v262 (F := Ideal) x2 x3 x7 y = _ := fun y => by
    unfold val_main_v262
    exact pad2 (fun r c => ((-(share I 2 c r) : ℝ) : EReal)) _ (fun y => by rw [val_main_v261_apply, v260_val A, Ideal.hostNegf_def, Ideal.negf_def, ← EReal.coe_neg]) _ (fun _ => bits_zero) _ _ y
  have e2 : ∀ y, val_main_v263 (F := Ideal) x2 x3 x7 y = _ := fun y => by
    unfold val_main_v263
    exact pad2 (fun r c => ((share I 2 c r : ℝ) : EReal)) _ (v260_val A) _ (fun _ => bits_zero) _ _ y
  rw [val_main_v267_apply, val_main_v266_apply, val_main_v264_apply, e1, e2, Ideal.addf_def]
  exact pass_eq 8 (share I 2) _ _ (y 0).isLt _ rfl _ _ rfl rfl (y 2).isLt

theorem v271_val (y : S2048x64.Idx) : val_main_v271 (F := Ideal) x2 x3 x7 y = (share I 1 (y 1).val (y 0).val : EReal) := by
  have h1 : (y 1).val < 64 := (y 1).isLt
  rw [val_main_v271_apply, val_main_v244_apply, val_main_v243_apply, v237_val A, val_main_v270_apply, v64_val _ (y 1).val h1, Ideal.hostDivf_def]
  refine (div_coe _ _ (cnt_pos _ _).ne').trans ?_
  exact congrArg Real.toEReal (congrArg₂ (fun r k => dd I r (64 * 1 + k) / cnt (y 0).val (64 * 1 + (y 1).val)) (p3 _ _ h1) (p4 _ _ h1))
theorem v279_val (y : S2048x4x64.Idx) : val_main_v279 (F := Ideal) x2 x3 x7 y
    = if (y 1).val = 1 then ((pass 4 (share I 1 (y 2).val) (y 0).val : ℝ) : EReal) else 0 := by
  unfold val_main_v279
  refine pad_group (fun r c => ((pass 4 (share I 1 c) r : ℝ) : EReal)) _ (fun y => ?_) _ (fun _ => bits_zero) _ _ y
  have e1 : ∀ y, val_main_v273 (F := Ideal) x2 x3 x7 y = _ := fun y => by
    unfold val_main_v273
    exact pad2 (fun r c => ((-(share I 1 c r) : ℝ) : EReal)) _ (fun y => by rw [val_main_v272_apply, v271_val A, Ideal.hostNegf_def, Ideal.negf_def, ← EReal.coe_neg]) _ (fun _ => bits_zero) _ _ y
  have e2 : ∀ y, val_main_v274 (F := Ideal) x2 x3 x7 y = _ := fun y => by
    unfold val_main_v274
    exact pad2 (fun r c => ((share I 1 c r : ℝ) : EReal)) _ (v271_val A) _ (fun _ => bits_zero) _ _ y
  rw [val_main_v278_apply, val_main_v277_apply, val_main_v275_apply, e1, e2, Ideal.addf_def]
  exact pass_eq 4 (share I 1) _ _ (y 0).isLt _ rfl _ _ rfl rfl (y 2).isLt

theorem v282_val (y : S2048x64.Idx) : val_main_v282 (F := Ideal) x2 x3 x7 y = (share I 0 (y 1).val (y 0).val : EReal) := by
  have h1 : (y 1).val < 64 := (y 1).isLt
  rw [val_main_v282_apply, val_main_v242_apply, val_main_v241_apply, v237_val A, val_main_v281_apply, v51_val _ (y 1).val h1, Ideal.hostDivf_def]
  refine (div_coe _ _ (cnt_pos _ _).ne').trans ?_
  exact congrArg Real.toEReal (congrArg₂ (fun r k => dd I r (64 * 0 + k) / cnt (y 0).val (64 * 0 + (y 1).val)) (p3 _ _ h1) (p4 _ _ h1))
theorem v290_val (y : S2048x4x64.Idx) : val_main_v290 (F := Ideal) x2 x3 x7 y
    = if (y 1).val = 0 then ((pass 2 (share I 0 (y 2).val) (y 0).val : ℝ) : EReal) else 0 := by
  unfold val_main_v290
  refine pad_group (fun r c => ((pass 2 (share I 0 c) r : ℝ) : EReal)) _ (fun y => ?_) _ (fun _ => bits_zero) _ _ y
  have e1 : ∀ y, val_main_v284 (F := Ideal) x2 x3 x7 y = _ := fun y => by
    unfold val_main_v284
    exact pad2 (fun r c => ((-(share I 0 c r) : ℝ) : EReal)) _ (fun y => by rw [val_main_v283_apply, v282_val A, Ideal.hostNegf_def, Ideal.negf_def, ← EReal.coe_neg]) _ (fun _ => bits_zero) _ _ y
  have e2 : ∀ y, val_main_v285 (F := Ideal) x2 x3 x7 y = _ := fun y => by
    unfold val_main_v285
    exact pad2 (fun r c => ((share I 0 c r : ℝ) : EReal)) _ (v282_val A) _ (fun _ => bits_zero) _ _ y
  rw [val_main_v289_apply, val_main_v288_apply, val_main_v286_apply, e1, e2, Ideal.addf_def]
  exact pass_eq 2 (share I 0) _ _ (y 0).isLt _ rfl _ _ rfl rfl (y 2).isLt

theorem v291_val (y : S2048x4x64.Idx) : val_main_v291 (F := Ideal) x2 x3 x7 y
    = ((pass (wid (64 * (y 1).val + (y 2).val)) (share I (y 1).val (y 2).val) (y 0).val : ℝ) : EReal) := by
  have h1 : (y 1).val < 4 := (y 1).isLt
  have h2 : (y 2).val < 64 := (y 2).isLt
  rw [val_main_v291_apply, val_main_v280_apply, val_main_v269_apply, v258_val A, v268_val A, v279_val A, v290_val A]
  simp only [Ideal.addf_def]
  rcases (show (y 1).val = 0 ∨ (y 1).val = 1 ∨ (y 1).val = 2 ∨ (y 1).val = 3 by omega) with h | h | h | h <;> rw [h]
  · rw [wid_eq 0 _ 2 h2 rfl]; simp
  · rw [wid_eq 1 _ 4 h2 rfl]; simp
  · rw [wid_eq 2 _ 8 h2 rfl]; simp
  · rw [wid_eq 3 _ 16 h2 rfl]; simp
/-- The gradient of the pooled columns. -/
theorem v293_val (y : S2048x4x64.Idx) : val_main_v293 (F := Ideal) x2 x3 x7 y = (dpl I (y 0).val (64 * (y 1).val + (y 2).val) : EReal) := by
  have e : val_main_v292 (F := Ideal) x2 x3 x7 y = ((ahead (wid (64 * (y 1).val + (y 2).val)) (share I (y 1).val (y 2).val) (y 0).val : ℝ) : EReal) := by
    unfold val_main_v292
    refine (window_up (fun r g c => pass (wid (64 * g + c)) (share I g c) r) _ (v291_val A) _ (fun i => by rw [val_main_call2_call0_v0_apply]; exact bits_zero) _ _ y).trans ?_
    exact congrArg Real.toEReal (ahead_diff _ (share I (y 1).val (y 2).val) _ (y 0).isLt)
  rw [val_main_v293_apply, val_main_v240_apply, v237_val A, e, Ideal.hostNegf_def, Ideal.negf_def, ← EReal.coe_neg, Ideal.addf_def, ← EReal.coe_add]
  exact congrArg Real.toEReal (neg_add_eq_sub _ _)
theorem v294_val (y : S2048x256.Idx) : val_main_v294 (F := Ideal) x2 x3 x7 y = (dpl I (y 0).val (y 1).val : EReal) := by
  have h1 : (y 1).val < 256 := (y 1).isLt
  have e : ∀ r k a g c : ℕ, a = r → g = k / 64 → c = k % 64 → dpl I a (64 * g + c) = dpl I r k := by
    intro r k a g c ha hg hc
    rw [ha, hg, hc, p8]
  rw [val_main_v294_apply, v293_val A]
  exact congrArg Real.toEReal (e _ _ _ _ _ (p5 _ _ h1) (p6 _ _ h1) (p7 _ _ h1))

end Cert.Mx.Ref

end
-- ==== Proof.Mx.RefConv.lean ====
module

public import proofs.«01_k».proof.Proof.Mx.RefGate
public import proofs.«01_k».proof.Proof.Mx.RefSums
public import proofs.«01_k».proof.Proof.Gen.ReferenceMxIdeal.Read

@[expose] public section

set_option maxRecDepth 16384

noncomputable section

namespace Cert.Mx.Ref

open Cert.ReferenceMxIdeal Cert.ReferenceMxIdeal.Gen Cert.ReferenceMxIdeal.Read
open Idealize.ShloMosaic Idealize.ShloMosaic.TcCoe Idealize.ShloMosaic.Tactic
open Cert.Mx.Spec

/-! # What the reference computes of the short convolution and its gates -/

theorem z_of (v : EReal) (h : v = ((0 : ℝ) : EReal)) : v = 0 := h

variable {I : Inp} {x0 x1 x2 x3 x4 x5 x6 x7} (A : Reads I x0 x1 x2 x3 x4 x5 x6 x7)
include A

theorem v6_val (y : S2048x384.Idx) : val_main_v6 (F := Ideal) x0 y = (I.P (y 0).val (y 1).val : EReal) := by
  rw [val_main_v6_apply, A.hp]
theorem v7_val (y : S2048x384.Idx) : val_main_v7 (F := Ideal) x0 y = (I.P (y 0).val (384 + (y 1).val) : EReal) := by
  rw [val_main_v7_apply, A.hp]
theorem v8_val (y : S2048x384.Idx) : val_main_v8 (F := Ideal) x0 y = (I.P (y 0).val (768 + (y 1).val) : EReal) := by
  rw [val_main_v8_apply, A.hp]
theorem v168_val (y : S2048x384.Idx) : val_main_v168 (F := Ideal) x7 y = (I.D (y 0).val (y 1).val : EReal) := by
  rw [val_main_v168_apply, A.h7]
theorem v11_val (y : S2048x384.Idx) : val_main_v11 (F := Ideal) x0 y = (zz I (y 0).val (y 1).val : EReal) := by
  rw [val_main_v11_apply, v8_val A, v6_val A, Ideal.mulf_def, ← EReal.coe_mul]
  rfl
theorem v13_val (y : S2050x384.Idx) : val_main_v13 (F := Ideal) x0 y = if 2 ≤ (y 0).val then (zz I ((y 0).val - 2) (y 1).val : EReal) else 0 := by
  unfold val_main_v13
  exact zeros_over (fun r k => (zz I r k : EReal)) _ (v11_val A) _ (fun y => by rw [val_main_v12_apply]; exact bits_zero) _ rfl y
omit A in
theorem zb_eq (w j r k : ℕ) (hw : j + w = 2) : (if 2 ≤ j + r then (zz I (j + r - 2) k : EReal) else 0) = (zb I w r k : EReal) := by
  unfold zb
  by_cases h : w ≤ r
  · rw [if_pos h, if_pos (by omega), show j + r - 2 = r - w by omega]
  · rw [if_neg h, if_neg (by omega)]
    rfl
theorem v17_val (y : S2048x384.Idx) : val_main_v17 (F := Ideal) x0 y = (zb I 2 (y 0).val (y 1).val : EReal) := by
  rw [val_main_v17_apply, v13_val A, ← zb_eq 2 0 _ _ rfl, Nat.zero_add]
theorem v23_val (y : S2048x384.Idx) : val_main_v23 (F := Ideal) x0 y = (zb I 1 (y 0).val (y 1).val : EReal) := by
  rw [val_main_v23_apply, v13_val A, ← zb_eq 1 1 _ _ rfl]
theorem v30_val (y : S2048x384.Idx) : val_main_v30 (F := Ideal) x0 y = (zb I 0 (y 0).val (y 1).val : EReal) := by
  rw [val_main_v30_apply, v13_val A, ← zb_eq 0 2 _ _ rfl]
theorem v0_val (y : S3x384.Idx) : val_main_v0 (F := Ideal) x1 y = I.WC (y 0).val (y 1).val := by
  have h0 : (y 0).val < 3 := (y 0).isLt
  have h1 : (y 1).val < 384 := (y 1).isLt
  rw [val_main_v0_apply, A.h1]
  exact congrArg₂ I.WC (show ((y 0).val * 384 + (y 1).val) / 384 % 3 = (y 0).val by omega) (show ((y 0).val * 384 + (y 1).val) % 384 = (y 1).val by omega)
theorem v18_val (y : S1x384.Idx) : val_main_v18 (F := Ideal) x1 y = I.WC 0 (y 1).val := by
  have h1 : (y 1).val < 384 := (y 1).isLt
  rw [val_main_v18_apply, val_main_v16_apply, val_main_v15_apply, v0_val A]
  exact congrArg (I.WC 0) (Nat.mod_eq_of_lt h1)
theorem v24_val (y : S1x384.Idx) : val_main_v24 (F := Ideal) x1 y = I.WC 1 (y 1).val := by
  have h1 : (y 1).val < 384 := (y 1).isLt
  rw [val_main_v24_apply, val_main_v22_apply, val_main_v21_apply, v0_val A]
  exact congrArg (I.WC 1) (Nat.mod_eq_of_lt h1)
theorem v31_val (y : S1x384.Idx) : val_main_v31 (F := Ideal) x1 y = I.WC 2 (y 1).val := by
  have h1 : (y 1).val < 384 := (y 1).isLt
  rw [val_main_v31_apply, val_main_v29_apply, val_main_v28_apply, v0_val A]
  exact congrArg (I.WC 2) (Nat.mod_eq_of_lt h1)
theorem v34_val (y : S2048x384.Idx) : val_main_v34 (F := Ideal) x0 x1 y = yc I (y 0).val (y 1).val := by
  rw [val_main_v34_apply, val_main_v27_apply, val_main_v20_apply, val_main_v26_apply, val_main_v33_apply, val_main_v19_apply, val_main_v25_apply,
    val_main_v32_apply, v18_val A, v24_val A, v31_val A, v17_val A, v23_val A, v30_val A]
  simp only [Ideal.mulf_def, Ideal.addf_def]
  rfl
theorem v295_val (y : S2048x384.Idx) : val_main_v295 (F := Ideal) x0 x7 y = (dy I (y 0).val (y 1).val : EReal) := by
  rw [val_main_v295_apply, v7_val A, v168_val A, Ideal.mulf_def, ← EReal.coe_mul, mul_comm]
  rfl
/-- The gradient of the gate on the output. -/
theorem v296_val (y : S2048x384.Idx) : val_main_v296 (F := Ideal) x0 x1 x7 y = dgb I (y 0).val (y 1).val := by
  rw [val_main_v296_apply, v168_val A, v34_val A, Ideal.mulf_def]
  rfl
theorem v298_val (y : S2048x384.Idx) : val_main_v298 (F := Ideal) x0 x1 x7 y = I.WC 2 (y 1).val * (dy I (y 0).val (y 1).val : EReal) := by
  rw [val_main_v298_apply, val_main_v297_apply, v31_val A, v295_val A, Ideal.mulf_def]
theorem v307_val (y : S2048x384.Idx) : val_main_v307 (F := Ideal) x0 x1 x7 y = I.WC 1 (y 1).val * (dy I (y 0).val (y 1).val : EReal) := by
  rw [val_main_v307_apply, val_main_v306_apply, v24_val A, v295_val A, Ideal.mulf_def]
theorem v318_val (y : S2048x384.Idx) : val_main_v318 (F := Ideal) x0 x1 x7 y = I.WC 0 (y 1).val * (dy I (y 0).val (y 1).val : EReal) := by
  rw [val_main_v318_apply, val_main_v317_apply, v18_val A, v295_val A, Ideal.mulf_def]
theorem v302_val (y : S384.Idx) : val_main_v302 (F := Ideal) x0 x7 y = (dwc I 2 (y 0).val : EReal) := by
  rw [val_main_v302_apply, show val_main_cst_57 (F := Ideal) _ = ((0 : ℝ) : EReal) from bits_zero]
  refine zsum11 _ _ fun k => ?_
  have hk : k.val = 0 := by have := k.isLt; omega
  rw [val_main_v301_apply, val_main_v300_apply, show val_main_cst_56 (F := Ideal) _ = ((0 : ℝ) : EReal) from bits_zero]
  refine (zsum1 2048 _ (fun r => dy I r (y 0).val * zb I 0 r (y 0).val) fun a => ?_).trans rfl
  rw [val_main_v299_apply, v295_val A, v30_val A, Ideal.mulf_def, ← EReal.coe_mul]
  exact congrArg Real.toEReal (congrArg (fun n => dy I a.val n * zb I 0 a.val n) (show k.val * 384 + (y 0).val = (y 0).val by omega))
theorem v311_val (y : S384.Idx) : val_main_v311 (F := Ideal) x0 x7 y = (dwc I 1 (y 0).val : EReal) := by
  rw [val_main_v311_apply, show val_main_cst_61 (F := Ideal) _ = ((0 : ℝ) : EReal) from bits_zero]
  refine zsum11 _ _ fun k => ?_
  have hk : k.val = 0 := by have := k.isLt; omega
  rw [val_main_v310_apply, val_main_v309_apply, show val_main_cst_60 (F := Ideal) _ = ((0 : ℝ) : EReal) from bits_zero]
  refine (zsum1 2048 _ (fun r => dy I r (y 0).val * zb I 1 r (y 0).val) fun a => ?_).trans rfl
  rw [val_main_v308_apply, v295_val A, v23_val A, Ideal.mulf_def, ← EReal.coe_mul]
  exact congrArg Real.toEReal (congrArg (fun n => dy I a.val n * zb I 1 a.val n) (show k.val * 384 + (y 0).val = (y 0).val by omega))
theorem v322_val (y : S384.Idx) : val_main_v322 (F := Ideal) x0 x7 y = (dwc I 0 (y 0).val : EReal) := by
  rw [val_main_v322_apply, show val_main_cst_65 (F := Ideal) _ = ((0 : ℝ) : EReal) from bits_zero]
  refine zsum11 _ _ fun k => ?_
  have hk : k.val = 0 := by have := k.isLt; omega
  rw [val_main_v321_apply, val_main_v320_apply, show val_main_cst_64 (F := Ideal) _ = ((0 : ℝ) : EReal) from bits_zero]
  refine (zsum1 2048 _ (fun r => dy I r (y 0).val * zb I 2 r (y 0).val) fun a => ?_).trans rfl
  rw [val_main_v319_apply, v295_val A, v17_val A, Ideal.mulf_def, ← EReal.coe_mul]
  exact congrArg Real.toEReal (congrArg (fun n => dy I a.val n * zb I 2 a.val n) (show k.val * 384 + (y 0).val = (y 0).val by omega))
/-- The gradient of the taps: each tap's row is put in its place by a pad with zeros. -/
theorem v327_val (y : S3x384.Idx) : val_main_v327 (F := Ideal) x0 x7 y = (dwc I (y 0).val (y 1).val : EReal) := by
  have h0 : (y 0).val < 3 := (y 0).isLt
  have h1 : (y 1).val < 384 := (y 1).isLt
  have e2 : ∀ y, val_main_v305 (F := Ideal) x0 x7 y = _ := fun y => by
    unfold val_main_v305
    exact pad2 (fun _ k => (dwc I 2 k : EReal)) _ (fun y => by rw [val_main_v304_apply, v302_val A]) _ (fun _ => bits_zero) _ _ y
  have e1 : ∀ y, val_main_v315 (F := Ideal) x0 x7 y = _ := fun y => by
    unfold val_main_v315
    exact pad2 (fun _ k => (dwc I 1 k : EReal)) _ (fun y => by rw [val_main_v314_apply, v311_val A]) _ (fun _ => bits_zero) _ _ y
  have e0 : ∀ y, val_main_v326 (F := Ideal) x0 x7 y = _ := fun y => by
    unfold val_main_v326
    exact pad2 (fun _ k => (dwc I 0 k : EReal)) _ (fun y => by rw [val_main_v325_apply, v322_val A]) _ (fun _ => bits_zero) _ _ y
  rw [val_main_v327_apply, val_main_v316_apply, e2, e1, e0]
  simp only [Ideal.addf_def]
  rcases (show (y 0).val = 0 ∨ (y 0).val = 1 ∨ (y 0).val = 2 by omega) with h | h | h <;> rw [h] <;> simp [h1]
/-- What the three taps pass back to the gated columns. -/
theorem v329_val (y : S2048x384.Idx) : val_main_v329 (F := Ideal) x0 x1 x7 y = dz I (y 0).val (y 1).val := by
  have h0 : (y 0).val < 2048 := (y 0).isLt
  have h1 : (y 1).val < 384 := (y 1).isLt
  have e2 : ∀ y, val_main_v303 (F := Ideal) x0 x1 x7 y = _ := fun y => by
    unfold val_main_v303
    exact pad2 (fun r k => I.WC 2 k * (dy I r k : EReal)) _ (v298_val A) _ (fun _ => bits_zero) _ _ y
  have e1 : ∀ y, val_main_v312 (F := Ideal) x0 x1 x7 y = _ := fun y => by
    unfold val_main_v312
    exact pad2 (fun r k => I.WC 1 k * (dy I r k : EReal)) _ (v307_val A) _ (fun _ => bits_zero) _ _ y
  have e0 : ∀ y, val_main_v323 (F := Ideal) x0 x1 x7 y = _ := fun y => by
    unfold val_main_v323
    exact pad2 (fun r k => I.WC 0 k * (dy I r k : EReal)) _ (v318_val A) _ (fun _ => bits_zero) _ _ y
  rw [val_main_v329_apply, val_main_v324_apply, val_main_v313_apply, e2, e1, e0]
  simp only [Ideal.addf_def]
  unfold dz da
  refine congrArg₂ (· + ·) (congrArg₂ (· + ·) ?_ ?_) ?_
  · refine (if_pos ⟨⟨?_, ?_⟩, ?_, ?_⟩).trans ?_
    · show I.WC 2 ((y 1).val - 0) * (dy I (2 + (y 0).val - 2) ((y 1).val - 0) : EReal) = _
      rw [Nat.sub_zero, Nat.add_sub_cancel_left]
    · show 2 ≤ 2 + (y 0).val; omega
    · show 2 + (y 0).val - 2 < 2048; omega
    · show 0 ≤ (y 1).val; omega
    · show (y 1).val - 0 < 384; omega
  · by_cases h : (y 0).val + 1 < 2048
    · rw [if_pos h]
      refine (if_pos ⟨⟨?_, ?_⟩, ?_, ?_⟩).trans ?_
      · show I.WC 1 ((y 1).val - 0) * (dy I (2 + (y 0).val - 1) ((y 1).val - 0) : EReal) = _
        rw [Nat.sub_zero, show 2 + (y 0).val - 1 = (y 0).val + 1 by omega]
      · show 1 ≤ 2 + (y 0).val; omega
      · show 2 + (y 0).val - 1 < 2048; omega
      · show 0 ≤ (y 1).val; omega
      · show (y 1).val - 0 < 384; omega
    · rw [if_neg h, EReal.coe_zero, mul_zero]
      refine if_neg fun hc => h ?_
      have := hc.1.2
      change 2 + (y 0).val - 1 < 2048 at this
      omega
  · by_cases h : (y 0).val + 2 < 2048
    · rw [if_pos h]
      refine (if_pos ⟨⟨?_, ?_⟩, ?_, ?_⟩).trans ?_
      · show I.WC 0 ((y 1).val - 0) * (dy I (2 + (y 0).val - 0) ((y 1).val - 0) : EReal) = _
        rw [Nat.sub_zero, show 2 + (y 0).val - 0 = (y 0).val + 2 by omega]
      · show 0 ≤ 2 + (y 0).val; omega
      · show 2 + (y 0).val - 0 < 2048; omega
      · show 0 ≤ (y 1).val; omega
      · show (y 1).val - 0 < 384; omega
    · rw [if_neg h, EReal.coe_zero, mul_zero]
      refine if_neg fun hc => h ?_
      have := hc.1.2
      change 2 + (y 0).val - 0 < 2048 at this
      omega
theorem v330_val (y : S2048x384.Idx) : val_main_v330 (F := Ideal) x0 x1 x7 y = dxa I (y 0).val (y 1).val := by
  rw [val_main_v330_apply, v329_val A, v8_val A, Ideal.mulf_def, mul_comm]
  rfl
theorem v331_val (y : S2048x384.Idx) : val_main_v331 (F := Ideal) x0 x1 x7 y = dgc I (y 0).val (y 1).val := by
  rw [val_main_v331_apply, v329_val A, v6_val A, Ideal.mulf_def]
  rfl

end Cert.Mx.Ref

end
-- ==== Proof.Mx.RefOut.lean ====
module

public import proofs.«01_k».proof.Proof.Mx.RefNorm
public import proofs.«01_k».proof.Proof.Mx.RefPool
public import proofs.«01_k».proof.Proof.Mx.RefConv
public import proofs.«01_k».proof.Proof.Gen.ReferenceMxIdeal.Read

@[expose] public section

set_option maxRecDepth 16384

noncomputable section

namespace Cert.Mx.Ref

open Cert.ReferenceMxIdeal Cert.ReferenceMxIdeal.Gen Cert.ReferenceMxIdeal.Read
open Idealize.ShloMosaic Idealize.ShloMosaic.TcCoe Idealize.ShloMosaic.Tactic
open Cert.Mx.Spec

/-! # The reference's gradient of the projections: the pieces put side by side -/

/-- The gradient of the projections, by columns. -/
def dproj (I : Inp) (r k : ℕ) : EReal :=
  if k < 384 then dxa I r k else if k < 768 then dgb I r (k - 384) else if k < 1152 then dgc I r (k - 768)
  else if k < 1408 then (dpl I r (k - 1152) : EReal) else if k < 1792 then (dup I r (k - 1408) : EReal) else (dvp I r (k - 1792) : EReal)

/-- The columns `l` to `l + m`, and nothing beside them. -/
def box (l m k : ℕ) (v : EReal) : EReal := if l ≤ k ∧ k - l < m then v else 0
theorem box_in {l m k : ℕ} (v : EReal) (h : l ≤ k ∧ k - l < m) : box l m k v = v := if_pos h
theorem box_out {l m k : ℕ} (v : EReal) (h : ¬(l ≤ k ∧ k - l < m)) : box l m k v = 0 := if_neg h
theorem sides (k : ℕ) (hk : k < 2176) (n p g b a : EReal) :
    box 1408 768 k n + box 1152 256 k p + box 768 384 k g + box 384 384 k b + box 0 384 k a
      = if k < 384 then a else if k < 768 then b else if k < 1152 then g else if k < 1408 then p else n := by
  rcases (show k < 384 ∨ (384 ≤ k ∧ k < 768) ∨ (768 ≤ k ∧ k < 1152) ∨ (1152 ≤ k ∧ k < 1408) ∨ 1408 ≤ k by omega) with h | h | h | h | h
  · rw [box_out n (by omega), box_out p (by omega), box_out g (by omega), box_out b (by omega), box_in a (by omega), if_pos h]
    simp
  · rw [box_out n (by omega), box_out p (by omega), box_out g (by omega), box_in b (by omega), box_out a (by omega), if_neg (by omega), if_pos h.2]
    simp
  · rw [box_out n (by omega), box_out p (by omega), box_in g (by omega), box_out b (by omega), box_out a (by omega), if_neg (by omega), if_neg (by omega), if_pos h.2]
    simp
  · rw [box_out n (by omega), box_in p (by omega), box_out g (by omega), box_out b (by omega), box_out a (by omega), if_neg (by omega), if_neg (by omega), if_neg (by omega),
      if_pos h.2]
    simp
  · rw [box_in n (by omega), box_out p (by omega), box_out g (by omega), box_out b (by omega), box_out a (by omega), if_neg (by omega), if_neg (by omega), if_neg (by omega),
      if_neg (by omega)]
    simp

/-- A pad of columns alone. -/
theorem cols {m l0 l1 r k : ℕ} (f : ℕ → ℕ → EReal) (hr : r < 2048) (h0 : l0 = 0) :
    (if (l0 ≤ r ∧ r - l0 < 2048) ∧ (l1 ≤ k ∧ k - l1 < m) then f (r - l0) (k - l1) else 0) = box l1 m k (f r (k - l1)) := by
  subst h0
  by_cases h : l1 ≤ k ∧ k - l1 < m
  · rw [box_in _ h, if_pos ⟨⟨by omega, by omega⟩, h⟩, Nat.sub_zero]
  · rw [box_out _ h, if_neg fun c => h c.2]

variable {I : Inp} {x0 x1 x2 x3 x4 x5 x6 x7} (A : Reads I x0 x1 x2 x3 x4 x5 x6 x7)
include A

theorem v332_val (y : S2048x2176.Idx) : val_main_v332 (F := Ideal) x0 x4 x5 x6 x7 y
    = box 1408 768 (y 1).val ((((if (y 1).val - 1408 < 384 then dup I (y 0).val ((y 1).val - 1408) else dvp I (y 0).val ((y 1).val - 1408 - 384)) : ℝ) : EReal)) := by
  unfold val_main_v332
  refine (pad2 (fun r k => (((if k < 384 then dup I r k else dvp I r (k - 384)) : ℝ) : EReal)) _ (v227_val A) _ (fun _ => bits_zero) _ _ y).trans ?_
  exact cols (fun r k => (((if k < 384 then dup I r k else dvp I r (k - 384)) : ℝ) : EReal)) (y 0).isLt rfl
theorem v333_val (y : S2048x2176.Idx) : val_main_v333 (F := Ideal) x2 x3 x7 y = box 1152 256 (y 1).val ((dpl I (y 0).val ((y 1).val - 1152) : EReal)) := by
  unfold val_main_v333
  refine (pad2 (fun r k => (dpl I r k : EReal)) _ (v294_val A) _ (fun _ => bits_zero) _ _ y).trans ?_
  exact cols (fun r k => (dpl I r k : EReal)) (y 0).isLt rfl
theorem v335_val (y : S2048x2176.Idx) : val_main_v335 (F := Ideal) x0 x1 x7 y = box 768 384 (y 1).val (dgc I (y 0).val ((y 1).val - 768)) := by
  unfold val_main_v335
  refine (pad2 (fun r k => dgc I r k) _ (v331_val A) _ (fun _ => bits_zero) _ _ y).trans ?_
  exact cols (fun r k => dgc I r k) (y 0).isLt rfl
theorem v337_val (y : S2048x2176.Idx) : val_main_v337 (F := Ideal) x0 x1 x7 y = box 384 384 (y 1).val (dgb I (y 0).val ((y 1).val - 384)) := by
  unfold val_main_v337
  refine (pad2 (fun r k => dgb I r k) _ (v296_val A) _ (fun _ => bits_zero) _ _ y).trans ?_
  exact cols (fun r k => dgb I r k) (y 0).isLt rfl
theorem v339_val (y : S2048x2176.Idx) : val_main_v339 (F := Ideal) x0 x1 x7 y = box 0 384 (y 1).val (dxa I (y 0).val ((y 1).val - 0)) := by
  unfold val_main_v339
  refine (pad2 (fun r k => dxa I r k) _ (v330_val A) _ (fun _ => bits_zero) _ _ y).trans ?_
  exact cols (fun r k => dxa I r k) (y 0).isLt rfl
theorem v340_val (y : S2048x2176.Idx) : val_main_v340 (F := Ideal) x0 x1 x2 x3 x4 x5 x6 x7 y = dproj I (y 0).val (y 1).val := by
  have h0 : (y 0).val < 2048 := (y 0).isLt
  have h1 : (y 1).val < 2176 := (y 1).isLt
  rw [val_main_v340_apply, val_main_v338_apply, val_main_v336_apply, val_main_v334_apply, v332_val A, v333_val A, v335_val A, v337_val A, v339_val A]
  simp only [Ideal.addf_def]
  refine (sides _ h1 _ _ _ _ _).trans ?_
  unfold dproj
  refine if_congr Iff.rfl rfl (if_congr Iff.rfl rfl (if_congr Iff.rfl rfl (if_congr Iff.rfl rfl ?_)))
  by_cases h : (y 1).val < 1792
  · rw [if_pos h, if_pos (by omega)]
  · rw [if_neg h, if_neg (by omega), show (y 1).val - 1408 - 384 = (y 1).val - 1792 by omega]

end Cert.Mx.Ref

end
-- ==== Proof.Mx.Body.lean ====
module

public import proofs.«01_k».proof.Proof.Mx.Data

@[expose] public section

set_option maxRecDepth 16384

noncomputable section

namespace Cert.Mx

open Cert.KernelMxIdeal Cert.KernelMxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-! # The body at every grid point

What the body leaves, point by point, is what `dats` says. -/

/-! ## The scratch buffers -/

theorem pnt_of (t : Fin cfg0.N) (n : ℕ) (h : n = t.val) : pnt n = t :=
  Fin.ext (by have : cfg0.N = 17 := N_0; have := t.isLt; show n % 17 = t.val; omega)

/-- A convolution point adds its two blocks to those kept. -/
theorem keep1_conv (t : Fin cfg0.N) (ht : t.val < 3) (k1 : Vec F S6x2048x128 .bf16)
    (hk : ∀ y : S6x2048x128.Idx, (y 0).val % 3 < t.val → k1 y = keep1 m c y) :
    ∀ y : S6x2048x128.Idx, (y 0).val % 3 < t.val + 1 →
      VecWindow.put (VecWindow.put k1 (k0_off1 (grid0.coords t)) S1x2048x128.size (convKeep1 (in0 m c t) (in2 m c t) (in3 m c t) (in4 m c t)))
        (k0_off2 (grid0.coords t)) S1x2048x128.size (convKeep2 (in0 m c t) (in1 m c t) (in3 m c t) (in4 m c t)) y = keep1 m c y := by
  intro y hy
  have h0 : (y 0).val < 6 := (y 0).isLt
  rw [off1_eq t ht, off2_eq t ht, put_block6, put_block6]
  by_cases h2 : (y 0).val = t.val + 3
  · rw [if_pos h2]
    unfold keep1
    rw [if_neg (by omega), pnt_of t _ (by omega)]
  · rw [if_neg h2]
    by_cases h1 : (y 0).val = t.val
    · rw [if_pos h1]
      unfold keep1
      rw [if_pos (by omega), pnt_of t _ h1]
    · rw [if_neg h1]
      exact hk y (by omega)

/-- Block `k` of the six kept, read where all are kept. -/
theorem emit1_eq (t : Fin cfg0.N) (h3 : 3 ≤ t.val) (h9 : t.val < 9) (hc : k0_cond2 (grid0.coords t) = 1#1) (k1 : Vec F S6x2048x128 .bf16)
    (hk : ∀ y : S6x2048x128.Idx, (y 0).val % 3 < t.val → k1 y = keep1 m c y) :
    emit1 (grid0.coords t) hc k1 = k0_pay2 (row6 (t.val - 3) (keep1 m c)) := by
  unfold emit1
  refine congrArg k0_pay2 (funext fun y => ?_)
  have hz : (y 0).val < 1 := (y 0).isLt
  have e : (Rect.unit (s := S6x2048x128) (k0_off3 (grid0.coords t)) S1x2048x128.size (k0_off3_inb (grid0.coords t) hc)).emb y
      = ix3 (⟨(t.val - 3) % 6, Nat.mod_lt _ (by decide)⟩ : Fin 6) (⟨(y 1).val, (y 1).isLt⟩ : Fin 2048) (⟨(y 2).val, (y 2).isLt⟩ : Fin 128) := by
    funext a
    refine Fin.ext ?_
    have e' : ((Rect.unit (s := S6x2048x128) (k0_off3 (grid0.coords t)) S1x2048x128.size (k0_off3_inb (grid0.coords t) hc)).emb y a).val
      = k0_off3 (grid0.coords t) a + 1 * (y a).val := rfl
    refine (e'.trans (congrArg (· + 1 * (y a).val) (congrFun (off3_eq t h3 h9) a))).trans ?_
    fin_cases a
    · show (t.val - 3) + 1 * (y 0).val = (t.val - 3) % 6
      omega
    · show 0 + 1 * (y 1).val = (y 1).val
      omega
    · show 0 + 1 * (y 2).val = (y 2).val
      omega
  show k1 _ = keep1 m c _
  rw [e]
  exact hk _ (by show (t.val - 3) % 6 % 3 < t.val; omega)

/-- Block `k` of the three kept, read where all are kept. -/
theorem emit2_eq (t : Fin cfg0.N) (h14 : 14 ≤ t.val) (hc : k0_cond5 (grid0.coords t) = 1#1) (k2 : Vec F S3x2048x128 .bf16)
    (hk : ∀ y : S3x2048x128.Idx, (y 0).val + 11 < t.val → k2 y = keep2 m c y) :
    emit2 (grid0.coords t) hc k2 = k0_pay6 (row3 (t.val - 14) (keep2 m c)) := by
  unfold emit2
  refine congrArg k0_pay6 (funext fun y => ?_)
  have hz : (y 0).val < 1 := (y 0).isLt
  have hN : cfg0.N = 17 := N_0
  have htl := t.isLt
  have e : (Rect.unit (s := S3x2048x128) (k0_off6 (grid0.coords t)) S1x2048x128.size (k0_off6_inb (grid0.coords t) hc)).emb y
      = ix3 (⟨(t.val - 14) % 3, Nat.mod_lt _ (by decide)⟩ : Fin 3) (⟨(y 1).val, (y 1).isLt⟩ : Fin 2048) (⟨(y 2).val, (y 2).isLt⟩ : Fin 128) := by
    funext a
    refine Fin.ext ?_
    have e' : ((Rect.unit (s := S3x2048x128) (k0_off6 (grid0.coords t)) S1x2048x128.size (k0_off6_inb (grid0.coords t) hc)).emb y a).val
      = k0_off6 (grid0.coords t) a + 1 * (y a).val := rfl
    refine (e'.trans (congrArg (· + 1 * (y a).val) (congrFun (off6_eq t h14) a))).trans ?_
    fin_cases a
    · show (t.val - 14) + 1 * (y 0).val = (t.val - 14) % 3
      omega
    · show 0 + 1 * (y 1).val = (y 1).val
      omega
    · show 0 + 1 * (y 2).val = (y 2).val
      omega
  show k2 _ = keep2 m c _
  rw [e]
  exact hk _ (by show (t.val - 14) % 3 + 11 < t.val; omega)

/-- What the loop of a gated point leaves. -/
theorem gated_eq (t : Fin cfg0.N) (ht : 11 ≤ t.val) (ht' : t.val < 14) (h4 : k0_cond4 (grid0.coords t) = 1#1) (d10 : Vec F S2048x128 .bf16)
    (k2 : Vec F S3x2048x128 .bf16) (hk : ∀ y : S3x2048x128.Idx, (y 0).val + 11 < t.val → k2 y = keep2 m c y) :
    (gatedCarry (grid0.coords t) h4 (in0 m c t) (in1 m c t) (in3 m c t) (in7 m c t) (in8 m c t) (in9 m c t) d10 k2).out = out10 m c t
    ∧ (gatedCarry (grid0.coords t) h4 (in0 m c t) (in1 m c t) (in3 m c t) (in7 m c t) (in8 m c t) (in9 m c t) d10 k2).gain = out14 m c t
    ∧ k0_pay4 k0_pay60 (gatedCarry (grid0.coords t) h4 (in0 m c t) (in1 m c t) (in3 m c t) (in7 m c t) (in8 m c t) (in9 m c t) d10 k2).mat = out15 m c t
    ∧ k0_pay5 k0_pay59 (gatedCarry (grid0.coords t) h4 (in0 m c t) (in1 m c t) (in3 m c t) (in7 m c t) (in8 m c t) (in9 m c t) d10 k2).bias = out16 m c t
    ∧ ∀ y : S3x2048x128.Idx, (y 0).val + 11 < t.val + 1 →
      (gatedCarry (grid0.coords t) h4 (in0 m c t) (in1 m c t) (in3 m c t) (in7 m c t) (in8 m c t) (in9 m c t) d10 k2).kept y = keep2 m c y := by
  have hp : gatePt t = t := pnt_of t _ (by omega)
  unfold gatedCarry
  rw [trips_eq]
  obtain ⟨hg, hm, hb⟩ := carry_sums (in0 m c t) (in1 m c t) (in3 m c t) (in7 m c t) (in8 m c t) (in9 m c t) (grid0.coords t) h4 d10 k2 16 (le_refl _)
  refine ⟨funext fun y => ?_, ?_, ?_, ?_, fun y hy => ?_⟩
  · have hy : (y 0).val < 2048 := (y 0).isLt
    rw [carry_out _ _ _ _ _ _ _ _ _ 16 (le_refl _) y, if_pos (by omega)]
    unfold out10
    rw [if_neg (by omega), if_neg (by omega), if_neg (by omega), if_pos ht']
  · rw [hg]; unfold out14; rw [hp]
  · rw [hm]; unfold out15; rw [hp]
  · rw [hb]; unfold out16; rw [hp]
  · have hy1 : (y 1).val < 2048 := (y 1).isLt
    rw [carry_kept _ _ _ _ _ _ t ht (by omega) _ _ 16 (le_refl _) y]
    by_cases h : (y 0).val = t.val - 11
    · rw [if_pos ⟨h, by omega⟩]
      unfold keep2
      rw [pnt_of t _ (by omega)]
    · rw [if_neg (fun hh => h hh.1)]
      exact hk y (by omega)

/-! ## The windows -/

theorem leaves_0 (t : Fin cfg0.N) : (dats m 0 c).leavesExact 0 t = owns (c : Thread nD τ) ((cfg0.win 0).stage (cfg0.slots t 0)) fullShare (in0 m c t) := by
  unfold Dat.leavesExact; rw [show cfg0.idle 0 (cfg0.grid.coords t) = false from rfl, after_0]; rfl
theorem leaves_1 (t : Fin cfg0.N) : (dats m 0 c).leavesExact 1 t = owns (c : Thread nD τ) ((cfg0.win 1).stage (cfg0.slots t 1)) fullShare (in1 m c t) := by
  unfold Dat.leavesExact; rw [show cfg0.idle 1 (cfg0.grid.coords t) = false from rfl, after_1]; rfl
theorem leaves_2 (t : Fin cfg0.N) : (dats m 0 c).leavesExact 2 t = owns (c : Thread nD τ) ((cfg0.win 2).stage (cfg0.slots t 2)) fullShare (in2 m c t) := by
  unfold Dat.leavesExact; rw [show cfg0.idle 2 (cfg0.grid.coords t) = false from rfl, after_2]; rfl
theorem leaves_3 (t : Fin cfg0.N) : (dats m 0 c).leavesExact 3 t = owns (c : Thread nD τ) ((cfg0.win 3).stage (cfg0.slots t 3)) fullShare (in3 m c t) := by
  unfold Dat.leavesExact; rw [show cfg0.idle 3 (cfg0.grid.coords t) = false from rfl, after_3]; rfl
theorem leaves_4 (t : Fin cfg0.N) : (dats m 0 c).leavesExact 4 t = owns (c : Thread nD τ) ((cfg0.win 4).stage (cfg0.slots t 4)) fullShare (in4 m c t) := by
  unfold Dat.leavesExact; rw [show cfg0.idle 4 (cfg0.grid.coords t) = false from rfl, after_4]; rfl
theorem leaves_5 (t : Fin cfg0.N) : (dats m 0 c).leavesExact 5 t = owns (c : Thread nD τ) ((cfg0.win 5).stage (cfg0.slots t 5)) fullShare (in5 m c t) := by
  unfold Dat.leavesExact; rw [show cfg0.idle 5 (cfg0.grid.coords t) = false from rfl, after_5]; rfl
theorem leaves_6 (t : Fin cfg0.N) : (dats m 0 c).leavesExact 6 t = owns (c : Thread nD τ) ((cfg0.win 6).stage (cfg0.slots t 6)) fullShare (in6 m c t) := by
  unfold Dat.leavesExact; rw [show cfg0.idle 6 (cfg0.grid.coords t) = false from rfl, after_6]; rfl
theorem leaves_7 (t : Fin cfg0.N) : (dats m 0 c).leavesExact 7 t = owns (c : Thread nD τ) ((cfg0.win 7).stage (cfg0.slots t 7)) fullShare (in7 m c t) := by
  unfold Dat.leavesExact; rw [show cfg0.idle 7 (cfg0.grid.coords t) = false from rfl, after_7]; rfl
theorem leaves_8 (t : Fin cfg0.N) : (dats m 0 c).leavesExact 8 t = owns (c : Thread nD τ) ((cfg0.win 8).stage (cfg0.slots t 8)) fullShare (in8 m c t) := by
  unfold Dat.leavesExact; rw [show cfg0.idle 8 (cfg0.grid.coords t) = false from rfl, after_8]; rfl
theorem leaves_9 (t : Fin cfg0.N) : (dats m 0 c).leavesExact 9 t = owns (c : Thread nD τ) ((cfg0.win 9).stage (cfg0.slots t 9)) fullShare (in9 m c t) := by
  unfold Dat.leavesExact; rw [show cfg0.idle 9 (cfg0.grid.coords t) = false from rfl, after_9]; rfl
theorem leaves_10 (t : Fin cfg0.N) : (dats m 0 c).leavesExact 10 t = owns (c : Thread nD τ) ((cfg0.win 10).stage (cfg0.slots t 10)) fullShare (out10 m c t) := by
  unfold Dat.leavesExact; rw [show cfg0.idle 10 (cfg0.grid.coords t) = false from (idle_of t).2.2.2.2.2.2, after_10]
theorem leaves_11 (t : Fin cfg0.N) (h : t.val < 3) : (dats m 0 c).leavesExact 11 t = owns (c : Thread nD τ) ((cfg0.win 11).stage (cfg0.slots t 11)) fullShare (out11 m c t) := by
  unfold Dat.leavesExact
  rw [show cfg0.idle 11 (cfg0.grid.coords t) = false from (idle_of t).1.trans (by rw [decide_eq_true h]; rfl), after_11]
theorem handed_11 (t : Fin cfg0.N) (h : ¬ (t.val < 3)) :
    iprop(∃ d, owns (c : Thread nD τ) ((cfg0.win 11).stage (cfg0.slots t 11)) fullShare ((dats m 0 c).before 11 t d)) ⊢ (dats m 0 c).leavesExact 11 t :=
  handed m c 11 rfl (fun _ _ => rfl)
    (fun t h0 hi => by
      rw [after_11, after_11]; unfold out11
      rw [tapPt_carry t h0 (by
        have hi' := (idle_of t).1.symm.trans hi
        intro hc; rw [decide_eq_true hc] at hi'; exact absurd hi' (by decide))])
    t ((idle_of t).1.trans (by rw [decide_eq_false h]; rfl))
    (fun hf => by
      have hf' := (flush_of t).1.symm.trans hf
      simp only [Bool.or_eq_true, decide_eq_true_eq] at hf'
      have h16 : t.val = 16 := by omega
      exact ⟨by omega, by rw [h16]; decide +kernel⟩)
theorem leaves_12 (t : Fin cfg0.N) (h : 9 ≤ t.val ∧ t.val < 11) : (dats m 0 c).leavesExact 12 t = owns (c : Thread nD τ) ((cfg0.win 12).stage (cfg0.slots t 12)) fullShare (out12 m c t) := by
  unfold Dat.leavesExact
  rw [show cfg0.idle 12 (cfg0.grid.coords t) = false from (idle_of t).2.1.trans (by rw [decide_eq_true h]; rfl), after_12]
theorem handed_12 (t : Fin cfg0.N) (h : ¬ (9 ≤ t.val ∧ t.val < 11)) :
    iprop(∃ d, owns (c : Thread nD τ) ((cfg0.win 12).stage (cfg0.slots t 12)) fullShare ((dats m 0 c).before 12 t d)) ⊢ (dats m 0 c).leavesExact 12 t :=
  handed m c 12 rfl (fun _ _ => rfl)
    (fun t h0 hi => by
      rw [after_12, after_12]; unfold out12
      rw [poolPt_carry t h0 (by
        have hi' := (idle_of t).2.1.symm.trans hi
        intro hc; rw [decide_eq_true hc] at hi'; exact absurd hi' (by decide))])
    t ((idle_of t).2.1.trans (by rw [decide_eq_false h]; rfl))
    (fun hf => by
      have hf' := (flush_of t).2.1.symm.trans hf
      simp only [Bool.or_eq_true, decide_eq_true_eq] at hf'
      have h16 : t.val = 16 := by omega
      exact ⟨by omega, by rw [h16]; decide +kernel⟩)
theorem leaves_13 (t : Fin cfg0.N) (h : 9 ≤ t.val ∧ t.val < 11) : (dats m 0 c).leavesExact 13 t = owns (c : Thread nD τ) ((cfg0.win 13).stage (cfg0.slots t 13)) fullShare (out13 m c t) := by
  unfold Dat.leavesExact
  rw [show cfg0.idle 13 (cfg0.grid.coords t) = false from (idle_of t).2.2.1.trans (by rw [decide_eq_true h]; rfl), after_13]
theorem handed_13 (t : Fin cfg0.N) (h : ¬ (9 ≤ t.val ∧ t.val < 11)) :
    iprop(∃ d, owns (c : Thread nD τ) ((cfg0.win 13).stage (cfg0.slots t 13)) fullShare ((dats m 0 c).before 13 t d)) ⊢ (dats m 0 c).leavesExact 13 t :=
  handed m c 13 rfl (fun _ _ => rfl)
    (fun t h0 hi => by
      rw [after_13, after_13]; unfold out13
      rw [poolPt_carry t h0 (by
        have hi' := (idle_of t).2.2.1.symm.trans hi
        intro hc; rw [decide_eq_true hc] at hi'; exact absurd hi' (by decide))])
    t ((idle_of t).2.2.1.trans (by rw [decide_eq_false h]; rfl))
    (fun hf => by
      have hf' := (flush_of t).2.2.1.symm.trans hf
      simp only [Bool.or_eq_true, decide_eq_true_eq] at hf'
      have h16 : t.val = 16 := by omega
      exact ⟨by omega, by rw [h16]; decide +kernel⟩)
theorem leaves_14 (t : Fin cfg0.N) (h : 11 ≤ t.val ∧ t.val < 14) : (dats m 0 c).leavesExact 14 t = owns (c : Thread nD τ) ((cfg0.win 14).stage (cfg0.slots t 14)) fullShare (out14 m c t) := by
  unfold Dat.leavesExact
  rw [show cfg0.idle 14 (cfg0.grid.coords t) = false from (idle_of t).2.2.2.1.trans (by rw [decide_eq_true h]; rfl), after_14]
theorem handed_14 (t : Fin cfg0.N) (h : ¬ (11 ≤ t.val ∧ t.val < 14)) :
    iprop(∃ d, owns (c : Thread nD τ) ((cfg0.win 14).stage (cfg0.slots t 14)) fullShare ((dats m 0 c).before 14 t d)) ⊢ (dats m 0 c).leavesExact 14 t :=
  handed m c 14 rfl (fun _ _ => rfl)
    (fun t h0 hi => by
      rw [after_14, after_14]; unfold out14
      rw [gatePt_carry t h0 (by
        have hi' := (idle_of t).2.2.2.1.symm.trans hi
        intro hc; rw [decide_eq_true hc] at hi'; exact absurd hi' (by decide))])
    t ((idle_of t).2.2.2.1.trans (by rw [decide_eq_false h]; rfl))
    (fun hf => by
      have hf' := (flush_of t).2.2.2.1.symm.trans hf
      simp only [Bool.or_eq_true, decide_eq_true_eq] at hf'
      have h16 : t.val = 16 := by omega
      exact ⟨by omega, by rw [h16]; decide +kernel⟩)
theorem leaves_15 (t : Fin cfg0.N) (h : 11 ≤ t.val ∧ t.val < 14) : (dats m 0 c).leavesExact 15 t = owns (c : Thread nD τ) ((cfg0.win 15).stage (cfg0.slots t 15)) fullShare (out15 m c t) := by
  unfold Dat.leavesExact
  rw [show cfg0.idle 15 (cfg0.grid.coords t) = false from (idle_of t).2.2.2.2.1.trans (by rw [decide_eq_true h]; rfl), after_15]
theorem handed_15 (t : Fin cfg0.N) (h : ¬ (11 ≤ t.val ∧ t.val < 14)) :
    iprop(∃ d, owns (c : Thread nD τ) ((cfg0.win 15).stage (cfg0.slots t 15)) fullShare ((dats m 0 c).before 15 t d)) ⊢ (dats m 0 c).leavesExact 15 t :=
  handed m c 15 rfl (fun _ _ => rfl)
    (fun t h0 hi => by
      rw [after_15, after_15]; unfold out15
      rw [gatePt_carry t h0 (by
        have hi' := (idle_of t).2.2.2.2.1.symm.trans hi
        intro hc; rw [decide_eq_true hc] at hi'; exact absurd hi' (by decide))])
    t ((idle_of t).2.2.2.2.1.trans (by rw [decide_eq_false h]; rfl))
    (fun hf => by
      have hf' := (flush_of t).2.2.2.2.1.symm.trans hf
      simp only [Bool.or_eq_true, decide_eq_true_eq] at hf'
      have h16 : t.val = 16 := by omega
      exact ⟨by omega, by rw [h16]; decide +kernel⟩)
theorem leaves_16 (t : Fin cfg0.N) (h : 11 ≤ t.val ∧ t.val < 14) : (dats m 0 c).leavesExact 16 t = owns (c : Thread nD τ) ((cfg0.win 16).stage (cfg0.slots t 16)) fullShare (out16 m c t) := by
  unfold Dat.leavesExact
  rw [show cfg0.idle 16 (cfg0.grid.coords t) = false from (idle_of t).2.2.2.2.2.1.trans (by rw [decide_eq_true h]; rfl), after_16]
theorem handed_16 (t : Fin cfg0.N) (h : ¬ (11 ≤ t.val ∧ t.val < 14)) :
    iprop(∃ d, owns (c : Thread nD τ) ((cfg0.win 16).stage (cfg0.slots t 16)) fullShare ((dats m 0 c).before 16 t d)) ⊢ (dats m 0 c).leavesExact 16 t :=
  handed m c 16 rfl (fun _ _ => rfl)
    (fun t h0 hi => by
      rw [after_16, after_16]; unfold out16
      rw [gatePt_carry t h0 (by
        have hi' := (idle_of t).2.2.2.2.2.1.symm.trans hi
        intro hc; rw [decide_eq_true hc] at hi'; exact absurd hi' (by decide))])
    t ((idle_of t).2.2.2.2.2.1.trans (by rw [decide_eq_false h]; rfl))
    (fun hf => by
      have hf' := (flush_of t).2.2.2.2.2.symm.trans hf
      simp only [Bool.or_eq_true, decide_eq_true_eq] at hf'
      have h16 : t.val = 16 := by omega
      exact ⟨by omega, by rw [h16]; decide +kernel⟩)

/-! ## The body -/

/-- What the body is given at a point. -/
def Given (t : Fin cfg0.N) : sProp 𝕄 :=
  iprop((dats m 0 c).Φ t.castSucc ∗ (dats m 0 c).owesAt () t.castSucc
    ∗ (∃ d, owns (c : Thread nD τ) ((cfg0.win 0).stage (cfg0.slots t 0)) fullShare ((dats m 0 c).before 0 t d)) ∗ (∃ d, owns (c : Thread nD τ) ((cfg0.win 1).stage (cfg0.slots t 1)) fullShare ((dats m 0 c).before 1 t d)) ∗ (∃ d, owns (c : Thread nD τ) ((cfg0.win 2).stage (cfg0.slots t 2)) fullShare ((dats m 0 c).before 2 t d)) ∗ (∃ d, owns (c : Thread nD τ) ((cfg0.win 3).stage (cfg0.slots t 3)) fullShare ((dats m 0 c).before 3 t d)) ∗ (∃ d, owns (c : Thread nD τ) ((cfg0.win 4).stage (cfg0.slots t 4)) fullShare ((dats m 0 c).before 4 t d)) ∗ (∃ d, owns (c : Thread nD τ) ((cfg0.win 5).stage (cfg0.slots t 5)) fullShare ((dats m 0 c).before 5 t d)) ∗ (∃ d, owns (c : Thread nD τ) ((cfg0.win 6).stage (cfg0.slots t 6)) fullShare ((dats m 0 c).before 6 t d)) ∗ (∃ d, owns (c : Thread nD τ) ((cfg0.win 7).stage (cfg0.slots t 7)) fullShare ((dats m 0 c).before 7 t d)) ∗ (∃ d, owns (c : Thread nD τ) ((cfg0.win 8).stage (cfg0.slots t 8)) fullShare ((dats m 0 c).before 8 t d)) ∗ (∃ d, owns (c : Thread nD τ) ((cfg0.win 9).stage (cfg0.slots t 9)) fullShare ((dats m 0 c).before 9 t d)) ∗ (∃ d, owns (c : Thread nD τ) ((cfg0.win 10).stage (cfg0.slots t 10)) fullShare ((dats m 0 c).before 10 t d)) ∗ (∃ d, owns (c : Thread nD τ) ((cfg0.win 11).stage (cfg0.slots t 11)) fullShare ((dats m 0 c).before 11 t d)) ∗ (∃ d, owns (c : Thread nD τ) ((cfg0.win 12).stage (cfg0.slots t 12)) fullShare ((dats m 0 c).before 12 t d)) ∗ (∃ d, owns (c : Thread nD τ) ((cfg0.win 13).stage (cfg0.slots t 13)) fullShare ((dats m 0 c).before 13 t d)) ∗ (∃ d, owns (c : Thread nD τ) ((cfg0.win 14).stage (cfg0.slots t 14)) fullShare ((dats m 0 c).before 14 t d)) ∗ (∃ d, owns (c : Thread nD τ) ((cfg0.win 15).stage (cfg0.slots t 15)) fullShare ((dats m 0 c).before 15 t d)) ∗ (∃ d, owns (c : Thread nD τ) ((cfg0.win 16).stage (cfg0.slots t 16)) fullShare ((dats m 0 c).before 16 t d)))
/-- What it hands back. -/
def Back (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t ∗ (dats m 0 c).leavesExact 14 t ∗ (dats m 0 c).leavesExact 15 t ∗ (dats m 0 c).leavesExact 16 t)

set_option maxHeartbeats 1000000 in
theorem body_conv (t : Fin cfg0.N) (h : t.val < 3) :
    Given m c t ⊢ wp frame (wpE (defs₀ (F := F)) Variants.none (c : Thread nD τ) none) Set.univ (bodyAt0 (F := F) t) (fun _ => Back m c t) := by
  have hN : cfg0.N = 17 := N_0
  have htl := t.isLt
  unfold Given Back bodyAt0
  simp only [before_0, before_1, before_2, before_3, before_4, before_5, before_6, before_7, before_8, before_9]
  rw [leaves_0 m c t, leaves_1 m c t, leaves_2 m c t, leaves_3 m c t, leaves_4 m c t, leaves_5 m c t, leaves_6 m c t, leaves_7 m c t, leaves_8 m c t, leaves_9 m c t, leaves_10 m c t, leaves_11 m c t (by omega)]
  rw [show (dats m 0 c).Φ t.castSucc = Inv m c t.val from rfl, show (dats m 0 c).Φ t.succ = Inv m c (t.val + 1) from rfl,
    show (dats m 0 c).owesAt () t.succ = (dats m 0 c).owesAt () t.castSucc from rfl]
  unfold Inv
  iintro ⟨⟨⟨%k1, %hk1, HS0⟩, ⟨%k2, %hk2, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, H12, H13, H14, H15, H16⟩
  iapply (conv_run c (grid0.coords t) _ _ _ _ _ _ _ _ _ _ _ _ _ _ _ _ _ _ _ _ _ _ _ _ _ _ _ _ _ _ _ _ _ _ _ _ _ _ ((cond_of t).1.mpr (by omega)) (fun hh => absurd ((cond_of t).2.1.mp hh) (by omega)) (fun hh => absurd ((cond_of t).2.2.1.mp hh) (by omega)) (fun hh => absurd ((cond_of t).2.2.2.1.mp hh) (by omega)) (fun hh => absurd ((cond_of t).2.2.2.2.mp hh) (by omega)) (in0 m c t) (in1 m c t) (in2 m c t) (in3 m c t) (in4 m c t) ((dats m 0 c).before 10 t d10) ((dats m 0 c).before 11 t d11) k1 Set.univ _)
  isplitl [H0]; · iexact H0
  isplitl [H1]; · iexact H1
  isplitl [H2]; · iexact H2
  isplitl [H3]; · iexact H3
  isplitl [H4]; · iexact H4
  isplitl [H10]; · iexact H10
  isplitl [H11]; · iexact H11
  isplitl [HS0]; · iexact HS0
  iintro ⟨H0, H1, H2, H3, H4, H10, H11, HS0⟩
  isplitl [HS0 HS1 Hg]
  · isplitl [HS0]
    · iexists _; isplitr; swap
      · iexact HS0
      · ipureintro
        exact keep1_conv m c t h k1 hk1
    isplitl [HS1]
    · iexists _; isplitr; swap
      · iexact HS1
      · ipureintro
        exact fun y hy => absurd hy (by omega)
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · rw [show out10 m c t = convOut (in1 m c t) (in2 m c t) (in3 m c t) (in4 m c t) from by unfold out10; rw [if_pos h]]
    iexact H10
  isplitl [H11]
  · rw [show out11 m c t = convTaps (in0 m c t) (in1 m c t) (in2 m c t) (in3 m c t) ((dats m 0 c).before 11 t d11) from by unfold out11; rw [convTaps_eq, show tapPt t = t from pnt_of t _ (by omega)]]
    iexact H11
  isplitl [H12]
  · iapply (handed_12 m c t (by omega)); iexact H12
  isplitl [H13]
  · iapply (handed_13 m c t (by omega)); iexact H13
  isplitl [H14]
  · iapply (handed_14 m c t (by omega)); iexact H14
  isplitl [H15]
  · iapply (handed_15 m c t (by omega)); iexact H15
  · iapply (handed_16 m c t (by omega)); iexact H16

set_option maxHeartbeats 1000000 in
theorem body_emit1 (t : Fin cfg0.N) (h : 3 ≤ t.val) (h' : t.val < 9) :
    Given m c t ⊢ wp frame (wpE (defs₀ (F := F)) Variants.none (c : Thread nD τ) none) Set.univ (bodyAt0 (F := F) t) (fun _ => Back m c t) := by
  have hN : cfg0.N = 17 := N_0
  have htl := t.isLt
  unfold Given Back bodyAt0
  simp only [before_0, before_1, before_2, before_3, before_4, before_5, before_6, before_7, before_8, before_9]
  rw [leaves_0 m c t, leaves_1 m c t, leaves_2 m c t, leaves_3 m c t, leaves_4 m c t, leaves_5 m c t, leaves_6 m c t, leaves_7 m c t, leaves_8 m c t, leaves_9 m c t, leaves_10 m c t]
  rw [show (dats m 0 c).Φ t.castSucc = Inv m c t.val from rfl, show (dats m 0 c).Φ t.succ = Inv m c (t.val + 1) from rfl,
    show (dats m 0 c).owesAt () t.succ = (dats m 0 c).owesAt () t.castSucc from rfl]
  unfold Inv
  iintro ⟨⟨⟨%k1, %hk1, HS0⟩, ⟨%k2, %hk2, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14, H15, H16⟩
  iapply (emit1_run c (grid0.coords t) _ _ _ _ _ _ _ _ _ _ _ _ _ _ _ _ _ _ _ _ _ _ _ _ _ _ _ _ _ _ _ _ _ _ _ _ _ _ (fun hh => absurd ((cond_of t).1.mp hh) (by omega)) ((cond_of t).2.1.mpr (by omega)) (fun hh => absurd ((cond_of t).2.2.1.mp hh) (by omega)) (fun hh => absurd ((cond_of t).2.2.2.1.mp hh) (by omega)) (fun hh => absurd ((cond_of t).2.2.2.2.mp hh) (by omega))  ((dats m 0 c).before 10 t d10) k1 Set.univ _)
  isplitl [H10]; · iexact H10
  isplitl [HS0]; · iexact HS0
  iintro ⟨H10, HS0⟩
  isplitl [HS0 HS1 Hg]
  · isplitl [HS0]
    · iexists _; isplitr; swap
      · iexact HS0
      · ipureintro
        exact fun y hy => hk1 y (by omega)
    isplitl [HS1]
    · iexists _; isplitr; swap
      · iexact HS1
      · ipureintro
        exact fun y hy => absurd hy (by omega)
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · rw [show out10 m c t = emit1 (grid0.coords t) ((cond_of t).2.1.mpr (by omega)) k1 from by rw [emit1_eq m c t h h' _ k1 hk1]; unfold out10; rw [if_neg (by omega), if_pos h']]
    iexact H10
  isplitl [H11]
  · iapply (handed_11 m c t (by omega)); iexact H11
  isplitl [H12]
  · iapply (handed_12 m c t (by omega)); iexact H12
  isplitl [H13]
  · iapply (handed_13 m c t (by omega)); iexact H13
  isplitl [H14]
  · iapply (handed_14 m c t (by omega)); iexact H14
  isplitl [H15]
  · iapply (handed_15 m c t (by omega)); iexact H15
  · iapply (handed_16 m c t (by omega)); iexact H16

set_option maxHeartbeats 1000000 in
theorem body_pool (t : Fin cfg0.N) (h : 9 ≤ t.val) (h' : t.val < 11) :
    Given m c t ⊢ wp frame (wpE (defs₀ (F := F)) Variants.none (c : Thread nD τ) none) Set.univ (bodyAt0 (F := F) t) (fun _ => Back m c t) := by
  have hN : cfg0.N = 17 := N_0
  have htl := t.isLt
  unfold Given Back bodyAt0
  simp only [before_0, before_1, before_2, before_3, before_4, before_5, before_6, before_7, before_8, before_9]
  rw [leaves_0 m c t, leaves_1 m c t, leaves_2 m c t, leaves_3 m c t, leaves_4 m c t, leaves_5 m c t, leaves_6 m c t, leaves_7 m c t, leaves_8 m c t, leaves_9 m c t, leaves_10 m c t, leaves_12 m c t (by omega), leaves_13 m c t (by omega)]
  rw [show (dats m 0 c).Φ t.castSucc = Inv m c t.val from rfl, show (dats m 0 c).Φ t.succ = Inv m c (t.val + 1) from rfl,
    show (dats m 0 c).owesAt () t.succ = (dats m 0 c).owesAt () t.castSucc from rfl]
  unfold Inv
  iintro ⟨⟨⟨%k1, %hk1, HS0⟩, ⟨%k2, %hk2, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, ⟨%d12, H12⟩, ⟨%d13, H13⟩, H14, H15, H16⟩
  iapply (pool_run c (grid0.coords t) _ _ _ _ _ _ _ _ _ _ _ _ _ _ _ _ _ _ _ _ _ _ _ _ _ _ _ _ _ _ _ _ _ _ _ _ _ _ (fun hh => absurd ((cond_of t).1.mp hh) (by omega)) (fun hh => absurd ((cond_of t).2.1.mp hh) (by omega)) ((cond_of t).2.2.1.mpr (by omega)) (fun hh => absurd ((cond_of t).2.2.2.1.mp hh) (by omega)) (fun hh => absurd ((cond_of t).2.2.2.2.mp hh) (by omega)) (in0 m c t) (in3 m c t) (in5 m c t) (in6 m c t) ((dats m 0 c).before 10 t d10) ((dats m 0 c).before 12 t d12) ((dats m 0 c).before 13 t d13) Set.univ _)
  isplitl [H0]; · iexact H0
  isplitl [H3]; · iexact H3
  isplitl [H5]; · iexact H5
  isplitl [H6]; · iexact H6
  isplitl [H10]; · iexact H10
  isplitl [H12]; · iexact H12
  isplitl [H13]; · iexact H13
  iintro ⟨H0, H3, H5, H6, H10, H12, H13⟩
  isplitl [HS0 HS1 Hg]
  · isplitl [HS0]
    · iexists _; isplitr; swap
      · iexact HS0
      · ipureintro
        exact fun y hy => hk1 y (by omega)
    isplitl [HS1]
    · iexists _; isplitr; swap
      · iexact HS1
      · ipureintro
        exact fun y hy => absurd hy (by omega)
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · rw [show out10 m c t = poolOut (grid0.coords t) (in3 m c t) (in5 m c t) (in6 m c t) from by unfold out10; rw [if_neg (by omega), if_neg (by omega), if_pos h']]
    iexact H10
  isplitl [H11]
  · iapply (handed_11 m c t (by omega)); iexact H11
  isplitl [H12]
  · rw [show out12 m c t = poolMat (grid0.coords t) (in0 m c t) (in3 m c t) (in6 m c t) from by unfold out12; rw [show poolPt t = t from pnt_of t _ (by omega)]]
    iexact H12
  isplitl [H13]
  · rw [show out13 m c t = poolScale (grid0.coords t) (in0 m c t) (in3 m c t) (in5 m c t) from by unfold out13; rw [show poolPt t = t from pnt_of t _ (by omega)]]
    iexact H13
  isplitl [H14]
  · iapply (handed_14 m c t (by omega)); iexact H14
  isplitl [H15]
  · iapply (handed_15 m c t (by omega)); iexact H15
  · iapply (handed_16 m c t (by omega)); iexact H16

set_option maxHeartbeats 1000000 in
theorem body_gated (t : Fin cfg0.N) (h : 11 ≤ t.val) (h' : t.val < 14) :
    Given m c t ⊢ wp frame (wpE (defs₀ (F := F)) Variants.none (c : Thread nD τ) none) Set.univ (bodyAt0 (F := F) t) (fun _ => Back m c t) := by
  have hN : cfg0.N = 17 := N_0
  have htl := t.isLt
  unfold Given Back bodyAt0
  simp only [before_0, before_1, before_2, before_3, before_4, before_5, before_6, before_7, before_8, before_9]
  rw [leaves_0 m c t, leaves_1 m c t, leaves_2 m c t, leaves_3 m c t, leaves_4 m c t, leaves_5 m c t, leaves_6 m c t, leaves_7 m c t, leaves_8 m c t, leaves_9 m c t, leaves_10 m c t, leaves_14 m c t (by omega), leaves_15 m c t (by omega), leaves_16 m c t (by omega)]
  rw [show (dats m 0 c).Φ t.castSucc = Inv m c t.val from rfl, show (dats m 0 c).Φ t.succ = Inv m c (t.val + 1) from rfl,
    show (dats m 0 c).owesAt () t.succ = (dats m 0 c).owesAt () t.castSucc from rfl]
  unfold Inv
  iintro ⟨⟨⟨%k1, %hk1, HS0⟩, ⟨%k2, %hk2, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, ⟨%d14, H14⟩, ⟨%d15, H15⟩, ⟨%d16, H16⟩⟩
  obtain ⟨e10, e14, e15, e16, hk2'⟩ := gated_eq m c t h h' ((cond_of t).2.2.2.1.mpr (by omega)) ((dats m 0 c).before 10 t d10) k2 hk2
  iapply (gated_run c (grid0.coords t) _ _ _ _ _ _ _ _ _ _ _ _ _ _ _ _ _ _ _ _ _ _ _ _ _ _ _ _ _ _ _ _ _ _ _ _ _ _ (fun hh => absurd ((cond_of t).1.mp hh) (by omega)) (fun hh => absurd ((cond_of t).2.1.mp hh) (by omega)) (fun hh => absurd ((cond_of t).2.2.1.mp hh) (by omega)) ((cond_of t).2.2.2.1.mpr (by omega)) (fun hh => absurd ((cond_of t).2.2.2.2.mp hh) (by omega)) (in0 m c t) (in1 m c t) (in3 m c t) (in7 m c t) (in8 m c t) (in9 m c t) ((dats m 0 c).before 10 t d10) ((dats m 0 c).before 14 t d14) ((dats m 0 c).before 15 t d15) ((dats m 0 c).before 16 t d16) k2 Set.univ _)
  isplitl [H0]; · iexact H0
  isplitl [H1]; · iexact H1
  isplitl [H3]; · iexact H3
  isplitl [H7]; · iexact H7
  isplitl [H8]; · iexact H8
  isplitl [H9]; · iexact H9
  isplitl [H10]; · iexact H10
  isplitl [H14]; · iexact H14
  isplitl [H15]; · iexact H15
  isplitl [H16]; · iexact H16
  isplitl [HS1]; · iexact HS1
  iintro ⟨H0, H1, H3, H7, H8, H9, H10, H14, H15, H16, HS1⟩
  isplitl [HS0 HS1 Hg]
  · isplitl [HS0]
    · iexists _; isplitr; swap
      · iexact HS0
      · ipureintro
        exact fun y hy => hk1 y (by omega)
    isplitl [HS1]
    · iexists _; isplitr; swap
      · iexact HS1
      · ipureintro
        exact hk2'
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · rw [← e10]
    iexact H10
  isplitl [H11]
  · iapply (handed_11 m c t (by omega)); iexact H11
  isplitl [H12]
  · iapply (handed_12 m c t (by omega)); iexact H12
  isplitl [H13]
  · iapply (handed_13 m c t (by omega)); iexact H13
  isplitl [H14]
  · rw [← e14]
    iexact H14
  isplitl [H15]
  · rw [← e15]
    iexact H15
  · rw [← e16]
    iexact H16

set_option maxHeartbeats 1000000 in
theorem body_emit2 (t : Fin cfg0.N) (h : 14 ≤ t.val) :
    Given m c t ⊢ wp frame (wpE (defs₀ (F := F)) Variants.none (c : Thread nD τ) none) Set.univ (bodyAt0 (F := F) t) (fun _ => Back m c t) := by
  have hN : cfg0.N = 17 := N_0
  have htl := t.isLt
  unfold Given Back bodyAt0
  simp only [before_0, before_1, before_2, before_3, before_4, before_5, before_6, before_7, before_8, before_9]
  rw [leaves_0 m c t, leaves_1 m c t, leaves_2 m c t, leaves_3 m c t, leaves_4 m c t, leaves_5 m c t, leaves_6 m c t, leaves_7 m c t, leaves_8 m c t, leaves_9 m c t, leaves_10 m c t]
  rw [show (dats m 0 c).Φ t.castSucc = Inv m c t.val from rfl, show (dats m 0 c).Φ t.succ = Inv m c (t.val + 1) from rfl,
    show (dats m 0 c).owesAt () t.succ = (dats m 0 c).owesAt () t.castSucc from rfl]
  unfold Inv
  iintro ⟨⟨⟨%k1, %hk1, HS0⟩, ⟨%k2, %hk2, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13, H14, H15, H16⟩
  iapply (emit2_run c (grid0.coords t) _ _ _ _ _ _ _ _ _ _ _ _ _ _ _ _ _ _ _ _ _ _ _ _ _ _ _ _ _ _ _ _ _ _ _ _ _ _ (fun hh => absurd ((cond_of t).1.mp hh) (by omega)) (fun hh => absurd ((cond_of t).2.1.mp hh) (by omega)) (fun hh => absurd ((cond_of t).2.2.1.mp hh) (by omega)) (fun hh => absurd ((cond_of t).2.2.2.1.mp hh) (by omega)) ((cond_of t).2.2.2.2.mpr (by omega))  ((dats m 0 c).before 10 t d10) k2 Set.univ _)
  isplitl [H10]; · iexact H10
  isplitl [HS1]; · iexact HS1
  iintro ⟨H10, HS1⟩
  isplitl [HS0 HS1 Hg]
  · isplitl [HS0]
    · iexists _; isplitr; swap
      · iexact HS0
      · ipureintro
        exact fun y hy => hk1 y (by omega)
    isplitl [HS1]
    · iexists _; isplitr; swap
      · iexact HS1
      · ipureintro
        exact fun y hy => hk2 y (by have h0 : (y 0).val < 3 := (y 0).isLt; omega)
    iexact Hg
  isplitl [Ho]; · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · rw [show out10 m c t = emit2 (grid0.coords t) ((cond_of t).2.2.2.2.mpr (by omega)) k2 from by rw [emit2_eq m c t h _ k2 hk2]; unfold out10; rw [if_neg (by omega), if_neg (by omega), if_neg (by omega), if_neg (by omega)]]
    iexact H10
  isplitl [H11]
  · iapply (handed_11 m c t (by omega)); iexact H11
  isplitl [H12]
  · iapply (handed_12 m c t (by omega)); iexact H12
  isplitl [H13]
  · iapply (handed_13 m c t (by omega)); iexact H13
  isplitl [H14]
  · iapply (handed_14 m c t (by omega)); iexact H14
  isplitl [H15]
  · iapply (handed_15 m c t (by omega)); iexact H15
  · iapply (handed_16 m c t (by omega)); iexact H16

theorem body_all (t : Fin cfg0.N) :
    Given m c t ⊢ wp frame (wpE (defs₀ (F := F)) Variants.none (c : Thread nD τ) none) Set.univ (bodyAt0 (F := F) t) (fun _ => Back m c t) := by
  by_cases h3 : t.val < 3
  · exact body_conv m c t h3
  by_cases h9 : t.val < 9
  · exact body_emit1 m c t (by omega) h9
  by_cases h11 : t.val < 11
  · exact body_pool m c t (by omega) h11
  by_cases h14 : t.val < 14
  · exact body_gated m c t (by omega) h14
  · exact body_emit2 m c t (by omega)

end Cert.Mx

end
-- ==== Proof.Mx.Frame.lean ====
module

public import proofs.«01_k».proof.Proof.Mx.Body

@[expose] public section

set_option maxRecDepth 16384

noncomputable section

namespace Cert.Mx

open Cert.KernelMxIdeal Cert.KernelMxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg) (c : Dev nD)

/-! # The run of the mixers' backward pass, and its frame -/

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (body_all m c t) rfl .rfl fun _ => .rfl

theorem loose_eq (c : Dev nD) : (Pipeline.ΦA spec0 c : sProp 𝕄)
    = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- Before the first point nothing is known of the scratch buffers. -/
theorem inv_in (c : Dev nD) : Pipeline.ΦA spec0 c ⊢ (dats m 0 c).Φ 0 := by
  rw [show (dats m 0 c).Φ 0 = Inv m c 0 from rfl, loose_eq]
  unfold Inv
  iintro ⟨⟨⟨%d0, H0⟩, ⟨%d1, H1⟩⟩, Hg⟩
  isplitl [H0]
  · iexists _; isplitr; swap
    · iexact H0
    · ipureintro; exact fun y hy => absurd hy (Nat.not_lt_zero _)
  isplitl [H1]
  · iexists _; isplitr; swap
    · iexact H1
    · ipureintro; exact fun y hy => absurd hy (Nat.not_lt_zero _)
  iexact Hg

/-- After the last point what is known of them is forgotten. -/
theorem inv_out (c : Dev nD) : (dats m 0 c).Φ (Fin.last cfg0.N) ⊢ Pipeline.ΦA spec0 c := by
  rw [show (dats m 0 c).Φ (Fin.last cfg0.N) = Inv m c (Fin.last cfg0.N).val from rfl, loose_eq]
  unfold Inv
  iintro ⟨⟨%k1, %h1, H0⟩, ⟨%k2, %h2, H1⟩, Hg⟩
  isplitl [H0 H1]
  · isplitl [H0]
    · iexists _; iexact H0
    iexists _; iexact H1
  iexact Hg

set_option backward.isDefEq.respectTransparency.types false in
set_option maxHeartbeats 800000 in
/-- The run: every array and buffer as `dats` says, and every counter at zero. -/
theorem run_all : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track_shared (Q' := _) cfgs (dats m) (0 : Fin 1) launch₀0 defs₀ Variants.none m ρ main
    (hbody := fun c => (obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The frame, for the float values `F`. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_all m ρ)))
  ((θ_run defs _ _).mono (fun _ h => h.2) (run_all m ρ))

end Cert.Mx

end
-- ==== Proof.Mx.GateValue.lean ====
module

public import proofs.«01_k».proof.Proof.Mx.Spec
public import proofs.«01_k».proof.Proof.Mx.Closed

@[expose] public section

set_option maxRecDepth 16384

noncomputable section

namespace Cert.Mx

open Cert.KernelMxIdeal Cert.KernelMxIdeal.Gen
open Idealize.ShloMosaic Idealize.ShloMosaic.TcCoe Idealize.ShloMosaic.Tactic
open Cert.Mx.Spec

/-! # What one chunk of a gated point computes, over the real numbers -/

theorem k_sqrt2 : (Named.named (F := Ideal) κ (φ := .f32) "inv_sqrt2" 0x3F3504F3#32) = (((Real.sqrt 2)⁻¹ : ℝ) : EReal) := rfl
theorem k_sqrt2pi : (Named.named (F := Ideal) κ (φ := .f32) "inv_sqrt_2pi" 0x3ECC422A#32) = (((Real.sqrt (2 * Real.pi))⁻¹ : ℝ) : EReal) := rfl

/-- The lane mask: the lanes below 64. -/
theorem sel_lane {α : Type} (l : ℕ) (hl : l < 128) (a b : α) : Scalar.select (IntOp.cmpi CmpIPredicate.slt (BitVec.ofNat 32 l) 64#32) a b = if l < 64 then a else b := by
  have h : ∀ l : Fin 128, IntOp.cmpi CmpIPredicate.slt (BitVec.ofNat 32 l.val) 64#32 = if l.val < 64 then 1#1 else 0#1 := by decide +kernel
  rw [h ⟨l, hl⟩]
  dsimp only
  split <;> rfl

/-- The triangle mask of two stacked matrices. -/
theorem sel_tri {α : Type} (r c : ℕ) (hr : r < 256) (hc : c < 128) (a b : α) :
    Scalar.select (IntOp.cmpi CmpIPredicate.sle (BitVec.ofNat 32 c) (IntOp.andi (BitVec.ofNat 32 r) 127#32)) a b = if c ≤ r % 128 then a else b := by
  have h : ∀ (r : Fin 256) (c : Fin 128), IntOp.cmpi CmpIPredicate.sle (BitVec.ofNat 32 c.val) (IntOp.andi (BitVec.ofNat 32 r.val) 127#32) = if c.val ≤ r.val % 128 then 1#1 else 0#1 := by decide +kernel
  rw [h ⟨r, hr⟩ ⟨c, hc⟩]
  dsimp only
  split <;> rfl

/-- The two masked row sums of a block, one of them chosen by the lane: the sum over the lane's half. -/
theorem half_pick (l : Fin 128) (q : ℕ) (f : ℕ → ℝ) (X : Fin 128 → EReal) (hX : ∀ x, X x = ((f (128 * q + x.val) : ℝ) : EReal)) :
    Scalar.select (IntOp.cmpi CmpIPredicate.slt (BitVec.ofNat 32 l.val) 64#32)
      (∑ x : Fin 128, Scalar.select (IntOp.cmpi CmpIPredicate.slt (BitVec.ofNat 32 x.val) 64#32) (X x) 0)
      (∑ x : Fin 128, Scalar.select (IntOp.cmpi CmpIPredicate.slt (BitVec.ofNat 32 x.val) 64#32) 0 (X x))
      = ((∑ j ∈ Finset.range 64, f (64 * ((128 * q + l.val) / 64) + j) : ℝ) : EReal) := by
  rw [sel_lane _ l.isLt, ← half_block l.val q l.isLt f]
  have e1 : ∀ x : Fin 128, Scalar.select (IntOp.cmpi CmpIPredicate.slt (BitVec.ofNat 32 x.val) 64#32) (X x) 0 = (((if x.val < 64 then f (128 * q + x.val) else 0 : ℝ)) : EReal) := fun x => by
    rw [sel_lane _ x.isLt, hX]; split <;> rfl
  have e2 : ∀ x : Fin 128, Scalar.select (IntOp.cmpi CmpIPredicate.slt (BitVec.ofNat 32 x.val) 64#32) 0 (X x) = (((if x.val < 64 then 0 else f (128 * q + x.val) : ℝ)) : EReal) := fun x => by
    rw [sel_lane _ x.isLt, hX]; split <;> rfl
  simp only [e1, e2, Cert.Common.coe_sum]
  split <;> rfl

/-- The derivative of the exact GELU, as the kernel writes it. -/
theorem geluD_form (x : ℝ) : Ideal.ofBits FTy.f32 0x3F000000#32 * (1 + FloatOps.erf (F := Ideal) (φ := .f32) ((x : EReal) * Named.named (F := Ideal) κ (φ := .f32) "inv_sqrt2" 0x3F3504F3#32))
    + (x : EReal) * (Ideal.exp (Ideal.ofBits FTy.f32 0xBF000000#32 * (x : EReal) * (x : EReal)) * Named.named (F := Ideal) κ (φ := .f32) "inv_sqrt_2pi" 0x3ECC422A#32) = ((geluD x : ℝ) : EReal) := by
  rw [k_sqrt2, k_sqrt2pi, bits_half, bits_mhalf, Ideal.erf_def, ← EReal.coe_mul, ← EReal.coe_mul, ← EReal.coe_mul]
  show _ * (1 + Ideal.erf _) + _ = _
  rw [erf_coe, exp_coe, ← EReal.coe_one, ← EReal.coe_add, ← EReal.coe_mul, ← EReal.coe_mul, ← EReal.coe_mul, ← EReal.coe_add]; rfl

/-- One element of the exact GELU, as the kernel writes it. -/
theorem gelu_form (x : ℝ) : Ideal.ofBits FTy.f32 0x3F000000#32 * (x : EReal) * (1 + FloatOps.erf (F := Ideal) (φ := .f32) ((x : EReal) * Named.named (F := Ideal) κ (φ := .f32) "inv_sqrt2" 0x3F3504F3#32)) = ((gelu x : ℝ) : EReal) := by
  rw [k_sqrt2, bits_half, Ideal.erf_def, ← EReal.coe_mul, ← EReal.coe_mul]
  show _ * (1 + Ideal.erf _) = _
  rw [erf_coe, ← EReal.coe_one, ← EReal.coe_add, ← EReal.coe_mul]; rfl

/-- The lanes of one half of a block, summed. -/
theorem sum_lanes (h : ℕ) (hh : h < 2) (q : ℕ) (f : ℕ → ℝ) :
    ∑ k : Fin 128, (if h = k.val / 64 then f (128 * q + k.val) else 0) = ∑ j ∈ Finset.range 64, f (64 * (2 * q + h) + j) := by
  have e := half_block (64 * h) q (by omega) f
  rw [show (128 * q + 64 * h) / 64 = 2 * q + h by omega] at e
  rw [← e]
  split
  · exact Finset.sum_congr rfl fun k _ => if_congr (by omega) rfl rfl
  · have : h = 1 := by omega
    refine Finset.sum_congr rfl fun k _ => ?_
    have := k.isLt
    split <;> split <;> first | rfl | omega

section Chunk

variable (I : Inp) (n q : ℕ) (a b d : Vec Ideal S128x128 .f32) (x7 : Vec Ideal S1x1x128 .f32) (x8 : Vec Ideal S1x1x256x128 .f32) (x9 : Vec Ideal S1x1x128x128 .f32)
  (ha : ∀ r l : Fin 128, a (ix2 r l) = ((I.P (128 * n + r.val) (1408 + (128 * q + l.val)) : ℝ) : EReal))
  (hb : ∀ r l : Fin 128, b (ix2 r l) = ((I.P (128 * n + r.val) (1792 + (128 * q + l.val)) : ℝ) : EReal))
  (hd : ∀ r l : Fin 128, d (ix2 r l) = ((I.D (128 * n + r.val) (640 + (128 * q + l.val)) : ℝ) : EReal))
  (h7 : ∀ l : Fin 128, x7 (ix3 (0 : Fin 1) (0 : Fin 1) l) = ((I.G (128 * q + l.val) : ℝ) : EReal))
  (h8 : ∀ (t : Fin 256) (s : Fin 128), x8 (ix4 (0 : Fin 1) (0 : Fin 1) t s) = ((I.WS (2 * q + t.val / 128) (t.val % 128) s.val : ℝ) : EReal))
  (h9 : ∀ t l : Fin 128, x9 (ix4 (0 : Fin 1) (0 : Fin 1) t l) = ((I.BS (2 * q + l.val / 64) t.val : ℝ) : EReal))

include hb in
theorem cen_val (r l : Fin 128) : k0_pay42 k0_pay59 b (ix2 r l) = ((cen I (128 * n + r.val) (128 * q + l.val) : ℝ) : EReal) := by
  pointwise [k0_pay42, k0_pay59]
  simp only [hb, gelu_form]
  rw [half_pick l q (fun k => gelu (I.P (128 * n + r.val) (1792 + k))) _ (fun x => rfl), bits_64th, ← EReal.coe_mul, ← EReal.coe_sub]
  unfold cen mu gv
  congr 2; ring

include hb in
theorem rs_val (r l : Fin 128) : k0_pay45 k0_pay59 (k0_pay43 k0_pay59 b) (k0_pay44 k0_pay59 b) (ix2 r l) = ((rs I (128 * n + r.val) ((128 * q + l.val) / 64) : ℝ) : EReal) := by
  have hc := cen_val I n q b hb
  unfold k0_pay44 k0_pay43
  generalize k0_pay42 k0_pay59 b = z at hc
  pointwise [k0_pay45, k0_pay59]
  simp only [hc, ← EReal.coe_mul]
  rw [half_pick l q (fun k => cen I (128 * n + r.val) k * cen I (128 * n + r.val) k) _ (fun x => rfl), bits_64th, bits_eps, ← EReal.coe_mul, ← EReal.coe_add]
  have e : (∑ j ∈ Finset.range 64, cen I (128 * n + r.val) (64 * ((128 * q + l.val) / 64) + j) * cen I (128 * n + r.val) (64 * ((128 * q + l.val) / 64) + j)) * (1 / 64)
      = var I (128 * n + r.val) ((128 * q + l.val) / 64) := by unfold var; ring
  rw [e, rsqrt_coe _ (add_pos_of_nonneg_of_pos (var_nonneg I _ _) eps_pos)]; rfl

include hb in
theorem vn_val (r l : Fin 128) : tripN b (ix2 r l) = ((vn I (128 * n + r.val) (128 * q + l.val) : ℝ) : EReal) := by
  unfold tripN k0_pay46
  pointwise
  rw [cen_val I n q b hb, rs_val I n q b hb, ← EReal.coe_mul]; rfl

include ha hd in
theorem dmx_val (r l : Fin 128) : tripD a d (ix2 r l) = ((dmx I (128 * n + r.val) (128 * q + l.val) : ℝ) : EReal) := by
  pointwise [tripD, k0_pay48, k0_pay41]
  simp only [ha, hd, gelu_form, ← EReal.coe_mul]; rfl

include h8 in
theorem wm_val (t : Fin 256) (s : Fin 128) : k0_pay61 x8 (ix2 t s) = ((wm I (2 * q + t.val / 128) (t.val % 128) s.val : ℝ) : EReal) := by
  pointwise [k0_pay61, k0_pay60]
  simp only [h8]
  rw [sel_tri _ _ t.isLt s.isLt]
  unfold wm
  split <;> rfl

include hb h7 in
theorem vh_val (r l : Fin 128) : k0_pay47 k0_pay59 (k0_pay63 x7) (k0_pay42 k0_pay59 b) (k0_pay43 k0_pay59 b) (k0_pay44 k0_pay59 b) (ix2 r l)
    = ((vh I (128 * n + r.val) (128 * q + l.val) : ℝ) : EReal) := by
  have hn : k0_pay46 k0_pay59 (k0_pay42 k0_pay59 b) (k0_pay43 k0_pay59 b) (k0_pay44 k0_pay59 b) (ix2 r l) = _ := vn_val I n q b hb r l
  unfold k0_pay47
  generalize k0_pay46 k0_pay59 (k0_pay42 k0_pay59 b) (k0_pay43 k0_pay59 b) (k0_pay44 k0_pay59 b) = z at hn
  pointwise [k0_pay63]
  rw [hn, h7, ← EReal.coe_mul]; rfl

include hb h7 h8 in
/-- The product of the two stacked matrices with a chunk, the half chosen by the lane, and the bias. -/
theorem mix_val (l : Fin 128) (t : Fin 128) :
    (∑ s ∈ Finset.range 128, wm I ((128 * q + l.val) / 64) t.val s * vh I (128 * n + s) (128 * q + l.val))
      = if l.val < 64 then ∑ s : Fin 128, wm I (2 * q + t.val / 128) (t.val % 128) s.val * vh I (128 * n + s.val) (128 * q + l.val)
        else ∑ s : Fin 128, wm I (2 * q + (128 + t.val) / 128) ((128 + t.val) % 128) s.val * vh I (128 * n + s.val) (128 * q + l.val) := by
  have ht := t.isLt
  have hl := l.isLt
  rw [← sum_fin 128 (fun s => wm I ((128 * q + l.val) / 64) t.val s * vh I (128 * n + s) (128 * q + l.val))]
  split
  · rw [show (128 * q + l.val) / 64 = 2 * q + t.val / 128 by omega, show t.val % 128 = t.val by omega]
  · rw [show (128 * q + l.val) / 64 = 2 * q + (128 + t.val) / 128 by omega, show (128 + t.val) % 128 = t.val by omega]

include ha hb hd h7 h8 h9 in
theorem out_val (r l : Fin 128) : tripOut a b d x7 x8 x9 (ix2 r l) = ((dup I (128 * n + r.val) (128 * q + l.val) : ℝ) : EReal) := by
  have hv := vh_val I n q b x7 hb h7
  have hw := wm_val I q x8 h8
  unfold tripOut k0_pay49
  generalize k0_pay47 k0_pay59 (k0_pay63 x7) (k0_pay42 k0_pay59 b) (k0_pay43 k0_pay59 b) (k0_pay44 k0_pay59 b) = z at hv
  generalize k0_pay61 x8 = w at hw
  pointwise [k0_pay62, k0_pay59]
  have hr := r.isLt
  have hl := l.isLt
  simp only [ha, hd, h9, hv, hw, geluD_form, ← EReal.coe_mul, Cert.Common.coe_sum]
  rw [sel_lane _ l.isLt, ← apply_ite (fun x : ℝ => (x : EReal)), ← mix_val I n q b x7 x8 hb h7 h8 l r, ← EReal.coe_add, ← EReal.coe_mul, ← EReal.coe_mul]
  unfold dup mixed
  rw [show (128 * n + r.val) % 128 = r.val by omega, show (128 * n + r.val) / 128 = n by omega, show (128 * q + l.val) / 64 = 2 * q + l.val / 64 by omega]

include ha hd in
theorem bias_val (s : Vec Ideal S1x128x128 .f32) (f : ℕ → ℕ → ℝ) (hs : ∀ t l : Fin 128, s (ix3 (0 : Fin 1) t l) = ((f t.val l.val : ℝ) : EReal)) (t l : Fin 128) :
    tripBias a d s (ix3 (0 : Fin 1) t l) = ((f t.val l.val + dmx I (128 * n + t.val) (128 * q + l.val) : ℝ) : EReal) := by
  have hD := dmx_val I n q a d ha hd
  unfold tripBias
  generalize tripD a d = z at hD
  pointwise [k0_pay50]
  rw [hs, hD, ← EReal.coe_add]

include ha hd in
theorem dst_val (t : Fin 256) (l : Fin 128) : k0_pay51 k0_pay59 (tripD a d) (ix2 t l)
    = (((if t.val / 128 = l.val / 64 then dmx I (128 * n + t.val % 128) (128 * q + l.val) else 0 : ℝ)) : EReal) := by
  have hD := dmx_val I n q a d ha hd
  generalize tripD a d = z at hD
  pointwise [k0_pay51, k0_pay59]
  have ht := t.isLt
  have hl := l.isLt
  simp only [hD, sel_lane _ hl]
  by_cases h : t.val < 128
  · rw [dif_pos h]
    by_cases h' : l.val < 64
    · rw [if_pos h', if_pos (by omega), Nat.mod_eq_of_lt h]
    · rw [if_neg h', if_neg (by omega)]; rfl
  · rw [dif_neg h]
    by_cases h' : l.val < 64
    · rw [if_pos h', if_neg (by omega)]; rfl
    · rw [if_neg h', if_pos (by omega), show t.val % 128 = t.val - 128 by omega]

include ha hb hd h7 in
theorem mat_val (s : Vec Ideal S1x256x128 .f32) (f : ℕ → ℕ → ℝ) (hs : ∀ (t : Fin 256) (l : Fin 128), s (ix3 (0 : Fin 1) t l) = ((f t.val l.val : ℝ) : EReal)) (t : Fin 256) (l : Fin 128) :
    tripMat a b d x7 s (ix3 (0 : Fin 1) t l) = ((f t.val l.val + ∑ j ∈ Finset.range 64, dmx I (128 * n + t.val % 128) (64 * (2 * q + t.val / 128) + j) * vh I (128 * n + l.val) (64 * (2 * q + t.val / 128) + j) : ℝ) : EReal) := by
  have hv := vh_val I n q b x7 hb h7
  have hd := dst_val I n q a d ha hd
  unfold tripMat k0_pay52
  generalize k0_pay47 k0_pay59 (k0_pay63 x7) (k0_pay42 k0_pay59 b) (k0_pay43 k0_pay59 b) (k0_pay44 k0_pay59 b) = z at hv
  generalize k0_pay51 k0_pay59 (tripD a d) = w at hd
  pointwise
  simp only [hs, hv, hd, ← EReal.coe_mul, Cert.Common.coe_sum]
  have ht := t.isLt
  rw [← EReal.coe_add]
  congr 2
  rw [← sum_lanes (t.val / 128) (by omega) q (fun k => dmx I (128 * n + t.val % 128) k * vh I (128 * n + l.val) k)]
  exact Finset.sum_congr rfl fun k _ => by split <;> simp

include ha hd h8 in
/-- The transposed product with the two masked copies of a chunk: each lane meets its own head's matrix. -/
theorem dvh_val (r l : Fin 128) : k0_pay53 k0_pay59 (k0_pay61 x8) (tripD a d) (ix2 r l) = ((dvh I (128 * n + r.val) (128 * q + l.val) : ℝ) : EReal) := by
  have hd := dst_val I n q a d ha hd
  have hw := wm_val I q x8 h8
  unfold k0_pay53
  generalize k0_pay61 x8 = z at hw
  generalize k0_pay51 k0_pay59 (tripD a d) = w at hd
  pointwise
  simp only [hw, hd, ← EReal.coe_mul, Cert.Common.coe_sum]
  have hr := r.isLt
  have hl := l.isLt
  congr 1
  unfold dvh
  rw [sum_fin 256 (fun k => wm I (2 * q + k / 128) (k % 128) r.val * if k / 128 = l.val / 64 then dmx I (128 * n + k % 128) (128 * q + l.val) else 0),
    show (256 : ℕ) = 128 + 128 from rfl, Finset.sum_range_add, ← Finset.sum_add_distrib]
  refine Finset.sum_congr rfl fun t ht => ?_
  have ht := Finset.mem_range.1 ht
  rw [show t / 128 = 0 by omega, show t % 128 = t by omega, show (128 + t) / 128 = 1 by omega, show (128 + t) % 128 = t by omega,
    show (128 * n + r.val) % 128 = r.val by omega, show (128 * n + r.val) / 128 = n by omega]
  by_cases h : l.val < 64
  · rw [if_pos (by omega), if_neg (by omega), mul_zero, add_zero, show (128 * q + l.val) / 64 = 2 * q + 0 by omega]
  · rw [if_neg (by omega), if_pos (by omega), mul_zero, zero_add, show (128 * q + l.val) / 64 = 2 * q + 1 by omega]

include ha hb hd h8 in
theorem gain_val (s : Vec Ideal S1x128 .f32) (f : ℕ → ℝ) (hs : ∀ l : Fin 128, s (ix2 (0 : Fin 1) l) = ((f l.val : ℝ) : EReal)) (l : Fin 128) :
    tripGain a b d x8 s (ix2 (0 : Fin 1) l) = ((f l.val + ∑ r ∈ Finset.range 128, dvh I (128 * n + r) (128 * q + l.val) * vn I (128 * n + r) (128 * q + l.val) : ℝ) : EReal) := by
  have hn := vn_val I n q b hb
  have hv := dvh_val I n q a d x8 ha hd h8
  unfold tripGain k0_pay54
  generalize tripN b = z at hn
  generalize k0_pay53 k0_pay59 (k0_pay61 x8) (tripD a d) = w at hv
  pointwise
  simp only [hs, hn, hv, ← EReal.coe_mul, Cert.Common.coe_sum]
  rw [← EReal.coe_add, sum_fin 128 (fun k => dvh I (128 * n + k) (128 * q + l.val) * vn I (128 * n + k) (128 * q + l.val))]

include ha hb hd h7 h8 in
theorem keep_val (r l : Fin 128) : tripKeep a b d x7 x8 (ix3 (0 : Fin 1) r l) = ((dvp I (128 * n + r.val) (128 * q + l.val) : ℝ) : EReal) := by
  have hn := vn_val I n q b hb
  have hv := dvh_val I n q a d x8 ha hd h8
  have hr := rs_val I n q b hb
  unfold tripKeep k0_pay56 k0_pay55 k0_pay57
  generalize k0_pay45 k0_pay59 (k0_pay43 k0_pay59 b) (k0_pay44 k0_pay59 b) = u at hr
  generalize tripN b = z at hn
  generalize k0_pay53 k0_pay59 (k0_pay61 x8) (tripD a d) = w at hv
  pointwise [k0_pay67, k0_pay58, k0_pay63, k0_pay59]
  simp only [hb, hn, hv, hr, h7, geluD_form, ← EReal.coe_mul, Cert.Common.coe_sum]
  rw [half_pick l q (fun k => dvh I (128 * n + r.val) k * I.G k) _ (fun x => rfl),
    half_pick l q (fun k => dvh I (128 * n + r.val) k * I.G k * vn I (128 * n + r.val) k) _ (fun x => rfl), bits_64th]
  simp only [← EReal.coe_mul, ← EReal.coe_sub]
  unfold dvp dv m1 m2 dvn
  congr 1; ring

end Chunk

end Cert.Mx

end
-- ==== Proof.Mx.PoolValue.lean ====
module

public import proofs.«01_k».proof.Proof.Mx.GateValue

@[expose] public section

set_option maxRecDepth 16384

noncomputable section

namespace Cert.Mx

open Cert.KernelMxIdeal Cert.KernelMxIdeal.Gen
open Idealize.ShloMosaic Idealize.ShloMosaic.TcCoe Idealize.ShloMosaic.Tactic
open Cert.Mx.Spec

/-! # What a pooling point computes, over the real numbers -/

section Shifts

variable {F : FTy → Type} [FloatOps F] [Named F]

/-- A block and its copy moved down by `k` rows, zeros above. -/
def down (k : BitVec 32) (z : FVec F S2048x128 .f32) : FVec F S2048x128 .f32 :=
  addf z (select (cmpi .sge (iota .tc S2048x128 32 [0] iota_S2048x128_d0_w32) (broadcast S2048x128 k)) (dynamicRotate 0 k none z rotates_S2048x128_d0)
    (broadcast S2048x128 (Scalar.ofBits .f32 0x00000000#32)))
/-- A block and its copy moved up by `2048 - k` rows, zeros below. -/
def up (k : BitVec 32) (z : FVec F S2048x128 .f32) : FVec F S2048x128 .f32 :=
  addf z (select (cmpi .slt (iota .tc S2048x128 32 [0] iota_S2048x128_d0_w32) (broadcast S2048x128 k)) (dynamicRotate 0 k none z rotates_S2048x128_d0)
    (broadcast S2048x128 (Scalar.ofBits .f32 0x00000000#32)))
/-- Of four blocks, the one of a lane's group. -/
def pick (b : BitVec 1) (a1 a2 a3 a4 : FVec F S2048x128 .f32) : FVec F S2048x128 .f32 :=
  Scalar.select b
    (select (broadcastTo S2048x128 (shapeCast S1x128 k0_pay25 shapeCasts_S1x128_S1x128) broadcasts_S1x128_S2048x128) a1 a2)
    (select (broadcastTo S2048x128 (shapeCast S1x128 k0_pay25 shapeCasts_S1x128_S1x128) broadcasts_S1x128_S2048x128) a3 a4)

theorem pay27_eq (x : Vec F S2048x128 .f32) : k0_pay27 x = down 1#32 x := rfl
theorem pay28_eq (x : Vec F S2048x128 .f32) : k0_pay28 x = down 2#32 (down 1#32 x) := rfl
theorem pay29_eq (x : Vec F S2048x128 .f32) : k0_pay29 x = down 4#32 (down 2#32 (down 1#32 x)) := rfl
theorem pay34_eq (b : BitVec 1) (x : Vec F S2048x128 .f32) (w : FVec F S1x128 .f32) :
    k0_pay34 b x k0_pay25 w (k0_pay27 x) (k0_pay28 x) (k0_pay29 x) k0_pay30 (k0_pay31 x) (Scalar.ofBits .f32 0x00000000#32)
      = truncf .bf16 (subf (divf (pick b (down 1#32 x) (down 2#32 (down 1#32 x)) (down 4#32 (down 2#32 (down 1#32 x)))
          (down 8#32 (down 4#32 (down 2#32 (down 1#32 x))))) (k0_pay32 w)) x) bitsLt_bf16_f32 := rfl
theorem pay3_eq (b : BitVec 1) (v91 v96 : FVec F S2048x128 .f32) :
    k0_pay3 b v91 v96 (iota .tc S2048x128 32 [0] iota_S2048x128_d0_w32) k0_pay40
      = truncf .bf16 (subf (pick b (up 2047#32 v96) (up 2046#32 (up 2047#32 v96)) (up 2044#32 (up 2046#32 (up 2047#32 v96)))
          (up 2040#32 (up 2044#32 (up 2046#32 (up 2047#32 v96))))) v91) bitsLt_bf16_f32 := rfl

end Shifts

theorem sel_ge {α : Type} (w r : ℕ) (hw : w < 9) (hr : r < 2048) (a b : α) : Scalar.select (IntOp.cmpi CmpIPredicate.sge (BitVec.ofNat 32 r) (BitVec.ofNat 32 w)) a b = if w ≤ r then a else b := by
  have hm : ∀ w : Fin 9, ∀ r : Fin 2048, IntOp.cmpi CmpIPredicate.sge (BitVec.ofNat 32 r.val) (BitVec.ofNat 32 w.val) = if w.val ≤ r.val then 1#1 else 0#1 := by decide +kernel
  rw [hm ⟨w, hw⟩ ⟨r, hr⟩]; dsimp only; split <;> rfl
theorem sel_up {α : Type} (w r : ℕ) (hw : w < 9) (hr : r < 2048) (a b : α) : Scalar.select (IntOp.cmpi CmpIPredicate.slt (BitVec.ofNat 32 r) (BitVec.ofNat 32 (2048 - w))) a b = if r + w < 2048 then a else b := by
  have hm : ∀ w : Fin 9, ∀ r : Fin 2048, IntOp.cmpi CmpIPredicate.slt (BitVec.ofNat 32 r.val) (BitVec.ofNat 32 (2048 - w.val)) = if r.val + w.val < 2048 then 1#1 else 0#1 := by decide +kernel
  rw [hm ⟨w, hw⟩ ⟨r, hr⟩]; dsimp only; split <;> rfl

theorem down_val (z : FVec Ideal S2048x128 .f32) (f : ℕ → ℕ → ℝ) (hz : ∀ (r : Fin 2048) (l : Fin 128), z (ix2 r l) = ((f l.val r.val : ℝ) : EReal))
    (w : ℕ) (hw : w = 1 ∨ w = 2 ∨ w = 4 ∨ w = 8) (r : Fin 2048) (l : Fin 128) :
    down (BitVec.ofNat 32 w) z (ix2 r l) = ((f l.val r.val + (if w ≤ r.val then f l.val (r.val - w) else 0) : ℝ) : EReal) := by
  have hr := r.isLt
  rcases hw with rfl | rfl | rfl | rfl
  · pointwise [down]
    rw [sel_ge 1 r.val (by decide) hr]
    simp only [hz]
    rw [EReal.coe_add]
    by_cases h : 1 ≤ r.val
    · rw [if_pos h, if_pos h, show (r.val + 2048 - 1) % 2048 = r.val - 1 by omega]
    · rw [if_neg h, if_neg h]; rfl
  · pointwise [down]
    rw [sel_ge 2 r.val (by decide) hr]
    simp only [hz]
    rw [EReal.coe_add]
    by_cases h : 2 ≤ r.val
    · rw [if_pos h, if_pos h, show (r.val + 2048 - 2) % 2048 = r.val - 2 by omega]
    · rw [if_neg h, if_neg h]; rfl
  · pointwise [down]
    rw [sel_ge 4 r.val (by decide) hr]
    simp only [hz]
    rw [EReal.coe_add]
    by_cases h : 4 ≤ r.val
    · rw [if_pos h, if_pos h, show (r.val + 2048 - 4) % 2048 = r.val - 4 by omega]
    · rw [if_neg h, if_neg h]; rfl
  · pointwise [down]
    rw [sel_ge 8 r.val (by decide) hr]
    simp only [hz]
    rw [EReal.coe_add]
    by_cases h : 8 ≤ r.val
    · rw [if_pos h, if_pos h, show (r.val + 2048 - 8) % 2048 = r.val - 8 by omega]
    · rw [if_neg h, if_neg h]; rfl

theorem up_val (z : FVec Ideal S2048x128 .f32) (f : ℕ → ℕ → ℝ) (hz : ∀ (r : Fin 2048) (l : Fin 128), z (ix2 r l) = ((f l.val r.val : ℝ) : EReal))
    (w : ℕ) (hw : w = 1 ∨ w = 2 ∨ w = 4 ∨ w = 8) (r : Fin 2048) (l : Fin 128) :
    up (BitVec.ofNat 32 (2048 - w)) z (ix2 r l) = ((f l.val r.val + (if r.val + w < 2048 then f l.val (r.val + w) else 0) : ℝ) : EReal) := by
  have hr := r.isLt
  rcases hw with rfl | rfl | rfl | rfl
  · pointwise [up]
    have hs : ∀ a b : EReal, Scalar.select (IntOp.cmpi CmpIPredicate.slt (BitVec.ofNat 32 r.val) 2047#32) a b = _ := fun a b => sel_up 1 r.val (by decide) hr a b
    rw [hs]
    simp only [hz]
    rw [EReal.coe_add]
    by_cases h : r.val + 1 < 2048
    · rw [if_pos h, if_pos h, show (r.val + 2048 - 2047) % 2048 = r.val + 1 by omega]
    · rw [if_neg h, if_neg h]; rfl
  · pointwise [up]
    have hs : ∀ a b : EReal, Scalar.select (IntOp.cmpi CmpIPredicate.slt (BitVec.ofNat 32 r.val) 2046#32) a b = _ := fun a b => sel_up 2 r.val (by decide) hr a b
    rw [hs]
    simp only [hz]
    rw [EReal.coe_add]
    by_cases h : r.val + 2 < 2048
    · rw [if_pos h, if_pos h, show (r.val + 2048 - 2046) % 2048 = r.val + 2 by omega]
    · rw [if_neg h, if_neg h]; rfl
  · pointwise [up]
    have hs : ∀ a b : EReal, Scalar.select (IntOp.cmpi CmpIPredicate.slt (BitVec.ofNat 32 r.val) 2044#32) a b = _ := fun a b => sel_up 4 r.val (by decide) hr a b
    rw [hs]
    simp only [hz]
    rw [EReal.coe_add]
    by_cases h : r.val + 4 < 2048
    · rw [if_pos h, if_pos h, show (r.val + 2048 - 2044) % 2048 = r.val + 4 by omega]
    · rw [if_neg h, if_neg h]; rfl
  · pointwise [up]
    have hs : ∀ a b : EReal, Scalar.select (IntOp.cmpi CmpIPredicate.slt (BitVec.ofNat 32 r.val) 2040#32) a b = _ := fun a b => sel_up 8 r.val (by decide) hr a b
    rw [hs]
    simp only [hz]
    rw [EReal.coe_add]
    by_cases h : r.val + 8 < 2048
    · rw [if_pos h, if_pos h, show (r.val + 2048 - 2040) % 2048 = r.val + 8 by omega]
    · rw [if_neg h, if_neg h]; rfl

theorem pick_val (q : ℕ) (hq : q < 2) (a1 a2 a3 a4 : FVec Ideal S2048x128 .f32) (r : Fin 2048) (l : Fin 128) :
    pick (Scalar.cmpi .eq (BitVec.ofNat 32 (9 + q)) 9#32) a1 a2 a3 a4 (ix2 r l)
      = if q = 0 then (if l.val < 64 then a1 (ix2 r l) else a2 (ix2 r l)) else (if l.val < 64 then a3 (ix2 r l) else a4 (ix2 r l)) := by
  have hc : q = 0 ∨ q = 1 := by omega
  rcases hc with rfl | rfl
  · pointwise [pick, k0_pay25]
    rw [sel_lane _ l.isLt]
  · pointwise [pick, k0_pay25]
    rw [sel_lane _ l.isLt, sel_lane _ l.isLt]
    rfl

/-- The lanes of one half of a block, each with its place in the half, summed. -/
theorem sum_block (h : ℕ) (hh : h < 2) (q : ℕ) (f : ℕ → ℕ → ℝ) :
    ∑ k : Fin 128, (if h = k.val / 64 then f (k.val % 64) (128 * q + k.val) else 0) = ∑ j ∈ Finset.range 64, f j (64 * (2 * q + h) + j) := by
  have e := sum_lanes h hh q (fun k => f (k % 64) k)
  simp only [show ∀ k : ℕ, (128 * q + k) % 64 = k % 64 from fun k => by omega] at e
  rw [e]
  exact Finset.sum_congr rfl fun j hj => by
    have := Finset.mem_range.1 hj
    rw [show (64 * (2 * q + h) + j) % 64 = j by omega]

section Pool

variable (I : Inp) (q : ℕ) (hq : q < 2) (i : grid0.Coords) (hi : (i 0).val = 9 + q) (x0 x3 : Vec Ideal S2048x128 .f32) (x5 : Vec Ideal S1x1x128x128 .f32) (x6 : Vec Ideal S1x1x128 .f32)
  (h0 : ∀ (r : Fin 2048) (l : Fin 128), x0 (ix2 r l) = ((I.P r.val (1152 + (128 * q + l.val)) : ℝ) : EReal))
  (h3 : ∀ (r : Fin 2048) (l : Fin 128), x3 (ix2 r l) = ((I.D r.val (384 + (128 * q + l.val)) : ℝ) : EReal))
  (h5 : ∀ c e : Fin 128, x5 (ix4 (0 : Fin 1) (0 : Fin 1) c e) = (((if c.val / 64 = e.val / 64 then I.WP (2 * q + c.val / 64) (c.val % 64) (e.val % 64) else 0 : ℝ)) : EReal))
  (h6 : ∀ l : Fin 128, x6 (ix3 (0 : Fin 1) (0 : Fin 1) l) = ((I.PS (128 * q + l.val) : ℝ) : EReal))

include hi hq in
theorem cnt_val (r : Fin 2048) (l : Fin 128) : k0_pay32 (F := Ideal) (k0_pay26 (BitVec.ofNat 32 (i 0).val)) (ix2 r l) = ((cnt r.val (128 * q + l.val) : ℝ) : EReal) := by
  rw [hi]
  pointwise [k0_pay32, k0_pay26, k0_pay25]
  have hl := l.isLt
  have ht : ∀ r : Fin 2048, (IntOp.addi (BitVec.ofNat 32 r.val) 1#32).toInt = r.val + 1 := by decide +kernel
  have hf : FloatOps.sitofp (F := Ideal) FTy.f32 (IntOp.addi (BitVec.ofNat 32 r.val) 1#32) = (((r.val : ℝ) + 1 : ℝ) : EReal) := by
    show (((IntOp.addi (BitVec.ofNat 32 r.val) 1#32).toInt : ℝ) : EReal) = _
    rw [ht]; push_cast; rfl
  rw [hf, sel_lane _ hl, sel_lane _ hl, bits_two, bits_four, bits_eight, bits_sixteen]
  unfold cnt wid
  rw [EReal.coe_strictMono.monotone.map_min]
  congr 1
  have hc : q = 0 ∨ q = 1 := by omega
  rcases hc with rfl | rfl
  · refine Eq.trans (by rfl : _ = if l.val < 64 then ((2 : ℝ) : EReal) else ((4 : ℝ) : EReal)) ?_
    split
    · rw [show (128 * 0 + l.val) / 64 = 0 by omega]; norm_num
    · rw [show (128 * 0 + l.val) / 64 = 1 by omega]; norm_num
  · refine Eq.trans (by rfl : _ = if l.val < 64 then ((8 : ℝ) : EReal) else ((16 : ℝ) : EReal)) ?_
    split
    · rw [show (128 * 1 + l.val) / 64 = 2 by omega]; norm_num
    · rw [show (128 * 1 + l.val) / 64 = 3 by omega]; norm_num

include h0 hi hq in
theorem dev_val (r : Fin 2048) (l : Fin 128) :
    k0_pay34 (Scalar.cmpi .eq (BitVec.ofNat 32 (i 0).val) 9#32) x0 k0_pay25 (k0_pay26 (BitVec.ofNat 32 (i 0).val)) (k0_pay27 x0) (k0_pay28 x0) (k0_pay29 x0) k0_pay30 (k0_pay31 x0) (Scalar.ofBits .f32 0x00000000#32) (ix2 r l)
      = ((dev I r.val (128 * q + l.val) : ℝ) : EReal) := by
  have hl := l.isLt
  have hcn := cnt_val q hq i hi r l
  rw [pay34_eq]
  generalize k0_pay32 (F := Ideal) (k0_pay26 (BitVec.ofNat 32 (i 0).val)) = w at hcn
  have d1 := down_val x0 (fun l => back 1 (pl I (128 * q + l))) (fun r l => (h0 r l).trans (by rw [back_one]; rfl)) 1 (by decide)
  simp only [back_double] at d1
  have d2 := down_val (down 1#32 x0) (fun l => back 2 (pl I (128 * q + l))) d1 2 (by decide)
  simp only [back_double] at d2
  have d4 := down_val (down 2#32 (down 1#32 x0)) (fun l => back 4 (pl I (128 * q + l))) d2 4 (by decide)
  simp only [back_double] at d4
  have d8 := down_val (down 4#32 (down 2#32 (down 1#32 x0))) (fun l => back 8 (pl I (128 * q + l))) d4 8 (by decide)
  simp only [back_double] at d8
  have hp := pick_val q hq (down 1#32 x0) (down 2#32 (down 1#32 x0)) (down 4#32 (down 2#32 (down 1#32 x0))) (down 8#32 (down 4#32 (down 2#32 (down 1#32 x0)))) r l
  rw [← hi] at hp
  have hv : (if q = 0 then (if l.val < 64 then down (F := Ideal) 1#32 x0 (ix2 r l) else down (F := Ideal) 2#32 (down (F := Ideal) 1#32 x0) (ix2 r l)) else (if l.val < 64 then down (F := Ideal) 4#32 (down (F := Ideal) 2#32 (down (F := Ideal) 1#32 x0)) (ix2 r l) else down (F := Ideal) 8#32 (down (F := Ideal) 4#32 (down (F := Ideal) 2#32 (down (F := Ideal) 1#32 x0))) (ix2 r l)))
      = ((back (wid (128 * q + l.val)) (pl I (128 * q + l.val)) r.val : ℝ) : EReal) := by
    have e1 := d1 r l
    have e2 := d2 r l
    have e4 := d4 r l
    have e8 := d8 r l
    unfold wid
    have hc : q = 0 ∨ q = 1 := by omega
    rcases hc with rfl | rfl
    · rw [if_pos rfl]
      split
      · rw [show (128 * 0 + l.val) / 64 = 0 by omega]; exact e1
      · rw [show (128 * 0 + l.val) / 64 = 1 by omega]; exact e2
    · rw [if_neg (by decide)]
      split
      · rw [show (128 * 1 + l.val) / 64 = 2 by omega]; exact e4
      · rw [show (128 * 1 + l.val) / 64 = 3 by omega]; exact e8
  rw [hv] at hp
  generalize pick (F := Ideal) _ _ _ _ _ = z at hp
  pointwise
  rw [hp, hcn, h0, div_coe _ _ (ne_of_gt (cnt_pos _ _)), ← EReal.coe_sub]; rfl

include h3 h6 in
theorem dyw_val (r : Fin 2048) (l : Fin 128) : k0_pay36 x3 x6 (ix2 r l) = ((dyw I r.val (128 * q + l.val) : ℝ) : EReal) := by
  pointwise [k0_pay36]
  rw [h3, h6, ← EReal.coe_mul]; rfl

include h3 h5 h6 in
theorem dd_val (r : Fin 2048) (l : Fin 128) : k0_pay37 x3 x5 x6 (ix2 r l) = ((dd I r.val (128 * q + l.val) : ℝ) : EReal) := by
  have hl := l.isLt
  have hy := dyw_val I q x3 x6 h3 h6
  unfold k0_pay37
  generalize k0_pay36 x3 x6 = z at hy
  pointwise [k0_pay33]
  simp only [hy, h5, ← EReal.coe_mul, Cert.Common.coe_sum]
  congr 1
  unfold dd
  rw [show (128 * q + l.val) / 64 = 2 * q + l.val / 64 by omega, show (128 * q + l.val) % 64 = l.val % 64 by omega,
    ← sum_block (l.val / 64) (by omega) q (fun e k => dyw I r.val k * I.WP (2 * q + l.val / 64) (l.val % 64) e)]
  exact Finset.sum_congr rfl fun k _ => by split <;> simp

include h0 h3 h5 hi hq in
theorem poolScale_val (l : Fin 128) : poolScale i x0 x3 x5 (ix2 (0 : Fin 1) l) = ((dps I (128 * q + l.val) : ℝ) : EReal) := by
  have hl := l.isLt
  have hd := dev_val I q hq i hi x0 h0
  unfold poolScale k0_pay35
  generalize k0_pay34 (F := Ideal) _ _ _ _ _ _ _ _ _ _ = z at hd
  pointwise [k0_pay33]
  simp only [hd, h3, h5, ← EReal.coe_mul, Cert.Common.coe_sum]
  congr 1
  unfold dps
  rw [← sum_fin 2048 (fun r => I.D r (384 + (128 * q + l.val)) * pmix I r (128 * q + l.val))]
  refine Finset.sum_congr rfl fun r _ => ?_
  congr 1
  unfold pmix
  rw [show (128 * q + l.val) / 64 = 2 * q + l.val / 64 by omega, show (128 * q + l.val) % 64 = l.val % 64 by omega,
    ← sum_block (l.val / 64) (by omega) q (fun c k => dev I r.val k * I.WP (2 * q + l.val / 64) c (l.val % 64))]
  refine Finset.sum_congr rfl fun k _ => ?_
  by_cases h : l.val / 64 = k.val / 64
  · rw [if_pos h, if_pos h.symm, h]
  · rw [if_neg h, if_neg (fun h' => h h'.symm), mul_zero]

include h0 h3 h6 hi hq in
theorem poolMat_val (c e : Fin 128) (hce : c.val / 64 = e.val / 64) : poolMat i x0 x3 x6 (ix3 (0 : Fin 1) c e)
    = ((dwp I (2 * q + c.val / 64) (c.val % 64) (e.val % 64) : ℝ) : EReal) := by
  have hc := c.isLt
  have he := e.isLt
  have hd := dev_val I q hq i hi x0 h0
  have hy := dyw_val I q x3 x6 h3 h6
  unfold poolMat k0_pay38
  generalize k0_pay34 (F := Ideal) _ _ _ _ _ _ _ _ _ _ = z at hd
  generalize k0_pay36 x3 x6 = w at hy
  pointwise
  simp only [hd, hy, ← EReal.coe_mul, Cert.Common.coe_sum]
  congr 1
  unfold dwp
  rw [← sum_fin 2048 (fun r => dev I r (64 * (2 * q + c.val / 64) + c.val % 64) * dyw I r (64 * (2 * q + c.val / 64) + e.val % 64)),
    show 64 * (2 * q + c.val / 64) + c.val % 64 = 128 * q + c.val by omega, show 64 * (2 * q + c.val / 64) + e.val % 64 = 128 * q + e.val by omega]

include h3 h5 h6 hi hq in
theorem poolOut_val (r : Fin 2048) (l : Fin 128) : poolOut i x3 x5 x6 (ix2 r l) = ((dpl I r.val (128 * q + l.val) : ℝ) : EReal) := by
  have hl := l.isLt
  have hr := r.isLt
  have hcn := cnt_val q hq i hi
  have hdd := dd_val I q x3 x5 x6 h3 h5 h6
  unfold poolOut k0_pay39
  rw [pay3_eq]
  generalize k0_pay32 (F := Ideal) (k0_pay26 (BitVec.ofNat 32 (i 0).val)) = w at hcn
  generalize k0_pay37 x3 x5 x6 = z at hdd
  have hg : ∀ (r : Fin 2048) (l : Fin 128), divf z w (ix2 r l) = ((ahead 1 (fun r => dd I r (128 * q + l.val) / cnt r (128 * q + l.val)) r.val : ℝ) : EReal) := fun r l => by
    pointwise
    rw [hdd, hcn, div_coe _ _ (ne_of_gt (cnt_pos _ _)), ahead_one _ _ r.isLt]
  generalize divf z w = g at hg
  have d1 := up_val g (fun l => ahead 1 (fun r => dd I r (128 * q + l) / cnt r (128 * q + l))) hg 1 (by decide)
  simp only [ahead_double] at d1
  have d2 := up_val (up 2047#32 g) (fun l => ahead 2 (fun r => dd I r (128 * q + l) / cnt r (128 * q + l))) d1 2 (by decide)
  simp only [ahead_double] at d2
  have d4 := up_val (up 2046#32 (up 2047#32 g)) (fun l => ahead 4 (fun r => dd I r (128 * q + l) / cnt r (128 * q + l))) d2 4 (by decide)
  simp only [ahead_double] at d4
  have d8 := up_val (up 2044#32 (up 2046#32 (up 2047#32 g))) (fun l => ahead 8 (fun r => dd I r (128 * q + l) / cnt r (128 * q + l))) d4 8 (by decide)
  simp only [ahead_double] at d8
  have hp := pick_val q hq (up 2047#32 g) (up 2046#32 (up 2047#32 g)) (up 2044#32 (up 2046#32 (up 2047#32 g))) (up 2040#32 (up 2044#32 (up 2046#32 (up 2047#32 g)))) r l
  rw [← hi] at hp
  have hv : (if q = 0 then (if l.val < 64 then up 2047#32 g (ix2 r l) else up 2046#32 (up 2047#32 g) (ix2 r l)) else (if l.val < 64 then up 2044#32 (up 2046#32 (up 2047#32 g)) (ix2 r l) else up 2040#32 (up 2044#32 (up 2046#32 (up 2047#32 g))) (ix2 r l)))
      = ((ahead (wid (128 * q + l.val)) (fun r => dd I r (128 * q + l.val) / cnt r (128 * q + l.val)) r.val : ℝ) : EReal) := by
    have e1 := d1 r l
    have e2 := d2 r l
    have e4 := d4 r l
    have e8 := d8 r l
    generalize hG : (fun r => dd I r (128 * q + l.val) / cnt r (128 * q + l.val)) = G at *
    unfold wid
    have hc : q = 0 ∨ q = 1 := by omega
    rcases hc with rfl | rfl
    · rw [if_pos rfl]
      split
      · rw [show (128 * 0 + l.val) / 64 = 0 by omega]; exact e1
      · rw [show (128 * 0 + l.val) / 64 = 1 by omega]; exact e2
    · rw [if_neg (by decide)]
      split
      · rw [show (128 * 1 + l.val) / 64 = 2 by omega]; exact e4
      · rw [show (128 * 1 + l.val) / 64 = 3 by omega]; exact e8
  rw [hv] at hp
  generalize pick (F := Ideal) _ _ _ _ _ = v at hp
  pointwise
  rw [hp, hdd, ← EReal.coe_sub]; rfl

end Pool

end Cert.Mx

end
-- ==== Proof.Mx.ConvValue.lean ====
module

public import proofs.«01_k».proof.Proof.Mx.PoolValue

@[expose] public section

set_option maxRecDepth 16384

noncomputable section

namespace Cert.Mx

open Cert.KernelMxIdeal Cert.KernelMxIdeal.Gen
open Idealize.ShloMosaic Idealize.ShloMosaic.TcCoe Idealize.ShloMosaic.Tactic
open Cert.Mx.Spec

/-! # What a convolution point computes -/

section Conv

variable (I : Inp) (q : ℕ) (x0 x1 x2 x3 : Vec Ideal S2048x128 .f32) (x4 : Vec Ideal S1x3x128 .f32)
  (h0 : ∀ (r : Fin 2048) (l : Fin 128), x0 (ix2 r l) = ((I.P r.val (128 * q + l.val) : ℝ) : EReal))
  (h1 : ∀ (r : Fin 2048) (l : Fin 128), x1 (ix2 r l) = ((I.P r.val (384 + (128 * q + l.val)) : ℝ) : EReal))
  (h2 : ∀ (r : Fin 2048) (l : Fin 128), x2 (ix2 r l) = ((I.P r.val (768 + (128 * q + l.val)) : ℝ) : EReal))
  (h3 : ∀ (r : Fin 2048) (l : Fin 128), x3 (ix2 r l) = ((I.D r.val (128 * q + l.val) : ℝ) : EReal))
  (h4 : ∀ (t : Fin 3) (l : Fin 128), x4 (ix3 (0 : Fin 1) t l) = I.WC t.val (128 * q + l.val))

include h0 h2 in
theorem zz_val (r : Fin 2048) (l : Fin 128) : k0_pay8 x0 x2 (ix2 r l) = ((zz I r.val (128 * q + l.val) : ℝ) : EReal) := by
  pointwise [k0_pay8]
  rw [h0, h2, ← EReal.coe_mul]; rfl

include h0 h2 in
theorem zb1_val (r : Fin 2048) (l : Fin 128) : k0_pay9 x0 x2 (ix2 r l) = ((zb I 1 r.val (128 * q + l.val) : ℝ) : EReal) := by
  have hr := r.isLt
  have hz := zz_val I q x0 x2 h0 h2
  unfold k0_pay9
  generalize k0_pay8 x0 x2 = z at hz
  pointwise
  rw [sel_ge 1 r.val (by decide) hr]
  simp only [hz]
  unfold zb
  by_cases h : 1 ≤ r.val
  · rw [if_pos h, if_pos h, show (r.val + 2048 - 1) % 2048 = r.val - 1 by omega]
  · rw [if_neg h, if_neg h]; rfl

include h0 h2 in
theorem zb2_val (r : Fin 2048) (l : Fin 128) : k0_pay10 x0 x2 (ix2 r l) = ((zb I 2 r.val (128 * q + l.val) : ℝ) : EReal) := by
  have hr := r.isLt
  have hz := zz_val I q x0 x2 h0 h2
  unfold k0_pay10
  generalize k0_pay8 x0 x2 = z at hz
  pointwise
  rw [sel_ge 2 r.val (by decide) hr]
  simp only [hz]
  unfold zb
  by_cases h : 2 ≤ r.val
  · rw [if_pos h, if_pos h, show (r.val + 2048 - 2) % 2048 = r.val - 2 by omega]
  · rw [if_neg h, if_neg h]; rfl

include h0 h2 h4 in
theorem yc_val (r : Fin 2048) (l : Fin 128) : k0_pay11 x0 x2 x4 (ix2 r l) = yc I r.val (128 * q + l.val) := by
  have hz := zz_val I q x0 x2 h0 h2
  have hz1 := zb1_val I q x0 x2 h0 h2
  have hz2 := zb2_val I q x0 x2 h0 h2
  unfold k0_pay11
  generalize k0_pay8 x0 x2 = z at hz
  generalize k0_pay9 x0 x2 = z at hz1
  generalize k0_pay10 x0 x2 = z at hz2
  pointwise [k0_pay7]
  simp only [hz, hz1, hz2]
  have e0 := h4 0 l
  have e1 := h4 1 l
  have e2 := h4 2 l
  rw [e0, e1, e2]; rfl

include h1 h3 in
theorem dy_val (r : Fin 2048) (l : Fin 128) : k0_pay12 x1 x3 (ix2 r l) = ((dy I r.val (128 * q + l.val) : ℝ) : EReal) := by
  pointwise [k0_pay12]
  rw [h1, h3, ← EReal.coe_mul]; rfl

include h1 h3 h4 in
theorem dz_val (r : Fin 2048) (l : Fin 128) :
    k0_pay18 (k0_pay7 x4) (k0_pay12 x1 x3) (k0_pay13 x1 x3 x4) (k0_pay14 x4) k0_pay15 (k0_pay16 x1 x3) k0_pay17 (ix2 r l) = dz I r.val (128 * q + l.val) := by
  have hr := r.isLt
  have hd := dy_val I q x1 x3 h1 h3
  unfold k0_pay13 k0_pay16
  generalize k0_pay12 x1 x3 = z at hd
  pointwise [k0_pay18, k0_pay7, k0_pay14, k0_pay15, k0_pay17]
  simp only [hd]
  have e0 := h4 0 l
  have e1 := h4 1 l
  have e2 := h4 2 l
  have s1 : ∀ a b : EReal, Scalar.select (IntOp.cmpi CmpIPredicate.slt (BitVec.ofNat 32 r.val) 2047#32) a b = _ := fun a b => sel_up 1 r.val (by decide) hr a b
  have s2 : ∀ a b : EReal, Scalar.select (IntOp.cmpi CmpIPredicate.slt (BitVec.ofNat 32 r.val) 2046#32) a b = _ := fun a b => sel_up 2 r.val (by decide) hr a b
  rw [s1, s2, e0, e1, e2]
  unfold dz da
  congr 1
  · congr 1
    by_cases h : r.val + 1 < 2048
    · rw [if_pos h, if_pos h, show (r.val + 2048 - 2047) % 2048 = r.val + 1 by omega]; rfl
    · rw [if_neg h, if_neg h, EReal.coe_zero, mul_zero]
  · by_cases h : r.val + 2 < 2048
    · rw [if_pos h, if_pos h, show (r.val + 2048 - 2046) % 2048 = r.val + 2 by omega]; rfl
    · rw [if_neg h, if_neg h, EReal.coe_zero, mul_zero]

include h1 h2 h3 h4 in
theorem convOut_val (r : Fin 2048) (l : Fin 128) : convOut x1 x2 x3 x4 (ix2 r l) = dxa I r.val (128 * q + l.val) := by
  have hd := dz_val I q x1 x3 x4 h1 h3 h4 r l
  unfold convOut k0_pay22
  generalize k0_pay18 (F := Ideal) _ _ _ _ _ _ _ = z at hd
  pointwise
  rw [hd, h2]; rfl

include h0 h1 h3 h4 in
theorem convKeep2_val (r : Fin 2048) (l : Fin 128) : convKeep2 x0 x1 x3 x4 (ix3 (0 : Fin 1) r l) = dgc I r.val (128 * q + l.val) := by
  have hd := dz_val I q x1 x3 x4 h1 h3 h4 r l
  unfold convKeep2 k0_pay24
  generalize k0_pay18 (F := Ideal) _ _ _ _ _ _ _ = z at hd
  pointwise [k0_pay1]
  rw [hd, h0]; rfl

include h0 h2 h3 h4 in
theorem convKeep1_val (r : Fin 2048) (l : Fin 128) : convKeep1 x0 x2 x3 x4 (ix3 (0 : Fin 1) r l) = dgb I r.val (128 * q + l.val) := by
  have hd := yc_val I q x0 x2 x4 h0 h2 h4 r l
  unfold convKeep1
  generalize k0_pay11 x0 x2 x4 = z at hd
  pointwise [k0_pay23]
  rw [hd, h3]; rfl

include h0 h1 h2 h3 in
/-- A tap's gradient: the rows' products summed. -/
theorem tap_val (z : FVec Ideal S2048x128 .f32) (f : ℕ → ℕ → ℝ) (hz : ∀ (r : Fin 2048) (l : Fin 128), z (ix2 r l) = ((f r.val (128 * q + l.val) : ℝ) : EReal)) (l : Fin 128) :
    k0_pay21 z (k0_pay12 x1 x3) (ix2 (0 : Fin 1) l) = ((∑ r ∈ Finset.range 2048, dy I r (128 * q + l.val) * f r (128 * q + l.val) : ℝ) : EReal) := by
  have hd := dy_val I q x1 x3 h1 h3
  generalize k0_pay12 x1 x3 = w at hd
  pointwise [k0_pay21]
  simp only [hd, hz, ← EReal.coe_mul, Cert.Common.coe_sum]
  rw [sum_fin 2048 (fun r => dy I r (128 * q + l.val) * f r (128 * q + l.val))]

include h0 h1 h2 h3 in
theorem taps_val (t : Fin 3) (l : Fin 128) : taps x0 x1 x2 x3 (ix2 t l) = ((dwc I t.val (128 * q + l.val) : ℝ) : EReal) := by
  have t0 := tap_val I q x0 x1 x2 x3 h0 h1 h2 h3 _ (fun r k => zb I 2 r k) (zb2_val I q x0 x2 h0 h2) l
  have t1 := tap_val I q x0 x1 x2 x3 h0 h1 h2 h3 _ (fun r k => zb I 1 r k) (zb1_val I q x0 x2 h0 h2) l
  have t2 := tap_val I q x0 x1 x2 x3 h0 h1 h2 h3 _ (fun r k => zz I r k) (zz_val I q x0 x2 h0 h2) l
  refine Eq.trans (by rfl : _ = if t.val = 2 then k0_pay21 (k0_pay8 x0 x2) (k0_pay12 x1 x3) (ix2 (0 : Fin 1) l)
    else if t.val = 1 then k0_pay21 (k0_pay9 x0 x2) (k0_pay12 x1 x3) (ix2 (0 : Fin 1) l) else k0_pay21 (k0_pay10 x0 x2) (k0_pay12 x1 x3) (ix2 (0 : Fin 1) l)) ?_
  rw [t0, t1, t2]
  unfold dwc
  have ht := t.isLt
  have hc : t.val = 0 ∨ t.val = 1 ∨ t.val = 2 := by omega
  rcases hc with hc | hc | hc
  · rw [hc, if_neg (by decide), if_neg (by decide)]
  · rw [hc, if_neg (by decide), if_pos rfl]
  · rw [hc, if_pos rfl]; simp [zb]

end Conv

end Cert.Mx

end
-- ==== Proof.Mx.GateBlocks.lean ====
module

public import proofs.«01_k».proof.Proof.Mx.GateValue

@[expose] public section

set_option maxRecDepth 16384

noncomputable section

namespace Cert.Mx

open Cert.KernelMxIdeal Cert.KernelMxIdeal.Gen
open Idealize.ShloMosaic Idealize.ShloMosaic.TcCoe Idealize.ShloMosaic.Tactic
open Cert.Mx.Spec

/-! # What a gated point leaves, over the real numbers -/

section Blocks

variable (I : Inp) (q : ℕ) (x0 x1 x3 : Vec Ideal S2048x128 .f32) (x7 : Vec Ideal S1x1x128 .f32) (x8 : Vec Ideal S1x1x256x128 .f32) (x9 : Vec Ideal S1x1x128x128 .f32)
  (h0 : ∀ (r : Fin 2048) (l : Fin 128), x0 (ix2 r l) = ((I.P r.val (1408 + (128 * q + l.val)) : ℝ) : EReal))
  (h1 : ∀ (r : Fin 2048) (l : Fin 128), x1 (ix2 r l) = ((I.P r.val (1792 + (128 * q + l.val)) : ℝ) : EReal))
  (h3 : ∀ (r : Fin 2048) (l : Fin 128), x3 (ix2 r l) = ((I.D r.val (640 + (128 * q + l.val)) : ℝ) : EReal))
  (h7 : ∀ l : Fin 128, x7 (ix3 (0 : Fin 1) (0 : Fin 1) l) = ((I.G (128 * q + l.val) : ℝ) : EReal))
  (h8 : ∀ (t : Fin 256) (s : Fin 128), x8 (ix4 (0 : Fin 1) (0 : Fin 1) t s) = ((I.WS (2 * q + t.val / 128) (t.val % 128) s.val : ℝ) : EReal))
  (h9 : ∀ t l : Fin 128, x9 (ix4 (0 : Fin 1) (0 : Fin 1) t l) = ((I.BS (2 * q + l.val / 64) t.val : ℝ) : EReal))

/-- A chunk of rows at real values. -/
theorem rows_val (x : Vec Ideal S2048x128 .f32) (f : ℕ → ℕ → ℝ) (h : ∀ (r : Fin 2048) (l : Fin 128), x (ix2 r l) = ((f r.val l.val : ℝ) : EReal))
    (n : ℕ) (hn : n < 16) (r l : Fin 128) : rows n x (ix2 r l) = ((f (128 * n + r.val) l.val : ℝ) : EReal) := by
  have hr := r.isLt
  refine (h ⟨(128 * n + r.val) % 2048, Nat.mod_lt _ (by decide)⟩ l).trans ?_
  dsimp only
  rw [Nat.mod_eq_of_lt (by omega)]

include h0 h1 h3 h7 h8 h9 in
theorem gateOut_val (r : Fin 2048) (l : Fin 128) : gateOut x0 x1 x3 x7 x8 x9 (ix2 r l) = ((dup I r.val (128 * q + l.val) : ℝ) : EReal) := by
  have hr := r.isLt
  have e := out_val I (r.val / 128) q (rows (r.val / 128) x0) (rows (r.val / 128) x1) (rows (r.val / 128) x3) x7 x8 x9 (rows_val x0 (fun r k => I.P r (1408 + (128 * q + k))) h0 (r.val / 128) (by omega)) (rows_val x1 (fun r k => I.P r (1792 + (128 * q + k))) h1 (r.val / 128) (by omega)) (rows_val x3 (fun r k => I.D r (640 + (128 * q + k))) h3 (r.val / 128) (by omega))
    h7 h8 h9 ⟨r.val % 128, Nat.mod_lt _ (by decide)⟩ l
  refine Eq.trans (by rfl) (e.trans ?_)
  dsimp only
  rw [show 128 * (r.val / 128) + r.val % 128 = r.val by omega]

include h0 h1 h3 h7 h8 in
theorem gateKeep_val (r : Fin 2048) (l : Fin 128) : gateKeep x0 x1 x3 x7 x8 (ix3 (0 : Fin 1) r l) = ((dvp I r.val (128 * q + l.val) : ℝ) : EReal) := by
  have hr := r.isLt
  have e := keep_val I (r.val / 128) q (rows (r.val / 128) x0) (rows (r.val / 128) x1) (rows (r.val / 128) x3) x7 x8 (rows_val x0 (fun r k => I.P r (1408 + (128 * q + k))) h0 (r.val / 128) (by omega)) (rows_val x1 (fun r k => I.P r (1792 + (128 * q + k))) h1 (r.val / 128) (by omega)) (rows_val x3 (fun r k => I.D r (640 + (128 * q + k))) h3 (r.val / 128) (by omega))
    h7 h8 ⟨r.val % 128, Nat.mod_lt _ (by decide)⟩ l
  refine Eq.trans (by rfl) (e.trans ?_)
  dsimp only
  rw [show 128 * (r.val / 128) + r.val % 128 = r.val by omega]

include h0 h1 h3 h8 in
theorem gateGain_val (n : ℕ) (hn : n ≤ 16) (l : Fin 128) : gateGain x0 x1 x3 x8 n (ix2 (0 : Fin 1) l)
    = ((∑ r ∈ Finset.range (128 * n), dvh I r (128 * q + l.val) * vn I r (128 * q + l.val) : ℝ) : EReal) := by
  induction n generalizing l with
  | zero =>
    unfold gateGain
    pointwise [k0_pay66]
    simp
  | succ n ih =>
    have e := gain_val I n q (rows n x0) (rows n x1) (rows n x3) x8 (rows_val x0 (fun r k => I.P r (1408 + (128 * q + k))) h0 n (by omega)) (rows_val x1 (fun r k => I.P r (1792 + (128 * q + k))) h1 n (by omega)) (rows_val x3 (fun r k => I.D r (640 + (128 * q + k))) h3 n (by omega)) h8
      (gateGain x0 x1 x3 x8 n) (fun l => ∑ r ∈ Finset.range (128 * n), dvh I r (128 * q + l) * vn I r (128 * q + l)) (fun l => ih (by omega) l) l
    refine e.trans ?_
    rw [Nat.mul_succ, Finset.sum_range_add]

include h0 h1 h3 h7 in
theorem gateMat_val (n : ℕ) (hn : n ≤ 16) (t : Fin 256) (l : Fin 128) : gateMat x0 x1 x3 x7 n (ix3 (0 : Fin 1) t l)
    = ((∑ i ∈ Finset.range n, ∑ j ∈ Finset.range 64, dmx I (128 * i + t.val % 128) (64 * (2 * q + t.val / 128) + j) * vh I (128 * i + l.val) (64 * (2 * q + t.val / 128) + j) : ℝ) : EReal) := by
  induction n generalizing t l with
  | zero =>
    unfold gateMat
    pointwise [k0_pay64]
    simp
  | succ n ih =>
    have e := mat_val I n q (rows n x0) (rows n x1) (rows n x3) x7 (rows_val x0 (fun r k => I.P r (1408 + (128 * q + k))) h0 n (by omega)) (rows_val x1 (fun r k => I.P r (1792 + (128 * q + k))) h1 n (by omega)) (rows_val x3 (fun r k => I.D r (640 + (128 * q + k))) h3 n (by omega)) h7
      (gateMat x0 x1 x3 x7 n) (fun t l => ∑ i ∈ Finset.range n, ∑ j ∈ Finset.range 64, dmx I (128 * i + t % 128) (64 * (2 * q + t / 128) + j) * vh I (128 * i + l) (64 * (2 * q + t / 128) + j))
      (fun t l => ih (by omega) t l) t l
    refine e.trans ?_
    rw [Finset.sum_range_succ (fun i => ∑ j ∈ Finset.range 64, dmx I (128 * i + t.val % 128) (64 * (2 * q + t.val / 128) + j) * vh I (128 * i + l.val) (64 * (2 * q + t.val / 128) + j))]

include h0 h3 in
theorem gateBias_val (n : ℕ) (hn : n ≤ 16) (t l : Fin 128) : gateBias x0 x3 n (ix3 (0 : Fin 1) t l)
    = ((∑ i ∈ Finset.range n, dmx I (128 * i + t.val) (128 * q + l.val) : ℝ) : EReal) := by
  induction n generalizing t l with
  | zero =>
    unfold gateBias
    pointwise [k0_pay65]
    simp
  | succ n ih =>
    have e := bias_val I n q (rows n x0) (rows n x3) (rows_val x0 (fun r k => I.P r (1408 + (128 * q + k))) h0 n (by omega)) (rows_val x3 (fun r k => I.D r (640 + (128 * q + k))) h3 n (by omega))
      (gateBias x0 x3 n) (fun t l => ∑ i ∈ Finset.range n, dmx I (128 * i + t) (128 * q + l)) (fun t l => ih (by omega) t l) t l
    refine e.trans ?_
    rw [Finset.sum_range_succ]

include h0 h1 h3 h7 in
/-- The matrices' gradient of a point, above the diagonal zero. -/
theorem matEnd_val (t : Fin 256) (l : Fin 128) : k0_pay4 k0_pay60 (gateMat x0 x1 x3 x7 16) (ix3 (0 : Fin 1) t l)
    = ((dws I (2 * q + t.val / 128) (t.val % 128) l.val : ℝ) : EReal) := by
  have e := gateMat_val I q x0 x1 x3 x7 h0 h1 h3 h7 16 le_rfl
  generalize gateMat x0 x1 x3 x7 16 = z at e
  pointwise [k0_pay4, k0_pay60]
  rw [e, sel_tri _ _ t.isLt l.isLt]
  unfold dws
  split <;> rfl

include h0 h3 in
/-- The biases' gradient of a point: lanes 0 and 1 of a row hold the two heads' sums. -/
theorem biasEnd_val (t l : Fin 128) (hl : l.val < 2) : k0_pay5 k0_pay59 (gateBias x0 x3 16) (ix3 (0 : Fin 1) t l)
    = ((dbs I (2 * q + l.val) t.val : ℝ) : EReal) := by
  have e := gateBias_val I q x0 x3 h0 h3 16 le_rfl
  generalize gateBias x0 x3 16 = z at e
  pointwise [k0_pay5, k0_pay59]
  simp only [e]
  have hp := fun m : Fin 128 => half_pick m q (fun k => ∑ i ∈ Finset.range 16, dmx I (128 * i + t.val) k) (fun x => ((∑ i ∈ Finset.range 16, dmx I (128 * i + t.val) (128 * q + x.val) : ℝ) : EReal)) (fun x => rfl)
  have p0 := hp ⟨0, by decide⟩
  have p1 := hp ⟨64, by decide⟩
  rw [sel_lane _ (by decide), if_pos (by decide)] at p0
  rw [sel_lane _ (by decide), if_neg (by decide)] at p1
  have hc : l.val = 0 ∨ l.val = 1 := by omega
  unfold dbs
  rw [Finset.sum_comm]
  rcases hc with hc | hc
  · rw [hc, p0]
    simp only [show (128 * q + 0) / 64 = 2 * q + 0 by omega]; rfl
  · rw [hc, p1]
    simp only [show (128 * q + 64) / 64 = 2 * q + 1 by omega]; rfl

end Blocks

end Cert.Mx

end
-- ==== Proof.Mx.Arrays.lean ====
module

public import proofs.«01_k».proof.Proof.Mx.Inputs
public import proofs.«01_k».proof.Proof.Mx.RefOut
public import proofs.«01_k».proof.Proof.Mx.Frame
public import proofs.«01_k».proof.Proof.Mx.ConvValue
public import proofs.«01_k».proof.Proof.Mx.PoolValue
public import proofs.«01_k».proof.Proof.Mx.GateBlocks
public import Idealize.ShloMosaic.Lib.Pipeline.ValueKit

@[expose] public section

set_option maxRecDepth 16384

noncomputable section

namespace Cert.Mx

open Cert.KernelMxIdeal Cert.KernelMxIdeal.Gen
open Idealize.ShloMosaic Idealize.ShloMosaic.TcCoe Idealize.ShloMosaic.Tactic Idealize.SL.Sem
open Idealize.ShloMosaic.Pipeline (Dat)
open Cert.Mx.Spec

variable (m : (ℓ : Loc nD τ sig) → Buf (Elt Ideal) ℓ) (c : Dev nD)

/-! # What the call leaves in its results' arrays -/

theorem pnt_val (n : ℕ) (h : n < 17) : (pnt n).val = n := Nat.mod_eq_of_lt h
theorem tapPt_val (t : Fin cfg0.N) : (tapPt t).val = min t.val 2 := pnt_val _ (by omega)
theorem poolPt_val (t : Fin cfg0.N) : (poolPt t).val = 9 + min (t.val - 9) 1 := (pnt_val _ (by omega)).trans (by omega)
theorem gatePt_val (t : Fin cfg0.N) : (gatePt t).val = 11 + min (t.val - 11) 2 := (pnt_val _ (by omega)).trans (by omega)
theorem tapPt_eq (s t : Fin cfg0.N) (h : s.val = min t.val 2) : tapPt s = tapPt t :=
  Fin.ext (by rw [tapPt_val, tapPt_val, h]; omega)
theorem poolPt_eq (s t : Fin cfg0.N) (h : s.val = 9 + min (t.val - 9) 1) : poolPt s = poolPt t :=
  Fin.ext (by rw [poolPt_val, poolPt_val, h]; omega)
theorem gatePt_eq (s t : Fin cfg0.N) (h : s.val = 11 + min (t.val - 11) 2) : gatePt s = gatePt t :=
  Fin.ext (by rw [gatePt_val, gatePt_val, h]; omega)

/-! ## The arrays, block by block -/

theorem final_10 : (dats m 0 c).arrAt 10 cfg0.N
    = (fun i => out10 m c (pnt ((i 1).val / 128)) (ix2 (⟨(i 0).val, (i 0).isLt⟩ : Fin 2048) (⟨(i 1).val % 128, Nat.mod_lt _ (by decide)⟩ : Fin 128)) : Vec Ideal S2048x2176 .bf16) := by
  refine (dats m 0 c).arrAt_eq_of_covers 10 _ (by decide +kernel) fun t hf y => ?_
  blk_simp
  rw [after_10]
  have ht : t.val < 17 := t.isLt
  have h1 : (y 1).val < 128 := (y 1).isLt
  have e0 : win0_10.index t 0 = 0 := congrFun (idx10 t) 0
  have e1 : win0_10.index t 1 = t.val := congrFun (idx10 t) 1
  refine congrArg₂ (fun s (i : S2048x128.Idx) => out10 m c s i) (Fin.ext ?_) (funext fun a => Fin.ext ?_)
  · rw [pnt_val _ (by omega), e1]; omega
  · match a with
    | ⟨0, _⟩ => show (y 0).val = win0_10.index t 0 * 2048 + (y 0).val; omega
    | ⟨1, _⟩ => show (y 1).val = (win0_10.index t 1 * 128 + (y 1).val) % 128; omega
theorem final_11 : (dats m 0 c).arrAt 11 cfg0.N
    = (fun i => out11 m c (pnt ((i 1).val / 128)) (ix2 (⟨(i 0).val, (i 0).isLt⟩ : Fin 3) (⟨(i 1).val % 128, Nat.mod_lt _ (by decide)⟩ : Fin 128)) : Vec Ideal S3x384 .f32) := by
  refine (dats m 0 c).arrAt_eq_of_covers 11 _ (by decide +kernel) fun t hf y => ?_
  blk_simp
  rw [after_11]
  have h1 : (y 1).val < 128 := (y 1).isLt
  have e0 : win0_11.index t 0 = 0 := congrFun (idx11 t) 0
  have e1 : win0_11.index t 1 = min t.val 2 := congrFun (idx11 t) 1
  unfold out11
  rw [tapPt_eq (pnt _) t (by rw [pnt_val _ (by omega), e1]; omega)]
  refine congrArg _ (funext fun a => Fin.ext ?_)
  match a with
  | ⟨0, _⟩ => show (y 0).val = win0_11.index t 0 * 3 + (y 0).val; omega
  | ⟨1, _⟩ => show (y 1).val = (win0_11.index t 1 * 128 + (y 1).val) % 128; omega
theorem final_12 : (dats m 0 c).arrAt 12 cfg0.N
    = (fun i => out12 m c (pnt (9 + (i 0).val)) (ix3 0 (⟨(i 1).val, (i 1).isLt⟩ : Fin 128) (⟨(i 2).val, (i 2).isLt⟩ : Fin 128)) : Vec Ideal S2x128x128 .f32) := by
  refine (dats m 0 c).arrAt_eq_of_covers 12 _ (by decide +kernel) fun t hf y => ?_
  blk_simp
  rw [after_12]
  have h0 : (y 0).val < 1 := (y 0).isLt
  have e0 : win0_12.index t 0 = min (t.val - 9) 1 := congrFun (idx12 t) 0
  have e1 : win0_12.index t 1 = 0 := congrFun (idx12 t) 1
  have e2 : win0_12.index t 2 = 0 := congrFun (idx12 t) 2
  unfold out12
  rw [poolPt_eq (pnt _) t (by rw [pnt_val _ (by omega), e0])]
  refine congrArg _ (funext fun a => Fin.ext ?_)
  match a with
  | ⟨0, _⟩ => show (y 0).val = 0; omega
  | ⟨1, _⟩ => show (y 1).val = win0_12.index t 1 * 128 + (y 1).val; omega
  | ⟨2, _⟩ => show (y 2).val = win0_12.index t 2 * 128 + (y 2).val; omega
theorem final_13 : (dats m 0 c).arrAt 13 cfg0.N
    = (fun i => out13 m c (pnt (9 + (i 1).val / 128)) (ix2 0 (⟨(i 1).val % 128, Nat.mod_lt _ (by decide)⟩ : Fin 128)) : Vec Ideal S1x256 .f32) := by
  refine (dats m 0 c).arrAt_eq_of_covers 13 _ (by decide +kernel) fun t hf y => ?_
  blk_simp
  rw [after_13]
  have h0 : (y 0).val < 1 := (y 0).isLt
  have h1 : (y 1).val < 128 := (y 1).isLt
  have e1 : win0_13.index t 1 = min (t.val - 9) 1 := congrFun (idx13 t) 1
  unfold out13
  rw [poolPt_eq (pnt _) t (by rw [pnt_val _ (by omega), e1]; omega)]
  refine congrArg _ (funext fun a => Fin.ext ?_)
  match a with
  | ⟨0, _⟩ => show (y 0).val = 0; omega
  | ⟨1, _⟩ => show (y 1).val = (win0_13.index t 1 * 128 + (y 1).val) % 128; omega
theorem final_14 : (dats m 0 c).arrAt 14 cfg0.N
    = (fun i => out14 m c (pnt (11 + (i 1).val / 128)) (ix2 0 (⟨(i 1).val % 128, Nat.mod_lt _ (by decide)⟩ : Fin 128)) : Vec Ideal S1x384 .f32) := by
  refine (dats m 0 c).arrAt_eq_of_covers 14 _ (by decide +kernel) fun t hf y => ?_
  blk_simp
  rw [after_14]
  have h0 : (y 0).val < 1 := (y 0).isLt
  have h1 : (y 1).val < 128 := (y 1).isLt
  have e1 : win0_14.index t 1 = min (t.val - 11) 2 := congrFun (idx14 t) 1
  unfold out14
  rw [gatePt_eq (pnt _) t (by rw [pnt_val _ (by omega), e1]; omega)]
  refine congrArg _ (funext fun a => Fin.ext ?_)
  match a with
  | ⟨0, _⟩ => show (y 0).val = 0; omega
  | ⟨1, _⟩ => show (y 1).val = (win0_14.index t 1 * 128 + (y 1).val) % 128; omega
theorem final_15 : (dats m 0 c).arrAt 15 cfg0.N
    = (fun i => out15 m c (pnt (11 + (i 0).val)) (ix3 0 (⟨(i 1).val, (i 1).isLt⟩ : Fin 256) (⟨(i 2).val, (i 2).isLt⟩ : Fin 128)) : Vec Ideal S3x256x128 .f32) := by
  refine (dats m 0 c).arrAt_eq_of_covers 15 _ (by decide +kernel) fun t hf y => ?_
  blk_simp
  rw [after_15]
  have h0 : (y 0).val < 1 := (y 0).isLt
  have e0 : win0_15.index t 0 = min (t.val - 11) 2 := congrFun (idx15 t) 0
  have e1 : win0_15.index t 1 = 0 := congrFun (idx15 t) 1
  have e2 : win0_15.index t 2 = 0 := congrFun (idx15 t) 2
  unfold out15
  rw [gatePt_eq (pnt _) t (by rw [pnt_val _ (by omega), e0])]
  refine congrArg _ (funext fun a => Fin.ext ?_)
  match a with
  | ⟨0, _⟩ => show (y 0).val = 0; omega
  | ⟨1, _⟩ => show (y 1).val = win0_15.index t 1 * 256 + (y 1).val; omega
  | ⟨2, _⟩ => show (y 2).val = win0_15.index t 2 * 128 + (y 2).val; omega
theorem final_16 : (dats m 0 c).arrAt 16 cfg0.N
    = (fun i => out16 m c (pnt (11 + (i 0).val)) (ix3 0 (⟨(i 1).val, (i 1).isLt⟩ : Fin 128) (⟨(i 2).val, (i 2).isLt⟩ : Fin 128)) : Vec Ideal S3x128x128 .f32) := by
  refine (dats m 0 c).arrAt_eq_of_covers 16 _ (by decide +kernel) fun t hf y => ?_
  blk_simp
  rw [after_16]
  have h0 : (y 0).val < 1 := (y 0).isLt
  have e0 : win0_16.index t 0 = min (t.val - 11) 2 := congrFun (idx16 t) 0
  have e1 : win0_16.index t 1 = 0 := congrFun (idx16 t) 1
  have e2 : win0_16.index t 2 = 0 := congrFun (idx16 t) 2
  unfold out16
  rw [gatePt_eq (pnt _) t (by rw [pnt_val _ (by omega), e0])]
  refine congrArg _ (funext fun a => Fin.ext ?_)
  match a with
  | ⟨0, _⟩ => show (y 0).val = 0; omega
  | ⟨1, _⟩ => show (y 1).val = win0_16.index t 1 * 128 + (y 1).val; omega
  | ⟨2, _⟩ => show (y 2).val = win0_16.index t 2 * 128 + (y 2).val; omega

/-! ## The blocks in the arguments' values -/

theorem coords_val : ∀ t : Fin grid0.N, (grid0.coords t 0).val = t.val := by decide +kernel

variable {m c} {I : Inp} (A : Ref.Reads I (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)))
include A

theorem keep1_lo (y : S6x2048x128.Idx) (h : (y 0).val < 3) : keep1 m c y = dgb I (y 1).val (128 * (y 0).val + (y 2).val) := by
  have e : (pnt (y 0).val).val = (y 0).val := pnt_val _ (by omega)
  unfold keep1
  rw [if_pos h]
  refine (convKeep1_val I _ _ _ _ _ (conv0 A _ (by omega)) (conv2 A _ (by omega)) (conv3 A _ (by omega)) (conv4 A _ (by omega)) _ _).trans ?_
  rw [e]
theorem keep1_hi (y : S6x2048x128.Idx) (h : ¬(y 0).val < 3) : keep1 m c y = dgc I (y 1).val (128 * ((y 0).val - 3) + (y 2).val) := by
  have h6 : (y 0).val < 6 := (y 0).isLt
  have e : (pnt ((y 0).val - 3)).val = (y 0).val - 3 := pnt_val _ (by omega)
  unfold keep1
  rw [if_neg h]
  refine (convKeep2_val I _ _ _ _ _ (conv0 A _ (by omega)) (conv1 A _ (by omega)) (conv3 A _ (by omega)) (conv4 A _ (by omega)) _ _).trans ?_
  rw [e]
theorem keep2_val (y : S3x2048x128.Idx) : keep2 m c y = ((dvp I (y 1).val (128 * (y 0).val + (y 2).val) : ℝ) : EReal) := by
  have h3 : (y 0).val < 3 := (y 0).isLt
  have e : (pnt ((y 0).val + 11)).val = 11 + (y 0).val := (pnt_val _ (by omega)).trans (by omega)
  unfold keep2
  exact gateKeep_val I (y 0).val _ _ _ _ _ (gate0 A _ _ h3 e) (gate1 A _ _ h3 e) (gate3 A _ _ h3 e) (gate7 A _ _ h3 e) (gate8 A _ _ h3 e) _ _

/-- The gradient of the projections, a block of columns. -/
theorem out10_val (t : Fin cfg0.N) (r : Fin 2048) (l : Fin 128) : out10 m c t (ix2 r l) = Ref.dproj I r.val (128 * t.val + l.val) := by
  have ht : t.val < 17 := t.isLt
  have hl := l.isLt
  unfold out10 Ref.dproj
  by_cases c1 : t.val < 3
  · rw [if_pos c1, if_pos (show 128 * t.val + l.val < 384 by omega)]
    exact convOut_val I _ _ _ _ _ (conv1 A t c1) (conv2 A t c1) (conv3 A t c1) (conv4 A t c1) r l
  rw [if_neg c1, if_neg (show ¬128 * t.val + l.val < 384 by omega)]
  by_cases c2 : t.val < 9
  · rw [if_pos c2]
    have e : k0_pay2 (row6 (t.val - 3) (keep1 m c)) (ix2 r l) = keep1 m c (ix3 (⟨(t.val - 3) % 6, Nat.mod_lt _ (by decide)⟩ : Fin 6) r l) := by
      pointwise [k0_pay2]
      rfl
    rw [e]
    by_cases c3 : t.val < 6
    · rw [if_pos (show 128 * t.val + l.val < 768 by omega), keep1_lo A _ (show (t.val - 3) % 6 < 3 by omega)]
      exact congrArg (dgb I r.val) (show 128 * ((t.val - 3) % 6) + l.val = 128 * t.val + l.val - 384 by omega)
    · rw [if_neg (show ¬128 * t.val + l.val < 768 by omega), if_pos (show 128 * t.val + l.val < 1152 by omega), keep1_hi A _ (show ¬(t.val - 3) % 6 < 3 by omega)]
      exact congrArg (dgc I r.val) (show 128 * ((t.val - 3) % 6 - 3) + l.val = 128 * t.val + l.val - 768 by omega)
  rw [if_neg c2, if_neg (show ¬128 * t.val + l.val < 768 by omega), if_neg (show ¬128 * t.val + l.val < 1152 by omega)]
  by_cases c3 : t.val < 11
  · have hq : t.val - 9 < 2 := by omega
    have h : t.val = 9 + (t.val - 9) := by omega
    rw [if_pos c3, if_pos (show 128 * t.val + l.val < 1408 by omega)]
    refine (poolOut_val I (t.val - 9) hq _ ((coords_val t).trans h) _ _ _ (pool3 A t _ hq h) (pool5 A t _ hq h) (pool6 A t _ hq h) r l).trans ?_
    exact congrArg (fun k => ((dpl I r.val k : ℝ) : EReal)) (by omega)
  rw [if_neg c3, if_neg (show ¬128 * t.val + l.val < 1408 by omega)]
  by_cases c4 : t.val < 14
  · have hq : t.val - 11 < 3 := by omega
    have h : t.val = 11 + (t.val - 11) := by omega
    rw [if_pos c4, if_pos (show 128 * t.val + l.val < 1792 by omega)]
    refine (gateOut_val I (t.val - 11) _ _ _ _ _ _ (gate0 A t _ hq h) (gate1 A t _ hq h) (gate3 A t _ hq h) (gate7 A t _ hq h) (gate8 A t _ hq h) (gate9 A t _ hq h) r l).trans ?_
    exact congrArg (fun k => ((dup I r.val k : ℝ) : EReal)) (by omega)
  rw [if_neg c4, if_neg (show ¬128 * t.val + l.val < 1792 by omega)]
  have e : k0_pay6 (row3 (t.val - 14) (keep2 m c)) (ix2 r l) = keep2 m c (ix3 (⟨(t.val - 14) % 3, Nat.mod_lt _ (by decide)⟩ : Fin 3) r l) := by
    pointwise [k0_pay6]
    rfl
  rw [e, keep2_val A]
  exact congrArg (fun k => ((dvp I r.val k : ℝ) : EReal)) (show 128 * ((t.val - 14) % 3) + l.val = 128 * t.val + l.val - 1792 by omega)
theorem out11_val (t : Fin cfg0.N) (h : t.val < 3) (r : Fin 3) (l : Fin 128) : out11 m c t (ix2 r l) = ((dwc I r.val (128 * t.val + l.val) : ℝ) : EReal) := by
  have e : (tapPt t).val = t.val := (tapPt_val t).trans (by omega)
  have hc : (tapPt t).val < 3 := by omega
  unfold out11
  refine (taps_val I _ _ _ _ _ (conv0 A _ hc) (conv1 A _ hc) (conv2 A _ hc) (conv3 A _ hc) r l).trans ?_
  rw [e]
theorem out12_val (t : Fin cfg0.N) (q : ℕ) (hq : q < 2) (h : t.val = 9 + q) (a b : Fin 128) (hab : a.val / 64 = b.val / 64) :
    out12 m c t (ix3 0 a b) = ((dwp I (2 * q + a.val / 64) (a.val % 64) (b.val % 64) : ℝ) : EReal) := by
  have e : (poolPt t).val = 9 + q := (poolPt_val t).trans (by omega)
  exact poolMat_val I q hq _ ((coords_val _).trans e) _ _ _ (pool0 A _ _ hq e) (pool3 A _ _ hq e) (pool6 A _ _ hq e) a b hab
theorem out13_val (t : Fin cfg0.N) (q : ℕ) (hq : q < 2) (h : t.val = 9 + q) (l : Fin 128) : out13 m c t (ix2 0 l) = ((dps I (128 * q + l.val) : ℝ) : EReal) := by
  have e : (poolPt t).val = 9 + q := (poolPt_val t).trans (by omega)
  exact poolScale_val I q hq _ ((coords_val _).trans e) _ _ _ (pool0 A _ _ hq e) (pool3 A _ _ hq e) (pool5 A _ _ hq e) l
theorem out14_val (t : Fin cfg0.N) (q : ℕ) (hq : q < 3) (h : t.val = 11 + q) (l : Fin 128) : out14 m c t (ix2 0 l) = ((dgn I (128 * q + l.val) : ℝ) : EReal) := by
  have e : (gatePt t).val = 11 + q := (gatePt_val t).trans (by omega)
  exact gateGain_val I q _ _ _ _ (gate0 A _ _ hq e) (gate1 A _ _ hq e) (gate3 A _ _ hq e) (gate8 A _ _ hq e) 16 le_rfl l
theorem out15_val (t : Fin cfg0.N) (q : ℕ) (hq : q < 3) (h : t.val = 11 + q) (a : Fin 256) (b : Fin 128) :
    out15 m c t (ix3 0 a b) = ((dws I (2 * q + a.val / 128) (a.val % 128) b.val : ℝ) : EReal) := by
  have e : (gatePt t).val = 11 + q := (gatePt_val t).trans (by omega)
  exact matEnd_val I q _ _ _ _ (gate0 A _ _ hq e) (gate1 A _ _ hq e) (gate3 A _ _ hq e) (gate7 A _ _ hq e) a b
theorem out16_val (t : Fin cfg0.N) (q : ℕ) (hq : q < 3) (h : t.val = 11 + q) (a b : Fin 128) (hb : b.val < 2) :
    out16 m c t (ix3 0 a b) = ((dbs I (2 * q + b.val) a.val : ℝ) : EReal) := by
  have e : (gatePt t).val = 11 + q := (gatePt_val t).trans (by omega)
  exact biasEnd_val I q _ _ (gate0 A _ _ hq e) (gate3 A _ _ hq e) a b hb

end Cert.Mx

end
-- ==== Proof.Mx.Tail.lean ====
module

public import proofs.«01_k».proof.Proof.Mx.Arrays
public import proofs.«01_k».proof.Proof.Mx.Frame
public import Idealize.ShloMosaic.Lib.Pipeline.ValueKit

@[expose] public section

set_option maxRecDepth 16384

noncomputable section

namespace Cert.Mx

open Cert.KernelMxIdeal Cert.KernelMxIdeal.Gen
open Idealize.ShloMosaic Idealize.ShloMosaic.TcCoe Idealize.ShloMosaic.Tactic Idealize.SL.Sem
open Idealize.ShloMosaic.Pipeline (Dat)
open Cert.Mx.Spec

variable (m : (ℓ : Loc nD τ sig) → Buf (Elt Ideal) ℓ) (c : Dev nD)

/-! # The results' arrays at the program's end -/

theorem tail_arr (w : Fin 17) : Pipeline.withArrays (cfgs 0).spec c (V0 m c) (fun w => (dats m 0 c).arrAt w (cfgs 0).N)
    (Proc.devRef .tc (Pipeline.arrRef spec0 w)) = (dats m 0 c).arrAt w cfg0.N :=
  Pipeline.withArrays_arr_shared _ c _ _ (Pipeline.Dat.arrAt_sharedIn (dats m 0 c) sharedIn0 (V0 m c) (A_eq m c) _) w

theorem tail_12 : Pipeline.withArrays (cfgs 0).spec c (V0 m c) (fun w => (dats m 0 c).arrAt w (cfgs 0).N) (Proc.devRef .tc main_v20_2)
    = (dats m 0 c).arrAt 12 cfg0.N := tail_arr m c 12
theorem tail_15 : Pipeline.withArrays (cfgs 0).spec c (V0 m c) (fun w => (dats m 0 c).arrAt w (cfgs 0).N) (Proc.devRef .tc main_v20_5)
    = (dats m 0 c).arrAt 15 cfg0.N := tail_arr m c 15
theorem tail_16 : Pipeline.withArrays (cfgs 0).spec c (V0 m c) (fun w => (dats m 0 c).arrAt w (cfgs 0).N) (Proc.devRef .tc main_v20_6)
    = (dats m 0 c).arrAt 16 cfg0.N := tail_arr m c 16

/-- The two diagonal squares of each 128 by 128 matrix, one after the other. -/
def lowSq (x : FVec Ideal S2x128x128 .f32) : FVec Ideal S1x2x1x64x64 .f32 :=
  broadcastInDim S1x2x1x64x64 ![0, 1, 3, 4] bcast_S1x2x64x64_S1x2x1x64x64_0_1_3_4
    (shapeCast S1x2x64x64 (extractStridedSlice S1x2x1x64x1x64 ![0, 0, 0, 0, 0, 0] (shapeCast S1x2x2x64x2x64 x shapeCasts_S2x128x128_S1x2x2x64x2x64)
      slices_S1x2x2x64x2x64_S1x2x1x64x1x64_0_0_0_0_0_0) shapeCasts_S1x2x1x64x1x64_S1x2x64x64)
def highSq (x : FVec Ideal S2x128x128 .f32) : FVec Ideal S1x2x1x64x64 .f32 :=
  broadcastInDim S1x2x1x64x64 ![0, 1, 3, 4] bcast_S1x2x64x64_S1x2x1x64x64_0_1_3_4
    (shapeCast S1x2x64x64 (extractStridedSlice S1x2x1x64x1x64 ![0, 0, 1, 0, 1, 0] (shapeCast S1x2x2x64x2x64 x shapeCasts_S2x128x128_S1x2x2x64x2x64)
      slices_S1x2x2x64x2x64_S1x2x1x64x1x64_0_0_1_0_1_0) shapeCasts_S1x2x1x64x1x64_S1x2x64x64)
def bothSq (x : FVec Ideal S2x128x128 .f32) : FVec Ideal S1x2x2x64x64 .f32 :=
  concatenate S1x2x2x64x64 2 [⟨S1x2x1x64x64, lowSq x⟩, ⟨S1x2x1x64x64, highSq x⟩] concatenates_S1x2x1x64x64_S1x2x1x64x64_S1x2x2x64x64_d2

theorem end_v29 : (Pipeline.afterTail₀ cfgs (dats m) 0 (V0 m) [hostOps1] c main_v29 : FVec Ideal S1x4x64x64 .f32)
    = shapeCast S1x4x64x64 (bothSq ((dats m 0 c).arrAt 12 cfg0.N)) shapeCasts_S1x2x2x64x64_S1x4x64x64 := by
  unfold Pipeline.afterTail₀
  simp only [List.flatten_cons, List.flatten_nil, List.append_nil]
  after_results
  rw [tail_12]
  rfl
theorem lowSq_val (x : FVec Ideal S2x128x128 .f32) (q : Fin 2) (a b : Fin 64) :
    lowSq x (ix5 0 q 0 a b) = x (ix3 q (⟨a.val, by omega⟩ : Fin 128) (⟨b.val, by omega⟩ : Fin 128)) := by
  pointwise [lowSq]
theorem highSq_val (x : FVec Ideal S2x128x128 .f32) (q : Fin 2) (a b : Fin 64) :
    highSq x (ix5 0 q 0 a b) = x (ix3 q (⟨64 + a.val, by omega⟩ : Fin 128) (⟨64 + b.val, by omega⟩ : Fin 128)) := by
  pointwise [highSq]
theorem bothSq_lo (x : FVec Ideal S2x128x128 .f32) (q g : Fin 2) (a b : Fin 64) (hg : g.val = 0) :
    bothSq x (ix5 0 q g a b) = x (ix3 q (⟨a.val, by omega⟩ : Fin 128) (⟨b.val, by omega⟩ : Fin 128)) := by
  unfold bothSq
  refine (concatenate_apply_piece 2 _ _ (ix5 0 q g a b) 0 (by show 0 < 2; decide) S1x2x1x64x64 (lowSq x) rfl rfl 0 rfl (ix5 0 q 0 a b) ?_ (by show 0 + 0 = g.val; omega)).trans
    (lowSq_val x q a b)
  intro k hk
  match k with
  | ⟨0, _⟩ => rfl
  | ⟨1, _⟩ => rfl
  | ⟨2, _⟩ => exact absurd rfl hk
  | ⟨3, _⟩ => rfl
  | ⟨4, _⟩ => rfl
theorem bothSq_hi (x : FVec Ideal S2x128x128 .f32) (q g : Fin 2) (a b : Fin 64) (hg : g.val = 1) :
    bothSq x (ix5 0 q g a b) = x (ix3 q (⟨64 + a.val, by omega⟩ : Fin 128) (⟨64 + b.val, by omega⟩ : Fin 128)) := by
  unfold bothSq
  refine (concatenate_apply_piece 2 _ _ (ix5 0 q g a b) 1 (by show 1 < 2; decide) S1x2x1x64x64 (highSq x) rfl rfl 1 rfl (ix5 0 q 0 a b) ?_ (by show 1 + 0 = g.val; omega)).trans
    (highSq_val x q a b)
  intro k hk
  match k with
  | ⟨0, _⟩ => rfl
  | ⟨1, _⟩ => rfl
  | ⟨2, _⟩ => exact absurd rfl hk
  | ⟨3, _⟩ => rfl
  | ⟨4, _⟩ => rfl
theorem five (z : FVec Ideal S1x2x2x64x64 .f32) (h : Fin 4) (a b : Fin 64) :
    shapeCast S1x4x64x64 z shapeCasts_S1x2x2x64x64_S1x4x64x64 (ix4 0 h a b)
      = z (ix5 0 (⟨h.val / 2, by omega⟩ : Fin 2) (⟨h.val % 2, by omega⟩ : Fin 2) a b) := by
  pointwise

variable {m c} {I : Inp} (A : Ref.Reads I (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)))
include A

/-! ## The seven results -/

theorem res_10 (r : Fin 2048) (k : Fin 2176) : ((dats m 0 c).arrAt 10 cfg0.N : FVec Ideal S2048x2176 .bf16) (ix2 r k) = Ref.dproj I r.val k.val := by
  rw [final_10]
  have e : (pnt (k.val / 128)).val = k.val / 128 := pnt_val _ (by omega)
  refine (out10_val A (pnt (k.val / 128)) r ⟨k.val % 128, Nat.mod_lt _ (by decide)⟩).trans ?_
  rw [e]
  exact congrArg (Ref.dproj I r.val) (show 128 * (k.val / 128) + k.val % 128 = k.val by omega)
theorem res_11 (r : Fin 3) (k : Fin 384) : ((dats m 0 c).arrAt 11 cfg0.N : FVec Ideal S3x384 .f32) (ix2 r k) = ((dwc I r.val k.val : ℝ) : EReal) := by
  rw [final_11]
  have e : (pnt (k.val / 128)).val = k.val / 128 := pnt_val _ (by omega)
  refine (out11_val A (pnt (k.val / 128)) (by omega) r ⟨k.val % 128, Nat.mod_lt _ (by decide)⟩).trans ?_
  rw [e]
  exact congrArg (fun k => ((dwc I r.val k : ℝ) : EReal)) (show 128 * (k.val / 128) + k.val % 128 = k.val by omega)
theorem res_13 (k : Fin 256) : ((dats m 0 c).arrAt 13 cfg0.N : FVec Ideal S1x256 .f32) (ix2 0 k) = ((dps I k.val : ℝ) : EReal) := by
  rw [final_13]
  refine (out13_val A (pnt (9 + k.val / 128)) (k.val / 128) (by omega) (pnt_val _ (by omega)) ⟨k.val % 128, Nat.mod_lt _ (by decide)⟩).trans ?_
  exact congrArg (fun k => ((dps I k : ℝ) : EReal)) (show 128 * (k.val / 128) + k.val % 128 = k.val by omega)
theorem res_14 (k : Fin 384) : ((dats m 0 c).arrAt 14 cfg0.N : FVec Ideal S1x384 .f32) (ix2 0 k) = ((dgn I k.val : ℝ) : EReal) := by
  rw [final_14]
  refine (out14_val A (pnt (11 + k.val / 128)) (k.val / 128) (by omega) (pnt_val _ (by omega)) ⟨k.val % 128, Nat.mod_lt _ (by decide)⟩).trans ?_
  exact congrArg (fun k => ((dgn I k : ℝ) : EReal)) (show 128 * (k.val / 128) + k.val % 128 = k.val by omega)
theorem res_12 (q : Fin 2) (a b : Fin 128) (hab : a.val / 64 = b.val / 64) : ((dats m 0 c).arrAt 12 cfg0.N : FVec Ideal S2x128x128 .f32) (ix3 q a b)
    = ((dwp I (2 * q.val + a.val / 64) (a.val % 64) (b.val % 64) : ℝ) : EReal) := by
  rw [final_12]
  exact out12_val A (pnt (9 + q.val)) q.val q.isLt (pnt_val _ (by omega)) a b hab
theorem res_29 (h : Fin 4) (a b : Fin 64) : (Pipeline.afterTail₀ cfgs (dats m) 0 (V0 m) [hostOps1] c main_v29 : FVec Ideal S1x4x64x64 .f32) (ix4 0 h a b)
    = ((dwp I h.val a.val b.val : ℝ) : EReal) := by
  refine (congrFun (end_v29 m c) _).trans ((five _ h a b).trans ?_)
  have ha := a.isLt
  have hb := b.isLt
  rcases (show h.val % 2 = 0 ∨ h.val % 2 = 1 by omega) with g | g
  · rw [bothSq_lo _ _ _ _ _ g]
    refine (res_12 A _ _ _ (show a.val / 64 = b.val / 64 by omega)).trans ?_
    show ((dwp I (2 * (h.val / 2) + a.val / 64) (a.val % 64) (b.val % 64) : ℝ) : EReal) = _
    rw [show 2 * (h.val / 2) + a.val / 64 = h.val by omega, Nat.mod_eq_of_lt ha, Nat.mod_eq_of_lt hb]
  · rw [bothSq_hi _ _ _ _ _ g]
    refine (res_12 A _ _ _ (show (64 + a.val) / 64 = (64 + b.val) / 64 by omega)).trans ?_
    show ((dwp I (2 * (h.val / 2) + (64 + a.val) / 64) ((64 + a.val) % 64) ((64 + b.val) % 64) : ℝ) : EReal) = _
    rw [show 2 * (h.val / 2) + (64 + a.val) / 64 = h.val by omega, show (64 + a.val) % 64 = a.val by omega, show (64 + b.val) % 64 = b.val by omega]
theorem res_34 (h : Fin 6) (a b : Fin 128) : (Pipeline.afterTail₀ cfgs (dats m) 0 (V0 m) [hostOps1] c main_v34 : FVec Ideal S6x128x128 .f32) (ix3 h a b)
    = ((dws I h.val a.val b.val : ℝ) : EReal) := by
  unfold Pipeline.afterTail₀
  simp only [List.flatten_cons, List.flatten_nil, List.append_nil]
  after_results
  rw [tail_15, final_15]
  pointwise
  have hh := h.isLt
  have ha := a.isLt
  refine (out15_val A (pnt (11 + h.val / 2)) (h.val / 2) (by omega) (pnt_val _ (by omega)) ⟨h.val % 2 * 128 + a.val, by omega⟩ b).trans ?_
  show ((dws I (2 * (h.val / 2) + (h.val % 2 * 128 + a.val) / 128) ((h.val % 2 * 128 + a.val) % 128) b.val : ℝ) : EReal) = _
  rw [show 2 * (h.val / 2) + (h.val % 2 * 128 + a.val) / 128 = h.val by omega, show (h.val % 2 * 128 + a.val) % 128 = a.val by omega]
theorem res_33 (h : Fin 6) (a : Fin 128) : (Pipeline.afterTail₀ cfgs (dats m) 0 (V0 m) [hostOps1] c main_v33 : FVec Ideal S1x6x128 .f32) (ix3 0 h a)
    = ((dbs I h.val a.val : ℝ) : EReal) := by
  unfold Pipeline.afterTail₀
  simp only [List.flatten_cons, List.flatten_nil, List.append_nil]
  after_results
  rw [tail_16, final_16]
  pointwise
  have hh := h.isLt
  refine (out16_val A (pnt (11 + h.val / 2)) (h.val / 2) (by omega) (pnt_val _ (by omega)) a ⟨h.val % 2, by omega⟩ (show h.val % 2 < 2 by omega)).trans ?_
  show ((dbs I (2 * (h.val / 2) + h.val % 2) a.val : ℝ) : EReal) = _
  rw [show 2 * (h.val / 2) + h.val % 2 = h.val by omega]

end Cert.Mx

end
-- ==== Proof.Mx.Bits.lean ====
module

public import proofs.«01_k».proof.Proof.Mx.Frame
public import proofs.«01_k».proof.Proof.Gen.KernelMx.Frame
public import proofs.«01_k».proof.Proof.Gen.ReferenceMxIdeal
public import proofs.«01_k».proof.Proof.Gen.Pre_finite_mix
public import proofs.«01_k».proof.Defs
public import Idealize.ShloMosaic.Lib.Tactic

@[expose] public section

set_option maxRecDepth 16384

noncomputable section

namespace Cert.Mx

open Idealize.ShloMosaic Idealize.ShloMosaic.TcCoe Idealize.SL.Sem

/-! # The same run at the machine's own words

The idealized program differs from the program itself only in naming four constants. Read with each name at the word that it
stands for, it is the program. -/

/-- A named constant read at its word. -/
local instance : Named Bits where
  named _ _ {φ} w := FloatOps.ofBits φ w

open Cert.KernelMxIdeal Cert.KernelMxIdeal.Gen in
/-- The frame of the idealized program at the machine's own words. -/
def BitsFrame : Prop :=
  ∀ (m : (ℓ : Loc nD τ sig) → Buf (Elt Bits) ℓ) (ρ : Dev nD → PrngReg), True →
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0)

/-- It is the frame of the program. -/
theorem bitsFrame_eq : BitsFrame = Cert.quiescent_KernelMx := by
  sl_kernel_rfl

theorem frame_bits : Cert.quiescent_KernelMx :=
  bitsFrame_eq.mp fun m ρ _ => frame_any (F := Bits) m ρ

end Cert.Mx

end
-- ==== Proof.Mx.Claims.lean ====
/- The claims of the mixers' backward call. -/
module

public import proofs.«01_k».proof.Defs
public import proofs.«01_k».proof.Proof.Mx.Tail
public import proofs.«01_k».proof.Proof.Mx.Bits
public import proofs.«01_k».proof.Proof.Gen.Pre_finite_mix
public import Idealize.ShloMosaic.Lib.Claim

@[expose] public section

set_option maxRecDepth 16384

noncomputable section

namespace Cert.Mx

open Idealize.ShloMosaic Idealize.ShloMosaic.TcCoe Idealize.SL.Sem
open Cert.Mx.Spec

/-- The reference runs, keeps its arguments and declares no semaphore. -/
theorem frame_reference : Cert.quiescent_ReferenceMxIdeal := fun m g _ =>
  (θ_run Cert.ReferenceMxIdeal.defs _ _).mono (fun r h => ⟨fun c => (h c).2.2.2.2.2.2.2, sem_eq_zero_of_no_sems (by decide) r.2⟩)
    (Cert.ReferenceMxIdeal.Value.run m g)

/-- The two named constants stand for the root of one half and the value of the normal density at zero. -/
theorem preserves : Cert.preserves_KernelMx_KernelMxIdeal :=
  ⟨IdealRules.named_const.statement Cert.KernelMxIdeal.κ "inv_sqrt2" .f32 0x3F3504F3#32 (((Real.sqrt 2)⁻¹ : ℝ) : EReal) rfl,
    IdealRules.named_const.statement Cert.KernelMxIdeal.κ "inv_sqrt_2pi" .f32 0x3ECC422A#32 (((Real.sqrt (2 * Real.pi))⁻¹ : ℝ) : EReal) rfl⟩

/-! ## The arguments as real numbers -/

theorem read2 {n k : ℕ} (X : (⟨2, ![n, k]⟩ : Shape).Idx → EReal) (R : (⟨2, ![n, k]⟩ : Shape).Idx → ℝ) (h : X = fun i => (R i : EReal)) (h0 : 0 < n) (h1 : 0 < k) :
    ∀ y, X y = ((X (ix2 (⟨(y 0).val % n, Nat.mod_lt _ h0⟩ : Fin n) (⟨(y 1).val % k, Nat.mod_lt _ h1⟩ : Fin k))).toReal : EReal) := by
  subst h
  intro y
  simp only [EReal.toReal_coe]
  refine congrArg (fun i => (R i : EReal)) (funext fun a => Fin.ext ?_)
  match a with
  | ⟨0, _⟩ => exact (Nat.mod_eq_of_lt (y 0).isLt).symm
  | ⟨1, _⟩ => exact (Nat.mod_eq_of_lt (y 1).isLt).symm
theorem read3 {n k l : ℕ} (X : (⟨3, ![n, k, l]⟩ : Shape).Idx → EReal) (R : (⟨3, ![n, k, l]⟩ : Shape).Idx → ℝ) (h : X = fun i => (R i : EReal))
    (h0 : 0 < k) (h1 : 0 < l) (z : Fin n) (hn : n = 1) :
    ∀ y, X y = ((X (ix3 z (⟨(y 1).val % k, Nat.mod_lt _ h0⟩ : Fin k) (⟨(y 2).val % l, Nat.mod_lt _ h1⟩ : Fin l))).toReal : EReal) := by
  subst h
  intro y
  simp only [EReal.toReal_coe]
  refine congrArg (fun i => (R i : EReal)) (funext fun a => Fin.ext ?_)
  have hy : (y 0).val < n := (y 0).isLt
  match a with
  | ⟨0, _⟩ => show (y 0).val = z.val; omega
  | ⟨1, _⟩ => exact (Nat.mod_eq_of_lt (y 1).isLt).symm
  | ⟨2, _⟩ => exact (Nat.mod_eq_of_lt (y 2).isLt).symm
theorem read4 {n j k l : ℕ} (X : (⟨4, ![n, j, k, l]⟩ : Shape).Idx → EReal) (R : (⟨4, ![n, j, k, l]⟩ : Shape).Idx → ℝ) (h : X = fun i => (R i : EReal))
    (hj : 0 < j) (h0 : 0 < k) (h1 : 0 < l) (z : Fin n) (hn : n = 1) :
    ∀ y, X y = ((X (ix4 z (⟨(y 1).val % j, Nat.mod_lt _ hj⟩ : Fin j) (⟨(y 2).val % k, Nat.mod_lt _ h0⟩ : Fin k) (⟨(y 3).val % l, Nat.mod_lt _ h1⟩ : Fin l))).toReal : EReal) := by
  subst h
  intro y
  simp only [EReal.toReal_coe]
  refine congrArg (fun i => (R i : EReal)) (funext fun a => Fin.ext ?_)
  have hy : (y 0).val < n := (y 0).isLt
  match a with
  | ⟨0, _⟩ => show (y 0).val = z.val; omega
  | ⟨1, _⟩ => exact (Nat.mod_eq_of_lt (y 1).isLt).symm
  | ⟨2, _⟩ => exact (Nat.mod_eq_of_lt (y 2).isLt).symm
  | ⟨3, _⟩ => exact (Nat.mod_eq_of_lt (y 3).isLt).symm

section Inputs
open Cert.ReferenceMxIdeal

/-- The numbers the arguments hold. -/
def inp (x0 : FVec Ideal S2048x2176 .f32) (x1 : FVec Ideal S1x3x384 .f32) (x2 : FVec Ideal S1x4x64x64 .f32) (x3 : FVec Ideal S1x256 .f32)
    (x4 : FVec Ideal S1x384 .f32) (x5 : FVec Ideal S1x6x128x128 .f32) (x6 : FVec Ideal S1x6x128 .f32) (x7 : FVec Ideal S2048x1024 .f32) : Inp where
  P r k := EReal.toReal (x0 (ix2 (⟨r % 2048, Nat.mod_lt _ (by decide)⟩ : Fin 2048) (⟨k % 2176, Nat.mod_lt _ (by decide)⟩ : Fin 2176)))
  D r k := EReal.toReal (x7 (ix2 (⟨r % 2048, Nat.mod_lt _ (by decide)⟩ : Fin 2048) (⟨k % 1024, Nat.mod_lt _ (by decide)⟩ : Fin 1024)))
  G k := EReal.toReal (x4 (ix2 (⟨0 % 1, Nat.mod_lt _ (by decide)⟩ : Fin 1) (⟨k % 384, Nat.mod_lt _ (by decide)⟩ : Fin 384)))
  WS h t s := EReal.toReal (x5 (ix4 (0 : Fin 1) (⟨h % 6, Nat.mod_lt _ (by decide)⟩ : Fin 6) (⟨t % 128, Nat.mod_lt _ (by decide)⟩ : Fin 128) (⟨s % 128, Nat.mod_lt _ (by decide)⟩ : Fin 128)))
  BS h t := EReal.toReal (x6 (ix3 (0 : Fin 1) (⟨h % 6, Nat.mod_lt _ (by decide)⟩ : Fin 6) (⟨t % 128, Nat.mod_lt _ (by decide)⟩ : Fin 128)))
  WP g a b := EReal.toReal (x2 (ix4 (0 : Fin 1) (⟨g % 4, Nat.mod_lt _ (by decide)⟩ : Fin 4) (⟨a % 64, Nat.mod_lt _ (by decide)⟩ : Fin 64) (⟨b % 64, Nat.mod_lt _ (by decide)⟩ : Fin 64)))
  PS k := EReal.toReal (x3 (ix2 (⟨0 % 1, Nat.mod_lt _ (by decide)⟩ : Fin 1) (⟨k % 256, Nat.mod_lt _ (by decide)⟩ : Fin 256)))
  WC r k := x1 (ix3 (0 : Fin 1) (⟨r % 3, Nat.mod_lt _ (by decide)⟩ : Fin 3) (⟨k % 384, Nat.mod_lt _ (by decide)⟩ : Fin 384))

theorem reads (x0 : FVec Ideal S2048x2176 .f32) (x1 : FVec Ideal S1x3x384 .f32) (x2 : FVec Ideal S1x4x64x64 .f32) (x3 : FVec Ideal S1x256 .f32)
    (x4 : FVec Ideal S1x384 .f32) (x5 : FVec Ideal S1x6x128x128 .f32) (x6 : FVec Ideal S1x6x128 .f32) (x7 : FVec Ideal S2048x1024 .f32)
    (h : Cert.Pre_finite_mix.fn (F := Ideal) x0 x1 x2 x3 x4 x5 x6 x7 = fun _ => 1#1) : Ref.Reads (inp x0 x1 x2 x3 x4 x5 x6 x7) x0 x1 x2 x3 x4 x5 x6 x7 := by
  have h6 := congrFun h (fun k => k.elim0)
  obtain ⟨h5, f7⟩ := IntOp.andi_eq_one.1 h6
  obtain ⟨h4, f6⟩ := IntOp.andi_eq_one.1 h5
  obtain ⟨h3, f5⟩ := IntOp.andi_eq_one.1 h4
  obtain ⟨h2, f4⟩ := IntOp.andi_eq_one.1 h3
  obtain ⟨h1, f3⟩ := IntOp.andi_eq_one.1 h2
  obtain ⟨f0, f2⟩ := IntOp.andi_eq_one.1 h1
  obtain ⟨R0, e0⟩ := Cert.Common.reals_of_all _ _ _ _ _ f0
  obtain ⟨R2, e2⟩ := Cert.Common.reals_of_all _ _ _ _ _ f2
  obtain ⟨R3, e3⟩ := Cert.Common.reals_of_all _ _ _ _ _ f3
  obtain ⟨R4, e4⟩ := Cert.Common.reals_of_all _ _ _ _ _ f4
  obtain ⟨R5, e5⟩ := Cert.Common.reals_of_all _ _ _ _ _ f5
  obtain ⟨R6, e6⟩ := Cert.Common.reals_of_all _ _ _ _ _ f6
  obtain ⟨R7, e7⟩ := Cert.Common.reals_of_all _ _ _ _ _ f7
  refine ⟨?_, ?_, ?_, ?_, ?_, ?_, ?_, ?_⟩
  · exact read2 x0 R0 e0 (by decide) (by decide)
  · intro y
    have hy : (y 0).val < 1 := (y 0).isLt
    refine congrArg x1 (funext fun a => Fin.ext ?_)
    match a with
    | ⟨0, _⟩ => show (y 0).val = 0; omega
    | ⟨1, _⟩ => exact (Nat.mod_eq_of_lt (y 1).isLt).symm
    | ⟨2, _⟩ => exact (Nat.mod_eq_of_lt (y 2).isLt).symm
  · exact read4 x2 R2 e2 (by decide) (by decide) (by decide) 0 rfl
  · intro y
    have hy : (y 0).val = 0 := by have hl : (y 0).val < 1 := (y 0).isLt; omega
    refine (read2 x3 R3 e3 (by decide) (by decide) y).trans ?_
    simp only [hy]
    rfl
  · intro y
    have hy : (y 0).val = 0 := by have hl : (y 0).val < 1 := (y 0).isLt; omega
    refine (read2 x4 R4 e4 (by decide) (by decide) y).trans ?_
    simp only [hy]
    rfl
  · exact read4 x5 R5 e5 (by decide) (by decide) (by decide) 0 rfl
  · exact read3 x6 R6 e6 (by decide) (by decide) 0 rfl
  · exact read2 x7 R7 e7 (by decide) (by decide)

end Inputs

/-! ## The reference's results -/

section Results
open Cert.ReferenceMxIdeal Cert.ReferenceMxIdeal.Read

variable {I : Inp} {x0 x1 x2 x3 x4 x5 x6 x7} (A : Ref.Reads I x0 x1 x2 x3 x4 x5 x6 x7)
include A

theorem ref_341 (r : Fin 2048) (k : Fin 2176) : val_main_v341 (F := Ideal) x0 x1 x2 x3 x4 x5 x6 x7 (ix2 r k) = Ref.dproj I r.val k.val :=
  (val_main_v341_apply x0 x1 x2 x3 x4 x5 x6 x7 (ix2 r k)).trans (Ref.v340_val A (ix2 r k))
theorem ref_342 (h : Fin 4) (a b : Fin 64) : val_main_v342 (F := Ideal) x0 x3 x7 (ix4 0 h a b) = ((dwp I h.val a.val b.val : ℝ) : EReal) := by
  rw [val_main_v342_apply, Ref.v239_val A]
  rfl
theorem ref_343 (k : Fin 256) : val_main_v343 (F := Ideal) x0 x2 x7 (ix2 0 k) = ((dps I k.val : ℝ) : EReal) := by
  rw [val_main_v343_apply, Ref.v233_val A]
  rfl
theorem ref_344 (k : Fin 384) : val_main_v344 (F := Ideal) x0 x5 x7 (ix2 0 k) = ((dgn I k.val : ℝ) : EReal) := by
  rw [val_main_v344_apply, Ref.v191_val A]
  rfl
theorem ref_345 (h : Fin 6) (a : Fin 128) : val_main_v345 (F := Ideal) x0 x7 (ix3 0 h a) = ((dbs I h.val a.val : ℝ) : EReal) := by
  rw [val_main_v345_apply, Ref.v177_val A]
  rfl

end Results

/-! ## The claim -/

theorem ext2 {n k : ℕ} (f g : (⟨2, ![n, k]⟩ : Shape).Idx → EReal) (h : ∀ a b, f (ix2 a b) = g (ix2 a b)) : f = g :=
  funext fun y => by rw [eq_ix2 y]; exact h _ _
theorem ext3 {n k l : ℕ} (f g : (⟨3, ![n, k, l]⟩ : Shape).Idx → EReal) (h : ∀ a b c, f (ix3 a b c) = g (ix3 a b c)) : f = g :=
  funext fun y => by rw [eq_ix3 y]; exact h _ _ _
theorem ext4 {n j k l : ℕ} (f g : (⟨4, ![n, j, k, l]⟩ : Shape).Idx → EReal) (h : ∀ a b c d, f (ix4 a b c d) = g (ix4 a b c d)) : f = g :=
  funext fun y => by rw [eq_ix4 y]; exact h _ _ _ _

section Ends
open Cert.KernelMxIdeal Cert.KernelMxIdeal.Gen
variable (m : (ℓ : Loc nD τ sig) → Buf (Elt Ideal) ℓ) (ρ : Dev nD → PrngReg)

/-- What the kernel leaves in its seven results. -/
abbrev o0 (c : Dev nD) : FVec Ideal S2048x2176 .bf16 := (dats m 0 c).arrAt 10 cfg0.N
abbrev o1 (c : Dev nD) : FVec Ideal S3x384 .f32 := (dats m 0 c).arrAt 11 cfg0.N
abbrev o2 (c : Dev nD) : FVec Ideal S1x4x64x64 .f32 := Pipeline.afterTail₀ cfgs (dats m) 0 (V0 m) [hostOps1] c main_v29
abbrev o3 (c : Dev nD) : FVec Ideal S1x256 .f32 := (dats m 0 c).arrAt 13 cfg0.N
abbrev o4 (c : Dev nD) : FVec Ideal S1x384 .f32 := (dats m 0 c).arrAt 14 cfg0.N
abbrev o5 (c : Dev nD) : FVec Ideal S6x128x128 .f32 := Pipeline.afterTail₀ cfgs (dats m) 0 (V0 m) [hostOps1] c main_v34
abbrev o6 (c : Dev nD) : FVec Ideal S1x6x128 .f32 := Pipeline.afterTail₀ cfgs (dats m) 0 (V0 m) [hostOps1] c main_v33

theorem kernel_run : θ_run defs (onTc (τ := τ) (main (F := Ideal))) ⟨m, fun _ => 0, ρ⟩ (fun r => ∀ c : Dev nD,
    r.2.mem ((c.tc : Thread nD τ).loc main_v20_0) = o0 m c
    ∧ r.2.mem ((c.tc : Thread nD τ).loc main_v20_1) = o1 m c
    ∧ r.2.mem ((c.tc : Thread nD τ).loc main_v29) = o2 m c
    ∧ r.2.mem ((c.tc : Thread nD τ).loc main_v20_3) = o3 m c
    ∧ r.2.mem ((c.tc : Thread nD τ).loc main_v20_4) = o4 m c
    ∧ r.2.mem ((c.tc : Thread nD τ).loc main_v34) = o5 m c
    ∧ r.2.mem ((c.tc : Thread nD τ).loc main_v33) = o6 m c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)) :=
  (θ_run defs _ _).mono (fun r h c => ⟨(h.1.1 c).1 10, (h.1.1 c).1 11, (h.1.1 c).2 main_v29 (by decide), (h.1.1 c).1 13, (h.1.1 c).1 14,
    (h.1.1 c).2 main_v34 (by decide), (h.1.1 c).2 main_v33 (by decide), h.2.1 c⟩) (θ_run_and (run_all m ρ) (frame_any m ρ))

end Ends

/-- Kernel and reference leave the same gradients wherever the arguments other than the taps are finite. -/
theorem value : Cert.algebraic_KernelMxIdeal_ReferenceMxIdeal_pre_finite_mix := by
  intro m g m' g' hpre hargs
  refine ⟨o0 m, o1 m, o2 m, o3 m, o4 m, o5 m, o6 m, kernel_run m g, ?_⟩
  refine (θ_run Cert.ReferenceMxIdeal.defs _ _).mono (fun r h c => ?_) (Cert.ReferenceMxIdeal.Value.run m' g')
  obtain ⟨r0, r1, r2, r3, r4, r5, r6, rest⟩ := h c
  obtain ⟨e0, e1, e2, e3, e4, e5, e6, e7⟩ := hargs c
  obtain ⟨I, A⟩ : ∃ I : Inp, Ref.Reads I (m ((c.tc : Thread Cert.KernelMxIdeal.nD Cert.KernelMxIdeal.τ).loc Cert.KernelMxIdeal.main_arg0)) (m ((c.tc : Thread Cert.KernelMxIdeal.nD Cert.KernelMxIdeal.τ).loc Cert.KernelMxIdeal.main_arg1)) (m ((c.tc : Thread Cert.KernelMxIdeal.nD Cert.KernelMxIdeal.τ).loc Cert.KernelMxIdeal.main_arg2)) (m ((c.tc : Thread Cert.KernelMxIdeal.nD Cert.KernelMxIdeal.τ).loc Cert.KernelMxIdeal.main_arg3)) (m ((c.tc : Thread Cert.KernelMxIdeal.nD Cert.KernelMxIdeal.τ).loc Cert.KernelMxIdeal.main_arg4)) (m ((c.tc : Thread Cert.KernelMxIdeal.nD Cert.KernelMxIdeal.τ).loc Cert.KernelMxIdeal.main_arg5)) (m ((c.tc : Thread Cert.KernelMxIdeal.nD Cert.KernelMxIdeal.τ).loc Cert.KernelMxIdeal.main_arg6)) (m ((c.tc : Thread Cert.KernelMxIdeal.nD Cert.KernelMxIdeal.τ).loc Cert.KernelMxIdeal.main_arg7)) := ⟨_, reads _ _ _ _ _ _ _ _ (hpre c)⟩
  have B : Ref.Reads I (m' ((c.tc : Thread Cert.ReferenceMxIdeal.nD Cert.ReferenceMxIdeal.τ).loc Cert.ReferenceMxIdeal.main_arg0)) (m' ((c.tc : Thread Cert.ReferenceMxIdeal.nD Cert.ReferenceMxIdeal.τ).loc Cert.ReferenceMxIdeal.main_arg1))
      (m' ((c.tc : Thread Cert.ReferenceMxIdeal.nD Cert.ReferenceMxIdeal.τ).loc Cert.ReferenceMxIdeal.main_arg2)) (m' ((c.tc : Thread Cert.ReferenceMxIdeal.nD Cert.ReferenceMxIdeal.τ).loc Cert.ReferenceMxIdeal.main_arg3))
      (m' ((c.tc : Thread Cert.ReferenceMxIdeal.nD Cert.ReferenceMxIdeal.τ).loc Cert.ReferenceMxIdeal.main_arg4)) (m' ((c.tc : Thread Cert.ReferenceMxIdeal.nD Cert.ReferenceMxIdeal.τ).loc Cert.ReferenceMxIdeal.main_arg5))
      (m' ((c.tc : Thread Cert.ReferenceMxIdeal.nD Cert.ReferenceMxIdeal.τ).loc Cert.ReferenceMxIdeal.main_arg6)) (m' ((c.tc : Thread Cert.ReferenceMxIdeal.nD Cert.ReferenceMxIdeal.τ).loc Cert.ReferenceMxIdeal.main_arg7)) := by
    rw [e0, e1, e2, e3, e4, e5, e6, e7]; exact A
  refine ⟨r0.trans ?_, r1.trans ?_, r2.trans ?_, r3.trans ?_, r4.trans ?_, r5.trans ?_, r6.trans ?_, rest⟩
  · rw [Cert.ReferenceMxIdeal.Read.val_main_v341_eq]
    exact ext2 _ _ fun r k => (ref_341 B r k).trans (res_10 A r k).symm
  · rw [Cert.ReferenceMxIdeal.Read.val_main_v327_eq]
    exact ext2 _ _ fun r k => (Ref.v327_val B (ix2 r k)).trans (res_11 A r k).symm
  · rw [Cert.ReferenceMxIdeal.Read.val_main_v342_eq]
    refine ext4 _ _ fun z h a b => ?_
    obtain rfl : z = 0 := Subsingleton.elim _ _
    exact (ref_342 B h a b).trans (res_29 A h a b).symm
  · rw [Cert.ReferenceMxIdeal.Read.val_main_v343_eq]
    refine ext2 _ _ fun z k => ?_
    obtain rfl : z = 0 := Subsingleton.elim _ _
    exact (ref_343 B k).trans (res_13 A k).symm
  · rw [Cert.ReferenceMxIdeal.Read.val_main_v344_eq]
    refine ext2 _ _ fun z k => ?_
    obtain rfl : z = 0 := Subsingleton.elim _ _
    exact (ref_344 B k).trans (res_14 A k).symm
  · rw [Cert.ReferenceMxIdeal.Read.val_main_v183_eq]
    exact ext3 _ _ fun h a b => (Ref.v183_val B (ix3 h a b)).trans (res_34 A h a b).symm
  · rw [Cert.ReferenceMxIdeal.Read.val_main_v345_eq]
    refine ext3 _ _ fun z h a => ?_
    obtain rfl : z = 0 := Subsingleton.elim _ _
    exact (ref_345 B h a).trans (res_33 A h a).symm

end Cert.Mx

end
-- ==== Proof.Ln.Spec.lean ====
/- A layer norm and its gradient as formulas over the real numbers, for 2048 rows of 1024 columns. -/
module

public import proofs.«01_k».proof.Proof.Mx.Spec
public import Idealize.ShloMosaic.Lib.Pointwise

@[expose] public section

noncomputable section

namespace Cert.Ln

open Idealize.ShloMosaic
open Cert.Mx.Spec (eps eps_pos)

/-- The factor of the residual branch. -/
def alpha : ℝ := 14107901 / 8388608

theorem bits_alpha : Ideal.ofBits .f32 0x3FD744FD#32 = (alpha : EReal) := by
  unfold alpha
  simp [Ideal.ofBits, Ideal.ieee, -EReal.coe_mul]
  try rw [← EReal.coe_mul]
  try norm_num
theorem bits_1024 : Ideal.ofBits .f32 0x44800000#32 = ((1024 : ℝ) : EReal) := by
  simp [Ideal.ofBits, Ideal.ieee, -EReal.coe_mul]
  try rw [← EReal.coe_mul]
  try norm_num
theorem bits_1024th : Ideal.ofBits .f32 0x3A800000#32 = ((1 / 1024 : ℝ) : EReal) := by
  simp [Ideal.ofBits, Ideal.ieee, -EReal.coe_mul]
  try rw [← EReal.coe_mul]
  try norm_num
theorem bits_2048th : Ideal.ofBits .f32 0x3A000000#32 = ((1 / 2048 : ℝ) : EReal) := by
  simp [Ideal.ofBits, Ideal.ieee, -EReal.coe_mul]
  try rw [← EReal.coe_mul]
  try norm_num

/-! ## Sums of real numbers read in the extended reals -/

/-- A sum whose terms are real is the sum over a range. -/
theorem total (n : ℕ) (X : Fin n → EReal) (f : ℕ → ℝ) (h : ∀ k, X k = (f k.val : EReal)) :
    ∑ k, X k = ((∑ k ∈ Finset.range n, f k : ℝ) : EReal) := by
  rw [Finset.sum_congr rfl fun k _ => h k, Cert.Common.coe_sum, Fin.sum_univ_eq_sum_range]
/-- The same after a zero. -/
theorem total0 (n : ℕ) (X : Fin n → EReal) (f : ℕ → ℝ) (h : ∀ k, X k = (f k.val : EReal)) :
    ((0 : ℝ) : EReal) + ∑ k, X k = ((∑ k ∈ Finset.range n, f k : ℝ) : EReal) := by
  rw [total n X f h, ← EReal.coe_add, zero_add]

/-- A sum of one term after a zero. -/
theorem total01 (X : Fin 1 → EReal) (v : ℝ) (h : ∀ k, X k = (v : EReal)) : ((0 : ℝ) : EReal) + ∑ k, X k = (v : EReal) := by
  rw [Fin.sum_univ_one, h, ← EReal.coe_add, zero_add]

/-- The place in a column of width one. -/
theorem col_place (a b : ℕ) (h : b < 1) : a * 1 + b = a := by omega
/-- The place in a single row. -/
theorem row_place (n a b : ℕ) (h : a < 1) : a * n + b = b := by
  rw [Nat.lt_one_iff.1 h, Nat.zero_mul, Nat.zero_add]

/-! ## The forward formulas: a row of the residual sum is `R r` -/

variable (R : ℕ → ℕ → ℝ) (G : ℕ → ℝ) (DY : ℕ → ℕ → ℝ)

/-- The mean of a row. -/
def mu (r : ℕ) : ℝ := (∑ j ∈ Finset.range 1024, R r j) / 1024
def cen (r k : ℕ) : ℝ := R r k - mu R r
/-- The variance of a row. -/
def var (r : ℕ) : ℝ := (∑ j ∈ Finset.range 1024, cen R r j * cen R r j) / 1024
def rs (r : ℕ) : ℝ := (Real.sqrt (var R r + eps))⁻¹
/-- The normalised residual. -/
def xh (r k : ℕ) : ℝ := cen R r k * rs R r

/-! ## The gradient: `DY` is the cotangent of the norm's result, `G` its gain -/

def dxh (r k : ℕ) : ℝ := DY r k * G k
def m1 (r : ℕ) : ℝ := (∑ j ∈ Finset.range 1024, dxh G DY r j) / 1024
def m2 (r : ℕ) : ℝ := (∑ j ∈ Finset.range 1024, dxh G DY r j * xh R r j) / 1024
/-- The gradient of the residual sum. -/
def dr (r k : ℕ) : ℝ := rs R r * ((dxh G DY r k - m1 G DY r) - xh R r k * m2 R G DY r)
/-- The gradient of the gain. -/
def dg (k : ℕ) : ℝ := ∑ r ∈ Finset.range 2048, DY r k * xh R r k
/-- The gradient of the bias. -/
def db (k : ℕ) : ℝ := ∑ r ∈ Finset.range 2048, DY r k

theorem pos (r : ℕ) : 0 < var R r + eps :=
  add_pos_of_nonneg_of_pos (div_nonneg (Finset.sum_nonneg fun j _ => mul_self_nonneg _) (by norm_num)) eps_pos
theorem rs_sq (r : ℕ) : rs R r * rs R r = (var R r + eps)⁻¹ := by
  unfold rs
  rw [← mul_inv, Real.mul_self_sqrt (pos R r).le]
theorem cen_sum (r : ℕ) : ∑ j ∈ Finset.range 1024, cen R r j = 0 := by
  unfold cen
  rw [Finset.sum_sub_distrib, Finset.sum_const, Finset.card_range, nsmul_eq_mul]
  unfold mu
  push_cast
  ring

/-- The gradient that reaches the variance, over the width of a row. -/
def qv (r : ℕ) : ℝ := (∑ j ∈ Finset.range 1024, cen R r j * dxh G DY r j) * (-(1 / 2) * (rs R r / (var R r + eps))) / 1024
/-- The gradient that reaches the mean, over the width of a row. -/
def qm (r : ℕ) : ℝ :=
  ((∑ j ∈ Finset.range 1024, -(dxh G DY r j * rs R r)) + ∑ j ∈ Finset.range 1024, -(qv R G DY r * (2 * cen R r j))) / 1024

/-- Through the value, the variance and the mean, or in one form: the same gradient. -/
theorem dr_eq (r k : ℕ) : dxh G DY r k * rs R r + qv R G DY r * (2 * cen R r k) + qm R G DY r = dr R G DY r k := by
  have e1 : (∑ j ∈ Finset.range 1024, dxh G DY r j * xh R r j) = (∑ j ∈ Finset.range 1024, cen R r j * dxh G DY r j) * rs R r := by
    rw [Finset.sum_mul]
    exact Finset.sum_congr rfl fun j _ => by unfold xh; ring
  have e2 : (∑ j ∈ Finset.range 1024, -(dxh G DY r j * rs R r)) = -((∑ j ∈ Finset.range 1024, dxh G DY r j) * rs R r) := by
    rw [Finset.sum_neg_distrib, Finset.sum_mul]
  have e3 : (∑ j ∈ Finset.range 1024, -(qv R G DY r * (2 * cen R r j))) = 0 := by
    rw [Finset.sum_neg_distrib, Finset.sum_congr rfl (g := fun j => qv R G DY r * 2 * cen R r j) (fun j _ => by ring), ← Finset.mul_sum,
      cen_sum, mul_zero, neg_zero]
  unfold dr m1 m2 qm
  rw [e1, e2, e3]
  unfold qv xh
  rw [div_eq_mul_inv (rs R r), ← rs_sq]
  ring

/-- The error against a target `T`, of a norm with the bias `B`. -/
def err (B : ℕ → ℝ) (T : ℕ → ℕ → ℝ) (r k : ℕ) : ℝ := xh R r k * G k + B k - T r k
/-- The cotangent of the norm's result under the mean squared error: the error over the width. -/
def dy (B : ℕ → ℝ) (T : ℕ → ℕ → ℝ) (r k : ℕ) : ℝ := err R G B T r k * (1 / 1024)

/-- A sum over all rows, taken block by block. -/
theorem rows_blocks (n b : ℕ) (f : ℕ → ℝ) : ∑ p ∈ Finset.range n, ∑ r ∈ Finset.range b, f (b * p + r) = ∑ r ∈ Finset.range (b * n), f r := by
  induction n with
  | zero => simp
  | succ n ih => rw [Finset.sum_range_succ, ih, Nat.mul_succ, Finset.sum_range_add]

/-- The residual sum: the residual branch by its factor, and a product of two matrices. -/
def resid (K : ℕ) (H A W : ℕ → ℕ → ℝ) (r k : ℕ) : ℝ := alpha * H r k + ∑ j ∈ Finset.range K, A r j * W j k

end Cert.Ln

end
-- ==== Proof.Ls.Forward.lean ====
/- The forward call under the loss (a product, the residual sum and a layer norm): what it leaves in its three arrays, at real entries. -/
module

public import proofs.«01_k».proof.Proof.Gen.KernelLsIdeal.Frame
public import proofs.«01_k».proof.Proof.Ln.Spec
public import Idealize.ShloMosaic.Lib.Pipeline.ValueKit

@[expose] public section

set_option maxRecDepth 16384

noncomputable section

namespace Cert.KernelLsIdeal.Hand

open Idealize.ShloMosaic Idealize.ShloMosaic.TcCoe Idealize.SL.Sem
open Idealize.ShloMosaic.Pipeline (Dat)
open Cert.KernelLsIdeal.Gen
open Cert.Ln
open Cert.Mx.Spec (eps bits_eps rsqrt_coe div_coe)

section Half

variable (H A W : ℕ → ℕ → ℝ) (off : ℕ)
variable (v0 : Vec Ideal S256x2816 .bf16) (v2 : Vec Ideal S2816x1024 .bf16) (v5 : Vec Ideal S256x1024 .f32) (v6 v10 : Vec Ideal S1x1x1024 .f32)
variable (h0 : ∀ r k, v0 (ix2 r k) = (A (off + r.val) k.val : EReal)) (h2 : ∀ r k, v2 (ix2 r k) = (W r.val k.val : EReal))
variable (h5 : ∀ r k, v5 (ix2 r k) = (H (off + r.val) k.val : EReal)) (h6 : ∀ k, v6 (ix3 0 0 k) = ((1 : ℝ) : EReal)) (h10 : ∀ k, v10 (ix3 0 0 k) = ((0 : ℝ) : EReal))

include h0 h2 h5 h6 h10

/-- The residual sum of a half block, with its mean taken off. -/
theorem pay4_val (r : Fin 256) (l : Fin 1024) : k0_pay4 v0 v2 v5 v6 v10 (ix2 r l) = (cen (resid 2816 H A W) (off + r.val) l.val : EReal) := by
  have hr : ∀ x : Fin 1024, Ideal.ofBits FTy.f32 0x3FD744FD#32 * (v5 (ix2 r x) * v6 (ix3 0 0 x) + v10 (ix3 0 0 x)) + ∑ j, v0 (ix2 r j) * v2 (ix2 j x)
      = (resid 2816 H A W (off + r.val) x.val : EReal) := fun x => by
    rw [h5, h6, h10, bits_alpha, ← EReal.coe_mul, mul_one, ← EReal.coe_add, add_zero, ← EReal.coe_mul,
      total 2816 _ (fun j => A (off + r.val) j * W j x.val) (fun j => by rw [h0, h2, ← EReal.coe_mul]), ← EReal.coe_add]
    rfl
  pointwise [k0_pay4]
  simp only [hr]
  rw [total 1024 _ (fun j => resid 2816 H A W (off + r.val) j) (fun _ => rfl), bits_1024, div_coe _ _ (by norm_num), ← EReal.coe_sub]
  rfl

/-- The reciprocal root of a half block's variance. -/
theorem pay5_val (r : Fin 256) : k0_pay5 v0 v2 v5 v6 v10 (ix2 r 0) = (rs (resid 2816 H A W) (off + r.val) : EReal) := by
  pointwise [k0_pay5]
  rw [total 1024 _ (fun j => cen (resid 2816 H A W) (off + r.val) j * cen (resid 2816 H A W) (off + r.val) j)
      (fun j => by rw [pay4_val H A W off v0 v2 v5 v6 v10 h0 h2 h5 h6 h10, ← EReal.coe_mul]),
    bits_1024, div_coe _ _ (by norm_num), bits_eps, ← EReal.coe_add]
  exact rsqrt_coe _ (pos _ _)

/-- The normalised residual of a half block. -/
theorem pay6_val (r : Fin 256) (l : Fin 1024) : k0_pay6 v0 v2 v5 v6 v10 (ix2 r l) = (xh (resid 2816 H A W) (off + r.val) l.val : EReal) := by
  pointwise [k0_pay6]
  rw [pay4_val H A W off v0 v2 v5 v6 v10 h0 h2 h5 h6 h10, pay5_val H A W off v0 v2 v5 v6 v10 h0 h2 h5 h6 h10, ← EReal.coe_mul]
  rfl

end Half

/-- The windows' block indices at every point of the forward call. -/
theorem idx0 : ∀ t : Fin cfg0.N, win0_0.index t = ![t.val, 0] ∧ win0_1.index t = ![0, 0] ∧ win0_2.index t = ![t.val, 0]
    ∧ win0_3.index t = ![0, 0, 0] ∧ win0_4.index t = ![0, 0, 0] ∧ win0_5.index t = ![0, 0, 0] ∧ win0_6.index t = ![0, 0, 0]
    ∧ win0_7.index t = ![t.val, 0] ∧ win0_8.index t = ![t.val, 0] ∧ win0_9.index t = ![t.val, 0] :=
  (by decide +kernel : ∀ t : Fin grid0.N, _)

section Call

variable (H A W : ℕ → ℕ → ℝ) (V : (c : Dev nD) → (b : Ref sig .tc) → Buf (Elt Ideal) ((c : Thread nD τ).loc b)) (c : Dev nD)
variable (hA : ∀ r k, (V c main_v4 : FVec Ideal S2048x2816 .bf16) (ix2 r k) = (A r.val k.val : EReal))
variable (hW : ∀ r k, (V c main_v5 : FVec Ideal S2816x1024 .bf16) (ix2 r k) = (W r.val k.val : EReal))
variable (hH : ∀ r k, (V c main_arg2 : FVec Ideal S2048x1024 .f32) (ix2 r k) = (H r.val k.val : EReal))
variable (hO : ∀ k, (V c main_v0 : FVec Ideal S1x1x1024 .f32) (ix3 0 0 k) = ((1 : ℝ) : EReal))
variable (hZ : ∀ k, (V c main_v1 : FVec Ideal S1x1x1024 .f32) (ix3 0 0 k) = ((0 : ℝ) : EReal))
variable (t : Fin cfg0.N)

include hA in
theorem ld0_lo (r : Fin 256) (k : Fin 2816) : View.ld (iblk0 V c 0 t) r0_0 (ix2 r k) = (A (512 * t.val + r.val) k.val : EReal) := by
  refine Eq.trans ?_ (hA ⟨512 * t.val + r.val, by have := t.isLt; have e : cfg0.N = 4 := (by decide); omega⟩ k)
  pointwise []
  blk_point [iblk0, idx0 t]

include hA in
theorem ld0_hi (r : Fin 256) (k : Fin 2816) : View.ld (iblk0 V c 0 t) r0_5 (ix2 r k) = (A (512 * t.val + 256 + r.val) k.val : EReal) := by
  refine Eq.trans ?_ (hA ⟨512 * t.val + 256 + r.val, by have := t.isLt; have e : cfg0.N = 4 := (by decide); omega⟩ k)
  pointwise []
  blk_point [iblk0, idx0 t]

include hW in
theorem ld1 (r : Fin 2816) (k : Fin 1024) : View.ld (iblk0 V c 1 t) r0_1 (ix2 r k) = (W r.val k.val : EReal) := by
  refine Eq.trans ?_ (hW r k)
  pointwise []
  blk_point [iblk0, idx0 t]

include hH in
theorem ld2_lo (r : Fin 256) (k : Fin 1024) : View.ld (iblk0 V c 2 t) r0_2 (ix2 r k) = (H (512 * t.val + r.val) k.val : EReal) := by
  refine Eq.trans ?_ (hH ⟨512 * t.val + r.val, by have := t.isLt; have e : cfg0.N = 4 := (by decide); omega⟩ k)
  pointwise []
  blk_point [iblk0, idx0 t]

include hH in
theorem ld2_hi (r : Fin 256) (k : Fin 1024) : View.ld (iblk0 V c 2 t) r0_6 (ix2 r k) = (H (512 * t.val + 256 + r.val) k.val : EReal) := by
  refine Eq.trans ?_ (hH ⟨512 * t.val + 256 + r.val, by have := t.isLt; have e : cfg0.N = 4 := (by decide); omega⟩ k)
  pointwise []
  blk_point [iblk0, idx0 t]

include hO in
theorem ld3 (k : Fin 1024) : View.ld (iblk0 V c 3 t) r0_3 (ix3 0 0 k) = ((1 : ℝ) : EReal) := by
  refine Eq.trans ?_ (hO k)
  pointwise []
  blk_point [iblk0, idx0 t]

include hZ in
theorem ld4 (k : Fin 1024) : View.ld (iblk0 V c 4 t) r0_3 (ix3 0 0 k) = ((0 : ℝ) : EReal) := by
  refine Eq.trans ?_ (hZ k)
  pointwise []
  blk_point [iblk0, idx0 t]

include hA hW hH hO hZ

/-- The forward call leaves the normalised residual in its first result. -/
theorem final0_7 : (dat0 V c).arrAt 7 cfg0.N = fun y : S2048x1024.Idx => (xh (resid 2816 H A W) (y 0).val (y 1).val : EReal) := by
  refine (dat0 V c).arrAt_eq_of_covers 7 _ (by decide +kernel) fun t _ y => ?_
  blk_simp
  rw [after0_7]
  unfold_out out0_7
  canon_tiles x h
  · rw [eq_ix2 x]
    refine (pay6_val H A W (512 * t.val + 256) _ _ _ _ _ (ld0_hi A V c hA t) (ld1 W V c hW t) (ld2_hi H V c hH t) (ld3 V c hO t) (ld4 V c hZ t) _ _).trans ?_
    simp only [idx0 t]
    congr 2
    · show _ = t.val * 512 + _; omega
    · show _ = 0 * 1024 + _; omega
  · rw [eq_ix2 x]
    refine (pay6_val H A W (512 * t.val) _ _ _ _ _ (ld0_lo A V c hA t) (ld1 W V c hW t) (ld2_lo H V c hH t) (ld3 V c hO t) (ld4 V c hZ t) _ _).trans ?_
    simp only [idx0 t]
    congr 2
    · show _ = t.val * 512 + _; omega
    · show _ = 0 * 1024 + _; omega

/-- The forward call leaves the rows' reciprocal roots in its second result. -/
theorem final0_8 : (dat0 V c).arrAt 8 cfg0.N = fun y : S2048x1.Idx => (rs (resid 2816 H A W) (y 0).val : EReal) := by
  refine (dat0 V c).arrAt_eq_of_covers 8 _ (by decide +kernel) fun t _ y => ?_
  blk_simp
  rw [after0_8]
  unfold_out out0_8
  canon_tiles x h
  · rw [eq_ix2 x, show x 1 = (0 : Fin 1) from Fin.ext (Nat.lt_one_iff.1 (x 1).isLt)]
    refine (pay5_val H A W (512 * t.val + 256) _ _ _ _ _ (ld0_hi A V c hA t) (ld1 W V c hW t) (ld2_hi H V c hH t) (ld3 V c hO t) (ld4 V c hZ t) _).trans ?_
    simp only [idx0 t]
    congr 2
    show _ = t.val * 512 + _; omega
  · rw [eq_ix2 x, show x 1 = (0 : Fin 1) from Fin.ext (Nat.lt_one_iff.1 (x 1).isLt)]
    refine (pay5_val H A W (512 * t.val) _ _ _ _ _ (ld0_lo A V c hA t) (ld1 W V c hW t) (ld2_lo H V c hH t) (ld3 V c hO t) (ld4 V c hZ t) _).trans ?_
    simp only [idx0 t]
    congr 2
    show _ = t.val * 512 + _; omega

section Result

variable (B : ℕ → EReal) (G : ℕ → ℝ)
variable (hg : ∀ k, (V c main_v2 : FVec Ideal S1x1x1024 .f32) (ix3 0 0 k) = (G k.val : EReal))
variable (hb : ∀ k, (V c main_v3 : FVec Ideal S1x1x1024 .f32) (ix3 0 0 k) = B k.val)

include hg in
omit hA hW hH hO hZ in
theorem ld5 (t : Fin cfg0.N) (k : Fin 1024) : View.ld (iblk0 V c 5 t) r0_3 (ix3 0 0 k) = (G k.val : EReal) := by
  refine Eq.trans ?_ (hg k)
  pointwise []
  blk_point [iblk0, idx0 t]

include hb in
omit hA hW hH hO hZ in
theorem ld6 (t : Fin cfg0.N) (k : Fin 1024) : View.ld (iblk0 V c 6 t) r0_3 (ix3 0 0 k) = B k.val := by
  refine Eq.trans ?_ (hb k)
  pointwise []
  blk_point [iblk0, idx0 t]

omit hA hW hH hO hZ in
/-- The norm's result in a half block. -/
theorem pay7_val (v32 : FVec Ideal S256x1024 .f32) (v35 v39 : Vec Ideal S1x1x1024 .f32) (r : Fin 256) (l : Fin 1024) (x : ℝ)
    (h : v32 (ix2 r l) = (x : EReal)) (h35 : v35 (ix3 0 0 l) = (G l.val : EReal)) (h39 : v39 (ix3 0 0 l) = B l.val) :
    k0_pay7 v32 v35 v39 (ix2 r l) = ((x * G l.val : ℝ) : EReal) + B l.val := by
  pointwise [k0_pay7]
  rw [h, h35, h39, ← EReal.coe_mul]

include hg hb in
/-- The forward call leaves the norm's result in its third result. -/
theorem final0_9 : (dat0 V c).arrAt 9 cfg0.N = fun y : S2048x1024.Idx =>
    ((xh (resid 2816 H A W) (y 0).val (y 1).val * G (y 1).val : ℝ) : EReal) + B (y 1).val := by
  refine (dat0 V c).arrAt_eq_of_covers 9 _ (by decide +kernel) fun t _ y => ?_
  blk_simp
  rw [after0_9]
  unfold_out out0_9
  canon_tiles x h
  · rw [eq_ix2 x]
    refine (pay7_val B G _ _ _ _ _ _ (pay6_val H A W (512 * t.val + 256) _ _ _ _ _ (ld0_hi A V c hA t) (ld1 W V c hW t) (ld2_hi H V c hH t) (ld3 V c hO t) (ld4 V c hZ t) _ _)
      (ld5 V c G hg t _) (ld6 V c B hb t _)).trans ?_
    simp only [idx0 t]
    rw [show (![t.val, 0] : Fin 2 → ℕ) 0 * 512 + (y 0).val = 512 * t.val + 256 + (x 0).val from by show t.val * 512 + _ = _; omega,
      show (![t.val, 0] : Fin 2 → ℕ) 1 * 1024 + (y 1).val = (x 1).val from by show 0 * 1024 + _ = _; omega]
  · rw [eq_ix2 x]
    refine (pay7_val B G _ _ _ _ _ _ (pay6_val H A W (512 * t.val) _ _ _ _ _ (ld0_lo A V c hA t) (ld1 W V c hW t) (ld2_lo H V c hH t) (ld3 V c hO t) (ld4 V c hZ t) _ _)
      (ld5 V c G hg t _) (ld6 V c B hb t _)).trans ?_
    simp only [idx0 t]
    rw [show (![t.val, 0] : Fin 2 → ℕ) 0 * 512 + (y 0).val = 512 * t.val + (x 0).val from by show t.val * 512 + _ = _; omega,
      show (![t.val, 0] : Fin 2 → ℕ) 1 * 1024 + (y 1).val = (x 1).val from by show 0 * 1024 + _ = _; omega]

end Result
end Call

end Cert.KernelLsIdeal.Hand

end
-- ==== Proof.Ls.Backward.lean ====
/- The loss call (the squared error, its gradient and the layer norm's): what it leaves in its five arrays, at real entries. -/
module

public import proofs.«01_k».proof.Proof.Gen.KernelLsIdeal.Frame
public import proofs.«01_k».proof.Proof.Ln.Spec
public import Idealize.ShloMosaic.Lib.Pipeline.ValueKit

@[expose] public section

set_option maxRecDepth 16384

noncomputable section

namespace Cert.KernelLsIdeal.Hand

open Idealize.ShloMosaic Idealize.ShloMosaic.TcCoe Idealize.SL.Sem
open Idealize.ShloMosaic.Pipeline (Dat)
open Cert.KernelLsIdeal.Gen
open Cert.Ln
open Cert.Mx.Spec (eps bits_eps rsqrt_coe div_coe bits_zero)

section Half

variable (R : ℕ → ℕ → ℝ) (G B : ℕ → ℝ) (T : ℕ → ℕ → ℝ) (off : ℕ)

section Err
variable (v0 : Vec Ideal S256x1024 .f32) (v2 v6 : Vec Ideal S1x1x1024 .f32) (v10 : Vec Ideal S256x1024 .f32)
variable (hX : ∀ r k, v0 (ix2 r k) = (xh R (off + r.val) k.val : EReal)) (hG : ∀ k, v2 (ix3 0 0 k) = (G k.val : EReal))
variable (hB : ∀ k, v6 (ix3 0 0 k) = (B k.val : EReal)) (hT : ∀ r k, v10 (ix2 r k) = (T (off + r.val) k.val : EReal))
include hX hG hB hT

theorem pay6_err (r : Fin 256) (l : Fin 1024) : k1_pay6 v0 v2 v6 v10 (ix2 r l) = (err R G B T (off + r.val) l.val : EReal) := by
  pointwise [k1_pay6, k1_pay5]
  rw [hX, hG, hB, hT, ← EReal.coe_mul, ← EReal.coe_add, ← EReal.coe_sub]
  rfl

theorem pay7_dy (r : Fin 256) (l : Fin 1024) : k1_pay7 v0 v2 v6 v10 (ix2 r l) = (dy R G B T (off + r.val) l.val : EReal) := by
  pointwise [k1_pay7]
  rw [pay6_err R G B T off v0 v2 v6 v10 hX hG hB hT, bits_1024th, ← EReal.coe_mul]
  rfl

theorem pay11_loss (v22 : Vec Ideal S8x128 .f32) (i : S8x128.Idx) : k1_pay11 v0 v2 v6 v10 v22 i
    = v22 i + (((∑ r ∈ Finset.range 256, ∑ l ∈ Finset.range 1024, err R G B T (off + r) l * err R G B T (off + r) l) * (1 / 2048) : ℝ) : EReal) := by
  rw [eq_ix2 i]
  pointwise [k1_pay11]
  rw [total 256 _ (fun r => ∑ l ∈ Finset.range 1024, err R G B T (off + r) l * err R G B T (off + r) l) fun r =>
    total 1024 _ (fun l => err R G B T (off + r.val) l * err R G B T (off + r.val) l) fun l => by
      rw [pay6_err R G B T off v0 v2 v6 v10 hX hG hB hT, ← EReal.coe_mul], bits_2048th, ← EReal.coe_mul]
end Err

theorem pay8_zero (j : S8x128.Idx) : k1_pay8 (F := Ideal) j = (0 : EReal) := by pointwise [k1_pay8]
theorem pay9_zero (j : S1x1024.Idx) : k1_pay9 (F := Ideal) j = (0 : EReal) := by pointwise [k1_pay9]
theorem pay10_zero (j : S1x1024.Idx) : k1_pay10 (F := Ideal) j = (0 : EReal) := by pointwise [k1_pay10]

/-- A step of the gain's accumulator. -/
theorem pay1_dg (v0 : Vec Ideal S256x1024 .f32) (v2 v6 : Vec Ideal S1x1x1024 .f32) (v10 : Vec Ideal S256x1024 .f32) (acc : FVec Ideal S1x1024 .f32)
    (hX : ∀ r k, v0 (ix2 r k) = (xh R (off + r.val) k.val : EReal)) (hG : ∀ k, v2 (ix3 0 0 k) = (G k.val : EReal))
    (hB : ∀ k, v6 (ix3 0 0 k) = (B k.val : EReal)) (hT : ∀ r k, v10 (ix2 r k) = (T (off + r.val) k.val : EReal)) (i : S1x1024.Idx) :
    k1_pay1 (k1_pay12 acc) (k1_pay13 v0 v2 v6 v10) i
      = acc i + ((∑ r ∈ Finset.range 256, dy R G B T (off + r) (i 1).val * xh R (off + r) (i 1).val : ℝ) : EReal) := by
  rw [eq_ix2 i]
  pointwise [k1_pay1, k1_pay12, k1_pay13, k1_pay5]
  rw [total 256 _ (fun r => dy R G B T (off + r) (i 1).val * xh R (off + r) (i 1).val) fun r =>
    (congrArg₂ (· * ·) (pay7_dy R G B T off v0 v2 v6 v10 hX hG hB hT r _) (hX r _)).trans (EReal.coe_mul _ _).symm]

/-- A step of the bias's accumulator. -/
theorem pay2_db (v13 : FVec Ideal S256x1024 .f32) (acc : Vec Ideal S1x1024 .f32) (DY : ℕ → ℕ → ℝ)
    (h : ∀ r k, v13 (ix2 r k) = (DY (off + r.val) k.val : EReal)) (i : S1x1024.Idx) :
    k1_pay2 v13 acc i = acc i + ((∑ r ∈ Finset.range 256, DY (off + r) (i 1).val : ℝ) : EReal) := by
  rw [eq_ix2 i]
  pointwise [k1_pay2]
  rw [total 256 _ (fun r => DY (off + r) (i 1).val) fun r => h r _]

/-- The gradient of the residual sum in a block. -/
theorem pay3_dr (v1 v13 : FVec Ideal S256x1024 .f32) (v43 : Vec Ideal S1x1x1024 .f32) (v56 : Vec Ideal S256x1 .f32) (DY : ℕ → ℕ → ℝ)
    (hX : ∀ r k, v1 (ix2 r k) = (xh R (off + r.val) k.val : EReal)) (h : ∀ r k, v13 (ix2 r k) = (DY (off + r.val) k.val : EReal))
    (hG : ∀ k, v43 (ix3 0 0 k) = (G k.val : EReal)) (hS : ∀ r, v56 (ix2 r 0) = (rs R (off + r.val) : EReal)) (r : Fin 256) (l : Fin 1024) :
    k1_pay3 v1 v13 v43 v56 (ix2 r l) = (dr R G DY (off + r.val) l.val : EReal) := by
  pointwise [k1_pay3]
  simp only [hX, h, hG, hS, ← EReal.coe_mul]
  rw [total 1024 _ (fun k => DY (off + r.val) k * G k) (fun _ => rfl),
    total 1024 _ (fun k => DY (off + r.val) k * G k * xh R (off + r.val) k) (fun _ => rfl), bits_1024,
    div_coe _ _ (by norm_num), div_coe _ _ (by norm_num)]
  simp only [← EReal.coe_mul, ← EReal.coe_sub]
  rfl

end Half

/-- The windows' block indices at every point of the loss call. -/
theorem idx1 : ∀ t : Fin cfg1.N, win1_0.index t = ![t.val, 0] ∧ win1_1.index t = ![t.val, 0] ∧ win1_2.index t = ![0, 0, 0]
    ∧ win1_3.index t = ![0, 0, 0] ∧ win1_4.index t = ![t.val, 0] ∧ win1_5.index t = ![0, 0] ∧ win1_6.index t = ![t.val, 0]
    ∧ win1_7.index t = ![t.val, 0] ∧ win1_8.index t = ![0, 0] ∧ win1_9.index t = ![0, 0] :=
  (by decide +kernel : ∀ t : Fin grid1.N, _)

theorem N1 : cfg1.N = 8 := by decide

/-- The last point of the grid. -/
def lastPt : Fin cfg1.N := ⟨7, by decide⟩

section Call

variable (R : ℕ → ℕ → ℝ) (G B : ℕ → ℝ) (T : ℕ → ℕ → ℝ)
variable (V : (c : Dev nD) → (b : Ref sig .tc) → Buf (Elt Ideal) ((c : Thread nD τ).loc b)) (c : Dev nD)
variable (hX : ∀ r k, (V c main_v6_0 : FVec Ideal S2048x1024 .f32) (ix2 r k) = (xh R r.val k.val : EReal))
variable (hS : ∀ r, (V c main_v6_1 : FVec Ideal S2048x1 .f32) (ix2 r 0) = (rs R r.val : EReal))
variable (hG : ∀ k, (V c main_v2 : FVec Ideal S1x1x1024 .f32) (ix3 0 0 k) = (G k.val : EReal))
variable (hB : ∀ k, (V c main_v3 : FVec Ideal S1x1x1024 .f32) (ix3 0 0 k) = (B k.val : EReal))
variable (hT : ∀ r k, (V c main_arg5 : FVec Ideal S2048x1024 .f32) (ix2 r k) = (T r.val k.val : EReal))
variable (t : Fin cfg1.N)

include hX in
theorem blk0 (r : Fin 256) (k : Fin 1024) : iblk1 V c 0 t (ix2 r k) = (xh R (256 * t.val + r.val) k.val : EReal) := by
  refine Eq.trans ?_ (hX ⟨256 * t.val + r.val, by have := t.isLt; have e := N1; omega⟩ k)
  blk_point [iblk1, idx1 t]

include hS in
theorem blk1 (r : Fin 256) : iblk1 V c 1 t (ix2 r 0) = (rs R (256 * t.val + r.val) : EReal) := by
  refine Eq.trans ?_ (hS ⟨256 * t.val + r.val, by have := t.isLt; have e := N1; omega⟩)
  blk_point [iblk1, idx1 t]

include hG in
theorem blk2 (k : Fin 1024) : iblk1 V c 2 t (ix3 0 0 k) = (G k.val : EReal) := by
  refine Eq.trans ?_ (hG k)
  blk_point [iblk1, idx1 t]

include hB in
theorem blk3 (k : Fin 1024) : iblk1 V c 3 t (ix3 0 0 k) = (B k.val : EReal) := by
  refine Eq.trans ?_ (hB k)
  blk_point [iblk1, idx1 t]

include hT in
theorem blk4 (r : Fin 256) (k : Fin 1024) : iblk1 V c 4 t (ix2 r k) = (T (256 * t.val + r.val) k.val : EReal) := by
  refine Eq.trans ?_ (hT ⟨256 * t.val + r.val, by have := t.isLt; have e := N1; omega⟩ k)
  blk_point [iblk1, idx1 t]

include hX hG hB hT

/-- The loss call leaves the mean squared error in every entry of its first result. -/
theorem final1_5 : (dat1 V c).arrAt 5 cfg1.N = fun _ : S8x128.Idx =>
    (((∑ r ∈ Finset.range 2048, ∑ l ∈ Finset.range 1024, err R G B T r l * err R G B T r l) * (1 / 2048) : ℝ) : EReal) := by
  refine (dat1 V c).arrAt_eq_of_after_last 5 lastPt (by decide +kernel) _ fun j => ?_
  blk_simp
  rw [after1_5, Pipeline.eq_sum_fin_of_reset_step_apply_last (fun n h => (outsAt1 V c n h).1) 8 (fun _ => (0 : EReal))
    (fun t _ => (((∑ r ∈ Finset.range 256, ∑ l ∈ Finset.range 1024, err R G B T (256 * t.val + r) l * err R G B T (256 * t.val + r) l) * (1 / 2048) : ℝ) : EReal))
    (fun t h j => by
      rw [outsAt1_A V c t h]; frame_out
      rw [pay11_loss R G B T _ _ _ _ _ (blk0 R V c hX t) (blk2 G V c hG t) (blk3 B V c hB t) (blk4 T V c hT t)]
      congr 1
      exact pay8_zero j)
    (fun t h j => by
      rw [outsAt1_B V c t h]; frame_out
      rw [pay11_loss R G B T _ _ _ _ _ (blk0 R V c hX t) (blk2 G V c hG t) (blk3 B V c hB t) (blk4 T V c hT t)])
    (le_of_eq N1) lastPt rfl j, zero_add,
    total cfg1.N _ (fun p => (∑ r ∈ Finset.range 256, ∑ l ∈ Finset.range 1024, err R G B T (256 * p + r) l * err R G B T (256 * p + r) l) * (1 / 2048)) (fun _ => rfl),
    N1, ← Finset.sum_mul, rows_blocks 8 256 (fun r => ∑ l ∈ Finset.range 1024, err R G B T r l * err R G B T r l)]

/-- The gain's gradient. -/
theorem final1_8 : (dat1 V c).arrAt 8 cfg1.N = fun y : S1x1024.Idx => (dg R (dy R G B T) (y 1).val : EReal) := by
  refine (dat1 V c).arrAt_eq_of_after_last 8 lastPt (by decide +kernel) _ fun j => ?_
  blk_simp
  rw [after1_8, Pipeline.eq_sum_fin_of_reset_step_apply_last (fun n h => (outsAt1 V c n h).2.2.2.1) 8 (fun _ => (0 : EReal))
    (fun t (j : S1x1024.Idx) => ((∑ r ∈ Finset.range 256, dy R G B T (256 * t.val + r) (j 1).val * xh R (256 * t.val + r) (j 1).val : ℝ) : EReal))
    (fun t h j => by
      rw [outsAt1_A V c t h]; frame_out
      rw [pay1_dg R G B T _ _ _ _ _ _ (blk0 R V c hX t) (blk2 G V c hG t) (blk3 B V c hB t) (blk4 T V c hT t)]
      congr 1
      exact pay9_zero j)
    (fun t h j => by
      rw [outsAt1_B V c t h]; frame_out
      rw [pay1_dg R G B T _ _ _ _ _ _ (blk0 R V c hX t) (blk2 G V c hG t) (blk3 B V c hB t) (blk4 T V c hT t)])
    (le_of_eq N1) lastPt rfl j, zero_add,
    total cfg1.N _ (fun p => ∑ r ∈ Finset.range 256, dy R G B T (256 * p + r) (j 1).val * xh R (256 * p + r) (j 1).val) (fun _ => rfl),
    N1, rows_blocks 8 256 (fun r => dy R G B T r (j 1).val * xh R r (j 1).val)]
  rfl

/-- The bias's gradient. -/
theorem final1_9 : (dat1 V c).arrAt 9 cfg1.N = fun y : S1x1024.Idx => (db (dy R G B T) (y 1).val : EReal) := by
  refine (dat1 V c).arrAt_eq_of_after_last 9 lastPt (by decide +kernel) _ fun j => ?_
  blk_simp
  rw [after1_9, Pipeline.eq_sum_fin_of_reset_step_apply_last (fun n h => (outsAt1 V c n h).2.2.2.2) 8 (fun _ => (0 : EReal))
    (fun t (j : S1x1024.Idx) => ((∑ r ∈ Finset.range 256, dy R G B T (256 * t.val + r) (j 1).val : ℝ) : EReal))
    (fun t h j => by
      rw [outsAt1_A V c t h]; frame_out
      rw [pay2_db _ _ _ (dy R G B T) (pay7_dy R G B T _ _ _ _ _ (blk0 R V c hX t) (blk2 G V c hG t) (blk3 B V c hB t) (blk4 T V c hT t))]
      congr 1
      exact pay10_zero j)
    (fun t h j => by
      rw [outsAt1_B V c t h]; frame_out
      rw [pay2_db _ _ _ (dy R G B T) (pay7_dy R G B T _ _ _ _ _ (blk0 R V c hX t) (blk2 G V c hG t) (blk3 B V c hB t) (blk4 T V c hT t))])
    (le_of_eq N1) lastPt rfl j, zero_add,
    total cfg1.N _ (fun p => ∑ r ∈ Finset.range 256, dy R G B T (256 * p + r) (j 1).val) (fun _ => rfl),
    N1, rows_blocks 8 256 (fun r => dy R G B T r (j 1).val)]
  rfl

include hS

/-- The gradient of the residual sum at a point of the grid. -/
theorem point_dr (y : S256x1024.Idx) : k1_pay3 (k1_pay5 (iblk1 V c 0 t)) (k1_pay7 (iblk1 V c 0 t) (iblk1 V c 2 t) (iblk1 V c 3 t) (iblk1 V c 4 t)) (iblk1 V c 2 t)
    (iblk1 V c 1 t) y = (dr R G (dy R G B T) (256 * t.val + (y 0).val) (y 1).val : EReal) := by
  rw [eq_ix2 y]
  exact pay3_dr R G (256 * t.val) _ _ _ _ (dy R G B T) (fun r k => by pointwise [k1_pay5]; exact blk0 R V c hX t r k)
    (pay7_dy R G B T _ _ _ _ _ (blk0 R V c hX t) (blk2 G V c hG t) (blk3 B V c hB t) (blk4 T V c hT t)) (blk2 G V c hG t) (blk1 R V c hS t) _ _

/-- The gradient of the residual sum. -/
theorem final1_6 : (dat1 V c).arrAt 6 cfg1.N = fun y : S2048x1024.Idx => (dr R G (dy R G B T) (y 0).val (y 1).val : EReal) := by
  refine (dat1 V c).arrAt_eq_of_covers 6 _ (by decide +kernel) fun t _ y => ?_
  blk_simp
  rw [after1_6]
  by_cases h : t.val % 8 = 0
  · rw [outsAt1_A V c t h]; frame_out
    refine (point_dr R G B T V c hX hS hG hB hT t y).trans ?_
    simp only [idx1 t]
    congr 2
    · show _ = t.val * 256 + _; omega
    · show _ = 0 * 1024 + _; omega
  · rw [outsAt1_B V c t h]; frame_out
    refine (point_dr R G B T V c hX hS hG hB hT t y).trans ?_
    simp only [idx1 t]
    congr 2
    · show _ = t.val * 256 + _; omega
    · show _ = 0 * 1024 + _; omega

/-- The same in bf16. -/
theorem final1_7 : (dat1 V c).arrAt 7 cfg1.N = fun y : S2048x1024.Idx => (dr R G (dy R G B T) (y 0).val (y 1).val : EReal) := by
  refine (dat1 V c).arrAt_eq_of_covers 7 _ (by decide +kernel) fun t _ y => ?_
  blk_simp
  rw [after1_7]
  by_cases h : t.val % 8 = 0
  · rw [outsAt1_A V c t h]; frame_out
    refine (point_dr R G B T V c hX hS hG hB hT t y).trans ?_
    simp only [idx1 t]
    congr 2
    · show _ = t.val * 256 + _; omega
    · show _ = 0 * 1024 + _; omega
  · rw [outsAt1_B V c t h]; frame_out
    refine (point_dr R G B T V c hX hS hG hB hT t y).trans ?_
    simp only [idx1 t]
    congr 2
    · show _ = t.val * 256 + _; omega
    · show _ = 0 * 1024 + _; omega

end Call

end Cert.KernelLsIdeal.Hand

end
-- ==== Proof.Ls.Run.lean ====
/- The loss pair's run: what every buffer of the device holds when both calls have returned. -/
module

public import proofs.«01_k».proof.Proof.Gen.KernelLsIdeal.Frame

@[expose] public section

set_option maxRecDepth 16384

noncomputable section

namespace Cert.KernelLsIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelLsIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The program ends with every buffer of every device at the contents that the last boundary names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ c => h c)

end Cert.KernelLsIdeal.Hand

end
-- ==== Proof.Ls.Reference.lean ====
/- The loss pair's reference at real arguments: every result in the layer norm's formulas. -/
module

public import proofs.«01_k».proof.Proof.Ln.Spec
public import proofs.«01_k».proof.Proof.Gen.ReferenceLsIdeal.Read
public import Idealize.ShloMosaic.Lib.ValueIdxRank1

@[expose] public section

set_option maxRecDepth 16384

noncomputable section

namespace Cert.Ls.Ref

open Cert.ReferenceLsIdeal Cert.ReferenceLsIdeal.Gen Cert.ReferenceLsIdeal.Read
open Idealize.ShloMosaic Idealize.ShloMosaic.TcCoe Idealize.ShloMosaic.Tactic
open Cert.Ln
open Cert.Mx.Spec (eps bits_eps rsqrt_coe div_coe bits_zero bits_two bits_half bits_mhalf bits_one)

/-- The reference's arguments, read as real numbers. -/
structure Reads (H A W : ℕ → ℕ → ℝ) (G B : ℕ → ℝ) (T : ℕ → ℕ → ℝ) (x0 : (⟨S2048x2816, .f32⟩ : BufTy).Contents (Elt Ideal))
    (x1 : (⟨S2816x1024, .f32⟩ : BufTy).Contents (Elt Ideal)) (x2 : (⟨S2048x1024, .f32⟩ : BufTy).Contents (Elt Ideal))
    (x3 x4 : (⟨S1x1024, .f32⟩ : BufTy).Contents (Elt Ideal)) (x5 : (⟨S2048x1024, .f32⟩ : BufTy).Contents (Elt Ideal)) : Prop where
  h0 : ∀ y, x0 y = (A (y 0).val (y 1).val : EReal)
  h1 : ∀ y, x1 y = (W (y 0).val (y 1).val : EReal)
  h2 : ∀ y, x2 y = (H (y 0).val (y 1).val : EReal)
  h3 : ∀ y, x3 y = (G (y 1).val : EReal)
  h4 : ∀ y, x4 y = (B (y 1).val : EReal)
  h5 : ∀ y, x5 y = (T (y 0).val (y 1).val : EReal)

variable {H A W : ℕ → ℕ → ℝ} {G B : ℕ → ℝ} {T : ℕ → ℕ → ℝ} {x0 x1 x2 x3 x4 x5} (E : Reads H A W G B T x0 x1 x2 x3 x4 x5)

include E in
theorem v3_val (y : S2048x1024.Idx) : val_main_v3 (F := Ideal) x0 x1 x2 y = (resid 2816 H A W (y 0).val (y 1).val : EReal) := by
  rw [val_main_v3_apply, val_main_v1_apply, val_main_v0_apply, show val_main_cst (F := Ideal) _ = (alpha : EReal) from bits_alpha, E.h2, val_main_v2_apply,
    total 2816 _ (fun j => A (y 0).val j * W j (y 1).val) (fun k => by rw [E.h0, E.h1, ← EReal.coe_mul]), Ideal.mulf_def, ← EReal.coe_mul,
    Ideal.addf_def, ← EReal.coe_add]
  rfl

section Forward

variable {R : ℕ → ℕ → ℝ} (hr : ∀ y, val_main_v3 (F := Ideal) x0 x1 x2 y = (R (y 0).val (y 1).val : EReal))
include hr

theorem v7_val (y : S2048x1.Idx) : val_main_v7 (F := Ideal) x0 x1 x2 y = (mu R (y 0).val : EReal) := by
  rw [val_main_v7_apply, val_main_v5_apply, val_main_v4_apply, show val_main_cst_0 (F := Ideal) _ = ((0 : ℝ) : EReal) from bits_zero,
    total0 1024 _ (fun j => R (y 0).val j) (fun k => hr _), val_main_v6_apply, show val_main_cst_1 (F := Ideal) _ = ((1024 : ℝ) : EReal) from bits_1024,
    Ideal.hostDivf_def, div_coe _ _ (by norm_num)]
  rfl
theorem v9_val (y : S2048x1024.Idx) : val_main_v9 (F := Ideal) x0 x1 x2 y = (cen R (y 0).val (y 1).val : EReal) := by
  rw [val_main_v9_apply, hr, val_main_v8_apply, v7_val hr, Ideal.subf_def, ← EReal.coe_sub]
  rfl
theorem v18_val (y : S2048x1024.Idx) : val_main_v18 (F := Ideal) x0 x1 x2 y = (cen R (y 0).val (y 1).val : EReal) := by
  rw [val_main_v18_apply, hr, val_main_v17_apply, v7_val hr, Ideal.subf_def, ← EReal.coe_sub]
  rfl
theorem v12_val (y : S2048x1024.Idx) : val_main_v12 (F := Ideal) x0 x1 x2 y = ((2 * cen R (y 0).val (y 1).val : ℝ) : EReal) := by
  rw [val_main_v12_apply, val_main_v11_apply, show val_main_cst_2 (F := Ideal) _ = ((2 : ℝ) : EReal) from bits_two, v9_val hr, Ideal.mulf_def, ← EReal.coe_mul]
theorem v20_val (y : S2048x1.Idx) : val_main_v20 (F := Ideal) x0 x1 x2 y = ((var R (y 0).val + eps : ℝ) : EReal) := by
  rw [val_main_v20_apply, val_main_v16_apply, val_main_v14_apply, val_main_v13_apply, show val_main_cst_3 (F := Ideal) _ = ((0 : ℝ) : EReal) from bits_zero,
    total0 1024 _ (fun j => cen R (y 0).val j * cen R (y 0).val j) (fun k => by rw [val_main_v10_apply, v9_val hr, Ideal.mulf_def, ← EReal.coe_mul]),
    val_main_v15_apply, show val_main_cst_4 (F := Ideal) _ = ((1024 : ℝ) : EReal) from bits_1024,
    Ideal.hostDivf_def, div_coe _ _ (by norm_num), val_main_v19_apply, show val_main_cst_5 (F := Ideal) _ = (eps : EReal) from bits_eps, Ideal.addf_def, ← EReal.coe_add]
  rfl
theorem v21_val (y : S2048x1.Idx) : val_main_v21 (F := Ideal) x0 x1 x2 y = (rs R (y 0).val : EReal) := by
  rw [val_main_v21_apply, v20_val hr, Ideal.hostUnary_rsqrt_def, rsqrt_coe _ (pos R _)]
  rfl
theorem v24_val (y : S2048x1.Idx) : val_main_v24 (F := Ideal) x0 x1 x2 y = ((-(1 / 2) * (rs R (y 0).val / (var R (y 0).val + eps)) : ℝ) : EReal) := by
  rw [val_main_v24_apply, val_main_v23_apply, show val_main_cst_6 (F := Ideal) _ = ((-(1 / 2) : ℝ) : EReal) from bits_mhalf, val_main_v22_apply,
    v21_val hr, v20_val hr, Ideal.hostDivf_def, div_coe _ _ (pos R _).ne', Ideal.mulf_def, ← EReal.coe_mul]
theorem v26_val (y : S2048x1024.Idx) : val_main_v26 (F := Ideal) x0 x1 x2 y = (xh R (y 0).val (y 1).val : EReal) := by
  rw [val_main_v26_apply, v18_val hr, val_main_v25_apply, v21_val hr, Ideal.mulf_def, ← EReal.coe_mul]
  rfl

include E

/-- The norm's result. -/
theorem v30_val (y : S2048x1024.Idx) : val_main_v30 (F := Ideal) x0 x1 x2 x3 x4 y
    = ((xh R (y 0).val (y 1).val * G (y 1).val + B (y 1).val : ℝ) : EReal) := by
  rw [val_main_v30_apply, val_main_v28_apply, v26_val hr, val_main_v27_apply, E.h3, val_main_v29_apply, E.h4, Ideal.mulf_def, ← EReal.coe_mul,
    Ideal.addf_def, ← EReal.coe_add]
theorem v31_val (y : S2048x1024.Idx) : val_main_v31 (F := Ideal) x0 x1 x2 x3 x4 x5 y = (err R G B T (y 0).val (y 1).val : EReal) := by
  rw [val_main_v31_apply, v30_val E hr, E.h5, Ideal.subf_def, ← EReal.coe_sub]
  rfl
theorem v37_val (z : S2048.Idx) : val_main_v37 (F := Ideal) x0 x1 x2 x3 x4 x5 z
    = (((∑ l ∈ Finset.range 1024, err R G B T (z 0).val l * err R G B T (z 0).val l) / 1024 : ℝ) : EReal) := by
  rw [val_main_v37_apply, val_main_v35_apply, show val_main_cst_8 (F := Ideal) _ = ((0 : ℝ) : EReal) from bits_zero,
    total0 1024 _ (fun j => err R G B T (z 0).val j * err R G B T (z 0).val j) (fun k => by rw [val_main_v32_apply, v31_val E hr, Ideal.mulf_def, ← EReal.coe_mul]),
    val_main_v36_apply, show val_main_cst_9 (F := Ideal) _ = ((1024 : ℝ) : EReal) from bits_1024, Ideal.hostDivf_def, div_coe _ _ (by norm_num)]
theorem v38_val (y : S_.Idx) : val_main_v38 (F := Ideal) x0 x1 x2 x3 x4 x5 y
    = ((∑ r ∈ Finset.range 2048, (∑ l ∈ Finset.range 1024, err R G B T r l * err R G B T r l) / 1024 : ℝ) : EReal) := by
  rw [val_main_v38_apply, show val_main_cst_10 (F := Ideal) _ = ((0 : ℝ) : EReal) from bits_zero, ← Equiv.sum_comp (ValueIdx.idxEquiv1 (n := 2048)).symm]
  exact total0 2048 _ (fun r => (∑ l ∈ Finset.range 1024, err R G B T r l * err R G B T r l) / 1024) (fun k => v37_val E hr _)
/-- The loss. -/
theorem v39_val (y : S_.Idx) : val_main_v39 (F := Ideal) x0 x1 x2 x3 x4 x5 y
    = (((∑ r ∈ Finset.range 2048, ∑ l ∈ Finset.range 1024, err R G B T r l * err R G B T r l) * (1 / 2048) : ℝ) : EReal) := by
  rw [val_main_v39_apply, v38_val E hr, show val_main_cst_11 (F := Ideal) _ = ((1 / 2 : ℝ) : EReal) from bits_half, Ideal.mulf_def, ← EReal.coe_mul,
    ← Finset.sum_div]
  exact congrArg Real.toEReal (by rw [div_eq_mul_inv]; norm_num; ring)
/-- The norm's cotangent. -/
theorem v45_val (y : S2048x1024.Idx) : val_main_v45 (F := Ideal) x0 x1 x2 x3 x4 x5 y = (dy R G B T (y 0).val (y 1).val : EReal) := by
  rw [val_main_v45_apply, val_main_v44_apply, val_main_v43_apply, val_main_v41_apply, val_main_v40_apply, val_main_v42_apply, val_main_v34_apply, val_main_v33_apply,
    v31_val E hr, show val_main_cst_7 (F := Ideal) _ = ((2 : ℝ) : EReal) from bits_two, show val_main_cst_12 (F := Ideal) _ = ((1 / 2 : ℝ) : EReal) from bits_half,
    show val_main_cst_13 (F := Ideal) _ = ((1 : ℝ) : EReal) from bits_one, show val_main_cst_14 (F := Ideal) _ = ((1024 : ℝ) : EReal) from bits_1024,
    Ideal.hostDivf_def]
  simp only [Ideal.mulf_def, ← EReal.coe_mul]
  rw [div_coe _ _ (by norm_num), ← EReal.coe_mul]
  refine congrArg Real.toEReal ?_
  unfold dy
  ring

end Forward

section Backward

variable {R : ℕ → ℕ → ℝ} (hr : ∀ y, val_main_v3 (F := Ideal) x0 x1 x2 y = (R (y 0).val (y 1).val : EReal))
variable {D : ℕ → ℕ → ℝ} (hd : ∀ y, val_main_v45 (F := Ideal) x0 x1 x2 x3 x4 x5 y = (D (y 0).val (y 1).val : EReal))

include hd in
/-- The bias's gradient. -/
theorem v47_val (y : S1x1024.Idx) : val_main_v47 (F := Ideal) x0 x1 x2 x3 x4 x5 y = (db D (y 1).val : EReal) := by
  rw [val_main_v47_apply, val_main_v46_apply, show val_main_cst_15 (F := Ideal) _ = ((0 : ℝ) : EReal) from bits_zero]
  refine (total0 2048 _ (fun r => D r ((y 0).val * 1024 + (y 1).val)) (fun k => hd _)).trans ?_
  rw [row_place 1024 _ _ (y 0).isLt]
  rfl
include hr hd in
/-- The gain's gradient. -/
theorem v50_val (y : S1x1024.Idx) : val_main_v50 (F := Ideal) x0 x1 x2 x3 x4 x5 y = (dg R D (y 1).val : EReal) := by
  rw [val_main_v50_apply, val_main_v49_apply, show val_main_cst_16 (F := Ideal) _ = ((0 : ℝ) : EReal) from bits_zero]
  refine (total0 2048 _ (fun r => D r ((y 0).val * 1024 + (y 1).val) * xh R r ((y 0).val * 1024 + (y 1).val)) (fun k => by
    rw [val_main_v48_apply, v26_val hr, hd, Ideal.mulf_def, ← EReal.coe_mul, mul_comm])).trans ?_
  rw [row_place 1024 _ _ (y 0).isLt]
  rfl

include E hr hd

theorem v52_val (y : S2048x1024.Idx) : val_main_v52 (F := Ideal) x0 x1 x2 x3 x4 x5 y = (dxh G D (y 0).val (y 1).val : EReal) := by
  rw [val_main_v52_apply, hd, val_main_v51_apply, E.h3, Ideal.mulf_def, ← EReal.coe_mul]
  rfl
theorem v57_val (y : S2048x1024.Idx) : val_main_v57 (F := Ideal) x0 x1 x2 x3 x4 x5 y = ((dxh G D (y 0).val (y 1).val * rs R (y 0).val : ℝ) : EReal) := by
  rw [val_main_v57_apply, v52_val E hr hd, val_main_v56_apply, v21_val hr, Ideal.mulf_def, ← EReal.coe_mul]
theorem v55_val (y : S2048x1.Idx) : val_main_v55 (F := Ideal) x0 x1 x2 x3 x4 x5 y
    = ((∑ j ∈ Finset.range 1024, cen R (y 0).val j * dxh G D (y 0).val j : ℝ) : EReal) := by
  rw [val_main_v55_apply, val_main_v54_apply, show val_main_cst_17 (F := Ideal) _ = ((0 : ℝ) : EReal) from bits_zero]
  refine (total0 1024 _ (fun j => cen R ((y 0).val * 1 + (y 1).val) j * dxh G D ((y 0).val * 1 + (y 1).val) j) (fun k => by
      rw [val_main_v53_apply, v18_val hr, v52_val E hr hd, Ideal.mulf_def, ← EReal.coe_mul])).trans ?_
  rw [col_place _ _ (y 1).isLt]
theorem v63_val (y : S2048x1.Idx) : val_main_v63 (F := Ideal) x0 x1 x2 x3 x4 x5 y = (qv R G D (y 0).val : EReal) := by
  rw [val_main_v63_apply, val_main_v58_apply, v55_val E hr hd,
    v24_val hr, val_main_v62_apply, show val_main_cst_19 (F := Ideal) _ = ((1024 : ℝ) : EReal) from bits_1024, Ideal.mulf_def, ← EReal.coe_mul,
    Ideal.hostDivf_def, div_coe _ _ (by norm_num)]
  rfl
theorem v65_val (y : S2048x1024.Idx) : val_main_v65 (F := Ideal) x0 x1 x2 x3 x4 x5 y = (qv R G D (y 0).val : EReal) := by
  rw [val_main_v65_apply, val_main_v64_apply, show val_main_cst_20 (F := Ideal) _ = ((0 : ℝ) : EReal) from bits_zero]
  exact total01 _ _ fun k => v63_val E hr hd _
theorem v66_val (y : S2048x1024.Idx) : val_main_v66 (F := Ideal) x0 x1 x2 x3 x4 x5 y = ((qv R G D (y 0).val * (2 * cen R (y 0).val (y 1).val) : ℝ) : EReal) := by
  rw [val_main_v66_apply, v65_val E hr hd, v12_val hr, Ideal.mulf_def, ← EReal.coe_mul]
theorem v61_val (y : S2048x1.Idx) : val_main_v61 (F := Ideal) x0 x1 x2 x3 x4 x5 y
    = ((∑ j ∈ Finset.range 1024, -(dxh G D (y 0).val j * rs R (y 0).val) : ℝ) : EReal) := by
  rw [val_main_v61_apply, val_main_v60_apply, show val_main_cst_18 (F := Ideal) _ = ((0 : ℝ) : EReal) from bits_zero]
  refine (total0 1024 _ (fun j => -(dxh G D ((y 0).val * 1 + (y 1).val) j * rs R ((y 0).val * 1 + (y 1).val))) (fun k => by
      rw [val_main_v59_apply, v57_val E hr hd, Ideal.hostNegf_def, Ideal.negf_def, ← EReal.coe_neg])).trans ?_
  rw [col_place _ _ (y 1).isLt]
theorem v69_val (y : S2048x1.Idx) : val_main_v69 (F := Ideal) x0 x1 x2 x3 x4 x5 y
    = ((∑ j ∈ Finset.range 1024, -(qv R G D (y 0).val * (2 * cen R (y 0).val j)) : ℝ) : EReal) := by
  rw [val_main_v69_apply, val_main_v68_apply, show val_main_cst_21 (F := Ideal) _ = ((0 : ℝ) : EReal) from bits_zero]
  refine (total0 1024 _ (fun j => -(qv R G D ((y 0).val * 1 + (y 1).val) * (2 * cen R ((y 0).val * 1 + (y 1).val) j))) (fun k => by
      rw [val_main_v67_apply, v66_val E hr hd, Ideal.hostNegf_def, Ideal.negf_def, ← EReal.coe_neg])).trans ?_
  rw [col_place _ _ (y 1).isLt]
theorem v73_val (y : S2048x1.Idx) : val_main_v73 (F := Ideal) x0 x1 x2 x3 x4 x5 y = (qm R G D (y 0).val : EReal) := by
  rw [val_main_v73_apply, val_main_v71_apply, v61_val E hr hd, v69_val E hr hd,
    val_main_v72_apply, show val_main_cst_22 (F := Ideal) _ = ((1024 : ℝ) : EReal) from bits_1024, Ideal.addf_def, ← EReal.coe_add,
    Ideal.hostDivf_def, div_coe _ _ (by norm_num)]
  rfl
theorem v75_val (y : S2048x1024.Idx) : val_main_v75 (F := Ideal) x0 x1 x2 x3 x4 x5 y = (qm R G D (y 0).val : EReal) := by
  rw [val_main_v75_apply, val_main_v74_apply, show val_main_cst_23 (F := Ideal) _ = ((0 : ℝ) : EReal) from bits_zero]
  exact total01 _ _ fun k => v73_val E hr hd _
/-- The gradient of the residual sum. -/
theorem v76_val (y : S2048x1024.Idx) : val_main_v76 (F := Ideal) x0 x1 x2 x3 x4 x5 y = (dr R G D (y 0).val (y 1).val : EReal) := by
  rw [val_main_v76_apply, val_main_v70_apply, v57_val E hr hd, v66_val E hr hd, v75_val E hr hd]
  simp only [Ideal.addf_def, ← EReal.coe_add]
  exact congrArg Real.toEReal (dr_eq R G D _ _)

end Backward

end Cert.Ls.Ref

end
-- ==== Proof.Ls.Arrays.lean ====
/- The loss pair's results as functions of the program's arguments. -/
module

public import proofs.«01_k».proof.Proof.Ls.Forward
public import proofs.«01_k».proof.Proof.Ls.Backward
public import proofs.«01_k».proof.Proof.Ls.Run
public import proofs.«01_k».proof.Proof.Ls.Reference

@[expose] public section

set_option maxRecDepth 16384

noncomputable section

namespace Cert.KernelLsIdeal.Hand

open Idealize.ShloMosaic Idealize.ShloMosaic.TcCoe Idealize.ShloMosaic.Tactic Idealize.SL.Sem
open Idealize.ShloMosaic.Pipeline (Dat)
open Cert.KernelLsIdeal.Gen
open Cert.Ln
open Cert.Mx.Spec (bits_one bits_zero)

variable (m : (ℓ : Loc nD τ sig) → Buf (Elt Ideal) ℓ) (ρ : Dev nD → PrngReg) (c : Dev nD)

theorem V1_v0 (k : Fin 1024) : (V1 m ρ c main_v0 : FVec Ideal S1x1x1024 .f32) (ix3 0 0 k) = ((1 : ℝ) : EReal) := by
  show (StableHlo.after hostOps0 (W0 m ρ c) (Proc.devRef .tc main_v0) : FVec Ideal S1x1x1024 .f32) _ = _
  after_results
  exact bits_one
theorem V1_v1 (k : Fin 1024) : (V1 m ρ c main_v1 : FVec Ideal S1x1x1024 .f32) (ix3 0 0 k) = ((0 : ℝ) : EReal) := by
  show (StableHlo.after hostOps0 (W0 m ρ c) (Proc.devRef .tc main_v1) : FVec Ideal S1x1x1024 .f32) _ = _
  after_results
  exact bits_zero
theorem V1_v2 (k : Fin 1024) : (V1 m ρ c main_v2 : FVec Ideal S1x1x1024 .f32) (ix3 0 0 k) = (m ((c : Thread nD τ).loc main_arg3) : FVec Ideal S1x1024 .f32) (ix2 0 k) := by
  show (StableHlo.after hostOps0 (W0 m ρ c) (Proc.devRef .tc main_v2) : FVec Ideal S1x1x1024 .f32) _ = _
  after_results
  pointwise []
theorem V1_v3 (k : Fin 1024) : (V1 m ρ c main_v3 : FVec Ideal S1x1x1024 .f32) (ix3 0 0 k) = (m ((c : Thread nD τ).loc main_arg4) : FVec Ideal S1x1024 .f32) (ix2 0 k) := by
  show (StableHlo.after hostOps0 (W0 m ρ c) (Proc.devRef .tc main_v3) : FVec Ideal S1x1x1024 .f32) _ = _
  after_results
  pointwise []
theorem V1_v4 : V1 m ρ c main_v4 = m ((c : Thread nD τ).loc main_arg0) := by
  show StableHlo.after hostOps0 (W0 m ρ c) _ = _
  after_results
  rfl
theorem V1_v5 : V1 m ρ c main_v5 = m ((c : Thread nD τ).loc main_arg1) := by
  show StableHlo.after hostOps0 (W0 m ρ c) _ = _
  after_results
  rfl
theorem V1_arg2 : V1 m ρ c main_arg2 = m ((c : Thread nD τ).loc main_arg2) := W1_args m ρ c main_arg2 (by decide)

section Ends

variable {H A W : ℕ → ℕ → ℝ} {G B : ℕ → ℝ} {T : ℕ → ℕ → ℝ}
variable (E : Cert.Ls.Ref.Reads H A W G B T (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)))
include E

theorem hA (r : Fin 2048) (k : Fin 2816) : (V1 m ρ c main_v4 : FVec Ideal S2048x2816 .bf16) (ix2 r k) = (A r.val k.val : EReal) := by
  rw [V1_v4]; exact E.h0 _
theorem hW (r : Fin 2816) (k : Fin 1024) : (V1 m ρ c main_v5 : FVec Ideal S2816x1024 .bf16) (ix2 r k) = (W r.val k.val : EReal) := by
  rw [V1_v5]; exact E.h1 _
theorem hH (r : Fin 2048) (k : Fin 1024) : (V1 m ρ c main_arg2 : FVec Ideal S2048x1024 .f32) (ix2 r k) = (H r.val k.val : EReal) := by
  rw [V1_arg2]; exact E.h2 _
theorem hG (k : Fin 1024) : (V1 m ρ c main_v2 : FVec Ideal S1x1x1024 .f32) (ix3 0 0 k) = (G k.val : EReal) := (V1_v2 m ρ c k).trans (E.h3 _)
theorem hB (k : Fin 1024) : (V1 m ρ c main_v3 : FVec Ideal S1x1x1024 .f32) (ix3 0 0 k) = (B k.val : EReal) := (V1_v3 m ρ c k).trans (E.h4 _)

/-- The normalised residual sum, as the second call finds it. -/
theorem hX (r : Fin 2048) (k : Fin 1024) : (V2 m ρ c main_v6_0 : FVec Ideal S2048x1024 .f32) (ix2 r k) = (xh (resid 2816 H A W) r.val k.val : EReal) :=
  congrFun ((W2_arr m ρ c 7).trans (final0_7 H A W (V1 m ρ) c (hA m ρ c E) (hW m ρ c E) (hH m ρ c E) (V1_v0 m ρ c) (V1_v1 m ρ c))) _
/-- The reciprocal deviation, as the second call finds it. -/
theorem hS (r : Fin 2048) : (V2 m ρ c main_v6_1 : FVec Ideal S2048x1 .f32) (ix2 r 0) = (rs (resid 2816 H A W) r.val : EReal) :=
  congrFun ((W2_arr m ρ c 8).trans (final0_8 H A W (V1 m ρ) c (hA m ρ c E) (hW m ρ c E) (hH m ρ c E) (V1_v0 m ρ c) (V1_v1 m ρ c))) _
theorem hG2 (k : Fin 1024) : (V2 m ρ c main_v2 : FVec Ideal S1x1x1024 .f32) (ix3 0 0 k) = (G k.val : EReal) :=
  (congrFun (W2_of m ρ c main_v2 (by decide)) _).trans (hG m ρ c E k)
theorem hB2 (k : Fin 1024) : (V2 m ρ c main_v3 : FVec Ideal S1x1x1024 .f32) (ix3 0 0 k) = (B k.val : EReal) :=
  (congrFun (W2_of m ρ c main_v3 (by decide)) _).trans (hB m ρ c E k)
theorem hT (r : Fin 2048) (k : Fin 1024) : (V2 m ρ c main_arg5 : FVec Ideal S2048x1024 .f32) (ix2 r k) = (T r.val k.val : EReal) :=
  (congrFun (W2_args m ρ c main_arg5 (by decide)) _).trans (E.h5 _)

theorem end_y : W3 m ρ c (Proc.devRef .tc main_v6_2) = fun y : S2048x1024.Idx =>
    ((xh (resid 2816 H A W) (y 0).val (y 1).val * G (y 1).val : ℝ) : EReal) + (B (y 1).val : EReal) :=
  (W3_of m ρ c main_v6_2 (by decide)).trans ((W2_arr m ρ c 9).trans (final0_9 H A W (V1 m ρ) c (hA m ρ c E) (hW m ρ c E) (hH m ρ c E)
    (V1_v0 m ρ c) (V1_v1 m ρ c) (fun k => (B k : EReal)) G (hG m ρ c E) (hB m ρ c E)))
theorem end_loss : W3 m ρ c (Proc.devRef .tc main_v7_0) = fun _ : S8x128.Idx =>
    (((∑ r ∈ Finset.range 2048, ∑ l ∈ Finset.range 1024, err (resid 2816 H A W) G B T r l * err (resid 2816 H A W) G B T r l) * (1 / 2048) : ℝ) : EReal) :=
  (W3_arr m ρ c 5).trans (final1_5 _ G B T (V2 m ρ) c (hX m ρ c E) (hG2 m ρ c E) (hB2 m ρ c E) (hT m ρ c E))
theorem end_dr : W3 m ρ c (Proc.devRef .tc main_v7_1) = fun y : S2048x1024.Idx =>
    (dr (resid 2816 H A W) G (dy (resid 2816 H A W) G B T) (y 0).val (y 1).val : EReal) :=
  (W3_arr m ρ c 6).trans (final1_6 _ G B T (V2 m ρ) c (hX m ρ c E) (hS m ρ c E) (hG2 m ρ c E) (hB2 m ρ c E) (hT m ρ c E))
theorem end_drb : W3 m ρ c (Proc.devRef .tc main_v7_2) = fun y : S2048x1024.Idx =>
    (dr (resid 2816 H A W) G (dy (resid 2816 H A W) G B T) (y 0).val (y 1).val : EReal) :=
  (W3_arr m ρ c 7).trans (final1_7 _ G B T (V2 m ρ) c (hX m ρ c E) (hS m ρ c E) (hG2 m ρ c E) (hB2 m ρ c E) (hT m ρ c E))
theorem end_dg : W3 m ρ c (Proc.devRef .tc main_v7_3) = fun y : S1x1024.Idx =>
    (dg (resid 2816 H A W) (dy (resid 2816 H A W) G B T) (y 1).val : EReal) :=
  (W3_arr m ρ c 8).trans (final1_8 _ G B T (V2 m ρ) c (hX m ρ c E) (hG2 m ρ c E) (hB2 m ρ c E) (hT m ρ c E))
theorem end_db : W3 m ρ c (Proc.devRef .tc main_v7_4) = fun y : S1x1024.Idx => (db (dy (resid 2816 H A W) G B T) (y 1).val : EReal) :=
  (W3_arr m ρ c 9).trans (final1_9 _ G B T (V2 m ρ) c (hX m ρ c E) (hG2 m ρ c E) (hB2 m ρ c E) (hT m ρ c E))

end Ends

end Cert.KernelLsIdeal.Hand

end
-- ==== Proof.Ln.Inputs.lean ====
/- Arrays of real numbers, read at natural-number places. -/
module

public import proofs.«01_k».proof.Proof.Mx.Claims

@[expose] public section

noncomputable section

namespace Cert.Ln

open Idealize.ShloMosaic

/-- An array of reals is a table of reals. -/
theorem mat {n k : ℕ} (X : (⟨2, ![n, k]⟩ : Shape).Idx → EReal) (R : (⟨2, ![n, k]⟩ : Shape).Idx → ℝ) (h : X = fun i => (R i : EReal)) (h0 : 0 < n) (h1 : 0 < k) :
    ∃ A : ℕ → ℕ → ℝ, ∀ y, X y = (A (y 0).val (y 1).val : EReal) :=
  ⟨fun r l => EReal.toReal (X (ix2 (⟨r % n, Nat.mod_lt _ h0⟩ : Fin n) (⟨l % k, Nat.mod_lt _ h1⟩ : Fin k))), Cert.Mx.read2 X R h h0 h1⟩

/-- A one-row array of reals is a list of reals. -/
theorem row {k : ℕ} (X : (⟨2, ![1, k]⟩ : Shape).Idx → EReal) (R : (⟨2, ![1, k]⟩ : Shape).Idx → ℝ) (h : X = fun i => (R i : EReal)) (h1 : 0 < k) :
    ∃ A : ℕ → ℝ, ∀ y, X y = (A (y 1).val : EReal) := by
  obtain ⟨A, hA⟩ := mat X R h Nat.one_pos h1
  refine ⟨A 0, fun y => (hA y).trans ?_⟩
  have hy : (y 0).val = 0 := by have hl : (y 0).val < 1 := (y 0).isLt; omega
  rw [hy]

/-- A one-row array is a list. -/
theorem rowE {k : ℕ} (X : (⟨2, ![1, k]⟩ : Shape).Idx → EReal) (h1 : 0 < k) : ∃ A : ℕ → EReal, ∀ y, X y = A (y 1).val := by
  refine ⟨fun l => X (ix2 (0 : Fin 1) (⟨l % k, Nat.mod_lt _ h1⟩ : Fin k)), fun y => congrArg X (funext fun a => Fin.ext ?_)⟩
  have hy : (y 0).val < 1 := (y 0).isLt
  match a with
  | ⟨0, _⟩ => show (y 0).val = 0; omega
  | ⟨1, _⟩ => exact (Nat.mod_eq_of_lt (y 1).isLt).symm

end Cert.Ln

end
-- ==== Proof.Ls.Claims.lean ====
/- The claims of the loss pair. -/
module

public import proofs.«01_k».proof.Defs
public import proofs.«01_k».proof.Proof.Ls.Arrays
public import proofs.«01_k».proof.Proof.Ln.Inputs
public import proofs.«01_k».proof.Proof.Gen.ReferenceLsIdeal.Run
public import proofs.«01_k».proof.Proof.Gen.Pre_finite_loss
public import proofs.«01_k».proof.Proof.Common.Reals
public import Idealize.ShloMosaic.Lib.Claim

@[expose] public section

set_option maxRecDepth 16384

noncomputable section

namespace Cert.Ls

open Idealize.ShloMosaic Idealize.ShloMosaic.TcCoe Idealize.SL.Sem
open Cert.Ln

/-- The reference runs, keeps its arguments and declares no semaphore. -/
theorem frame_reference : Cert.quiescent_ReferenceLsIdeal := fun m g _ =>
  (θ_run Cert.ReferenceLsIdeal.defs _ _).mono (fun r h => ⟨fun c => (h c).2.2.2.2.2.2, sem_eq_zero_of_no_sems (by decide) r.2⟩)
    (Cert.ReferenceLsIdeal.Value.run m g)

section Inputs
open Cert.ReferenceLsIdeal

/-- Under the precondition the arguments are real numbers. -/
theorem reads (x0 : FVec Ideal S2048x2816 .f32) (x1 : FVec Ideal S2816x1024 .f32) (x2 : FVec Ideal S2048x1024 .f32)
    (x3 x4 : FVec Ideal S1x1024 .f32) (x5 : FVec Ideal S2048x1024 .f32)
    (h : Cert.Pre_finite_loss.fn (F := Ideal) x0 x1 x2 x3 x4 x5 = fun _ => 1#1) :
    ∃ (H A W : ℕ → ℕ → ℝ) (G B : ℕ → ℝ) (T : ℕ → ℕ → ℝ), Ref.Reads H A W G B T x0 x1 x2 x3 x4 x5 := by
  have h5 := congrFun h (fun k => k.elim0)
  obtain ⟨h4, f5⟩ := IntOp.andi_eq_one.1 h5
  obtain ⟨h3, f4⟩ := IntOp.andi_eq_one.1 h4
  obtain ⟨h2, f3⟩ := IntOp.andi_eq_one.1 h3
  obtain ⟨h1, f2⟩ := IntOp.andi_eq_one.1 h2
  obtain ⟨f0, f1⟩ := IntOp.andi_eq_one.1 h1
  obtain ⟨R0, e0⟩ := Cert.Common.reals_of_all _ _ _ _ _ f0
  obtain ⟨R1, e1⟩ := Cert.Common.reals_of_all _ _ _ _ _ f1
  obtain ⟨R2, e2⟩ := Cert.Common.reals_of_all _ _ _ _ _ f2
  obtain ⟨R3, e3⟩ := Cert.Common.reals_of_all _ _ _ _ _ f3
  obtain ⟨R4, e4⟩ := Cert.Common.reals_of_all _ _ _ _ _ f4
  obtain ⟨R5, e5⟩ := Cert.Common.reals_of_all _ _ _ _ _ f5
  obtain ⟨A, hA⟩ := mat x0 R0 e0 (by decide) (by decide)
  obtain ⟨W, hW⟩ := mat x1 R1 e1 (by decide) (by decide)
  obtain ⟨H, hH⟩ := mat x2 R2 e2 (by decide) (by decide)
  obtain ⟨G, hG⟩ := row x3 R3 e3 (by decide)
  obtain ⟨B, hB⟩ := row x4 R4 e4 (by decide)
  obtain ⟨T, hT⟩ := mat x5 R5 e5 (by decide) (by decide)
  exact ⟨H, A, W, G, B, T, hA, hW, hH, hG, hB, hT⟩

end Inputs

open Cert.KernelLsIdeal Cert.KernelLsIdeal.Gen Cert.KernelLsIdeal.Hand in
/-- Kernel and reference leave the same normed activations, loss and gradients wherever the arguments are finite. -/
theorem value : Cert.algebraic_KernelLsIdeal_ReferenceLsIdeal_pre_finite_loss := by
  intro m g m' g' hpre hargs
  refine ⟨fun c => W3 m g c (Proc.devRef .tc main_v6_2), fun c => W3 m g c (Proc.devRef .tc main_v7_0),
    fun c => W3 m g c (Proc.devRef .tc main_v7_1), fun c => W3 m g c (Proc.devRef .tc main_v7_2),
    fun c => W3 m g c (Proc.devRef .tc main_v7_3), fun c => W3 m g c (Proc.devRef .tc main_v7_4), ?_, ?_⟩
  · refine (θ_run defs _ _).mono (fun r h c => ⟨h c _ (mem_uc main_v6_2 (by decide)), h c _ (mem_uc main_v7_0 (by decide)),
      h c _ (mem_uc main_v7_1 (by decide)), h c _ (mem_uc main_v7_2 (by decide)), h c _ (mem_uc main_v7_3 (by decide)), h c _ (mem_uc main_v7_4 (by decide)),
      (h c _ (mem_uc main_arg0 (by decide))).trans (W3_main_arg0 m g c),
      (h c _ (mem_uc main_arg1 (by decide))).trans (W3_main_arg1 m g c), (h c _ (mem_uc main_arg2 (by decide))).trans (W3_main_arg2 m g c),
      (h c _ (mem_uc main_arg3 (by decide))).trans (W3_main_arg3 m g c), (h c _ (mem_uc main_arg4 (by decide))).trans (W3_main_arg4 m g c),
      (h c _ (mem_uc main_arg5 (by decide))).trans (W3_main_arg5 m g c)⟩) (run_all m g)
  · refine (θ_run Cert.ReferenceLsIdeal.defs _ _).mono (fun r h c => ?_) (Cert.ReferenceLsIdeal.Value.run m' g')
    obtain ⟨r0, r1, r2, r3, r4, r5, rest⟩ := h c
    obtain ⟨e0, e1, e2, e3, e4, e5⟩ := hargs c
    obtain ⟨H, A, W, G, B, T, E⟩ := reads _ _ _ _ _ _ (hpre c)
    have hr := Ref.v3_val E
    refine ⟨r0.trans ?_, r1.trans ?_, r2.trans ?_, r3.trans ?_, r4.trans ?_, r5.trans ?_, rest⟩
    · rw [e0, e1, e2, e3, e4, Cert.ReferenceLsIdeal.Read.val_main_v77_eq]
      refine Eq.trans (funext fun y => ?_) (end_y m g c E).symm
      refine (Cert.ReferenceLsIdeal.Read.val_main_v77_apply _ _ _ _ _ y).trans ?_
      exact (Ref.v30_val E hr y).trans (EReal.coe_add _ _)
    · rw [Cert.ReferenceLsIdeal.Read.val_main_v78_eq, e0, e1, e2, e3, e4, e5]
      refine Eq.trans (funext fun y => ?_) (end_loss m g c E).symm
      exact (Cert.ReferenceLsIdeal.Read.val_main_v78_apply _ _ _ _ _ _ y).trans (Ref.v39_val E hr _)
    · rw [Cert.ReferenceLsIdeal.Read.val_main_v76_eq, e0, e1, e2, e3, e4, e5]
      exact Eq.trans (funext fun y => Ref.v76_val E hr (Ref.v45_val E hr) y) (end_dr m g c E).symm
    · rw [Cert.ReferenceLsIdeal.Read.val_main_v79_eq, e0, e1, e2, e3, e4, e5]
      exact Eq.trans (funext fun y => (Cert.ReferenceLsIdeal.Read.val_main_v79_apply _ _ _ _ _ _ y).trans (Ref.v76_val E hr (Ref.v45_val E hr) y)) (end_drb m g c E).symm
    · rw [Cert.ReferenceLsIdeal.Read.val_main_v50_eq, e0, e1, e2, e3, e4, e5]
      exact Eq.trans (funext fun y => Ref.v50_val hr (Ref.v45_val E hr) y) (end_dg m g c E).symm
    · rw [e0, e1, e2, e3, e4, e5, Cert.ReferenceLsIdeal.Read.val_main_v47_eq]
      exact Eq.trans (funext fun y => Ref.v47_val (Ref.v45_val E hr) y) (end_db m g c E).symm

end Cert.Ls

end
-- ==== Proof.Wo.Forward.lean ====
/- The forward call of the pair for the norm under the feed-forward part (a product, the residual sum and the norm): what it leaves in its
   three arrays, at real entries. The product has 1024 summed places here. -/
module

public import proofs.«01_k».proof.Proof.Gen.KernelWoIdeal.Frame
public import proofs.«01_k».proof.Proof.Ls.Forward
public import Idealize.ShloMosaic.Lib.Pipeline.ValueKit

@[expose] public section

set_option maxRecDepth 16384

noncomputable section

namespace Cert.KernelWoIdeal.Hand

open Idealize.ShloMosaic Idealize.ShloMosaic.TcCoe Idealize.SL.Sem
open Idealize.ShloMosaic.Pipeline (Dat)
open Cert.KernelWoIdeal.Gen
open Cert.Ln
open Cert.KernelLsIdeal.Hand (pay7_val)
open Cert.Mx.Spec (eps bits_eps rsqrt_coe div_coe)

section Half

variable (H A W : ℕ → ℕ → ℝ) (off : ℕ)
variable (v0 : Vec Ideal S256x1024 .bf16) (v2 : Vec Ideal S1024x1024 .bf16) (v5 : Vec Ideal S256x1024 .f32) (v6 v10 : Vec Ideal S1x1x1024 .f32)
variable (h0 : ∀ r k, v0 (ix2 r k) = (A (off + r.val) k.val : EReal)) (h2 : ∀ r k, v2 (ix2 r k) = (W r.val k.val : EReal))
variable (h5 : ∀ r k, v5 (ix2 r k) = (H (off + r.val) k.val : EReal)) (h6 : ∀ k, v6 (ix3 0 0 k) = ((1 : ℝ) : EReal)) (h10 : ∀ k, v10 (ix3 0 0 k) = ((0 : ℝ) : EReal))

include h0 h2 h5 h6 h10

/-- The residual sum of a half block, with its mean taken off. -/
theorem pay4_val (r : Fin 256) (l : Fin 1024) : k0_pay4 v0 v2 v5 v6 v10 (ix2 r l) = (cen (resid 1024 H A W) (off + r.val) l.val : EReal) := by
  have hr : ∀ x : Fin 1024, Ideal.ofBits FTy.f32 0x3FD744FD#32 * (v5 (ix2 r x) * v6 (ix3 0 0 x) + v10 (ix3 0 0 x)) + ∑ j, v0 (ix2 r j) * v2 (ix2 j x)
      = (resid 1024 H A W (off + r.val) x.val : EReal) := fun x => by
    rw [h5, h6, h10, bits_alpha, ← EReal.coe_mul, mul_one, ← EReal.coe_add, add_zero, ← EReal.coe_mul,
      total 1024 _ (fun j => A (off + r.val) j * W j x.val) (fun j => by rw [h0, h2, ← EReal.coe_mul]), ← EReal.coe_add]
    rfl
  pointwise [k0_pay4]
  simp only [hr]
  rw [total 1024 _ (fun j => resid 1024 H A W (off + r.val) j) (fun _ => rfl), bits_1024, div_coe _ _ (by norm_num), ← EReal.coe_sub]
  rfl

/-- The reciprocal root of a half block's variance. -/
theorem pay5_val (r : Fin 256) : k0_pay5 v0 v2 v5 v6 v10 (ix2 r 0) = (rs (resid 1024 H A W) (off + r.val) : EReal) := by
  pointwise [k0_pay5]
  rw [total 1024 _ (fun j => cen (resid 1024 H A W) (off + r.val) j * cen (resid 1024 H A W) (off + r.val) j)
      (fun j => by rw [pay4_val H A W off v0 v2 v5 v6 v10 h0 h2 h5 h6 h10, ← EReal.coe_mul]),
    bits_1024, div_coe _ _ (by norm_num), bits_eps, ← EReal.coe_add]
  exact rsqrt_coe _ (pos _ _)

/-- The normalised residual of a half block. -/
theorem pay6_val (r : Fin 256) (l : Fin 1024) : k0_pay6 v0 v2 v5 v6 v10 (ix2 r l) = (xh (resid 1024 H A W) (off + r.val) l.val : EReal) := by
  pointwise [k0_pay6]
  rw [pay4_val H A W off v0 v2 v5 v6 v10 h0 h2 h5 h6 h10, pay5_val H A W off v0 v2 v5 v6 v10 h0 h2 h5 h6 h10, ← EReal.coe_mul]
  rfl

end Half

/-- The windows' block indices at every point of the forward call. -/
theorem idx0 : ∀ t : Fin cfg0.N, win0_0.index t = ![t.val, 0] ∧ win0_1.index t = ![0, 0] ∧ win0_2.index t = ![t.val, 0]
    ∧ win0_3.index t = ![0, 0, 0] ∧ win0_4.index t = ![0, 0, 0] ∧ win0_5.index t = ![0, 0, 0] ∧ win0_6.index t = ![0, 0, 0]
    ∧ win0_7.index t = ![t.val, 0] ∧ win0_8.index t = ![t.val, 0] ∧ win0_9.index t = ![t.val, 0] :=
  (by decide +kernel : ∀ t : Fin grid0.N, _)

section Call

variable (H A W : ℕ → ℕ → ℝ) (V : (c : Dev nD) → (b : Ref sig .tc) → Buf (Elt Ideal) ((c : Thread nD τ).loc b)) (c : Dev nD)
variable (hA : ∀ r k, (V c main_v5 : FVec Ideal S2048x1024 .bf16) (ix2 r k) = (A r.val k.val : EReal))
variable (hW : ∀ r k, (V c main_v4 : FVec Ideal S1024x1024 .bf16) (ix2 r k) = (W r.val k.val : EReal))
variable (hH : ∀ r k, (V c main_arg2 : FVec Ideal S2048x1024 .f32) (ix2 r k) = (H r.val k.val : EReal))
variable (hO : ∀ k, (V c main_v0 : FVec Ideal S1x1x1024 .f32) (ix3 0 0 k) = ((1 : ℝ) : EReal))
variable (hZ : ∀ k, (V c main_v1 : FVec Ideal S1x1x1024 .f32) (ix3 0 0 k) = ((0 : ℝ) : EReal))
variable (t : Fin cfg0.N)

include hA in
theorem ld0_lo (r : Fin 256) (k : Fin 1024) : View.ld (iblk0 V c 0 t) r0_0 (ix2 r k) = (A (512 * t.val + r.val) k.val : EReal) := by
  refine Eq.trans ?_ (hA ⟨512 * t.val + r.val, by have := t.isLt; have e : cfg0.N = 4 := (by decide); omega⟩ k)
  pointwise []
  blk_point [iblk0, idx0 t]

include hA in
theorem ld0_hi (r : Fin 256) (k : Fin 1024) : View.ld (iblk0 V c 0 t) r0_4 (ix2 r k) = (A (512 * t.val + 256 + r.val) k.val : EReal) := by
  refine Eq.trans ?_ (hA ⟨512 * t.val + 256 + r.val, by have := t.isLt; have e : cfg0.N = 4 := (by decide); omega⟩ k)
  pointwise []
  blk_point [iblk0, idx0 t]

include hW in
theorem ld1 (r : Fin 1024) (k : Fin 1024) : View.ld (iblk0 V c 1 t) r0_1 (ix2 r k) = (W r.val k.val : EReal) := by
  refine Eq.trans ?_ (hW r k)
  pointwise []
  blk_point [iblk0, idx0 t]

include hH in
theorem ld2_lo (r : Fin 256) (k : Fin 1024) : View.ld (iblk0 V c 2 t) r0_0 (ix2 r k) = (H (512 * t.val + r.val) k.val : EReal) := by
  refine Eq.trans ?_ (hH ⟨512 * t.val + r.val, by have := t.isLt; have e : cfg0.N = 4 := (by decide); omega⟩ k)
  pointwise []
  blk_point [iblk0, idx0 t]

include hH in
theorem ld2_hi (r : Fin 256) (k : Fin 1024) : View.ld (iblk0 V c 2 t) r0_4 (ix2 r k) = (H (512 * t.val + 256 + r.val) k.val : EReal) := by
  refine Eq.trans ?_ (hH ⟨512 * t.val + 256 + r.val, by have := t.isLt; have e : cfg0.N = 4 := (by decide); omega⟩ k)
  pointwise []
  blk_point [iblk0, idx0 t]

include hO in
theorem ld3 (k : Fin 1024) : View.ld (iblk0 V c 3 t) r0_2 (ix3 0 0 k) = ((1 : ℝ) : EReal) := by
  refine Eq.trans ?_ (hO k)
  pointwise []
  blk_point [iblk0, idx0 t]

include hZ in
theorem ld4 (k : Fin 1024) : View.ld (iblk0 V c 4 t) r0_2 (ix3 0 0 k) = ((0 : ℝ) : EReal) := by
  refine Eq.trans ?_ (hZ k)
  pointwise []
  blk_point [iblk0, idx0 t]

include hA hW hH hO hZ

/-- The forward call leaves the normalised residual in its first result. -/
theorem final0_7 : (dat0 V c).arrAt 7 cfg0.N = fun y : S2048x1024.Idx => (xh (resid 1024 H A W) (y 0).val (y 1).val : EReal) := by
  refine (dat0 V c).arrAt_eq_of_covers 7 _ (by decide +kernel) fun t _ y => ?_
  blk_simp
  rw [after0_7]
  unfold_out out0_7
  canon_tiles x h
  · rw [eq_ix2 x]
    refine (pay6_val H A W (512 * t.val + 256) _ _ _ _ _ (ld0_hi A V c hA t) (ld1 W V c hW t) (ld2_hi H V c hH t) (ld3 V c hO t) (ld4 V c hZ t) _ _).trans ?_
    simp only [idx0 t]
    congr 2
    · show _ = t.val * 512 + _; omega
    · show _ = 0 * 1024 + _; omega
  · rw [eq_ix2 x]
    refine (pay6_val H A W (512 * t.val) _ _ _ _ _ (ld0_lo A V c hA t) (ld1 W V c hW t) (ld2_lo H V c hH t) (ld3 V c hO t) (ld4 V c hZ t) _ _).trans ?_
    simp only [idx0 t]
    congr 2
    · show _ = t.val * 512 + _; omega
    · show _ = 0 * 1024 + _; omega

/-- The forward call leaves the rows' reciprocal roots in its second result. -/
theorem final0_8 : (dat0 V c).arrAt 8 cfg0.N = fun y : S2048x1.Idx => (rs (resid 1024 H A W) (y 0).val : EReal) := by
  refine (dat0 V c).arrAt_eq_of_covers 8 _ (by decide +kernel) fun t _ y => ?_
  blk_simp
  rw [after0_8]
  unfold_out out0_8
  canon_tiles x h
  · rw [eq_ix2 x, show x 1 = (0 : Fin 1) from Fin.ext (Nat.lt_one_iff.1 (x 1).isLt)]
    refine (pay5_val H A W (512 * t.val + 256) _ _ _ _ _ (ld0_hi A V c hA t) (ld1 W V c hW t) (ld2_hi H V c hH t) (ld3 V c hO t) (ld4 V c hZ t) _).trans ?_
    simp only [idx0 t]
    congr 2
    show _ = t.val * 512 + _; omega
  · rw [eq_ix2 x, show x 1 = (0 : Fin 1) from Fin.ext (Nat.lt_one_iff.1 (x 1).isLt)]
    refine (pay5_val H A W (512 * t.val) _ _ _ _ _ (ld0_lo A V c hA t) (ld1 W V c hW t) (ld2_lo H V c hH t) (ld3 V c hO t) (ld4 V c hZ t) _).trans ?_
    simp only [idx0 t]
    congr 2
    show _ = t.val * 512 + _; omega

section Result

variable (B : ℕ → EReal) (G : ℕ → ℝ)
variable (hg : ∀ k, (V c main_v2 : FVec Ideal S1x1x1024 .f32) (ix3 0 0 k) = (G k.val : EReal))
variable (hb : ∀ k, (V c main_v3 : FVec Ideal S1x1x1024 .f32) (ix3 0 0 k) = B k.val)

include hg in
omit hA hW hH hO hZ in
theorem ld5 (t : Fin cfg0.N) (k : Fin 1024) : View.ld (iblk0 V c 5 t) r0_2 (ix3 0 0 k) = (G k.val : EReal) := by
  refine Eq.trans ?_ (hg k)
  pointwise []
  blk_point [iblk0, idx0 t]

include hb in
omit hA hW hH hO hZ in
theorem ld6 (t : Fin cfg0.N) (k : Fin 1024) : View.ld (iblk0 V c 6 t) r0_2 (ix3 0 0 k) = B k.val := by
  refine Eq.trans ?_ (hb k)
  pointwise []
  blk_point [iblk0, idx0 t]

include hg hb in
/-- The forward call leaves the norm's result in its third result. -/
theorem final0_9 : (dat0 V c).arrAt 9 cfg0.N = fun y : S2048x1024.Idx =>
    ((xh (resid 1024 H A W) (y 0).val (y 1).val * G (y 1).val : ℝ) : EReal) + B (y 1).val := by
  refine (dat0 V c).arrAt_eq_of_covers 9 _ (by decide +kernel) fun t _ y => ?_
  blk_simp
  rw [after0_9]
  unfold_out out0_9
  canon_tiles x h
  · rw [eq_ix2 x]
    refine (pay7_val B G _ _ _ _ _ _ (pay6_val H A W (512 * t.val + 256) _ _ _ _ _ (ld0_hi A V c hA t) (ld1 W V c hW t) (ld2_hi H V c hH t) (ld3 V c hO t) (ld4 V c hZ t) _ _)
      (ld5 V c G hg t _) (ld6 V c B hb t _)).trans ?_
    simp only [idx0 t]
    rw [show (![t.val, 0] : Fin 2 → ℕ) 0 * 512 + (y 0).val = 512 * t.val + 256 + (x 0).val from by show t.val * 512 + _ = _; omega,
      show (![t.val, 0] : Fin 2 → ℕ) 1 * 1024 + (y 1).val = (x 1).val from by show 0 * 1024 + _ = _; omega]
  · rw [eq_ix2 x]
    refine (pay7_val B G _ _ _ _ _ _ (pay6_val H A W (512 * t.val) _ _ _ _ _ (ld0_lo A V c hA t) (ld1 W V c hW t) (ld2_lo H V c hH t) (ld3 V c hO t) (ld4 V c hZ t) _ _)
      (ld5 V c G hg t _) (ld6 V c B hb t _)).trans ?_
    simp only [idx0 t]
    rw [show (![t.val, 0] : Fin 2 → ℕ) 0 * 512 + (y 0).val = 512 * t.val + (x 0).val from by show t.val * 512 + _ = _; omega,
      show (![t.val, 0] : Fin 2 → ℕ) 1 * 1024 + (y 1).val = (x 1).val from by show 0 * 1024 + _ = _; omega]

end Result
end Call

end Cert.KernelWoIdeal.Hand

end
-- ==== Proof.Dn.Backward.lean ====
/- The backward call of the layer norm under the mixers' projection: what it leaves in its four arrays, at real entries. -/
module

public import proofs.«01_k».proof.Proof.Gen.KernelDnIdeal.Frame
public import proofs.«01_k».proof.Proof.Ls.Backward

@[expose] public section

set_option maxRecDepth 16384

noncomputable section

namespace Cert.KernelDnIdeal.Hand

open Idealize.ShloMosaic Idealize.ShloMosaic.TcCoe Idealize.SL.Sem
open Idealize.ShloMosaic.Pipeline (Dat)
open Cert.KernelDnIdeal.Gen
open Cert.Ln
open Cert.Mx.Spec (bits_zero)

/-- A sum over a block of 512 rows is the sum over its lower and its upper half. -/
theorem halves (f : ℕ → ℝ) (o : ℕ) : ∑ r ∈ Finset.range 512, f (o + r) = ∑ r ∈ Finset.range 256, f (o + r) + ∑ r ∈ Finset.range 256, f (o + 256 + r) := by
  rw [show 512 = 256 + 256 from rfl, Finset.sum_range_add]
  simp only [add_assoc]

section Half

variable (R P S W : ℕ → ℕ → ℝ) (G : ℕ → ℝ) (off : ℕ)
variable (v3 : Vec Ideal S256x2176 .bf16) (v5 : Vec Ideal S2176x1024 .bf16) (v8 v12 : Vec Ideal S256x1024 .f32)
variable (v27 : Vec Ideal S1x1x1024 .f32) (v40 : Vec Ideal S256x1 .f32)
variable (hP : ∀ r k, v3 (ix2 r k) = (P (off + r.val) k.val : EReal)) (hW : ∀ r k, v5 (ix2 r k) = (W r.val k.val : EReal))
variable (hS : ∀ r k, v8 (ix2 r k) = (S (off + r.val) k.val : EReal)) (hX : ∀ r k, v12 (ix2 r k) = (xh R (off + r.val) k.val : EReal))
variable (hG : ∀ k, v27 (ix3 0 0 k) = (G k.val : EReal)) (hR : ∀ r, v40 (ix2 r 0) = (rs R (off + r.val) : EReal))

include hP hW hS in
/-- The norm's cotangent in a half block: the residual's share and the product with the projection's matrix. -/
theorem pay3_dy (r : Fin 256) (l : Fin 1024) : k1_pay3 v3 v5 v8 (ix2 r l) = (resid 2176 S P W (off + r.val) l.val : EReal) := by
  pointwise [k1_pay3]
  rw [hS, bits_alpha, ← EReal.coe_mul, total 2176 _ (fun j => P (off + r.val) j * W j l.val) (fun j => by rw [hP, hW, ← EReal.coe_mul]), ← EReal.coe_add]
  rfl

include hP hW hS hX in
/-- A half block's step of the gain's accumulator. -/
theorem pay5_dg (acc : Vec Ideal S1x1024 .f32) (i : S1x1024.Idx) : k1_pay5 v3 v5 v8 v12 acc i
    = acc i + ((∑ r ∈ Finset.range 256, resid 2176 S P W (off + r) (i 1).val * xh R (off + r) (i 1).val : ℝ) : EReal) := by
  rw [eq_ix2 i]
  pointwise [k1_pay5, k1_pay4]
  rw [total 256 _ (fun r => resid 2176 S P W (off + r) (i 1).val * xh R (off + r) (i 1).val) fun r =>
    (congrArg₂ (· * ·) (pay3_dy P S W off v3 v5 v8 hP hW hS r _) (hX r _)).trans (EReal.coe_mul _ _).symm]

include hP hW hS in
/-- A half block's step of the bias's accumulator. -/
theorem pay6_db (acc : Vec Ideal S1x1024 .f32) (i : S1x1024.Idx) : k1_pay6 v3 v5 v8 acc i
    = acc i + ((∑ r ∈ Finset.range 256, resid 2176 S P W (off + r) (i 1).val : ℝ) : EReal) := by
  rw [eq_ix2 i]
  pointwise [k1_pay6]
  rw [total 256 _ (fun r => resid 2176 S P W (off + r) (i 1).val) fun r => pay3_dy P S W off v3 v5 v8 hP hW hS r _]

include hP hW hS hX hG hR in
/-- The gradient of the residual sum in a half block. -/
theorem pay16_dr (r : Fin 256) (l : Fin 1024) :
    k1_pay16 (k1_pay3 v3 v5 v8) (k1_pay4 v12) v27 v40 (ix2 r l) = (dr R G (resid 2176 S P W) (off + r.val) l.val : EReal) :=
  Cert.KernelLsIdeal.Hand.pay3_dr R G off (k1_pay4 v12) _ _ _ (resid 2176 S P W) (fun r k => by pointwise [k1_pay4]; exact hX r k)
    (pay3_dy P S W off v3 v5 v8 hP hW hS) hG hR r l

end Half

theorem pay1_zero (j : S1x1024.Idx) : k1_pay1 (F := Ideal) j = (0 : EReal) := by pointwise [k1_pay1]
theorem pay2_zero (j : S1x1024.Idx) : k1_pay2 (F := Ideal) j = (0 : EReal) := by pointwise [k1_pay2]

/-- The windows' block indices at every point of the backward call. -/
theorem idx1 : ∀ t : Fin cfg1.N, win1_0.index t = ![t.val, 0] ∧ win1_1.index t = ![0, 0] ∧ win1_2.index t = ![t.val, 0]
    ∧ win1_3.index t = ![t.val, 0] ∧ win1_4.index t = ![t.val, 0] ∧ win1_5.index t = ![0, 0, 0] ∧ win1_6.index t = ![t.val, 0]
    ∧ win1_7.index t = ![t.val, 0] ∧ win1_8.index t = ![0, 0] ∧ win1_9.index t = ![0, 0] :=
  (by decide +kernel : ∀ t : Fin grid1.N, _)

theorem N1 : cfg1.N = 4 := by decide

/-- The last point of the grid. -/
def lastPt : Fin cfg1.N := ⟨3, by decide⟩

section Call

variable (R P S W : ℕ → ℕ → ℝ) (G : ℕ → ℝ)
variable (V : (c : Dev nD) → (b : Ref sig .tc) → Buf (Elt Ideal) ((c : Thread nD τ).loc b)) (c : Dev nD)
variable (hP : ∀ r k, (V c main_v7 : FVec Ideal S2048x2176 .bf16) (ix2 r k) = (P r.val k.val : EReal))
variable (hW : ∀ r k, (V c main_v9 : FVec Ideal S2176x1024 .bf16) (ix2 r k) = (W r.val k.val : EReal))
variable (hS : ∀ r k, (V c main_arg6 : FVec Ideal S2048x1024 .f32) (ix2 r k) = (S r.val k.val : EReal))
variable (hX : ∀ r k, (V c main_v6_0 : FVec Ideal S2048x1024 .f32) (ix2 r k) = (xh R r.val k.val : EReal))
variable (hR : ∀ r, (V c main_v6_1 : FVec Ideal S2048x1 .f32) (ix2 r 0) = (rs R r.val : EReal))
variable (hG : ∀ k, (V c main_v2 : FVec Ideal S1x1x1024 .f32) (ix3 0 0 k) = (G k.val : EReal))
variable (t : Fin cfg1.N)

include hP in
theorem blk0_lo (r : Fin 256) (k : Fin 2176) :
    View.ld (iblk1 V c 0 t) (Rect.unit ![0, 0] ![256, 2176] inb_S512x2176_S256x2176_0_0) (ix2 r k) = (P (512 * t.val + r.val) k.val : EReal) := by
  refine Eq.trans ?_ (hP ⟨512 * t.val + r.val, by have := t.isLt; have e := N1; omega⟩ k)
  pointwise []
  blk_point [iblk1, idx1 t]

include hP in
theorem blk0_hi (r : Fin 256) (k : Fin 2176) :
    View.ld (iblk1 V c 0 t) (Rect.unit ![256, 0] ![256, 2176] inb_S512x2176_S256x2176_256_0) (ix2 r k) = (P (512 * t.val + 256 + r.val) k.val : EReal) := by
  refine Eq.trans ?_ (hP ⟨512 * t.val + 256 + r.val, by have := t.isLt; have e := N1; omega⟩ k)
  pointwise []
  blk_point [iblk1, idx1 t]

include hW in
theorem blk1 (r : Fin 2176) (k : Fin 1024) : iblk1 V c 1 t (ix2 r k) = (W r.val k.val : EReal) := by
  refine Eq.trans ?_ (hW r k)
  blk_point [iblk1, idx1 t]

include hS in
theorem blk2_lo (r : Fin 256) (k : Fin 1024) :
    View.ld (iblk1 V c 2 t) (Rect.unit ![0, 0] ![256, 1024] inb_S512x1024_S256x1024_0_0) (ix2 r k) = (S (512 * t.val + r.val) k.val : EReal) := by
  refine Eq.trans ?_ (hS ⟨512 * t.val + r.val, by have := t.isLt; have e := N1; omega⟩ k)
  pointwise []
  blk_point [iblk1, idx1 t]

include hS in
theorem blk2_hi (r : Fin 256) (k : Fin 1024) :
    View.ld (iblk1 V c 2 t) (Rect.unit ![256, 0] ![256, 1024] inb_S512x1024_S256x1024_256_0) (ix2 r k) = (S (512 * t.val + 256 + r.val) k.val : EReal) := by
  refine Eq.trans ?_ (hS ⟨512 * t.val + 256 + r.val, by have := t.isLt; have e := N1; omega⟩ k)
  pointwise []
  blk_point [iblk1, idx1 t]

include hX in
theorem blk3_lo (r : Fin 256) (k : Fin 1024) :
    View.ld (iblk1 V c 3 t) (Rect.unit ![0, 0] ![256, 1024] inb_S512x1024_S256x1024_0_0) (ix2 r k) = (xh R (512 * t.val + r.val) k.val : EReal) := by
  refine Eq.trans ?_ (hX ⟨512 * t.val + r.val, by have := t.isLt; have e := N1; omega⟩ k)
  pointwise []
  blk_point [iblk1, idx1 t]

include hX in
theorem blk3_hi (r : Fin 256) (k : Fin 1024) :
    View.ld (iblk1 V c 3 t) (Rect.unit ![256, 0] ![256, 1024] inb_S512x1024_S256x1024_256_0) (ix2 r k) = (xh R (512 * t.val + 256 + r.val) k.val : EReal) := by
  refine Eq.trans ?_ (hX ⟨512 * t.val + 256 + r.val, by have := t.isLt; have e := N1; omega⟩ k)
  pointwise []
  blk_point [iblk1, idx1 t]

include hR in
theorem blk4_lo (r : Fin 256) :
    View.ld (iblk1 V c 4 t) (Rect.unit ![0, 0] ![256, 1] inb_S512x1_S256x1_0_0) (ix2 r 0) = (rs R (512 * t.val + r.val) : EReal) := by
  refine Eq.trans ?_ (hR ⟨512 * t.val + r.val, by have := t.isLt; have e := N1; omega⟩)
  pointwise []
  blk_point [iblk1, idx1 t]

include hR in
theorem blk4_hi (r : Fin 256) :
    View.ld (iblk1 V c 4 t) (Rect.unit ![256, 0] ![256, 1] inb_S512x1_S256x1_256_0) (ix2 r 0) = (rs R (512 * t.val + 256 + r.val) : EReal) := by
  refine Eq.trans ?_ (hR ⟨512 * t.val + 256 + r.val, by have := t.isLt; have e := N1; omega⟩)
  pointwise []
  blk_point [iblk1, idx1 t]

include hG in
theorem blk5 (k : Fin 1024) : iblk1 V c 5 t (ix3 0 0 k) = (G k.val : EReal) := by
  refine Eq.trans ?_ (hG k)
  blk_point [iblk1, idx1 t]

include hP hW hS

include hX in
/-- A point's step of the gain's accumulator: both halves of its block. -/
theorem step_dg (acc : Vec Ideal S1x1024 .f32) (j : S1x1024.Idx) :
    k1_pay14
      (k1_pay12
        (k1_pay5 (View.ld (iblk1 V c 0 t) (Rect.unit ![0, 0] ![256, 2176] inb_S512x2176_S256x2176_0_0)) (iblk1 V c 1 t)
          (View.ld (iblk1 V c 2 t) (Rect.unit ![0, 0] ![256, 1024] inb_S512x1024_S256x1024_0_0))
          (View.ld (iblk1 V c 3 t) (Rect.unit ![0, 0] ![256, 1024] inb_S512x1024_S256x1024_0_0)) acc))
      (k1_pay13 (View.ld (iblk1 V c 0 t) (Rect.unit ![256, 0] ![256, 2176] inb_S512x2176_S256x2176_256_0))
        (iblk1 V c 1 t) (View.ld (iblk1 V c 2 t) (Rect.unit ![256, 0] ![256, 1024] inb_S512x1024_S256x1024_256_0))
        (View.ld (iblk1 V c 3 t) (Rect.unit ![256, 0] ![256, 1024] inb_S512x1024_S256x1024_256_0))) j
      = acc j + ((∑ r ∈ Finset.range 512, resid 2176 S P W (512 * t.val + r) (j 1).val * xh R (512 * t.val + r) (j 1).val : ℝ) : EReal) := by
  refine (pay5_dg R P S W (512 * t.val + 256) _ _ _ _ (blk0_hi P V c hP t) (blk1 W V c hW t) (blk2_hi S V c hS t) (blk3_hi R V c hX t) _ j).trans ?_
  rw [pay5_dg R P S W (512 * t.val) _ _ _ _ (blk0_lo P V c hP t) (blk1 W V c hW t) (blk2_lo S V c hS t) (blk3_lo R V c hX t) _ j, halves (fun r => resid 2176 S P W r (j 1).val * xh R r (j 1).val), add_assoc, ← EReal.coe_add]

/-- A point's step of the bias's accumulator: both halves of its block. -/
theorem step_db (acc : Vec Ideal S1x1024 .f32) (j : S1x1024.Idx) :
    k1_pay15 (k1_pay10 (View.ld (iblk1 V c 0 t) (Rect.unit ![256, 0] ![256, 2176] inb_S512x2176_S256x2176_256_0))
        (iblk1 V c 1 t) (View.ld (iblk1 V c 2 t) (Rect.unit ![256, 0] ![256, 1024] inb_S512x1024_S256x1024_256_0)))
      (k1_pay6 (View.ld (iblk1 V c 0 t) (Rect.unit ![0, 0] ![256, 2176] inb_S512x2176_S256x2176_0_0)) (iblk1 V c 1 t)
          (View.ld (iblk1 V c 2 t) (Rect.unit ![0, 0] ![256, 1024] inb_S512x1024_S256x1024_0_0)) acc) j
      = acc j + ((∑ r ∈ Finset.range 512, resid 2176 S P W (512 * t.val + r) (j 1).val : ℝ) : EReal) := by
  refine (pay6_db P S W (512 * t.val + 256) _ _ _ (blk0_hi P V c hP t) (blk1 W V c hW t) (blk2_hi S V c hS t) _ j).trans ?_
  rw [pay6_db P S W (512 * t.val) _ _ _ (blk0_lo P V c hP t) (blk1 W V c hW t) (blk2_lo S V c hS t) _ j, halves (fun r => resid 2176 S P W r (j 1).val), add_assoc, ← EReal.coe_add]

include hX in
/-- The gain's gradient. -/
theorem final1_8 : (dat1 V c).arrAt 8 cfg1.N = fun y : S1x1024.Idx => (dg R (resid 2176 S P W) (y 1).val : EReal) := by
  refine (dat1 V c).arrAt_eq_of_after_last 8 lastPt (by decide +kernel) _ fun j => ?_
  blk_simp
  rw [after1_8, Pipeline.eq_sum_fin_of_reset_step_apply_last (fun n h => (outsAt1 V c n h).2.2.1) 4 (fun _ => (0 : EReal))
    (fun t (j : S1x1024.Idx) => ((∑ r ∈ Finset.range 512, resid 2176 S P W (512 * t.val + r) (j 1).val * xh R (512 * t.val + r) (j 1).val : ℝ) : EReal))
    (fun t h j => by
      rw [outsAt1_A V c t h]; frame_out
      refine (step_dg R P S W V c hP hW hS hX t _ j).trans ?_
      congr 1
      exact pay1_zero j)
    (fun t h j => by
      rw [outsAt1_B V c t h]; frame_out
      exact step_dg R P S W V c hP hW hS hX t _ j)
    (le_of_eq N1) lastPt rfl j, zero_add,
    total cfg1.N _ (fun p => ∑ r ∈ Finset.range 512, resid 2176 S P W (512 * p + r) (j 1).val * xh R (512 * p + r) (j 1).val) (fun _ => rfl),
    N1, rows_blocks 4 512 (fun r => resid 2176 S P W r (j 1).val * xh R r (j 1).val)]
  rfl

/-- The bias's gradient. -/
theorem final1_9 : (dat1 V c).arrAt 9 cfg1.N = fun y : S1x1024.Idx => (db (resid 2176 S P W) (y 1).val : EReal) := by
  refine (dat1 V c).arrAt_eq_of_after_last 9 lastPt (by decide +kernel) _ fun j => ?_
  blk_simp
  rw [after1_9, Pipeline.eq_sum_fin_of_reset_step_apply_last (fun n h => (outsAt1 V c n h).2.2.2) 4 (fun _ => (0 : EReal))
    (fun t (j : S1x1024.Idx) => ((∑ r ∈ Finset.range 512, resid 2176 S P W (512 * t.val + r) (j 1).val : ℝ) : EReal))
    (fun t h j => by
      rw [outsAt1_A V c t h]; frame_out
      refine (step_db P S W V c hP hW hS t _ j).trans ?_
      congr 1
      exact pay2_zero j)
    (fun t h j => by
      rw [outsAt1_B V c t h]; frame_out
      exact step_db P S W V c hP hW hS t _ j)
    (le_of_eq N1) lastPt rfl j, zero_add,
    total cfg1.N _ (fun p => ∑ r ∈ Finset.range 512, resid 2176 S P W (512 * p + r) (j 1).val) (fun _ => rfl),
    N1, rows_blocks 4 512 (fun r => resid 2176 S P W r (j 1).val)]
  rfl

include hX hR hG

/-- The gradient of the residual sum in the lower half of a point's block. -/
theorem point_lo (r : Fin 256) (l : Fin 1024) :
    k1_pay16 (k1_pay3 (View.ld (iblk1 V c 0 t) (Rect.unit ![0, 0] ![256, 2176] inb_S512x2176_S256x2176_0_0)) (iblk1 V c 1 t)
        (View.ld (iblk1 V c 2 t) (Rect.unit ![0, 0] ![256, 1024] inb_S512x1024_S256x1024_0_0)))
      (k1_pay4 (View.ld (iblk1 V c 3 t) (Rect.unit ![0, 0] ![256, 1024] inb_S512x1024_S256x1024_0_0)))
      (iblk1 V c 5 t) (View.ld (iblk1 V c 4 t) (Rect.unit ![0, 0] ![256, 1] inb_S512x1_S256x1_0_0)) (ix2 r l)
      = (dr R G (resid 2176 S P W) (512 * t.val + r.val) l.val : EReal) :=
  pay16_dr R P S W G (512 * t.val) _ _ _ _ _ _ (blk0_lo P V c hP t) (blk1 W V c hW t) (blk2_lo S V c hS t) (blk3_lo R V c hX t) (blk5 G V c hG t)
    (blk4_lo R V c hR t) r l

/-- The gradient of the residual sum in the upper half of a point's block. -/
theorem point_hi (r : Fin 256) (l : Fin 1024) :
    k1_pay16 (k1_pay3 (View.ld (iblk1 V c 0 t) (Rect.unit ![256, 0] ![256, 2176] inb_S512x2176_S256x2176_256_0)) (iblk1 V c 1 t)
        (View.ld (iblk1 V c 2 t) (Rect.unit ![256, 0] ![256, 1024] inb_S512x1024_S256x1024_256_0)))
      (k1_pay4 (View.ld (iblk1 V c 3 t) (Rect.unit ![256, 0] ![256, 1024] inb_S512x1024_S256x1024_256_0)))
      (iblk1 V c 5 t) (View.ld (iblk1 V c 4 t) (Rect.unit ![256, 0] ![256, 1] inb_S512x1_S256x1_256_0)) (ix2 r l)
      = (dr R G (resid 2176 S P W) (512 * t.val + 256 + r.val) l.val : EReal) :=
  pay16_dr R P S W G (512 * t.val + 256) _ _ _ _ _ _ (blk0_hi P V c hP t) (blk1 W V c hW t) (blk2_hi S V c hS t) (blk3_hi R V c hX t) (blk5 G V c hG t)
    (blk4_hi R V c hR t) r l

/-- The gradient of the residual sum. -/
theorem final1_6 : (dat1 V c).arrAt 6 cfg1.N = fun y : S2048x1024.Idx => (dr R G (resid 2176 S P W) (y 0).val (y 1).val : EReal) := by
  refine (dat1 V c).arrAt_eq_of_covers 6 _ (by decide +kernel) fun t _ y => ?_
  blk_simp
  rw [after1_6]
  by_cases h : t.val % 4 = 0
  · rw [outsAt1_A V c t h]; frame_out; canon_tiles x h
    · rw [eq_ix2 x]
      refine (point_hi R P S W G V c hP hW hS hX hR hG t _ _).trans ?_
      simp only [idx1 t]
      congr 2
      · show _ = t.val * 512 + _; omega
      · show _ = 0 * 1024 + _; omega
    · rw [eq_ix2 x]
      refine (point_lo R P S W G V c hP hW hS hX hR hG t _ _).trans ?_
      simp only [idx1 t]
      congr 2
      · show _ = t.val * 512 + _; omega
      · show _ = 0 * 1024 + _; omega
  · rw [outsAt1_B V c t h]; frame_out; canon_tiles x h
    · rw [eq_ix2 x]
      refine (point_hi R P S W G V c hP hW hS hX hR hG t _ _).trans ?_
      simp only [idx1 t]
      congr 2
      · show _ = t.val * 512 + _; omega
      · show _ = 0 * 1024 + _; omega
    · rw [eq_ix2 x]
      refine (point_lo R P S W G V c hP hW hS hX hR hG t _ _).trans ?_
      simp only [idx1 t]
      congr 2
      · show _ = t.val * 512 + _; omega
      · show _ = 0 * 1024 + _; omega

/-- The same in bf16. -/
theorem final1_7 : (dat1 V c).arrAt 7 cfg1.N = fun y : S2048x1024.Idx => (dr R G (resid 2176 S P W) (y 0).val (y 1).val : EReal) := by
  refine (dat1 V c).arrAt_eq_of_covers 7 _ (by decide +kernel) fun t _ y => ?_
  blk_simp
  rw [after1_7]
  by_cases h : t.val % 4 = 0
  · rw [outsAt1_A V c t h]; frame_out; canon_tiles x h
    · rw [eq_ix2 x]
      refine (point_hi R P S W G V c hP hW hS hX hR hG t _ _).trans ?_
      simp only [idx1 t]
      congr 2
      · show _ = t.val * 512 + _; omega
      · show _ = 0 * 1024 + _; omega
    · rw [eq_ix2 x]
      refine (point_lo R P S W G V c hP hW hS hX hR hG t _ _).trans ?_
      simp only [idx1 t]
      congr 2
      · show _ = t.val * 512 + _; omega
      · show _ = 0 * 1024 + _; omega
  · rw [outsAt1_B V c t h]; frame_out; canon_tiles x h
    · rw [eq_ix2 x]
      refine (point_hi R P S W G V c hP hW hS hX hR hG t _ _).trans ?_
      simp only [idx1 t]
      congr 2
      · show _ = t.val * 512 + _; omega
      · show _ = 0 * 1024 + _; omega
    · rw [eq_ix2 x]
      refine (point_lo R P S W G V c hP hW hS hX hR hG t _ _).trans ?_
      simp only [idx1 t]
      congr 2
      · show _ = t.val * 512 + _; omega
      · show _ = 0 * 1024 + _; omega

end Call

end Cert.KernelDnIdeal.Hand

end
-- ==== Proof.Wo.Spec.lean ====
/- The cotangent of the layer norm under the feed-forward part, as formulas over the real numbers: the two halves of the gate's gradient,
   side by side, times the gate's matrix. -/
module

public import proofs.«01_k».proof.Proof.Ln.Spec

@[expose] public section

noncomputable section

namespace Cert.Wo

open Cert.Ln

/-- Two tables of 2816 columns side by side. -/
def two (P Q : ℕ → ℕ → ℝ) (r j : ℕ) : ℝ := if j < 2816 then P r j else Q r (j - 2816)

/-- The product with both tables is the sum of the two products. -/
theorem resid_two (S P Q W : ℕ → ℕ → ℝ) (r k : ℕ) : resid 5632 S (two P Q) W r k
    = alpha * S r k + (∑ j ∈ Finset.range 2816, P r j * W j k + ∑ j ∈ Finset.range 2816, Q r j * W (2816 + j) k) := by
  unfold resid
  rw [show 5632 = 2816 + 2816 from rfl, Finset.sum_range_add]
  exact congrArg (alpha * S r k + ·) (congrArg₂ (· + ·)
    (Finset.sum_congr rfl fun j hj => by rw [two, if_pos (Finset.mem_range.1 hj)])
    (Finset.sum_congr rfl fun j _ => by rw [two, if_neg (by omega), Nat.add_sub_cancel_left]))

/-- The gradient of the product's left argument: the gradient of the residual sum times the transposed matrix. -/
def dmix (D W : ℕ → ℕ → ℝ) (r l : ℕ) : ℝ := ∑ j ∈ Finset.range 1024, D r j * W l j

end Cert.Wo

end
-- ==== Proof.Wo.Backward.lean ====
/- The backward call of the layer norm under the feed-forward part: what it leaves in its five arrays, at real entries. -/
module

public import proofs.«01_k».proof.Proof.Gen.KernelWoIdeal.Frame
public import proofs.«01_k».proof.Proof.Ls.Backward
public import proofs.«01_k».proof.Proof.Dn.Backward
public import proofs.«01_k».proof.Proof.Wo.Spec

@[expose] public section

set_option maxRecDepth 16384

noncomputable section

namespace Cert.KernelWoIdeal.Hand

open Idealize.ShloMosaic Idealize.ShloMosaic.TcCoe Idealize.SL.Sem
open Idealize.ShloMosaic.Pipeline (Dat)
open Cert.KernelWoIdeal.Gen
open Cert.Ln
open Cert.Wo (two resid_two dmix)
open Cert.KernelDnIdeal.Hand (halves)
open Cert.Mx.Spec (bits_zero)

section Half

variable (R P Q S U : ℕ → ℕ → ℝ) (G : ℕ → ℝ) (W : ℕ → ℕ → ℝ) (off : ℕ)
variable (v3 v8 : Vec Ideal S256x2816 .bf16) (v5 v10 : Vec Ideal S2816x1024 .bf16) (v14 v18 : Vec Ideal S256x1024 .f32)
variable (v33 : Vec Ideal S1x1x1024 .f32) (v46 : Vec Ideal S256x1 .f32) (v58 : Vec Ideal S1024x1024 .bf16)
variable (hP : ∀ r k, v3 (ix2 r k) = (P (off + r.val) k.val : EReal)) (hU0 : ∀ r k, v5 (ix2 r k) = (U r.val k.val : EReal))
variable (hQ : ∀ r k, v8 (ix2 r k) = (Q (off + r.val) k.val : EReal)) (hU1 : ∀ r k, v10 (ix2 r k) = (U (2816 + r.val) k.val : EReal))
variable (hS : ∀ r k, v14 (ix2 r k) = (S (off + r.val) k.val : EReal)) (hX : ∀ r k, v18 (ix2 r k) = (xh R (off + r.val) k.val : EReal))
variable (hG : ∀ k, v33 (ix3 0 0 k) = (G k.val : EReal)) (hR : ∀ r, v46 (ix2 r 0) = (rs R (off + r.val) : EReal))
variable (hW : ∀ r k, v58 (ix2 r k) = (W r.val k.val : EReal))

include hP hU0 hQ hU1 hS
/-- The norm's cotangent in a half block: the residual's share and the products with the two halves of the gate's matrix. -/
theorem pay6_dy (r : Fin 256) (l : Fin 1024) : k1_pay6 v3 v5 v8 v10 v14 (ix2 r l) = (resid 5632 S (two P Q) U (off + r.val) l.val : EReal) := by
  pointwise [k1_pay6]
  rw [hS, bits_alpha, ← EReal.coe_mul, total 2816 _ (fun j => P (off + r.val) j * U j l.val) (fun j => by rw [hP, hU0, ← EReal.coe_mul]),
    total 2816 _ (fun j => Q (off + r.val) j * U (2816 + j) l.val) (fun j => by rw [hQ, hU1, ← EReal.coe_mul]), ← EReal.coe_add, ← EReal.coe_add, resid_two]

include hX in
/-- A half block's step of the gain's accumulator. -/
theorem pay8_dg (acc : Vec Ideal S1x1024 .f32) (i : S1x1024.Idx) : k1_pay8 v3 v5 v8 v10 v14 v18 acc i
    = acc i + ((∑ r ∈ Finset.range 256, resid 5632 S (two P Q) U (off + r) (i 1).val * xh R (off + r) (i 1).val : ℝ) : EReal) := by
  rw [eq_ix2 i]
  pointwise [k1_pay8, k1_pay7]
  rw [total 256 _ (fun r => resid 5632 S (two P Q) U (off + r) (i 1).val * xh R (off + r) (i 1).val) fun r =>
    (congrArg₂ (· * ·) (pay6_dy P Q S U off v3 v8 v5 v10 v14 hP hU0 hQ hU1 hS r _) (hX r _)).trans (EReal.coe_mul _ _).symm]

/-- A half block's step of the bias's accumulator. -/
theorem pay9_db (acc : Vec Ideal S1x1024 .f32) (i : S1x1024.Idx) : k1_pay9 v3 v5 v8 v10 v14 acc i
    = acc i + ((∑ r ∈ Finset.range 256, resid 5632 S (two P Q) U (off + r) (i 1).val : ℝ) : EReal) := by
  rw [eq_ix2 i]
  pointwise [k1_pay9]
  rw [total 256 _ (fun r => resid 5632 S (two P Q) U (off + r) (i 1).val) fun r => pay6_dy P Q S U off v3 v8 v5 v10 v14 hP hU0 hQ hU1 hS r _]

include hX hG hR
/-- The gradient of the residual sum in a half block. -/
theorem pay10_dr (r : Fin 256) (l : Fin 1024) :
    k1_pay10 (k1_pay6 v3 v5 v8 v10 v14) (k1_pay7 v18) v33 v46 (ix2 r l) = (dr R G (resid 5632 S (two P Q) U) (off + r.val) l.val : EReal) :=
  Cert.KernelLsIdeal.Hand.pay3_dr R G off (k1_pay7 v18) _ _ _ (resid 5632 S (two P Q) U) (fun r k => by pointwise [k1_pay7]; exact hX r k)
    (pay6_dy P Q S U off v3 v8 v5 v10 v14 hP hU0 hQ hU1 hS) hG hR r l

include hW in
/-- The gradient of the mixers' result in a half block. -/
theorem pay12_dmix (r : Fin 256) (l : Fin 1024) : k1_pay12 (k1_pay6 v3 v5 v8 v10 v14) (k1_pay7 v18) v33 v46 v58 (ix2 r l)
    = (dmix (dr R G (resid 5632 S (two P Q) U)) W (off + r.val) l.val : EReal) := by
  pointwise [k1_pay12, k1_pay11]
  exact total 1024 _ (fun j => dr R G (resid 5632 S (two P Q) U) (off + r.val) j * W l.val j) fun j =>
    (congrArg₂ (· * ·) (pay10_dr R P Q S U G off v3 v8 v5 v10 v14 v18 v33 v46 hP hU0 hQ hU1 hS hX hG hR r j) (hW l j)).trans (EReal.coe_mul _ _).symm

end Half

theorem pay4_zero (j : S1x1024.Idx) : k1_pay4 (F := Ideal) j = (0 : EReal) := by pointwise [k1_pay4]
theorem pay5_zero (j : S1x1024.Idx) : k1_pay5 (F := Ideal) j = (0 : EReal) := by pointwise [k1_pay5]

/-- The windows' block indices at every point of the backward call. -/
theorem idx1 : ∀ t : Fin cfg1.N, win1_0.index t = ![t.val, 0] ∧ win1_1.index t = ![t.val, 0] ∧ win1_2.index t = ![0, 0]
    ∧ win1_3.index t = ![t.val, 0] ∧ win1_4.index t = ![t.val, 0] ∧ win1_5.index t = ![t.val, 0] ∧ win1_6.index t = ![0, 0, 0]
    ∧ win1_7.index t = ![0, 0] ∧ win1_8.index t = ![t.val, 0] ∧ win1_9.index t = ![t.val, 0] ∧ win1_10.index t = ![0, 0]
    ∧ win1_11.index t = ![0, 0] ∧ win1_12.index t = ![t.val, 0] :=
  (by decide +kernel : ∀ t : Fin grid1.N, _)

theorem N1 : cfg1.N = 4 := by decide

/-- The last point of the grid. -/
def lastPt : Fin cfg1.N := ⟨3, by decide⟩

section Call

variable (R P Q S U : ℕ → ℕ → ℝ) (G : ℕ → ℝ) (W : ℕ → ℕ → ℝ)
variable (V : (c : Dev nD) → (b : Ref sig .tc) → Buf (Elt Ideal) ((c : Thread nD τ).loc b)) (c : Dev nD)
variable (hP : ∀ r k, (V c main_v7 : FVec Ideal S2048x2816 .bf16) (ix2 r k) = (P r.val k.val : EReal))
variable (hQ : ∀ r k, (V c main_v8 : FVec Ideal S2048x2816 .bf16) (ix2 r k) = (Q r.val k.val : EReal))
variable (hU : ∀ r k, (V c main_v10 : FVec Ideal S5632x1024 .bf16) (ix2 r k) = (U r.val k.val : EReal))
variable (hS : ∀ r k, (V c main_arg6 : FVec Ideal S2048x1024 .f32) (ix2 r k) = (S r.val k.val : EReal))
variable (hX : ∀ r k, (V c main_v6_0 : FVec Ideal S2048x1024 .f32) (ix2 r k) = (xh R r.val k.val : EReal))
variable (hR : ∀ r, (V c main_v6_1 : FVec Ideal S2048x1 .f32) (ix2 r 0) = (rs R r.val : EReal))
variable (hG : ∀ k, (V c main_v2 : FVec Ideal S1x1x1024 .f32) (ix3 0 0 k) = (G k.val : EReal))
variable (hW : ∀ r k, (V c main_v4 : FVec Ideal S1024x1024 .bf16) (ix2 r k) = (W r.val k.val : EReal))
variable (t : Fin cfg1.N)

include hP in
theorem hb0_lo (r : Fin 256) (k : Fin 2816) :
    View.ld (iblk1 V c 0 t) (Rect.unit ![0, 0] ![256, 2816] inb_S512x2816_S256x2816_0_0) (ix2 r k) = (P (512 * t.val + r.val) k.val : EReal) := by
  refine Eq.trans ?_ (hP ⟨512 * t.val + r.val, by have := t.isLt; have e := N1; omega⟩ k)
  pointwise []
  blk_point [iblk1, idx1 t]

include hP in
theorem hb0_hi (r : Fin 256) (k : Fin 2816) :
    View.ld (iblk1 V c 0 t) (Rect.unit ![256, 0] ![256, 2816] inb_S512x2816_S256x2816_256_0) (ix2 r k) = (P (512 * t.val + 256 + r.val) k.val : EReal) := by
  refine Eq.trans ?_ (hP ⟨512 * t.val + 256 + r.val, by have := t.isLt; have e := N1; omega⟩ k)
  pointwise []
  blk_point [iblk1, idx1 t]

include hQ in
theorem hb1_lo (r : Fin 256) (k : Fin 2816) :
    View.ld (iblk1 V c 1 t) (Rect.unit ![0, 0] ![256, 2816] inb_S512x2816_S256x2816_0_0) (ix2 r k) = (Q (512 * t.val + r.val) k.val : EReal) := by
  refine Eq.trans ?_ (hQ ⟨512 * t.val + r.val, by have := t.isLt; have e := N1; omega⟩ k)
  pointwise []
  blk_point [iblk1, idx1 t]

include hQ in
theorem hb1_hi (r : Fin 256) (k : Fin 2816) :
    View.ld (iblk1 V c 1 t) (Rect.unit ![256, 0] ![256, 2816] inb_S512x2816_S256x2816_256_0) (ix2 r k) = (Q (512 * t.val + 256 + r.val) k.val : EReal) := by
  refine Eq.trans ?_ (hQ ⟨512 * t.val + 256 + r.val, by have := t.isLt; have e := N1; omega⟩ k)
  pointwise []
  blk_point [iblk1, idx1 t]

include hU in
theorem hb2_0 (r : Fin 2816) (k : Fin 1024) :
    View.ld (iblk1 V c 2 t) (Rect.unit ![0, 0] ![2816, 1024] inb_S5632x1024_S2816x1024_0_0) (ix2 r k) = (U r.val k.val : EReal) := by
  refine Eq.trans ?_ (hU ⟨r.val, by omega⟩ k)
  pointwise []
  blk_point [iblk1, idx1 t]

include hU in
theorem hb2_1 (r : Fin 2816) (k : Fin 1024) :
    View.ld (iblk1 V c 2 t) (Rect.unit ![2816, 0] ![2816, 1024] inb_S5632x1024_S2816x1024_2816_0) (ix2 r k) = (U (2816 + r.val) k.val : EReal) := by
  refine Eq.trans ?_ (hU ⟨2816 + r.val, by omega⟩ k)
  pointwise []
  blk_point [iblk1, idx1 t]

include hS in
theorem hb3_lo (r : Fin 256) (k : Fin 1024) :
    View.ld (iblk1 V c 3 t) (Rect.unit ![0, 0] ![256, 1024] inb_S512x1024_S256x1024_0_0) (ix2 r k) = (S (512 * t.val + r.val) k.val : EReal) := by
  refine Eq.trans ?_ (hS ⟨512 * t.val + r.val, by have := t.isLt; have e := N1; omega⟩ k)
  pointwise []
  blk_point [iblk1, idx1 t]

include hS in
theorem hb3_hi (r : Fin 256) (k : Fin 1024) :
    View.ld (iblk1 V c 3 t) (Rect.unit ![256, 0] ![256, 1024] inb_S512x1024_S256x1024_256_0) (ix2 r k) = (S (512 * t.val + 256 + r.val) k.val : EReal) := by
  refine Eq.trans ?_ (hS ⟨512 * t.val + 256 + r.val, by have := t.isLt; have e := N1; omega⟩ k)
  pointwise []
  blk_point [iblk1, idx1 t]

include hX in
theorem hb4_lo (r : Fin 256) (k : Fin 1024) :
    View.ld (iblk1 V c 4 t) (Rect.unit ![0, 0] ![256, 1024] inb_S512x1024_S256x1024_0_0) (ix2 r k) = (xh R (512 * t.val + r.val) k.val : EReal) := by
  refine Eq.trans ?_ (hX ⟨512 * t.val + r.val, by have := t.isLt; have e := N1; omega⟩ k)
  pointwise []
  blk_point [iblk1, idx1 t]

include hX in
theorem hb4_hi (r : Fin 256) (k : Fin 1024) :
    View.ld (iblk1 V c 4 t) (Rect.unit ![256, 0] ![256, 1024] inb_S512x1024_S256x1024_256_0) (ix2 r k) = (xh R (512 * t.val + 256 + r.val) k.val : EReal) := by
  refine Eq.trans ?_ (hX ⟨512 * t.val + 256 + r.val, by have := t.isLt; have e := N1; omega⟩ k)
  pointwise []
  blk_point [iblk1, idx1 t]

include hR in
theorem hb5_lo (r : Fin 256) :
    View.ld (iblk1 V c 5 t) (Rect.unit ![0, 0] ![256, 1] inb_S512x1_S256x1_0_0) (ix2 r 0) = (rs R (512 * t.val + r.val) : EReal) := by
  refine Eq.trans ?_ (hR ⟨512 * t.val + r.val, by have := t.isLt; have e := N1; omega⟩)
  pointwise []
  blk_point [iblk1, idx1 t]

include hR in
theorem hb5_hi (r : Fin 256) :
    View.ld (iblk1 V c 5 t) (Rect.unit ![256, 0] ![256, 1] inb_S512x1_S256x1_256_0) (ix2 r 0) = (rs R (512 * t.val + 256 + r.val) : EReal) := by
  refine Eq.trans ?_ (hR ⟨512 * t.val + 256 + r.val, by have := t.isLt; have e := N1; omega⟩)
  pointwise []
  blk_point [iblk1, idx1 t]

include hG in
theorem hb6 (k : Fin 1024) : iblk1 V c 6 t (ix3 0 0 k) = (G k.val : EReal) := by
  refine Eq.trans ?_ (hG k)
  blk_point [iblk1, idx1 t]

include hW in
theorem hb7 (r k : Fin 1024) : iblk1 V c 7 t (ix2 r k) = (W r.val k.val : EReal) := by
  refine Eq.trans ?_ (hW r k)
  blk_point [iblk1, idx1 t]

include hP hQ hU hS

include hX in
/-- A point's step of the gain's accumulator: both halves of its block. -/
theorem step_dg (acc : Vec Ideal S1x1024 .f32) (j : S1x1024.Idx) :
    k1_pay16 (k1_pay13 (View.ld (iblk1 V c 0 t) (Rect.unit ![256, 0] ![256, 2816] inb_S512x2816_S256x2816_256_0))) (View.ld (iblk1 V c 2 t) (Rect.unit ![0, 0] ![2816, 1024] inb_S5632x1024_S2816x1024_0_0))
      (View.ld (iblk1 V c 1 t) (Rect.unit ![256, 0] ![256, 2816] inb_S512x2816_S256x2816_256_0)) (View.ld (iblk1 V c 2 t) (Rect.unit ![2816, 0] ![2816, 1024] inb_S5632x1024_S2816x1024_2816_0))
      (View.ld (iblk1 V c 3 t) (Rect.unit ![256, 0] ![256, 1024] inb_S512x1024_S256x1024_256_0)) (View.ld (iblk1 V c 4 t) (Rect.unit ![256, 0] ![256, 1024] inb_S512x1024_S256x1024_256_0))
      (k1_pay8 (View.ld (iblk1 V c 0 t) (Rect.unit ![0, 0] ![256, 2816] inb_S512x2816_S256x2816_0_0)) (View.ld (iblk1 V c 2 t) (Rect.unit ![0, 0] ![2816, 1024] inb_S5632x1024_S2816x1024_0_0))
        (View.ld (iblk1 V c 1 t) (Rect.unit ![0, 0] ![256, 2816] inb_S512x2816_S256x2816_0_0)) (View.ld (iblk1 V c 2 t) (Rect.unit ![2816, 0] ![2816, 1024] inb_S5632x1024_S2816x1024_2816_0))
        (View.ld (iblk1 V c 3 t) (Rect.unit ![0, 0] ![256, 1024] inb_S512x1024_S256x1024_0_0))
        (View.ld (iblk1 V c 4 t) (Rect.unit ![0, 0] ![256, 1024] inb_S512x1024_S256x1024_0_0)) acc) j
      = acc j + ((∑ r ∈ Finset.range 512, resid 5632 S (two P Q) U (512 * t.val + r) (j 1).val * xh R (512 * t.val + r) (j 1).val : ℝ) : EReal) := by
  refine (pay8_dg R P Q S U (512 * t.val + 256) _ _ _ _ _ _ (hb0_hi P V c hP t) (hb2_0 U V c hU t) (hb1_hi Q V c hQ t) (hb2_1 U V c hU t) (hb3_hi S V c hS t) (hb4_hi R V c hX t) _ j).trans ?_
  rw [pay8_dg R P Q S U (512 * t.val) _ _ _ _ _ _ (hb0_lo P V c hP t) (hb2_0 U V c hU t) (hb1_lo Q V c hQ t) (hb2_1 U V c hU t) (hb3_lo S V c hS t) (hb4_lo R V c hX t) _ j,
    halves (fun r => resid 5632 S (two P Q) U r (j 1).val * xh R r (j 1).val), add_assoc, ← EReal.coe_add]

/-- A point's step of the bias's accumulator: both halves of its block. -/
theorem step_db (acc : Vec Ideal S1x1024 .f32) (j : S1x1024.Idx) :
    k1_pay17 (k1_pay13 (View.ld (iblk1 V c 0 t) (Rect.unit ![256, 0] ![256, 2816] inb_S512x2816_S256x2816_256_0))) (View.ld (iblk1 V c 2 t) (Rect.unit ![0, 0] ![2816, 1024] inb_S5632x1024_S2816x1024_0_0))
      (View.ld (iblk1 V c 1 t) (Rect.unit ![256, 0] ![256, 2816] inb_S512x2816_S256x2816_256_0)) (View.ld (iblk1 V c 2 t) (Rect.unit ![2816, 0] ![2816, 1024] inb_S5632x1024_S2816x1024_2816_0))
      (View.ld (iblk1 V c 3 t) (Rect.unit ![256, 0] ![256, 1024] inb_S512x1024_S256x1024_256_0))
      (k1_pay9 (View.ld (iblk1 V c 0 t) (Rect.unit ![0, 0] ![256, 2816] inb_S512x2816_S256x2816_0_0)) (View.ld (iblk1 V c 2 t) (Rect.unit ![0, 0] ![2816, 1024] inb_S5632x1024_S2816x1024_0_0))
        (View.ld (iblk1 V c 1 t) (Rect.unit ![0, 0] ![256, 2816] inb_S512x2816_S256x2816_0_0)) (View.ld (iblk1 V c 2 t) (Rect.unit ![2816, 0] ![2816, 1024] inb_S5632x1024_S2816x1024_2816_0))
        (View.ld (iblk1 V c 3 t) (Rect.unit ![0, 0] ![256, 1024] inb_S512x1024_S256x1024_0_0)) acc) j
      = acc j + ((∑ r ∈ Finset.range 512, resid 5632 S (two P Q) U (512 * t.val + r) (j 1).val : ℝ) : EReal) := by
  refine (pay9_db P Q S U (512 * t.val + 256) _ _ _ _ _ (hb0_hi P V c hP t) (hb2_0 U V c hU t) (hb1_hi Q V c hQ t) (hb2_1 U V c hU t) (hb3_hi S V c hS t) _ j).trans ?_
  rw [pay9_db P Q S U (512 * t.val) _ _ _ _ _ (hb0_lo P V c hP t) (hb2_0 U V c hU t) (hb1_lo Q V c hQ t) (hb2_1 U V c hU t) (hb3_lo S V c hS t) _ j,
    halves (fun r => resid 5632 S (two P Q) U r (j 1).val), add_assoc, ← EReal.coe_add]

include hX in
/-- The gain's gradient. -/
theorem final1_10 : (dat1 V c).arrAt 10 cfg1.N = fun y : S1x1024.Idx => (dg R (resid 5632 S (two P Q) U) (y 1).val : EReal) := by
  refine (dat1 V c).arrAt_eq_of_after_last 10 lastPt (by decide +kernel) _ fun j => ?_
  blk_simp
  rw [after1_10, Pipeline.eq_sum_fin_of_reset_step_apply_last (fun n h => (outsAt1 V c n h).2.2.1) 4 (fun _ => (0 : EReal))
    (fun t (j : S1x1024.Idx) => ((∑ r ∈ Finset.range 512, resid 5632 S (two P Q) U (512 * t.val + r) (j 1).val * xh R (512 * t.val + r) (j 1).val : ℝ) : EReal))
    (fun t h j => by
      rw [outsAt1_A V c t h]; frame_out
      refine (step_dg R P Q S U V c hP hQ hU hS hX t _ j).trans ?_
      congr 1
      exact pay4_zero j)
    (fun t h j => by
      rw [outsAt1_B V c t h]; frame_out
      exact step_dg R P Q S U V c hP hQ hU hS hX t _ j)
    (le_of_eq N1) lastPt rfl j, zero_add,
    total cfg1.N _ (fun p => ∑ r ∈ Finset.range 512, resid 5632 S (two P Q) U (512 * p + r) (j 1).val * xh R (512 * p + r) (j 1).val) (fun _ => rfl),
    N1, rows_blocks 4 512 (fun r => resid 5632 S (two P Q) U r (j 1).val * xh R r (j 1).val)]
  rfl

/-- The bias's gradient. -/
theorem final1_11 : (dat1 V c).arrAt 11 cfg1.N = fun y : S1x1024.Idx => (db (resid 5632 S (two P Q) U) (y 1).val : EReal) := by
  refine (dat1 V c).arrAt_eq_of_after_last 11 lastPt (by decide +kernel) _ fun j => ?_
  blk_simp
  rw [after1_11, Pipeline.eq_sum_fin_of_reset_step_apply_last (fun n h => (outsAt1 V c n h).2.2.2.1) 4 (fun _ => (0 : EReal))
    (fun t (j : S1x1024.Idx) => ((∑ r ∈ Finset.range 512, resid 5632 S (two P Q) U (512 * t.val + r) (j 1).val : ℝ) : EReal))
    (fun t h j => by
      rw [outsAt1_A V c t h]; frame_out
      refine (step_db P Q S U V c hP hQ hU hS t _ j).trans ?_
      congr 1
      exact pay5_zero j)
    (fun t h j => by
      rw [outsAt1_B V c t h]; frame_out
      exact step_db P Q S U V c hP hQ hU hS t _ j)
    (le_of_eq N1) lastPt rfl j, zero_add,
    total cfg1.N _ (fun p => ∑ r ∈ Finset.range 512, resid 5632 S (two P Q) U (512 * p + r) (j 1).val) (fun _ => rfl),
    N1, rows_blocks 4 512 (fun r => resid 5632 S (two P Q) U r (j 1).val)]
  rfl

include hX hR hG

/-- The gradient of the residual sum in the lower half of a point's block. -/
theorem point_lo (r : Fin 256) (l : Fin 1024) :
    k1_pay10 (k1_pay6 (View.ld (iblk1 V c 0 t) (Rect.unit ![0, 0] ![256, 2816] inb_S512x2816_S256x2816_0_0)) (View.ld (iblk1 V c 2 t) (Rect.unit ![0, 0] ![2816, 1024] inb_S5632x1024_S2816x1024_0_0))
        (View.ld (iblk1 V c 1 t) (Rect.unit ![0, 0] ![256, 2816] inb_S512x2816_S256x2816_0_0)) (View.ld (iblk1 V c 2 t) (Rect.unit ![2816, 0] ![2816, 1024] inb_S5632x1024_S2816x1024_2816_0))
        (View.ld (iblk1 V c 3 t) (Rect.unit ![0, 0] ![256, 1024] inb_S512x1024_S256x1024_0_0)))
      (k1_pay7 (View.ld (iblk1 V c 4 t) (Rect.unit ![0, 0] ![256, 1024] inb_S512x1024_S256x1024_0_0))) (iblk1 V c 6 t) (View.ld (iblk1 V c 5 t) (Rect.unit ![0, 0] ![256, 1] inb_S512x1_S256x1_0_0)) (ix2 r l)
      = (dr R G (resid 5632 S (two P Q) U) (512 * t.val + r.val) l.val : EReal) :=
  pay10_dr R P Q S U G (512 * t.val) _ _ _ _ _ _ _ _ (hb0_lo P V c hP t) (hb2_0 U V c hU t) (hb1_lo Q V c hQ t) (hb2_1 U V c hU t) (hb3_lo S V c hS t)
    (hb4_lo R V c hX t) (hb6 G V c hG t) (hb5_lo R V c hR t) r l

include hW in
/-- The gradient of the mixers' result in the lower half of a point's block. -/
theorem back_lo (r : Fin 256) (l : Fin 1024) :
    k1_pay12 (k1_pay6 (View.ld (iblk1 V c 0 t) (Rect.unit ![0, 0] ![256, 2816] inb_S512x2816_S256x2816_0_0)) (View.ld (iblk1 V c 2 t) (Rect.unit ![0, 0] ![2816, 1024] inb_S5632x1024_S2816x1024_0_0))
        (View.ld (iblk1 V c 1 t) (Rect.unit ![0, 0] ![256, 2816] inb_S512x2816_S256x2816_0_0)) (View.ld (iblk1 V c 2 t) (Rect.unit ![2816, 0] ![2816, 1024] inb_S5632x1024_S2816x1024_2816_0))
        (View.ld (iblk1 V c 3 t) (Rect.unit ![0, 0] ![256, 1024] inb_S512x1024_S256x1024_0_0)))
      (k1_pay7 (View.ld (iblk1 V c 4 t) (Rect.unit ![0, 0] ![256, 1024] inb_S512x1024_S256x1024_0_0))) (iblk1 V c 6 t) (View.ld (iblk1 V c 5 t) (Rect.unit ![0, 0] ![256, 1] inb_S512x1_S256x1_0_0)) (iblk1 V c 7 t) (ix2 r l)
      = (dmix (dr R G (resid 5632 S (two P Q) U)) W (512 * t.val + r.val) l.val : EReal) :=
  pay12_dmix R P Q S U G W (512 * t.val) _ _ _ _ _ _ _ _ _ (hb0_lo P V c hP t) (hb2_0 U V c hU t) (hb1_lo Q V c hQ t) (hb2_1 U V c hU t) (hb3_lo S V c hS t)
    (hb4_lo R V c hX t) (hb6 G V c hG t) (hb5_lo R V c hR t) (hb7 W V c hW t) r l

/-- The gradient of the residual sum in the upper half of a point's block. -/
theorem point_hi (r : Fin 256) (l : Fin 1024) :
    k1_pay10 (k1_pay6 (View.ld (iblk1 V c 0 t) (Rect.unit ![256, 0] ![256, 2816] inb_S512x2816_S256x2816_256_0)) (View.ld (iblk1 V c 2 t) (Rect.unit ![0, 0] ![2816, 1024] inb_S5632x1024_S2816x1024_0_0))
        (View.ld (iblk1 V c 1 t) (Rect.unit ![256, 0] ![256, 2816] inb_S512x2816_S256x2816_256_0)) (View.ld (iblk1 V c 2 t) (Rect.unit ![2816, 0] ![2816, 1024] inb_S5632x1024_S2816x1024_2816_0))
        (View.ld (iblk1 V c 3 t) (Rect.unit ![256, 0] ![256, 1024] inb_S512x1024_S256x1024_256_0)))
      (k1_pay7 (View.ld (iblk1 V c 4 t) (Rect.unit ![256, 0] ![256, 1024] inb_S512x1024_S256x1024_256_0))) (iblk1 V c 6 t) (View.ld (iblk1 V c 5 t) (Rect.unit ![256, 0] ![256, 1] inb_S512x1_S256x1_256_0)) (ix2 r l)
      = (dr R G (resid 5632 S (two P Q) U) (512 * t.val + 256 + r.val) l.val : EReal) :=
  pay10_dr R P Q S U G (512 * t.val + 256) _ _ _ _ _ _ _ _ (hb0_hi P V c hP t) (hb2_0 U V c hU t) (hb1_hi Q V c hQ t) (hb2_1 U V c hU t) (hb3_hi S V c hS t)
    (hb4_hi R V c hX t) (hb6 G V c hG t) (hb5_hi R V c hR t) r l

include hW in
/-- The gradient of the mixers' result in the upper half of a point's block. -/
theorem back_hi (r : Fin 256) (l : Fin 1024) :
    k1_pay12 (k1_pay6 (View.ld (iblk1 V c 0 t) (Rect.unit ![256, 0] ![256, 2816] inb_S512x2816_S256x2816_256_0)) (View.ld (iblk1 V c 2 t) (Rect.unit ![0, 0] ![2816, 1024] inb_S5632x1024_S2816x1024_0_0))
        (View.ld (iblk1 V c 1 t) (Rect.unit ![256, 0] ![256, 2816] inb_S512x2816_S256x2816_256_0)) (View.ld (iblk1 V c 2 t) (Rect.unit ![2816, 0] ![2816, 1024] inb_S5632x1024_S2816x1024_2816_0))
        (View.ld (iblk1 V c 3 t) (Rect.unit ![256, 0] ![256, 1024] inb_S512x1024_S256x1024_256_0)))
      (k1_pay7 (View.ld (iblk1 V c 4 t) (Rect.unit ![256, 0] ![256, 1024] inb_S512x1024_S256x1024_256_0))) (iblk1 V c 6 t) (View.ld (iblk1 V c 5 t) (Rect.unit ![256, 0] ![256, 1] inb_S512x1_S256x1_256_0)) (iblk1 V c 7 t) (ix2 r l)
      = (dmix (dr R G (resid 5632 S (two P Q) U)) W (512 * t.val + 256 + r.val) l.val : EReal) :=
  pay12_dmix R P Q S U G W (512 * t.val + 256) _ _ _ _ _ _ _ _ _ (hb0_hi P V c hP t) (hb2_0 U V c hU t) (hb1_hi Q V c hQ t) (hb2_1 U V c hU t) (hb3_hi S V c hS t)
    (hb4_hi R V c hX t) (hb6 G V c hG t) (hb5_hi R V c hR t) (hb7 W V c hW t) r l

/-- The gradient of the residual sum. -/
theorem final1_8 : (dat1 V c).arrAt 8 cfg1.N = fun y : S2048x1024.Idx => (dr R G (resid 5632 S (two P Q) U) (y 0).val (y 1).val : EReal) := by
  refine (dat1 V c).arrAt_eq_of_covers 8 _ (by decide +kernel) fun t _ y => ?_
  blk_simp
  rw [after1_8]
  by_cases h : t.val % 4 = 0
  · rw [outsAt1_A V c t h]; frame_out; canon_tiles x h
    · rw [eq_ix2 x]
      refine (point_hi R P Q S U G V c hP hQ hU hS hX hR hG t _ _).trans ?_
      simp only [idx1 t]
      congr 2
      · show _ = t.val * 512 + _; omega
      · show _ = 0 * 1024 + _; omega
    · rw [eq_ix2 x]
      refine (point_lo R P Q S U G V c hP hQ hU hS hX hR hG t _ _).trans ?_
      simp only [idx1 t]
      congr 2
      · show _ = t.val * 512 + _; omega
      · show _ = 0 * 1024 + _; omega
  · rw [outsAt1_B V c t h]; frame_out; canon_tiles x h
    · rw [eq_ix2 x]
      refine (point_hi R P Q S U G V c hP hQ hU hS hX hR hG t _ _).trans ?_
      simp only [idx1 t]
      congr 2
      · show _ = t.val * 512 + _; omega
      · show _ = 0 * 1024 + _; omega
    · rw [eq_ix2 x]
      refine (point_lo R P Q S U G V c hP hQ hU hS hX hR hG t _ _).trans ?_
      simp only [idx1 t]
      congr 2
      · show _ = t.val * 512 + _; omega
      · show _ = 0 * 1024 + _; omega

/-- The same in bf16. -/
theorem final1_9 : (dat1 V c).arrAt 9 cfg1.N = fun y : S2048x1024.Idx => (dr R G (resid 5632 S (two P Q) U) (y 0).val (y 1).val : EReal) := by
  refine (dat1 V c).arrAt_eq_of_covers 9 _ (by decide +kernel) fun t _ y => ?_
  blk_simp
  rw [after1_9]
  by_cases h : t.val % 4 = 0
  · rw [outsAt1_A V c t h]; frame_out; canon_tiles x h
    · rw [eq_ix2 x]
      refine (point_hi R P Q S U G V c hP hQ hU hS hX hR hG t _ _).trans ?_
      simp only [idx1 t]
      congr 2
      · show _ = t.val * 512 + _; omega
      · show _ = 0 * 1024 + _; omega
    · rw [eq_ix2 x]
      refine (point_lo R P Q S U G V c hP hQ hU hS hX hR hG t _ _).trans ?_
      simp only [idx1 t]
      congr 2
      · show _ = t.val * 512 + _; omega
      · show _ = 0 * 1024 + _; omega
  · rw [outsAt1_B V c t h]; frame_out; canon_tiles x h
    · rw [eq_ix2 x]
      refine (point_hi R P Q S U G V c hP hQ hU hS hX hR hG t _ _).trans ?_
      simp only [idx1 t]
      congr 2
      · show _ = t.val * 512 + _; omega
      · show _ = 0 * 1024 + _; omega
    · rw [eq_ix2 x]
      refine (point_lo R P Q S U G V c hP hQ hU hS hX hR hG t _ _).trans ?_
      simp only [idx1 t]
      congr 2
      · show _ = t.val * 512 + _; omega
      · show _ = 0 * 1024 + _; omega

include hW in
/-- The gradient of the mixers' result. -/
theorem final1_12 : (dat1 V c).arrAt 12 cfg1.N = fun y : S2048x1024.Idx => (dmix (dr R G (resid 5632 S (two P Q) U)) W (y 0).val (y 1).val : EReal) := by
  refine (dat1 V c).arrAt_eq_of_covers 12 _ (by decide +kernel) fun t _ y => ?_
  blk_simp
  rw [after1_12]
  by_cases h : t.val % 4 = 0
  · rw [outsAt1_A V c t h]; frame_out; canon_tiles x h
    · rw [eq_ix2 x]
      refine (back_hi R P Q S U G W V c hP hQ hU hS hX hR hG hW t _ _).trans ?_
      simp only [idx1 t]
      congr 2
      · show _ = t.val * 512 + _; omega
      · show _ = 0 * 1024 + _; omega
    · rw [eq_ix2 x]
      refine (back_lo R P Q S U G W V c hP hQ hU hS hX hR hG hW t _ _).trans ?_
      simp only [idx1 t]
      congr 2
      · show _ = t.val * 512 + _; omega
      · show _ = 0 * 1024 + _; omega
  · rw [outsAt1_B V c t h]; frame_out; canon_tiles x h
    · rw [eq_ix2 x]
      refine (back_hi R P Q S U G W V c hP hQ hU hS hX hR hG hW t _ _).trans ?_
      simp only [idx1 t]
      congr 2
      · show _ = t.val * 512 + _; omega
      · show _ = 0 * 1024 + _; omega
    · rw [eq_ix2 x]
      refine (back_lo R P Q S U G W V c hP hQ hU hS hX hR hG hW t _ _).trans ?_
      simp only [idx1 t]
      congr 2
      · show _ = t.val * 512 + _; omega
      · show _ = 0 * 1024 + _; omega

end Call

end Cert.KernelWoIdeal.Hand

end
-- ==== Proof.Wo.Run.lean ====
/- The run of the pair for the norm under the feed-forward part: what every buffer of the device holds when both calls have returned. -/
module

public import proofs.«01_k».proof.Proof.Gen.KernelWoIdeal.Frame

@[expose] public section

set_option maxRecDepth 16384

noncomputable section

namespace Cert.KernelWoIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelWoIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The program ends with every buffer of every device at the contents that the last boundary names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => h c)

end Cert.KernelWoIdeal.Hand

end
-- ==== Proof.Ln.Chain.lean ====
/- The layer norm and its derivative as the references write them, operation by operation, on any residual sum and any cotangent:
   what they are at real entries. -/
module

public import proofs.«01_k».proof.Proof.Ln.Spec
public import proofs.«01_k».proof.Proof.Gen.ReferenceDnIdeal.Read

@[expose] public section

set_option maxRecDepth 16384

noncomputable section

namespace Cert.Ln.Chain

open Cert.ReferenceDnIdeal Cert.ReferenceDnIdeal.Gen
open Idealize.ShloMosaic Idealize.ShloMosaic.TcCoe Idealize.ShloMosaic.StableHlo
open Cert.Ln
open Cert.Mx.Spec (eps bits_eps rsqrt_coe div_coe bits_zero bits_two bits_mhalf)

/-! ## The layout operations and sums -/

/-- A constant in every row of a column. -/
def colC (w : BitVec 32) : FVec Ideal S2048x1 .f32 := broadcastInDim S2048x1 ![] bcast_S_S2048x1 (constant S_ .f32 w)
/-- A column spread over the width. -/
def wide (x : FVec Ideal S2048x1 .f32) : FVec Ideal S2048x1024 .f32 := broadcastInDim S2048x1024 ![0, 1] bcast_S2048x1_S2048x1024_0_1 x
/-- A row spread over the height. -/
def tall (x : FVec Ideal S1x1024 .f32) : FVec Ideal S2048x1024 .f32 := broadcastInDim S2048x1024 ![0, 1] bcast_S1x1024_S2048x1024_0_1 x
/-- The rows' sums, as the forward pass writes them. -/
def rowSum (x : FVec Ideal S2048x1024 .f32) : FVec Ideal S2048x1 .f32 :=
  broadcastInDim S2048x1 ![0] bcast_S2048_S2048x1_0 (Host.reduceAdd x (constant S_ .f32 0x00000000#32) reducesTo_S2048x1024_S2048_d1 h_S_)
/-- The rows' sums, as the backward pass writes them. -/
def rowSumB (x : FVec Ideal S2048x1024 .f32) : FVec Ideal S2048x1 .f32 :=
  shapeCast _ (Host.reduceAdd x (constant S_ .f32 0x00000000#32) reducesTo_S2048x1024_S2048_d1 h_S_) shapeCasts_S2048_S2048x1
/-- A column spread over the width, as the backward pass writes it. -/
def wideB (x : FVec Ideal S2048x1 .f32) : FVec Ideal S2048x1024 .f32 :=
  broadcastInDim S2048x1024 ![0] bcast_S2048_S2048x1024_0 (Host.reduceAdd x (constant S_ .f32 0x00000000#32) reducesTo_S2048x1_S2048_d1 h_S_)
/-- The columns' sums. -/
def colSum (x : FVec Ideal S2048x1024 .f32) : FVec Ideal S1x1024 .f32 :=
  shapeCast _ (Host.reduceAdd x (constant S_ .f32 0x00000000#32) reducesTo_S2048x1024_S1024_d0 h_S_) shapeCasts_S1024_S1x1024

theorem colC_apply (w : BitVec 32) (y : S2048x1.Idx) : colC w y = Ideal.ofBits FTy.f32 w :=
  broadcastInDim_apply _ bcast_S_S2048x1 _ y (fun a => a.elim0) (fun a => a.elim0)

theorem wide_apply (x : FVec Ideal S2048x1 .f32) (y : S2048x1024.Idx) : wide x y = x (Read.idx_main_v8 y) :=
  broadcastInDim_apply _ bcast_S2048x1_S2048x1024_0_1 x y (Read.idx_main_v8 y) (fun a => match a with
    | ⟨0, _⟩ => by show (y 0).val = if (2048 : Nat) = 1 then 0 else (y 0).val; rw [if_neg (by decide)]
    | ⟨1, _⟩ => by show 0 = if (1 : Nat) = 1 then 0 else (y 1).val; rw [if_pos rfl])

theorem tall_apply (x : FVec Ideal S1x1024 .f32) (y : S2048x1024.Idx) : tall x y = x (Read.idx_main_v27 y) :=
  broadcastInDim_apply _ bcast_S1x1024_S2048x1024_0_1 x y (Read.idx_main_v27 y) (fun a => match a with
    | ⟨0, _⟩ => by show 0 = if (1 : Nat) = 1 then 0 else (y 0).val; rw [if_pos rfl]
    | ⟨1, _⟩ => by show (y 1).val = if (1024 : Nat) = 1 then 0 else (y 1).val; rw [if_neg (by decide)])

section Sums

variable (x : FVec Ideal S2048x1024 .f32) (X : ℕ → ℕ → ℝ) (h : ∀ y, x y = (X (y 0).val (y 1).val : EReal))
include h

theorem reduce1 (z : S2048.Idx) : Host.reduceAdd x (constant S_ .f32 0x00000000#32) reducesTo_S2048x1024_S2048_d1 h_S_ z
    = ((∑ j ∈ Finset.range 1024, X (z 0).val j : ℝ) : EReal) := by
  simp only [Host.reduceAdd, Ideal.hostReduceAdd_def]
  rw [Ideal.hostReduceAdd_single reducesTo_S2048x1024_S2048_d1 (by decide)]
  exact (congrArg (· + _) bits_zero).trans (total0 1024 _ (fun j => X (z 0).val j) fun k => h _)

theorem reduce0 (z : S1024.Idx) : Host.reduceAdd x (constant S_ .f32 0x00000000#32) reducesTo_S2048x1024_S1024_d0 h_S_ z
    = ((∑ r ∈ Finset.range 2048, X r (z 0).val : ℝ) : EReal) := by
  simp only [Host.reduceAdd, Ideal.hostReduceAdd_def]
  rw [Ideal.hostReduceAdd_single reducesTo_S2048x1024_S1024_d0 (by decide)]
  exact (congrArg (· + _) bits_zero).trans (total0 2048 _ (fun r => X r (z 0).val) fun k => h _)

theorem rowSum_val (y : S2048x1.Idx) : rowSum x y = ((∑ j ∈ Finset.range 1024, X (y 0).val j : ℝ) : EReal) :=
  (broadcastInDim_apply _ bcast_S2048_S2048x1_0 _ y (Read.idx_main_v5 y) (fun a => match a with
    | ⟨0, _⟩ => by show (y 0).val = if (2048 : Nat) = 1 then 0 else (y 0).val; rw [if_neg (by decide)])).trans (reduce1 x X h _)

theorem rowSumB_val (y : S2048x1.Idx) : rowSumB x y = ((∑ j ∈ Finset.range 1024, X (y 0).val j : ℝ) : EReal) := by
  refine (shapeCast_apply _ shapeCasts_S2048_S2048x1 y (Read.idx_main_v47 y)
    (by rewrite [Shape.rowMajor_val_one, Shape.rowMajor_val_two]; rfl)).trans ((reduce1 x X h _).trans ?_)
  show ((∑ j ∈ Finset.range 1024, X ((y 0).val * 1 + (y 1).val) j : ℝ) : EReal) = _
  rw [col_place _ _ (y 1).isLt]

theorem colSum_val (y : S1x1024.Idx) : colSum x y = ((∑ r ∈ Finset.range 2048, X r (y 1).val : ℝ) : EReal) := by
  refine (shapeCast_apply _ shapeCasts_S1024_S1x1024 y (Read.idx_main_v39 y)
    (by rewrite [Shape.rowMajor_val_one, Shape.rowMajor_val_two]; rfl)).trans ((reduce0 x X h _).trans ?_)
  show ((∑ r ∈ Finset.range 2048, X r ((y 0).val * 1024 + (y 1).val) : ℝ) : EReal) = _
  rw [row_place 1024 _ _ (y 0).isLt]

end Sums

theorem wideB_val (x : FVec Ideal S2048x1 .f32) (X : ℕ → ℝ) (h : ∀ y, x y = (X (y 0).val : EReal)) (y : S2048x1024.Idx) : wideB x y = (X (y 0).val : EReal) := by
  refine (broadcastInDim_apply _ bcast_S2048_S2048x1024_0 _ y (Read.idx_main_v57 y) (fun a => match a with
    | ⟨0, _⟩ => by show (y 0).val = if (2048 : Nat) = 1 then 0 else (y 0).val; rw [if_neg (by decide)])).trans ?_
  simp only [Host.reduceAdd, Ideal.hostReduceAdd_def]
  rw [Ideal.hostReduceAdd_single reducesTo_S2048x1_S2048_d1 (by decide)]
  exact (congrArg (· + _) bits_zero).trans (total01 _ (X (y 0).val) fun k => h _)

/-! ## The chain -/

variable (r d : FVec Ideal S2048x1024 .f32) (g b : FVec Ideal S1x1024 .f32)

def mean : FVec Ideal S2048x1 .f32 := Host.divf (rowSum r) (colC 0x44800000#32)
def cent : FVec Ideal S2048x1024 .f32 := subf r (wide (mean r))
def twice : FVec Ideal S2048x1024 .f32 := mulf (broadcastInDim S2048x1024 ![] bcast_S_S2048x1024 (constant S_ .f32 0x40000000#32)) (cent r)
def vare : FVec Ideal S2048x1 .f32 := addf (Host.divf (rowSum (mulf (cent r) (cent r))) (colC 0x44800000#32)) (colC 0x3727C5AC#32)
def root : FVec Ideal S2048x1 .f32 := Host.rsqrt (vare r)
def slope : FVec Ideal S2048x1 .f32 := mulf (colC 0xBF000000#32) (Host.divf (root r) (vare r))
def xhat : FVec Ideal S2048x1024 .f32 := mulf (cent r) (wide (root r))
/-- The norm's result. -/
def norm : FVec Ideal S2048x1024 .f32 := addf (mulf (xhat r) (tall g)) (tall b)
def scaled : FVec Ideal S2048x1024 .f32 := mulf d (tall g)
def direct : FVec Ideal S2048x1024 .f32 := mulf (scaled d g) (wide (root r))
def viaVar : FVec Ideal S2048x1024 .f32 :=
  mulf (wideB (Host.divf (mulf (rowSumB (mulf (cent r) (scaled d g))) (slope r)) (colC 0x44800000#32))) (twice r)
def viaMean : FVec Ideal S2048x1024 .f32 :=
  wideB (Host.divf (addf (rowSumB (Host.negf (direct r d g))) (rowSumB (Host.negf (viaVar r d g)))) (colC 0x44800000#32))
/-- The residual sum's gradient. -/
def grad : FVec Ideal S2048x1024 .f32 := addf (addf (direct r d g) (viaVar r d g)) (viaMean r d g)
/-- The gain's gradient. -/
def gain : FVec Ideal S1x1024 .f32 := colSum (mulf (xhat r) d)

section Forward

variable (R : ℕ → ℕ → ℝ) (hr : ∀ y, r y = (R (y 0).val (y 1).val : EReal))
include hr

theorem mean_val (y : S2048x1.Idx) : mean r y = (mu R (y 0).val : EReal) := by
  show FloatOps.hostDivf (rowSum r y) (colC _ y) = _
  rw [rowSum_val r R hr, colC_apply, bits_1024, Ideal.hostDivf_def, div_coe _ _ (by norm_num)]
  rfl
theorem cent_val (y : S2048x1024.Idx) : cent r y = (cen R (y 0).val (y 1).val : EReal) := by
  show FloatOps.subf (r y) (wide (mean r) y) = _
  rw [hr, wide_apply, mean_val r R hr, Ideal.subf_def, ← EReal.coe_sub]
  rfl
theorem twice_val (y : S2048x1024.Idx) : twice r y = ((2 * cen R (y 0).val (y 1).val : ℝ) : EReal) := by
  show FloatOps.mulf _ (cent r y) = _
  rw [broadcastInDim_apply _ bcast_S_S2048x1024 _ y (fun a => a.elim0) (fun a => a.elim0), cent_val r R hr,
    show constant (F := Ideal) S_ .f32 0x40000000#32 _ = ((2 : ℝ) : EReal) from bits_two, Ideal.mulf_def, ← EReal.coe_mul]
theorem vare_val (y : S2048x1.Idx) : vare r y = ((var R (y 0).val + eps : ℝ) : EReal) := by
  show FloatOps.addf (FloatOps.hostDivf (rowSum (mulf (cent r) (cent r)) y) (colC _ y)) (colC _ y) = _
  rw [rowSum_val _ (fun r j => cen R r j * cen R r j) (fun z => by
      show FloatOps.mulf (cent r z) (cent r z) = _
      rw [cent_val r R hr, Ideal.mulf_def, ← EReal.coe_mul]),
    colC_apply, colC_apply, bits_1024, bits_eps, Ideal.hostDivf_def, div_coe _ _ (by norm_num), Ideal.addf_def, ← EReal.coe_add]
  rfl
theorem root_val (y : S2048x1.Idx) : root r y = (rs R (y 0).val : EReal) := by
  show FloatOps.hostUnary _ (vare r y) = _
  rw [vare_val r R hr, Ideal.hostUnary_rsqrt_def, rsqrt_coe _ (pos R _)]
  rfl
theorem slope_val (y : S2048x1.Idx) : slope r y = ((-(1 / 2) * (rs R (y 0).val / (var R (y 0).val + eps)) : ℝ) : EReal) := by
  show FloatOps.mulf (colC _ y) (FloatOps.hostDivf (root r y) (vare r y)) = _
  rw [colC_apply, bits_mhalf, root_val r R hr, vare_val r R hr, Ideal.hostDivf_def, div_coe _ _ (pos R _).ne', Ideal.mulf_def, ← EReal.coe_mul]
theorem xhat_val (y : S2048x1024.Idx) : xhat r y = (xh R (y 0).val (y 1).val : EReal) := by
  show FloatOps.mulf (cent r y) (wide (root r) y) = _
  rw [cent_val r R hr, wide_apply, root_val r R hr, Ideal.mulf_def, ← EReal.coe_mul]
  rfl
theorem norm_val (G : ℕ → ℝ) (hg : ∀ y, g y = (G (y 1).val : EReal)) (B : ℕ → EReal) (hb : ∀ y, b y = B (y 1).val) (y : S2048x1024.Idx) :
    norm r g b y = ((xh R (y 0).val (y 1).val * G (y 1).val : ℝ) : EReal) + B (y 1).val := by
  show FloatOps.addf (FloatOps.mulf (xhat r y) (tall g y)) (tall b y) = _
  rw [xhat_val r R hr, tall_apply, tall_apply, hg, hb, Ideal.mulf_def, ← EReal.coe_mul, Ideal.addf_def]

end Forward

section Backward

variable (R D : ℕ → ℕ → ℝ) (hr : ∀ y, r y = (R (y 0).val (y 1).val : EReal)) (hd : ∀ y, d y = (D (y 0).val (y 1).val : EReal))

include hd in
/-- The bias's gradient. -/
theorem bias_val (y : S1x1024.Idx) : colSum d y = (db D (y 1).val : EReal) := colSum_val d D hd y
include hr hd in
theorem gain_val (y : S1x1024.Idx) : gain r d y = (dg R D (y 1).val : EReal) :=
  colSum_val _ (fun r k => D r k * xh R r k) (fun z => by
    show FloatOps.mulf (xhat r z) (d z) = _
    rw [xhat_val r R hr, hd, Ideal.mulf_def, ← EReal.coe_mul, mul_comm]) y

variable (G : ℕ → ℝ) (hg : ∀ y, g y = (G (y 1).val : EReal))
include hr hd hg

omit hr in
theorem scaled_val (y : S2048x1024.Idx) : scaled d g y = (dxh G D (y 0).val (y 1).val : EReal) := by
  show FloatOps.mulf (d y) (tall g y) = _
  rw [hd, tall_apply, hg, Ideal.mulf_def, ← EReal.coe_mul]
  rfl
theorem direct_val (y : S2048x1024.Idx) : direct r d g y = ((dxh G D (y 0).val (y 1).val * rs R (y 0).val : ℝ) : EReal) := by
  show FloatOps.mulf (scaled d g y) (wide (root r) y) = _
  rw [scaled_val d g D hd G hg, wide_apply, root_val r R hr, Ideal.mulf_def, ← EReal.coe_mul]
theorem var_val (y : S2048x1.Idx) :
    Host.divf (mulf (rowSumB (mulf (cent r) (scaled d g))) (slope r)) (colC 0x44800000#32) y = (qv R G D (y 0).val : EReal) := by
  show FloatOps.hostDivf (FloatOps.mulf (rowSumB (mulf (cent r) (scaled d g)) y) (slope r y)) (colC _ y) = _
  rw [rowSumB_val _ (fun r j => cen R r j * dxh G D r j) (fun z => by
      show FloatOps.mulf (cent r z) (scaled d g z) = _
      rw [cent_val r R hr, scaled_val d g D hd G hg, Ideal.mulf_def, ← EReal.coe_mul]),
    slope_val r R hr, colC_apply, bits_1024, Ideal.mulf_def, ← EReal.coe_mul, Ideal.hostDivf_def, div_coe _ _ (by norm_num)]
  rfl
theorem viaVar_val (y : S2048x1024.Idx) : viaVar r d g y = ((qv R G D (y 0).val * (2 * cen R (y 0).val (y 1).val) : ℝ) : EReal) := by
  show FloatOps.mulf (wideB _ y) (twice r y) = _
  rw [wideB_val _ (qv R G D) (var_val r d g R D hr hd G hg), twice_val r R hr, Ideal.mulf_def, ← EReal.coe_mul]
theorem mean_grad (y : S2048x1.Idx) : Host.divf (addf (rowSumB (Host.negf (direct r d g))) (rowSumB (Host.negf (viaVar r d g)))) (colC 0x44800000#32) y
    = (qm R G D (y 0).val : EReal) := by
  show FloatOps.hostDivf (FloatOps.addf (rowSumB _ y) (rowSumB _ y)) (colC _ y) = _
  rw [rowSumB_val (Host.negf (direct r d g)) (fun r j => -(dxh G D r j * rs R r)) (fun z => by
      show FloatOps.hostNegf (direct r d g z) = _
      rw [direct_val r d g R D hr hd G hg, Ideal.hostNegf_def, Ideal.negf_def, ← EReal.coe_neg]),
    rowSumB_val (Host.negf (viaVar r d g)) (fun r j => -(qv R G D r * (2 * cen R r j))) (fun z => by
      show FloatOps.hostNegf (viaVar r d g z) = _
      rw [viaVar_val r d g R D hr hd G hg, Ideal.hostNegf_def, Ideal.negf_def, ← EReal.coe_neg]),
    colC_apply, bits_1024, Ideal.addf_def, ← EReal.coe_add, Ideal.hostDivf_def, div_coe _ _ (by norm_num)]
  rfl
theorem grad_val (y : S2048x1024.Idx) : grad r d g y = (dr R G D (y 0).val (y 1).val : EReal) := by
  show FloatOps.addf (FloatOps.addf (direct r d g y) (viaVar r d g y)) (wideB _ y) = _
  rw [direct_val r d g R D hr hd G hg, viaVar_val r d g R D hr hd G hg, wideB_val _ (qm R G D) (mean_grad r d g R D hr hd G hg)]
  simp only [Ideal.addf_def, ← EReal.coe_add]
  exact congrArg Real.toEReal (dr_eq R G D _ _)

end Backward

end Cert.Ln.Chain

end
-- ==== Proof.Wo.Reference.lean ====
/- The reference of the pair for the norm under the feed-forward part, at real arguments (the norm's bias may be infinite). -/
module

public import proofs.«01_k».proof.Proof.Ln.Chain
public import proofs.«01_k».proof.Proof.Wo.Spec
public import proofs.«01_k».proof.Proof.Gen.ReferenceWoIdeal.Read

@[expose] public section

set_option maxRecDepth 16384

noncomputable section

namespace Cert.Wo.Ref

open Cert.ReferenceWoIdeal Cert.ReferenceWoIdeal.Gen Cert.ReferenceWoIdeal.Read
open Idealize.ShloMosaic Idealize.ShloMosaic.TcCoe
open Cert.Ln
open Cert.Wo (two dmix resid_two)

/-- The reference's arguments, read as numbers. -/
structure Reads (H A W : ℕ → ℕ → ℝ) (G : ℕ → ℝ) (B : ℕ → EReal) (U S P Q : ℕ → ℕ → ℝ) (x0 : FVec Ideal S2048x1024 .f32)
    (x1 : FVec Ideal S1024x1024 .f32) (x2 : FVec Ideal S2048x1024 .f32) (x3 x4 : FVec Ideal S1x1024 .f32)
    (x5 : FVec Ideal S1024x5632 .f32) (x6 : FVec Ideal S2048x1024 .f32) (x7 x8 : FVec Ideal S2048x2816 .f32) : Prop where
  h0 : ∀ y, x0 y = (A (y 0).val (y 1).val : EReal)
  h1 : ∀ y, x1 y = (W (y 0).val (y 1).val : EReal)
  h2 : ∀ y, x2 y = (H (y 0).val (y 1).val : EReal)
  h3 : ∀ y, x3 y = (G (y 1).val : EReal)
  h4 : ∀ y, x4 y = B (y 1).val
  h5 : ∀ y, x5 y = (U (y 0).val (y 1).val : EReal)
  h6 : ∀ y, x6 y = (S (y 0).val (y 1).val : EReal)
  h7 : ∀ y, x7 y = (P (y 0).val (y 1).val : EReal)
  h8 : ∀ y, x8 y = (Q (y 0).val (y 1).val : EReal)

variable {H A W : ℕ → ℕ → ℝ} {G : ℕ → ℝ} {B : ℕ → EReal} {U S P Q : ℕ → ℕ → ℝ} {x0 x1 x2 x3 x4 x5 x6 x7 x8}
  (E : Reads H A W G B U S P Q x0 x1 x2 x3 x4 x5 x6 x7 x8)
include E

/-- The residual sum. -/
theorem v3_val (y : S2048x1024.Idx) : val_main_v3 (F := Ideal) x0 x1 x2 y = (resid 1024 H A W (y 0).val (y 1).val : EReal) := by
  rw [val_main_v3_apply, val_main_v1_apply, val_main_v0_apply, show val_main_cst (F := Ideal) _ = (alpha : EReal) from bits_alpha, E.h2, val_main_v2_apply,
    total 1024 _ (fun j => A (y 0).val j * W j (y 1).val) (fun k => by rw [E.h0, E.h1, ← EReal.coe_mul]), Ideal.mulf_def, ← EReal.coe_mul,
    Ideal.addf_def, ← EReal.coe_add]
  rfl

/-- The two halves of the gate's gradient, side by side. -/
theorem v34_val (y : S2048x5632.Idx) : val_main_v34 (F := Ideal) x7 x8 y = (two P Q (y 0).val (y 1).val : EReal) := by
  by_cases h : (y 1).val < 2816
  · refine (concatenate_pair_apply_left 1 x7 x8 concatenates_S2048x2816_S2048x2816_S2048x5632_d1 y rfl (ix2 (y 0) ⟨(y 1).val, h⟩) ?_).trans ?_
    · intro a; match a with
      | ⟨0, _⟩ => rfl
      | ⟨1, _⟩ => rfl
    · rw [E.h7, two, if_pos h]; rfl
  · have hl : (y 1).val < 5632 := (y 1).isLt
    refine (concatenate_pair_apply_right 1 x7 x8 concatenates_S2048x2816_S2048x2816_S2048x5632_d1 y rfl rfl (ix2 (y 0) ⟨(y 1).val - 2816, by omega⟩) ?_ ?_).trans ?_
    · intro a ha; match a with
      | ⟨0, _⟩ => rfl
      | ⟨1, _⟩ => exact absurd rfl ha
    · show (y 1).val - 2816 + 2816 = (y 1).val; omega
    · rw [E.h8, two, if_neg h]; rfl

/-- The norm's cotangent. -/
theorem v38_val (y : S2048x1024.Idx) : val_main_v38 (F := Ideal) x5 x6 x7 x8 y = (resid 5632 S (two P Q) (fun j k => U k j) (y 0).val (y 1).val : EReal) := by
  rw [val_main_v38_apply, val_main_v37_apply, val_main_v36_apply, show val_main_cst_8 (F := Ideal) _ = (alpha : EReal) from bits_alpha, E.h6, val_main_v35_apply,
    total 5632 _ (fun j => two P Q (y 0).val j * U (y 1).val j) (fun k => by rw [v34_val E, E.h5, ← EReal.coe_mul]), Ideal.mulf_def, ← EReal.coe_mul,
    Ideal.addf_def, ← EReal.coe_add, add_comm]
  rfl

/-- The norm's result. -/
theorem v30_val (y : S2048x1024.Idx) : val_main_v30 (F := Ideal) x0 x1 x2 x3 x4 y
    = ((xh (resid 1024 H A W) (y 0).val (y 1).val * G (y 1).val : ℝ) : EReal) + B (y 1).val :=
  Chain.norm_val (val_main_v3 (F := Ideal) x0 x1 x2) x3 x4 _ (v3_val E) G E.h3 B E.h4 y
/-- The gradient of the residual sum. -/
theorem v69_val (y : S2048x1024.Idx) : val_main_v69 (F := Ideal) x0 x1 x2 x3 x5 x6 x7 x8 y
    = (dr (resid 1024 H A W) G (resid 5632 S (two P Q) fun j k => U k j) (y 0).val (y 1).val : EReal) :=
  Chain.grad_val (val_main_v3 (F := Ideal) x0 x1 x2) (val_main_v38 (F := Ideal) x5 x6 x7 x8) x3 _ _ (v3_val E) (v38_val E) G E.h3 y
/-- The gain's gradient. -/
theorem v43_val (y : S1x1024.Idx) : val_main_v43 (F := Ideal) x0 x1 x2 x5 x6 x7 x8 y = (dg (resid 1024 H A W) (resid 5632 S (two P Q) fun j k => U k j) (y 1).val : EReal) :=
  Chain.gain_val (val_main_v3 (F := Ideal) x0 x1 x2) (val_main_v38 (F := Ideal) x5 x6 x7 x8) _ _ (v3_val E) (v38_val E) y
/-- The bias's gradient. -/
theorem v40_val (y : S1x1024.Idx) : val_main_v40 (F := Ideal) x5 x6 x7 x8 y = (db (resid 5632 S (two P Q) fun j k => U k j) (y 1).val : EReal) :=
  Chain.bias_val (val_main_v38 (F := Ideal) x5 x6 x7 x8) _ (v38_val E) y

/-- The gradient of the product's left argument. -/
theorem v72_val (y : S2048x1024.Idx) : val_main_v72 (F := Ideal) x0 x1 x2 x3 x5 x6 x7 x8 y
    = (dmix (dr (resid 1024 H A W) G (resid 5632 S (two P Q) fun j k => U k j)) W (y 0).val (y 1).val : EReal) := by
  rw [val_main_v72_apply]
  exact total 1024 _ (fun j => dr (resid 1024 H A W) G (resid 5632 S (two P Q) fun j k => U k j) (y 0).val j * W (y 1).val j)
    (fun k => by rw [v69_val E, E.h1, ← EReal.coe_mul])

end Cert.Wo.Ref

end
-- ==== Proof.Wo.Arrays.lean ====
/- The results of the pair for the norm under the feed-forward part, as functions of the program's arguments. -/
module

public import proofs.«01_k».proof.Proof.Wo.Forward
public import proofs.«01_k».proof.Proof.Wo.Backward
public import proofs.«01_k».proof.Proof.Wo.Run
public import proofs.«01_k».proof.Proof.Wo.Reference

@[expose] public section

set_option maxRecDepth 16384

noncomputable section

namespace Cert.KernelWoIdeal.Hand

open Idealize.ShloMosaic Idealize.ShloMosaic.TcCoe Idealize.ShloMosaic.Tactic Idealize.SL.Sem
open Idealize.ShloMosaic.Pipeline (Dat)
open Cert.KernelWoIdeal.Gen
open Cert.Ln
open Cert.Wo (two dmix)
open Cert.Mx.Spec (bits_one bits_zero)

variable (m : (ℓ : Loc nD τ sig) → Buf (Elt Ideal) ℓ) (ρ : Dev nD → PrngReg) (c : Dev nD)

theorem V1_v0 (k : Fin 1024) : (V1 m ρ c main_v0 : FVec Ideal S1x1x1024 .f32) (ix3 0 0 k) = ((1 : ℝ) : EReal) := by
  show (StableHlo.after hostOps0 (W0 m ρ c) (Proc.devRef .tc main_v0) : FVec Ideal S1x1x1024 .f32) _ = _
  after_results
  exact bits_one
theorem V1_v1 (k : Fin 1024) : (V1 m ρ c main_v1 : FVec Ideal S1x1x1024 .f32) (ix3 0 0 k) = ((0 : ℝ) : EReal) := by
  show (StableHlo.after hostOps0 (W0 m ρ c) (Proc.devRef .tc main_v1) : FVec Ideal S1x1x1024 .f32) _ = _
  after_results
  exact bits_zero
theorem V1_v2 (k : Fin 1024) : (V1 m ρ c main_v2 : FVec Ideal S1x1x1024 .f32) (ix3 0 0 k) = (m ((c : Thread nD τ).loc main_arg3) : FVec Ideal S1x1024 .f32) (ix2 0 k) := by
  show (StableHlo.after hostOps0 (W0 m ρ c) (Proc.devRef .tc main_v2) : FVec Ideal S1x1x1024 .f32) _ = _
  after_results
  pointwise []
theorem V1_v3 (k : Fin 1024) : (V1 m ρ c main_v3 : FVec Ideal S1x1x1024 .f32) (ix3 0 0 k) = (m ((c : Thread nD τ).loc main_arg4) : FVec Ideal S1x1024 .f32) (ix2 0 k) := by
  show (StableHlo.after hostOps0 (W0 m ρ c) (Proc.devRef .tc main_v3) : FVec Ideal S1x1x1024 .f32) _ = _
  after_results
  pointwise []
theorem V1_v4 : V1 m ρ c main_v4 = m ((c : Thread nD τ).loc main_arg1) := by
  show StableHlo.after hostOps0 (W0 m ρ c) _ = _
  after_results
  rfl
theorem V1_v5 : V1 m ρ c main_v5 = m ((c : Thread nD τ).loc main_arg0) := by
  show StableHlo.after hostOps0 (W0 m ρ c) _ = _
  after_results
  rfl
theorem V1_arg2 : V1 m ρ c main_arg2 = m ((c : Thread nD τ).loc main_arg2) := W1_args m ρ c main_arg2 (by decide)

theorem V3_v7 : V3 m ρ c main_v7 = m ((c : Thread nD τ).loc main_arg7) := by
  show StableHlo.after hostOps1 (W2 m ρ c) _ = _
  after_results
  exact W2_args m ρ c main_arg7 (by decide)
theorem V3_v8 : V3 m ρ c main_v8 = m ((c : Thread nD τ).loc main_arg8) := by
  show StableHlo.after hostOps1 (W2 m ρ c) _ = _
  after_results
  exact W2_args m ρ c main_arg8 (by decide)
/-- The gate's matrix, as the second call finds it: transposed. -/
theorem V3_v10 (r : Fin 5632) (k : Fin 1024) : (V3 m ρ c main_v10 : FVec Ideal S5632x1024 .bf16) (ix2 r k)
    = (m ((c : Thread nD τ).loc main_arg5) : FVec Ideal S1024x5632 .f32) (ix2 k r) := by
  show (StableHlo.after hostOps1 (W2 m ρ c) (Proc.devRef .tc main_v10) : FVec Ideal S5632x1024 .bf16) _ = _
  after_results
  pointwise []
  exact congrFun (W2_args m ρ c main_arg5 (by decide)) _

section Ends

variable {H A W : ℕ → ℕ → ℝ} {G : ℕ → ℝ} {B : ℕ → EReal} {U S P Q : ℕ → ℕ → ℝ}
variable (E : Cert.Wo.Ref.Reads H A W G B U S P Q (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)))
include E

theorem hA (r : Fin 2048) (k : Fin 1024) : (V1 m ρ c main_v5 : FVec Ideal S2048x1024 .bf16) (ix2 r k) = (A r.val k.val : EReal) := by
  rw [V1_v5]; exact E.h0 _
theorem hW (r : Fin 1024) (k : Fin 1024) : (V1 m ρ c main_v4 : FVec Ideal S1024x1024 .bf16) (ix2 r k) = (W r.val k.val : EReal) := by
  rw [V1_v4]; exact E.h1 _
theorem hH (r : Fin 2048) (k : Fin 1024) : (V1 m ρ c main_arg2 : FVec Ideal S2048x1024 .f32) (ix2 r k) = (H r.val k.val : EReal) := by
  rw [V1_arg2]; exact E.h2 _
theorem hG (k : Fin 1024) : (V1 m ρ c main_v2 : FVec Ideal S1x1x1024 .f32) (ix3 0 0 k) = (G k.val : EReal) := (V1_v2 m ρ c k).trans (E.h3 _)
theorem hB (k : Fin 1024) : (V1 m ρ c main_v3 : FVec Ideal S1x1x1024 .f32) (ix3 0 0 k) = B k.val := (V1_v3 m ρ c k).trans (E.h4 _)

/-- The normalised residual sum, as the second call finds it. -/
theorem hX (r : Fin 2048) (k : Fin 1024) : (V3 m ρ c main_v6_0 : FVec Ideal S2048x1024 .f32) (ix2 r k) = (xh (resid 1024 H A W) r.val k.val : EReal) :=
  congrFun ((W3_of m ρ c main_v6_0 (by decide)).trans ((W2_arr m ρ c 7).trans (final0_7 H A W (V1 m ρ) c (hA m ρ c E) (hW m ρ c E) (hH m ρ c E) (V1_v0 m ρ c) (V1_v1 m ρ c)))) _
/-- The reciprocal deviation, as the second call finds it. -/
theorem hR (r : Fin 2048) : (V3 m ρ c main_v6_1 : FVec Ideal S2048x1 .f32) (ix2 r 0) = (rs (resid 1024 H A W) r.val : EReal) :=
  congrFun ((W3_of m ρ c main_v6_1 (by decide)).trans ((W2_arr m ρ c 8).trans (final0_8 H A W (V1 m ρ) c (hA m ρ c E) (hW m ρ c E) (hH m ρ c E) (V1_v0 m ρ c) (V1_v1 m ρ c)))) _
theorem hG2 (k : Fin 1024) : (V3 m ρ c main_v2 : FVec Ideal S1x1x1024 .f32) (ix3 0 0 k) = (G k.val : EReal) :=
  (congrFun ((W3_of m ρ c main_v2 (by decide)).trans (W2_of m ρ c main_v2 (by decide))) _).trans (hG m ρ c E k)
theorem hS (r : Fin 2048) (k : Fin 1024) : (V3 m ρ c main_arg6 : FVec Ideal S2048x1024 .f32) (ix2 r k) = (S r.val k.val : EReal) :=
  (congrFun (W3_args m ρ c main_arg6 (by decide)) _).trans (E.h6 _)
theorem hP (r : Fin 2048) (k : Fin 2816) : (V3 m ρ c main_v7 : FVec Ideal S2048x2816 .bf16) (ix2 r k) = (P r.val k.val : EReal) := by
  rw [V3_v7]; exact E.h7 _
theorem hQ (r : Fin 2048) (k : Fin 2816) : (V3 m ρ c main_v8 : FVec Ideal S2048x2816 .bf16) (ix2 r k) = (Q r.val k.val : EReal) := by
  rw [V3_v8]; exact E.h8 _
theorem hU (r : Fin 5632) (k : Fin 1024) : (V3 m ρ c main_v10 : FVec Ideal S5632x1024 .bf16) (ix2 r k) = (U k.val r.val : EReal) :=
  (V3_v10 m ρ c r k).trans (E.h5 _)
/-- The product's matrix, as the second call finds it. -/
theorem hW2 (r k : Fin 1024) : (V3 m ρ c main_v4 : FVec Ideal S1024x1024 .bf16) (ix2 r k) = (W r.val k.val : EReal) :=
  (congrFun ((W3_of m ρ c main_v4 (by decide)).trans (W2_of m ρ c main_v4 (by decide))) _).trans (hW m ρ c E r k)

theorem end_y : W4 m ρ c (Proc.devRef .tc main_v6_2) = fun y : S2048x1024.Idx =>
    ((xh (resid 1024 H A W) (y 0).val (y 1).val * G (y 1).val : ℝ) : EReal) + B (y 1).val :=
  (W4_of m ρ c main_v6_2 (by decide)).trans ((W3_of m ρ c main_v6_2 (by decide)).trans ((W2_arr m ρ c 9).trans (final0_9 H A W (V1 m ρ) c (hA m ρ c E) (hW m ρ c E)
    (hH m ρ c E) (V1_v0 m ρ c) (V1_v1 m ρ c) B G (hG m ρ c E) (hB m ρ c E))))
theorem end_dr : W4 m ρ c (Proc.devRef .tc main_v11_0) = fun y : S2048x1024.Idx =>
    (dr (resid 1024 H A W) G (resid 5632 S (two P Q) fun j k => U k j) (y 0).val (y 1).val : EReal) :=
  (W4_arr m ρ c 8).trans (final1_8 _ P Q S _ G (V3 m ρ) c (hP m ρ c E) (hQ m ρ c E) (hU m ρ c E) (hS m ρ c E) (hX m ρ c E) (hR m ρ c E) (hG2 m ρ c E))
theorem end_drb : W4 m ρ c (Proc.devRef .tc main_v11_1) = fun y : S2048x1024.Idx =>
    (dr (resid 1024 H A W) G (resid 5632 S (two P Q) fun j k => U k j) (y 0).val (y 1).val : EReal) :=
  (W4_arr m ρ c 9).trans (final1_9 _ P Q S _ G (V3 m ρ) c (hP m ρ c E) (hQ m ρ c E) (hU m ρ c E) (hS m ρ c E) (hX m ρ c E) (hR m ρ c E) (hG2 m ρ c E))
theorem end_dg : W4 m ρ c (Proc.devRef .tc main_v11_2) = fun y : S1x1024.Idx =>
    (dg (resid 1024 H A W) (resid 5632 S (two P Q) fun j k => U k j) (y 1).val : EReal) :=
  (W4_arr m ρ c 10).trans (final1_10 _ P Q S _ (V3 m ρ) c (hP m ρ c E) (hQ m ρ c E) (hU m ρ c E) (hS m ρ c E) (hX m ρ c E))
theorem end_db : W4 m ρ c (Proc.devRef .tc main_v11_3) = fun y : S1x1024.Idx => (db (resid 5632 S (two P Q) fun j k => U k j) (y 1).val : EReal) :=
  (W4_arr m ρ c 11).trans (final1_11 P Q S _ (V3 m ρ) c (hP m ρ c E) (hQ m ρ c E) (hU m ρ c E) (hS m ρ c E))
theorem end_dmix : W4 m ρ c (Proc.devRef .tc main_v11_4) = fun y : S2048x1024.Idx =>
    (dmix (dr (resid 1024 H A W) G (resid 5632 S (two P Q) fun j k => U k j)) W (y 0).val (y 1).val : EReal) :=
  (W4_arr m ρ c 12).trans (final1_12 _ P Q S _ G W (V3 m ρ) c (hP m ρ c E) (hQ m ρ c E) (hU m ρ c E) (hS m ρ c E) (hX m ρ c E) (hR m ρ c E) (hG2 m ρ c E) (hW2 m ρ c E))

end Ends

end Cert.KernelWoIdeal.Hand

end
-- ==== Proof.Ln.Frames.lean ====
/- The runs of the two references whose calls end in a layer norm's gradient. -/
module

public import proofs.«01_k».proof.Defs
public import proofs.«01_k».proof.Proof.Gen.ReferenceWoIdeal.Run
public import proofs.«01_k».proof.Proof.Gen.ReferenceDnIdeal.Run
public import Idealize.ShloMosaic.Lib.Claim

@[expose] public section

noncomputable section

namespace Cert.Ln

open Idealize.ShloMosaic Idealize.ShloMosaic.TcCoe Idealize.SL.Sem

/-- The reference of the norm after the mixers runs, keeps its arguments and declares no semaphore. -/
theorem frame_wo : Cert.quiescent_ReferenceWoIdeal := fun m g _ =>
  (θ_run Cert.ReferenceWoIdeal.defs _ _).mono (fun r h => ⟨fun c => (h c).2.2.2.2.2.2, sem_eq_zero_of_no_sems (by decide) r.2⟩)
    (Cert.ReferenceWoIdeal.Value.run m g)

/-- The reference of the norm after the feed-forward part runs, keeps its arguments and declares no semaphore. -/
theorem frame_dn : Cert.quiescent_ReferenceDnIdeal := fun m g _ =>
  (θ_run Cert.ReferenceDnIdeal.defs _ _).mono (fun r h => ⟨fun c => (h c).2.2.2.2.2, sem_eq_zero_of_no_sems (by decide) r.2⟩)
    (Cert.ReferenceDnIdeal.Value.run m g)

end Cert.Ln

end
-- ==== Proof.Wo.Claims.lean ====
/- The claims of the pair for the norm under the feed-forward part. -/
module

public import proofs.«01_k».proof.Defs
public import proofs.«01_k».proof.Proof.Wo.Arrays
public import proofs.«01_k».proof.Proof.Ln.Inputs
public import proofs.«01_k».proof.Proof.Ln.Frames
public import proofs.«01_k».proof.Proof.Gen.ReferenceWoIdeal.Run
public import proofs.«01_k».proof.Proof.Gen.Pre_finite_wo
public import proofs.«01_k».proof.Proof.Common.Reals
public import Idealize.ShloMosaic.Lib.Claim

@[expose] public section

set_option maxRecDepth 16384

noncomputable section

namespace Cert.Wo

open Idealize.ShloMosaic Idealize.ShloMosaic.TcCoe Idealize.SL.Sem
open Cert.Ln

section Inputs
open Cert.ReferenceWoIdeal

/-- Under the precondition the arguments are real numbers, but for the bias. -/
theorem reads (x0 : FVec Ideal S2048x1024 .f32) (x1 : FVec Ideal S1024x1024 .f32) (x2 : FVec Ideal S2048x1024 .f32)
    (x3 x4 : FVec Ideal S1x1024 .f32) (x5 : FVec Ideal S1024x5632 .f32) (x6 : FVec Ideal S2048x1024 .f32) (x7 x8 : FVec Ideal S2048x2816 .f32)
    (h : Cert.Pre_finite_wo.fn (F := Ideal) x0 x1 x2 x3 x4 x5 x6 x7 x8 = fun _ => 1#1) :
    ∃ (H A W : ℕ → ℕ → ℝ) (G : ℕ → ℝ) (B : ℕ → EReal) (U S P Q : ℕ → ℕ → ℝ), Ref.Reads H A W G B U S P Q x0 x1 x2 x3 x4 x5 x6 x7 x8 := by
  have h6 := congrFun h (fun k => k.elim0)
  obtain ⟨h6', f8⟩ := IntOp.andi_eq_one.1 h6
  obtain ⟨h5, f7⟩ := IntOp.andi_eq_one.1 h6'
  obtain ⟨h4, f6⟩ := IntOp.andi_eq_one.1 h5
  obtain ⟨h3, f5⟩ := IntOp.andi_eq_one.1 h4
  obtain ⟨h2, f3⟩ := IntOp.andi_eq_one.1 h3
  obtain ⟨h1, f2⟩ := IntOp.andi_eq_one.1 h2
  obtain ⟨f0, f1⟩ := IntOp.andi_eq_one.1 h1
  obtain ⟨R0, e0⟩ := Cert.Common.reals_of_all _ _ _ _ _ f0
  obtain ⟨R1, e1⟩ := Cert.Common.reals_of_all _ _ _ _ _ f1
  obtain ⟨R2, e2⟩ := Cert.Common.reals_of_all _ _ _ _ _ f2
  obtain ⟨R3, e3⟩ := Cert.Common.reals_of_all _ _ _ _ _ f3
  obtain ⟨R5, e5⟩ := Cert.Common.reals_of_all _ _ _ _ _ f5
  obtain ⟨R6, e6⟩ := Cert.Common.reals_of_all _ _ _ _ _ f6
  obtain ⟨R7, e7⟩ := Cert.Common.reals_of_all _ _ _ _ _ f7
  obtain ⟨R8, e8⟩ := Cert.Common.reals_of_all _ _ _ _ _ f8
  obtain ⟨A, hA⟩ := mat x0 R0 e0 (by decide) (by decide)
  obtain ⟨W, hW⟩ := mat x1 R1 e1 (by decide) (by decide)
  obtain ⟨H, hH⟩ := mat x2 R2 e2 (by decide) (by decide)
  obtain ⟨G, hG⟩ := row x3 R3 e3 (by decide)
  obtain ⟨B, hB⟩ := rowE x4 (by decide)
  obtain ⟨U, hU⟩ := mat x5 R5 e5 (by decide) (by decide)
  obtain ⟨S, hS⟩ := mat x6 R6 e6 (by decide) (by decide)
  obtain ⟨P, hP⟩ := mat x7 R7 e7 (by decide) (by decide)
  obtain ⟨Q, hQ⟩ := mat x8 R8 e8 (by decide) (by decide)
  exact ⟨H, A, W, G, B, U, S, P, Q, hA, hW, hH, hG, hB, hU, hS, hP, hQ⟩

end Inputs

open Cert.KernelWoIdeal Cert.KernelWoIdeal.Gen Cert.KernelWoIdeal.Hand in
/-- Kernel and reference leave the same normed activations and gradients wherever the arguments other than the bias are finite. -/
theorem value : Cert.algebraic_KernelWoIdeal_ReferenceWoIdeal_pre_finite_wo := by
  intro m g m' g' hpre hargs
  refine ⟨fun c => W4 m g c (Proc.devRef .tc main_v6_2),
    fun c => W4 m g c (Proc.devRef .tc main_v11_0),
    fun c => W4 m g c (Proc.devRef .tc main_v11_1),
    fun c => W4 m g c (Proc.devRef .tc main_v11_2),
    fun c => W4 m g c (Proc.devRef .tc main_v11_3),
    fun c => W4 m g c (Proc.devRef .tc main_v11_4), ?_, ?_⟩
  · refine (θ_run defs _ _).mono (fun r h c => ⟨h c _ (mem_uc main_v6_2 (by decide)),
      h c _ (mem_uc main_v11_0 (by decide)),
      h c _ (mem_uc main_v11_1 (by decide)),
      h c _ (mem_uc main_v11_2 (by decide)),
      h c _ (mem_uc main_v11_3 (by decide)),
      h c _ (mem_uc main_v11_4 (by decide)),
      (h c _ (mem_uc main_arg0 (by decide))).trans (W4_main_arg0 m g c),
      (h c _ (mem_uc main_arg1 (by decide))).trans (W4_main_arg1 m g c),
      (h c _ (mem_uc main_arg2 (by decide))).trans (W4_main_arg2 m g c),
      (h c _ (mem_uc main_arg3 (by decide))).trans (W4_main_arg3 m g c),
      (h c _ (mem_uc main_arg4 (by decide))).trans (W4_main_arg4 m g c),
      (h c _ (mem_uc main_arg5 (by decide))).trans (W4_main_arg5 m g c),
      (h c _ (mem_uc main_arg6 (by decide))).trans (W4_main_arg6 m g c),
      (h c _ (mem_uc main_arg7 (by decide))).trans (W4_main_arg7 m g c),
      (h c _ (mem_uc main_arg8 (by decide))).trans (W4_main_arg8 m g c)⟩) (run_all m g)
  · refine (θ_run Cert.ReferenceWoIdeal.defs _ _).mono (fun r h c => ?_) (Cert.ReferenceWoIdeal.Value.run m' g')
    obtain ⟨r0, r1, r2, r3, r4, r5, rest⟩ := h c
    obtain ⟨e0, e1, e2, e3, e4, e5, e6, e7, e8⟩ := hargs c
    obtain ⟨H, A, W, G, B, U, S, P, Q, E⟩ := reads _ _ _ _ _ _ _ _ _ (hpre c)
    refine ⟨r0.trans ?_, r1.trans ?_, r2.trans ?_, r3.trans ?_, r4.trans ?_, r5.trans ?_, rest⟩
    · rw [Cert.ReferenceWoIdeal.Read.val_main_v70_eq, e0, e1, e2, e3, e4]
      refine Eq.trans (funext fun y => ?_) (end_y m g c E).symm
      exact (Cert.ReferenceWoIdeal.Read.val_main_v70_apply _ _ _ _ _ y).trans (Ref.v30_val E y)
    · rw [Cert.ReferenceWoIdeal.Read.val_main_v69_eq, e0, e1, e2, e3, e5, e6, e7, e8]
      exact Eq.trans (funext fun y => Ref.v69_val E y) (end_dr m g c E).symm
    · rw [Cert.ReferenceWoIdeal.Read.val_main_v71_eq, e0, e1, e2, e3, e5, e6, e7, e8]
      exact Eq.trans (funext fun y => (Cert.ReferenceWoIdeal.Read.val_main_v71_apply _ _ _ _ _ _ _ _ y).trans (Ref.v69_val E y)) (end_drb m g c E).symm
    · rw [Cert.ReferenceWoIdeal.Read.val_main_v43_eq, e0, e1, e2, e5, e6, e7, e8]
      exact Eq.trans (funext fun y => Ref.v43_val E y) (end_dg m g c E).symm
    · rw [Cert.ReferenceWoIdeal.Read.val_main_v40_eq, e5, e6, e7, e8]
      exact Eq.trans (funext fun y => Ref.v40_val E y) (end_db m g c E).symm
    · rw [Cert.ReferenceWoIdeal.Read.val_main_v72_eq, e0, e1, e2, e3, e5, e6, e7, e8]
      exact Eq.trans (funext fun y => Ref.v72_val E y) (end_dmix m g c E).symm

end Cert.Wo

end
-- ==== Proof.Dn.Forward.lean ====
/- The forward call of the pair for the norm under the mixers' projection (a product, the residual sum and the norm): what it leaves in its
   three arrays, at real entries. A block's values are those of the loss pair's forward call, whose text is the same. -/
module

public import proofs.«01_k».proof.Proof.Gen.KernelDnIdeal.Frame
public import proofs.«01_k».proof.Proof.Ls.Forward
public import Idealize.ShloMosaic.Lib.Pipeline.ValueKit

@[expose] public section

set_option maxRecDepth 16384

noncomputable section

namespace Cert.KernelDnIdeal.Hand

open Idealize.ShloMosaic Idealize.ShloMosaic.TcCoe Idealize.SL.Sem
open Idealize.ShloMosaic.Pipeline (Dat)
open Cert.KernelDnIdeal.Gen
open Cert.Ln
open Cert.KernelLsIdeal.Hand (pay5_val pay6_val pay7_val)
open Cert.Mx.Spec (eps bits_eps rsqrt_coe div_coe)

/-- The windows' block indices at every point of the forward call. -/
theorem idx0 : ∀ t : Fin cfg0.N, win0_0.index t = ![t.val, 0] ∧ win0_1.index t = ![0, 0] ∧ win0_2.index t = ![t.val, 0]
    ∧ win0_3.index t = ![0, 0, 0] ∧ win0_4.index t = ![0, 0, 0] ∧ win0_5.index t = ![0, 0, 0] ∧ win0_6.index t = ![0, 0, 0]
    ∧ win0_7.index t = ![t.val, 0] ∧ win0_8.index t = ![t.val, 0] ∧ win0_9.index t = ![t.val, 0] :=
  (by decide +kernel : ∀ t : Fin grid0.N, _)

section Call

variable (H A W : ℕ → ℕ → ℝ) (V : (c : Dev nD) → (b : Ref sig .tc) → Buf (Elt Ideal) ((c : Thread nD τ).loc b)) (c : Dev nD)
variable (hA : ∀ r k, (V c main_v4 : FVec Ideal S2048x2816 .bf16) (ix2 r k) = (A r.val k.val : EReal))
variable (hW : ∀ r k, (V c main_v5 : FVec Ideal S2816x1024 .bf16) (ix2 r k) = (W r.val k.val : EReal))
variable (hH : ∀ r k, (V c main_arg2 : FVec Ideal S2048x1024 .f32) (ix2 r k) = (H r.val k.val : EReal))
variable (hO : ∀ k, (V c main_v0 : FVec Ideal S1x1x1024 .f32) (ix3 0 0 k) = ((1 : ℝ) : EReal))
variable (hZ : ∀ k, (V c main_v1 : FVec Ideal S1x1x1024 .f32) (ix3 0 0 k) = ((0 : ℝ) : EReal))
variable (t : Fin cfg0.N)

include hA in
theorem ld0_lo (r : Fin 256) (k : Fin 2816) : View.ld (iblk0 V c 0 t) r0_0 (ix2 r k) = (A (512 * t.val + r.val) k.val : EReal) := by
  refine Eq.trans ?_ (hA ⟨512 * t.val + r.val, by have := t.isLt; have e : cfg0.N = 4 := (by decide); omega⟩ k)
  pointwise []
  blk_point [iblk0, idx0 t]

include hA in
theorem ld0_hi (r : Fin 256) (k : Fin 2816) : View.ld (iblk0 V c 0 t) r0_5 (ix2 r k) = (A (512 * t.val + 256 + r.val) k.val : EReal) := by
  refine Eq.trans ?_ (hA ⟨512 * t.val + 256 + r.val, by have := t.isLt; have e : cfg0.N = 4 := (by decide); omega⟩ k)
  pointwise []
  blk_point [iblk0, idx0 t]

include hW in
theorem ld1 (r : Fin 2816) (k : Fin 1024) : View.ld (iblk0 V c 1 t) r0_1 (ix2 r k) = (W r.val k.val : EReal) := by
  refine Eq.trans ?_ (hW r k)
  pointwise []
  blk_point [iblk0, idx0 t]

include hH in
theorem ld2_lo (r : Fin 256) (k : Fin 1024) : View.ld (iblk0 V c 2 t) r0_2 (ix2 r k) = (H (512 * t.val + r.val) k.val : EReal) := by
  refine Eq.trans ?_ (hH ⟨512 * t.val + r.val, by have := t.isLt; have e : cfg0.N = 4 := (by decide); omega⟩ k)
  pointwise []
  blk_point [iblk0, idx0 t]

include hH in
theorem ld2_hi (r : Fin 256) (k : Fin 1024) : View.ld (iblk0 V c 2 t) r0_6 (ix2 r k) = (H (512 * t.val + 256 + r.val) k.val : EReal) := by
  refine Eq.trans ?_ (hH ⟨512 * t.val + 256 + r.val, by have := t.isLt; have e : cfg0.N = 4 := (by decide); omega⟩ k)
  pointwise []
  blk_point [iblk0, idx0 t]

include hO in
theorem ld3 (k : Fin 1024) : View.ld (iblk0 V c 3 t) r0_3 (ix3 0 0 k) = ((1 : ℝ) : EReal) := by
  refine Eq.trans ?_ (hO k)
  pointwise []
  blk_point [iblk0, idx0 t]

include hZ in
theorem ld4 (k : Fin 1024) : View.ld (iblk0 V c 4 t) r0_3 (ix3 0 0 k) = ((0 : ℝ) : EReal) := by
  refine Eq.trans ?_ (hZ k)
  pointwise []
  blk_point [iblk0, idx0 t]

include hA hW hH hO hZ

/-- The forward call leaves the normalised residual in its first result. -/
theorem final0_7 : (dat0 V c).arrAt 7 cfg0.N = fun y : S2048x1024.Idx => (xh (resid 2816 H A W) (y 0).val (y 1).val : EReal) := by
  refine (dat0 V c).arrAt_eq_of_covers 7 _ (by decide +kernel) fun t _ y => ?_
  blk_simp
  rw [after0_7]
  unfold_out out0_7
  canon_tiles x h
  · rw [eq_ix2 x]
    refine (pay6_val H A W (512 * t.val + 256) _ _ _ _ _ (ld0_hi A V c hA t) (ld1 W V c hW t) (ld2_hi H V c hH t) (ld3 V c hO t) (ld4 V c hZ t) _ _).trans ?_
    simp only [idx0 t]
    congr 2
    · show _ = t.val * 512 + _; omega
    · show _ = 0 * 1024 + _; omega
  · rw [eq_ix2 x]
    refine (pay6_val H A W (512 * t.val) _ _ _ _ _ (ld0_lo A V c hA t) (ld1 W V c hW t) (ld2_lo H V c hH t) (ld3 V c hO t) (ld4 V c hZ t) _ _).trans ?_
    simp only [idx0 t]
    congr 2
    · show _ = t.val * 512 + _; omega
    · show _ = 0 * 1024 + _; omega

/-- The forward call leaves the rows' reciprocal roots in its second result. -/
theorem final0_8 : (dat0 V c).arrAt 8 cfg0.N = fun y : S2048x1.Idx => (rs (resid 2816 H A W) (y 0).val : EReal) := by
  refine (dat0 V c).arrAt_eq_of_covers 8 _ (by decide +kernel) fun t _ y => ?_
  blk_simp
  rw [after0_8]
  unfold_out out0_8
  canon_tiles x h
  · rw [eq_ix2 x, show x 1 = (0 : Fin 1) from Fin.ext (Nat.lt_one_iff.1 (x 1).isLt)]
    refine (pay5_val H A W (512 * t.val + 256) _ _ _ _ _ (ld0_hi A V c hA t) (ld1 W V c hW t) (ld2_hi H V c hH t) (ld3 V c hO t) (ld4 V c hZ t) _).trans ?_
    simp only [idx0 t]
    congr 2
    show _ = t.val * 512 + _; omega
  · rw [eq_ix2 x, show x 1 = (0 : Fin 1) from Fin.ext (Nat.lt_one_iff.1 (x 1).isLt)]
    refine (pay5_val H A W (512 * t.val) _ _ _ _ _ (ld0_lo A V c hA t) (ld1 W V c hW t) (ld2_lo H V c hH t) (ld3 V c hO t) (ld4 V c hZ t) _).trans ?_
    simp only [idx0 t]
    congr 2
    show _ = t.val * 512 + _; omega

section Result

variable (B : ℕ → EReal) (G : ℕ → ℝ)
variable (hg : ∀ k, (V c main_v2 : FVec Ideal S1x1x1024 .f32) (ix3 0 0 k) = (G k.val : EReal))
variable (hb : ∀ k, (V c main_v3 : FVec Ideal S1x1x1024 .f32) (ix3 0 0 k) = B k.val)

include hg in
omit hA hW hH hO hZ in
theorem ld5 (t : Fin cfg0.N) (k : Fin 1024) : View.ld (iblk0 V c 5 t) r0_3 (ix3 0 0 k) = (G k.val : EReal) := by
  refine Eq.trans ?_ (hg k)
  pointwise []
  blk_point [iblk0, idx0 t]

include hb in
omit hA hW hH hO hZ in
theorem ld6 (t : Fin cfg0.N) (k : Fin 1024) : View.ld (iblk0 V c 6 t) r0_3 (ix3 0 0 k) = B k.val := by
  refine Eq.trans ?_ (hb k)
  pointwise []
  blk_point [iblk0, idx0 t]

include hg hb in
/-- The forward call leaves the norm's result in its third result. -/
theorem final0_9 : (dat0 V c).arrAt 9 cfg0.N = fun y : S2048x1024.Idx =>
    ((xh (resid 2816 H A W) (y 0).val (y 1).val * G (y 1).val : ℝ) : EReal) + B (y 1).val := by
  refine (dat0 V c).arrAt_eq_of_covers 9 _ (by decide +kernel) fun t _ y => ?_
  blk_simp
  rw [after0_9]
  unfold_out out0_9
  canon_tiles x h
  · rw [eq_ix2 x]
    refine (pay7_val B G _ _ _ _ _ _ (pay6_val H A W (512 * t.val + 256) _ _ _ _ _ (ld0_hi A V c hA t) (ld1 W V c hW t) (ld2_hi H V c hH t) (ld3 V c hO t) (ld4 V c hZ t) _ _)
      (ld5 V c G hg t _) (ld6 V c B hb t _)).trans ?_
    simp only [idx0 t]
    rw [show (![t.val, 0] : Fin 2 → ℕ) 0 * 512 + (y 0).val = 512 * t.val + 256 + (x 0).val from by show t.val * 512 + _ = _; omega,
      show (![t.val, 0] : Fin 2 → ℕ) 1 * 1024 + (y 1).val = (x 1).val from by show 0 * 1024 + _ = _; omega]
  · rw [eq_ix2 x]
    refine (pay7_val B G _ _ _ _ _ _ (pay6_val H A W (512 * t.val) _ _ _ _ _ (ld0_lo A V c hA t) (ld1 W V c hW t) (ld2_lo H V c hH t) (ld3 V c hO t) (ld4 V c hZ t) _ _)
      (ld5 V c G hg t _) (ld6 V c B hb t _)).trans ?_
    simp only [idx0 t]
    rw [show (![t.val, 0] : Fin 2 → ℕ) 0 * 512 + (y 0).val = 512 * t.val + (x 0).val from by show t.val * 512 + _ = _; omega,
      show (![t.val, 0] : Fin 2 → ℕ) 1 * 1024 + (y 1).val = (x 1).val from by show 0 * 1024 + _ = _; omega]

end Result
end Call

end Cert.KernelDnIdeal.Hand

end
-- ==== Proof.Dn.Run.lean ====
/- The run of the pair for the norm under the mixers' projection: what every buffer of the device holds when both calls have returned. -/
module

public import proofs.«01_k».proof.Proof.Gen.KernelDnIdeal.Frame

@[expose] public section

set_option maxRecDepth 16384

noncomputable section

namespace Cert.KernelDnIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelDnIdeal.Gen

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The program ends with every buffer of every device at the contents that the last boundary names. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ c => h c)

end Cert.KernelDnIdeal.Hand

end
-- ==== Proof.Dn.Reference.lean ====
/- The reference of the pair for the norm under the mixers' projection, at real arguments (the norm's bias may be infinite). -/
module

public import proofs.«01_k».proof.Proof.Ln.Chain

@[expose] public section

set_option maxRecDepth 16384

noncomputable section

namespace Cert.Dn.Ref

open Cert.ReferenceDnIdeal Cert.ReferenceDnIdeal.Gen Cert.ReferenceDnIdeal.Read
open Idealize.ShloMosaic Idealize.ShloMosaic.TcCoe
open Cert.Ln

/-- The reference's arguments, read as numbers. -/
structure Reads (H A W : ℕ → ℕ → ℝ) (G : ℕ → ℝ) (B : ℕ → EReal) (U S P : ℕ → ℕ → ℝ) (x0 : FVec Ideal S2048x2816 .f32)
    (x1 : FVec Ideal S2816x1024 .f32) (x2 : FVec Ideal S2048x1024 .f32) (x3 x4 : FVec Ideal S1x1024 .f32)
    (x5 : FVec Ideal S1024x2176 .f32) (x6 : FVec Ideal S2048x1024 .f32) (x7 : FVec Ideal S2048x2176 .f32) : Prop where
  h0 : ∀ y, x0 y = (A (y 0).val (y 1).val : EReal)
  h1 : ∀ y, x1 y = (W (y 0).val (y 1).val : EReal)
  h2 : ∀ y, x2 y = (H (y 0).val (y 1).val : EReal)
  h3 : ∀ y, x3 y = (G (y 1).val : EReal)
  h4 : ∀ y, x4 y = B (y 1).val
  h5 : ∀ y, x5 y = (U (y 0).val (y 1).val : EReal)
  h6 : ∀ y, x6 y = (S (y 0).val (y 1).val : EReal)
  h7 : ∀ y, x7 y = (P (y 0).val (y 1).val : EReal)

variable {H A W : ℕ → ℕ → ℝ} {G : ℕ → ℝ} {B : ℕ → EReal} {U S P : ℕ → ℕ → ℝ} {x0 x1 x2 x3 x4 x5 x6 x7} (E : Reads H A W G B U S P x0 x1 x2 x3 x4 x5 x6 x7)
include E

/-- The residual sum. -/
theorem v3_val (y : S2048x1024.Idx) : val_main_v3 (F := Ideal) x0 x1 x2 y = (resid 2816 H A W (y 0).val (y 1).val : EReal) := by
  rw [val_main_v3_apply, val_main_v1_apply, val_main_v0_apply, show val_main_cst (F := Ideal) _ = (alpha : EReal) from bits_alpha, E.h2, val_main_v2_apply,
    total 2816 _ (fun j => A (y 0).val j * W j (y 1).val) (fun k => by rw [E.h0, E.h1, ← EReal.coe_mul]), Ideal.mulf_def, ← EReal.coe_mul,
    Ideal.addf_def, ← EReal.coe_add]
  rfl

/-- The norm's cotangent. -/
theorem v37_val (y : S2048x1024.Idx) : val_main_v37 (F := Ideal) x5 x6 x7 y = (resid 2176 S P (fun j k => U k j) (y 0).val (y 1).val : EReal) := by
  rw [val_main_v37_apply, val_main_v36_apply, val_main_v35_apply, show val_main_cst_8 (F := Ideal) _ = (alpha : EReal) from bits_alpha, E.h6, val_main_v34_apply,
    total 2176 _ (fun j => P (y 0).val j * U (y 1).val j) (fun k => by rw [E.h7, E.h5, ← EReal.coe_mul]), Ideal.mulf_def, ← EReal.coe_mul,
    Ideal.addf_def, ← EReal.coe_add, add_comm]
  rfl

/-- The norm's result. -/
theorem v30_val (y : S2048x1024.Idx) : val_main_v30 (F := Ideal) x0 x1 x2 x3 x4 y
    = ((xh (resid 2816 H A W) (y 0).val (y 1).val * G (y 1).val : ℝ) : EReal) + B (y 1).val :=
  Chain.norm_val (val_main_v3 (F := Ideal) x0 x1 x2) x3 x4 _ (v3_val E) G E.h3 B E.h4 y
/-- The gradient of the residual sum. -/
theorem v68_val (y : S2048x1024.Idx) : val_main_v68 (F := Ideal) x0 x1 x2 x3 x5 x6 x7 y
    = (dr (resid 2816 H A W) G (resid 2176 S P fun j k => U k j) (y 0).val (y 1).val : EReal) :=
  Chain.grad_val (val_main_v3 (F := Ideal) x0 x1 x2) (val_main_v37 (F := Ideal) x5 x6 x7) x3 _ _ (v3_val E) (v37_val E) G E.h3 y
/-- The gain's gradient. -/
theorem v42_val (y : S1x1024.Idx) : val_main_v42 (F := Ideal) x0 x1 x2 x5 x6 x7 y = (dg (resid 2816 H A W) (resid 2176 S P fun j k => U k j) (y 1).val : EReal) :=
  Chain.gain_val (val_main_v3 (F := Ideal) x0 x1 x2) (val_main_v37 (F := Ideal) x5 x6 x7) _ _ (v3_val E) (v37_val E) y
/-- The bias's gradient. -/
theorem v39_val (y : S1x1024.Idx) : val_main_v39 (F := Ideal) x5 x6 x7 y = (db (resid 2176 S P fun j k => U k j) (y 1).val : EReal) :=
  Chain.bias_val (val_main_v37 (F := Ideal) x5 x6 x7) _ (v37_val E) y

end Cert.Dn.Ref

end
-- ==== Proof.Dn.Arrays.lean ====
/- The results of the pair for the norm under the mixers' projection, as functions of the program's arguments. -/
module

public import proofs.«01_k».proof.Proof.Dn.Forward
public import proofs.«01_k».proof.Proof.Dn.Backward
public import proofs.«01_k».proof.Proof.Dn.Run
public import proofs.«01_k».proof.Proof.Dn.Reference

@[expose] public section

set_option maxRecDepth 16384

noncomputable section

namespace Cert.KernelDnIdeal.Hand

open Idealize.ShloMosaic Idealize.ShloMosaic.TcCoe Idealize.ShloMosaic.Tactic Idealize.SL.Sem
open Idealize.ShloMosaic.Pipeline (Dat)
open Cert.KernelDnIdeal.Gen
open Cert.Ln
open Cert.Mx.Spec (bits_one bits_zero)

variable (m : (ℓ : Loc nD τ sig) → Buf (Elt Ideal) ℓ) (ρ : Dev nD → PrngReg) (c : Dev nD)

theorem V1_v0 (k : Fin 1024) : (V1 m ρ c main_v0 : FVec Ideal S1x1x1024 .f32) (ix3 0 0 k) = ((1 : ℝ) : EReal) := by
  show (StableHlo.after hostOps0 (W0 m ρ c) (Proc.devRef .tc main_v0) : FVec Ideal S1x1x1024 .f32) _ = _
  after_results
  exact bits_one
theorem V1_v1 (k : Fin 1024) : (V1 m ρ c main_v1 : FVec Ideal S1x1x1024 .f32) (ix3 0 0 k) = ((0 : ℝ) : EReal) := by
  show (StableHlo.after hostOps0 (W0 m ρ c) (Proc.devRef .tc main_v1) : FVec Ideal S1x1x1024 .f32) _ = _
  after_results
  exact bits_zero
theorem V1_v2 (k : Fin 1024) : (V1 m ρ c main_v2 : FVec Ideal S1x1x1024 .f32) (ix3 0 0 k) = (m ((c : Thread nD τ).loc main_arg3) : FVec Ideal S1x1024 .f32) (ix2 0 k) := by
  show (StableHlo.after hostOps0 (W0 m ρ c) (Proc.devRef .tc main_v2) : FVec Ideal S1x1x1024 .f32) _ = _
  after_results
  pointwise []
theorem V1_v3 (k : Fin 1024) : (V1 m ρ c main_v3 : FVec Ideal S1x1x1024 .f32) (ix3 0 0 k) = (m ((c : Thread nD τ).loc main_arg4) : FVec Ideal S1x1024 .f32) (ix2 0 k) := by
  show (StableHlo.after hostOps0 (W0 m ρ c) (Proc.devRef .tc main_v3) : FVec Ideal S1x1x1024 .f32) _ = _
  after_results
  pointwise []
theorem V1_v4 : V1 m ρ c main_v4 = m ((c : Thread nD τ).loc main_arg0) := by
  show StableHlo.after hostOps0 (W0 m ρ c) _ = _
  after_results
  rfl
theorem V1_v5 : V1 m ρ c main_v5 = m ((c : Thread nD τ).loc main_arg1) := by
  show StableHlo.after hostOps0 (W0 m ρ c) _ = _
  after_results
  rfl
theorem V1_arg2 : V1 m ρ c main_arg2 = m ((c : Thread nD τ).loc main_arg2) := W1_args m ρ c main_arg2 (by decide)

theorem V3_v7 : V3 m ρ c main_v7 = m ((c : Thread nD τ).loc main_arg7) := by
  show StableHlo.after hostOps1 (W2 m ρ c) _ = _
  after_results
  exact W2_args m ρ c main_arg7 (by decide)
/-- The projection's matrix, as the second call finds it: transposed. -/
theorem V3_v9 (r : Fin 2176) (k : Fin 1024) : (V3 m ρ c main_v9 : FVec Ideal S2176x1024 .bf16) (ix2 r k)
    = (m ((c : Thread nD τ).loc main_arg5) : FVec Ideal S1024x2176 .f32) (ix2 k r) := by
  show (StableHlo.after hostOps1 (W2 m ρ c) (Proc.devRef .tc main_v9) : FVec Ideal S2176x1024 .bf16) _ = _
  after_results
  pointwise []
  exact congrFun (W2_args m ρ c main_arg5 (by decide)) _

section Ends

variable {H A W : ℕ → ℕ → ℝ} {G : ℕ → ℝ} {B : ℕ → EReal} {U S P : ℕ → ℕ → ℝ}
variable (E : Cert.Dn.Ref.Reads H A W G B U S P (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)))
include E

theorem hA (r : Fin 2048) (k : Fin 2816) : (V1 m ρ c main_v4 : FVec Ideal S2048x2816 .bf16) (ix2 r k) = (A r.val k.val : EReal) := by
  rw [V1_v4]; exact E.h0 _
theorem hW (r : Fin 2816) (k : Fin 1024) : (V1 m ρ c main_v5 : FVec Ideal S2816x1024 .bf16) (ix2 r k) = (W r.val k.val : EReal) := by
  rw [V1_v5]; exact E.h1 _
theorem hH (r : Fin 2048) (k : Fin 1024) : (V1 m ρ c main_arg2 : FVec Ideal S2048x1024 .f32) (ix2 r k) = (H r.val k.val : EReal) := by
  rw [V1_arg2]; exact E.h2 _
theorem hG (k : Fin 1024) : (V1 m ρ c main_v2 : FVec Ideal S1x1x1024 .f32) (ix3 0 0 k) = (G k.val : EReal) := (V1_v2 m ρ c k).trans (E.h3 _)
theorem hB (k : Fin 1024) : (V1 m ρ c main_v3 : FVec Ideal S1x1x1024 .f32) (ix3 0 0 k) = B k.val := (V1_v3 m ρ c k).trans (E.h4 _)

/-- The normalised residual sum, as the second call finds it. -/
theorem hX (r : Fin 2048) (k : Fin 1024) : (V3 m ρ c main_v6_0 : FVec Ideal S2048x1024 .f32) (ix2 r k) = (xh (resid 2816 H A W) r.val k.val : EReal) :=
  congrFun ((W3_of m ρ c main_v6_0 (by decide)).trans ((W2_arr m ρ c 7).trans (final0_7 H A W (V1 m ρ) c (hA m ρ c E) (hW m ρ c E) (hH m ρ c E) (V1_v0 m ρ c) (V1_v1 m ρ c)))) _
/-- The reciprocal deviation, as the second call finds it. -/
theorem hR (r : Fin 2048) : (V3 m ρ c main_v6_1 : FVec Ideal S2048x1 .f32) (ix2 r 0) = (rs (resid 2816 H A W) r.val : EReal) :=
  congrFun ((W3_of m ρ c main_v6_1 (by decide)).trans ((W2_arr m ρ c 8).trans (final0_8 H A W (V1 m ρ) c (hA m ρ c E) (hW m ρ c E) (hH m ρ c E) (V1_v0 m ρ c) (V1_v1 m ρ c)))) _
theorem hG2 (k : Fin 1024) : (V3 m ρ c main_v2 : FVec Ideal S1x1x1024 .f32) (ix3 0 0 k) = (G k.val : EReal) :=
  (congrFun ((W3_of m ρ c main_v2 (by decide)).trans (W2_of m ρ c main_v2 (by decide))) _).trans (hG m ρ c E k)
theorem hS (r : Fin 2048) (k : Fin 1024) : (V3 m ρ c main_arg6 : FVec Ideal S2048x1024 .f32) (ix2 r k) = (S r.val k.val : EReal) :=
  (congrFun (W3_args m ρ c main_arg6 (by decide)) _).trans (E.h6 _)
theorem hP (r : Fin 2048) (k : Fin 2176) : (V3 m ρ c main_v7 : FVec Ideal S2048x2176 .bf16) (ix2 r k) = (P r.val k.val : EReal) := by
  rw [V3_v7]; exact E.h7 _
theorem hU (r : Fin 2176) (k : Fin 1024) : (V3 m ρ c main_v9 : FVec Ideal S2176x1024 .bf16) (ix2 r k) = (U k.val r.val : EReal) :=
  (V3_v9 m ρ c r k).trans (E.h5 _)

theorem end_y : W4 m ρ c (Proc.devRef .tc main_v6_2) = fun y : S2048x1024.Idx =>
    ((xh (resid 2816 H A W) (y 0).val (y 1).val * G (y 1).val : ℝ) : EReal) + B (y 1).val :=
  (W4_of m ρ c main_v6_2 (by decide)).trans ((W3_of m ρ c main_v6_2 (by decide)).trans ((W2_arr m ρ c 9).trans (final0_9 H A W (V1 m ρ) c (hA m ρ c E) (hW m ρ c E)
    (hH m ρ c E) (V1_v0 m ρ c) (V1_v1 m ρ c) B G (hG m ρ c E) (hB m ρ c E))))
theorem end_dr : W4 m ρ c (Proc.devRef .tc main_v10_0) = fun y : S2048x1024.Idx =>
    (dr (resid 2816 H A W) G (resid 2176 S P fun j k => U k j) (y 0).val (y 1).val : EReal) :=
  (W4_arr m ρ c 6).trans (final1_6 _ P S _ G (V3 m ρ) c (hP m ρ c E) (hU m ρ c E) (hS m ρ c E) (hX m ρ c E) (hR m ρ c E) (hG2 m ρ c E))
theorem end_drb : W4 m ρ c (Proc.devRef .tc main_v10_1) = fun y : S2048x1024.Idx =>
    (dr (resid 2816 H A W) G (resid 2176 S P fun j k => U k j) (y 0).val (y 1).val : EReal) :=
  (W4_arr m ρ c 7).trans (final1_7 _ P S _ G (V3 m ρ) c (hP m ρ c E) (hU m ρ c E) (hS m ρ c E) (hX m ρ c E) (hR m ρ c E) (hG2 m ρ c E))
theorem end_dg : W4 m ρ c (Proc.devRef .tc main_v10_2) = fun y : S1x1024.Idx =>
    (dg (resid 2816 H A W) (resid 2176 S P fun j k => U k j) (y 1).val : EReal) :=
  (W4_arr m ρ c 8).trans (final1_8 _ P S _ (V3 m ρ) c (hP m ρ c E) (hU m ρ c E) (hS m ρ c E) (hX m ρ c E))
theorem end_db : W4 m ρ c (Proc.devRef .tc main_v10_3) = fun y : S1x1024.Idx => (db (resid 2176 S P fun j k => U k j) (y 1).val : EReal) :=
  (W4_arr m ρ c 9).trans (final1_9 P S _ (V3 m ρ) c (hP m ρ c E) (hU m ρ c E) (hS m ρ c E))

end Ends

end Cert.KernelDnIdeal.Hand

end
-- ==== Proof.Dn.Claims.lean ====
/- The claims of the pair for the norm under the mixers' projection. -/
module

public import proofs.«01_k».proof.Defs
public import proofs.«01_k».proof.Proof.Dn.Arrays
public import proofs.«01_k».proof.Proof.Ln.Inputs
public import proofs.«01_k».proof.Proof.Ln.Frames
public import proofs.«01_k».proof.Proof.Gen.ReferenceDnIdeal.Run
public import proofs.«01_k».proof.Proof.Gen.Pre_finite_dn
public import proofs.«01_k».proof.Proof.Common.Reals
public import Idealize.ShloMosaic.Lib.Claim

@[expose] public section

set_option maxRecDepth 16384

noncomputable section

namespace Cert.Dn

open Idealize.ShloMosaic Idealize.ShloMosaic.TcCoe Idealize.SL.Sem
open Cert.Ln

section Inputs
open Cert.ReferenceDnIdeal

/-- Under the precondition the arguments are real numbers, but for the bias. -/
theorem reads (x0 : FVec Ideal S2048x2816 .f32) (x1 : FVec Ideal S2816x1024 .f32) (x2 : FVec Ideal S2048x1024 .f32)
    (x3 x4 : FVec Ideal S1x1024 .f32) (x5 : FVec Ideal S1024x2176 .f32) (x6 : FVec Ideal S2048x1024 .f32) (x7 : FVec Ideal S2048x2176 .f32)
    (h : Cert.Pre_finite_dn.fn (F := Ideal) x0 x1 x2 x3 x4 x5 x6 x7 = fun _ => 1#1) :
    ∃ (H A W : ℕ → ℕ → ℝ) (G : ℕ → ℝ) (B : ℕ → EReal) (U S P : ℕ → ℕ → ℝ), Ref.Reads H A W G B U S P x0 x1 x2 x3 x4 x5 x6 x7 := by
  have h6 := congrFun h (fun k => k.elim0)
  obtain ⟨h5, f7⟩ := IntOp.andi_eq_one.1 h6
  obtain ⟨h4, f6⟩ := IntOp.andi_eq_one.1 h5
  obtain ⟨h3, f5⟩ := IntOp.andi_eq_one.1 h4
  obtain ⟨h2, f3⟩ := IntOp.andi_eq_one.1 h3
  obtain ⟨h1, f2⟩ := IntOp.andi_eq_one.1 h2
  obtain ⟨f0, f1⟩ := IntOp.andi_eq_one.1 h1
  obtain ⟨R0, e0⟩ := Cert.Common.reals_of_all _ _ _ _ _ f0
  obtain ⟨R1, e1⟩ := Cert.Common.reals_of_all _ _ _ _ _ f1
  obtain ⟨R2, e2⟩ := Cert.Common.reals_of_all _ _ _ _ _ f2
  obtain ⟨R3, e3⟩ := Cert.Common.reals_of_all _ _ _ _ _ f3
  obtain ⟨R5, e5⟩ := Cert.Common.reals_of_all _ _ _ _ _ f5
  obtain ⟨R6, e6⟩ := Cert.Common.reals_of_all _ _ _ _ _ f6
  obtain ⟨R7, e7⟩ := Cert.Common.reals_of_all _ _ _ _ _ f7
  obtain ⟨A, hA⟩ := mat x0 R0 e0 (by decide) (by decide)
  obtain ⟨W, hW⟩ := mat x1 R1 e1 (by decide) (by decide)
  obtain ⟨H, hH⟩ := mat x2 R2 e2 (by decide) (by decide)
  obtain ⟨G, hG⟩ := row x3 R3 e3 (by decide)
  obtain ⟨B, hB⟩ := rowE x4 (by decide)
  obtain ⟨U, hU⟩ := mat x5 R5 e5 (by decide) (by decide)
  obtain ⟨S, hS⟩ := mat x6 R6 e6 (by decide) (by decide)
  obtain ⟨P, hP⟩ := mat x7 R7 e7 (by decide) (by decide)
  exact ⟨H, A, W, G, B, U, S, P, hA, hW, hH, hG, hB, hU, hS, hP⟩

end Inputs

open Cert.KernelDnIdeal Cert.KernelDnIdeal.Gen Cert.KernelDnIdeal.Hand in
/-- Kernel and reference leave the same normed activations and gradients wherever the arguments other than the bias are finite. -/
theorem value : Cert.algebraic_KernelDnIdeal_ReferenceDnIdeal_pre_finite_dn := by
  intro m g m' g' hpre hargs
  refine ⟨fun c => W4 m g c (Proc.devRef .tc main_v6_2), fun c => W4 m g c (Proc.devRef .tc main_v10_0),
    fun c => W4 m g c (Proc.devRef .tc main_v10_1), fun c => W4 m g c (Proc.devRef .tc main_v10_2),
    fun c => W4 m g c (Proc.devRef .tc main_v10_3), ?_, ?_⟩
  · refine (θ_run defs _ _).mono (fun r h c => ⟨h c _ (mem_uc main_v6_2 (by decide)), h c _ (mem_uc main_v10_0 (by decide)),
      h c _ (mem_uc main_v10_1 (by decide)), h c _ (mem_uc main_v10_2 (by decide)), h c _ (mem_uc main_v10_3 (by decide)),
      (h c _ (mem_uc main_arg0 (by decide))).trans (W4_main_arg0 m g c),
      (h c _ (mem_uc main_arg1 (by decide))).trans (W4_main_arg1 m g c), (h c _ (mem_uc main_arg2 (by decide))).trans (W4_main_arg2 m g c),
      (h c _ (mem_uc main_arg3 (by decide))).trans (W4_main_arg3 m g c), (h c _ (mem_uc main_arg4 (by decide))).trans (W4_main_arg4 m g c),
      (h c _ (mem_uc main_arg5 (by decide))).trans (W4_main_arg5 m g c), (h c _ (mem_uc main_arg6 (by decide))).trans (W4_main_arg6 m g c),
      (h c _ (mem_uc main_arg7 (by decide))).trans (W4_main_arg7 m g c)⟩) (run_all m g)
  · refine (θ_run Cert.ReferenceDnIdeal.defs _ _).mono (fun r h c => ?_) (Cert.ReferenceDnIdeal.Value.run m' g')
    obtain ⟨r0, r1, r2, r3, r4, rest⟩ := h c
    obtain ⟨e0, e1, e2, e3, e4, e5, e6, e7⟩ := hargs c
    obtain ⟨H, A, W, G, B, U, S, P, E⟩ := reads _ _ _ _ _ _ _ _ (hpre c)
    refine ⟨r0.trans ?_, r1.trans ?_, r2.trans ?_, r3.trans ?_, r4.trans ?_, rest⟩
    · rw [e0, e1, e2, e3, e4, Cert.ReferenceDnIdeal.Read.val_main_v69_eq]
      refine Eq.trans (funext fun y => ?_) (end_y m g c E).symm
      exact (Cert.ReferenceDnIdeal.Read.val_main_v69_apply _ _ _ _ _ y).trans (Ref.v30_val E y)
    · rw [Cert.ReferenceDnIdeal.Read.val_main_v68_eq, e0, e1, e2, e3, e5, e6, e7]
      exact Eq.trans (funext fun y => Ref.v68_val E y) (end_dr m g c E).symm
    · rw [Cert.ReferenceDnIdeal.Read.val_main_v70_eq, e0, e1, e2, e3, e5, e6, e7]
      exact Eq.trans (funext fun y => (Cert.ReferenceDnIdeal.Read.val_main_v70_apply _ _ _ _ _ _ _ y).trans (Ref.v68_val E y)) (end_drb m g c E).symm
    · rw [e0, e1, e2, e5, e6, e7, Cert.ReferenceDnIdeal.Read.val_main_v42_eq]
      exact Eq.trans (funext fun y => Ref.v42_val E y) (end_dg m g c E).symm
    · rw [e5, e6, e7, Cert.ReferenceDnIdeal.Read.val_main_v39_eq]
      exact Eq.trans (funext fun y => Ref.v39_val E y) (end_db m g c E).symm

end Cert.Dn

end
-- ==== Proof.Dx.Claims.lean ====
/- The claims of the call that sends a projection's cotangent back to the block's input, adding the residual path's share.
   They hold at all arguments: the two programs differ in the order of one sum of two terms. -/
module

public import proofs.«01_k».proof.Defs
public import proofs.«01_k».proof.Proof.Ln.Spec
public import proofs.«01_k».proof.Proof.Gen.KernelDxIdeal.Value
public import proofs.«01_k».proof.Proof.Gen.ReferenceDxIdeal.Run
public import proofs.«01_k».proof.Proof.Gen.ReferenceDxIdeal.Read
public import Idealize.ShloMosaic.Lib.Claim
public import Idealize.ShloMosaic.Lib.Pipeline.ValueKit

@[expose] public section

set_option maxRecDepth 16384

noncomputable section

namespace Cert.Dx

open Idealize.ShloMosaic Idealize.ShloMosaic.TcCoe Idealize.ShloMosaic.Tactic Idealize.SL.Sem
open Idealize.ShloMosaic.Pipeline (Dat)
open Cert.Ln

/-- The gradient of the block's input: `alpha` of the residual's cotangent `S` plus the row of `P` times the row of `U`. -/
def dx (U : FVec Ideal ⟨2, ![1024, 2176]⟩ .f32) (S : FVec Ideal ⟨2, ![2048, 1024]⟩ .f32) (P : FVec Ideal ⟨2, ![2048, 2176]⟩ .f32)
    (r : Fin 2048) (l : Fin 1024) : EReal :=
  (alpha : EReal) * S (ix2 r l) + ∑ k : Fin 2176, P (ix2 r k) * U (ix2 l k)

section Kernel

open Cert.KernelDxIdeal Cert.KernelDxIdeal.Gen

variable (m : (ℓ : Loc nD τ sig) → Buf (Elt Ideal) ℓ) (c : Dev nD)

/-- The projection's cotangent, as the call finds it. -/
theorem V_v0 : (V m c main_v0 : FVec Ideal S2048x2176 .bf16) = (m ((c : Thread nD τ).loc main_arg3) : FVec Ideal S2048x2176 .f32) := by
  show (StableHlo.after hostOps0 (fun b => m (c, b)) (Proc.devRef .tc main_v0) : FVec Ideal S2048x2176 .bf16) = _
  after_results
  rfl

/-- The projection's matrix, as the call finds it: transposed. -/
theorem V_v2 (k : Fin 2176) (l : Fin 1024) : (V m c main_v2 : FVec Ideal S2176x1024 .bf16) (ix2 k l)
    = (m ((c : Thread nD τ).loc main_arg1) : FVec Ideal S1024x2176 .f32) (ix2 l k) := by
  show (StableHlo.after hostOps0 (fun b => m (c, b)) (Proc.devRef .tc main_v2) : FVec Ideal S2176x1024 .bf16) _ = _
  after_results
  pointwise []

/-- The windows' block indices at every point. -/
theorem idx0 : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem N0 : cfg0.N = 4 := by decide

/-- One half block's payload. -/
theorem pay (v0 : Vec Ideal S256x2176 .bf16) (v2 : Vec Ideal S2176x1024 .bf16) (v5 : Vec Ideal S256x1024 .f32) (r : Fin 256) (l : Fin 1024) :
    k0_pay1 v0 v2 v5 (ix2 r l) = (alpha : EReal) * v5 (ix2 r l) + ∑ k : Fin 2176, v0 (ix2 r k) * v2 (ix2 k l) := by
  pointwise [k0_pay1]
  rw [bits_alpha]

variable (t : Fin cfg0.N)

/-- A row of a point's block is a row of the array. -/
theorem row_lt (r : ℕ) (h : r < 512) : 512 * t.val + r < 2048 := by have := t.isLt; have e := N0; omega

/-- The lower half of a point's block. -/
theorem point_lo (r : Fin 256) (l : Fin 1024) : k0_pay1 (View.ld (iblk m c 0 t) r0_0) (View.ld (iblk m c 1 t) r0_1) (View.ld (iblk m c 2 t) r0_2) (ix2 r l)
    = dx (m ((c : Thread nD τ).loc main_arg1)) (m ((c : Thread nD τ).loc main_arg2)) (m ((c : Thread nD τ).loc main_arg3))
        ⟨512 * t.val + r.val, row_lt t r.val (by omega)⟩ l := by
  rw [pay]
  refine congrArg₂ (fun a b => (alpha : EReal) * a + b) ?_ (Finset.sum_congr rfl fun k _ => congrArg₂ (· * ·) ?_ ?_)
  · refine Eq.trans ?_ (congrFun (V_main_arg2 m c) (ix2 _ l))
    pointwise []
    blk_point [iblk, idx0 t]
  · refine Eq.trans ?_ (congrFun (V_v0 m c) (ix2 _ k))
    pointwise []
    blk_point [iblk, idx0 t]
  · refine Eq.trans ?_ (V_v2 m c k l)
    pointwise []
    blk_point [iblk, idx0 t]

/-- The upper half of a point's block. -/
theorem point_hi (r : Fin 256) (l : Fin 1024) : k0_pay2 (View.ld (iblk m c 0 t) r0_3) (View.ld (iblk m c 1 t) r0_1) (View.ld (iblk m c 2 t) r0_4) (ix2 r l)
    = dx (m ((c : Thread nD τ).loc main_arg1)) (m ((c : Thread nD τ).loc main_arg2)) (m ((c : Thread nD τ).loc main_arg3))
        ⟨512 * t.val + (256 + r.val), row_lt t (256 + r.val) (by omega)⟩ l := by
  refine (pay _ _ _ r l).trans ?_
  refine congrArg₂ (fun a b => (alpha : EReal) * a + b) ?_ (Finset.sum_congr rfl fun k _ => congrArg₂ (· * ·) ?_ ?_)
  · refine Eq.trans ?_ (congrFun (V_main_arg2 m c) (ix2 _ l))
    pointwise []
    blk_point [iblk, idx0 t]
  · refine Eq.trans ?_ (congrFun (V_v0 m c) (ix2 _ k))
    pointwise []
    blk_point [iblk, idx0 t]
  · refine Eq.trans ?_ (V_v2 m c k l)
    pointwise []
    blk_point [iblk, idx0 t]

theorem dx_congr (U : FVec Ideal ⟨2, ![1024, 2176]⟩ .f32) (S : FVec Ideal ⟨2, ![2048, 1024]⟩ .f32) (P : FVec Ideal ⟨2, ![2048, 2176]⟩ .f32)
    {r r' : Fin 2048} {l l' : Fin 1024} (h : r.val = r'.val) (h' : l.val = l'.val) : dx U S P r l = dx U S P r' l' := by
  rw [Fin.ext h, Fin.ext h']

/-- The whole array after the call. -/
theorem final : (dats m 0 c).arrAt 3 cfg0.N = fun y : S2048x1024.Idx =>
    dx (m ((c : Thread nD τ).loc main_arg1)) (m ((c : Thread nD τ).loc main_arg2)) (m ((c : Thread nD τ).loc main_arg3)) ⟨(y 0).val, (y 0).isLt⟩ ⟨(y 1).val, (y 1).isLt⟩ := by
  refine (dats m 0 c).arrAt_eq_of_covers 3 _ (by decide +kernel) fun t _ y => ?_
  blk_simp
  rw [after0_3]
  unfold out0_3
  canon_tiles x h
  · rw [eq_ix2 x]
    refine (point_hi m c t _ _).trans ?_
    simp only [idx0 t]
    refine dx_congr _ _ _ ?_ ?_
    · show 512 * t.val + (256 + (x 0).val) = t.val * 512 + _; omega
    · show _ = 0 * 1024 + _; omega
  · rw [eq_ix2 x]
    refine (point_lo m c t _ _).trans ?_
    simp only [idx0 t]
    refine dx_congr _ _ _ ?_ ?_
    · show 512 * t.val + (x 0).val = t.val * 512 + _; omega
    · show _ = 0 * 1024 + _; omega

end Kernel

section Reference

open Cert.ReferenceDxIdeal Cert.ReferenceDxIdeal.Gen Cert.ReferenceDxIdeal.Read

/-- The reference's result. -/
theorem ref_val (x1 : FVec Ideal S1024x2176 .f32) (x2 : FVec Ideal S2048x1024 .f32) (x3 : FVec Ideal S2048x2176 .f32) (y : S2048x1024.Idx) :
    val_main_v6 (F := Ideal) x1 x2 x3 y = dx x1 x2 x3 (y 0) (y 1) := by
  rw [val_main_v6_apply, val_main_v5_apply, val_main_v4_apply, show val_main_cst_0 (F := Ideal) _ = (alpha : EReal) from bits_alpha, val_main_v3_apply,
    Ideal.mulf_def, Ideal.addf_def, add_comm]
  refine congrArg₂ (fun a b => (alpha : EReal) * a + b) (congrArg x2 (eq_ix2 y)) (Finset.sum_congr rfl fun k _ => congrArg₂ (· * ·) (congrArg x3 ?_) (congrArg x1 ?_))
  · exact eq_ix2 _
  · exact eq_ix2 _

/-- The reference terminates and leaves its arguments unchanged. -/
theorem frame_reference : Cert.quiescent_ReferenceDxIdeal :=
  fun m g _ => (θ_run Cert.ReferenceDxIdeal.defs _ _).mono (fun r h => ⟨fun c => (h c).2, sem_eq_zero_of_no_sems (by decide) r.2⟩)
    (Cert.ReferenceDxIdeal.Value.run m g)

end Reference

open Cert.KernelDxIdeal Cert.KernelDxIdeal.Gen in
/-- Kernel and reference leave the same gradient at all arguments. -/
theorem value : Cert.algebraic_KernelDxIdeal_ReferenceDxIdeal := by
  intro m g m' g' _ hargs
  refine ⟨fun c => (dats m 0 c).arrAt 3 cfg0.N, Cert.KernelDxIdeal.Value.run_blocks m g, ?_⟩
  refine (θ_run Cert.ReferenceDxIdeal.defs _ _).mono (fun r h c => ?_) (Cert.ReferenceDxIdeal.Value.run m' g')
  obtain ⟨r0, rest⟩ := h c
  obtain ⟨e0, e1, e2, e3⟩ := hargs c
  refine ⟨r0.trans ?_, rest⟩
  rw [Cert.ReferenceDxIdeal.Read.val_main_v6_eq, e1, e2, e3]
  exact Eq.trans (funext fun y => ref_val _ _ _ y) (final m c).symm

end Cert.Dx

end
-- ==== Proof.Mf.Frames.lean ====
/- The mixers' forward call: the frame of its reference and the named constant. -/
module

public import proofs.«01_k».proof.Defs
public import proofs.«01_k».proof.Proof.Gen.ReferenceMfIdeal.Run
public import Idealize.ShloMosaic.Lib.Claim

@[expose] public section

noncomputable section

namespace Cert.Mf

open Idealize.ShloMosaic Idealize.ShloMosaic.TcCoe Idealize.SL.Sem

/-- The reference runs, keeps its arguments and declares no semaphore. -/
theorem frame_reference : Cert.quiescent_ReferenceMfIdeal := fun m g _ =>
  (θ_run Cert.ReferenceMfIdeal.defs _ _).mono (fun r h => ⟨fun c => (h c).2, sem_eq_zero_of_no_sems (by decide) r.2⟩)
    (Cert.ReferenceMfIdeal.Value.run m g)

/-- The named constant stands for the root of one half. -/
theorem preserves : Cert.preserves_KernelMf_KernelMfIdeal :=
  IdealRules.named_const.statement Cert.KernelMfIdeal.κ "inv_sqrt2" .f32 0x3F3504F3#32 (((Real.sqrt 2)⁻¹ : ℝ) : EReal) rfl

end Cert.Mf

end
-- ==== Proof.Mf.Spec.lean ====
/- What the mixers' forward call leaves, and what one block of columns computes of it. -/
module

public import proofs.«01_k».proof.Proof.Mx.GateBlocks
public import proofs.«01_k».proof.Proof.Mx.ConvValue
public import proofs.«01_k».proof.Proof.Gen.KernelMfIdeal.Skeleton

@[expose] public section

set_option maxRecDepth 16384

noncomputable section

namespace Cert.Mf

open Cert.KernelMfIdeal Cert.KernelMfIdeal.Gen
open Idealize.ShloMosaic Idealize.ShloMosaic.TcCoe Idealize.ShloMosaic.Tactic
open Cert.Mx.Spec

/-- The gated convolution. -/
def conv (I : Inp) (r k : ℕ) : EReal := (I.P r (384 + k) : EReal) * yc I r k
/-- The pooled columns under their scales, which may be infinite. -/
def pool (I : Inp) (S : ℕ → EReal) (r k : ℕ) : EReal := (pmix I r k : EReal) * S k
/-- The rows of a chunk mixed by a head's matrix. -/
def mixSum (I : Inp) (r k : ℕ) : ℝ := ∑ s ∈ Finset.range 128, wm I (k / 64) (r % 128) s * vh I (128 * (r / 128) + s) k
/-- The spatial gate, its biases possibly infinite. -/
def gate (I : Inp) (B : ℕ → ℕ → EReal) (r k : ℕ) : EReal := (gu I r k : EReal) * ((mixSum I r k : EReal) + B (k / 64) (r % 128))
/-- The three results side by side. -/
def all (I : Inp) (S : ℕ → EReal) (B : ℕ → ℕ → EReal) (r k : ℕ) : EReal :=
  if k < 384 then conv I r k else if k < 640 then pool I S r (k - 384) else gate I B r (k - 640)

theorem pay1_eq (x0 x1 x2 : Vec Ideal S2048x128 .f32) (x3 : Vec Ideal S1x3x128 .f32) :
    k0_pay1 x2 x0 x3 x1 = truncf .bf16 (mulf x1 (Cert.KernelMxIdeal.Gen.k0_pay11 x0 x2 x3)) bitsLt_bf16_f32 := rfl

section Conv

variable (I : Inp) (q : ℕ) (x0 x1 x2 : Vec Ideal S2048x128 .f32) (x3 : Vec Ideal S1x3x128 .f32)
  (h0 : ∀ (r : Fin 2048) (l : Fin 128), x0 (ix2 r l) = ((I.P r.val (128 * q + l.val) : ℝ) : EReal))
  (h1 : ∀ (r : Fin 2048) (l : Fin 128), x1 (ix2 r l) = ((I.P r.val (384 + (128 * q + l.val)) : ℝ) : EReal))
  (h2 : ∀ (r : Fin 2048) (l : Fin 128), x2 (ix2 r l) = ((I.P r.val (768 + (128 * q + l.val)) : ℝ) : EReal))
  (h3 : ∀ (t : Fin 3) (l : Fin 128), x3 (ix3 (0 : Fin 1) t l) = I.WC t.val (128 * q + l.val))

include h0 h1 h2 h3 in
/-- A block of the convolution. -/
theorem conv_val (r : Fin 2048) (l : Fin 128) : k0_pay1 x2 x0 x3 x1 (ix2 r l) = conv I r.val (128 * q + l.val) := by
  have e := Cert.Mx.yc_val I q x0 x2 x3 h0 h2 h3 r l
  rw [pay1_eq]
  generalize Cert.KernelMxIdeal.Gen.k0_pay11 (F := Ideal) x0 x2 x3 = z at e
  pointwise
  rw [e, h1]; rfl

end Conv

/-- The product of a block with the block's matrix, under the scales. -/
def poolEnd (z : FVec Ideal S2048x128 .bf16) (x4 : Vec Ideal S1x1x128x128 .f32) (x5 : Vec Ideal S1x1x128 .f32) : FVec Ideal S2048x128 .bf16 :=
  truncf .bf16 (mulf (matmul dot_S2048x128_S128x128_S2048x128_1_0_0_1_n_n none z (truncf .bf16 (shapeCast S128x128 x4 shapeCasts_S1x1x128x128_S128x128) bitsLt_bf16_f32)
    (constant S2048x128 .f32 0x00000000#32)) (broadcastTo S2048x128 (shapeCast S1x128 x5 shapeCasts_S1x1x128_S1x128) broadcasts_S1x128_S2048x128)) bitsLt_bf16_f32

theorem pay2_eq (a : BitVec 32) (x0 : Vec Ideal S2048x128 .f32) (x4 : Vec Ideal S1x1x128x128 .f32) (x5 : Vec Ideal S1x1x128 .f32) :
    k0_pay2 x0 (Scalar.cmpi .eq a 3#32) k0_pay5 (k0_pay6 a) (k0_pay7 x0) (k0_pay8 x0) (k0_pay9 x0) (k0_pay10 x0) x4 x5
      = poolEnd (truncf .bf16 (subf (divf (Cert.Mx.pick (Scalar.cmpi .eq a 3#32) (Cert.Mx.down 1#32 x0) (Cert.Mx.down 2#32 (Cert.Mx.down 1#32 x0))
          (Cert.Mx.down 4#32 (Cert.Mx.down 2#32 (Cert.Mx.down 1#32 x0))) (Cert.Mx.down 8#32 (Cert.Mx.down 4#32 (Cert.Mx.down 2#32 (Cert.Mx.down 1#32 x0)))))
          (Cert.KernelMxIdeal.Gen.k0_pay32 (k0_pay6 a))) x0) bitsLt_bf16_f32) x4 x5 := rfl

theorem cnt_eq (q : ℕ) (hq : q < 2) : (k0_pay6 (F := Ideal) (BitVec.ofNat 32 (3 + q))) = Cert.KernelMxIdeal.Gen.k0_pay26 (BitVec.ofNat 32 (9 + q)) := by
  have hc : q = 0 ∨ q = 1 := by omega
  rcases hc with rfl | rfl <;> rfl
theorem pt_eq (q : ℕ) (hq : q < 2) : Scalar.cmpi .eq (BitVec.ofNat 32 (3 + q)) 3#32 = Scalar.cmpi .eq (BitVec.ofNat 32 (9 + q)) 9#32 := by
  have hc : q = 0 ∨ q = 1 := by omega
  rcases hc with rfl | rfl <;> rfl

section Pool

variable (I : Inp) (S : ℕ → EReal) (q : ℕ) (hq : q < 2) (x0 : Vec Ideal S2048x128 .f32) (x4 : Vec Ideal S1x1x128x128 .f32) (x5 : Vec Ideal S1x1x128 .f32)
  (h0 : ∀ (r : Fin 2048) (l : Fin 128), x0 (ix2 r l) = ((I.P r.val (1152 + (128 * q + l.val)) : ℝ) : EReal))
  (h4 : ∀ c e : Fin 128, x4 (ix4 (0 : Fin 1) (0 : Fin 1) c e) = (((if c.val / 64 = e.val / 64 then I.WP (2 * q + c.val / 64) (c.val % 64) (e.val % 64) else 0 : ℝ)) : EReal))
  (h5 : ∀ l : Fin 128, x5 (ix3 (0 : Fin 1) (0 : Fin 1) l) = S (128 * q + l.val))

include h4 h5 in
theorem poolEnd_val (z : FVec Ideal S2048x128 .bf16) (hd : ∀ (r : Fin 2048) (l : Fin 128), z (ix2 r l) = ((dev I r.val (128 * q + l.val) : ℝ) : EReal))
    (r : Fin 2048) (l : Fin 128) : poolEnd z x4 x5 (ix2 r l) = pool I S r.val (128 * q + l.val) := by
  have hl := l.isLt
  pointwise [poolEnd]
  simp only [hd, h4, h5, ← EReal.coe_mul, Cert.Common.coe_sum]
  unfold pool
  congr 2
  unfold pmix
  rw [show (128 * q + l.val) / 64 = 2 * q + l.val / 64 by omega, show (128 * q + l.val) % 64 = l.val % 64 by omega,
    ← Cert.Mx.sum_block (l.val / 64) (by omega) q (fun c k => dev I r.val k * I.WP (2 * q + l.val / 64) c (l.val % 64))]
  refine Finset.sum_congr rfl fun k _ => ?_
  by_cases h : l.val / 64 = k.val / 64
  · rw [if_pos h, if_pos h.symm, h]
  · rw [if_neg h, if_neg (fun h' => h h'.symm), mul_zero]

include hq h0 h4 h5 in
/-- A block of the pooling. -/
theorem pool_val (i : Cert.KernelMxIdeal.grid0.Coords) (hi : (i 0).val = 9 + q) (r : Fin 2048) (l : Fin 128) :
    k0_pay2 x0 (Scalar.cmpi .eq (BitVec.ofNat 32 (3 + q)) 3#32) k0_pay5 (k0_pay6 (BitVec.ofNat 32 (3 + q))) (k0_pay7 x0) (k0_pay8 x0) (k0_pay9 x0) (k0_pay10 x0) x4 x5 (ix2 r l)
      = pool I S r.val (128 * q + l.val) := by
  have hd := Cert.Mx.dev_val I q hq i hi x0 h0
  rw [hi, Cert.Mx.pay34_eq] at hd
  rw [pay2_eq, cnt_eq q hq, pt_eq q hq]
  exact poolEnd_val I S q x4 x5 h4 h5 _ hd r l

end Pool

section Chunk

theorem pay11_val (x : Vec Ideal S128x128 .f32) (f : ℕ → ℕ → ℝ) (h : ∀ r l : Fin 128, x (ix2 r l) = ((f r.val l.val : ℝ) : EReal)) (r l : Fin 128) :
    k0_pay11 x (ix2 r l) = ((gelu (f r.val l.val) : ℝ) : EReal) := by
  pointwise [k0_pay11]
  rw [h]
  exact Cert.Mx.gelu_form (f r.val l.val)

theorem pay12_eq (b : Vec Ideal S128x128 .f32) : k0_pay12 k0_pay3 b = Cert.KernelMxIdeal.Gen.k0_pay42 Cert.KernelMxIdeal.Gen.k0_pay59 b := rfl

/-- The chunk's normalised rows mixed by the two stacked matrices, the half chosen by the lane, under bias and gate. -/
def mixEnd (w : FVec Ideal S256x128 .bf16) (v : FVec Ideal S128x128 .f32) (x8 : Vec Ideal S1x1x128x128 .f32) (g : FVec Ideal S128x128 .f32) : FVec Ideal S128x128 .bf16 :=
  have p : FVec Ideal S256x128 .f32 := matmul dot_S256x128_S128x128_S256x128_1_0_0_1_n_n none w (truncf .bf16 v bitsLt_bf16_f32) (constant S256x128 .f32 0x00000000#32)
  truncf .bf16 (mulf g (addf (select k0_pay3 (extractStridedSlice S128x128 ![0, 0] p slices_S256x128_o0_0_S128x128) (extractStridedSlice S128x128 ![128, 0] p slices_S256x128_o128_0_S128x128))
    (shapeCast S128x128 x8 shapeCasts_S1x1x128x128_S128x128))) bitsLt_bf16_f32

theorem pay4_eq (a b : Vec Ideal S128x128 .f32) (x6 : Vec Ideal S1x1x128 .f32) (x7 : Vec Ideal S1x1x256x128 .f32) (x8 : Vec Ideal S1x1x128x128 .f32) :
    k0_pay4 x7 x8 x6 (k0_pay11 a) (k0_pay12 k0_pay3 b) (k0_pay13 k0_pay3 b) (k0_pay14 k0_pay3 b)
      = mixEnd (Cert.KernelMxIdeal.Gen.k0_pay61 x7) (Cert.KernelMxIdeal.Gen.k0_pay47 Cert.KernelMxIdeal.Gen.k0_pay59 (Cert.KernelMxIdeal.Gen.k0_pay63 x6)
          (Cert.KernelMxIdeal.Gen.k0_pay42 Cert.KernelMxIdeal.Gen.k0_pay59 b) (Cert.KernelMxIdeal.Gen.k0_pay43 Cert.KernelMxIdeal.Gen.k0_pay59 b) (Cert.KernelMxIdeal.Gen.k0_pay44 Cert.KernelMxIdeal.Gen.k0_pay59 b)) x8 (k0_pay11 a) := rfl

variable (I : Inp) (B : ℕ → ℕ → EReal) (n q : ℕ) (a b : Vec Ideal S128x128 .f32) (x6 : Vec Ideal S1x1x128 .f32) (x7 : Vec Ideal S1x1x256x128 .f32) (x8 : Vec Ideal S1x1x128x128 .f32)
  (ha : ∀ r l : Fin 128, a (ix2 r l) = ((I.P (128 * n + r.val) (1408 + (128 * q + l.val)) : ℝ) : EReal))
  (hb : ∀ r l : Fin 128, b (ix2 r l) = ((I.P (128 * n + r.val) (1792 + (128 * q + l.val)) : ℝ) : EReal))
  (h6 : ∀ l : Fin 128, x6 (ix3 (0 : Fin 1) (0 : Fin 1) l) = ((I.G (128 * q + l.val) : ℝ) : EReal))
  (h7 : ∀ (t : Fin 256) (s : Fin 128), x7 (ix4 (0 : Fin 1) (0 : Fin 1) t s) = ((I.WS (2 * q + t.val / 128) (t.val % 128) s.val : ℝ) : EReal))
  (h8 : ∀ t l : Fin 128, x8 (ix4 (0 : Fin 1) (0 : Fin 1) t l) = B (2 * q + l.val / 64) t.val)

include ha hb h6 h7 h8 in
/-- A chunk of the gate. -/
theorem chunk_val (r l : Fin 128) : k0_pay4 x7 x8 x6 (k0_pay11 a) (k0_pay12 k0_pay3 b) (k0_pay13 k0_pay3 b) (k0_pay14 k0_pay3 b) (ix2 r l)
    = gate I B (128 * n + r.val) (128 * q + l.val) := by
  have hv := Cert.Mx.vh_val I n q b x6 hb h6
  have hw := Cert.Mx.wm_val I q x7 h7
  have hg := pay11_val a (fun r l => I.P (128 * n + r) (1408 + (128 * q + l))) ha
  have hr := r.isLt
  have hl := l.isLt
  rw [pay4_eq]
  generalize Cert.KernelMxIdeal.Gen.k0_pay47 (F := Ideal) _ _ _ _ _ = z at hv
  generalize Cert.KernelMxIdeal.Gen.k0_pay61 (F := Ideal) x7 = w at hw
  generalize k0_pay11 (F := Ideal) a = g at hg
  pointwise [mixEnd, k0_pay3]
  simp only [hg, h8, hv, hw, ← EReal.coe_mul, Cert.Common.coe_sum]
  rw [Cert.Mx.sel_lane _ l.isLt, ← apply_ite (fun x : ℝ => (x : EReal)), ← Cert.Mx.mix_val I n q b x6 x7 hb h6 h7 l r]
  unfold gate mixSum gu
  rw [show (128 * n + r.val) % 128 = r.val by omega, show (128 * n + r.val) / 128 = n by omega, show (128 * q + l.val) / 64 = 2 * q + l.val / 64 by omega]

end Chunk

end Cert.Mf

end
-- ==== Proof.Mf.Inputs.lean ====
/- What the windows of the mixers' forward call show of the program's arguments. -/
module

public import proofs.«01_k».proof.Proof.Mf.Spec
public import proofs.«01_k».proof.Proof.Mx.Inputs
public import proofs.«01_k».proof.Proof.Gen.KernelMfIdeal.Value
public import Idealize.ShloMosaic.Lib.Pipeline.ValueKit

@[expose] public section

set_option maxRecDepth 16384

noncomputable section

namespace Cert.Mf

open Cert.KernelMfIdeal Cert.KernelMfIdeal.Gen
open Idealize.ShloMosaic Idealize.ShloMosaic.TcCoe Idealize.ShloMosaic.Tactic Idealize.SL.Sem
open Idealize.ShloMosaic.Pipeline (Dat)
open Cert.Mx.Spec

/-- The arguments in the formulas' values: the pooling's scales and the gate's biases may be infinite. -/
structure Args (I : Inp) (S : ℕ → EReal) (B : ℕ → ℕ → EReal) (x0 : FVec Ideal S2048x2176 .f32) (x1 : FVec Ideal S1x3x384 .f32) (x2 : FVec Ideal S1x4x64x64 .f32)
    (x3 : FVec Ideal S1x256 .f32) (x4 : FVec Ideal S1x384 .f32) (x5 : FVec Ideal S1x6x128x128 .f32) (x6 : FVec Ideal S1x6x128 .f32) : Prop where
  h0 : ∀ y, x0 y = (I.P (y 0).val (y 1).val : EReal)
  h1 : ∀ y, x1 y = I.WC (y 1).val (y 2).val
  h2 : ∀ y, x2 y = (I.WP (y 1).val (y 2).val (y 3).val : EReal)
  h3 : ∀ y, x3 y = S (y 1).val
  h4 : ∀ y, x4 y = (I.G (y 1).val : EReal)
  h5 : ∀ y, x5 y = (I.WS (y 1).val (y 2).val (y 3).val : EReal)
  h6 : ∀ y, x6 y = B (y 1).val (y 2).val

variable (m : (ℓ : Loc nD τ sig) → Buf (Elt Ideal) ℓ) (c : Dev nD)

/-- The arrays as the program finds them, in the formulas' values. -/
abbrev Start (I : Inp) (S : ℕ → EReal) (B : ℕ → ℕ → EReal) : Prop :=
  Args I S B (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- The blocks that the windows show: at the convolution's points, the pooling's and the gate's. -/
theorem idxA : ∀ t : Fin cfg0.N, t.val < 3 → win0_0.index t = ![0, t.val] ∧ win0_1.index t = ![0, t.val + 3] ∧ win0_2.index t = ![0, t.val + 6]
    ∧ win0_3.index t = ![0, 0, t.val] :=
  (by decide +kernel : ∀ t : Fin grid0.N, _)
theorem idxB : ∀ t : Fin cfg0.N, 3 ≤ t.val → t.val < 5 → win0_0.index t = ![0, t.val + 6] ∧ win0_4.index t = ![0, t.val - 3, 0, 0] ∧ win0_5.index t = ![0, 0, t.val - 3] :=
  (by decide +kernel : ∀ t : Fin grid0.N, _)
theorem idxC : ∀ t : Fin cfg0.N, 5 ≤ t.val → win0_0.index t = ![0, t.val + 6] ∧ win0_1.index t = ![0, t.val + 9] ∧ win0_6.index t = ![0, 0, t.val - 5]
    ∧ win0_7.index t = ![0, t.val - 5, 0, 0] ∧ win0_8.index t = ![0, t.val - 5, 0, 0] :=
  (by decide +kernel : ∀ t : Fin grid0.N, _)
theorem idx9 : ∀ t : Fin cfg0.N, win0_9.index t = ![0, t.val] :=
  (by decide +kernel : ∀ t : Fin grid0.N, _)
theorem coords_val : ∀ t : Fin cfg0.N, (grid0.coords t 0).val = t.val :=
  (by decide +kernel : ∀ t : Fin grid0.N, _)

/-! ## The arrays that the host prepares -/

theorem V_v12 (g : Fin 2) (a b : Fin 128) : (V m c main_v12 : Vec Ideal S1x2x128x128 .f32) (ix4 0 g a b) = HMul.hMul (α := EReal) (β := EReal) (γ := EReal)
      ((m ((c : Thread nD τ).loc main_arg2) : Vec Ideal S1x4x64x64 .f32) (ix4 0 ⟨g.val * 2 + a.val / 64, by omega⟩ ⟨a.val % 64, by omega⟩ ⟨b.val % 64, by omega⟩))
      (FloatOps.uitofp FTy.f32 (IntOp.cmpi .eq (IntOp.addi (BitVec.ofNat 32 (a.val / 64)) 0#32) (BitVec.ofNat 32 (b.val / 64))) : Ideal .f32) := by
  show (StableHlo.after hostOps0 (fun b => m (c, b)) (Proc.devRef .tc main_v12) : FVec Ideal S1x2x128x128 .f32) _ = _
  after_results
  pointwise []
theorem V_v13 (g : Fin 3) (a : Fin 256) (b : Fin 128) : (V m c main_v13 : Vec Ideal S1x3x256x128 .f32) (ix4 0 g a b) = (m ((c : Thread nD τ).loc main_arg5) : Vec Ideal S1x6x128x128 .f32) (ix4 0 ⟨g.val * 2 + a.val / 128, by omega⟩ ⟨a.val % 128, by omega⟩ b) := by
  show (StableHlo.after hostOps0 (fun b => m (c, b)) (Proc.devRef .tc main_v13) : FVec Ideal S1x3x256x128 .f32) _ = _
  after_results
  pointwise []
theorem V_v17 (g : Fin 3) (a b : Fin 128) : (V m c main_v17 : Vec Ideal S1x3x128x128 .f32) (ix4 0 g a b) = (m ((c : Thread nD τ).loc main_arg6) : Vec Ideal S1x6x128 .f32) (ix3 0 ⟨g.val * 2 + b.val / 64, by omega⟩ a) := by
  show (StableHlo.after hostOps0 (fun b => m (c, b)) (Proc.devRef .tc main_v17) : FVec Ideal S1x3x128x128 .f32) _ = _
  after_results
  pointwise []
theorem V_v18 (l : Fin 256) : (V m c main_v18 : Vec Ideal S1x1x256 .f32) (ix3 0 0 l) = (m ((c : Thread nD τ).loc main_arg3) : Vec Ideal S1x256 .f32) (ix2 0 l) := by
  show (StableHlo.after hostOps0 (fun b => m (c, b)) (Proc.devRef .tc main_v18) : FVec Ideal S1x1x256 .f32) _ = _
  after_results
  pointwise []
theorem V_v19 (l : Fin 384) : (V m c main_v19 : Vec Ideal S1x1x384 .f32) (ix3 0 0 l) = (m ((c : Thread nD τ).loc main_arg4) : Vec Ideal S1x384 .f32) (ix2 0 l) := by
  show (StableHlo.after hostOps0 (fun b => m (c, b)) (Proc.devRef .tc main_v19) : FVec Ideal S1x1x384 .f32) _ = _
  after_results
  pointwise []

/-! ## The windows' blocks -/

variable {m c} {I : Inp} {S : ℕ → EReal} {B : ℕ → ℕ → EReal} (A : Start m c I S B) (t : Fin cfg0.N) (k : ℕ)
include A

theorem cols0 (hk : win0_0.index t = ![0, k]) (hb : k < 17) (s q : ℕ) (hs : 128 * k = s + 128 * q) (r : Fin 2048) (l : Fin 128) :
    (iblk m c 0 t : Vec Ideal S2048x128 .f32) (ix2 r l) = ((I.P r.val (s + (128 * q + l.val)) : ℝ) : EReal) := by
  rw [← Nat.add_assoc, ← hs]
  refine Eq.trans ?_ ((congrFun (V_main_arg0 m c) (ix2 r ⟨128 * k + l.val, by omega⟩)).trans (A.h0 _))
  blk_point [iblk, hk]
theorem cols1 (hk : win0_1.index t = ![0, k]) (hb : k < 17) (s q : ℕ) (hs : 128 * k = s + 128 * q) (r : Fin 2048) (l : Fin 128) :
    (iblk m c 1 t : Vec Ideal S2048x128 .f32) (ix2 r l) = ((I.P r.val (s + (128 * q + l.val)) : ℝ) : EReal) := by
  rw [← Nat.add_assoc, ← hs]
  refine Eq.trans ?_ ((congrFun (V_main_arg0 m c) (ix2 r ⟨128 * k + l.val, by omega⟩)).trans (A.h0 _))
  blk_point [iblk, hk]
theorem cols2 (hk : win0_2.index t = ![0, k]) (hb : k < 17) (s q : ℕ) (hs : 128 * k = s + 128 * q) (r : Fin 2048) (l : Fin 128) :
    (iblk m c 2 t : Vec Ideal S2048x128 .f32) (ix2 r l) = ((I.P r.val (s + (128 * q + l.val)) : ℝ) : EReal) := by
  rw [← Nat.add_assoc, ← hs]
  refine Eq.trans ?_ ((congrFun (V_main_arg0 m c) (ix2 r ⟨128 * k + l.val, by omega⟩)).trans (A.h0 _))
  blk_point [iblk, hk]
theorem taps (hk : win0_3.index t = ![0, 0, k]) (hb : k < 3) (r : Fin 3) (l : Fin 128) :
    (iblk m c 3 t : Vec Ideal S1x3x128 .f32) (ix3 0 r l) = I.WC r.val (128 * k + l.val) := by
  refine Eq.trans ?_ ((congrFun (V_main_arg1 m c) (ix3 0 r ⟨128 * k + l.val, by omega⟩)).trans (A.h1 _))
  blk_point [iblk, hk]
theorem mats (hk : win0_4.index t = ![0, k, 0, 0]) (hb : k < 2) (a b : Fin 128) :
    (iblk m c 4 t : Vec Ideal S1x1x128x128 .f32) (ix4 0 0 a b)
      = (((if a.val / 64 = b.val / 64 then I.WP (2 * k + a.val / 64) (a.val % 64) (b.val % 64) else 0 : ℝ)) : EReal) := by
  refine Eq.trans (b := (V m c main_v12 : Vec Ideal S1x2x128x128 .f32) (ix4 0 ⟨k, hb⟩ a b)) ?_ ?_
  · blk_point [iblk, hk]
  rw [V_v12, A.h2, Cert.Mx.same_half _ _ (by omega) (by omega), ← EReal.coe_mul]
  refine congrArg Real.toEReal ?_
  show I.WP (k * 2 + a.val / 64) (a.val % 64) (b.val % 64) * _ = _
  rw [Nat.mul_comm k 2]
  split <;> simp
theorem scales (hk : win0_5.index t = ![0, 0, k]) (hb : k < 2) (l : Fin 128) :
    (iblk m c 5 t : Vec Ideal S1x1x128 .f32) (ix3 0 0 l) = S (128 * k + l.val) := by
  refine Eq.trans ?_ ((V_v18 m c ⟨128 * k + l.val, by omega⟩).trans (A.h3 _))
  blk_point [iblk, hk]
theorem gains (hk : win0_6.index t = ![0, 0, k]) (hb : k < 3) (l : Fin 128) :
    (iblk m c 6 t : Vec Ideal S1x1x128 .f32) (ix3 0 0 l) = ((I.G (128 * k + l.val) : ℝ) : EReal) := by
  refine Eq.trans ?_ ((V_v19 m c ⟨128 * k + l.val, by omega⟩).trans (A.h4 _))
  blk_point [iblk, hk]
theorem heads (hk : win0_7.index t = ![0, k, 0, 0]) (hb : k < 3) (a : Fin 256) (b : Fin 128) :
    (iblk m c 7 t : Vec Ideal S1x1x256x128 .f32) (ix4 0 0 a b) = ((I.WS (2 * k + a.val / 128) (a.val % 128) b.val : ℝ) : EReal) := by
  rw [← Nat.mul_comm k 2]
  refine Eq.trans ?_ ((V_v13 m c ⟨k, hb⟩ a b).trans (A.h5 _))
  blk_point [iblk, hk]
theorem biases (hk : win0_8.index t = ![0, k, 0, 0]) (hb : k < 3) (a b : Fin 128) :
    (iblk m c 8 t : Vec Ideal S1x1x128x128 .f32) (ix4 0 0 a b) = B (2 * k + b.val / 64) a.val := by
  rw [← Nat.mul_comm k 2]
  refine Eq.trans ?_ ((V_v17 m c ⟨k, hb⟩ a b).trans (A.h6 _))
  blk_point [iblk, hk]

end Cert.Mf

end
-- ==== Proof.Mf.Kernel.lean ====
/- The mixers' forward call, block by block, and the whole array after it. -/
module

public import proofs.«01_k».proof.Proof.Mf.Inputs
public import Idealize.ShloMosaic.Lib.WholeRead

@[expose] public section

set_option maxRecDepth 16384

noncomputable section

namespace Cert.Mf

open Cert.KernelMfIdeal Cert.KernelMfIdeal.Gen
open Idealize.ShloMosaic Idealize.ShloMosaic.TcCoe Idealize.ShloMosaic.Tactic Idealize.SL.Sem
open Idealize.ShloMosaic.Pipeline (Dat)
open Cert.Mx.Spec

section Loop

/-- The rows that a trip of the loop works on. -/
theorem off_eq : ∀ k : Fin k0_t1_loop.trips, k0_off1 k = ![128 * k.val, 0] := by decide +kernel
theorem trips_eq : k0_t1_loop.trips = 16 := by decide +kernel

variable (𝒱 : Variants) (c : Dev nD) (bd : Option 𝒱.V) (i : grid0.Coords) (arg1 : Memref sig .tc .vmem S2048x128 .f32) (harg1 : arg1.IsWhole) (arg2 : Memref sig .tc .vmem S2048x128 .f32) (harg2 : arg2.IsWhole)
  (arg3 : Memref sig .tc .vmem S2048x128 .f32) (harg3 : arg3.IsWhole) (arg4 : Memref sig .tc .vmem S1x3x128 .f32) (harg4 : arg4.IsWhole) (arg5 : Memref sig .tc .vmem S1x1x128x128 .f32) (harg5 : arg5.IsWhole)
  (arg6 : Memref sig .tc .vmem S1x1x128 .f32) (harg6 : arg6.IsWhole) (arg7 : Memref sig .tc .vmem S1x1x128 .f32) (harg7 : arg7.IsWhole) (arg8 : Memref sig .tc .vmem S1x1x256x128 .f32) (harg8 : arg8.IsWhole)
  (arg9 : Memref sig .tc .vmem S1x1x128x128 .f32) (harg9 : arg9.IsWhole) (arg10 : Memref sig .tc .vmem S2048x128 .bf16) (harg10 : arg10.IsWhole) (h3 : k0_cond3 i = 1#1)
  (v19 : Vec Ideal S1x1x256x128 .f32) (v24 : Vec Ideal S1x1x128x128 .f32) (v26 : Vec Ideal S1x1x128 .f32) (x0 x1 : Vec Ideal S2048x128 .f32)
  (I : Inp) (B : ℕ → ℕ → EReal) (q : ℕ)
  (hx0 : ∀ (r : Fin 2048) (l : Fin 128), x0 (ix2 r l) = ((I.P r.val (1408 + (128 * q + l.val)) : ℝ) : EReal))
  (hx1 : ∀ (r : Fin 2048) (l : Fin 128), x1 (ix2 r l) = ((I.P r.val (1792 + (128 * q + l.val)) : ℝ) : EReal))

include hx0 hx1 in
/-- A trip stores the gate's rows of its chunk. -/
theorem trip_pieces (h6 : ∀ l : Fin 128, v26 (ix3 (0 : Fin 1) (0 : Fin 1) l) = ((I.G (128 * q + l.val) : ℝ) : EReal))
    (h7 : ∀ (t : Fin 256) (s : Fin 128), v19 (ix4 (0 : Fin 1) (0 : Fin 1) t s) = ((I.WS (2 * q + t.val / 128) (t.val % 128) s.val : ℝ) : EReal))
    (h8 : ∀ t l : Fin 128, v24 (ix4 (0 : Fin 1) (0 : Fin 1) t l) = B (2 * q + l.val / 64) t.val) (k : Fin k0_t1_loop.trips) :
    ∀ p ∈ tripL_k0_t1 (F := Ideal) 𝒱 c bd i arg1 harg1 arg2 harg2 arg3 harg3 arg4 harg4 arg5 harg5 arg6 harg6 arg7 harg7 arg8 harg8 arg9 harg9 arg10 harg10 h3 v19 v24 v26 (harg1.unread x0) (harg2.unread x1) k,
      ∀ x, p.2 x = (fun y : S2048x128.Idx => gate I B (y 0).val (128 * q + (y 1).val)) (p.1.emb x) := by
  have hk : k.val < 16 := lt_of_lt_of_eq k.isLt trips_eq
  have o0 : k0_off1 k 0 = 128 * k.val := congrFun (off_eq k) 0
  have o1 : k0_off1 k 1 = 0 := congrFun (off_eq k) 1
  unfold tripL_k0_t1 trip_k0_t1
  dsimp only
  intro p hp x
  obtain rfl := List.mem_singleton.1 hp
  refine (congrArg _ (eq_ix2 (x : S128x128.Idx))).trans ?_
  refine (chunk_val I B k.val q (View.readAt (Elt Ideal) arg1.view (Rect.unit (s := S2048x128) (k0_off1 k) S128x128.size (k0_off1_inb i k h3)).toLoadRect (harg1.unread x0))
    (View.readAt (Elt Ideal) arg2.view (Rect.unit (s := S2048x128) (k0_off1 k) S128x128.size (k0_off1_inb i k h3)).toLoadRect (harg2.unread x1)) v26 v19 v24 ?_ ?_ h6 h7 h8 (x 0) (x 1)).trans ?_
  · intro r l
    rw [harg1.readAt_unread]
    refine (congrArg x0 (eq_ix2 _)).trans ((hx0 _ _).trans ?_)
    show ((I.P (k0_off1 k 0 + 1 * r.val) (1408 + (128 * q + (k0_off1 k 1 + 1 * l.val))) : ℝ) : EReal) = _
    rw [o0, o1, Nat.zero_add, Nat.one_mul, Nat.one_mul]
  · intro r l
    rw [harg2.readAt_unread]
    refine (congrArg x1 (eq_ix2 _)).trans ((hx1 _ _).trans ?_)
    show ((I.P (k0_off1 k 0 + 1 * r.val) (1792 + (128 * q + (k0_off1 k 1 + 1 * l.val))) : ℝ) : EReal) = _
    rw [o0, o1, Nat.zero_add, Nat.one_mul, Nat.one_mul]
  · show _ = gate I B (k0_off1 k 0 + 1 * (x 0).val) (128 * q + (k0_off1 k 1 + 1 * (x 1).val))
    rw [o0, o1, Nat.zero_add, Nat.one_mul, Nat.one_mul]

include hx0 hx1 in
theorem loop_pieces (h6 : ∀ l : Fin 128, v26 (ix3 (0 : Fin 1) (0 : Fin 1) l) = ((I.G (128 * q + l.val) : ℝ) : EReal))
    (h7 : ∀ (t : Fin 256) (s : Fin 128), v19 (ix4 (0 : Fin 1) (0 : Fin 1) t s) = ((I.WS (2 * q + t.val / 128) (t.val % 128) s.val : ℝ) : EReal))
    (h8 : ∀ t l : Fin 128, v24 (ix4 (0 : Fin 1) (0 : Fin 1) t l) = B (2 * q + l.val / 64) t.val) :
    ∀ n : ℕ, n ≤ k0_t1_loop.trips → ∀ p ∈ pb_k0_t1 (F := Ideal) 𝒱 c bd i arg1 harg1 arg2 harg2 arg3 harg3 arg4 harg4 arg5 harg5 arg6 harg6 arg7 harg7 arg8 harg8 arg9 harg9 arg10 harg10 h3 v19 v24 v26 (harg1.unread x0) (harg2.unread x1) n,
      ∀ x, p.2 x = (fun y : S2048x128.Idx => gate I B (y 0).val (128 * q + (y 1).val)) (p.1.emb x)
  | 0, _, p, hp, _ => absurd hp List.not_mem_nil
  | n + 1, hn, p, hp, x => by
    rw [pb_k0_t1_succ (k := ⟨n, hn⟩)] at hp
    rcases List.mem_append.1 hp with h | h
    · exact trip_pieces 𝒱 c bd i arg1 harg1 arg2 harg2 arg3 harg3 arg4 harg4 arg5 harg5 arg6 harg6 arg7 harg7 arg8 harg8 arg9 harg9 arg10 harg10 h3 v19 v24 v26 x0 x1 I B q hx0 hx1 h6 h7 h8 _ p h x
    · exact loop_pieces h6 h7 h8 n (Nat.le_of_succ_le hn) p h x

include hx0 hx1 in
/-- The loop leaves the gate's block. -/
theorem run_val (hc0 : ¬cond0_0 i) (hc1 : ¬cond0_1 i) (hc2 : cond0_2 i) (x2 : Vec Ideal S2048x128 .f32) (x3 : Vec Ideal S1x3x128 .f32) (x4 : Vec Ideal S1x1x128x128 .f32)
    (x5 x6 : Vec Ideal S1x1x128 .f32) (x7 : Vec Ideal S1x1x256x128 .f32) (x8 : Vec Ideal S1x1x128x128 .f32)
    (h6 : ∀ l : Fin 128, x6 (ix3 (0 : Fin 1) (0 : Fin 1) l) = ((I.G (128 * q + l.val) : ℝ) : EReal))
    (h7 : ∀ (t : Fin 256) (s : Fin 128), x7 (ix4 (0 : Fin 1) (0 : Fin 1) t s) = ((I.WS (2 * q + t.val / 128) (t.val % 128) s.val : ℝ) : EReal))
    (h8 : ∀ t l : Fin 128, x8 (ix4 (0 : Fin 1) (0 : Fin 1) t l) = B (2 * q + l.val / 64) t.val) (y : S2048x128.Idx) :
    out0_C_9 (F := Ideal) c i arg1 harg1 arg2 harg2 arg3 harg3 arg4 harg4 arg5 harg5 arg6 harg6 arg7 harg7 arg8 harg8 arg9 harg9 arg10 harg10 hc0 hc1 hc2 x0 x1 x2 x3 x4 x5 x6 x7 x8 y
      = gate I B (y 0).val (128 * q + (y 1).val) := by
  refine View.read_writes_apply_of_pieces VO0_9 _ (fun y : S2048x128.Idx => gate I B (y 0).val (128 * q + (y 1).val)) _ ?_ y
    (cover0_C_9 c i arg1 harg1 arg2 harg2 arg3 harg3 arg4 harg4 arg5 harg5 arg6 harg6 arg7 harg7 arg8 harg8 arg9 harg9 arg10 harg10 hc0 hc1 hc2 x0 x1 x2 x3 x4 x5 x6 x7 x8 y)
  unfold kernelRun0_C
  dsimp only
  refine loop_pieces _ c _ i arg1 harg1 arg2 harg2 arg3 harg3 arg4 harg4 arg5 harg5 arg6 harg6 arg7 harg7 arg8 harg8 arg9 harg9 arg10 harg10 hc2 _ _ _ x0 x1 I B q hx0 hx1 ?_ ?_ ?_ _ le_rfl
  · intro l
    rw [harg7.readAt_unread]
    refine Eq.trans (congrArg x6 ?_) (h6 l)
    funext a; apply Fin.ext
    match a with
    | ⟨0, _⟩ => rfl
    | ⟨1, _⟩ => rfl
    | ⟨2, _⟩ => show 0 + 1 * l.val = l.val; omega
  · intro t s
    rw [harg8.readAt_unread]
    refine Eq.trans (congrArg x7 ?_) (h7 t s)
    funext a; apply Fin.ext
    match a with
    | ⟨0, _⟩ => rfl
    | ⟨1, _⟩ => rfl
    | ⟨2, _⟩ => show 0 + 1 * t.val = t.val; omega
    | ⟨3, _⟩ => show 0 + 1 * s.val = s.val; omega
  · intro t l
    rw [harg9.readAt_unread]
    refine Eq.trans (congrArg x8 ?_) (h8 t l)
    funext a; apply Fin.ext
    match a with
    | ⟨0, _⟩ => rfl
    | ⟨1, _⟩ => rfl
    | ⟨2, _⟩ => show 0 + 1 * t.val = t.val; omega
    | ⟨3, _⟩ => show 0 + 1 * l.val = l.val; omega

end Loop

theorem pool_coords : ∀ t : Fin Cert.KernelMxIdeal.grid0.N, (Cert.KernelMxIdeal.grid0.coords t 0).val = t.val := by decide +kernel

variable {m : (ℓ : Loc nD τ sig) → Buf (Elt Ideal) ℓ} {c : Dev nD} {I : Inp} {S : ℕ → EReal} {B : ℕ → ℕ → EReal} (A : Start m c I S B)
include A

/-- What the block of each point holds after it. -/
theorem point (t : Fin cfg0.N) (r : Fin 2048) (l : Fin 128) : outsAt0 m c t.val t.isLt (ix2 r l) = all I S B r.val (128 * t.val + l.val) := by
  have ht : t.val < 8 := t.isLt
  have hl := l.isLt
  unfold all
  by_cases hA : t.val < 3
  · obtain ⟨i0, i1, i2, i3⟩ := idxA t hA
    rw [outsAt0_A m c t hA (by omega) (by omega), if_pos (by omega)]
    frame_out
    exact conv_val I t.val _ _ _ _ (fun r l => (cols0 A t _ i0 (by omega) 0 t.val (by omega) r l).trans (by rw [Nat.zero_add])) (cols1 A t _ i1 (by omega) 384 t.val (by omega))
      (cols2 A t _ i2 (by omega) 768 t.val (by omega)) (taps A t _ i3 hA) r l
  rw [if_neg (by omega)]
  by_cases hB : t.val < 5
  · obtain ⟨i0, i4, i5⟩ := idxB t (by omega) hB
    rw [outsAt0_B m c t hA (by omega) (by omega), if_pos (by omega)]
    frame_out
    rw [coords_val t]
    have e : t.val = 3 + (t.val - 3) := by omega
    have p := pool_val I S (t.val - 3) (by omega) _ _ _ (cols0 A t _ i0 (by omega) 1152 (t.val - 3) (by omega)) (mats A t _ i4 (by omega)) (scales A t _ i5 (by omega))
      (Cert.KernelMxIdeal.grid0.coords ⟨t.val + 6, by show _ < 17; omega⟩) (by rw [pool_coords]; show t.val + 6 = 9 + (t.val - 3); omega) r l
    rw [← e] at p
    exact p.trans (congrArg (pool I S r.val) (by omega))
  · obtain ⟨i0, i1, i6, i7, i8⟩ := idxC t (by omega)
    rw [outsAt0_C m c t hA (by omega) (by omega), if_neg (by omega)]
    refine (run_val c _ _ _ _ _ _ _ _ _ _ _ _ _ _ _ _ _ _ _ _ _ (iblk m c 0 t) (iblk m c 1 t) I B (t.val - 5) (cols0 A t _ i0 (by omega) 1408 (t.val - 5) (by omega))
      (cols1 A t _ i1 (by omega) 1792 (t.val - 5) (by omega)) _ _ _ _ _ _ _ _ _ _ (gains A t _ i6 (by omega)) (heads A t _ i7 (by omega)) (biases A t _ i8 (by omega)) _).trans ?_
    show gate I B r.val (128 * (t.val - 5) + l.val) = _
    exact congrArg (gate I B r.val) (by omega)

/-- The whole array after the call. -/
theorem final : (dats m 0 c).arrAt 9 cfg0.N = fun y : S2048x1024.Idx => all I S B (y 0).val (y 1).val := by
  refine (dats m 0 c).arrAt_eq_of_covers 9 _ (by decide +kernel) fun t _ y => ?_
  blk_simp
  rw [after0_9]
  have e0 : win0_9.index t 0 = 0 := congrFun (idx9 t) 0
  have e1 : win0_9.index t 1 = t.val := congrFun (idx9 t) 1
  refine (congrArg _ (eq_ix2 (y : S2048x128.Idx))).trans ((point A t _ _).trans ?_)
  exact congrArg₂ (all I S B) (by rw [e0]; omega) (by rw [e1]; omega)

end Cert.Mf

end
-- ==== Proof.Mf.Reference.lean ====
/- What the reference of the mixers' forward call leaves. -/
module

public import proofs.«01_k».proof.Proof.Mf.Spec
public import proofs.«01_k».proof.Proof.Mx.RefConv
public import proofs.«01_k».proof.Proof.Mx.RefGate
public import proofs.«01_k».proof.Proof.Mx.RefPool
public import proofs.«01_k».proof.Proof.Gen.ReferenceMfIdeal.Read

@[expose] public section

set_option maxRecDepth 16384

noncomputable section

namespace Cert.Mf.Ref

open Cert.ReferenceMfIdeal Cert.ReferenceMfIdeal.Gen Cert.ReferenceMfIdeal.Read
open Idealize.ShloMosaic Idealize.ShloMosaic.TcCoe Idealize.ShloMosaic.Tactic
open Cert.Mx.Spec

section Same

variable (x0 : FVec Ideal S2048x2176 .f32) (x1 : FVec Ideal S1x3x384 .f32) (x2 : FVec Ideal S1x4x64x64 .f32) (x4 : FVec Ideal S1x384 .f32) (x5 : FVec Ideal S1x6x128x128 .f32)

/-! The parts whose gradients the mixers' backward call takes are computed by the same operations there. -/

theorem v1_eq : val_main_v1 (F := Ideal) x0 = Cert.ReferenceMxIdeal.Read.val_main_v7 x0 := rfl
theorem v26_eq : val_main_v26 (F := Ideal) x0 x1 = Cert.ReferenceMxIdeal.Read.val_main_v34 x0 x1 := rfl
theorem v92_eq : val_main_v92 (F := Ideal) x0 x2 = Cert.ReferenceMxIdeal.Read.val_main_v101 x0 x2 := rfl
theorem v109_eq : val_main_v109 (F := Ideal) x0 = Cert.ReferenceMxIdeal.Read.val_main_v123 x0 := rfl
theorem v140_eq : val_main_v140 (F := Ideal) x0 x4 x5 = Cert.ReferenceMxIdeal.Read.val_main_v159 x0 x4 x5 := rfl

end Same

variable {I : Inp} {S : ℕ → EReal} {B : ℕ → ℕ → EReal} {x0 x1 x2 x3 x4 x5 x6} {z3 z6 z7}
  (A : Cert.Mx.Ref.Reads I x0 x1 x2 z3 x4 x5 z6 z7)
  (hS : ∀ y : S1x256.Idx, (x3 : FVec Ideal S1x256 .f32) y = S (y 1).val) (hB : ∀ y : S1x6x128.Idx, (x6 : FVec Ideal S1x6x128 .f32) y = B (y 1).val (y 2).val)

include A in
theorem v148_val (y : S2048x384.Idx) : val_main_v148 (F := Ideal) x0 x1 y = conv I (y 0).val (y 1).val := by
  show val_main_v27 (F := Ideal) x0 x1 y = _
  rw [val_main_v27_apply, v1_eq, v26_eq, Cert.Mx.Ref.v7_val A, Cert.Mx.Ref.v34_val A, Ideal.mulf_def]
  rfl

include A hS in
theorem v149_val (y : S2048x256.Idx) : val_main_v149 (F := Ideal) x0 x2 x3 y = pool I S (y 0).val (y 1).val := by
  have h1 : (y 1).val < 256 := (y 1).isLt
  show val_main_v95 (F := Ideal) x0 x2 x3 y = _
  rw [val_main_v95_apply, v92_eq, Cert.Mx.Ref.v101_val A, val_main_v94_apply, val_main_v93_apply, val_main_v30_apply, hS, Ideal.mulf_def]
  exact congrArg (fun n => (pmix I (y 0).val (y 1).val : EReal) * S n) (Nat.mod_eq_of_lt h1)

include hB in
theorem v144_val (y : S16x128x6x64.Idx) : val_main_v144 (F := Ideal) x6 y = B (y 2).val (y 1).val := by
  have h1 : (y 1).val < 128 := (y 1).isLt
  have h2 : (y 2).val < 6 := (y 2).isLt
  rw [val_main_v144_apply, val_main_v143_apply, val_main_v142_apply, val_main_v99_apply, hB]
  exact congrArg₂ B (show ((y 2).val * 128 + (y 1).val) / 128 % 6 = (y 2).val by omega) (show ((y 2).val * 128 + (y 1).val) % 128 = (y 1).val by omega)

theorem mixSum_eq (a b c d r k : ℕ) (ha : a = k / 64) (hb : b = r % 128) (hc : c = r / 128) (hd : 64 * a + d = k) :
    (((∑ s ∈ Finset.range 128, wm I a b s * vh I (128 * c + s) (64 * a + d) : ℝ) : EReal) + B a b) = (mixSum I r k : EReal) + B (k / 64) (r % 128) := by
  rw [hd, ha, hb, hc]
  rfl

include A hB in
theorem v150_val (y : S2048x384.Idx) : val_main_v150 (F := Ideal) x0 x4 x5 x6 y = gate I B (y 0).val (y 1).val := by
  have h1 : (y 1).val < 384 := (y 1).isLt
  show val_main_v147 (F := Ideal) x0 x4 x5 x6 y = _
  rw [val_main_v147_apply, v109_eq, Cert.Mx.Ref.v123_val I x0 A.hp, val_main_v146_apply, val_main_v145_apply, val_main_v141_apply, v140_eq, Cert.Mx.Ref.v159_val A, v144_val hB, Ideal.addf_def, Ideal.mulf_def]
  exact congrArg (fun v => (gu I (y 0).val (y 1).val : EReal) * v) (mixSum_eq _ _ _ _ _ _ (Cert.Mx.Ref.e3 _ _ h1) (Cert.Mx.Ref.e2 _ _ h1) (Cert.Mx.Ref.e1 _ _ h1) (Cert.Mx.Ref.e4 _ _ h1))

include A hS hB in
/-- The three parts side by side. -/
theorem v151_val (y : S2048x1024.Idx) : val_main_v151 (F := Ideal) x0 x1 x2 x3 x4 x5 x6 y = all I S B (y 0).val (y 1).val := by
  have h1 : (y 1).val < 1024 := (y 1).isLt
  have hi : ∀ (n : ℕ) (z : (⟨2, ![2048, n]⟩ : Shape).Idx) (hz : (z 0).val = (y 0).val) (b : Fin 2), b.cast (rfl : (2 : ℕ) = S2048x1024.rank) ≠ 1 → (z b).val = (y (b.cast rfl)).val := by
    intro n z hz b hb
    match b with
    | ⟨0, _⟩ => exact hz
    | ⟨1, _⟩ => exact absurd rfl hb
  unfold val_main_v151 all
  by_cases c1 : (y 1).val < 384
  · rw [if_pos c1]
    exact (concatenate_apply_piece 1 _ _ y 0 (by show 0 < 3; decide) S2048x384 (val_main_v148 (F := Ideal) x0 x1) rfl rfl 0 rfl (ix2 (y 0) ⟨(y 1).val, c1⟩)
      (hi _ _ rfl) (Nat.zero_add _)).trans (v148_val A _)
  rw [if_neg c1]
  by_cases c2 : (y 1).val < 640
  · rw [if_pos c2]
    exact (concatenate_apply_piece 1 _ _ y 1 (by show 1 < 3; decide) S2048x256 (val_main_v149 (F := Ideal) x0 x2 x3) rfl rfl 384 rfl (ix2 (y 0) ⟨(y 1).val - 384, by omega⟩)
      (hi _ _ rfl) (by show 384 + ((y 1).val - 384) = (y 1).val; omega)).trans (v149_val A hS _)
  · rw [if_neg c2]
    exact (concatenate_apply_piece 1 _ _ y 2 (by show 2 < 3; decide) S2048x384 (val_main_v150 (F := Ideal) x0 x4 x5 x6) rfl rfl 640 rfl (ix2 (y 0) ⟨(y 1).val - 640, by omega⟩)
      (hi _ _ rfl) (by show 640 + ((y 1).val - 640) = (y 1).val; omega)).trans (v150_val A hB _)

end Cert.Mf.Ref

end
-- ==== Proof.Mf.Claims.lean ====
/- The claim about the value of the mixers' forward call. -/
module

public import proofs.«01_k».proof.Defs
public import proofs.«01_k».proof.Proof.Mf.Kernel
public import proofs.«01_k».proof.Proof.Mf.Reference
public import proofs.«01_k».proof.Proof.Mx.Claims
public import proofs.«01_k».proof.Proof.Gen.ReferenceMfIdeal.Run
public import proofs.«01_k».proof.Proof.Gen.Pre_finite_mf
public import Idealize.ShloMosaic.Lib.Claim

@[expose] public section

set_option maxRecDepth 16384

noncomputable section

namespace Cert.Mf

open Idealize.ShloMosaic Idealize.ShloMosaic.TcCoe Idealize.SL.Sem
open Cert.Mx.Spec Cert.Mx

section Inputs
open Cert.KernelMfIdeal

/-- The arguments that must be finite as numbers; the others as they are. -/
theorem reads (x0 : FVec Ideal S2048x2176 .f32) (x1 : FVec Ideal S1x3x384 .f32) (x2 : FVec Ideal S1x4x64x64 .f32) (x3 : FVec Ideal S1x256 .f32)
    (x4 : FVec Ideal S1x384 .f32) (x5 : FVec Ideal S1x6x128x128 .f32) (x6 : FVec Ideal S1x6x128 .f32)
    (h : Cert.Pre_finite_mf.fn (F := Ideal) x0 x1 x2 x3 x4 x5 x6 = fun _ => 1#1) :
    ∃ (I : Inp) (S : ℕ → EReal) (B : ℕ → ℕ → EReal), Args I S B x0 x1 x2 x3 x4 x5 x6 ∧
      Cert.Mx.Ref.Reads I x0 x1 x2 (fun _ => 0) x4 x5 (fun _ => 0) (fun _ => 0) := by
  have h3 := congrFun h (fun k => k.elim0)
  obtain ⟨h2, f5⟩ := IntOp.andi_eq_one.1 h3
  obtain ⟨h1, f4⟩ := IntOp.andi_eq_one.1 h2
  obtain ⟨f0, f2⟩ := IntOp.andi_eq_one.1 h1
  obtain ⟨R0, e0⟩ := Cert.Common.reals_of_all _ _ _ _ _ f0
  obtain ⟨R2, e2⟩ := Cert.Common.reals_of_all _ _ _ _ _ f2
  obtain ⟨R4, e4⟩ := Cert.Common.reals_of_all _ _ _ _ _ f4
  obtain ⟨R5, e5⟩ := Cert.Common.reals_of_all _ _ _ _ _ f5
  have g0 := read2 x0 R0 e0 (by decide) (by decide)
  have g1 : ∀ y, x1 y = x1 (ix3 (0 : Fin 1) (⟨(y 1).val % 3, Nat.mod_lt _ (by decide)⟩ : Fin 3) (⟨(y 2).val % 384, Nat.mod_lt _ (by decide)⟩ : Fin 384)) := by
    intro y
    have hy : (y 0).val < 1 := (y 0).isLt
    refine congrArg x1 (funext fun a => Fin.ext ?_)
    match a with
    | ⟨0, _⟩ => show (y 0).val = 0; omega
    | ⟨1, _⟩ => exact (Nat.mod_eq_of_lt (y 1).isLt).symm
    | ⟨2, _⟩ => exact (Nat.mod_eq_of_lt (y 2).isLt).symm
  have g2 := read4 x2 R2 e2 (by decide) (by decide) (by decide) 0 rfl
  have g3 : ∀ y, x3 y = x3 (ix2 (0 : Fin 1) (⟨(y 1).val % 256, Nat.mod_lt _ (by decide)⟩ : Fin 256)) := by
    intro y
    have hy : (y 0).val < 1 := (y 0).isLt
    refine congrArg x3 (funext fun a => Fin.ext ?_)
    match a with
    | ⟨0, _⟩ => show (y 0).val = 0; omega
    | ⟨1, _⟩ => exact (Nat.mod_eq_of_lt (y 1).isLt).symm
  have g4 : ∀ y, x4 y = ((inp x0 x1 x2 (fun _ => 0) x4 x5 (fun _ => 0) (fun _ => 0)).G (y 1).val : EReal) := by
    intro y
    have hy : (y 0).val = 0 := by have hl : (y 0).val < 1 := (y 0).isLt; omega
    refine (read2 x4 R4 e4 (by decide) (by decide) y).trans ?_
    simp only [hy]
    rfl
  have g5 := read4 x5 R5 e5 (by decide) (by decide) (by decide) 0 rfl
  have g6 : ∀ y, x6 y = x6 (ix3 (0 : Fin 1) (⟨(y 1).val % 6, Nat.mod_lt _ (by decide)⟩ : Fin 6) (⟨(y 2).val % 128, Nat.mod_lt _ (by decide)⟩ : Fin 128)) := by
    intro y
    have hy : (y 0).val < 1 := (y 0).isLt
    refine congrArg x6 (funext fun a => Fin.ext ?_)
    match a with
    | ⟨0, _⟩ => show (y 0).val = 0; omega
    | ⟨1, _⟩ => exact (Nat.mod_eq_of_lt (y 1).isLt).symm
    | ⟨2, _⟩ => exact (Nat.mod_eq_of_lt (y 2).isLt).symm
  exact ⟨inp x0 x1 x2 (fun _ => 0) x4 x5 (fun _ => 0) (fun _ => 0),
    fun k => x3 (ix2 (0 : Fin 1) (⟨k % 256, Nat.mod_lt _ (by decide)⟩ : Fin 256)),
    fun a t => x6 (ix3 (0 : Fin 1) (⟨a % 6, Nat.mod_lt _ (by decide)⟩ : Fin 6) (⟨t % 128, Nat.mod_lt _ (by decide)⟩ : Fin 128)),
    ⟨g0, g1, g2, g3, g4, g5, g6⟩, ⟨g0, g1, g2, fun _ => rfl, g4, g5, fun _ => rfl, fun _ => rfl⟩⟩

end Inputs

section Claim
open Cert.KernelMfIdeal Cert.KernelMfIdeal.Gen

/-- Kernel and reference leave the same array wherever the projections, the pooling weights, the gains and the spatial weights are finite. -/
theorem value : Cert.algebraic_KernelMfIdeal_ReferenceMfIdeal_pre_finite_mf := by
  intro m g m' g' hpre hargs
  refine ⟨fun c => (dats m 0 c).arrAt 9 cfg0.N, Cert.KernelMfIdeal.Value.run_blocks m g, ?_⟩
  refine (θ_run Cert.ReferenceMfIdeal.defs _ _).mono (fun r h c => ?_) (Cert.ReferenceMfIdeal.Value.run m' g')
  obtain ⟨r0, rest⟩ := h c
  obtain ⟨e0, e1, e2, e3, e4, e5, e6⟩ := hargs c
  obtain ⟨I, S, B, A, R⟩ := reads _ _ _ _ _ _ _ (hpre c)
  refine ⟨r0.trans ?_, rest⟩
  rw [Cert.ReferenceMfIdeal.Read.val_main_v151_eq]
  show Cert.ReferenceMfIdeal.Read.val_main_v151 (F := Ideal) (m' ((c.tc : Thread Cert.ReferenceMfIdeal.nD Cert.ReferenceMfIdeal.τ).loc Cert.ReferenceMfIdeal.main_arg0)) (m' ((c.tc : Thread Cert.ReferenceMfIdeal.nD Cert.ReferenceMfIdeal.τ).loc Cert.ReferenceMfIdeal.main_arg1)) (m' ((c.tc : Thread Cert.ReferenceMfIdeal.nD Cert.ReferenceMfIdeal.τ).loc Cert.ReferenceMfIdeal.main_arg2)) (m' ((c.tc : Thread Cert.ReferenceMfIdeal.nD Cert.ReferenceMfIdeal.τ).loc Cert.ReferenceMfIdeal.main_arg3)) (m' ((c.tc : Thread Cert.ReferenceMfIdeal.nD Cert.ReferenceMfIdeal.τ).loc Cert.ReferenceMfIdeal.main_arg4)) (m' ((c.tc : Thread Cert.ReferenceMfIdeal.nD Cert.ReferenceMfIdeal.τ).loc Cert.ReferenceMfIdeal.main_arg5)) (m' ((c.tc : Thread Cert.ReferenceMfIdeal.nD Cert.ReferenceMfIdeal.τ).loc Cert.ReferenceMfIdeal.main_arg6)) = _
  rw [e0, e1, e2, e3, e4, e5, e6]
  exact Eq.trans (funext fun y => Ref.v151_val R A.h3 A.h6 y) (final A).symm

end Claim

end Cert.Mf

end
-- ==== Proof.Dw.Down.lean ====
/- The claims of the product that makes the gradient of the down projection's matrix. They hold at all arguments. -/
module

public import proofs.«01_k».proof.Defs
public import proofs.«01_k».proof.Proof.Gen.KernelDdIdeal.Value
public import proofs.«01_k».proof.Proof.Gen.ReferenceDdIdeal.Run
public import proofs.«01_k».proof.Proof.Gen.ReferenceDdIdeal.Read
public import Idealize.ShloMosaic.Lib.Claim
public import Idealize.ShloMosaic.Lib.Pipeline.ValueKit

@[expose] public section

set_option maxRecDepth 16384

noncomputable section

namespace Cert.Dw.Down

open Idealize.ShloMosaic Idealize.ShloMosaic.TcCoe Idealize.ShloMosaic.Tactic Idealize.SL.Sem
open Idealize.ShloMosaic.Pipeline (Dat)

/-- A column of the activations times a column of the cotangent. -/
def dw (X : FVec Ideal ⟨2, ![2048, 2816]⟩ .f32) (D : FVec Ideal ⟨2, ![2048, 1024]⟩ .f32) (i : Fin 2816) (l : Fin 1024) : EReal :=
  ∑ k : Fin 2048, X (ix2 k i) * D (ix2 k l)

theorem dw_congr (X : FVec Ideal ⟨2, ![2048, 2816]⟩ .f32) (D : FVec Ideal ⟨2, ![2048, 1024]⟩ .f32) {i i' : Fin 2816} {l l' : Fin 1024}
    (h : i.val = i'.val) (h' : l.val = l'.val) : dw X D i l = dw X D i' l' := by
  rw [Fin.ext h, Fin.ext h']

section Kernel

open Cert.KernelDdIdeal Cert.KernelDdIdeal.Gen

variable (m : (ℓ : Loc nD τ sig) → Buf (Elt Ideal) ℓ) (c : Dev nD)

/-- The activations, as the call finds them. -/
theorem V_v0 : (V m c main_v0 : FVec Ideal S2048x2816 .bf16) = (m ((c : Thread nD τ).loc main_arg0) : FVec Ideal S2048x2816 .f32) := by
  show (StableHlo.after hostOps0 (fun b => m (c, b)) (Proc.devRef .tc main_v0) : FVec Ideal S2048x2816 .bf16) = _
  after_results
  rfl

/-- The cotangent, as the call finds it. -/
theorem V_v1 : (V m c main_v1 : FVec Ideal S2048x1024 .bf16) = (m ((c : Thread nD τ).loc main_arg2) : FVec Ideal S2048x1024 .f32) := by
  show (StableHlo.after hostOps0 (fun b => m (c, b)) (Proc.devRef .tc main_v1) : FVec Ideal S2048x1024 .bf16) = _
  after_results
  rfl

/-- The windows' block indices at every point. -/
theorem idx0 : ∀ t : Fin cfg0.N, win0_0.index t = ![0, t.val / 2] ∧ win0_1.index t = ![0, t.val % 2] ∧ win0_2.index t = ![t.val / 2, t.val % 2] :=
  (by decide +kernel : ∀ t : Fin grid0.N, _)

theorem N0 : cfg0.N = 4 := by decide

/-- One block's payload. -/
theorem pay (v0 : Vec Ideal S2048x1408 .bf16) (v2 : Vec Ideal S2048x512 .bf16) (i : Fin 1408) (l : Fin 512) :
    k0_pay1 v0 v2 (ix2 i l) = ∑ k : Fin 2048, v0 (ix2 k i) * v2 (ix2 k l) := by
  pointwise [k0_pay1]

variable (t : Fin cfg0.N)

theorem row_lt (i : ℕ) (h : i < 1408) : 1408 * (t.val / 2) + i < 2816 := by have := t.isLt; have e := N0; omega
theorem col_lt (l : ℕ) (h : l < 512) : 512 * (t.val % 2) + l < 1024 := by omega

/-- A point's block. -/
theorem point (i : Fin 1408) (l : Fin 512) : k0_pay1 (View.ld (iblk m c 0 t) r0_0) (View.ld (iblk m c 1 t) r0_1) (ix2 i l)
    = dw (m ((c : Thread nD τ).loc main_arg0)) (m ((c : Thread nD τ).loc main_arg2)) ⟨1408 * (t.val / 2) + i.val, row_lt t i.val i.isLt⟩
        ⟨512 * (t.val % 2) + l.val, col_lt t l.val l.isLt⟩ := by
  rw [pay]
  refine Finset.sum_congr rfl fun k _ => congrArg₂ (· * ·) ?_ ?_
  · refine Eq.trans ?_ (congrFun (V_v0 m c) (ix2 k _))
    pointwise []
    blk_point [iblk, idx0 t]
  · refine Eq.trans ?_ (congrFun (V_v1 m c) (ix2 k _))
    pointwise []
    blk_point [iblk, idx0 t]

/-- The whole array after the call. -/
theorem final : (dats m 0 c).arrAt 2 cfg0.N = fun y : S2816x1024.Idx =>
    dw (m ((c : Thread nD τ).loc main_arg0)) (m ((c : Thread nD τ).loc main_arg2)) ⟨(y 0).val, (y 0).isLt⟩ ⟨(y 1).val, (y 1).isLt⟩ := by
  refine (dats m 0 c).arrAt_eq_of_covers 2 _ (by decide +kernel) fun t _ y => ?_
  blk_simp
  rw [after0_2]
  unfold out0_2
  canon_tiles x h
  rw [eq_ix2 x]
  refine (point m c t _ _).trans ?_
  simp only [idx0 t]
  refine dw_congr _ _ ?_ ?_
  · show 1408 * (t.val / 2) + (x 0).val = t.val / 2 * 1408 + _; omega
  · show 512 * (t.val % 2) + (x 1).val = t.val % 2 * 512 + _; omega

end Kernel

section Reference

open Cert.ReferenceDdIdeal Cert.ReferenceDdIdeal.Gen Cert.ReferenceDdIdeal.Read

/-- The reference's result. -/
theorem ref_val (x0 : FVec Ideal S2048x2816 .f32) (x2 : FVec Ideal S2048x1024 .f32) (y : S2816x1024.Idx) :
    val_main_v3 (F := Ideal) x0 x2 y = dw x0 x2 (y 0) (y 1) := by
  show val_main_v2 (F := Ideal) x0 x2 y = _
  rw [val_main_v2_apply, val_main_v1_apply]
  refine Finset.sum_congr rfl fun k _ => (mul_comm _ _).trans (congrArg₂ (· * ·) (congrArg x0 ?_) (congrArg x2 ?_))
  · exact eq_ix2 _
  · exact eq_ix2 _

/-- The reference terminates and leaves its arguments unchanged. -/
theorem frame_reference : Cert.quiescent_ReferenceDdIdeal :=
  fun m g _ => (θ_run Cert.ReferenceDdIdeal.defs _ _).mono (fun r h => ⟨fun c => (h c).2, sem_eq_zero_of_no_sems (by decide) r.2⟩)
    (Cert.ReferenceDdIdeal.Value.run m g)

end Reference

open Cert.KernelDdIdeal Cert.KernelDdIdeal.Gen in
/-- Kernel and reference leave the same gradient at all arguments. -/
theorem value : Cert.algebraic_KernelDdIdeal_ReferenceDdIdeal := by
  intro m g m' g' _ hargs
  refine ⟨fun c => (dats m 0 c).arrAt 2 cfg0.N, Cert.KernelDdIdeal.Value.run_blocks m g, ?_⟩
  refine (θ_run Cert.ReferenceDdIdeal.defs _ _).mono (fun r h c => ?_) (Cert.ReferenceDdIdeal.Value.run m' g')
  obtain ⟨r0, rest⟩ := h c
  obtain ⟨e0, e1, e2⟩ := hargs c
  refine ⟨r0.trans ?_, rest⟩
  rw [Cert.ReferenceDdIdeal.Read.val_main_v3_eq, e0, e2]
  exact Eq.trans (funext fun y => ref_val _ _ y) (final m c).symm

end Cert.Dw.Down

end
-- ==== Proof.Dw.GateUp.lean ====
/- The claims of the product that makes the gradient of the matrix of gate and up. They hold at all arguments. -/
module

public import proofs.«01_k».proof.Defs
public import proofs.«01_k».proof.Proof.Gen.KernelDgIdeal.Value
public import proofs.«01_k».proof.Proof.Gen.ReferenceDgIdeal.Run
public import proofs.«01_k».proof.Proof.Gen.ReferenceDgIdeal.Read
public import Idealize.ShloMosaic.Lib.Claim
public import Idealize.ShloMosaic.Lib.KernelVsHost
public import Idealize.ShloMosaic.Lib.Pipeline.ValueKit

@[expose] public section

set_option maxRecDepth 16384

noncomputable section

namespace Cert.Dw.GateUp

open Idealize.ShloMosaic Idealize.ShloMosaic.TcCoe Idealize.ShloMosaic.Tactic Idealize.SL.Sem
open Idealize.ShloMosaic.Pipeline (Dat)

/-- The two cotangents side by side. -/
def cat (G U : FVec Ideal ⟨2, ![2048, 2816]⟩ .f32) (k : Fin 2048) (i : ℕ) : EReal :=
  if i < 2816 then G (ix2 k ⟨i % 2816, Nat.mod_lt _ (by decide)⟩) else U (ix2 k ⟨(i - 2816) % 2816, Nat.mod_lt _ (by decide)⟩)

/-- A column of the cotangents times a column of the layer's input. -/
def dw (H : FVec Ideal ⟨2, ![2048, 1024]⟩ .f32) (G U : FVec Ideal ⟨2, ![2048, 2816]⟩ .f32) (i : ℕ) (l : Fin 1024) : EReal :=
  ∑ k : Fin 2048, cat G U k i * H (ix2 k l)

theorem dw_congr (H : FVec Ideal ⟨2, ![2048, 1024]⟩ .f32) (G U : FVec Ideal ⟨2, ![2048, 2816]⟩ .f32) {i i' : ℕ} {l l' : Fin 1024}
    (h : i = i') (h' : l.val = l'.val) : dw H G U i l = dw H G U i' l' := by
  rw [h, Fin.ext h']

section Kernel

open Cert.KernelDgIdeal Cert.KernelDgIdeal.Gen

variable (m : (ℓ : Loc nD τ sig) → Buf (Elt Ideal) ℓ) (c : Dev nD)

/-- The gate's cotangent, as the call finds it. -/
theorem V_v0 : (V m c main_v0 : FVec Ideal S2048x2816 .bf16) = (m ((c : Thread nD τ).loc main_arg2) : FVec Ideal S2048x2816 .f32) := by
  show (StableHlo.after hostOps0 (fun b => m (c, b)) (Proc.devRef .tc main_v0) : FVec Ideal S2048x2816 .bf16) = _
  after_results
  rfl

/-- The cotangent of up, as the call finds it. -/
theorem V_v1 : (V m c main_v1 : FVec Ideal S2048x2816 .bf16) = (m ((c : Thread nD τ).loc main_arg3) : FVec Ideal S2048x2816 .f32) := by
  show (StableHlo.after hostOps0 (fun b => m (c, b)) (Proc.devRef .tc main_v1) : FVec Ideal S2048x2816 .bf16) = _
  after_results
  rfl

/-- The layer's input, as the call finds it. -/
theorem V_v2 : (V m c main_v2 : FVec Ideal S2048x1024 .bf16) = (m ((c : Thread nD τ).loc main_arg0) : FVec Ideal S2048x1024 .f32) := by
  show (StableHlo.after hostOps0 (fun b => m (c, b)) (Proc.devRef .tc main_v2) : FVec Ideal S2048x1024 .bf16) = _
  after_results
  rfl

/-- The windows' block indices at every point. -/
theorem idx0 : ∀ t : Fin cfg0.N, win0_0.index t = ![0, min t.val 1] ∧ win0_1.index t = ![0, t.val - 2] ∧ win0_2.index t = ![0, 0] ∧ win0_3.index t = ![t.val, 0] :=
  (by decide +kernel : ∀ t : Fin grid0.N, _)

theorem N0 : cfg0.N = 4 := by decide

/-- One block's payload, in the first two points and in the last two. -/
theorem pay1 (v0 : Vec Ideal S2048x1408 .bf16) (v2 : Vec Ideal S2048x1024 .bf16) (i : Fin 1408) (l : Fin 1024) :
    k0_pay1 v0 v2 (ix2 i l) = ∑ k : Fin 2048, v0 (ix2 k i) * v2 (ix2 k l) := by
  pointwise [k0_pay1]
theorem pay2 (v0 : Vec Ideal S2048x1408 .bf16) (v2 : Vec Ideal S2048x1024 .bf16) (i : Fin 1408) (l : Fin 1024) :
    k0_pay2 v0 v2 (ix2 i l) = ∑ k : Fin 2048, v0 (ix2 k i) * v2 (ix2 k l) := by
  pointwise [k0_pay2]

variable (t : Fin cfg0.N)

/-- The block of the layer's input is the whole of it. -/
theorem blk2 (k : Fin 2048) (l : Fin 1024) : (iblk m c 2 t : Vec Ideal S2048x1024 .bf16) (ix2 k l) = (m ((c : Thread nD τ).loc main_arg0) : FVec Ideal S2048x1024 .f32) (ix2 k l) := by
  refine Eq.trans ?_ (congrFun (V_v2 m c) (ix2 k l))
  blk_point [iblk, idx0 t]

theorem blk0 (h : t.val < 2) (k : Fin 2048) (i : Fin 1408) : (iblk m c 0 t : Vec Ideal S2048x1408 .bf16) (ix2 k i)
    = (m ((c : Thread nD τ).loc main_arg2) : FVec Ideal S2048x2816 .f32) (ix2 k ⟨(1408 * t.val + i.val) % 2816, Nat.mod_lt _ (by decide)⟩) := by
  refine Eq.trans ?_ (congrFun (V_v0 m c) (ix2 k _))
  blk_point [iblk, idx0 t]

theorem blk1 (h : 2 ≤ t.val) (k : Fin 2048) (i : Fin 1408) : (iblk m c 1 t : Vec Ideal S2048x1408 .bf16) (ix2 k i)
    = (m ((c : Thread nD τ).loc main_arg3) : FVec Ideal S2048x2816 .f32) (ix2 k ⟨(1408 * t.val + i.val - 2816) % 2816, Nat.mod_lt _ (by decide)⟩) := by
  have ht : t.val < 4 := t.isLt
  refine Eq.trans ?_ (congrFun (V_v1 m c) (ix2 k _))
  blk_point [iblk, idx0 t]

/-- A point's block. -/
theorem point (i : Fin 1408) (l : Fin 1024) : outsAt0 m c t.val t.isLt (ix2 i l)
    = dw (m ((c : Thread nD τ).loc main_arg0)) (m ((c : Thread nD τ).loc main_arg2)) (m ((c : Thread nD τ).loc main_arg3)) (1408 * t.val + i.val) l := by
  have ht : t.val < 4 := t.isLt
  have hi := i.isLt
  by_cases h : t.val < 2
  · rw [outsAt0_A m c t h (by omega)]
    frame_out
    refine (pay1 _ _ i l).trans (Finset.sum_congr rfl fun k _ => congrArg₂ (· * ·) ((blk0 m c t h k i).trans ?_) (blk2 m c t k l))
    unfold cat
    rw [if_pos (by omega)]
  · rw [outsAt0_B m c t h (by omega)]
    frame_out
    refine (pay2 _ _ i l).trans (Finset.sum_congr rfl fun k _ => congrArg₂ (· * ·) ((blk1 m c t (by omega) k i).trans ?_) (blk2 m c t k l))
    unfold cat
    rw [if_neg (by omega)]

/-- The same at any index of the block. -/
theorem point' (x : S1408x1024.Idx) : outsAt0 m c t.val t.isLt x
    = dw (m ((c : Thread nD τ).loc main_arg0)) (m ((c : Thread nD τ).loc main_arg2)) (m ((c : Thread nD τ).loc main_arg3)) (1408 * t.val + (x 0).val) ⟨(x 1).val, (x 1).isLt⟩ := by
  obtain ⟨i, l, rfl⟩ : ∃ i l, x = ix2 i l := ⟨x 0, x 1, eq_ix2 x⟩
  exact point m c t i l

/-- The whole array after the call. -/
theorem final : (dats m 0 c).arrAt 3 cfg0.N = fun y : S5632x1024.Idx =>
    dw (m ((c : Thread nD τ).loc main_arg0)) (m ((c : Thread nD τ).loc main_arg2)) (m ((c : Thread nD τ).loc main_arg3)) (y 0).val ⟨(y 1).val, (y 1).isLt⟩ := by
  refine (dats m 0 c).arrAt_eq_of_covers 3 _ (by decide +kernel) fun t _ y => ?_
  blk_simp
  rw [after0_3]
  have e0 : win0_3.index t 0 = t.val := congrFun (idx0 t).2.2.2 0
  have e1 : win0_3.index t 1 = 0 := congrFun (idx0 t).2.2.2 1
  revert y
  show ∀ y : S1408x1024.Idx, _
  intro y
  refine (point' m c t y).trans (dw_congr _ _ _ ?_ ?_)
  · show 1408 * t.val + (y 0).val = win0_3.index t 0 * 1408 + (y 0).val
    omega
  · show (y 1).val = win0_3.index t 1 * 1024 + (y 1).val
    omega

end Kernel

section Reference

open Cert.ReferenceDgIdeal Cert.ReferenceDgIdeal.Gen Cert.ReferenceDgIdeal.Read

/-- The padding's word stands for zero. -/
theorem zero_word : Ideal.ofBits .f32 0x00000000#32 = (0 : EReal) := by
  rw [Ideal.ofBits_zero]

theorem v3_val (x3 : FVec Ideal S2048x2816 .f32) (y : S2048x5632.Idx) :
    val_main_v3 (F := Ideal) x3 y = if (y 1).val < 2816 then 0 else x3 (ix2 (y 0) ⟨((y 1).val - 2816) % 2816, Nat.mod_lt _ (by decide)⟩) := by
  have hy : (y 1).val < 5632 := (y 1).isLt
  unfold val_main_v3
  by_cases h : (y 1).val < 2816
  · rw [if_pos h]
    refine (pad_apply_of_not_inside _ _ _ x3 _ _ _ y 1 ?_).trans zero_word
    intro hh
    have h0 : 2816 ≤ (y 1).val := hh.1
    omega
  · rw [if_neg h]
    refine pad_apply_of_inside _ _ _ x3 _ _ _ y _ fun a => ?_
    match a with
    | ⟨0, _⟩ => show (y 0).val = 0 + (y 0).val * (0 + 1); omega
    | ⟨1, _⟩ => show (y 1).val = 2816 + (((y 1).val - 2816) % 2816) * (0 + 1); omega

theorem v4_val (x2 : FVec Ideal S2048x2816 .f32) (y : S2048x5632.Idx) :
    val_main_v4 (F := Ideal) x2 y = if (y 1).val < 2816 then x2 (ix2 (y 0) ⟨(y 1).val % 2816, Nat.mod_lt _ (by decide)⟩) else 0 := by
  have hy : (y 1).val < 5632 := (y 1).isLt
  unfold val_main_v4
  by_cases h : (y 1).val < 2816
  · rw [if_pos h]
    refine pad_apply_of_inside _ _ _ x2 _ _ _ y _ fun a => ?_
    match a with
    | ⟨0, _⟩ => show (y 0).val = 0 + (y 0).val * (0 + 1); omega
    | ⟨1, _⟩ => show (y 1).val = 0 + ((y 1).val % 2816) * (0 + 1); omega
  · rw [if_neg h]
    refine (pad_apply_of_not_inside _ _ _ x2 _ _ _ y 1 ?_).trans zero_word
    intro hh
    have h0 : ((y 1).val - 0) / (0 + 1) < 2816 := hh.2.2
    omega

theorem v5_val (x2 x3 : FVec Ideal S2048x2816 .f32) (y : S2048x5632.Idx) : val_main_v5 (F := Ideal) x2 x3 y = cat x2 x3 (y 0) (y 1).val := by
  rw [val_main_v5_apply, v3_val, v4_val, Ideal.addf_def]
  unfold cat
  split
  · exact zero_add _
  · exact add_zero _

/-- The reference's result. -/
theorem ref_val (x0 : FVec Ideal S2048x1024 .f32) (x2 x3 : FVec Ideal S2048x2816 .f32) (y : S5632x1024.Idx) :
    val_main_v9 (F := Ideal) x0 x2 x3 y = dw x0 x2 x3 (y 0).val (y 1) := by
  show val_main_v8 (F := Ideal) x0 x2 x3 y = _
  rw [val_main_v8_apply, val_main_v7_apply, val_main_v6_apply]
  refine Finset.sum_congr rfl fun k _ => congrArg₂ (· * ·) (v5_val x2 x3 _) (congrArg x0 (eq_ix2 _))

/-- The reference terminates and leaves its arguments unchanged. -/
theorem frame_reference : Cert.quiescent_ReferenceDgIdeal :=
  fun m g _ => (θ_run Cert.ReferenceDgIdeal.defs _ _).mono (fun r h => ⟨fun c => (h c).2, sem_eq_zero_of_no_sems (by decide) r.2⟩)
    (Cert.ReferenceDgIdeal.Value.run m g)

end Reference

open Cert.KernelDgIdeal Cert.KernelDgIdeal.Gen in
/-- Kernel and reference leave the same gradient at all arguments. -/
theorem value : Cert.algebraic_KernelDgIdeal_ReferenceDgIdeal := by
  intro m g m' g' _ hargs
  refine ⟨fun c => (dats m 0 c).arrAt 3 cfg0.N, Cert.KernelDgIdeal.Value.run_blocks m g, ?_⟩
  refine (θ_run Cert.ReferenceDgIdeal.defs _ _).mono (fun r h c => ?_) (Cert.ReferenceDgIdeal.Value.run m' g')
  obtain ⟨r0, rest⟩ := h c
  obtain ⟨e0, e1, e2, e3⟩ := hargs c
  refine ⟨r0.trans ?_, rest⟩
  rw [Cert.ReferenceDgIdeal.Read.val_main_v9_eq, e0, e2, e3]
  exact Eq.trans (funext fun y => ref_val _ _ _ y) (final m c).symm

end Cert.Dw.GateUp

end
-- ==== Proof.Ad.Claims.lean ====
/- The claims of the optimiser's call. They hold at all arguments: the two programs do the same operations at every entry. -/
module

public import proofs.«01_k».proof.Defs
public import proofs.«01_k».proof.Proof.Gen.KernelAdIdeal.Value
public import proofs.«01_k».proof.Proof.Gen.ReferenceAdIdeal.Run
public import proofs.«01_k».proof.Proof.Gen.ReferenceAdIdeal.Read
public import Idealize.ShloMosaic.Lib.Claim
public import Idealize.ShloMosaic.Lib.Pipeline.ValueKit

@[expose] public section

set_option maxRecDepth 16384

noncomputable section

namespace Cert.Ad

open Idealize.ShloMosaic Idealize.ShloMosaic.TcCoe Idealize.ShloMosaic.Tactic Idealize.SL.Sem
open Idealize.ShloMosaic.Pipeline (Dat)

/-- The new first moment of one entry. -/
def first (g m : EReal) : EReal :=
  Ideal.ofBits .f32 0x3F666666#32 * m + Ideal.ofBits .f32 0x3DCCCCCD#32 * g

/-- The new second moment of one entry. -/
def second (g v : EReal) : EReal :=
  Ideal.ofBits .f32 0x3F7FBE77#32 * v + Ideal.ofBits .f32 0x3A83126F#32 * (g * g)

/-- The step of one entry. -/
def delta (w g m v : EReal) : EReal :=
  Ideal.ofBits .f32 0xBA83126F#32 * (Ideal.div (Ideal.div (first g m) (Ideal.ofBits .f32 0x3F26BD02#32))
    (Ideal.sqrt (Ideal.div (second g v) (Ideal.ofBits .f32 0x3C231ACC#32)) + Ideal.ofBits .f32 0x322BCC77#32)
    + Ideal.ofBits .f32 0x3C23D70A#32 * w)

section Kernel

open Cert.KernelAdIdeal Cert.KernelAdIdeal.Gen

variable (m : (ℓ : Loc nD τ sig) → Buf (Elt Ideal) ℓ) (c : Dev nD)

/-- The windows' block indices at every point. -/
theorem idx0 : ∀ t : Fin cfg0.N, win0_0.index t = ![t.val / 2, t.val % 2, 0] ∧ win0_1.index t = ![t.val / 2, t.val % 2, 0]
    ∧ win0_2.index t = ![t.val / 2, t.val % 2, 0] ∧ win0_3.index t = ![t.val / 2, t.val % 2, 0] ∧ win0_4.index t = ![t.val / 2, t.val % 2, 0]
    ∧ win0_5.index t = ![t.val / 2, t.val % 2, 0] ∧ win0_6.index t = ![t.val / 2, t.val % 2, 0] :=
  (by decide +kernel : ∀ t : Fin grid0.N, _)

variable (t : Fin cfg0.N)

/-- Where an entry of a point's block lies in the array. -/
def at_ (z : S1x352x1024.Idx) : S4x704x1024.Idx :=
  ix3 ⟨t.val / 2, by have h : t.val < 8 := t.isLt; omega⟩ ⟨352 * (t.val % 2) + (z 1).val, by have h : (z 1).val < 352 := (z 1).isLt; omega⟩ ⟨(z 2).val, (z 2).isLt⟩

/-! A block's entries are the array's. -/

theorem ld0 (z y : S1x352x1024.Idx) (h1 : (z 1).val = (y 1).val) (h2 : (z 2).val = (y 2).val) :
    View.ld (iblk m c 0 t) r0_0 z = (m ((c : Thread nD τ).loc main_arg0) : FVec Ideal S4x704x1024 .f32) (at_ t y) := by
  refine Eq.trans ?_ (congrFun (V_main_arg0 m c) (at_ t y))
  pointwise []
  blk_point [iblk, idx0 t, at_]

theorem ld1 (z y : S1x352x1024.Idx) (h1 : (z 1).val = (y 1).val) (h2 : (z 2).val = (y 2).val) :
    View.ld (iblk m c 1 t) r0_0 z = (m ((c : Thread nD τ).loc main_arg1) : FVec Ideal S4x704x1024 .f32) (at_ t y) := by
  refine Eq.trans ?_ (congrFun (V_main_arg1 m c) (at_ t y))
  pointwise []
  blk_point [iblk, idx0 t, at_]

theorem ld2 (z y : S1x352x1024.Idx) (h1 : (z 1).val = (y 1).val) (h2 : (z 2).val = (y 2).val) :
    View.ld (iblk m c 2 t) r0_0 z = (m ((c : Thread nD τ).loc main_arg2) : FVec Ideal S4x704x1024 .f32) (at_ t y) := by
  refine Eq.trans ?_ (congrFun (V_main_arg2 m c) (at_ t y))
  pointwise []
  blk_point [iblk, idx0 t, at_]

theorem ld3 (z y : S1x352x1024.Idx) (h1 : (z 1).val = (y 1).val) (h2 : (z 2).val = (y 2).val) :
    View.ld (iblk m c 3 t) r0_0 z = (m ((c : Thread nD τ).loc main_arg3) : FVec Ideal S4x704x1024 .f32) (at_ t y) := by
  refine Eq.trans ?_ (congrFun (V_main_arg3 m c) (at_ t y))
  pointwise []
  blk_point [iblk, idx0 t, at_]

theorem emb4 (y : S1x352x1024.Idx) : ((win0_4.blk t).view.emb y : S4x704x1024.Idx) = at_ t y := by
  blk_point [idx0 t, at_]

theorem emb5 (y : S1x352x1024.Idx) : ((win0_5.blk t).view.emb y : S4x704x1024.Idx) = at_ t y := by
  blk_point [idx0 t, at_]

theorem emb6 (y : S1x352x1024.Idx) : ((win0_6.blk t).view.emb y : S4x704x1024.Idx) = at_ t y := by
  blk_point [idx0 t, at_]

/-- Result 0 after the call. -/
theorem final4 : (dats m 0 c).arrAt 4 cfg0.N = fun y : S4x704x1024.Idx => delta (m ((c : Thread nD τ).loc main_arg0) y) (m ((c : Thread nD τ).loc main_arg1) y) (m ((c : Thread nD τ).loc main_arg2) y) (m ((c : Thread nD τ).loc main_arg3) y) := by
  refine (dats m 0 c).arrAt_eq_of_covers 4 _ (by decide +kernel) fun t _ y => ?_
  blk_simp
  rw [after0_4]
  unfold out0_4
  refine (Cert.KernelAdIdeal.Value.canon4_eq (View.ld (iblk m c 2 t) r0_0) (View.ld (iblk m c 1 t) r0_0) (View.ld (iblk m c 3 t) r0_0) (View.ld (iblk m c 0 t) r0_0) y).trans ?_
  unfold Cert.KernelAdIdeal.Value.E4
  rw [emb4 t y, ld2 m c t (Cert.KernelAdIdeal.Value.ix4_0 y) y rfl rfl, ld1 m c t (Cert.KernelAdIdeal.Value.ix4_1 y) y rfl rfl, ld3 m c t (Cert.KernelAdIdeal.Value.ix4_2 y) y rfl rfl, ld0 m c t (Cert.KernelAdIdeal.Value.ix4_5 y) y rfl rfl]
  rfl

/-- Result 1 after the call. -/
theorem final5 : (dats m 0 c).arrAt 5 cfg0.N = fun y : S4x704x1024.Idx => first (m ((c : Thread nD τ).loc main_arg1) y) (m ((c : Thread nD τ).loc main_arg2) y) := by
  refine (dats m 0 c).arrAt_eq_of_covers 5 _ (by decide +kernel) fun t _ y => ?_
  blk_simp
  rw [after0_5]
  unfold out0_5
  refine (Cert.KernelAdIdeal.Value.canon5_eq (View.ld (iblk m c 2 t) r0_0) (View.ld (iblk m c 1 t) r0_0) y).trans ?_
  unfold Cert.KernelAdIdeal.Value.E5
  rw [emb5 t y, ld2 m c t (Cert.KernelAdIdeal.Value.ix5_0 y) y rfl rfl, ld1 m c t (Cert.KernelAdIdeal.Value.ix5_1 y) y rfl rfl]
  rfl

/-- Result 2 after the call. -/
theorem final6 : (dats m 0 c).arrAt 6 cfg0.N = fun y : S4x704x1024.Idx => second (m ((c : Thread nD τ).loc main_arg1) y) (m ((c : Thread nD τ).loc main_arg3) y) := by
  refine (dats m 0 c).arrAt_eq_of_covers 6 _ (by decide +kernel) fun t _ y => ?_
  blk_simp
  rw [after0_6]
  unfold out0_6
  refine (Cert.KernelAdIdeal.Value.canon6_eq (View.ld (iblk m c 3 t) r0_0) (View.ld (iblk m c 1 t) r0_0) y).trans ?_
  unfold Cert.KernelAdIdeal.Value.E6
  rw [emb6 t y, ld3 m c t (Cert.KernelAdIdeal.Value.ix6_0 y) y rfl rfl, ld1 m c t (Cert.KernelAdIdeal.Value.ix6_1 y) y rfl rfl]
  rfl

end Kernel

section Reference

open Cert.ReferenceAdIdeal Cert.ReferenceAdIdeal.Gen Cert.ReferenceAdIdeal.Read

variable (x0 x1 x2 x3 : FVec Ideal S4x704x1024 .f32) (y : S4x704x1024.Idx)

theorem ref_first : val_main_v4 (F := Ideal) x1 x2 y = first (x1 y) (x2 y) := rfl
theorem ref_second : val_main_v10 (F := Ideal) x1 x3 y = second (x1 y) (x3 y) := rfl
theorem ref_delta : val_main_v23 (F := Ideal) x0 x1 x2 x3 y = delta (x0 y) (x1 y) (x2 y) (x3 y) := rfl

/-- The reference terminates and leaves its arguments unchanged. -/
theorem frame_reference : Cert.quiescent_ReferenceAdIdeal :=
  fun m g _ => (θ_run Cert.ReferenceAdIdeal.defs _ _).mono (fun r h => ⟨fun c => (h c).2.2.2, sem_eq_zero_of_no_sems (by decide) r.2⟩)
    (Cert.ReferenceAdIdeal.Value.run m g)

end Reference

open Cert.KernelAdIdeal Cert.KernelAdIdeal.Gen in
/-- Kernel and reference leave the same step and the same moments at all arguments. -/
theorem value : Cert.algebraic_KernelAdIdeal_ReferenceAdIdeal := by
  intro m g m' g' _ hargs
  refine ⟨fun c => (dats m 0 c).arrAt 4 cfg0.N, fun c => (dats m 0 c).arrAt 5 cfg0.N, fun c => (dats m 0 c).arrAt 6 cfg0.N,
    Cert.KernelAdIdeal.Value.run_blocks m g, ?_⟩
  refine (θ_run Cert.ReferenceAdIdeal.defs _ _).mono (fun r h c => ?_) (Cert.ReferenceAdIdeal.Value.run m' g')
  obtain ⟨r0, r1, r2, rest⟩ := h c
  obtain ⟨e0, e1, e2, e3⟩ := hargs c
  refine ⟨r0.trans ?_, r1.trans ?_, r2.trans ?_, rest⟩
  · rw [Cert.ReferenceAdIdeal.Read.val_main_v23_eq, e0, e1, e2, e3]
    exact Eq.trans (funext fun y => ref_delta _ _ _ _ y) (final4 m c).symm
  · rw [Cert.ReferenceAdIdeal.Read.val_main_v4_eq, e1, e2]
    exact Eq.trans (funext fun y => ref_first _ _ y) (final5 m c).symm
  · rw [Cert.ReferenceAdIdeal.Read.val_main_v10_eq, e1, e3]
    exact Eq.trans (funext fun y => ref_second _ _ y) (final6 m c).symm

end Cert.Ad

end
-- ==== Proof.lean ====
/- The swiglu gate, the mixers, the loss, the layer norms, two products and the optimiser of the step. -/
module

public import proofs.«01_k».proof.Defs
public import proofs.«01_k».proof.Proof.Gen.KernelFf
public import proofs.«01_k».proof.Proof.Gen.KernelFf.Frame
public import proofs.«01_k».proof.Proof.Gen.KernelFfIdeal
public import proofs.«01_k».proof.Proof.Gen.KernelFfIdeal.Frame
public import proofs.«01_k».proof.Proof.Gen.ReferenceFfIdeal
public import proofs.«01_k».proof.Proof.Gen.ReferenceFfIdeal.Run
public import proofs.«01_k».proof.Proof.Gen.ReferenceFfIdeal.Read
public import proofs.«01_k».proof.Proof.Gen.Pre_finite_ff
public import proofs.«01_k».proof.Proof.Gen.KernelMxIdeal.Frame
public import proofs.«01_k».proof.Proof.Gen.KernelMxIdeal.Skeleton
public import proofs.«01_k».proof.Proof.Gen.KernelMxIdeal.Loops
public import proofs.«01_k».proof.Proof.Gen.KernelMx.Frame
public import proofs.«01_k».proof.Proof.Gen.ReferenceMxIdeal
public import proofs.«01_k».proof.Proof.Gen.ReferenceMxIdeal.Run
public import proofs.«01_k».proof.Proof.Gen.ReferenceMxIdeal.Read
public import proofs.«01_k».proof.Proof.Gen.Pre_finite_mix
public import proofs.«01_k».proof.Proof.Gen.KernelLs.Frame
public import proofs.«01_k».proof.Proof.Gen.KernelLsIdeal.Frame
public import proofs.«01_k».proof.Proof.Gen.KernelLsIdeal.Skeleton
public import proofs.«01_k».proof.Proof.Gen.ReferenceLsIdeal
public import proofs.«01_k».proof.Proof.Gen.ReferenceLsIdeal.Run
public import proofs.«01_k».proof.Proof.Gen.ReferenceLsIdeal.Read
public import proofs.«01_k».proof.Proof.Gen.Pre_finite_loss
public import proofs.«01_k».proof.Proof.Gen.KernelWo.Frame
public import proofs.«01_k».proof.Proof.Gen.KernelWoIdeal.Frame
public import proofs.«01_k».proof.Proof.Gen.KernelWoIdeal.Skeleton
public import proofs.«01_k».proof.Proof.Gen.ReferenceWoIdeal
public import proofs.«01_k».proof.Proof.Gen.ReferenceWoIdeal.Run
public import proofs.«01_k».proof.Proof.Gen.ReferenceWoIdeal.Read
public import proofs.«01_k».proof.Proof.Gen.KernelDn.Frame
public import proofs.«01_k».proof.Proof.Gen.KernelDnIdeal.Frame
public import proofs.«01_k».proof.Proof.Gen.KernelDnIdeal.Skeleton
public import proofs.«01_k».proof.Proof.Gen.ReferenceDnIdeal
public import proofs.«01_k».proof.Proof.Gen.ReferenceDnIdeal.Run
public import proofs.«01_k».proof.Proof.Gen.ReferenceDnIdeal.Read
public import proofs.«01_k».proof.Proof.Ff.Claims
public import proofs.«01_k».proof.Proof.Mx.Claims
public import proofs.«01_k».proof.Proof.Gen.Pre_finite_wo
public import proofs.«01_k».proof.Proof.Gen.Pre_finite_dn
public import proofs.«01_k».proof.Proof.Gen.Pre_finite_mf
public import proofs.«01_k».proof.Proof.Ls.Claims
public import proofs.«01_k».proof.Proof.Wo.Claims
public import proofs.«01_k».proof.Proof.Dn.Claims
public import proofs.«01_k».proof.Proof.Ln.Frames
public import proofs.«01_k».proof.Proof.Gen.KernelMf
public import proofs.«01_k».proof.Proof.Gen.KernelMfIdeal
public import proofs.«01_k».proof.Proof.Gen.ReferenceMfIdeal
public import proofs.«01_k».proof.Proof.Gen.KernelMf.Frame
public import proofs.«01_k».proof.Proof.Gen.KernelMfIdeal.Frame
public import proofs.«01_k».proof.Proof.Gen.KernelMfIdeal.Value
public import proofs.«01_k».proof.Proof.Gen.ReferenceMfIdeal.Run
public import proofs.«01_k».proof.Proof.Gen.ReferenceMfIdeal.Read
public import proofs.«01_k».proof.Proof.Gen.KernelDx
public import proofs.«01_k».proof.Proof.Gen.KernelDxIdeal
public import proofs.«01_k».proof.Proof.Gen.ReferenceDxIdeal
public import proofs.«01_k».proof.Proof.Gen.KernelDx.Frame
public import proofs.«01_k».proof.Proof.Gen.KernelDxIdeal.Frame
public import proofs.«01_k».proof.Proof.Gen.KernelDxIdeal.Value
public import proofs.«01_k».proof.Proof.Gen.ReferenceDxIdeal.Run
public import proofs.«01_k».proof.Proof.Gen.ReferenceDxIdeal.Read
public import proofs.«01_k».proof.Proof.Dx.Claims
public import proofs.«01_k».proof.Proof.Mf.Frames
public import proofs.«01_k».proof.Proof.Mf.Claims
public import proofs.«01_k».proof.Proof.Gen.KernelDd
public import proofs.«01_k».proof.Proof.Gen.KernelDdIdeal
public import proofs.«01_k».proof.Proof.Gen.ReferenceDdIdeal
public import proofs.«01_k».proof.Proof.Gen.KernelDd.Frame
public import proofs.«01_k».proof.Proof.Gen.KernelDdIdeal.Frame
public import proofs.«01_k».proof.Proof.Gen.KernelDdIdeal.Value
public import proofs.«01_k».proof.Proof.Gen.ReferenceDdIdeal.Run
public import proofs.«01_k».proof.Proof.Gen.ReferenceDdIdeal.Read
public import proofs.«01_k».proof.Proof.Gen.KernelDg
public import proofs.«01_k».proof.Proof.Gen.KernelDgIdeal
public import proofs.«01_k».proof.Proof.Gen.ReferenceDgIdeal
public import proofs.«01_k».proof.Proof.Gen.KernelDg.Frame
public import proofs.«01_k».proof.Proof.Gen.KernelDgIdeal.Frame
public import proofs.«01_k».proof.Proof.Gen.KernelDgIdeal.Value
public import proofs.«01_k».proof.Proof.Gen.ReferenceDgIdeal.Run
public import proofs.«01_k».proof.Proof.Gen.ReferenceDgIdeal.Read
public import proofs.«01_k».proof.Proof.Gen.KernelAd
public import proofs.«01_k».proof.Proof.Gen.KernelAdIdeal
public import proofs.«01_k».proof.Proof.Gen.ReferenceAdIdeal
public import proofs.«01_k».proof.Proof.Gen.KernelAd.Frame
public import proofs.«01_k».proof.Proof.Gen.KernelAdIdeal.Frame
public import proofs.«01_k».proof.Proof.Gen.KernelAdIdeal.Value
public import proofs.«01_k».proof.Proof.Gen.ReferenceAdIdeal.Run
public import proofs.«01_k».proof.Proof.Gen.ReferenceAdIdeal.Read
public import proofs.«01_k».proof.Proof.Dw.Down
public import proofs.«01_k».proof.Proof.Dw.GateUp
public import proofs.«01_k».proof.Proof.Ad.Claims
public import Idealize.ShloMosaic.Adequacy
public import Idealize.ShloMosaic.Init

@[expose] public section

noncomputable section

namespace Cert.Proof

open Idealize.ShloMosaic Idealize.SL.Sem

theorem claim : Cert.Claim := ⟨Cert.KernelFf.Gen.facts, Cert.KernelFfIdeal.Gen.facts, Cert.ReferenceFfIdeal.Gen.facts,
  Cert.KernelMx.Gen.facts, Cert.KernelMxIdeal.Gen.facts, Cert.ReferenceMxIdeal.Gen.facts,
  Cert.KernelLs.Gen.facts, Cert.KernelLsIdeal.Gen.facts, Cert.ReferenceLsIdeal.Gen.facts,
  Cert.KernelWo.Gen.facts, Cert.KernelWoIdeal.Gen.facts, Cert.ReferenceWoIdeal.Gen.facts,
  Cert.KernelDn.Gen.facts, Cert.KernelDnIdeal.Gen.facts, Cert.ReferenceDnIdeal.Gen.facts,
  Cert.KernelMf.Gen.facts, Cert.KernelMfIdeal.Gen.facts, Cert.ReferenceMfIdeal.Gen.facts,
  Cert.KernelDx.Gen.facts, Cert.KernelDxIdeal.Gen.facts, Cert.ReferenceDxIdeal.Gen.facts,
  Cert.KernelDd.Gen.facts, Cert.KernelDdIdeal.Gen.facts, Cert.ReferenceDdIdeal.Gen.facts,
  Cert.KernelDg.Gen.facts, Cert.KernelDgIdeal.Gen.facts, Cert.ReferenceDgIdeal.Gen.facts,
  Cert.KernelAd.Gen.facts, Cert.KernelAdIdeal.Gen.facts, Cert.ReferenceAdIdeal.Gen.facts,
  Cert.Pre_finite_ff.Gen.facts, Cert.Pre_finite_mix.Gen.facts, Cert.Pre_finite_loss.Gen.facts, Cert.Pre_finite_wo.Gen.facts, Cert.Pre_finite_dn.Gen.facts,
  Cert.Pre_finite_mf.Gen.facts,
  fun m ρ _ => Cert.KernelFf.Gen.frame m ρ, fun m ρ _ => Cert.KernelFfIdeal.Gen.frame m ρ,
  fun m ρ _ => Cert.KernelFfIdeal.Gen.frame m ρ, Cert.Ff.frame_reference, fun m ρ _ => Cert.Ff.frame_reference m ρ trivial,
  Cert.Mx.frame_bits, fun m ρ _ => Cert.Mx.frame_any m ρ, fun m ρ _ => Cert.Mx.frame_any m ρ,
  Cert.Mx.frame_reference, fun m ρ _ => Cert.Mx.frame_reference m ρ trivial,
  fun m ρ _ => Cert.KernelLs.Gen.frame m ρ, fun m ρ _ => Cert.KernelLsIdeal.Gen.frame m ρ,
  fun m ρ _ => Cert.KernelLsIdeal.Gen.frame m ρ, Cert.Ls.frame_reference, fun m ρ _ => Cert.Ls.frame_reference m ρ trivial,
  fun m ρ _ => Cert.KernelWo.Gen.frame m ρ, fun m ρ _ => Cert.KernelWoIdeal.Gen.frame m ρ,
  fun m ρ _ => Cert.KernelWoIdeal.Gen.frame m ρ, Cert.Ln.frame_wo, fun m ρ _ => Cert.Ln.frame_wo m ρ trivial,
  fun m ρ _ => Cert.KernelDn.Gen.frame m ρ, fun m ρ _ => Cert.KernelDnIdeal.Gen.frame m ρ,
  fun m ρ _ => Cert.KernelDnIdeal.Gen.frame m ρ, Cert.Ln.frame_dn, fun m ρ _ => Cert.Ln.frame_dn m ρ trivial,
  fun m ρ _ => Cert.KernelMf.Gen.frame m ρ, fun m ρ _ => Cert.KernelMfIdeal.Gen.frame m ρ,
  fun m ρ _ => Cert.KernelMfIdeal.Gen.frame m ρ, Cert.Mf.frame_reference, fun m ρ _ => Cert.Mf.frame_reference m ρ trivial,
  fun m ρ _ => Cert.KernelDx.Gen.frame m ρ, fun m ρ _ => Cert.KernelDxIdeal.Gen.frame m ρ, Cert.Dx.frame_reference,
  fun m ρ _ => Cert.KernelDd.Gen.frame m ρ, fun m ρ _ => Cert.KernelDdIdeal.Gen.frame m ρ, Cert.Dw.Down.frame_reference,
  fun m ρ _ => Cert.KernelDg.Gen.frame m ρ, fun m ρ _ => Cert.KernelDgIdeal.Gen.frame m ρ, Cert.Dw.GateUp.frame_reference,
  fun m ρ _ => Cert.KernelAd.Gen.frame m ρ, fun m ρ _ => Cert.KernelAdIdeal.Gen.frame m ρ, Cert.Ad.frame_reference,
  trivial, Cert.Ff.value, Cert.Mx.preserves, Cert.Mx.value, trivial, Cert.Ls.value, trivial, Cert.Wo.value, trivial, Cert.Dn.value,
  Cert.Mf.preserves, Cert.Mf.value, trivial, Cert.Dx.value,
  trivial, Cert.Dw.Down.value, trivial, Cert.Dw.GateUp.value, trivial, Cert.Ad.value⟩

end Cert.Proof

end
